-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v12)) (v1 : (c : Dev Cert.Kernel4Ideal.nD) → Buf (Elt Ideal) ((c.tc : Thread Cert.Kernel4Ideal.nD Cert.Kernel4Ideal.τ).loc Cert.Kernel4Ideal.main_v13)) (v2 : (c : Dev Cert.Kernel4Ideal.nD) → Buf (Elt Ideal) ((c.tc : Thread Cert.Kernel4Ideal.nD Cert.Kernel4Ideal.τ).loc Cert.Kernel4Ideal.main_v14)) (v3 : (c : Dev Cert.Kernel4Ideal.nD) → Buf (Elt Ideal) ((c.tc : Thread Cert.Kernel4Ideal.nD Cert.Kernel4Ideal.τ).loc Cert.Kernel4Ideal.main_v15)) (v4 : (c : Dev Cert.Kernel4Ideal.nD) → Buf (Elt Ideal) ((c.tc : Thread Cert.Kernel4Ideal.nD Cert.Kernel4Ideal.τ).loc Cert.Kernel4Ideal.main_v9)) (v5 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_v13) = v1 c
          ∧ r.2.mem ((c.tc : Thread Cert.Kernel4Ideal.nD Cert.Kernel4Ideal.τ).loc Cert.Kernel4Ideal.main_v14) = v2 c
          ∧ r.2.mem ((c.tc : Thread Cert.Kernel4Ideal.nD Cert.Kernel4Ideal.τ).loc Cert.Kernel4Ideal.main_v15) = v3 c
          ∧ r.2.mem ((c.tc : Thread Cert.Kernel4Ideal.nD Cert.Kernel4Ideal.τ).loc Cert.Kernel4Ideal.main_v9) = v4 c
          ∧ r.2.mem ((c.tc : Thread Cert.Kernel4Ideal.nD Cert.Kernel4Ideal.τ).loc Cert.Kernel4Ideal.main_v11) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_v51) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)) (v1 : (c : Dev Cert.Kernel5Ideal.nD) → Buf (Elt Ideal) ((c.tc : Thread Cert.Kernel5Ideal.nD Cert.Kernel5Ideal.τ).loc Cert.Kernel5Ideal.main_v6)) (v2 : (c : Dev Cert.Kernel5Ideal.nD) → Buf (Elt Ideal) ((c.tc : Thread Cert.Kernel5Ideal.nD Cert.Kernel5Ideal.τ).loc Cert.Kernel5Ideal.main_v9)) (v3 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_v9) = v2 c
          ∧ r.2.mem ((c.tc : Thread Cert.Kernel5Ideal.nD Cert.Kernel5Ideal.τ).loc Cert.Kernel5Ideal.main_v8) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v19) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)) (v1 : (c : Dev Cert.Kernel6Ideal.nD) → Buf (Elt Ideal) ((c.tc : Thread Cert.Kernel6Ideal.nD Cert.Kernel6Ideal.τ).loc Cert.Kernel6Ideal.main_v6)) (v2 : (c : Dev Cert.Kernel6Ideal.nD) → Buf (Elt Ideal) ((c.tc : Thread Cert.Kernel6Ideal.nD Cert.Kernel6Ideal.τ).loc Cert.Kernel6Ideal.main_v7)) (v3 : (c : Dev Cert.Kernel6Ideal.nD) → Buf (Elt Ideal) ((c.tc : Thread Cert.Kernel6Ideal.nD Cert.Kernel6Ideal.τ).loc Cert.Kernel6Ideal.main_v8)) (v4 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_v6) = v1 c
          ∧ r.2.mem ((c.tc : Thread Cert.Kernel6Ideal.nD Cert.Kernel6Ideal.τ).loc Cert.Kernel6Ideal.main_v7) = v2 c
          ∧ r.2.mem ((c.tc : Thread Cert.Kernel6Ideal.nD Cert.Kernel6Ideal.τ).loc Cert.Kernel6Ideal.main_v8) = v3 c
          ∧ r.2.mem ((c.tc : Thread Cert.Kernel6Ideal.nD Cert.Kernel6Ideal.τ).loc Cert.Kernel6Ideal.main_v10) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_v18) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v9)) (v1 : (c : Dev Cert.Kernel7Ideal.nD) → Buf (Elt Ideal) ((c.tc : Thread Cert.Kernel7Ideal.nD Cert.Kernel7Ideal.τ).loc Cert.Kernel7Ideal.main_v6)) (v2 : (c : Dev Cert.Kernel7Ideal.nD) → Buf (Elt Ideal) ((c.tc : Thread Cert.Kernel7Ideal.nD Cert.Kernel7Ideal.τ).loc Cert.Kernel7Ideal.main_v10)) (v3 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_v10) = v2 c
          ∧ r.2.mem ((c.tc : Thread Cert.Kernel7Ideal.nD Cert.Kernel7Ideal.τ).loc Cert.Kernel7Ideal.main_v8) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v16) = v2 c
          ∧ r.2.mem ((c.tc : Thread Cert.Reference7Ideal.nD Cert.Reference7Ideal.τ).loc Cert.Reference7Ideal.main_v18) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v10)) (v1 : (c : Dev Cert.Kernel8Ideal.nD) → Buf (Elt Ideal) ((c.tc : Thread Cert.Kernel8Ideal.nD Cert.Kernel8Ideal.τ).loc Cert.Kernel8Ideal.main_v11)) (v2 : (c : Dev Cert.Kernel8Ideal.nD) → Buf (Elt Ideal) ((c.tc : Thread Cert.Kernel8Ideal.nD Cert.Kernel8Ideal.τ).loc Cert.Kernel8Ideal.main_v12)) (v3 : (c : Dev Cert.Kernel8Ideal.nD) → Buf (Elt Ideal) ((c.tc : Thread Cert.Kernel8Ideal.nD Cert.Kernel8Ideal.τ).loc Cert.Kernel8Ideal.main_v13)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_v11) = v1 c
          ∧ r.2.mem ((c.tc : Thread Cert.Kernel8Ideal.nD Cert.Kernel8Ideal.τ).loc Cert.Kernel8Ideal.main_v12) = v2 c
          ∧ r.2.mem ((c.tc : Thread Cert.Kernel8Ideal.nD Cert.Kernel8Ideal.τ).loc Cert.Kernel8Ideal.main_v13) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v48) = v2 c
          ∧ r.2.mem ((c.tc : Thread Cert.Reference8Ideal.nD Cert.Reference8Ideal.τ).loc Cert.Reference8Ideal.main_v51) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v16)) (v1 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16) = v0 c
          ∧ r.2.mem ((c.tc : Thread Cert.Kernel9Ideal.nD Cert.Kernel9Ideal.τ).loc Cert.Kernel9Ideal.main_v15) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v61) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v16)) (v1 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16) = v0 c
          ∧ r.2.mem ((c.tc : Thread Cert.Kernel10Ideal.nD Cert.Kernel10Ideal.τ).loc Cert.Kernel10Ideal.main_v15) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v49) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v12)) (v1 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12) = v0 c
          ∧ r.2.mem ((c.tc : Thread Cert.Kernel11Ideal.nD Cert.Kernel11Ideal.τ).loc Cert.Kernel11Ideal.main_v13) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v62) = v0 c
          ∧ r.2.mem ((c.tc : Thread Cert.Reference11Ideal.nD Cert.Reference11Ideal.τ).loc Cert.Reference11Ideal.main_v42_6) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v16)) (v1 : (c : Dev Cert.Kernel12Ideal.nD) → Buf (Elt Ideal) ((c.tc : Thread Cert.Kernel12Ideal.nD Cert.Kernel12Ideal.τ).loc Cert.Kernel12Ideal.main_v15)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v16) = v0 c
          ∧ r.2.mem ((c.tc : Thread Cert.Kernel12Ideal.nD Cert.Kernel12Ideal.τ).loc Cert.Kernel12Ideal.main_v15) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v48) = v0 c
          ∧ r.2.mem ((c.tc : Thread Cert.Reference12Ideal.nD Cert.Reference12Ideal.τ).loc Cert.Reference12Ideal.main_v39) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8x2048x512 : Shape := ⟨3, ![8, 2048, 512]⟩
abbrev S8x2048x1024 : Shape := ⟨3, ![8, 2048, 1024]⟩
abbrev S8x2048x16 : Shape := ⟨3, ![8, 2048, 16]⟩
abbrev S16x512 : Shape := ⟨2, ![16, 512]⟩
abbrev S512 : Shape := ⟨1, ![512]⟩
abbrev S256 : Shape := ⟨1, ![256]⟩
abbrev S_ : Shape := ⟨0, ![]⟩
abbrev S8x2048x128 : Shape := ⟨3, ![8, 2048, 128]⟩
abbrev S128x512 : Shape := ⟨2, ![128, 512]⟩
abbrev S8x4x256x128 : Shape := ⟨4, ![8, 4, 256, 128]⟩
abbrev S1x512 : Shape := ⟨2, ![1, 512]⟩
abbrev S1x256 : Shape := ⟨2, ![1, 256]⟩
abbrev S1x512x512 : Shape := ⟨3, ![1, 512, 512]⟩
abbrev S1x512x1024 : Shape := ⟨3, ![1, 512, 1024]⟩
abbrev S1x512x128 : Shape := ⟨3, ![1, 512, 128]⟩
abbrev S1x4x256x128 : Shape := ⟨4, ![1, 4, 256, 128]⟩
abbrev S4x256x128 : Shape := ⟨3, ![4, 256, 128]⟩
abbrev S64x64 : Shape := ⟨2, ![64, 64]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩
abbrev S64x512 : Shape := ⟨2, ![64, 512]⟩
abbrev S1x64x512 : Shape := ⟨3, ![1, 64, 512]⟩
abbrev S1x64x256 : Shape := ⟨3, ![1, 64, 256]⟩
abbrev S64x256 : Shape := ⟨2, ![64, 256]⟩
abbrev S1x128 : Shape := ⟨2, ![1, 128]⟩
abbrev S64 : Shape := ⟨1, ![64]⟩
abbrev S64x1 : Shape := ⟨2, ![64, 1]⟩

abbrev nBuf : Space → Nat
  | .hbm => 21
  | .vmem => 20
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S8x2048x1024, .f32⟩
  | .hbm, ⟨4, _⟩ => ⟨S8x2048x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S_, .i32⟩
  | .hbm, ⟨9, _⟩ => ⟨S_, .f32⟩
  | .hbm, ⟨10, _⟩ => ⟨S8x2048x128, .f32⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S128x512, .bf16⟩
  | .hbm, ⟨15, _⟩ => ⟨S_, .f32⟩
  | .hbm, ⟨16, _⟩ => ⟨S8x4x256x128, .f32⟩
  | .hbm, ⟨17, _⟩ => ⟨S1x512, .f32⟩
  | .hbm, ⟨18, _⟩ => ⟨S1x256, .f32⟩
  | .hbm, ⟨19, _⟩ => ⟨S8x2048x1024, .bf16⟩
  | .hbm, ⟨20, _⟩ => ⟨S8x4x256x128, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x128, .f32⟩
  | .local _ .vmem, ⟨9, _⟩ => ⟨S1x512x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S1x4x256x128, .f32⟩
  | .local _ .vmem, ⟨14, _⟩ => ⟨S1x4x256x128, .f32⟩
  | .local _ .vmem, ⟨15, _⟩ => ⟨S1x512x1024, .bf16⟩
  | .local _ .vmem, ⟨16, _⟩ => ⟨S1x512x1024, .bf16⟩
  | .local _ .vmem, ⟨17, _⟩ => ⟨S1x4x256x128, .f32⟩
  | .local _ .vmem, ⟨18, _⟩ => ⟨S1x4x256x128, .f32⟩
  | .local _ .vmem, ⟨19, _⟩ => ⟨S4x256x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v2266 : BitVec 1 := Scalar.cmpi .eq arg1 c3_i32
  let v2267 : BitVec 32 := Scalar.extui v2266
  let c0_i32_1029 : BitVec 32 := 0#32
  let v2268 : BitVec 1 := Scalar.cmpi .ne v2267 c0_i32_1029
  v2268

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8x2048x512 : Shape := ⟨3, ![8, 2048, 512]⟩
abbrev S8x2048x1024 : Shape := ⟨3, ![8, 2048, 1024]⟩
abbrev S8x2048x16 : Shape := ⟨3, ![8, 2048, 16]⟩
abbrev S16x512 : Shape := ⟨2, ![16, 512]⟩
abbrev S512 : Shape := ⟨1, ![512]⟩
abbrev S256 : Shape := ⟨1, ![256]⟩
abbrev S1x1x512 : Shape := ⟨3, ![1, 1, 512]⟩
abbrev S_ : Shape := ⟨0, ![]⟩
abbrev S8x4x128x256 : Shape := ⟨4, ![8, 4, 128, 256]⟩
abbrev S8x2048x4x128 : Shape := ⟨4, ![8, 2048, 4, 128]⟩
abbrev S8x4x2048x128 : Shape := ⟨4, ![8, 4, 2048, 128]⟩
abbrev S8x2048x4x256 : Shape := ⟨4, ![8, 2048, 4, 256]⟩
abbrev S8x4x2048x256 : Shape := ⟨4, ![8, 4, 2048, 256]⟩
abbrev S64x64 : Shape := ⟨2, ![64, 64]⟩
abbrev S8x4x32x64x128 : Shape := ⟨5, ![8, 4, 32, 64, 128]⟩
abbrev S32x8x4x64x128 : Shape := ⟨5, ![32, 8, 4, 64, 128]⟩
abbrev S8x4x32x64x256 : Shape := ⟨5, ![8, 4, 32, 64, 256]⟩
abbrev S32x8x4x64x256 : Shape := ⟨5, ![32, 8, 4, 64, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S8x4x1x128 : Shape := ⟨4, ![8, 4, 1, 128]⟩
abbrev S8x4x64x64 : Shape := ⟨4, ![8, 4, 64, 64]⟩
abbrev S8x4x128 : Shape := ⟨3, ![8, 4, 128]⟩
abbrev S8x4x128x1 : Shape := ⟨4, ![8, 4, 128, 1]⟩
abbrev S8x4x2048 : Shape := ⟨3, ![8, 4, 2048]⟩
abbrev S8x4x2048x1 : Shape := ⟨4, ![8, 4, 2048, 1]⟩
abbrev S1x1x1x256 : Shape := ⟨4, ![1, 1, 1, 256]⟩
abbrev S8x4x256x128 : Shape := ⟨4, ![8, 4, 256, 128]⟩

abbrev nBuf : Space → Nat
  | .hbm => 169
  | .vmem => 0
  | .smem => 0
  | _ => 0

abbrev hbmTy0_0 (i : Nat) : BufTy := match i % 128 with
  | 0 => ⟨S8x2048x512, .f32⟩
  | 1 => ⟨S8x2048x512, .f32⟩
  | 2 => ⟨S8x2048x1024, .f32⟩
  | 3 => ⟨S8x2048x1024, .f32⟩
  | 4 => ⟨S8x2048x16, .f32⟩
  | 5 => ⟨S16x512, .f32⟩
  | 6 => ⟨S512, .f32⟩
  | 7 => ⟨S256, .f32⟩
  | 8 => ⟨S8x2048x512, .f32⟩
  | 9 => ⟨S1x1x512, .f32⟩
  | 10 => ⟨S8x2048x512, .f32⟩
  | 11 => ⟨S8x2048x512, .f32⟩
  | 12 => ⟨S8x2048x512, .f32⟩
  | 13 => ⟨S_, .f32⟩
  | 14 => ⟨S8x2048x512, .f32⟩
  | 15 => ⟨S8x2048x512, .f32⟩
  | 16 => ⟨S8x2048x512, .f32⟩
  | 17 => ⟨S8x2048x512, .f32⟩
  | 18 => ⟨S8x2048x512, .i1⟩
  | 19 => ⟨S8x2048x512, .f32⟩
  | 20 => ⟨S8x2048x512, .f32⟩
  | 21 => ⟨S8x2048x512, .f32⟩
  | 22 => ⟨S8x2048x512, .f32⟩
  | 23 => ⟨S8x2048x512, .f32⟩
  | 24 => ⟨S8x2048x512, .f32⟩
  | 25 => ⟨S8x2048x512, .f32⟩
  | 26 => ⟨S8x2048x512, .f32⟩
  | 27 => ⟨S8x2048x512, .f32⟩
  | 28 => ⟨S_, .f32⟩
  | 29 => ⟨S8x2048x512, .f32⟩
  | 30 => ⟨S8x2048x512, .f32⟩
  | 31 => ⟨S_, .f32⟩
  | 32 => ⟨S8x4x128x256, .f32⟩
  | 33 => ⟨S8x2048x4x128, .f32⟩
  | 34 => ⟨S8x4x2048x128, .f32⟩
  | 35 => ⟨S_, .f32⟩
  | 36 => ⟨S8x4x2048x128, .f32⟩
  | 37 => ⟨S8x4x2048x128, .f32⟩
  | 38 => ⟨S8x2048x4x128, .f32⟩
  | 39 => ⟨S8x4x2048x128, .f32⟩
  | 40 => ⟨S8x2048x4x256, .f32⟩
  | 41 => ⟨S8x4x2048x256, .f32⟩
  | 42 => ⟨S8x2048x4x128, .f32⟩
  | 43 => ⟨S8x4x2048x128, .f32⟩
  | 44 => ⟨S_, .i1⟩
  | 45 => ⟨S64x64, .i1⟩
  | 46 => ⟨S64x64, .i32⟩
  | 47 => ⟨S_, .i32⟩
  | 48 => ⟨S64x64, .i32⟩
  | 49 => ⟨S64x64, .i32⟩
  | 50 => ⟨S64x64, .i32⟩
  | 51 => ⟨S64x64, .i1⟩
  | 52 => ⟨S_, .i1⟩
  | 53 => ⟨S64x64, .i1⟩
  | 54 => ⟨S64x64, .i1⟩
  | 55 => ⟨S8x4x32x64x128, .f32⟩
  | 56 => ⟨S32x8x4x64x128, .f32⟩
  | 57 => ⟨S8x4x32x64x128, .f32⟩
  | 58 => ⟨S32x8x4x64x128, .f32⟩
  | 59 => ⟨S8x4x32x64x256, .f32⟩
  | 60 => ⟨S32x8x4x64x256, .f32⟩
  | 61 => ⟨S8x4x32x64x128, .f32⟩
  | 62 => ⟨S32x8x4x64x128, .f32⟩
  | 63 => ⟨S_, .f32⟩
  | 64 => ⟨S32x8x4x64x256, .f32⟩
  | 65 => ⟨S_, .i32⟩
  | 66 => ⟨S32x8x4x64x128, .f32⟩
  | 67 => ⟨S32x8x4x64x128, .f32⟩
  | 68 => ⟨S32x8x4x64x256, .f32⟩
  | 69 => ⟨S32x8x4x64x128, .f32⟩
  | 70 => ⟨S64x64, .i1⟩
  | 71 => ⟨S_, .i32⟩
  | 72 => ⟨S8x4x128x256, .f32⟩
  | 73 => ⟨S32x8x4x64x256, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1x8x4x64x128, .f32⟩
  | 81 => ⟨S8x4x64x128, .f32⟩
  | 82 => ⟨S_, .i32⟩
  | 83 => ⟨S_, .i32⟩
  | 84 => ⟨S_, .i32⟩
  | 85 => ⟨S_, .i32⟩
  | 86 => ⟨S1x8x4x64x128, .f32⟩
  | 87 => ⟨S8x4x64x128, .f32⟩
  | 88 => ⟨S_, .i32⟩
  | 89 => ⟨S_, .i32⟩
  | 90 => ⟨S_, .i32⟩
  | 91 => ⟨S_, .i32⟩
  | 92 => ⟨S1x8x4x64x256, .f32⟩
  | 93 => ⟨S8x4x64x256, .f32⟩
  | 94 => ⟨S_, .i32⟩
  | 95 => ⟨S_, .i32⟩
  | 96 => ⟨S_, .i32⟩
  | 97 => ⟨S_, .i32⟩
  | 98 => ⟨S1x8x4x64x128, .f32⟩
  | 99 => ⟨S8x4x64x128, .f32⟩
  | 100 => ⟨S_, .f32⟩
  | 101 => ⟨S_, .f32⟩
  | 102 => ⟨S8x4x64x128, .f32⟩
  | 103 => ⟨S8x4x1x128, .f32⟩
  | 104 => ⟨S8x4x64x128, .f32⟩
  | 105 => ⟨S8x4x64x128, .f32⟩
  | 106 => ⟨S8x4x64x128, .f32⟩
  | 107 => ⟨S8x4x64x128, .f32⟩
  | 108 => ⟨S8x4x64x128, .f32⟩
  | 109 => ⟨S8x4x64x128, .f32⟩
  | 110 => ⟨S8x4x64x128, .f32⟩
  | 111 => ⟨S8x4x64x128, .f32⟩
  | 112 => ⟨S8x4x64x128, .f32⟩
  | 113 => ⟨S8x4x64x64, .f32⟩
  | 114 => ⟨S_, .f32⟩
  | 115 => ⟨S_, .f32⟩
  | 116 => ⟨S8x4x64x64, .i1⟩
  | 117 => ⟨S8x4x64x64, .f32⟩
  | 118 => ⟨S8x4x64x64, .f32⟩
  | 119 => ⟨S8x4x64x256, .f32⟩
  | 120 => ⟨S8x4x64x256, .f32⟩
  | 121 => ⟨S8x4x64x256, .f32⟩
  | 122 => ⟨S8x4x1x128, .f32⟩
  | 123 => ⟨S8x4x128, .f32⟩
  | 124 => ⟨S8x4x128x1, .f32⟩
  | 125 => ⟨S8x4x128x256, .f32⟩
  | 126 => ⟨S8x4x128x256, .f32⟩
  | 127 => ⟨S8x4x128x256, .f32⟩
  | _ => ⟨S8x2048x512, .f32⟩

abbrev hbmTy0_1 (i : Nat) : BufTy := match i % 128 with
  | 0 => ⟨S8x4x128x256, .f32⟩
  | 1 => ⟨S1x8x4x64x256, .f32⟩
  | 2 => ⟨S_, .i32⟩
  | 3 => ⟨S_, .i32⟩
  | 4 => ⟨S_, .i32⟩
  | 5 => ⟨S_, .i32⟩
  | 6 => ⟨S32x8x4x64x256, .f32⟩
  | 7 => ⟨S_, .i32⟩
  | 8 => ⟨S_, .i32⟩
  | 9 => ⟨S8x4x32x64x256, .f32⟩
  | 10 => ⟨S8x4x2048x256, .f32⟩
  | 11 => ⟨S8x4x2048x256, .f32⟩
  | 12 => ⟨S_, .f32⟩
  | 13 => ⟨S8x4x2048, .f32⟩
  | 14 => ⟨S8x4x2048x1, .f32⟩
  | 15 => ⟨S_, .f32⟩
  | 16 => ⟨S8x4x2048x1, .f32⟩
  | 17 => ⟨S8x4x2048x1, .f32⟩
  | 18 => ⟨S_, .f32⟩
  | 19 => ⟨S8x4x2048x1, .f32⟩
  | 20 => ⟨S8x4x2048x1, .f32⟩
  | 21 => ⟨S8x4x2048x1, .f32⟩
  | 22 => ⟨S8x4x2048x256, .f32⟩
  | 23 => ⟨S8x4x2048x256, .f32⟩
  | 24 => ⟨S1x1x1x256, .f32⟩
  | 25 => ⟨S8x4x2048x256, .f32⟩
  | 26 => ⟨S8x4x2048x256, .f32⟩
  | 27 => ⟨S8x2048x4x256, .f32⟩
  | 28 => ⟨S8x2048x1024, .f32⟩
  | 29 => ⟨S8x2048x1024, .f32⟩
  | 30 => ⟨S8x2048x1024, .f32⟩
  | 31 => ⟨S_, .f32⟩
  | 32 => ⟨S8x2048x1024, .f32⟩
  | 33 => ⟨S8x2048x1024, .f32⟩
  | 34 => ⟨S_, .f32⟩
  | 35 => ⟨S8x2048x1024, .f32⟩
  | 36 => ⟨S8x2048x1024, .f32⟩
  | 37 => ⟨S8x2048x1024, .f32⟩
  | 38 => ⟨S8x2048x1024, .f32⟩
  | 39 => ⟨S8x2048x1024, .bf16⟩
  | 40 => ⟨S8x4x256x128, .f32⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_0 : Ref sig .tc := ⟨.hbm, 52, rfl⟩
abbrev main_call0_v5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_c_4 : Ref sig .tc := ⟨.hbm, 65, rfl⟩
abbrev main_v43_0 : Ref sig .tc := ⟨.hbm, 66, rfl⟩
abbrev main_v43_1 : Ref sig .tc := ⟨.hbm, 67, rfl⟩
abbrev main_v43_2 : Ref sig .tc := ⟨.hbm, 68, rfl⟩
abbrev main_v43_3 : Ref sig .tc := ⟨.hbm, 69, rfl⟩
abbrev main_v43_4 : Ref sig .tc := ⟨.hbm, 70, rfl⟩
abbrev main_v43_5 : Ref sig .tc := ⟨.hbm, 71, rfl⟩
abbrev main_v43_6 : Ref sig .tc := ⟨.hbm, 72, rfl⟩
abbrev main_v43_7 : Ref sig .tc := ⟨.hbm, 73, rfl⟩
abbrev main_while0c_c_15 : Ref sig .tc := ⟨.hbm, 74, rfl⟩
abbrev main_while0c_v65 : Ref sig .tc := ⟨.hbm, 75, rfl⟩
abbrev main_while0b_call1_c : Ref sig .tc := ⟨.hbm, 76, rfl⟩
abbrev main_while0b_call1_c_0 : Ref sig .tc := ⟨.hbm, 77, rfl⟩
abbrev main_while0b_call1_c_1 : Ref sig .tc := ⟨.hbm, 78, rfl⟩
abbrev main_while0b_call1_c_2 : Ref sig .tc := ⟨.hbm, 79, rfl⟩
abbrev main_while0b_call1_v0 : Ref sig .tc := ⟨.hbm, 80, rfl⟩
abbrev main_while0b_v65 : Ref sig .tc := ⟨.hbm, 81, rfl⟩
abbrev main_while0b_call2_c : Ref sig .tc := ⟨.hbm, 82, rfl⟩
abbrev main_while0b_call2_c_0 : Ref sig .tc := ⟨.hbm, 83, rfl⟩
abbrev main_while0b_call2_c_1 : Ref sig .tc := ⟨.hbm, 84, rfl⟩
abbrev main_while0b_call2_c_2 : Ref sig .tc := ⟨.hbm, 85, rfl⟩
abbrev main_while0b_call2_v0 : Ref sig .tc := ⟨.hbm, 86, rfl⟩
abbrev main_while0b_v66 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_c_2 : Ref sig .tc := ⟨.hbm, 91, rfl⟩
abbrev main_while0b_call3_v0 : Ref sig .tc := ⟨.hbm, 92, rfl⟩
abbrev main_while0b_v67 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_c_2 : Ref sig .tc := ⟨.hbm, 97, rfl⟩
abbrev main_while0b_call4_v0 : Ref sig .tc := ⟨.hbm, 98, rfl⟩
abbrev main_while0b_v68 : Ref sig .tc := ⟨.hbm, 99, rfl⟩
abbrev main_while0b_call5_call0_cst : Ref sig .tc := ⟨.hbm, 100, rfl⟩
abbrev main_while0b_call5_call0_v0 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_cst_15 : Ref sig .tc := ⟨.hbm, 114, rfl⟩
abbrev main_while0b_call6_v0 : Ref sig .tc := ⟨.hbm, 115, rfl⟩
abbrev main_while0b_call6_v1 : Ref sig .tc := ⟨.hbm, 116, rfl⟩
abbrev main_while0b_call6_v2 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_call7_v0 : Ref sig .tc := ⟨.hbm, 129, rfl⟩
abbrev main_while0b_call7_c : Ref sig .tc := ⟨.hbm, 130, rfl⟩
abbrev main_while0b_call7_c_0 : Ref sig .tc := ⟨.hbm, 131, rfl⟩
abbrev main_while0b_call7_c_1 : Ref sig .tc := ⟨.hbm, 132, rfl⟩
abbrev main_while0b_call7_c_2 : Ref sig .tc := ⟨.hbm, 133, rfl⟩
abbrev main_while0b_v92 : Ref sig .tc := ⟨.hbm, 134, rfl⟩
abbrev main_while0b_c_16 : Ref sig .tc := ⟨.hbm, 135, rfl⟩
abbrev main_while0b_v93 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_cst_5 : Ref sig .tc := ⟨.hbm, 140, rfl⟩
abbrev main_v47 : Ref sig .tc := ⟨.hbm, 141, rfl⟩
abbrev main_v48 : Ref sig .tc := ⟨.hbm, 142, rfl⟩
abbrev main_cst_6 : Ref sig .tc := ⟨.hbm, 143, rfl⟩
abbrev main_v49 : Ref sig .tc := ⟨.hbm, 144, rfl⟩
abbrev main_v50 : Ref sig .tc := ⟨.hbm, 145, rfl⟩
abbrev main_cst_7 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_call8_v0 : Ref sig .tc := ⟨.hbm, 157, rfl⟩
abbrev main_call8_v1 : Ref sig .tc := ⟨.hbm, 158, rfl⟩
abbrev main_call8_cst : Ref sig .tc := ⟨.hbm, 159, rfl⟩
abbrev main_call8_v2 : Ref sig .tc := ⟨.hbm, 160, rfl⟩
abbrev main_call8_v3 : Ref sig .tc := ⟨.hbm, 161, rfl⟩
abbrev main_call8_cst_0 : Ref sig .tc := ⟨.hbm, 162, rfl⟩
abbrev main_call8_v4 : Ref sig .tc := ⟨.hbm, 163, rfl⟩
abbrev main_call8_v5 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2048x1024 : Shape := ⟨3, ![8, 2048, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S1x1024 : Shape := ⟨2, ![1, 1024]⟩
abbrev S1x5632 : Shape := ⟨2, ![1, 5632]⟩
abbrev S8x8x5632 : Shape := ⟨3, ![8, 8, 5632]⟩
abbrev S512x1024 : Shape := ⟨2, ![512, 1024]⟩
abbrev S1x8x5632 : Shape := ⟨3, ![1, 8, 5632]⟩
abbrev S8x5632 : Shape := ⟨2, ![8, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S8x2816 : Shape := ⟨2, ![8, 2816]⟩
abbrev S504x2816 : Shape := ⟨2, ![504, 2816]⟩
abbrev S1x8x2816 : Shape := ⟨3, ![1, 8, 2816]⟩
abbrev S1x2816 : Shape := ⟨2, ![1, 2816]⟩
abbrev S8x2x5632 : Shape := ⟨3, ![8, 2, 5632]⟩

abbrev nBuf : Space → Nat
  | .hbm => 21
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S16384x1024, .f32⟩
  | .hbm, ⟨10, _⟩ => ⟨S16384x1024, .bf16⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x5632, .f32⟩
  | .hbm, ⟨16, _⟩ => ⟨S1x1024, .f32⟩
  | .hbm, ⟨17, _⟩ => ⟨S16384x1024, .f32⟩
  | .hbm, ⟨18, _⟩ => ⟨S8x8x5632, .f32⟩
  | .hbm, ⟨19, _⟩ => ⟨S8x2x5632, .f32⟩
  | .hbm, ⟨20, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x8x5632, .f32⟩
  | .local _ .vmem, ⟨14, _⟩ => ⟨S1x8x5632, .f32⟩
  | .local _ .vmem, ⟨15, _⟩ => ⟨S8x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x2048x1024 : Shape := ⟨3, ![8, 2048, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2x5632 : Shape := ⟨3, ![8, 2, 5632]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2x5632, .f32⟩
  | .hbm, ⟨30, _⟩ => ⟨S8x2048x5632, .f32⟩
  | .hbm, ⟨31, _⟩ => ⟨S8x2050x5632, .f32⟩
  | .hbm, ⟨32, _⟩ => ⟨S8x2048x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S8x2048x5632, .f32⟩
  | .hbm, ⟨37, _⟩ => ⟨S8x2048x5632, .f32⟩
  | .hbm, ⟨38, _⟩ => ⟨S_, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S8x2048x5632, .f32⟩
  | .hbm, ⟨53, _⟩ => ⟨S8x2048x5632, .f32⟩
  | .hbm, ⟨54, _⟩ => ⟨S8x2048x5632, .f32⟩
  | .hbm, ⟨55, _⟩ => ⟨S8x2x5632, .f32⟩
  | .hbm, ⟨56, _⟩ => ⟨S1x1x5632, .f32⟩
  | .hbm, ⟨57, _⟩ => ⟨S8x2048x5632, .f32⟩
  | .hbm, ⟨58, _⟩ => ⟨S8x2048x5632, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S_, .f32⟩
  | .hbm, ⟨64, _⟩ => ⟨S8x2048x2816, .f32⟩
  | .hbm, ⟨65, _⟩ => ⟨S8x2048x2816, .f32⟩
  | .hbm, ⟨66, _⟩ => ⟨S_, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_cst_5 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S1x1024 : Shape := ⟨2, ![1, 1024]⟩
abbrev S1x5632 : Shape := ⟨2, ![1, 5632]⟩
abbrev S8x8x5632 : Shape := ⟨3, ![8, 8, 5632]⟩
abbrev S512x1024 : Shape := ⟨2, ![512, 1024]⟩
abbrev S1x8x5632 : Shape := ⟨3, ![1, 8, 5632]⟩
abbrev S8x5632 : Shape := ⟨2, ![8, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S8x2816 : Shape := ⟨2, ![8, 2816]⟩
abbrev S504x2816 : Shape := ⟨2, ![504, 2816]⟩
abbrev S1x8x2816 : Shape := ⟨3, ![1, 8, 2816]⟩
abbrev S1x2816 : Shape := ⟨2, ![1, 2816]⟩
abbrev S8x2x5632 : Shape := ⟨3, ![8, 2, 5632]⟩

abbrev nBuf : Space → Nat
  | .hbm => 20
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S16384x1024, .f32⟩
  | .hbm, ⟨9, _⟩ => ⟨S16384x1024, .bf16⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x5632, .f32⟩
  | .hbm, ⟨15, _⟩ => ⟨S1x1024, .f32⟩
  | .hbm, ⟨16, _⟩ => ⟨S16384x1024, .f32⟩
  | .hbm, ⟨17, _⟩ => ⟨S8x8x5632, .f32⟩
  | .hbm, ⟨18, _⟩ => ⟨S8x2x5632, .f32⟩
  | .hbm, ⟨19, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x8x5632, .f32⟩
  | .local _ .vmem, ⟨14, _⟩ => ⟨S1x8x5632, .f32⟩
  | .local _ .vmem, ⟨15, _⟩ => ⟨S8x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x2048x1024 : Shape := ⟨3, ![8, 2048, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2x5632 : Shape := ⟨3, ![8, 2, 5632]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2x5632, .f32⟩
  | .hbm, ⟨29, _⟩ => ⟨S8x2048x5632, .f32⟩
  | .hbm, ⟨30, _⟩ => ⟨S8x2050x5632, .f32⟩
  | .hbm, ⟨31, _⟩ => ⟨S8x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S8x2048x5632, .f32⟩
  | .hbm, ⟨36, _⟩ => ⟨S8x2048x5632, .f32⟩
  | .hbm, ⟨37, _⟩ => ⟨S_, .f32⟩
  | .hbm, ⟨38, _⟩ => ⟨S8x2048x5632, .f32⟩
  | .hbm, ⟨39, _⟩ => ⟨S8x2048x5632, .f32⟩
  | .hbm, ⟨40, _⟩ => ⟨S8x2048x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S8x2048x5632, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S8x2048x5632, .f32⟩
  | .hbm, ⟨52, _⟩ => ⟨S8x2048x5632, .f32⟩
  | .hbm, ⟨53, _⟩ => ⟨S8x2048x5632, .f32⟩
  | .hbm, ⟨54, _⟩ => ⟨S8x2x5632, .f32⟩
  | .hbm, ⟨55, _⟩ => ⟨S1x1x5632, .f32⟩
  | .hbm, ⟨56, _⟩ => ⟨S8x2048x5632, .f32⟩
  | .hbm, ⟨57, _⟩ => ⟨S8x2048x5632, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S_, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x1024, .f32⟩
  | .hbm, ⟨71, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x3072 : Shape := ⟨2, ![1024, 3072]⟩
abbrev S16384x1024 : Shape := ⟨2, ![16384, 1024]⟩
abbrev S1x1024 : Shape := ⟨2, ![1, 1024]⟩
abbrev S2x8x1024x2048 : Shape := ⟨4, ![2, 8, 1024, 2048]⟩
abbrev S512x1024 : Shape := ⟨2, ![512, 1024]⟩
abbrev S2x1x1024x512 : Shape := ⟨4, ![2, 1, 1024, 512]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1x1x1024x512 : Shape := ⟨4, ![1, 1, 1024, 512]⟩
abbrev S2x8x16x64x2048 : Shape := ⟨5, ![2, 8, 16, 64, 2048]⟩
abbrev S2x8x2048x16x64 : Shape := ⟨5, ![2, 8, 2048, 16, 64]⟩

abbrev nBuf : Space → Nat
  | .hbm => 28
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S8x2048x1024, .f32⟩
  | .hbm, ⟨4, _⟩ => ⟨S1024, .f32⟩
  | .hbm, ⟨5, _⟩ => ⟨S1024x3072, .f32⟩
  | .hbm, ⟨6, _⟩ => ⟨S16384x1024, .f32⟩
  | .hbm, ⟨7, _⟩ => ⟨S1024x3072, .bf16⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S2x8x1024x2048, .f32⟩
  | .hbm, ⟨12, _⟩ => ⟨S2x8x1024x2048, .f32⟩
  | .hbm, ⟨13, _⟩ => ⟨S16384x1024, .f32⟩
  | .hbm, ⟨14, _⟩ => ⟨S1024x3072, .bf16⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S2x8x1024x2048, .f32⟩
  | .hbm, ⟨19, _⟩ => ⟨S2x8x1024x2048, .f32⟩
  | .hbm, ⟨20, _⟩ => ⟨S2x8x16x64x2048, .f32⟩
  | .hbm, ⟨21, _⟩ => ⟨S2x8x2048x16x64, .f32⟩
  | .hbm, ⟨22, _⟩ => ⟨S2x8x16x64x2048, .f32⟩
  | .hbm, ⟨23, _⟩ => ⟨S2x8x2048x16x64, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2x1x1024x512, .f32⟩
  | .local _ .vmem, ⟨9, _⟩ => ⟨S2x1x1024x512, .f32⟩
  | .local _ .vmem, ⟨10, _⟩ => ⟨S2x1x1024x512, .f32⟩
  | .local _ .vmem, ⟨11, _⟩ => ⟨S2x1x1024x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x3072, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1x1024x512, .f32⟩
  | .local _ .vmem, ⟨22, _⟩ => ⟨S1x1x1024x512, .f32⟩
  | .local _ .vmem, ⟨23, _⟩ => ⟨S1x1x1024x512, .f32⟩
  | .local _ .vmem, ⟨24, _⟩ => ⟨S1x1x1024x512, .f32⟩
  | .local _ .vmem, ⟨25, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc1_transform_8 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference4Ideal.lean ====
abbrev S8x2048x1024 : Shape := ⟨3, ![8, 2048, 1024]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x16x64 : Shape := ⟨4, ![8, 2048, 16, 64]⟩
abbrev S8x16x2048x64 : Shape := ⟨4, ![8, 16, 2048, 64]⟩
abbrev S1x8x2048x16x64 : Shape := ⟨5, ![1, 8, 2048, 16, 64]⟩
abbrev S2x8x2048x16x64 : Shape := ⟨5, ![2, 8, 2048, 16, 64]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S8x2048x1024, .f32⟩
  | .hbm, ⟨4, _⟩ => ⟨S1024, .f32⟩
  | .hbm, ⟨5, _⟩ => ⟨S1024x3072, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x3072, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x16x64, .f32⟩
  | .hbm, ⟨27, _⟩ => ⟨S8x16x2048x64, .f32⟩
  | .hbm, ⟨28, _⟩ => ⟨S8x2048x16x64, .f32⟩
  | .hbm, ⟨29, _⟩ => ⟨S8x2048x16x64, .f32⟩
  | .hbm, ⟨30, _⟩ => ⟨S8x16x2048x64, .f32⟩
  | .hbm, ⟨31, _⟩ => ⟨S8x2048x16x64, .f32⟩
  | .hbm, ⟨32, _⟩ => ⟨S8x2048x1024, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S8x2048x3072, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x16x64, .f32⟩
  | .hbm, ⟨53, _⟩ => ⟨S8x16x2048x64, .f32⟩
  | .hbm, ⟨54, _⟩ => ⟨S8x2048x16x64, .f32⟩
  | .hbm, ⟨55, _⟩ => ⟨S8x2048x16x64, .f32⟩
  | .hbm, ⟨56, _⟩ => ⟨S8x16x2048x64, .f32⟩
  | .hbm, ⟨57, _⟩ => ⟨S8x2048x16x64, .f32⟩
  | .hbm, ⟨58, _⟩ => ⟨S1x8x2048x16x64, .f32⟩
  | .hbm, ⟨59, _⟩ => ⟨S1x8x2048x16x64, .f32⟩
  | .hbm, ⟨60, _⟩ => ⟨S2x8x2048x16x64, .f32⟩
  | .hbm, ⟨61, _⟩ => ⟨S1x8x2048x16x64, .f32⟩
  | .hbm, ⟨62, _⟩ => ⟨S1x8x2048x16x64, .f32⟩
  | .hbm, ⟨63, _⟩ => ⟨S2x8x2048x16x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x4112 : Shape := ⟨2, ![1024, 4112]⟩
abbrev S16384x1024 : Shape := ⟨2, ![16384, 1024]⟩
abbrev S_ : Shape := ⟨0, ![]⟩
abbrev S1024x4224 : Shape := ⟨2, ![1024, 4224]⟩
abbrev S1x1024 : Shape := ⟨2, ![1, 1024]⟩
abbrev S16384x3072 : Shape := ⟨2, ![16384, 3072]⟩
abbrev S16384x128 : Shape := ⟨2, ![16384, 128]⟩
abbrev S512x1024 : Shape := ⟨2, ![512, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024x3072 : Shape := ⟨2, ![1024, 3072]⟩
abbrev S1024x1024 : Shape := ⟨2, ![1024, 1024]⟩
abbrev S1024x128 : Shape := ⟨2, ![1024, 128]⟩
abbrev S8x2048x3072 : Shape := ⟨3, ![8, 2048, 3072]⟩
abbrev S8x2048x128 : Shape := ⟨3, ![8, 2048, 128]⟩
abbrev S8x3x3072 : Shape := ⟨3, ![8, 3, 3072]⟩
abbrev S8x2048x16 : Shape := ⟨3, ![8, 2048, 16]⟩

abbrev nBuf : Space → Nat
  | .hbm => 17
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4112, .f32⟩
  | .hbm, ⟨3, _⟩ => ⟨S16384x1024, .f32⟩
  | .hbm, ⟨4, _⟩ => ⟨S_, .i32⟩
  | .hbm, ⟨5, _⟩ => ⟨S_, .f32⟩
  | .hbm, ⟨6, _⟩ => ⟨S1024x4224, .f32⟩
  | .hbm, ⟨7, _⟩ => ⟨S1024x4224, .bf16⟩
  | .hbm, ⟨8, _⟩ => ⟨S1x1024, .f32⟩
  | .hbm, ⟨9, _⟩ => ⟨S16384x3072, .f32⟩
  | .hbm, ⟨10, _⟩ => ⟨S16384x1024, .f32⟩
  | .hbm, ⟨11, _⟩ => ⟨S16384x128, .f32⟩
  | .hbm, ⟨12, _⟩ => ⟨S8x2048x3072, .f32⟩
  | .hbm, ⟨13, _⟩ => ⟨S8x2048x1024, .f32⟩
  | .hbm, ⟨14, _⟩ => ⟨S8x2048x128, .f32⟩
  | .hbm, ⟨15, _⟩ => ⟨S8x3x3072, .f32⟩
  | .hbm, ⟨16, _⟩ => ⟨S8x2048x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x3072, .f32⟩
  | .local _ .vmem, ⟨5, _⟩ => ⟨S512x3072, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8x2048x1024 : Shape := ⟨3, ![8, 2048, 1024]⟩
abbrev S1024 : Shape := ⟨1, ![1024]⟩
abbrev S1024x4112 : Shape := ⟨2, ![1024, 4112]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4112 : Shape := ⟨3, ![8, 2048, 4112]⟩
abbrev S8x2048x3072 : Shape := ⟨3, ![8, 2048, 3072]⟩
abbrev S8x2048x16 : Shape := ⟨3, ![8, 2048, 16]⟩
abbrev S8x3x3072 : Shape := ⟨3, ![8, 3, 3072]⟩
abbrev S8x2051x3072 : Shape := ⟨3, ![8, 2051, 3072]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4112, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x4112, .f32⟩
  | .hbm, ⟨20, _⟩ => ⟨S8x2048x3072, .f32⟩
  | .hbm, ⟨21, _⟩ => ⟨S8x2048x1024, .f32⟩
  | .hbm, ⟨22, _⟩ => ⟨S8x2048x16, .f32⟩
  | .hbm, ⟨23, _⟩ => ⟨S_, .f32⟩
  | .hbm, ⟨24, _⟩ => ⟨S8x3x3072, .f32⟩
  | .hbm, ⟨25, _⟩ => ⟨S8x2051x3072, .f32⟩
  | .hbm, ⟨26, _⟩ => ⟨S8x3x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S8x2048x1024 : Shape := ⟨3, ![8, 2048, 1024]⟩
abbrev S1024 : Shape := ⟨1, ![1024]⟩
abbrev S1024x3088 : Shape := ⟨2, ![1024, 3088]⟩
abbrev S16384x1024 : Shape := ⟨2, ![16384, 1024]⟩
abbrev S_ : Shape := ⟨0, ![]⟩
abbrev S1024x3200 : Shape := ⟨2, ![1024, 3200]⟩
abbrev S1x1024 : Shape := ⟨2, ![1, 1024]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S1024x128 : Shape := ⟨2, ![1024, 128]⟩
abbrev S8x2048x512 : Shape := ⟨3, ![8, 2048, 512]⟩
abbrev S8x2048x128 : Shape := ⟨3, ![8, 2048, 128]⟩
abbrev S8x2048x16 : Shape := ⟨3, ![8, 2048, 16]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3088, .f32⟩
  | .hbm, ⟨3, _⟩ => ⟨S16384x1024, .f32⟩
  | .hbm, ⟨4, _⟩ => ⟨S_, .i32⟩
  | .hbm, ⟨5, _⟩ => ⟨S_, .f32⟩
  | .hbm, ⟨6, _⟩ => ⟨S1024x3200, .f32⟩
  | .hbm, ⟨7, _⟩ => ⟨S1024x3200, .bf16⟩
  | .hbm, ⟨8, _⟩ => ⟨S1x1024, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x128, .f32⟩
  | .hbm, ⟨14, _⟩ => ⟨S8x2048x512, .f32⟩
  | .hbm, ⟨15, _⟩ => ⟨S8x2048x512, .f32⟩
  | .hbm, ⟨16, _⟩ => ⟨S8x2048x1024, .f32⟩
  | .hbm, ⟨17, _⟩ => ⟨S8x2048x1024, .f32⟩
  | .hbm, ⟨18, _⟩ => ⟨S8x2048x128, .f32⟩
  | .hbm, ⟨19, _⟩ => ⟨S8x2048x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8x2048x1024 : Shape := ⟨3, ![8, 2048, 1024]⟩
abbrev S1024 : Shape := ⟨1, ![1024]⟩
abbrev S1024x3088 : Shape := ⟨2, ![1024, 3088]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3088 : Shape := ⟨3, ![8, 2048, 3088]⟩
abbrev S8x2048x512 : Shape := ⟨3, ![8, 2048, 512]⟩
abbrev S8x2048x16 : Shape := ⟨3, ![8, 2048, 16]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3088, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3088, .f32⟩
  | .hbm, ⟨20, _⟩ => ⟨S8x2048x512, .f32⟩
  | .hbm, ⟨21, _⟩ => ⟨S8x2048x512, .f32⟩
  | .hbm, ⟨22, _⟩ => ⟨S8x2048x1024, .f32⟩
  | .hbm, ⟨23, _⟩ => ⟨S8x2048x1024, .f32⟩
  | .hbm, ⟨24, _⟩ => ⟨S8x2048x16, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel7.lean ====
abbrev S32x8x1024 : Shape := ⟨3, ![32, 8, 1024]⟩
abbrev S1024 : Shape := ⟨1, ![1024]⟩
abbrev S1024x4112 : Shape := ⟨2, ![1024, 4112]⟩
abbrev S32x3x3072 : Shape := ⟨3, ![32, 3, 3072]⟩
abbrev S256x1024 : Shape := ⟨2, ![256, 1024]⟩
abbrev S_ : Shape := ⟨0, ![]⟩
abbrev S1024x4224 : Shape := ⟨2, ![1024, 4224]⟩
abbrev S1x1024 : Shape := ⟨2, ![1, 1024]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S1024x3072 : Shape := ⟨2, ![1024, 3072]⟩
abbrev S1024x1024 : Shape := ⟨2, ![1024, 1024]⟩
abbrev S1024x128 : Shape := ⟨2, ![1024, 128]⟩
abbrev S32x8x3072 : Shape := ⟨3, ![32, 8, 3072]⟩
abbrev S32x8x128 : Shape := ⟨3, ![32, 8, 128]⟩
abbrev S32x11x3072 : Shape := ⟨3, ![32, 11, 3072]⟩
abbrev S32x8x16 : Shape := ⟨3, ![32, 8, 16]⟩

abbrev nBuf : Space → Nat
  | .hbm => 19
  | .vmem => 6
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x4112, .f32⟩
  | .hbm, ⟨3, _⟩ => ⟨S32x3x3072, .f32⟩
  | .hbm, ⟨4, _⟩ => ⟨S256x1024, .f32⟩
  | .hbm, ⟨5, _⟩ => ⟨S_, .i32⟩
  | .hbm, ⟨6, _⟩ => ⟨S_, .f32⟩
  | .hbm, ⟨7, _⟩ => ⟨S1024x4224, .f32⟩
  | .hbm, ⟨8, _⟩ => ⟨S1024x4224, .bf16⟩
  | .hbm, ⟨9, _⟩ => ⟨S1x1024, .f32⟩
  | .hbm, ⟨10, _⟩ => ⟨S256x3072, .f32⟩
  | .hbm, ⟨11, _⟩ => ⟨S256x1024, .f32⟩
  | .hbm, ⟨12, _⟩ => ⟨S256x128, .f32⟩
  | .hbm, ⟨13, _⟩ => ⟨S32x8x3072, .f32⟩
  | .hbm, ⟨14, _⟩ => ⟨S32x8x1024, .f32⟩
  | .hbm, ⟨15, _⟩ => ⟨S32x8x128, .f32⟩
  | .hbm, ⟨16, _⟩ => ⟨S32x3x3072, .f32⟩
  | .hbm, ⟨17, _⟩ => ⟨S32x11x3072, .f32⟩
  | .hbm, ⟨18, _⟩ => ⟨S32x8x16, .f32⟩
  | .local _ .vmem, ⟨0, _⟩ => ⟨S256x1024, .f32⟩
  | .local _ .vmem, ⟨1, _⟩ => ⟨S1x1024, .f32⟩
  | .local _ .vmem, ⟨2, _⟩ => ⟨S1024x4224, .bf16⟩
  | .local _ .vmem, ⟨3, _⟩ => ⟨S256x3072, .f32⟩
  | .local _ .vmem, ⟨4, _⟩ => ⟨S256x1024, .f32⟩
  | .local _ .vmem, ⟨5, _⟩ => ⟨S256x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference7Ideal.lean ====
abbrev S32x8x1024 : Shape := ⟨3, ![32, 8, 1024]⟩
abbrev S1024 : Shape := ⟨1, ![1024]⟩
abbrev S1024x4112 : Shape := ⟨2, ![1024, 4112]⟩
abbrev S32x3x3072 : Shape := ⟨3, ![32, 3, 3072]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x4112 : Shape := ⟨3, ![32, 8, 4112]⟩
abbrev S32x8x3072 : Shape := ⟨3, ![32, 8, 3072]⟩
abbrev S32x8x16 : Shape := ⟨3, ![32, 8, 16]⟩
abbrev S32x11x3072 : Shape := ⟨3, ![32, 11, 3072]⟩

abbrev nBuf : Space → Nat
  | .hbm => 26
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x4112, .f32⟩
  | .hbm, ⟨3, _⟩ => ⟨S32x3x3072, .f32⟩
  | .hbm, ⟨4, _⟩ => ⟨S32x8x1024, .f32⟩
  | .hbm, ⟨5, _⟩ => ⟨S_, .f32⟩
  | .hbm, ⟨6, _⟩ => ⟨S32x8, .f32⟩
  | .hbm, ⟨7, _⟩ => ⟨S32x8x1, .f32⟩
  | .hbm, ⟨8, _⟩ => ⟨S_, .f32⟩
  | .hbm, ⟨9, _⟩ => ⟨S32x8x1, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S32x8x1, .f32⟩
  | .hbm, ⟨15, _⟩ => ⟨S32x8x1024, .f32⟩
  | .hbm, ⟨16, _⟩ => ⟨S32x8x1024, .f32⟩
  | .hbm, ⟨17, _⟩ => ⟨S1x1x1024, .f32⟩
  | .hbm, ⟨18, _⟩ => ⟨S32x8x1024, .f32⟩
  | .hbm, ⟨19, _⟩ => ⟨S32x8x1024, .f32⟩
  | .hbm, ⟨20, _⟩ => ⟨S32x8x4112, .f32⟩
  | .hbm, ⟨21, _⟩ => ⟨S32x8x3072, .f32⟩
  | .hbm, ⟨22, _⟩ => ⟨S32x8x1024, .f32⟩
  | .hbm, ⟨23, _⟩ => ⟨S32x8x16, .f32⟩
  | .hbm, ⟨24, _⟩ => ⟨S32x11x3072, .f32⟩
  | .hbm, ⟨25, _⟩ => ⟨S32x3x3072, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel8.lean ====
abbrev S32x8x1024 : Shape := ⟨3, ![32, 8, 1024]⟩
abbrev S1024 : Shape := ⟨1, ![1024]⟩
abbrev S1024x3072 : Shape := ⟨2, ![1024, 3072]⟩
abbrev S_ : Shape := ⟨0, ![]⟩
abbrev S2x256x1024 : Shape := ⟨3, ![2, 256, 1024]⟩
abbrev S256x1024 : Shape := ⟨2, ![256, 1024]⟩
abbrev S1x1024 : Shape := ⟨2, ![1, 1024]⟩
abbrev S1x256x1024 : Shape := ⟨3, ![1, 256, 1024]⟩
abbrev S256 : Shape := ⟨1, ![256]⟩
abbrev S256x1 : Shape := ⟨2, ![256, 1]⟩
abbrev S1024x1024 : Shape := ⟨2, ![1024, 1024]⟩
abbrev S2x32x8x16x64 : Shape := ⟨5, ![2, 32, 8, 16, 64]⟩

abbrev nBuf : Space → Nat
  | .hbm => 26
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3072, .f32⟩
  | .hbm, ⟨3, _⟩ => ⟨S32x8x1024, .f32⟩
  | .hbm, ⟨4, _⟩ => ⟨S1024, .f32⟩
  | .hbm, ⟨5, _⟩ => ⟨S1024x3072, .f32⟩
  | .hbm, ⟨6, _⟩ => ⟨S_, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S256x1024, .f32⟩
  | .hbm, ⟨11, _⟩ => ⟨S1024x3072, .bf16⟩
  | .hbm, ⟨12, _⟩ => ⟨S1x1024, .f32⟩
  | .hbm, ⟨13, _⟩ => ⟨S256x1024, .f32⟩
  | .hbm, ⟨14, _⟩ => ⟨S2x256x1024, .f32⟩
  | .hbm, ⟨15, _⟩ => ⟨S2x256x1024, .f32⟩
  | .hbm, ⟨16, _⟩ => ⟨S256x1024, .f32⟩
  | .hbm, ⟨17, _⟩ => ⟨S1024x3072, .bf16⟩
  | .hbm, ⟨18, _⟩ => ⟨S1x1024, .f32⟩
  | .hbm, ⟨19, _⟩ => ⟨S256x1024, .f32⟩
  | .hbm, ⟨20, _⟩ => ⟨S2x256x1024, .f32⟩
  | .hbm, ⟨21, _⟩ => ⟨S2x256x1024, .f32⟩
  | .hbm, ⟨22, _⟩ => ⟨S32x8x1024, .f32⟩
  | .hbm, ⟨23, _⟩ => ⟨S32x8x1024, .f32⟩
  | .hbm, ⟨24, _⟩ => ⟨S2x32x8x16x64, .f32⟩
  | .hbm, ⟨25, _⟩ => ⟨S2x32x8x16x64, .f32⟩
  | .local _ .vmem, ⟨0, _⟩ => ⟨S256x1024, .f32⟩
  | .local _ .vmem, ⟨1, _⟩ => ⟨S1x1024, .f32⟩
  | .local _ .vmem, ⟨2, _⟩ => ⟨S1024x3072, .bf16⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S1x1024, .f32⟩
  | .local _ .vmem, ⟨8, _⟩ => ⟨S1024x3072, .bf16⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_7 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]
-- ==== Reference8Ideal.lean ====
abbrev S32x8x1024 : Shape := ⟨3, ![32, 8, 1024]⟩
abbrev S1024 : Shape := ⟨1, ![1024]⟩
abbrev S1024x3072 : Shape := ⟨2, ![1024, 3072]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3072 : Shape := ⟨3, ![32, 8, 3072]⟩
abbrev S32x8x16x64 : Shape := ⟨4, ![32, 8, 16, 64]⟩
abbrev S32x16x8x64 : Shape := ⟨4, ![32, 16, 8, 64]⟩
abbrev S1x32x8x16x64 : Shape := ⟨5, ![1, 32, 8, 16, 64]⟩
abbrev S2x32x8x16x64 : Shape := ⟨5, ![2, 32, 8, 16, 64]⟩

abbrev nBuf : Space → Nat
  | .hbm => 64
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3072, .f32⟩
  | .hbm, ⟨3, _⟩ => ⟨S32x8x1024, .f32⟩
  | .hbm, ⟨4, _⟩ => ⟨S1024, .f32⟩
  | .hbm, ⟨5, _⟩ => ⟨S1024x3072, .f32⟩
  | .hbm, ⟨6, _⟩ => ⟨S32x8x1024, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S32x8x1024, .f32⟩
  | .hbm, ⟨21, _⟩ => ⟨S32x8x1024, .f32⟩
  | .hbm, ⟨22, _⟩ => ⟨S32x8x3072, .f32⟩
  | .hbm, ⟨23, _⟩ => ⟨S32x8x1024, .f32⟩
  | .hbm, ⟨24, _⟩ => ⟨S32x8x1024, .f32⟩
  | .hbm, ⟨25, _⟩ => ⟨S32x8x1024, .f32⟩
  | .hbm, ⟨26, _⟩ => ⟨S32x8x16x64, .f32⟩
  | .hbm, ⟨27, _⟩ => ⟨S32x16x8x64, .f32⟩
  | .hbm, ⟨28, _⟩ => ⟨S32x8x16x64, .f32⟩
  | .hbm, ⟨29, _⟩ => ⟨S32x8x16x64, .f32⟩
  | .hbm, ⟨30, _⟩ => ⟨S32x16x8x64, .f32⟩
  | .hbm, ⟨31, _⟩ => ⟨S32x8x16x64, .f32⟩
  | .hbm, ⟨32, _⟩ => ⟨S32x8x1024, .f32⟩
  | .hbm, ⟨33, _⟩ => ⟨S_, .f32⟩
  | .hbm, ⟨34, _⟩ => ⟨S32x8, .f32⟩
  | .hbm, ⟨35, _⟩ => ⟨S32x8x1, .f32⟩
  | .hbm, ⟨36, _⟩ => ⟨S_, .f32⟩
  | .hbm, ⟨37, _⟩ => ⟨S32x8x1, .f32⟩
  | .hbm, ⟨38, _⟩ => ⟨S32x8x1, .f32⟩
  | .hbm, ⟨39, _⟩ => ⟨S_, .f32⟩
  | .hbm, ⟨40, _⟩ => ⟨S32x8x1, .f32⟩
  | .hbm, ⟨41, _⟩ => ⟨S32x8x1, .f32⟩
  | .hbm, ⟨42, _⟩ => ⟨S32x8x1, .f32⟩
  | .hbm, ⟨43, _⟩ => ⟨S32x8x1024, .f32⟩
  | .hbm, ⟨44, _⟩ => ⟨S32x8x1024, .f32⟩
  | .hbm, ⟨45, _⟩ => ⟨S1x1x1024, .f32⟩
  | .hbm, ⟨46, _⟩ => ⟨S32x8x1024, .f32⟩
  | .hbm, ⟨47, _⟩ => ⟨S32x8x1024, .f32⟩
  | .hbm, ⟨48, _⟩ => ⟨S32x8x3072, .f32⟩
  | .hbm, ⟨49, _⟩ => ⟨S32x8x1024, .f32⟩
  | .hbm, ⟨50, _⟩ => ⟨S32x8x1024, .f32⟩
  | .hbm, ⟨51, _⟩ => ⟨S32x8x1024, .f32⟩
  | .hbm, ⟨52, _⟩ => ⟨S32x8x16x64, .f32⟩
  | .hbm, ⟨53, _⟩ => ⟨S32x16x8x64, .f32⟩
  | .hbm, ⟨54, _⟩ => ⟨S32x8x16x64, .f32⟩
  | .hbm, ⟨55, _⟩ => ⟨S32x8x16x64, .f32⟩
  | .hbm, ⟨56, _⟩ => ⟨S32x16x8x64, .f32⟩
  | .hbm, ⟨57, _⟩ => ⟨S32x8x16x64, .f32⟩
  | .hbm, ⟨58, _⟩ => ⟨S1x32x8x16x64, .f32⟩
  | .hbm, ⟨59, _⟩ => ⟨S1x32x8x16x64, .f32⟩
  | .hbm, ⟨60, _⟩ => ⟨S2x32x8x16x64, .f32⟩
  | .hbm, ⟨61, _⟩ => ⟨S1x32x8x16x64, .f32⟩
  | .hbm, ⟨62, _⟩ => ⟨S1x32x8x16x64, .f32⟩
  | .hbm, ⟨63, _⟩ => ⟨S2x32x8x16x64, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Kernel9.lean ====
abbrev S32x8x1024 : Shape := ⟨3, ![32, 8, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S256x1024 : Shape := ⟨2, ![256, 1024]⟩
abbrev S1x1024 : Shape := ⟨2, ![1, 1024]⟩
abbrev S1x5632 : Shape := ⟨2, ![1, 5632]⟩
abbrev S32x1x5632 : Shape := ⟨3, ![32, 1, 5632]⟩
abbrev S_ : Shape := ⟨0, ![]⟩
abbrev S32x8x5632 : Shape := ⟨3, ![32, 8, 5632]⟩
abbrev S256x5632 : Shape := ⟨2, ![256, 5632]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S1x2816 : Shape := ⟨2, ![1, 2816]⟩

abbrev nBuf : Space → Nat
  | .hbm => 32
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S32x2x5632, .f32⟩
  | .hbm, ⟨10, _⟩ => ⟨S256x1024, .f32⟩
  | .hbm, ⟨11, _⟩ => ⟨S256x1024, .f32⟩
  | .hbm, ⟨12, _⟩ => ⟨S1024x1024, .bf16⟩
  | .hbm, ⟨13, _⟩ => ⟨S1024x5632, .bf16⟩
  | .hbm, ⟨14, _⟩ => ⟨S2816x1024, .bf16⟩
  | .hbm, ⟨15, _⟩ => ⟨S1x1024, .f32⟩
  | .hbm, ⟨16, _⟩ => ⟨S1x5632, .f32⟩
  | .hbm, ⟨17, _⟩ => ⟨S1x1024, .f32⟩
  | .hbm, ⟨18, _⟩ => ⟨S32x1x5632, .f32⟩
  | .hbm, ⟨19, _⟩ => ⟨S_, .i32⟩
  | .hbm, ⟨20, _⟩ => ⟨S_, .f32⟩
  | .hbm, ⟨21, _⟩ => ⟨S32x8x5632, .f32⟩
  | .hbm, ⟨22, _⟩ => ⟨S256x5632, .f32⟩
  | .hbm, ⟨23, _⟩ => ⟨S_, .i32⟩
  | .hbm, ⟨24, _⟩ => ⟨S_, .f32⟩
  | .hbm, ⟨25, _⟩ => ⟨S32x8x5632, .f32⟩
  | .hbm, ⟨26, _⟩ => ⟨S256x5632, .f32⟩
  | .hbm, ⟨27, _⟩ => ⟨S256x1024, .f32⟩
  | .hbm, ⟨28, _⟩ => ⟨S256x5632, .f32⟩
  | .hbm, ⟨29, _⟩ => ⟨S32x8x5632, .f32⟩
  | .hbm, ⟨30, _⟩ => ⟨S32x2x5632, .f32⟩
  | .hbm, ⟨31, _⟩ => ⟨S32x8x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S256x5632, .f32⟩
  | .local _ .vmem, ⟨10, _⟩ => ⟨S256x5632, .f32⟩
  | .local _ .vmem, ⟨11, _⟩ => ⟨S256x1024, .f32⟩
  | .local _ .vmem, ⟨12, _⟩ => ⟨S256x5632, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference9Ideal.lean ====
abbrev S32x8x1024 : Shape := ⟨3, ![32, 8, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x5632 : Shape := ⟨3, ![32, 8, 5632]⟩
abbrev S32x10x5632 : Shape := ⟨3, ![32, 10, 5632]⟩
abbrev S1x5632 : Shape := ⟨2, ![1, 5632]⟩
abbrev S1x1x5632 : Shape := ⟨3, ![1, 1, 5632]⟩
abbrev S32x8x2816 : Shape := ⟨3, ![32, 8, 2816]⟩

abbrev nBuf : Space → Nat
  | .hbm => 87
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S32x2x5632, .f32⟩
  | .hbm, ⟨10, _⟩ => ⟨S32x8x1024, .f32⟩
  | .hbm, ⟨11, _⟩ => ⟨S32x8x1024, .f32⟩
  | .hbm, ⟨12, _⟩ => ⟨S32x8x1024, .f32⟩
  | .hbm, ⟨13, _⟩ => ⟨S_, .f32⟩
  | .hbm, ⟨14, _⟩ => ⟨S32x8, .f32⟩
  | .hbm, ⟨15, _⟩ => ⟨S32x8x1, .f32⟩
  | .hbm, ⟨16, _⟩ => ⟨S_, .f32⟩
  | .hbm, ⟨17, _⟩ => ⟨S32x8x1, .f32⟩
  | .hbm, ⟨18, _⟩ => ⟨S32x8x1, .f32⟩
  | .hbm, ⟨19, _⟩ => ⟨S_, .f32⟩
  | .hbm, ⟨20, _⟩ => ⟨S32x8x1, .f32⟩
  | .hbm, ⟨21, _⟩ => ⟨S32x8x1, .f32⟩
  | .hbm, ⟨22, _⟩ => ⟨S32x8x1, .f32⟩
  | .hbm, ⟨23, _⟩ => ⟨S32x8x1024, .f32⟩
  | .hbm, ⟨24, _⟩ => ⟨S32x8x1024, .f32⟩
  | .hbm, ⟨25, _⟩ => ⟨S1x1x1024, .f32⟩
  | .hbm, ⟨26, _⟩ => ⟨S32x8x1024, .f32⟩
  | .hbm, ⟨27, _⟩ => ⟨S32x8x1024, .f32⟩
  | .hbm, ⟨28, _⟩ => ⟨S32x8x5632, .f32⟩
  | .hbm, ⟨29, _⟩ => ⟨S32x10x5632, .f32⟩
  | .hbm, ⟨30, _⟩ => ⟨S32x8x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S32x8x5632, .f32⟩
  | .hbm, ⟨35, _⟩ => ⟨S32x8x5632, .f32⟩
  | .hbm, ⟨36, _⟩ => ⟨S_, .f32⟩
  | .hbm, ⟨37, _⟩ => ⟨S32x8x5632, .f32⟩
  | .hbm, ⟨38, _⟩ => ⟨S32x8x5632, .f32⟩
  | .hbm, ⟨39, _⟩ => ⟨S32x8x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S32x8x5632, .f32⟩
  | .hbm, ⟨44, _⟩ => ⟨S32x8x5632, .f32⟩
  | .hbm, ⟨45, _⟩ => ⟨S32x8x5632, .f32⟩
  | .hbm, ⟨46, _⟩ => ⟨S32x8x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S32x8x5632, .f32⟩
  | .hbm, ⟨51, _⟩ => ⟨S32x8x5632, .f32⟩
  | .hbm, ⟨52, _⟩ => ⟨S32x8x5632, .f32⟩
  | .hbm, ⟨53, _⟩ => ⟨S32x2x5632, .f32⟩
  | .hbm, ⟨54, _⟩ => ⟨S1x1x5632, .f32⟩
  | .hbm, ⟨55, _⟩ => ⟨S32x8x5632, .f32⟩
  | .hbm, ⟨56, _⟩ => ⟨S32x8x5632, .f32⟩
  | .hbm, ⟨57, _⟩ => ⟨S32x8x2816, .f32⟩
  | .hbm, ⟨58, _⟩ => ⟨S32x8x2816, .f32⟩
  | .hbm, ⟨59, _⟩ => ⟨S32x8x2816, .f32⟩
  | .hbm, ⟨60, _⟩ => ⟨S32x8x2816, .f32⟩
  | .hbm, ⟨61, _⟩ => ⟨S_, .f32⟩
  | .hbm, ⟨62, _⟩ => ⟨S32x8x2816, .f32⟩
  | .hbm, ⟨63, _⟩ => ⟨S32x8x2816, .f32⟩
  | .hbm, ⟨64, _⟩ => ⟨S_, .f32⟩
  | .hbm, ⟨65, _⟩ => ⟨S32x8x2816, .f32⟩
  | .hbm, ⟨66, _⟩ => ⟨S32x8x2816, .f32⟩
  | .hbm, ⟨67, _⟩ => ⟨S32x8x2816, .f32⟩
  | .hbm, ⟨68, _⟩ => ⟨S32x8x2816, .f32⟩
  | .hbm, ⟨69, _⟩ => ⟨S32x8x1024, .f32⟩
  | .hbm, ⟨70, _⟩ => ⟨S32x8x1024, .f32⟩
  | .hbm, ⟨71, _⟩ => ⟨S32x8x1024, .f32⟩
  | .hbm, ⟨72, _⟩ => ⟨S_, .f32⟩
  | .hbm, ⟨73, _⟩ => ⟨S32x8, .f32⟩
  | .hbm, ⟨74, _⟩ => ⟨S32x8x1, .f32⟩
  | .hbm, ⟨75, _⟩ => ⟨S_, .f32⟩
  | .hbm, ⟨76, _⟩ => ⟨S32x8x1, .f32⟩
  | .hbm, ⟨77, _⟩ => ⟨S32x8x1, .f32⟩
  | .hbm, ⟨78, _⟩ => ⟨S_, .f32⟩
  | .hbm, ⟨79, _⟩ => ⟨S32x8x1, .f32⟩
  | .hbm, ⟨80, _⟩ => ⟨S32x8x1, .f32⟩
  | .hbm, ⟨81, _⟩ => ⟨S32x8x1, .f32⟩
  | .hbm, ⟨82, _⟩ => ⟨S32x8x1024, .f32⟩
  | .hbm, ⟨83, _⟩ => ⟨S32x8x1024, .f32⟩
  | .hbm, ⟨84, _⟩ => ⟨S1x1x1024, .f32⟩
  | .hbm, ⟨85, _⟩ => ⟨S32x8x1024, .f32⟩
  | .hbm, ⟨86, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_3 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Kernel10.lean ====
abbrev S32x8x1024 : Shape := ⟨3, ![32, 8, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S256x1024 : Shape := ⟨2, ![256, 1024]⟩
abbrev S1x1024 : Shape := ⟨2, ![1, 1024]⟩
abbrev S1x5632 : Shape := ⟨2, ![1, 5632]⟩
abbrev S32x1x5632 : Shape := ⟨3, ![32, 1, 5632]⟩
abbrev S_ : Shape := ⟨0, ![]⟩
abbrev S32x8x5632 : Shape := ⟨3, ![32, 8, 5632]⟩
abbrev S256x5632 : Shape := ⟨2, ![256, 5632]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S1x2816 : Shape := ⟨2, ![1, 2816]⟩

abbrev nBuf : Space → Nat
  | .hbm => 31
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S32x2x5632, .f32⟩
  | .hbm, ⟨9, _⟩ => ⟨S256x1024, .f32⟩
  | .hbm, ⟨10, _⟩ => ⟨S256x1024, .bf16⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x5632, .f32⟩
  | .hbm, ⟨16, _⟩ => ⟨S1x1024, .f32⟩
  | .hbm, ⟨17, _⟩ => ⟨S32x1x5632, .f32⟩
  | .hbm, ⟨18, _⟩ => ⟨S_, .i32⟩
  | .hbm, ⟨19, _⟩ => ⟨S_, .f32⟩
  | .hbm, ⟨20, _⟩ => ⟨S32x8x5632, .f32⟩
  | .hbm, ⟨21, _⟩ => ⟨S256x5632, .f32⟩
  | .hbm, ⟨22, _⟩ => ⟨S_, .i32⟩
  | .hbm, ⟨23, _⟩ => ⟨S_, .f32⟩
  | .hbm, ⟨24, _⟩ => ⟨S32x8x5632, .f32⟩
  | .hbm, ⟨25, _⟩ => ⟨S256x5632, .f32⟩
  | .hbm, ⟨26, _⟩ => ⟨S256x1024, .f32⟩
  | .hbm, ⟨27, _⟩ => ⟨S256x5632, .f32⟩
  | .hbm, ⟨28, _⟩ => ⟨S32x8x5632, .f32⟩
  | .hbm, ⟨29, _⟩ => ⟨S32x2x5632, .f32⟩
  | .hbm, ⟨30, _⟩ => ⟨S32x8x1024, .f32⟩
  | .local _ .vmem, ⟨0, _⟩ => ⟨S256x1024, .f32⟩
  | .local _ .vmem, ⟨1, _⟩ => ⟨S256x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S256x5632, .f32⟩
  | .local _ .vmem, ⟨10, _⟩ => ⟨S256x5632, .f32⟩
  | .local _ .vmem, ⟨11, _⟩ => ⟨S256x1024, .f32⟩
  | .local _ .vmem, ⟨12, _⟩ => ⟨S256x5632, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference10Ideal.lean ====
abbrev S32x8x1024 : Shape := ⟨3, ![32, 8, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x5632 : Shape := ⟨3, ![32, 8, 5632]⟩
abbrev S32x10x5632 : Shape := ⟨3, ![32, 10, 5632]⟩
abbrev S1x5632 : Shape := ⟨2, ![1, 5632]⟩
abbrev S1x1x5632 : Shape := ⟨3, ![1, 1, 5632]⟩
abbrev S32x8x2816 : Shape := ⟨3, ![32, 8, 2816]⟩

abbrev nBuf : Space → Nat
  | .hbm => 71
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S32x2x5632, .f32⟩
  | .hbm, ⟨9, _⟩ => ⟨S32x8x1024, .f32⟩
  | .hbm, ⟨10, _⟩ => ⟨S32x8x1024, .f32⟩
  | .hbm, ⟨11, _⟩ => ⟨S32x8x1024, .f32⟩
  | .hbm, ⟨12, _⟩ => ⟨S32x8x1024, .f32⟩
  | .hbm, ⟨13, _⟩ => ⟨S_, .f32⟩
  | .hbm, ⟨14, _⟩ => ⟨S32x8, .f32⟩
  | .hbm, ⟨15, _⟩ => ⟨S32x8x1, .f32⟩
  | .hbm, ⟨16, _⟩ => ⟨S_, .f32⟩
  | .hbm, ⟨17, _⟩ => ⟨S32x8x1, .f32⟩
  | .hbm, ⟨18, _⟩ => ⟨S32x8x1, .f32⟩
  | .hbm, ⟨19, _⟩ => ⟨S_, .f32⟩
  | .hbm, ⟨20, _⟩ => ⟨S32x8x1, .f32⟩
  | .hbm, ⟨21, _⟩ => ⟨S32x8x1, .f32⟩
  | .hbm, ⟨22, _⟩ => ⟨S32x8x1, .f32⟩
  | .hbm, ⟨23, _⟩ => ⟨S32x8x1024, .f32⟩
  | .hbm, ⟨24, _⟩ => ⟨S32x8x1024, .f32⟩
  | .hbm, ⟨25, _⟩ => ⟨S1x1x1024, .f32⟩
  | .hbm, ⟨26, _⟩ => ⟨S32x8x1024, .f32⟩
  | .hbm, ⟨27, _⟩ => ⟨S32x8x1024, .f32⟩
  | .hbm, ⟨28, _⟩ => ⟨S32x8x5632, .f32⟩
  | .hbm, ⟨29, _⟩ => ⟨S32x10x5632, .f32⟩
  | .hbm, ⟨30, _⟩ => ⟨S32x8x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S32x8x5632, .f32⟩
  | .hbm, ⟨35, _⟩ => ⟨S32x8x5632, .f32⟩
  | .hbm, ⟨36, _⟩ => ⟨S_, .f32⟩
  | .hbm, ⟨37, _⟩ => ⟨S32x8x5632, .f32⟩
  | .hbm, ⟨38, _⟩ => ⟨S32x8x5632, .f32⟩
  | .hbm, ⟨39, _⟩ => ⟨S32x8x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S32x8x5632, .f32⟩
  | .hbm, ⟨44, _⟩ => ⟨S32x8x5632, .f32⟩
  | .hbm, ⟨45, _⟩ => ⟨S32x8x5632, .f32⟩
  | .hbm, ⟨46, _⟩ => ⟨S32x8x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S32x8x5632, .f32⟩
  | .hbm, ⟨51, _⟩ => ⟨S32x8x5632, .f32⟩
  | .hbm, ⟨52, _⟩ => ⟨S32x8x5632, .f32⟩
  | .hbm, ⟨53, _⟩ => ⟨S32x2x5632, .f32⟩
  | .hbm, ⟨54, _⟩ => ⟨S1x1x5632, .f32⟩
  | .hbm, ⟨55, _⟩ => ⟨S32x8x5632, .f32⟩
  | .hbm, ⟨56, _⟩ => ⟨S32x8x5632, .f32⟩
  | .hbm, ⟨57, _⟩ => ⟨S32x8x2816, .f32⟩
  | .hbm, ⟨58, _⟩ => ⟨S32x8x2816, .f32⟩
  | .hbm, ⟨59, _⟩ => ⟨S32x8x2816, .f32⟩
  | .hbm, ⟨60, _⟩ => ⟨S32x8x2816, .f32⟩
  | .hbm, ⟨61, _⟩ => ⟨S_, .f32⟩
  | .hbm, ⟨62, _⟩ => ⟨S32x8x2816, .f32⟩
  | .hbm, ⟨63, _⟩ => ⟨S32x8x2816, .f32⟩
  | .hbm, ⟨64, _⟩ => ⟨S_, .f32⟩
  | .hbm, ⟨65, _⟩ => ⟨S32x8x2816, .f32⟩
  | .hbm, ⟨66, _⟩ => ⟨S32x8x2816, .f32⟩
  | .hbm, ⟨67, _⟩ => ⟨S32x8x2816, .f32⟩
  | .hbm, ⟨68, _⟩ => ⟨S32x8x2816, .f32⟩
  | .hbm, ⟨69, _⟩ => ⟨S32x8x1024, .f32⟩
  | .hbm, ⟨70, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel11.lean ====
abbrev S32x8x512 : Shape := ⟨3, ![32, 8, 512]⟩
abbrev S32x8x1024 : Shape := ⟨3, ![32, 8, 1024]⟩
abbrev S32x8x16 : Shape := ⟨3, ![32, 8, 16]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S_ : Shape := ⟨0, ![]⟩
abbrev S32x8x128 : Shape := ⟨3, ![32, 8, 128]⟩
abbrev S32x64x512 : Shape := ⟨3, ![32, 64, 512]⟩
abbrev S32x64x1024 : Shape := ⟨3, ![32, 64, 1024]⟩
abbrev S32x64x128 : Shape := ⟨3, ![32, 64, 128]⟩
abbrev S128x512 : Shape := ⟨2, ![128, 512]⟩
abbrev S32x4x256x128 : Shape := ⟨4, ![32, 4, 256, 128]⟩
abbrev S1x512 : Shape := ⟨2, ![1, 512]⟩
abbrev S1x256 : Shape := ⟨2, ![1, 256]⟩
abbrev S1x64x512 : Shape := ⟨3, ![1, 64, 512]⟩
abbrev S1x64x1024 : Shape := ⟨3, ![1, 64, 1024]⟩
abbrev S1x64x128 : Shape := ⟨3, ![1, 64, 128]⟩
abbrev S1x4x256x128 : Shape := ⟨4, ![1, 4, 256, 128]⟩
abbrev S4x256x128 : Shape := ⟨3, ![4, 256, 128]⟩
abbrev S64x64 : Shape := ⟨2, ![64, 64]⟩
abbrev S1x256x128 : Shape := ⟨3, ![1, 256, 128]⟩
abbrev S256x128 : Shape := ⟨2, ![256, 128]⟩
abbrev S64x128 : Shape := ⟨2, ![64, 128]⟩
abbrev S64x512 : Shape := ⟨2, ![64, 512]⟩
abbrev S1x64x256 : Shape := ⟨3, ![1, 64, 256]⟩
abbrev S64x256 : Shape := ⟨2, ![64, 256]⟩
abbrev S1x128 : Shape := ⟨2, ![1, 128]⟩
abbrev S64 : Shape := ⟨1, ![64]⟩
abbrev S64x1 : Shape := ⟨2, ![64, 1]⟩

abbrev nBuf : Space → Nat
  | .hbm => 38
  | .vmem => 20
  | .smem => 0
  | _ => 0

abbrev bufTy : (tb : Table) → Fin (tcTables nBuf tb) → BufTy
  | .hbm, ⟨0, _⟩ => ⟨S32x8x512, .f32⟩
  | .hbm, ⟨1, _⟩ => ⟨S32x8x512, .f32⟩
  | .hbm, ⟨2, _⟩ => ⟨S32x8x1024, .f32⟩
  | .hbm, ⟨3, _⟩ => ⟨S32x8x1024, .f32⟩
  | .hbm, ⟨4, _⟩ => ⟨S32x8x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S32x4x128x256, .f32⟩
  | .hbm, ⟨9, _⟩ => ⟨S_, .i32⟩
  | .hbm, ⟨10, _⟩ => ⟨S_, .f32⟩
  | .hbm, ⟨11, _⟩ => ⟨S32x8x128, .f32⟩
  | .hbm, ⟨12, _⟩ => ⟨S_, .i32⟩
  | .hbm, ⟨13, _⟩ => ⟨S_, .f32⟩
  | .hbm, ⟨14, _⟩ => ⟨S32x64x512, .f32⟩
  | .hbm, ⟨15, _⟩ => ⟨S_, .i32⟩
  | .hbm, ⟨16, _⟩ => ⟨S_, .f32⟩
  | .hbm, ⟨17, _⟩ => ⟨S32x64x512, .f32⟩
  | .hbm, ⟨18, _⟩ => ⟨S_, .i32⟩
  | .hbm, ⟨19, _⟩ => ⟨S_, .f32⟩
  | .hbm, ⟨20, _⟩ => ⟨S32x64x1024, .f32⟩
  | .hbm, ⟨21, _⟩ => ⟨S_, .i32⟩
  | .hbm, ⟨22, _⟩ => ⟨S_, .f32⟩
  | .hbm, ⟨23, _⟩ => ⟨S32x64x1024, .f32⟩
  | .hbm, ⟨24, _⟩ => ⟨S_, .i32⟩
  | .hbm, ⟨25, _⟩ => ⟨S_, .f32⟩
  | .hbm, ⟨26, _⟩ => ⟨S32x64x128, .f32⟩
  | .hbm, ⟨27, _⟩ => ⟨S_, .i32⟩
  | .hbm, ⟨28, _⟩ => ⟨S_, .f32⟩
  | .hbm, ⟨29, _⟩ => ⟨S128x512, .f32⟩
  | .hbm, ⟨30, _⟩ => ⟨S128x512, .bf16⟩
  | .hbm, ⟨31, _⟩ => ⟨S32x4x256x128, .f32⟩
  | .hbm, ⟨32, _⟩ => ⟨S1x512, .f32⟩
  | .hbm, ⟨33, _⟩ => ⟨S1x256, .f32⟩
  | .hbm, ⟨34, _⟩ => ⟨S32x64x1024, .bf16⟩
  | .hbm, ⟨35, _⟩ => ⟨S32x4x256x128, .f32⟩
  | .hbm, ⟨36, _⟩ => ⟨S32x8x1024, .bf16⟩
  | .hbm, ⟨37, _⟩ => ⟨S32x4x128x256, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x128, .f32⟩
  | .local _ .vmem, ⟨9, _⟩ => ⟨S1x64x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S1x4x256x128, .f32⟩
  | .local _ .vmem, ⟨14, _⟩ => ⟨S1x4x256x128, .f32⟩
  | .local _ .vmem, ⟨15, _⟩ => ⟨S1x64x1024, .bf16⟩
  | .local _ .vmem, ⟨16, _⟩ => ⟨S1x64x1024, .bf16⟩
  | .local _ .vmem, ⟨17, _⟩ => ⟨S1x4x256x128, .f32⟩
  | .local _ .vmem, ⟨18, _⟩ => ⟨S1x4x256x128, .f32⟩
  | .local _ .vmem, ⟨19, _⟩ => ⟨S4x256x128, .f32⟩
  | _, _ => ⟨S32x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_c_2 : Ref sig .tc := ⟨.hbm, 18, rfl⟩
abbrev main_call3_v0 : Ref sig .tc := ⟨.hbm, 19, rfl⟩
abbrev main_v3 : Ref sig .tc := ⟨.hbm, 20, rfl⟩
abbrev main_c_3 : Ref sig .tc := ⟨.hbm, 21, rfl⟩
abbrev main_call4_v0 : Ref sig .tc := ⟨.hbm, 22, rfl⟩
abbrev main_v4 : Ref sig .tc := ⟨.hbm, 23, rfl⟩
abbrev main_c_4 : Ref sig .tc := ⟨.hbm, 24, rfl⟩
abbrev main_call5_v0 : Ref sig .tc := ⟨.hbm, 25, rfl⟩
abbrev main_v5 : Ref sig .tc := ⟨.hbm, 26, rfl⟩
abbrev main_c_5 : Ref sig .tc := ⟨.hbm, 27, rfl⟩
abbrev main_call6_v0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11_0 : Ref sig .tc := ⟨.hbm, 34, rfl⟩
abbrev main_v11_1 : Ref sig .tc := ⟨.hbm, 35, rfl⟩
abbrev main_v12 : Ref sig .tc := ⟨.hbm, 36, rfl⟩
abbrev main_v13 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_141 : BitVec 32 := 0#32
  let v311 : BitVec 1 := Scalar.cmpi .eq arg1 c0_i32_141
  let v312 : BitVec 32 := Scalar.extui v311
  let c0_i32_142 : BitVec 32 := 0#32
  let v313 : BitVec 1 := Scalar.cmpi .ne v312 c0_i32_142
  v313

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference11Ideal.lean ====
abbrev S32x8x512 : Shape := ⟨3, ![32, 8, 512]⟩
abbrev S32x8x1024 : Shape := ⟨3, ![32, 8, 1024]⟩
abbrev S32x8x16 : Shape := ⟨3, ![32, 8, 16]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S1x1x512 : Shape := ⟨3, ![1, 1, 512]⟩
abbrev S_ : Shape := ⟨0, ![]⟩
abbrev S32x8x4x128 : Shape := ⟨4, ![32, 8, 4, 128]⟩
abbrev S32x4x8x128 : Shape := ⟨4, ![32, 4, 8, 128]⟩
abbrev S32x8x4x256 : Shape := ⟨4, ![32, 8, 4, 256]⟩
abbrev S32x4x8x256 : Shape := ⟨4, ![32, 4, 8, 256]⟩
abbrev S8x8 : Shape := ⟨2, ![8, 8]⟩
abbrev S32x4x1x8x128 : Shape := ⟨5, ![32, 4, 1, 8, 128]⟩
abbrev S1x32x4x8x128 : Shape := ⟨5, ![1, 32, 4, 8, 128]⟩
abbrev S32x4x1x8x256 : Shape := ⟨5, ![32, 4, 1, 8, 256]⟩
abbrev S1x32x4x8x256 : Shape := ⟨5, ![1, 32, 4, 8, 256]⟩
abbrev S32x4x1x128 : Shape := ⟨4, ![32, 4, 1, 128]⟩
abbrev S32x4x8x8 : Shape := ⟨4, ![32, 4, 8, 8]⟩
abbrev S32x4x128 : Shape := ⟨3, ![32, 4, 128]⟩
abbrev S32x4x128x1 : Shape := ⟨4, ![32, 4, 128, 1]⟩
abbrev S32x4x8 : Shape := ⟨3, ![32, 4, 8]⟩
abbrev S32x4x8x1 : Shape := ⟨4, ![32, 4, 8, 1]⟩
abbrev S1x1x1x256 : Shape := ⟨4, ![1, 1, 1, 256]⟩

abbrev nBuf : Space → Nat
  | .hbm => 167
  | .vmem => 0
  | .smem => 0
  | _ => 0

abbrev hbmTy0_0 (i : Nat) : BufTy := match i % 128 with
  | 0 => ⟨S32x8x512, .f32⟩
  | 1 => ⟨S32x8x512, .f32⟩
  | 2 => ⟨S32x8x1024, .f32⟩
  | 3 => ⟨S32x8x1024, .f32⟩
  | 4 => ⟨S32x8x16, .f32⟩
  | 5 => ⟨S16x512, .f32⟩
  | 6 => ⟨S512, .f32⟩
  | 7 => ⟨S256, .f32⟩
  | 8 => ⟨S32x4x128x256, .f32⟩
  | 9 => ⟨S32x8x512, .f32⟩
  | 10 => ⟨S1x1x512, .f32⟩
  | 11 => ⟨S32x8x512, .f32⟩
  | 12 => ⟨S32x8x512, .f32⟩
  | 13 => ⟨S32x8x512, .f32⟩
  | 14 => ⟨S_, .f32⟩
  | 15 => ⟨S32x8x512, .f32⟩
  | 16 => ⟨S32x8x512, .f32⟩
  | 17 => ⟨S32x8x512, .f32⟩
  | 18 => ⟨S32x8x512, .f32⟩
  | 19 => ⟨S32x8x512, .i1⟩
  | 20 => ⟨S32x8x512, .f32⟩
  | 21 => ⟨S32x8x512, .f32⟩
  | 22 => ⟨S32x8x512, .f32⟩
  | 23 => ⟨S32x8x512, .f32⟩
  | 24 => ⟨S32x8x512, .f32⟩
  | 25 => ⟨S32x8x512, .f32⟩
  | 26 => ⟨S32x8x512, .f32⟩
  | 27 => ⟨S32x8x512, .f32⟩
  | 28 => ⟨S32x8x512, .f32⟩
  | 29 => ⟨S_, .f32⟩
  | 30 => ⟨S32x8x512, .f32⟩
  | 31 => ⟨S32x8x512, .f32⟩
  | 32 => ⟨S32x8x4x128, .f32⟩
  | 33 => ⟨S32x4x8x128, .f32⟩
  | 34 => ⟨S_, .f32⟩
  | 35 => ⟨S32x4x8x128, .f32⟩
  | 36 => ⟨S32x4x8x128, .f32⟩
  | 37 => ⟨S32x8x4x128, .f32⟩
  | 38 => ⟨S32x4x8x128, .f32⟩
  | 39 => ⟨S32x8x4x256, .f32⟩
  | 40 => ⟨S32x4x8x256, .f32⟩
  | 41 => ⟨S32x8x4x128, .f32⟩
  | 42 => ⟨S32x4x8x128, .f32⟩
  | 43 => ⟨S_, .i1⟩
  | 44 => ⟨S8x8, .i1⟩
  | 45 => ⟨S8x8, .i32⟩
  | 46 => ⟨S_, .i32⟩
  | 47 => ⟨S8x8, .i32⟩
  | 48 => ⟨S8x8, .i32⟩
  | 49 => ⟨S8x8, .i32⟩
  | 50 => ⟨S8x8, .i1⟩
  | 51 => ⟨S_, .i1⟩
  | 52 => ⟨S8x8, .i1⟩
  | 53 => ⟨S8x8, .i1⟩
  | 54 => ⟨S32x4x1x8x128, .f32⟩
  | 55 => ⟨S1x32x4x8x128, .f32⟩
  | 56 => ⟨S32x4x1x8x128, .f32⟩
  | 57 => ⟨S1x32x4x8x128, .f32⟩
  | 58 => ⟨S32x4x1x8x256, .f32⟩
  | 59 => ⟨S1x32x4x8x256, .f32⟩
  | 60 => ⟨S32x4x1x8x128, .f32⟩
  | 61 => ⟨S1x32x4x8x128, .f32⟩
  | 62 => ⟨S_, .f32⟩
  | 63 => ⟨S1x32x4x8x256, .f32⟩
  | 64 => ⟨S_, .i32⟩
  | 65 => ⟨S1x32x4x8x128, .f32⟩
  | 66 => ⟨S1x32x4x8x128, .f32⟩
  | 67 => ⟨S1x32x4x8x256, .f32⟩
  | 68 => ⟨S1x32x4x8x128, .f32⟩
  | 69 => ⟨S8x8, .i1⟩
  | 70 => ⟨S_, .i32⟩
  | 71 => ⟨S32x4x128x256, .f32⟩
  | 72 => ⟨S1x32x4x8x256, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1x32x4x8x128, .f32⟩
  | 80 => ⟨S32x4x8x128, .f32⟩
  | 81 => ⟨S_, .i32⟩
  | 82 => ⟨S_, .i32⟩
  | 83 => ⟨S_, .i32⟩
  | 84 => ⟨S_, .i32⟩
  | 85 => ⟨S1x32x4x8x128, .f32⟩
  | 86 => ⟨S32x4x8x128, .f32⟩
  | 87 => ⟨S_, .i32⟩
  | 88 => ⟨S_, .i32⟩
  | 89 => ⟨S_, .i32⟩
  | 90 => ⟨S_, .i32⟩
  | 91 => ⟨S1x32x4x8x256, .f32⟩
  | 92 => ⟨S32x4x8x256, .f32⟩
  | 93 => ⟨S_, .i32⟩
  | 94 => ⟨S_, .i32⟩
  | 95 => ⟨S_, .i32⟩
  | 96 => ⟨S_, .i32⟩
  | 97 => ⟨S1x32x4x8x128, .f32⟩
  | 98 => ⟨S32x4x8x128, .f32⟩
  | 99 => ⟨S_, .f32⟩
  | 100 => ⟨S_, .f32⟩
  | 101 => ⟨S32x4x8x128, .f32⟩
  | 102 => ⟨S32x4x1x128, .f32⟩
  | 103 => ⟨S32x4x8x128, .f32⟩
  | 104 => ⟨S32x4x8x128, .f32⟩
  | 105 => ⟨S32x4x8x128, .f32⟩
  | 106 => ⟨S32x4x8x128, .f32⟩
  | 107 => ⟨S32x4x8x128, .f32⟩
  | 108 => ⟨S32x4x8x128, .f32⟩
  | 109 => ⟨S32x4x8x128, .f32⟩
  | 110 => ⟨S32x4x8x128, .f32⟩
  | 111 => ⟨S32x4x8x128, .f32⟩
  | 112 => ⟨S32x4x8x8, .f32⟩
  | 113 => ⟨S_, .f32⟩
  | 114 => ⟨S_, .f32⟩
  | 115 => ⟨S32x4x8x8, .i1⟩
  | 116 => ⟨S32x4x8x8, .f32⟩
  | 117 => ⟨S32x4x8x8, .f32⟩
  | 118 => ⟨S32x4x8x256, .f32⟩
  | 119 => ⟨S32x4x8x256, .f32⟩
  | 120 => ⟨S32x4x8x256, .f32⟩
  | 121 => ⟨S32x4x1x128, .f32⟩
  | 122 => ⟨S32x4x128, .f32⟩
  | 123 => ⟨S32x4x128x1, .f32⟩
  | 124 => ⟨S32x4x128x256, .f32⟩
  | 125 => ⟨S32x4x128x256, .f32⟩
  | 126 => ⟨S32x4x128x256, .f32⟩
  | 127 => ⟨S32x4x128x256, .f32⟩
  | _ => ⟨S32x8x512, .f32⟩

abbrev hbmTy0_1 (i : Nat) : BufTy := match i % 128 with
  | 0 => ⟨S1x32x4x8x256, .f32⟩
  | 1 => ⟨S_, .i32⟩
  | 2 => ⟨S_, .i32⟩
  | 3 => ⟨S_, .i32⟩
  | 4 => ⟨S_, .i32⟩
  | 5 => ⟨S1x32x4x8x256, .f32⟩
  | 6 => ⟨S_, .i32⟩
  | 7 => ⟨S_, .i32⟩
  | 8 => ⟨S32x4x1x8x256, .f32⟩
  | 9 => ⟨S32x4x8x256, .f32⟩
  | 10 => ⟨S32x4x8x256, .f32⟩
  | 11 => ⟨S_, .f32⟩
  | 12 => ⟨S32x4x8, .f32⟩
  | 13 => ⟨S32x4x8x1, .f32⟩
  | 14 => ⟨S_, .f32⟩
  | 15 => ⟨S32x4x8x1, .f32⟩
  | 16 => ⟨S32x4x8x1, .f32⟩
  | 17 => ⟨S_, .f32⟩
  | 18 => ⟨S32x4x8x1, .f32⟩
  | 19 => ⟨S32x4x8x1, .f32⟩
  | 20 => ⟨S32x4x8x1, .f32⟩
  | 21 => ⟨S32x4x8x256, .f32⟩
  | 22 => ⟨S32x4x8x256, .f32⟩
  | 23 => ⟨S1x1x1x256, .f32⟩
  | 24 => ⟨S32x4x8x256, .f32⟩
  | 25 => ⟨S32x4x8x256, .f32⟩
  | 26 => ⟨S32x8x4x256, .f32⟩
  | 27 => ⟨S32x8x1024, .f32⟩
  | 28 => ⟨S32x8x1024, .f32⟩
  | 29 => ⟨S32x8x1024, .f32⟩
  | 30 => ⟨S_, .f32⟩
  | 31 => ⟨S32x8x1024, .f32⟩
  | 32 => ⟨S32x8x1024, .f32⟩
  | 33 => ⟨S_, .f32⟩
  | 34 => ⟨S32x8x1024, .f32⟩
  | 35 => ⟨S32x8x1024, .f32⟩
  | 36 => ⟨S32x8x1024, .f32⟩
  | 37 => ⟨S32x8x1024, .f32⟩
  | 38 => ⟨S32x8x1024, .bf16⟩
  | _ => ⟨S32x8x512, .f32⟩

abbrev hbmTy (i : Nat) : BufTy := match i / 128 with
  | 0 => hbmTy0_0 i
  | 1 => hbmTy0_1 i
  | _ => ⟨S32x8x512, .f32⟩

abbrev bufTy : (tb : Table) → Fin (tcTables nBuf tb) → BufTy
  | .hbm, ⟨i, _⟩ => hbmTy i
  | _, _ => ⟨S32x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_2 : Ref sig .tc := ⟨.hbm, 62, rfl⟩
abbrev main_v41 : Ref sig .tc := ⟨.hbm, 63, rfl⟩
abbrev main_c_3 : Ref sig .tc := ⟨.hbm, 64, rfl⟩
abbrev main_v42_0 : Ref sig .tc := ⟨.hbm, 65, rfl⟩
abbrev main_v42_1 : Ref sig .tc := ⟨.hbm, 66, rfl⟩
abbrev main_v42_2 : Ref sig .tc := ⟨.hbm, 67, rfl⟩
abbrev main_v42_3 : Ref sig .tc := ⟨.hbm, 68, rfl⟩
abbrev main_v42_4 : Ref sig .tc := ⟨.hbm, 69, rfl⟩
abbrev main_v42_5 : Ref sig .tc := ⟨.hbm, 70, rfl⟩
abbrev main_v42_6 : Ref sig .tc := ⟨.hbm, 71, rfl⟩
abbrev main_v42_7 : Ref sig .tc := ⟨.hbm, 72, rfl⟩
abbrev main_while0c_c_14 : Ref sig .tc := ⟨.hbm, 73, rfl⟩
abbrev main_while0c_v63 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_call1_c_1 : Ref sig .tc := ⟨.hbm, 77, rfl⟩
abbrev main_while0b_call1_c_2 : Ref sig .tc := ⟨.hbm, 78, rfl⟩
abbrev main_while0b_call1_v0 : Ref sig .tc := ⟨.hbm, 79, rfl⟩
abbrev main_while0b_v63 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_c_2 : Ref sig .tc := ⟨.hbm, 84, rfl⟩
abbrev main_while0b_call2_v0 : Ref sig .tc := ⟨.hbm, 85, rfl⟩
abbrev main_while0b_v64 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_call3_c_1 : Ref sig .tc := ⟨.hbm, 89, rfl⟩
abbrev main_while0b_call3_c_2 : Ref sig .tc := ⟨.hbm, 90, rfl⟩
abbrev main_while0b_call3_v0 : Ref sig .tc := ⟨.hbm, 91, rfl⟩
abbrev main_while0b_v65 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_c_2 : Ref sig .tc := ⟨.hbm, 96, rfl⟩
abbrev main_while0b_call4_v0 : Ref sig .tc := ⟨.hbm, 97, rfl⟩
abbrev main_while0b_v66 : Ref sig .tc := ⟨.hbm, 98, rfl⟩
abbrev main_while0b_call5_call0_cst : Ref sig .tc := ⟨.hbm, 99, rfl⟩
abbrev main_while0b_call5_call0_v0 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_v73 : Ref sig .tc := ⟨.hbm, 107, rfl⟩
abbrev main_while0b_v74 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_cst_14 : Ref sig .tc := ⟨.hbm, 113, rfl⟩
abbrev main_while0b_call6_v0 : Ref sig .tc := ⟨.hbm, 114, rfl⟩
abbrev main_while0b_call6_v1 : Ref sig .tc := ⟨.hbm, 115, rfl⟩
abbrev main_while0b_call6_v2 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_call7_v0 : Ref sig .tc := ⟨.hbm, 128, rfl⟩
abbrev main_while0b_call7_c : Ref sig .tc := ⟨.hbm, 129, rfl⟩
abbrev main_while0b_call7_c_0 : Ref sig .tc := ⟨.hbm, 130, rfl⟩
abbrev main_while0b_call7_c_1 : Ref sig .tc := ⟨.hbm, 131, rfl⟩
abbrev main_while0b_call7_c_2 : Ref sig .tc := ⟨.hbm, 132, rfl⟩
abbrev main_while0b_v90 : Ref sig .tc := ⟨.hbm, 133, rfl⟩
abbrev main_while0b_c_15 : Ref sig .tc := ⟨.hbm, 134, rfl⟩
abbrev main_while0b_v91 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_cst_4 : Ref sig .tc := ⟨.hbm, 139, rfl⟩
abbrev main_v46 : Ref sig .tc := ⟨.hbm, 140, rfl⟩
abbrev main_v47 : Ref sig .tc := ⟨.hbm, 141, rfl⟩
abbrev main_cst_5 : Ref sig .tc := ⟨.hbm, 142, rfl⟩
abbrev main_v48 : Ref sig .tc := ⟨.hbm, 143, rfl⟩
abbrev main_v49 : Ref sig .tc := ⟨.hbm, 144, rfl⟩
abbrev main_cst_6 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_call8_v0 : Ref sig .tc := ⟨.hbm, 156, rfl⟩
abbrev main_call8_v1 : Ref sig .tc := ⟨.hbm, 157, rfl⟩
abbrev main_call8_cst : Ref sig .tc := ⟨.hbm, 158, rfl⟩
abbrev main_call8_v2 : Ref sig .tc := ⟨.hbm, 159, rfl⟩
abbrev main_call8_v3 : Ref sig .tc := ⟨.hbm, 160, rfl⟩
abbrev main_call8_cst_0 : Ref sig .tc := ⟨.hbm, 161, rfl⟩
abbrev main_call8_v4 : Ref sig .tc := ⟨.hbm, 162, rfl⟩
abbrev main_call8_v5 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩

abbrev nD : Nat := 1
abbrev τ : Topo := Topo.v7x

variable {F : FTy → Type} [FloatOps F]

abbrev main_while0_count : Scf.Loop 32 := ⟨0#32, 1#32, 1#32⟩
-- ==== Kernel12.lean ====
abbrev S32x8x1024 : Shape := ⟨3, ![32, 8, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S256x1024 : Shape := ⟨2, ![256, 1024]⟩
abbrev S1x1024 : Shape := ⟨2, ![1, 1024]⟩
abbrev S1x5632 : Shape := ⟨2, ![1, 5632]⟩
abbrev S32x1x5632 : Shape := ⟨3, ![32, 1, 5632]⟩
abbrev S_ : Shape := ⟨0, ![]⟩
abbrev S32x8x5632 : Shape := ⟨3, ![32, 8, 5632]⟩
abbrev S256x5632 : Shape := ⟨2, ![256, 5632]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S1x2816 : Shape := ⟨2, ![1, 2816]⟩

abbrev nBuf : Space → Nat
  | .hbm => 31
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S32x2x5632, .f32⟩
  | .hbm, ⟨9, _⟩ => ⟨S256x1024, .f32⟩
  | .hbm, ⟨10, _⟩ => ⟨S256x1024, .f32⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x5632, .f32⟩
  | .hbm, ⟨16, _⟩ => ⟨S1x1024, .f32⟩
  | .hbm, ⟨17, _⟩ => ⟨S32x1x5632, .f32⟩
  | .hbm, ⟨18, _⟩ => ⟨S_, .i32⟩
  | .hbm, ⟨19, _⟩ => ⟨S_, .f32⟩
  | .hbm, ⟨20, _⟩ => ⟨S32x8x5632, .f32⟩
  | .hbm, ⟨21, _⟩ => ⟨S256x5632, .f32⟩
  | .hbm, ⟨22, _⟩ => ⟨S_, .i32⟩
  | .hbm, ⟨23, _⟩ => ⟨S_, .f32⟩
  | .hbm, ⟨24, _⟩ => ⟨S32x8x5632, .f32⟩
  | .hbm, ⟨25, _⟩ => ⟨S256x5632, .f32⟩
  | .hbm, ⟨26, _⟩ => ⟨S256x1024, .f32⟩
  | .hbm, ⟨27, _⟩ => ⟨S256x5632, .f32⟩
  | .hbm, ⟨28, _⟩ => ⟨S32x8x5632, .f32⟩
  | .hbm, ⟨29, _⟩ => ⟨S32x2x5632, .f32⟩
  | .hbm, ⟨30, _⟩ => ⟨S32x8x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S256x5632, .f32⟩
  | .local _ .vmem, ⟨10, _⟩ => ⟨S256x5632, .f32⟩
  | .local _ .vmem, ⟨11, _⟩ => ⟨S256x1024, .f32⟩
  | .local _ .vmem, ⟨12, _⟩ => ⟨S256x5632, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference12Ideal.lean ====
abbrev S32x8x1024 : Shape := ⟨3, ![32, 8, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x5632 : Shape := ⟨3, ![32, 8, 5632]⟩
abbrev S32x10x5632 : Shape := ⟨3, ![32, 10, 5632]⟩
abbrev S1x5632 : Shape := ⟨2, ![1, 5632]⟩
abbrev S1x1x5632 : Shape := ⟨3, ![1, 1, 5632]⟩
abbrev S32x8x2816 : Shape := ⟨3, ![32, 8, 2816]⟩

abbrev nBuf : Space → Nat
  | .hbm => 70
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S32x2x5632, .f32⟩
  | .hbm, ⟨9, _⟩ => ⟨S32x8x1024, .f32⟩
  | .hbm, ⟨10, _⟩ => ⟨S32x8x1024, .f32⟩
  | .hbm, ⟨11, _⟩ => ⟨S32x8x1024, .f32⟩
  | .hbm, ⟨12, _⟩ => ⟨S_, .f32⟩
  | .hbm, ⟨13, _⟩ => ⟨S32x8, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S_, .f32⟩
  | .hbm, ⟨19, _⟩ => ⟨S32x8x1, .f32⟩
  | .hbm, ⟨20, _⟩ => ⟨S32x8x1, .f32⟩
  | .hbm, ⟨21, _⟩ => ⟨S32x8x1, .f32⟩
  | .hbm, ⟨22, _⟩ => ⟨S32x8x1024, .f32⟩
  | .hbm, ⟨23, _⟩ => ⟨S32x8x1024, .f32⟩
  | .hbm, ⟨24, _⟩ => ⟨S1x1x1024, .f32⟩
  | .hbm, ⟨25, _⟩ => ⟨S32x8x1024, .f32⟩
  | .hbm, ⟨26, _⟩ => ⟨S32x8x1024, .f32⟩
  | .hbm, ⟨27, _⟩ => ⟨S32x8x5632, .f32⟩
  | .hbm, ⟨28, _⟩ => ⟨S32x10x5632, .f32⟩
  | .hbm, ⟨29, _⟩ => ⟨S32x8x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S32x8x5632, .f32⟩
  | .hbm, ⟨34, _⟩ => ⟨S32x8x5632, .f32⟩
  | .hbm, ⟨35, _⟩ => ⟨S_, .f32⟩
  | .hbm, ⟨36, _⟩ => ⟨S32x8x5632, .f32⟩
  | .hbm, ⟨37, _⟩ => ⟨S32x8x5632, .f32⟩
  | .hbm, ⟨38, _⟩ => ⟨S32x8x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S32x8x5632, .f32⟩
  | .hbm, ⟨43, _⟩ => ⟨S32x8x5632, .f32⟩
  | .hbm, ⟨44, _⟩ => ⟨S32x8x5632, .f32⟩
  | .hbm, ⟨45, _⟩ => ⟨S32x8x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S32x8x5632, .f32⟩
  | .hbm, ⟨50, _⟩ => ⟨S32x8x5632, .f32⟩
  | .hbm, ⟨51, _⟩ => ⟨S32x8x5632, .f32⟩
  | .hbm, ⟨52, _⟩ => ⟨S32x2x5632, .f32⟩
  | .hbm, ⟨53, _⟩ => ⟨S1x1x5632, .f32⟩
  | .hbm, ⟨54, _⟩ => ⟨S32x8x5632, .f32⟩
  | .hbm, ⟨55, _⟩ => ⟨S32x8x5632, .f32⟩
  | .hbm, ⟨56, _⟩ => ⟨S32x8x2816, .f32⟩
  | .hbm, ⟨57, _⟩ => ⟨S32x8x2816, .f32⟩
  | .hbm, ⟨58, _⟩ => ⟨S32x8x2816, .f32⟩
  | .hbm, ⟨59, _⟩ => ⟨S32x8x2816, .f32⟩
  | .hbm, ⟨60, _⟩ => ⟨S_, .f32⟩
  | .hbm, ⟨61, _⟩ => ⟨S32x8x2816, .f32⟩
  | .hbm, ⟨62, _⟩ => ⟨S32x8x2816, .f32⟩
  | .hbm, ⟨63, _⟩ => ⟨S_, .f32⟩
  | .hbm, ⟨64, _⟩ => ⟨S32x8x2816, .f32⟩
  | .hbm, ⟨65, _⟩ => ⟨S32x8x2816, .f32⟩
  | .hbm, ⟨66, _⟩ => ⟨S32x8x2816, .f32⟩
  | .hbm, ⟨67, _⟩ => ⟨S32x8x2816, .f32⟩
  | .hbm, ⟨68, _⟩ => ⟨S32x8x1024, .f32⟩
  | .hbm, ⟨69, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.Gla.Pieces.lean ====
/- What the scan's body leaves at a grid point, in functions of its own: the gate, its running sum over the 64 rows of a
   chunk, the three decayed tiles, one head's output and one head's state. The body's stores are then a list over the
   eight chunks and four heads. -/
module

public import proofs.«01_k».proof.Proof.Gen.KernelIdeal.Frame

@[expose] public section
set_option maxRecDepth 16384
noncomputable section
namespace Cert.Gla

open Idealize.ShloMosaic Idealize.ShloMosaic.TcCoe Idealize.ShloMosaic.Tactic
open Cert.KernelIdeal Cert.KernelIdeal.Gen
variable {F : FTy → Type} [FloatOps F]

/-- The gate's logit: the low-rank row times the padded weight, plus the bias. -/
def logit (g : Vec F S1x64x128 .f32) (w : Vec F S128x512 .bf16) (b : Vec F S1x512 .f32) : FVec F S64x512 .f32 :=
  addf (matmul dot_S64x128_S128x512_S64x512_1_0_0_1_n_n none (truncf .bf16 (shapeCast S64x128 g shapeCasts_S1x64x128_S64x128) bitsLt_bf16_f32)
      (shapeCast S128x512 w shapeCasts_S128x512_S128x512) (constant S64x512 .f32 0x00000000#32))
    (broadcastTo S64x512 (shapeCast S1x512 b shapeCasts_S1x512_S1x512) broadcasts_S1x512_S64x512)

/-- The log-decay of a logit: minus the softplus of its negative, over sixteen. -/
def decay (x : FVec F S64x512 .f32) : FVec F S64x512 .f32 :=
  mulf (subf (broadcast S64x512 (Scalar.ofBits .f32 0x00000000#32))
      (addf (maximumf (subf (broadcast S64x512 (Scalar.ofBits .f32 0x00000000#32)) x) (broadcast S64x512 (Scalar.ofBits .f32 0x00000000#32)))
        (log (addf (broadcast S64x512 (Scalar.ofBits .f32 0x3F800000#32))
          (exp (subf (broadcast S64x512 (Scalar.ofBits .f32 0x00000000#32))
            (absf (subf (broadcast S64x512 (Scalar.ofBits .f32 0x00000000#32)) x))))))))
    (broadcast S64x512 (Scalar.ofBits .f32 0x3D800000#32))

/-- One doubling of the running sum: add the rows `n` above, where there are any. -/
def dbl (n : BitVec 32) (x : FVec F S64x512 .f32) : FVec F S64x512 .f32 :=
  addf x (select (cmpi .sge (iota .tc S64x512 32 [0] iota_S64x512_d0_w32) (broadcast S64x512 n))
    (dynamicRotate 0 n none x rotates_S64x512_d0) (broadcast S64x512 (Scalar.ofBits .f32 0x00000000#32)))

/-- The running sum over the rows by six doublings. -/
def cum (x : FVec F S64x512 .f32) : FVec F S64x512 .f32 :=
  dbl 32#32 (dbl 16#32 (dbl 8#32 (dbl 4#32 (dbl 2#32 (dbl 1#32 x)))))

/-- The running log-decay of a chunk. -/
def cumG (g : Vec F S1x64x128 .f32) (w : Vec F S128x512 .bf16) (b : Vec F S1x512 .f32) : FVec F S64x512 .f32 :=
  cum (decay (logit g w b))

/-- The running log-decay at the chunk's last row. -/
def lastRow (c : FVec F S64x512 .f32) : FVec F S1x512 .f32 :=
  extractStridedSlice S1x512 ![63, 0] c slices_S64x512_o63_0_S1x512

/-- The scaled queries times the running decay. -/
def qT (c : FVec F S64x512 .f32) (q : Vec F S1x64x512 .f32) : FVec F S64x512 .bf16 :=
  truncf .bf16 (mulf (mulf (shapeCast S64x512 q shapeCasts_S1x64x512_S64x512) (broadcast S64x512 (Scalar.ofBits .f32 0x3DB504F3#32))) (exp c)) bitsLt_bf16_f32

/-- The keys over the running decay. -/
def kT (c : FVec F S64x512 .f32) (k : Vec F S1x64x512 .f32) : FVec F S64x512 .bf16 :=
  truncf .bf16 (mulf (shapeCast S64x512 k shapeCasts_S1x64x512_S64x512) (exp (subf (broadcast S64x512 (Scalar.ofBits .f32 0x00000000#32)) c))) bitsLt_bf16_f32

/-- The keys decayed to the chunk's end. -/
def kE (c : FVec F S64x512 .f32) (k : Vec F S1x64x512 .f32) : FVec F S64x512 .bf16 :=
  truncf .bf16 (mulf (shapeCast S64x512 k shapeCasts_S1x64x512_S64x512) (exp (subf (broadcastTo S64x512 (lastRow c) broadcasts_S1x512_S64x512) c))) bitsLt_bf16_f32

/-- One head's values. -/
def vH (v : Vec F S1x64x256 .f32) : FVec F S64x256 .bf16 :=
  truncf .bf16 (shapeCast S64x256 v shapeCasts_S1x64x256_S64x256) bitsLt_bf16_f32

/-- The causal mask of a chunk. -/
def mask : IVec S64x64 1 :=
  cmpi .sle (iota .tc S64x64 32 [1] iota_S64x64_d1_w32) (iota .tc S64x64 32 [0] iota_S64x64_d0_w32)

theorem sl64 (h : Fin 4) : S64x512.Slices ![0, 128 * h.val] S64x128 := by revert h; decide

theorem sl1 (h : Fin 4) : S1x512.Slices ![0, 128 * h.val] S1x128 := by revert h; decide

/-- One head's mixed values before the norm: masked products within the chunk, and the carried state's part. -/
def oH (h : Fin 4) (q k : FVec F S64x512 .bf16) (v : FVec F S64x256 .bf16) (st : FVec F S256x128 .f32) : FVec F S64x256 .f32 :=
  addf (matmul dot_S64x64_S64x256_S64x256_1_0_0_1_n_n none
      (truncf .bf16 (select mask (matmul dot_S64x128_S64x128_S64x64_1_1_0_0_n_n none (extractStridedSlice S64x128 ![0, 128 * h.val] q (sl64 h))
        (extractStridedSlice S64x128 ![0, 128 * h.val] k (sl64 h)) (constant S64x64 .f32 0x00000000#32)) (broadcast S64x64 (Scalar.ofBits .f32 0x00000000#32))) bitsLt_bf16_f32)
      v (constant S64x256 .f32 0x00000000#32))
    (matmul dot_S64x128_S256x128_S64x256_1_1_0_0_n_n none (extractStridedSlice S64x128 ![0, 128 * h.val] q (sl64 h))
      (truncf .bf16 st bitsLt_bf16_f32) (constant S64x256 .f32 0x00000000#32))

/-- One head's state after a chunk. -/
def sH (h : Fin 4) (c : FVec F S64x512 .f32) (k : FVec F S64x512 .bf16) (v : FVec F S64x256 .bf16) (st : FVec F S256x128 .f32) : FVec F S256x128 .f32 :=
  addf (mulf st (broadcastTo S256x128 (extractStridedSlice S1x128 ![0, 128 * h.val] (exp (lastRow c)) (sl1 h)) broadcasts_S1x128_S256x128))
    (matmul dot_S64x256_S64x128_S256x128_0_0_1_1_n_n none v (extractStridedSlice S64x128 ![0, 128 * h.val] k (sl64 h)) (constant S256x128 .f32 0x00000000#32))

/-- One head's result: the norm of its mixed values, its gain, and the output gate. -/
def nH (o : FVec F S64x256 .f32) (n : Vec F S1x256 .f32) (r : Vec F S1x64x256 .f32) : FVec F S1x64x256 .bf16 :=
  shapeCast S1x64x256 (truncf .bf16 (mulf
    (mulf (mulf o (broadcastTo S64x256 (rsqrt (addf (divf (shapeCast S64x1 (multiReduction .add [1] S64 (mulf o o) 0x00000000#32 reduces_S64x256_S64 (.inl rfl) rfl) shapeCasts_S64_S64x1)
        (broadcast S64x1 (Scalar.ofBits .f32 0x43800000#32))) (broadcast S64x1 (Scalar.ofBits .f32 0x358637BD#32)))) broadcasts_S64x1_S64x256))
      (broadcastTo S64x256 (shapeCast S1x256 n shapeCasts_S1x256_S1x256) broadcasts_S1x256_S64x256))
    (mulf (shapeCast S64x256 r shapeCasts_S1x64x256_S64x256) (divf (broadcast S64x256 (Scalar.ofBits .f32 0x3F800000#32))
      (addf (broadcast S64x256 (Scalar.ofBits .f32 0x3F800000#32)) (exp (subf (broadcast S64x256 (Scalar.ofBits .f32 0x00000000#32)) (shapeCast S64x256 r shapeCasts_S1x64x256_S64x256))))))) bitsLt_bf16_f32) shapeCasts_S64x256_S1x64x256

/-- What a point reads: per chunk the low-rank rows, keys and queries, per chunk and head the values and output-gate
    inputs, and the constants. -/
structure Rd (F : FTy → Type) where
  g : Fin 8 → Vec F S1x64x128 .f32
  w : Vec F S128x512 .bf16
  b : Vec F S1x512 .f32
  k : Fin 8 → Vec F S1x64x512 .f32
  q : Fin 8 → Vec F S1x64x512 .f32
  v : Fin 8 → Fin 4 → Vec F S1x64x256 .f32
  r : Fin 8 → Fin 4 → Vec F S1x64x256 .f32
  n : Vec F S1x256 .f32

/-- Chunk `j`'s running log-decay. -/
def Rd.c (d : Rd F) (j : Fin 8) : FVec F S64x512 .f32 := cumG (d.g j) d.w d.b

/-- Head `h`'s state after `j` chunks of the point, from the state `s0` it begins with. -/
def Rd.st (d : Rd F) (s0 : FVec F S256x128 .f32) (h : Fin 4) : ℕ → FVec F S256x128 .f32
  | 0 => s0
  | j + 1 => if hj : j < 8 then sH h (d.c ⟨j, hj⟩) (kE (d.c ⟨j, hj⟩) (d.k ⟨j, hj⟩)) (vH (d.v ⟨j, hj⟩ h)) (d.st s0 h j) else s0

/-- Head `h`'s result of chunk `j`. -/
def Rd.out (d : Rd F) (s0 : FVec F S256x128 .f32) (j : Fin 8) (h : Fin 4) : FVec F S1x64x256 .bf16 :=
  nH (oH h (qT (d.c j) (d.q j)) (kT (d.c j) (d.k j)) (vH (d.v j h)) (d.st s0 h j.val)) d.n (d.r j h)

theorem inbO (j : Fin 8) (h : Fin 4) : ∀ a, (![0, 64 * j.val, 256 * h.val] : Fin 3 → ℕ) a + S1x64x256.size a ≤ S1x512x1024.size a := by
  revert j h; decide

theorem inbS (h : Fin 4) : ∀ a, (![h.val, 0, 0] : Fin 3 → ℕ) a + S1x256x128.size a ≤ S4x256x128.size a := by
  revert h; decide

/-- The reads of a point, through the staged arrays. -/
def rd (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole)
    (x0 : Vec F S1x512x512 .f32) (x1 : Vec F S1x512x512 .f32) (x2 : Vec F S1x512x1024 .f32) (x3 : Vec F S1x512x1024 .f32) (x4 : Vec F S1x512x128 .f32) (x5 : Vec F S128x512 .bf16) (x6 : Vec F S1x512 .f32) (x7 : Vec F S1x256 .f32)  : Rd F :=
  ⟨fun j => View.readAt (Elt F) arg6.view (Rect.unit (s := S1x512x128) ![0, 64 * j.val, 0] S1x64x128.size (by revert j; decide)).toLoadRect (harg6.unread x4),
    View.readAt (Elt F) arg7.view (Rect.unit (s := S128x512) ![0, 0] S128x512.size inb_S128x512_S128x512_0_0).toLoadRect (harg7.unread x5),
    View.readAt (Elt F) arg8.view (Rect.unit (s := S1x512) ![0, 0] S1x512.size inb_S1x512_S1x512_0_0).toLoadRect (harg8.unread x6),
    fun j => View.readAt (Elt F) arg3.view (Rect.unit (s := S1x512x512) ![0, 64 * j.val, 0] S1x64x512.size (by revert j; decide)).toLoadRect (harg3.unread x1),
    fun j => View.readAt (Elt F) arg2.view (Rect.unit (s := S1x512x512) ![0, 64 * j.val, 0] S1x64x512.size (by revert j; decide)).toLoadRect (harg2.unread x0),
    fun j h => View.readAt (Elt F) arg4.view (Rect.unit (s := S1x512x1024) ![0, 64 * j.val, 256 * h.val] S1x64x256.size (inbO j h)).toLoadRect (harg4.unread x2),
    fun j h => View.readAt (Elt F) arg5.view (Rect.unit (s := S1x512x1024) ![0, 64 * j.val, 256 * h.val] S1x64x256.size (inbO j h)).toLoadRect (harg5.unread x3),
    View.readAt (Elt F) arg9.view (Rect.unit (s := S1x256) ![0, 0] S1x256.size inb_S1x256_S1x256_0_0).toLoadRect (harg9.unread x7)⟩

/-- The pieces the body stores of its output: one a chunk and head, the last first. -/
def pcsO (d : Rd F) (s0 : Fin 4 → FVec F S256x128 .f32) : List (View.Piece (Elt F) S1x512x1024 .bf16) :=
  (List.finRange 32).reverse.map fun p =>
    ⟨Rect.unit (s := S1x512x1024) ![0, 64 * (p.val / 4), 256 * (p.val % 4)] S1x64x256.size (inbO ⟨p.val / 4, by omega⟩ ⟨p.val % 4, by omega⟩),
      d.out (s0 ⟨p.val % 4, by omega⟩) ⟨p.val / 4, by omega⟩ ⟨p.val % 4, by omega⟩⟩

/-- The pieces the body stores of the carried state: one a head, the last first. -/
def pcsS (d : Rd F) (s0 : Fin 4 → FVec F S256x128 .f32) : List (View.Piece (Elt F) S4x256x128 .f32) :=
  (List.finRange 4).reverse.map fun h =>
    ⟨Rect.unit (s := S4x256x128) ![h.val, 0, 0] S1x256x128.size (inbS h),
      shapeCast S1x256x128 (d.st (s0 h) h 8) shapeCasts_S256x128_S1x256x128⟩

/-- What the body stores of its output at a batch's first point. -/
theorem pcs_A_9 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : cond0_0 i) (hc1 : ¬cond0_1 i)
    (x0 : Vec F S1x512x512 .f32) (x1 : Vec F S1x512x512 .f32) (x2 : Vec F S1x512x1024 .f32) (x3 : Vec F S1x512x1024 .f32) (x4 : Vec F S1x512x128 .f32) (x5 : Vec F S128x512 .bf16) (x6 : Vec F S1x512 .f32) (x7 : Vec F S1x256 .f32) (x8 : Vec F S1x4x256x128 .f32) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 = pcsO (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (arg13.view.readCov [(⟨Rect.unit (s := S4x256x128) ![0, 0, 0] S4x256x128.size inb_S4x256x128_S4x256x128_0_0_0, k0_pay2 (View.readAt (Elt F) arg10.view (Rect.unit (s := S1x4x256x128) ![0, 0, 0, 0] S1x4x256x128.size inb_S1x4x256x128_S1x4x256x128_0_0_0_0).toLoadRect (harg10.unread x8))⟩ : View.Piece (Elt F) S4x256x128 .f32)] (Rect.unit (s := S4x256x128) ![h.val, 0, 0] S1x256x128.size (inbS h)).toLoadRect) shapeCasts_S1x256x128_S256x128) := by
  sl_kernel_rfl

/-- What the body stores of the carried state at a batch's first point. -/
theorem pcs_A_s (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : cond0_0 i) (hc1 : ¬cond0_1 i)
    (x0 : Vec F S1x512x512 .f32) (x1 : Vec F S1x512x512 .f32) (x2 : Vec F S1x512x1024 .f32) (x3 : Vec F S1x512x1024 .f32) (x4 : Vec F S1x512x128 .f32) (x5 : Vec F S128x512 .bf16) (x6 : Vec F S1x512 .f32) (x7 : Vec F S1x256 .f32) (x8 : Vec F S1x4x256x128 .f32) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 = pcsS (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (arg13.view.readCov [(⟨Rect.unit (s := S4x256x128) ![0, 0, 0] S4x256x128.size inb_S4x256x128_S4x256x128_0_0_0, k0_pay2 (View.readAt (Elt F) arg10.view (Rect.unit (s := S1x4x256x128) ![0, 0, 0, 0] S1x4x256x128.size inb_S1x4x256x128_S1x4x256x128_0_0_0_0).toLoadRect (harg10.unread x8))⟩ : View.Piece (Elt F) S4x256x128 .f32)] (Rect.unit (s := S4x256x128) ![h.val, 0, 0] S1x256x128.size (inbS h)).toLoadRect) shapeCasts_S1x256x128_S256x128) ++ [(⟨Rect.unit (s := S4x256x128) ![0, 0, 0] S4x256x128.size inb_S4x256x128_S4x256x128_0_0_0, k0_pay2 (View.readAt (Elt F) arg10.view (Rect.unit (s := S1x4x256x128) ![0, 0, 0, 0] S1x4x256x128.size inb_S1x4x256x128_S1x4x256x128_0_0_0_0).toLoadRect (harg10.unread x8))⟩ : View.Piece (Elt F) S4x256x128 .f32)] := by
  sl_kernel_rfl

/-- What the body stores of its output at a batch's middle point. -/
theorem pcs_B_9 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : ¬cond0_1 i)
    (x0 : Vec F S1x512x512 .f32) (x1 : Vec F S1x512x512 .f32) (x2 : Vec F S1x512x1024 .f32) (x3 : Vec F S1x512x1024 .f32) (x4 : Vec F S1x512x128 .f32) (x5 : Vec F S128x512 .bf16) (x6 : Vec F S1x512 .f32) (x7 : Vec F S1x256 .f32) (x8 : Vec F S1x4x256x128 .f32) (xs0 : Vec F S4x256x128 .f32) :
    (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 = pcsO (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (View.readAt (Elt F) arg13.view (Rect.unit (s := S4x256x128) ![h.val, 0, 0] S1x256x128.size (inbS h)).toLoadRect (harg13.unread xs0)) shapeCasts_S1x256x128_S256x128) := by
  sl_kernel_rfl

/-- What the body stores of the carried state at a batch's middle point. -/
theorem pcs_B_s (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : ¬cond0_1 i)
    (x0 : Vec F S1x512x512 .f32) (x1 : Vec F S1x512x512 .f32) (x2 : Vec F S1x512x1024 .f32) (x3 : Vec F S1x512x1024 .f32) (x4 : Vec F S1x512x128 .f32) (x5 : Vec F S128x512 .bf16) (x6 : Vec F S1x512 .f32) (x7 : Vec F S1x256 .f32) (x8 : Vec F S1x4x256x128 .f32) (xs0 : Vec F S4x256x128 .f32) :
    (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 = pcsS (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (View.readAt (Elt F) arg13.view (Rect.unit (s := S4x256x128) ![h.val, 0, 0] S1x256x128.size (inbS h)).toLoadRect (harg13.unread xs0)) shapeCasts_S1x256x128_S256x128)  := by
  sl_kernel_rfl

/-- What the body stores of its output at a batch's last point. -/
theorem pcs_C_9 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : cond0_1 i)
    (x0 : Vec F S1x512x512 .f32) (x1 : Vec F S1x512x512 .f32) (x2 : Vec F S1x512x1024 .f32) (x3 : Vec F S1x512x1024 .f32) (x4 : Vec F S1x512x128 .f32) (x5 : Vec F S128x512 .bf16) (x6 : Vec F S1x512 .f32) (x7 : Vec F S1x256 .f32) (x8 : Vec F S1x4x256x128 .f32) (xs0 : Vec F S4x256x128 .f32) :
    (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).1 = pcsO (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (View.readAt (Elt F) arg13.view (Rect.unit (s := S4x256x128) ![h.val, 0, 0] S1x256x128.size (inbS h)).toLoadRect (harg13.unread xs0)) shapeCasts_S1x256x128_S256x128) := by
  sl_kernel_rfl

/-- What the body stores of the carried state at a batch's last point. -/
theorem pcs_C_s (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : cond0_1 i)
    (x0 : Vec F S1x512x512 .f32) (x1 : Vec F S1x512x512 .f32) (x2 : Vec F S1x512x1024 .f32) (x3 : Vec F S1x512x1024 .f32) (x4 : Vec F S1x512x128 .f32) (x5 : Vec F S128x512 .bf16) (x6 : Vec F S1x512 .f32) (x7 : Vec F S1x256 .f32) (x8 : Vec F S1x4x256x128 .f32) (xs0 : Vec F S4x256x128 .f32) :
    (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.2.1 = pcsS (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (View.readAt (Elt F) arg13.view (Rect.unit (s := S4x256x128) ![h.val, 0, 0] S1x256x128.size (inbS h)).toLoadRect (harg13.unread xs0)) shapeCasts_S1x256x128_S256x128)  := by
  sl_kernel_rfl

/-- What the last point stores of the state result: the carried state whole. -/
theorem pcs_C_10 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : cond0_1 i)
    (x0 : Vec F S1x512x512 .f32) (x1 : Vec F S1x512x512 .f32) (x2 : Vec F S1x512x1024 .f32) (x3 : Vec F S1x512x1024 .f32) (x4 : Vec F S1x512x128 .f32) (x5 : Vec F S128x512 .bf16) (x6 : Vec F S1x512 .f32) (x7 : Vec F S1x256 .f32) (x8 : Vec F S1x4x256x128 .f32) (xs0 : Vec F S4x256x128 .f32) :
    (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0).2.1 = [(⟨Rect.unit (s := S1x4x256x128) ![0, 0, 0, 0] S1x4x256x128.size inb_S1x4x256x128_S1x4x256x128_0_0_0_0,
      k0_pay1 (arg13.view.readCov (pcsS (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (View.readAt (Elt F) arg13.view (Rect.unit (s := S4x256x128) ![h.val, 0, 0] S1x256x128.size (inbS h)).toLoadRect (harg13.unread xs0)) shapeCasts_S1x256x128_S256x128)) (Rect.unit (s := S4x256x128) ![0, 0, 0] S4x256x128.size inb_S4x256x128_S4x256x128_0_0_0).toLoadRect)⟩ : View.Piece (Elt F) S1x4x256x128 .f32)] := by
  sl_kernel_rfl

end Cert.Gla
-- ==== Proof.Gla.Math.lean ====
/- The gated linear attention of one chunk as formulas over extended reals: what both programs are shown to compute. -/
module

public import Idealize.ShloMosaic.Lib.Pointwise

@[expose] public section
noncomputable section
namespace Cert.Gla

open Idealize.ShloMosaic

/-- The log-decay of a logit: log-sigmoid over sixteen, as the kernel spells it. -/
def gate (x : EReal) : EReal :=
  (0 - (max (0 - x) 0 + Ideal.log (1 + Ideal.exp (0 - FloatOps.absf (F := Ideal) (φ := .f32) (0 - x))))) * Ideal.ofBits .f32 0x3D800000#32

/-- One chunk's rows: gate logits, queries, keys, values and output-gate inputs. -/
structure Ck where
  l : Fin 64 → Fin 512 → EReal
  q : Fin 64 → Fin 512 → EReal
  k : Fin 64 → Fin 512 → EReal
  v : Fin 64 → Fin 1024 → EReal
  r : Fin 64 → Fin 1024 → EReal

/-- Head `h`'s key column `x`. -/
def hk (h : Fin 4) (x : Fin 128) : Fin 512 := ⟨128 * h.val + x.val, by omega⟩

/-- Head `h`'s value column `x`. -/
def hv (h : Fin 4) (x : Fin 256) : Fin 1024 := ⟨256 * h.val + x.val, by omega⟩

namespace Ck

/-- The running log-decay: the sum of the gates of the rows up to `c`. -/
def b (a : Ck) (c : Fin 64) (d : Fin 512) : EReal := ∑ e with e.val ≤ c.val, gate (a.l e d)

/-- The scaled query under the running decay. -/
def qt (a : Ck) (c : Fin 64) (d : Fin 512) : EReal := a.q c d * Ideal.ofBits .f32 0x3DB504F3#32 * Ideal.exp (a.b c d)

/-- The key over the running decay. -/
def kt (a : Ck) (c : Fin 64) (d : Fin 512) : EReal := a.k c d * Ideal.exp (0 - a.b c d)

/-- The key decayed to the chunk's end. -/
def ke (a : Ck) (c : Fin 64) (d : Fin 512) : EReal := a.k c d * Ideal.exp (a.b 63 d - a.b c d)

/-- Head `h`'s state after the chunk, from the state `S` before it. -/
def next (a : Ck) (h : Fin 4) (S : Fin 128 → Fin 256 → EReal) (x : Fin 128) (y : Fin 256) : EReal :=
  S x y * Ideal.exp (a.b 63 (hk h x)) + ∑ c, a.v c (hv h y) * a.ke c (hk h x)

/-- Head `h`'s mixed value of row `c`: the causal products inside the chunk, and the carried state's part. -/
def mix (a : Ck) (h : Fin 4) (S : Fin 128 → Fin 256 → EReal) (c : Fin 64) (y : Fin 256) : EReal :=
  ∑ e : Fin 64, (if e.val ≤ c.val then (∑ x, a.qt c (hk h x) * a.kt e (hk h x)) * a.v e (hv h y) else 0)
    + ∑ x, a.qt c (hk h x) * S x y

/-- Head `h`'s result of row `c`: the mixed values under the root mean square, the gain and the gated output. -/
def out (a : Ck) (n : Fin 256 → EReal) (h : Fin 4) (S : Fin 128 → Fin 256 → EReal) (c : Fin 64) (y : Fin 256) : EReal :=
  a.mix h S c y * Ideal.rsqrt (Ideal.div (∑ x, a.mix h S c x * a.mix h S c x) (Ideal.ofBits .f32 0x43800000#32)
      + Ideal.ofBits .f32 0x358637BD#32) * n y
    * (a.r c (hv h y) * Ideal.div 1 (1 + Ideal.exp (0 - a.r c (hv h y))))

end Ck

/-- Head `h`'s state after `n` chunks, from zero. -/
def S (ck : ℕ → Ck) (h : Fin 4) : ℕ → Fin 128 → Fin 256 → EReal
  | 0 => fun _ _ => 0
  | n + 1 => (ck n).next h (S ck h n)

/-- Doubling a window's length adds the window that ends where it begins. -/
theorem window_double (f : Fin 64 → EReal) (n : ℕ) (c : Fin 64) :
    (∑ e : Fin 64 with e.val ≤ c.val ∧ c.val < e.val + n, f e)
      + (if h : n ≤ c.val then ∑ e : Fin 64 with e.val ≤ c.val - n ∧ c.val - n < e.val + n, f e else 0)
      = ∑ e : Fin 64 with e.val ≤ c.val ∧ c.val < e.val + 2 * n, f e := by
  by_cases h : n ≤ c.val
  · rw [dif_pos h, ← Finset.sum_union]
    · congr 1
      ext e
      simp only [Finset.mem_union, Finset.mem_filter, Finset.mem_univ, true_and]
      omega
    · rw [Finset.disjoint_left]
      intro e
      simp only [Finset.mem_filter, Finset.mem_univ, true_and]
      omega
  · rw [dif_neg h, add_zero]
    congr 1
    ext e
    simp only [Finset.mem_filter, Finset.mem_univ, true_and]
    omega

/-- The arguments. -/
structure Arr where
  q : (⟨3, ![8, 2048, 512]⟩ : Shape).Idx → EReal
  k : (⟨3, ![8, 2048, 512]⟩ : Shape).Idx → EReal
  v : (⟨3, ![8, 2048, 1024]⟩ : Shape).Idx → EReal
  r : (⟨3, ![8, 2048, 1024]⟩ : Shape).Idx → EReal
  gl : (⟨3, ![8, 2048, 16]⟩ : Shape).Idx → EReal
  w : (⟨2, ![16, 512]⟩ : Shape).Idx → EReal
  bg : (⟨1, ![512]⟩ : Shape).Idx → EReal
  ng : (⟨1, ![256]⟩ : Shape).Idx → EReal

/-- Row `c` of chunk `n`. -/
def row (n : ℕ) (c : Fin 64) : Fin 2048 := ⟨(64 * n + c.val) % 2048, Nat.mod_lt _ (by decide)⟩

namespace Arr

/-- Batch `b`'s chunk `n`. -/
def ck (A : Arr) (b : Fin 8) (n : ℕ) : Ck where
  l c x := ∑ e : Fin 16, A.gl (ix3 b (row n c) e) * A.w (ix2 e x) + A.bg (ix1 x)
  q c x := A.q (ix3 b (row n c) x)
  k c x := A.k (ix3 b (row n c) x)
  v c x := A.v (ix3 b (row n c) x)
  r c x := A.r (ix3 b (row n c) x)

/-- The layer's rows: what the scan leaves at batch `b`, row `t`, head `h`'s value column `y`. -/
def o (A : Arr) (b : Fin 8) (t : Fin 2048) (h : Fin 4) (y : Fin 256) : EReal :=
  (A.ck b (t.val / 64)).out (fun x => A.ng (ix1 x)) h (S (A.ck b) h (t.val / 64)) ⟨t.val % 64, Nat.mod_lt _ (by decide)⟩ y

/-- The state after the last chunk, transposed. -/
def s (A : Arr) (b : Fin 8) (h : Fin 4) (y : Fin 256) (x : Fin 128) : EReal := S (A.ck b) h 32 x y

end Arr

end Cert.Gla
-- ==== Proof.Gla.Body.lean ====
/- The body's functions read at an index over extended reals: a point's chunks compute the chunk formulas. -/
module

public import proofs.«01_k».proof.Proof.Gla.Pieces
public import proofs.«01_k».proof.Proof.Gla.Math
public import Idealize.ShloMosaic.Lib.WordCmp

@[expose] public section
set_option maxRecDepth 16384
noncomputable section
namespace Cert.Gla

open Idealize.ShloMosaic Idealize.ShloMosaic.TcCoe Idealize.ShloMosaic.Tactic
open Cert.KernelIdeal Cert.KernelIdeal.Gen

/-- The gate at an index. -/
theorem decay_apply (x : FVec Ideal S64x512 .f32) (c : Fin 64) (d : Fin 512) : decay x (ix2 c d) = gate (x (ix2 c d)) := by
  unfold decay gate
  pointwise

/-- A doubling at an index. -/
theorem dbl_apply (n : ℕ) (hn : n ≤ 32) (x : FVec Ideal S64x512 .f32) (c : Fin 64) (d : Fin 512) :
    dbl (BitVec.ofNat 32 n) x (ix2 c d) = x (ix2 c d) + if h : n ≤ c.val then x (ix2 ⟨c.val - n, by omega⟩ d) else 0 := by
  unfold dbl
  pointwise
  rw [WordCmp.cmpi_sge_ofNat (by omega) (by omega)]
  congr 1
  by_cases hc : n ≤ c.val
  · rw [dif_pos hc, decide_eq_true hc]
    refine congrArg x (congrArg (fun a => ix2 a d) (Fin.ext ?_))
    show (c.val + 64 - (BitVec.ofNat 32 n).toNat % 64) % 64 = c.val - n
    rw [BitVec.toNat_ofNat]
    omega
  · rw [dif_neg hc, decide_eq_false hc]
    rfl

/-- The running sum at an index. -/
theorem cum_apply (x : FVec Ideal S64x512 .f32) (c : Fin 64) (d : Fin 512) :
    cum x (ix2 c d) = ∑ e : Fin 64 with e.val ≤ c.val, x (ix2 e d) := by
  have step : ∀ (n : ℕ) (hn : n ≤ 32) (y : FVec Ideal S64x512 .f32),
      (∀ c d, y (ix2 c d) = ∑ e : Fin 64 with e.val ≤ c.val ∧ c.val < e.val + n, x (ix2 e d)) →
      ∀ c d, dbl (BitVec.ofNat 32 n) y (ix2 c d) = ∑ e : Fin 64 with e.val ≤ c.val ∧ c.val < e.val + 2 * n, x (ix2 e d) := by
    intro n hn y hy c d
    rw [dbl_apply n hn, ← window_double, hy]
    congr 1
    split
    · rw [hy]
    · rfl
  have h0 : ∀ c d, x (ix2 c d) = ∑ e : Fin 64 with e.val ≤ c.val ∧ c.val < e.val + 1, x (ix2 e d) := by
    intro c d
    rw [show (Finset.univ.filter fun e : Fin 64 => e.val ≤ c.val ∧ c.val < e.val + 1) = {c} by
      ext e; simp only [Finset.mem_filter, Finset.mem_univ, true_and, Finset.mem_singleton, Fin.ext_iff]; omega]
    simp
  have h := step 32 (by omega) _ (step 16 (by omega) _ (step 8 (by omega) _ (step 4 (by omega) _ (step 2 (by omega) _ (step 1 (by omega) _ h0))))) c d
  refine Eq.trans h ?_
  congr 1
  ext e
  simp only [Finset.mem_filter, Finset.mem_univ, true_and]
  omega

/-- The logit at an index. -/
theorem logit_apply (g : Vec Ideal S1x64x128 .f32) (w : Vec Ideal S128x512 .bf16) (b : Vec Ideal S1x512 .f32) (c : Fin 64) (d : Fin 512) :
    logit g w b (ix2 c d) = ∑ x : Fin 128, g (ix3 0 c x) * w (ix2 x d) + b (ix2 0 d) := by
  unfold logit
  pointwise

/-- What a point reads holds the chunks `ck n, ck (n+1), …` and the gain `nm`. -/
structure Rd.Holds (d : Rd Ideal) (ck : ℕ → Ck) (nm : Fin 256 → EReal) (n : ℕ) : Prop where
  l : ∀ (j : Fin 8) c x, ∑ e : Fin 128, d.g j (ix3 0 c e) * d.w (ix2 e x) + d.b (ix2 0 x) = (ck (n + j.val)).l c x
  q : ∀ (j : Fin 8) c x, d.q j (ix3 0 c x) = (ck (n + j.val)).q c x
  k : ∀ (j : Fin 8) c x, d.k j (ix3 0 c x) = (ck (n + j.val)).k c x
  v : ∀ (j : Fin 8) h c x, d.v j h (ix3 0 c x) = (ck (n + j.val)).v c (hv h x)
  r : ∀ (j : Fin 8) h c x, d.r j h (ix3 0 c x) = (ck (n + j.val)).r c (hv h x)
  n : ∀ x, d.n (ix2 0 x) = nm x

variable {d : Rd Ideal} {ck : ℕ → Ck} {nm : Fin 256 → EReal} {n : ℕ} (H : d.Holds ck nm n)
include H

/-- A chunk's running log-decay. -/
theorem Rd.c_apply (j : Fin 8) (c : Fin 64) (x : Fin 512) : d.c j (ix2 c x) = (ck (n + j.val)).b c x := by
  unfold Rd.c cumG
  rw [cum_apply]
  exact Finset.sum_congr rfl fun e _ => by rw [decay_apply, logit_apply, H.l]

theorem Rd.qT_apply (j : Fin 8) (c : Fin 64) (x : Fin 512) : qT (d.c j) (d.q j) (ix2 c x) = (ck (n + j.val)).qt c x := by
  unfold qT Ck.qt
  pointwise
  rw [Rd.c_apply H, H.q]

theorem Rd.kT_apply (j : Fin 8) (c : Fin 64) (x : Fin 512) : kT (d.c j) (d.k j) (ix2 c x) = (ck (n + j.val)).kt c x := by
  unfold kT Ck.kt
  pointwise
  rw [Rd.c_apply H, H.k]

theorem Rd.kE_apply (j : Fin 8) (c : Fin 64) (x : Fin 512) : kE (d.c j) (d.k j) (ix2 c x) = (ck (n + j.val)).ke c x := by
  unfold kE lastRow Ck.ke
  pointwise
  rw [Rd.c_apply H, Rd.c_apply H, H.k]

theorem Rd.vH_apply (j : Fin 8) (h : Fin 4) (c : Fin 64) (x : Fin 256) : vH (d.v j h) (ix2 c x) = (ck (n + j.val)).v c (hv h x) := by
  unfold vH
  pointwise
  rw [H.v]

/-- A head's state after a chunk, transposed. -/
theorem Rd.sH_apply (j : Fin 8) (h : Fin 4) (st : FVec Ideal S256x128 .f32) (S0 : Fin 128 → Fin 256 → EReal)
    (hs : ∀ y x, st (ix2 y x) = S0 x y) (y : Fin 256) (x : Fin 128) :
    sH h (d.c j) (kE (d.c j) (d.k j)) (vH (d.v j h)) st (ix2 y x) = (ck (n + j.val)).next h S0 x y := by
  have e : sH h (d.c j) (kE (d.c j) (d.k j)) (vH (d.v j h)) st (ix2 y x)
      = st (ix2 y x) * Ideal.exp (d.c j (ix2 63 (hk h x))) + ∑ c, vH (d.v j h) (ix2 c y) * kE (d.c j) (d.k j) (ix2 c (hk h x)) := by
    generalize kE (d.c j) (d.k j) = A
    generalize vH (d.v j h) = B
    generalize d.c j = C
    unfold sH lastRow hk
    pointwise
  rw [e, hs, Rd.c_apply H]
  simp only [Rd.vH_apply H, Rd.kE_apply H]
  rfl

/-- A head's state inside a point. -/
theorem Rd.st_apply (h : Fin 4) (st : FVec Ideal S256x128 .f32) (hs : ∀ y x, st (ix2 y x) = S ck h n x y) :
    ∀ (j : ℕ) (_ : j ≤ 8) (y : Fin 256) (x : Fin 128), d.st st h j (ix2 y x) = S ck h (n + j) x y
  | 0, _, y, x => hs y x
  | j + 1, hj, y, x => by
    rw [Rd.st, dif_pos (by omega)]
    exact Rd.sH_apply H ⟨j, by omega⟩ h _ _ (Rd.st_apply h st hs j (by omega)) y x

/-- A head's mixed values. -/
theorem Rd.oH_apply (j : Fin 8) (h : Fin 4) (st : FVec Ideal S256x128 .f32) (S0 : Fin 128 → Fin 256 → EReal)
    (hs : ∀ y x, st (ix2 y x) = S0 x y) (c : Fin 64) (y : Fin 256) :
    oH h (qT (d.c j) (d.q j)) (kT (d.c j) (d.k j)) (vH (d.v j h)) st (ix2 c y) = (ck (n + j.val)).mix h S0 c y := by
  have e : ∀ (q k : FVec Ideal S64x512 .bf16) (v : FVec Ideal S64x256 .bf16), oH h q k v st (ix2 c y)
      = ∑ e : Fin 64, (if e.val ≤ c.val then (∑ x, q (ix2 c (hk h x)) * k (ix2 e (hk h x))) * v (ix2 e y) else 0)
        + ∑ x, q (ix2 c (hk h x)) * st (ix2 y x) := by
    intro q k v
    unfold oH mask hk
    pointwise
    congr 1
    refine Finset.sum_congr rfl fun e _ => ?_
    rw [WordCmp.cmpi_sle_ofNat (by omega) (by omega)]
    by_cases he : e.val ≤ c.val
    · rw [if_pos he, decide_eq_true he]; rfl
    · rw [if_neg he, decide_eq_false he]; rfl
  rw [e]
  simp only [Rd.vH_apply H, Rd.kT_apply H, Rd.qT_apply H, hs]
  rfl

/-- A head's result. -/
theorem Rd.out_apply (j : Fin 8) (h : Fin 4) (st : FVec Ideal S256x128 .f32) (hs : ∀ y x, st (ix2 y x) = S ck h n x y)
    (c : Fin 64) (y : Fin 256) : d.out st j h (ix3 0 c y) = (ck (n + j.val)).out nm h (S ck h (n + j.val)) c y := by
  have e : ∀ (o : FVec Ideal S64x256 .f32) (m : Vec Ideal S1x256 .f32) (r : Vec Ideal S1x64x256 .f32), nH o m r (ix3 0 c y)
      = o (ix2 c y) * Ideal.rsqrt (Ideal.div (∑ x, o (ix2 c x) * o (ix2 c x)) (Ideal.ofBits .f32 0x43800000#32)
      + Ideal.ofBits .f32 0x358637BD#32) * m (ix2 0 y) * (r (ix3 0 c y) * Ideal.div 1 (1 + Ideal.exp (0 - r (ix3 0 c y)))) := by
    intro o m r
    unfold nH
    pointwise
  unfold Rd.out
  rw [e]
  simp only [Rd.oH_apply H j h _ _ (Rd.st_apply H h st hs j.val (by omega)), H.n, H.r]
  rfl

end Cert.Gla
-- ==== Proof.Gla.Points.lean ====
/- What a point leaves, over extended reals: its rows of the layer's output, and the states after its last chunk. -/
module

public import proofs.«01_k».proof.Proof.Gla.Body
public import Idealize.ShloMosaic.Lib.Pipeline.Value
public import Idealize.ShloMosaic.Lib.Pipeline.ValueKit

@[expose] public section
set_option maxRecDepth 16384
noncomputable section
namespace Cert.Gla

open Idealize.ShloMosaic Idealize.ShloMosaic.TcCoe Idealize.ShloMosaic.Tactic
open Cert.KernelIdeal Cert.KernelIdeal.Gen

/-- Pieces that agree with one function where they store, over others: at an index one of them holds, that function. -/
theorem canon_append {Val : EltTy → Type} [∀ e, Nonempty (Val e)] {s : Shape} {e : EltTy} (G : s.Idx → Val e) (L' : List (View.Piece Val s e)) :
    ∀ (L : List (View.Piece Val s e)) (_ : ∀ p ∈ L, ∀ x : p.1.shape.Idx, p.2 x = G (p.1.emb x)) (y : s.Idx)
      (_ : ∃ p ∈ L, y ∈ p.1.set), View.canon (L ++ L') y = G y
  | [], _, _, hy => by obtain ⟨p, hp, _⟩ := hy; exact absurd hp List.not_mem_nil
  | p :: L, hL, y, hy => by
    rw [List.cons_append]
    by_cases hm : y ∈ p.1.set
    · obtain ⟨x, rfl⟩ := p.1.exists_idx_of_mem hm
      exact (View.canon_cons_emb p.1 p.2 (L ++ L') x).trans (hL p List.mem_cons_self x)
    · rw [View.canon_cons_of_not_mem _ _ hm]
      obtain ⟨q, hq, hyq⟩ := hy
      rcases List.mem_cons.mp hq with rfl | hq
      · exact absurd hyq hm
      · exact canon_append G L' L (fun r hr => hL r (List.mem_cons_of_mem _ hr)) y ⟨q, hq, hyq⟩

/-- A read through a whole memref holding `x` is `x` where the read's rectangle places the index. -/
theorem read_whole {s : Shape} {e : EltTy} (M : Memref sig .tc .vmem s e) (hM : M.IsWhole) (r : Rect s) (x : s.Idx → Elt Ideal e)
    (j : r.shape.Idx) (i : s.Idx) (hi : r.emb j = i) : View.readAt (Elt Ideal) M.view r.toLoadRect (hM.unread x) j = x i := by
  rw [View.readAt_eq_ld, hM.read_unread]
  subst hi
  rfl

/-- The stored output pieces read as one block. -/
theorem canon_pcsO (d : Rd Ideal) (s0 : Fin 4 → FVec Ideal S256x128 .f32) (r : Fin 512) (h : Fin 4) (y : Fin 256) :
    View.canon (pcsO d s0) (ix3 0 r (hv h y)) = d.out (s0 h) ⟨r.val / 64, by omega⟩ h (ix3 0 ⟨r.val % 64, by omega⟩ y) := by
  have e := canon_append (Val := Elt Ideal) (fun i : S1x512x1024.Idx => d.out (s0 ⟨(i 2).val / 256, by have := (i 2).isLt; change _ < 1024 at this; omega⟩)
      ⟨(i 1).val / 64, by have := (i 1).isLt; change _ < 512 at this; omega⟩ ⟨(i 2).val / 256, by have := (i 2).isLt; change _ < 1024 at this; omega⟩
      (ix3 0 ⟨(i 1).val % 64, by omega⟩ ⟨(i 2).val % 256, by omega⟩)) [] (pcsO d s0) ?_ (ix3 0 r (hv h y)) ?_
  · rw [List.append_nil] at e
    refine e.trans ?_
    have e2 : (⟨(hv h y).val / 256, by omega⟩ : Fin 4) = h := Fin.ext (by show (256 * h.val + y.val) / 256 = h.val; omega)
    have e3 : (⟨(hv h y).val % 256, by omega⟩ : Fin 256) = y := Fin.ext (by show (256 * h.val + y.val) % 256 = y.val; omega)
    show d.out (s0 ⟨(hv h y).val / 256, _⟩) ⟨r.val / 64, _⟩ ⟨(hv h y).val / 256, _⟩ (ix3 0 ⟨r.val % 64, _⟩ ⟨(hv h y).val % 256, _⟩) = _
    rw [e2, e3]
  · intro p hp x
    obtain ⟨q, _, rfl⟩ := List.mem_map.mp hp
    have x0 : (x 0).val < 1 := (x 0).isLt
    have x1 : (x 1).val < 64 := (x 1).isLt
    have x2 : (x 2).val < 256 := (x 2).isLt
    have key : ∀ (j j' : Fin 8) (g g' : Fin 4) (z z' : S1x64x256.Idx), j = j' → g = g' → z = z' → d.out (s0 g) j g z = d.out (s0 g') j' g' z' := by
      rintro _ _ _ _ _ _ rfl rfl rfl; rfl
    refine key _ _ _ _ _ _ (Fin.ext ?_) (Fin.ext ?_) ?_
    · show q.val / 4 = (64 * (q.val / 4) + 1 * (x 1).val) / 64
      omega
    · show q.val % 4 = (256 * (q.val % 4) + 1 * (x 2).val) / 256
      omega
    · funext a
      apply Fin.ext
      match a with
      | ⟨0, _⟩ => show (x 0).val = 0; omega
      | ⟨1, _⟩ => show (x 1).val = (64 * (q.val / 4) + 1 * (x 1).val) % 64; omega
      | ⟨2, _⟩ => show (x 2).val = (256 * (q.val % 4) + 1 * (x 2).val) % 256; omega
  · refine ⟨_, List.mem_map.mpr ⟨⟨4 * (r.val / 64) + h.val, by omega⟩, List.mem_reverse.mpr (List.mem_finRange _), rfl⟩, ?_⟩
    rw [Rect.mem_set_unit]
    intro a
    match a with
    | ⟨0, _⟩ => show 0 ≤ 0 ∧ 0 < 0 + 1; omega
    | ⟨1, _⟩ => show 64 * ((4 * (r.val / 64) + h.val) / 4) ≤ r.val ∧ r.val < 64 * ((4 * (r.val / 64) + h.val) / 4) + 64; omega
    | ⟨2, _⟩ => show 256 * ((4 * (r.val / 64) + h.val) % 4) ≤ 256 * h.val + y.val ∧ 256 * h.val + y.val < 256 * ((4 * (r.val / 64) + h.val) % 4) + 256; omega

/-- The stored state pieces read as one array, whatever was stored before them. -/
theorem canon_pcsS (d : Rd Ideal) (s0 : Fin 4 → FVec Ideal S256x128 .f32) (L : List (View.Piece (Elt Ideal) S4x256x128 .f32)) (h : Fin 4) (y : Fin 256) (x : Fin 128) :
    View.canon (pcsS d s0 ++ L) (ix3 h y x) = d.st (s0 h) h 8 (ix2 y x) := by
  refine canon_append (Val := Elt Ideal) (fun i : S4x256x128.Idx => d.st (s0 (i 0)) (i 0) 8 (ix2 (i 1) (i 2))) L (pcsS d s0) ?_ (ix3 h y x) ?_
  · intro p hp z
    obtain ⟨g, _, rfl⟩ := List.mem_map.mp hp
    have z0 : (z 0).val < 1 := (z 0).isLt
    have key : ∀ (g g' : Fin 4) (w w' : S256x128.Idx), g = g' → w = w' → d.st (s0 g) g 8 w = d.st (s0 g') g' 8 w' := by
      rintro _ _ _ _ rfl rfl; rfl
    refine Eq.trans (b := d.st (s0 g) g 8 (ix2 (z 1) (z 2))) ?_ (key _ _ _ _ (Fin.ext ?_) ?_)
    · show shapeCast S1x256x128 (d.st (s0 g) g 8) shapeCasts_S256x128_S1x256x128 z = _
      generalize d.st (s0 g) g 8 = f
      pointwise
    · show g.val = g.val + 1 * (z 0).val
      omega
    · funext a
      apply Fin.ext
      match a with
      | ⟨0, _⟩ => show (z 1).val = 0 + 1 * (z 1).val; omega
      | ⟨1, _⟩ => show (z 2).val = 0 + 1 * (z 2).val; omega
  · refine ⟨_, List.mem_map.mpr ⟨h, List.mem_reverse.mpr (List.mem_finRange _), rfl⟩, ?_⟩
    rw [Rect.mem_set_unit]
    intro a
    match a with
    | ⟨0, _⟩ => show h.val ≤ h.val ∧ h.val < h.val + 1; omega
    | ⟨1, _⟩ => show 0 ≤ y.val ∧ y.val < 0 + 256; omega
    | ⟨2, _⟩ => show 0 ≤ x.val ∧ x.val < 0 + 128; omega

/-- A point's reads hold its eight chunks, when its blocks are the batch's rows. -/
theorem rd_holds (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x256 .f32)
    (A : Arr) (b : Fin 8) (p : ℕ) (hp : p < 4)
    (h0 : ∀ (r : Fin 512) x, x0 (ix3 0 r x) = A.q (ix3 b ⟨512 * p + r.val, by omega⟩ x))
    (h1 : ∀ (r : Fin 512) x, x1 (ix3 0 r x) = A.k (ix3 b ⟨512 * p + r.val, by omega⟩ x))
    (h2 : ∀ (r : Fin 512) x, x2 (ix3 0 r x) = A.v (ix3 b ⟨512 * p + r.val, by omega⟩ x))
    (h3 : ∀ (r : Fin 512) x, x3 (ix3 0 r x) = A.r (ix3 b ⟨512 * p + r.val, by omega⟩ x))
    (h4 : ∀ (r : Fin 512) x, ∑ e : Fin 128, x4 (ix3 0 r e) * x5 (ix2 e x) + x6 (ix2 0 x)
      = ∑ e : Fin 16, A.gl (ix3 b ⟨512 * p + r.val, by omega⟩ e) * A.w (ix2 e x) + A.bg (ix1 x))
    (h7 : ∀ x, x7 (ix2 0 x) = A.ng (ix1 x)) :
    (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds (A.ck b) (fun x => A.ng (ix1 x)) (8 * p) := by
  have hrow : ∀ (j : Fin 8) (c : Fin 64), (⟨512 * p + (64 * j.val + c.val), by omega⟩ : Fin 2048) = row (8 * p + j.val) c := fun j c =>
    Fin.ext (by show 512 * p + (64 * j.val + c.val) = (64 * (8 * p + j.val) + c.val) % 2048; omega)
  have rg : ∀ j c x, (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).g j (ix3 0 c x) = x4 (ix3 0 ⟨64 * j.val + c.val, by omega⟩ x) := fun j c x => by
    refine read_whole arg6 harg6 _ x4 _ _ (funext fun a => Fin.ext ?_)
    match a with
    | ⟨0, _⟩ => rfl
    | ⟨1, _⟩ => show 64 * j.val + 1 * c.val = 64 * j.val + c.val; omega
    | ⟨2, _⟩ => show 0 + 1 * x.val = x.val; omega
  have rw' : ∀ e x, (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).w (ix2 e x) = x5 (ix2 e x) := fun e x => by
    refine read_whole arg7 harg7 _ x5 _ _ (funext fun a => Fin.ext ?_)
    match a with
    | ⟨0, _⟩ => show 0 + 1 * e.val = e.val; omega
    | ⟨1, _⟩ => show 0 + 1 * x.val = x.val; omega
  have rb : ∀ x, (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).b (ix2 0 x) = x6 (ix2 0 x) := fun x => by
    refine read_whole arg8 harg8 _ x6 _ _ (funext fun a => Fin.ext ?_)
    match a with
    | ⟨0, _⟩ => rfl
    | ⟨1, _⟩ => show 0 + 1 * x.val = x.val; omega
  refine ⟨fun j c x => ?_, fun j c x => ?_, fun j c x => ?_, fun j h c x => ?_, fun j h c x => ?_, fun x => ?_⟩
  · simp only [rg, rw', rb]
    rw [h4]
    show _ = ∑ e : Fin 16, A.gl (ix3 b (row (8 * p + j.val) c) e) * A.w (ix2 e x) + A.bg (ix1 x)
    rw [← hrow]
  · show _ = A.q (ix3 b (row (8 * p + j.val) c) x)
    rw [← hrow, ← h0 ⟨64 * j.val + c.val, by omega⟩]
    refine read_whole arg2 harg2 _ x0 _ _ (funext fun a => Fin.ext ?_)
    match a with
    | ⟨0, _⟩ => rfl
    | ⟨1, _⟩ => show 64 * j.val + 1 * c.val = 64 * j.val + c.val; omega
    | ⟨2, _⟩ => show 0 + 1 * x.val = x.val; omega
  · show _ = A.k (ix3 b (row (8 * p + j.val) c) x)
    rw [← hrow, ← h1 ⟨64 * j.val + c.val, by omega⟩]
    refine read_whole arg3 harg3 _ x1 _ _ (funext fun a => Fin.ext ?_)
    match a with
    | ⟨0, _⟩ => rfl
    | ⟨1, _⟩ => show 64 * j.val + 1 * c.val = 64 * j.val + c.val; omega
    | ⟨2, _⟩ => show 0 + 1 * x.val = x.val; omega
  · show _ = A.v (ix3 b (row (8 * p + j.val) c) (hv h x))
    rw [← hrow, ← h2 ⟨64 * j.val + c.val, by omega⟩]
    refine read_whole arg4 harg4 _ x2 _ _ (funext fun a => Fin.ext ?_)
    match a with
    | ⟨0, _⟩ => rfl
    | ⟨1, _⟩ => show 64 * j.val + 1 * c.val = 64 * j.val + c.val; omega
    | ⟨2, _⟩ => show 256 * h.val + 1 * x.val = 256 * h.val + x.val; omega
  · show _ = A.r (ix3 b (row (8 * p + j.val) c) (hv h x))
    rw [← hrow, ← h3 ⟨64 * j.val + c.val, by omega⟩]
    refine read_whole arg5 harg5 _ x3 _ _ (funext fun a => Fin.ext ?_)
    match a with
    | ⟨0, _⟩ => rfl
    | ⟨1, _⟩ => show 64 * j.val + 1 * c.val = 64 * j.val + c.val; omega
    | ⟨2, _⟩ => show 256 * h.val + 1 * x.val = 256 * h.val + x.val; omega
  · show _ = A.ng (ix1 x)
    rw [← h7]
    refine read_whole arg9 harg9 _ x7 _ _ (funext fun a => Fin.ext ?_)
    match a with
    | ⟨0, _⟩ => rfl
    | ⟨1, _⟩ => show 0 + 1 * x.val = x.val; omega

/-- A point's output rows from its reads and the states before it. -/
theorem block_o {d : Rd Ideal} {A : Arr} {b : Fin 8} {p : ℕ} (hp : p < 4) (H : d.Holds (A.ck b) (fun x => A.ng (ix1 x)) (8 * p))
    (s0 : Fin 4 → FVec Ideal S256x128 .f32) (hs : ∀ h y x, s0 h (ix2 y x) = S (A.ck b) h (8 * p) x y)
    (r : Fin 512) (h : Fin 4) (y : Fin 256) :
    View.canon (pcsO d s0) (ix3 0 r (hv h y)) = A.o b ⟨512 * p + r.val, by omega⟩ h y := by
  rw [canon_pcsO, Rd.out_apply H _ _ _ (hs h)]
  have e1 : (512 * p + r.val) / 64 = 8 * p + r.val / 64 := by omega
  have e2 : (⟨(512 * p + r.val) % 64, Nat.mod_lt _ (by decide)⟩ : Fin 64) = ⟨r.val % 64, by omega⟩ := Fin.ext (by show (512 * p + r.val) % 64 = r.val % 64; omega)
  unfold Arr.o
  show _ = (A.ck b ((512 * p + r.val) / 64)).out _ h (S (A.ck b) h ((512 * p + r.val) / 64)) ⟨(512 * p + r.val) % 64, _⟩ y
  rw [e1, e2]

/-- A point's states after its last chunk. -/
theorem block_s {d : Rd Ideal} {A : Arr} {b : Fin 8} {p : ℕ} (H : d.Holds (A.ck b) (fun x => A.ng (ix1 x)) (8 * p))
    (s0 : Fin 4 → FVec Ideal S256x128 .f32) (hs : ∀ h y x, s0 h (ix2 y x) = S (A.ck b) h (8 * p) x y)
    (L : List (View.Piece (Elt Ideal) S4x256x128 .f32)) (h : Fin 4) (y : Fin 256) (x : Fin 128) :
    View.canon (pcsS d s0 ++ L) (ix3 h y x) = S (A.ck b) h (8 * p + 8) x y := by
  rw [canon_pcsS, Rd.st_apply H h _ (hs h) 8 (by omega)]

theorem block_s' {d : Rd Ideal} {A : Arr} {b : Fin 8} {p : ℕ} (H : d.Holds (A.ck b) (fun x => A.ng (ix1 x)) (8 * p))
    (s0 : Fin 4 → FVec Ideal S256x128 .f32) (hs : ∀ h y x, s0 h (ix2 y x) = S (A.ck b) h (8 * p) x y)
    (h : Fin 4) (y : Fin 256) (x : Fin 128) :
    View.canon (pcsS d s0) (ix3 h y x) = S (A.ck b) h (8 * p + 8) x y := by
  rw [← block_s H s0 hs [] h y x, List.append_nil]

/-- A head of a state array read through its own slice. -/
theorem head_read (f : Vec Ideal S4x256x128 .f32) (h : Fin 4) (y : Fin 256) (x : Fin 128) :
    shapeCast S256x128 (View.ld f (Rect.unit (s := S4x256x128) ![h.val, 0, 0] S1x256x128.size (inbS h))) shapeCasts_S1x256x128_S256x128 (ix2 y x) = f (ix3 h y x) := by
  have e : ∀ g : Vec Ideal S1x256x128 .f32, shapeCast S256x128 g shapeCasts_S1x256x128_S256x128 (ix2 y x) = g (ix3 0 y x) := by
    intro g; pointwise
  refine (e _).trans (congrArg f (funext fun a => Fin.ext ?_))
  match a with
  | ⟨0, _⟩ => show h.val + 1 * 0 = h.val; omega
  | ⟨1, _⟩ => show 0 + 1 * y.val = y.val; omega
  | ⟨2, _⟩ => show 0 + 1 * x.val = x.val; omega

/-- The rows a batch's first point leaves. -/
theorem out_A (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : cond0_0 i) (hc1 : ¬cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x256 .f32) (x8 : Vec Ideal S1x4x256x128 .f32)
    (A : Arr) (b : Fin 8)  (hz : ∀ i, x8 i = 0)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds (A.ck b) (fun x => A.ng (ix1 x)) (8 * 0))
    (r : Fin 512) (h : Fin 4) (y : Fin 256) :
    out0_A_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix3 0 r (hv h y)) = A.o b ⟨512 * 0 + r.val, by omega⟩ h y := by
  unfold out0_A_9
  rw [View.read_writes_junk_eq_canon, pcs_A_9]
  exact block_o (by omega) H _ (fun h y x => by
    rw [View.readCov_eq_canon']
    refine (head_read _ h y x).trans ?_
    rw [View.canon_unit_zero (by decide)]
    show k0_pay2 _ (ix3 h y x) = 0
    unfold k0_pay2
    pointwise
    show View.ld ((arg10.view).read (Elt Ideal) (harg10.unread x8)) _ _ = 0
    rw [harg10.read_unread]
    exact hz _) r h y

/-- The states a batch's first point leaves. -/
theorem sout_A (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : cond0_0 i) (hc1 : ¬cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x256 .f32) (x8 : Vec Ideal S1x4x256x128 .f32)
    (A : Arr) (b : Fin 8)  (hz : ∀ i, x8 i = 0)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds (A.ck b) (fun x => A.ng (ix1 x)) (8 * 0))
    (h : Fin 4) (y : Fin 256) (x : Fin 128) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix3 h y x) = S (A.ck b) h (8 * 0 + 8) x y := by
  unfold sout0_A_0
  rw [View.read_writes_junk_eq_canon, pcs_A_s]
  exact block_s H _ (fun h y x => by
    rw [View.readCov_eq_canon']
    refine (head_read _ h y x).trans ?_
    rw [View.canon_unit_zero (by decide)]
    show k0_pay2 _ (ix3 h y x) = 0
    unfold k0_pay2
    pointwise
    show View.ld ((arg10.view).read (Elt Ideal) (harg10.unread x8)) _ _ = 0
    rw [harg10.read_unread]
    exact hz _) _ h y x

/-- The rows a batch's middle point leaves. -/
theorem out_B (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : ¬cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x256 .f32) (x8 : Vec Ideal S1x4x256x128 .f32) (xs0 : Vec Ideal S4x256x128 .f32)
    (A : Arr) (b : Fin 8) (p : ℕ) (hp : p < 4) (hst : ∀ h y x, xs0 (ix3 h y x) = S (A.ck b) h (8 * p) x y)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds (A.ck b) (fun x => A.ng (ix1 x)) (8 * p))
    (r : Fin 512) (h : Fin 4) (y : Fin 256) :
    out0_B_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix3 0 r (hv h y)) = A.o b ⟨512 * p + r.val, by omega⟩ h y := by
  unfold out0_B_9
  rw [View.read_writes_junk_eq_canon, pcs_B_9]
  exact block_o hp H _ (fun h y x => by
    refine Eq.trans ?_ (hst h y x)
    refine (head_read _ h y x).trans ?_
    rw [harg13.read_unread]) r h y

/-- The states a batch's middle point leaves. -/
theorem sout_B (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : ¬cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x256 .f32) (x8 : Vec Ideal S1x4x256x128 .f32) (xs0 : Vec Ideal S4x256x128 .f32)
    (A : Arr) (b : Fin 8) (p : ℕ) (hp : p < 4) (hst : ∀ h y x, xs0 (ix3 h y x) = S (A.ck b) h (8 * p) x y)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds (A.ck b) (fun x => A.ng (ix1 x)) (8 * p))
    (h : Fin 4) (y : Fin 256) (x : Fin 128) :
    sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix3 h y x) = S (A.ck b) h (8 * p + 8) x y := by
  unfold sout0_B_0
  rw [View.read_writes_junk_eq_canon, pcs_B_s]
  rw [← List.append_nil (pcsS _ _)]
  exact block_s H _ (fun h y x => by
    refine Eq.trans ?_ (hst h y x)
    refine (head_read _ h y x).trans ?_
    rw [harg13.read_unread]) _ h y x

/-- The rows a batch's last point leaves. -/
theorem out_C (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x256 .f32) (x8 : Vec Ideal S1x4x256x128 .f32) (xs0 : Vec Ideal S4x256x128 .f32)
    (A : Arr) (b : Fin 8) (p : ℕ) (hp : p < 4) (hst : ∀ h y x, xs0 (ix3 h y x) = S (A.ck b) h (8 * p) x y)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds (A.ck b) (fun x => A.ng (ix1 x)) (8 * p))
    (r : Fin 512) (h : Fin 4) (y : Fin 256) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix3 0 r (hv h y)) = A.o b ⟨512 * p + r.val, by omega⟩ h y := by
  unfold out0_C_9
  rw [View.read_writes_junk_eq_canon, pcs_C_9]
  exact block_o hp H _ (fun h y x => by
    refine Eq.trans ?_ (hst h y x)
    refine (head_read _ h y x).trans ?_
    rw [harg13.read_unread]) r h y

/-- The states a batch's last point leaves. -/
theorem sout_C (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x256 .f32) (x8 : Vec Ideal S1x4x256x128 .f32) (xs0 : Vec Ideal S4x256x128 .f32)
    (A : Arr) (b : Fin 8) (p : ℕ) (hp : p < 4) (hst : ∀ h y x, xs0 (ix3 h y x) = S (A.ck b) h (8 * p) x y)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds (A.ck b) (fun x => A.ng (ix1 x)) (8 * p))
    (h : Fin 4) (y : Fin 256) (x : Fin 128) :
    sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix3 h y x) = S (A.ck b) h (8 * p + 8) x y := by
  unfold sout0_C_0
  rw [View.read_writes_junk_eq_canon, pcs_C_s]
  rw [← List.append_nil (pcsS _ _)]
  exact block_s H _ (fun h y x => by
    refine Eq.trans ?_ (hst h y x)
    refine (head_read _ h y x).trans ?_
    rw [harg13.read_unread]) _ h y x

/-- The state result a batch's last point leaves. -/
theorem fin_C (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x512x1024 .bf16) (harg11 : arg11.IsWhole) (arg12 : Memref sig .tc .vmem S1x4x256x128 .f32) (harg12 : arg12.IsWhole) (arg13 : Memref sig .tc .vmem S4x256x128 .f32) (harg13 : arg13.IsWhole) (hc0 : ¬cond0_0 i) (hc1 : cond0_1 i)
    (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S128x512 .bf16) (x6 : Vec Ideal S1x512 .f32) (x7 : Vec Ideal S1x256 .f32) (x8 : Vec Ideal S1x4x256x128 .f32) (xs0 : Vec Ideal S4x256x128 .f32)
    (A : Arr) (b : Fin 8) (p : ℕ) (hp : p < 4) (hst : ∀ h y x, xs0 (ix3 h y x) = S (A.ck b) h (8 * p) x y)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds (A.ck b) (fun x => A.ng (ix1 x)) (8 * p))
    (h : Fin 4) (y : Fin 256) (x : Fin 128) :
    out0_C_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 (ix4 0 h y x) = S (A.ck b) h (8 * p + 8) x y := by
  unfold out0_C_10
  rw [View.read_writes_junk_eq_canon, pcs_C_10, View.canon_unit_zero (by decide), View.readCov_eq_canon']
  unfold k0_pay1
  pointwise
  exact block_s' H _ (fun h y x => by
    refine Eq.trans ?_ (hst h y x)
    refine (head_read _ h y x).trans ?_
    rw [harg13.read_unread]) h y x

end Cert.Gla
-- ==== Proof.Gla.Kernel.lean ====
/- The kernel's run over extended reals: the two result arrays hold the layer's rows and last states. -/
module

public import proofs.«01_k».proof.Proof.Gla.Points
public import proofs.«01_k».proof.Proof.Gen.KernelIdeal.Value
public import Idealize.ShloMosaic.Lib.StableHlo.ReadAt
public import Idealize.ShloMosaic.Lib.Claim

@[expose] public section
set_option maxRecDepth 16384
noncomputable section
namespace Cert.Gla

open Idealize.ShloMosaic Idealize.ShloMosaic.TcCoe Idealize.ShloMosaic.Tactic Idealize.SL.Sem
open Cert.KernelIdeal Cert.KernelIdeal.Gen
variable (m : (ℓ : Loc nD τ sig) → Buf (Elt Ideal) ℓ)

/-- The arguments as device `c` holds them. -/
def arr (c : Dev nD) : Arr :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7)⟩

/-- The windows' block indices, by the point. -/
theorem idx_tok : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![0, 0] ∧ win0_6.index t = ![0, 0] ∧ win0_7.index t = ![0, 0] ∧ win0_8.index t = ![t.val / 4, 0, 0, 0]
    ∧ win0_9.index t = ![t.val / 4, t.val % 4, 0] ∧ win0_10.index t = ![t.val / 4, 0, 0, 0] := by decide +kernel

/-- The grid's points number 32. -/
theorem lt32 (t : Fin cfg0.N) : t.val < 32 := lt_of_lt_of_eq t.isLt N_0

theorem blk_q (c : Dev nD) (t : Fin cfg0.N) (r : Fin 512) (x : Fin 512) :
    iblk m c 0 t (ix3 0 r x) = (arr m c).q (ix3 ⟨t.val / 4, by have := lt32 t; omega⟩ ⟨512 * (t.val % 4) + r.val, by omega⟩ x) := by
  unfold arr
  have := lt32 t
  blk_ext [iblk, V_main_arg0, (idx_tok t).1]

theorem blk_k (c : Dev nD) (t : Fin cfg0.N) (r : Fin 512) (x : Fin 512) :
    iblk m c 1 t (ix3 0 r x) = (arr m c).k (ix3 ⟨t.val / 4, by have := lt32 t; omega⟩ ⟨512 * (t.val % 4) + r.val, by omega⟩ x) := by
  unfold arr
  have := lt32 t
  blk_ext [iblk, V_main_arg1, (idx_tok t).2.1]

theorem blk_v (c : Dev nD) (t : Fin cfg0.N) (r : Fin 512) (x : Fin 1024) :
    iblk m c 2 t (ix3 0 r x) = (arr m c).v (ix3 ⟨t.val / 4, by have := lt32 t; omega⟩ ⟨512 * (t.val % 4) + r.val, by omega⟩ x) := by
  unfold arr
  have := lt32 t
  blk_ext [iblk, V_main_arg2, (idx_tok t).2.2.1]

theorem blk_r (c : Dev nD) (t : Fin cfg0.N) (r : Fin 512) (x : Fin 1024) :
    iblk m c 3 t (ix3 0 r x) = (arr m c).r (ix3 ⟨t.val / 4, by have := lt32 t; omega⟩ ⟨512 * (t.val % 4) + r.val, by omega⟩ x) := by
  unfold arr
  have := lt32 t
  blk_ext [iblk, V_main_arg3, (idx_tok t).2.2.2.1]

/-- The rows of the padded low-rank input, the padded weight, the bias and the zero state a point reads. -/
abbrev inG (c : Dev nD) (t : Fin cfg0.N) : S1x512x128.Idx → EReal := iblk m c 4 t
@[inherit_doc inG] abbrev inW (c : Dev nD) (t : Fin cfg0.N) : S128x512.Idx → EReal := iblk m c 5 t
@[inherit_doc inG] abbrev inB (c : Dev nD) (t : Fin cfg0.N) : S1x512.Idx → EReal := iblk m c 6 t
@[inherit_doc inG] abbrev inS (c : Dev nD) (t : Fin cfg0.N) : S1x4x256x128.Idx → EReal := iblk m c 8 t
@[inherit_doc inG] abbrev zeroS (c : Dev nD) : S8x4x256x128.Idx → EReal := V m c main_v3

/-- The padded low-rank rows. -/
theorem V_g (c : Dev nD) (i : S8x2048x128.Idx) : (V m c main_v0 : S8x2048x128.Idx → EReal) i
    = if h : (i 2).val < 16 then (arr m c).gl (ix3 (i 0) (i 1) ⟨(i 2).val, h⟩) else FloatOps.sitofp (F := Ideal) .f32 0#32 := by
  unfold V arr
  after_reads_at

/-- The padded gate weight. -/
theorem V_w (c : Dev nD) (i : S128x512.Idx) : (V m c main_v2 : S128x512.Idx → EReal) i
    = if h : (i 0).val < 16 then (arr m c).w (ix2 ⟨(i 0).val, h⟩ (i 1)) else FloatOps.sitofp (F := Ideal) .f32 0#32 := by
  unfold V arr
  after_reads_at

theorem V_b (c : Dev nD) (i : S1x512.Idx) : (V m c main_v4 : S1x512.Idx → EReal) i = (arr m c).bg (ix1 (i 1)) := by
  unfold V arr
  after_reads_at

theorem V_n (c : Dev nD) (i : S1x256.Idx) : (V m c main_v5 : S1x256.Idx → EReal) i = (arr m c).ng (ix1 (i 1)) := by
  unfold V arr
  after_reads_at

theorem V_s (c : Dev nD) (i : S8x4x256x128.Idx) : zeroS m c i = 0 := by
  unfold zeroS V
  after_reads_at

theorem blk_g (c : Dev nD) (t : Fin cfg0.N) (r : Fin 512) (x : Fin 128) :
    inG m c t (ix3 0 r x) = (V m c main_v0 : S8x2048x128.Idx → EReal) (ix3 ⟨t.val / 4, by have := lt32 t; omega⟩ ⟨512 * (t.val % 4) + r.val, by omega⟩ x) := by
  have := lt32 t
  blk_ext [iblk, (idx_tok t).2.2.2.2.1]

theorem blk_w (c : Dev nD) (t : Fin cfg0.N) (e : Fin 128) (x : Fin 512) : inW m c t (ix2 e x) = (V m c main_v2 : S128x512.Idx → EReal) (ix2 e x) := by
  blk_ext [iblk, (idx_tok t).2.2.2.2.2.1]

theorem blk_b (c : Dev nD) (t : Fin cfg0.N) (x : Fin 512) : inB m c t (ix2 0 x) = (V m c main_v4 : S1x512.Idx → EReal) (ix2 0 x) := by
  blk_ext [iblk, (idx_tok t).2.2.2.2.2.2.1]

theorem blk_n (c : Dev nD) (t : Fin cfg0.N) (x : Fin 256) : iblk m c 7 t (ix2 0 x) = (V m c main_v5 : S1x256.Idx → EReal) (ix2 0 x) := by
  blk_ext [iblk, (idx_tok t).2.2.2.2.2.2.2.1]

theorem blk_s (c : Dev nD) (t : Fin cfg0.N) (i : S1x4x256x128.Idx) : inS m c t i = 0 := by
  show zeroS m c _ = 0
  exact V_s m c _

/-- The padded lanes add nothing to a logit. -/
theorem blk_logit (c : Dev nD) (t : Fin cfg0.N) (r : Fin 512) (x : Fin 512) :
    ∑ e : Fin 128, inG m c t (ix3 0 r e) * inW m c t (ix2 e x) + inB m c t (ix2 0 x)
      = ∑ e : Fin 16, (arr m c).gl (ix3 ⟨t.val / 4, by have := lt32 t; omega⟩ ⟨512 * (t.val % 4) + r.val, by omega⟩ e) * (arr m c).w (ix2 e x) + (arr m c).bg (ix1 x) := by
  rw [blk_b, V_b, Fin.sum_univ_two_halves 16 112 rfl]
  have e1 : ∀ k : Fin 16, inG m c t (ix3 0 r (⟨k.val, by omega⟩ : Fin 128)) * inW m c t (ix2 (⟨k.val, by omega⟩ : Fin 128) x)
      = (arr m c).gl (ix3 ⟨t.val / 4, by have := lt32 t; omega⟩ ⟨512 * (t.val % 4) + r.val, by omega⟩ k) * (arr m c).w (ix2 k x) := by
    intro k
    rw [blk_g, blk_w, V_g, V_w]
    show (if h : k.val < 16 then _ else _) * (if h : k.val < 16 then _ else _) = _
    rw [dif_pos k.isLt, dif_pos k.isLt]
    rfl
  have e2 : ∀ k : Fin 112, inG m c t (ix3 0 r (⟨16 + k.val, by omega⟩ : Fin 128)) * inW m c t (ix2 (⟨16 + k.val, by omega⟩ : Fin 128) x) = 0 := by
    intro k
    rw [blk_g, V_g]
    show (if h : 16 + k.val < 16 then _ else _) * _ = _
    rw [dif_neg (by omega)]
    have : FloatOps.sitofp (F := Ideal) .f32 0#32 = (0 : EReal) := by
      show (((0#32 : BitVec 32).toInt : ℝ) : EReal) = 0
      simp
    rw [this, zero_mul]
  rw [Finset.sum_congr rfl fun k _ => e1 k, Finset.sum_congr rfl fun k _ => e2 k, Finset.sum_const_zero, add_zero]
  rfl

/-- What point `t` reads holds its batch's eight chunks. -/
theorem holds_at (c : Dev nD) (t : Fin cfg0.N) :
    (rd (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t)).Holds ((arr m c).ck ⟨t.val / 4, by have := lt32 t; omega⟩) (fun x => (arr m c).ng (ix1 x)) (8 * (t.val % 4)) := by
  have := lt32 t
  refine rd_holds _ _ _ _ _ _ _ _ _ _ _ _ _ _ _ _ _ _ _ _ _ _ _ _ _ _ _ _ _ _ _ _ _ ⟨t.val / 4, by omega⟩ (t.val % 4) (by omega)
    (fun r x => blk_q m c t r x) (fun r x => blk_k m c t r x) (fun r x => blk_v m c t r x) (fun r x => blk_r m c t r x)
    (fun r x => blk_logit m c t r x) (fun x => (blk_n m c t x).trans (V_n m c _))

/-- What is to hold after a point: its rows of the output, the states up to its last chunk, and at a batch's last point the state result. -/
def Good (c : Dev nD) (t : Fin cfg0.N) (o : S1x512x1024.Idx → EReal) (f : S1x4x256x128.Idx → EReal) (s : S4x256x128.Idx → EReal) : Prop :=
  (∀ (r : Fin 512) (h : Fin 4) (y : Fin 256), o (ix3 0 r (hv h y))
      = (arr m c).o ⟨t.val / 4, by have := lt32 t; omega⟩ ⟨512 * (t.val % 4) + r.val, by omega⟩ h y)
    ∧ (∀ (h : Fin 4) (y : Fin 256) (x : Fin 128), s (ix3 h y x)
      = S ((arr m c).ck ⟨t.val / 4, by have := lt32 t; omega⟩) h (8 * (t.val % 4) + 8) x y)
    ∧ (t.val % 4 = 3 → ∀ (h : Fin 4) (y : Fin 256) (x : Fin 128), f (ix4 0 h y x)
      = S ((arr m c).ck ⟨t.val / 4, by have := lt32 t; omega⟩) h 32 x y)

/-- A batch's first point. -/
theorem good_A (c : Dev nD) (t : Fin cfg0.N) (h0 : t.val % 4 = 0) (h1 : ¬t.val % 4 = 3) :
    Good m c t (outsAt0 m c t.val t.isLt).1 (outsAt0 m c t.val t.isLt).2.1 (outsAt0 m c t.val t.isLt).2.2 := by
  have H := holds_at m c t
  rw [outsAt0_A m c t h0 h1]
  unfold Good
  simp only [h0] at H ⊢
  exact ⟨fun r h y => out_A _ _ _ _ _ _ _ _ _ _ _ _ _ _ _ _ _ _ _ _ _ _ _ _ _ _ _ _ _ _ _ _ _ _ _ _ _ (arr m c) _ (fun i => blk_s m c t i) H r h y,
    fun h y x => sout_A _ _ _ _ _ _ _ _ _ _ _ _ _ _ _ _ _ _ _ _ _ _ _ _ _ _ _ _ _ _ _ _ _ _ _ _ _ (arr m c) _ (fun i => blk_s m c t i) H h y x,
    fun h => absurd h (by decide)⟩

/-- A point between. -/
theorem good_B (c : Dev nD) (t : Fin cfg0.N) (h0 : ¬t.val % 4 = 0) (h1 : ¬t.val % 4 = 3)
    (hst : ∀ (h : Fin 4) (y : Fin 256) (x : Fin 128), (outsAt0 m c (t.val - 1) (by have := t.isLt; omega)).2.2 (ix3 h y x)
      = S ((arr m c).ck ⟨t.val / 4, by have := lt32 t; omega⟩) h (8 * (t.val % 4)) x y) :
    Good m c t (outsAt0 m c t.val t.isLt).1 (outsAt0 m c t.val t.isLt).2.1 (outsAt0 m c t.val t.isLt).2.2 := by
  have H := holds_at m c t
  rw [outsAt0_B m c t h0 h1]
  unfold Good
  dsimp only
  refine ⟨fun r h y => out_B _ _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) hst H r h y,
    fun h y x => sout_B _ _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) hst H h y x,
    fun h => absurd h h1⟩

/-- A batch's last point. -/
theorem good_C (c : Dev nD) (t : Fin cfg0.N) (h0 : ¬t.val % 4 = 0) (h1 : t.val % 4 = 3)
    (hst : ∀ (h : Fin 4) (y : Fin 256) (x : Fin 128), (outsAt0 m c (t.val - 1) (by have := t.isLt; omega)).2.2 (ix3 h y x)
      = S ((arr m c).ck ⟨t.val / 4, by have := lt32 t; omega⟩) h (8 * (t.val % 4)) x y) :
    Good m c t (outsAt0 m c t.val t.isLt).1 (outsAt0 m c t.val t.isLt).2.1 (outsAt0 m c t.val t.isLt).2.2 := by
  have H := holds_at m c t
  rw [outsAt0_C m c t h0 h1]
  unfold Good
  dsimp only
  refine ⟨fun r h y => out_C _ _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) hst H r h y,
    fun h y x => sout_C _ _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) hst H h y x,
    fun _ h y x => (fin_C _ _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) hst H h y x).trans ?_⟩
  show S _ h (8 * (t.val % 4) + 8) x y = _
  rw [h1]

/-- Every point, by what the point before it carried. -/
theorem good_at (c : Dev nD) : ∀ (n : ℕ) (hn : n < cfg0.N), Good m c ⟨n, hn⟩ (outsAt0 m c n hn).1 (outsAt0 m c n hn).2.1 (outsAt0 m c n hn).2.2 := by
  intro n
  induction n with
  | zero => exact fun hn => good_A m c ⟨0, hn⟩ (Nat.zero_mod 4) (by show ¬0 % 4 = 3; decide)
  | succ n ih =>
    intro hn
    by_cases h0 : (n + 1) % 4 = 0
    · exact good_A m c ⟨n + 1, hn⟩ h0 (by show ¬(n + 1) % 4 = 3; omega)
    · have hs : ∀ (h : Fin 4) (y : Fin 256) (x : Fin 128), (outsAt0 m c n (Nat.lt_of_succ_lt hn)).2.2 (ix3 h y x)
          = S ((arr m c).ck ⟨(n + 1) / 4, by have := lt32 ⟨n + 1, hn⟩; simp only at this; omega⟩) h (8 * ((n + 1) % 4)) x y := fun h y x => by
        rw [(ih (Nat.lt_of_succ_lt hn)).2.1 h y x, show 8 * ((n + 1) % 4) = 8 * (n % 4) + 8 by omega]
        simp only [show (n + 1) / 4 = n / 4 by omega]
      by_cases h1 : (n + 1) % 4 = 3
      · exact good_C m c ⟨n + 1, hn⟩ h0 h1 hs
      · exact good_B m c ⟨n + 1, hn⟩ h0 h1 hs

/-- The output array after the run. -/
theorem arr9 (c : Dev nD) : (dats m 0 c).arrAt 9 (cfgs 0).N = fun i : S8x2048x1024.Idx =>
    (arr m c).o (i 0) (i 1) ⟨(i 2).val / 256, by have h := (i 2).isLt; change _ < 1024 at h; omega⟩ ⟨(i 2).val % 256, Nat.mod_lt _ (by decide)⟩ := by
  refine (dats m 0 c).arrAt_eq_of_covers 9 _ (by decide +kernel) fun t hf y => ?_
  blk_simp
  rw [after0_9]
  have y0 : (y 0).val < 1 := (y 0).isLt
  have y1 : (y 1).val < 512 := (y 1).isLt
  have y2 : (y 2).val < 1024 := (y 2).isLt
  have hy : y = (ix3 0 (⟨(y 1).val, y1⟩ : Fin 512) (hv ⟨(y 2).val / 256, by omega⟩ ⟨(y 2).val % 256, Nat.mod_lt _ (by decide)⟩) : S1x512x1024.Idx) := by
    funext a
    fin_cases a
    · exact Fin.ext (Nat.lt_one_iff.mp y0)
    · rfl
    · exact Fin.ext (by show (y 2).val = 256 * ((y 2).val / 256) + (y 2).val % 256; omega)
  have e0 : ((win0_9.blk t).view.emb y 0).val = t.val / 4 := by blk_simp [(idx_tok t).2.2.2.2.2.2.2.2.2.1] <;> omega
  have e1 : ((win0_9.blk t).view.emb y 1).val = 512 * (t.val % 4) + (y 1).val := by blk_simp [(idx_tok t).2.2.2.2.2.2.2.2.2.1] <;> omega
  have e2 : win0_9.index t 2 * 1024 + (y 2).val = (y 2).val := by rw [(idx_tok t).2.2.2.2.2.2.2.2.2.1]; simp
  refine (congrArg _ hy).trans (((good_at m c t.val t.isLt).1 _ _ _).trans ?_)
  congr 1
  · exact Fin.ext e0.symm
  · exact Fin.ext e1.symm
  · exact Fin.ext (by show (y 2).val / 256 = (win0_9.index t 2 * 1024 + (y 2).val) / 256; rw [e2])
  · exact Fin.ext (by show (y 2).val % 256 = (win0_9.index t 2 * 1024 + (y 2).val) % 256; rw [e2])

/-- The state array after the run. -/
theorem arr10 (c : Dev nD) : (dats m 0 c).arrAt 10 (cfgs 0).N = fun i : S8x4x256x128.Idx => (arr m c).s (i 0) (i 1) (i 2) (i 3) := by
  refine (dats m 0 c).arrAt_eq_of_covers 10 _ (by decide +kernel) fun t hf y => ?_
  have h3 : t.val % 4 = 3 := (by decide +kernel : ∀ t : Fin cfg0.N, (cfg0.win 10).flush t = true → t.val % 4 = 3) t hf
  blk_simp
  rw [after0_10]
  have y0 : (y 0).val < 1 := (y 0).isLt
  have hy : y = (ix4 0 (y 1) (y 2) (y 3) : S1x4x256x128.Idx) := by
    funext a
    fin_cases a
    · exact Fin.ext (Nat.lt_one_iff.mp y0)
    · rfl
    · rfl
    · rfl
  have e0 : ((win0_10.blk t).view.emb y 0).val = t.val / 4 := by blk_simp [(idx_tok t).2.2.2.2.2.2.2.2.2.2] <;> omega
  have e1 : ((win0_10.blk t).view.emb y 1).val = (y 1).val := by blk_simp [(idx_tok t).2.2.2.2.2.2.2.2.2.2] <;> omega
  have e2 : ((win0_10.blk t).view.emb y 2).val = (y 2).val := by blk_simp [(idx_tok t).2.2.2.2.2.2.2.2.2.2] <;> omega
  have e3 : ((win0_10.blk t).view.emb y 3).val = (y 3).val := by blk_simp [(idx_tok t).2.2.2.2.2.2.2.2.2.2] <;> omega
  refine (congrArg _ hy).trans (((good_at m c t.val t.isLt).2.2 h3 _ _ _).trans ?_)
  unfold Arr.s
  congr 1
  · congr 1
    exact Fin.ext e0.symm
  · exact Fin.ext e1.symm
  · exact Fin.ext e3.symm
  · exact Fin.ext e2.symm

end Cert.Gla
-- ==== Proof.Gla.RefStep.lean ====
/- One trip of the reference's loop, over extended reals: chunk `j` of the arrays, in the terms of the chunk mathematics. -/
module

public import proofs.«01_k».proof.Proof.Gla.Math
public import proofs.«01_k».proof.Proof.Gen.ReferenceIdeal.Step
public import Idealize.ShloMosaic.Lib.Pointwise
public import Idealize.ShloMosaic.Lib.WordCmp
public import Idealize.ShloMosaic.Lib.FinSumWindow

@[expose] public section
noncomputable section
namespace Cert.Gla.Ref

open Idealize.ShloMosaic Cert.ReferenceIdeal Cert.ReferenceIdeal.Gen Cert.ReferenceIdeal.Step

/-- The arrays a state carries are the arguments' chunks. -/
structure Rows (A : Arr) (s : State Ideal) : Prop where
  q : ∀ (n : Fin 32) (b : Fin 8) (h : Fin 4) (c : Fin 64) (x : Fin 128),
    s.main_v43_0 (ix5 n b h c x) = (A.ck b n).q c (hk h x) * Ideal.ofBits .f32 0x3DB504F3#32
  k : ∀ (n : Fin 32) (b : Fin 8) (h : Fin 4) (c : Fin 64) (x : Fin 128), s.main_v43_1 (ix5 n b h c x) = (A.ck b n).k c (hk h x)
  v : ∀ (n : Fin 32) (b : Fin 8) (h : Fin 4) (c : Fin 64) (y : Fin 256), s.main_v43_2 (ix5 n b h c y) = (A.ck b n).v c (hv h y)
  g : ∀ (n : Fin 32) (b : Fin 8) (h : Fin 4) (c : Fin 64) (x : Fin 128), s.main_v43_3 (ix5 n b h c x) = gate ((A.ck b n).l c (hk h x))

variable {A : Arr} {s : State Ideal} {j : ℕ}

/-- The starts of the loop's slices. -/
theorem start5 (hj : j < 32) (a : Fin 5) :
    ((![(constantI S_ 32 (BitVec.ofNat 32 j) : S_.Idx → BitVec 32), constantI S_ 32 0#32, constantI S_ 32 0#32, constantI S_ 32 0#32, constantI S_ 32 0#32] : Fin 5 → (S_.Idx → BitVec 32)) a (Shape.Idx.first h_S_)).toInt
      = ((![j, 0, 0, 0, 0] : Fin 5 → ℕ) a : ℤ) := by
  fin_cases a
  · show (BitVec.ofNat 32 j).toInt = (j : ℤ)
    rw [BitVec.toInt_eq_toNat_of_lt (by rw [BitVec.toNat_ofNat]; omega), BitVec.toNat_ofNat]
    omega
  all_goals rfl

/-- Slice `j` of an array of chunks, 128 lanes. -/
theorem slice128 (hj : j < 32) (X : S32x8x4x64x128.Idx → EReal) (b : Fin 8) (h : Fin 4) (c : Fin 64) (x : Fin 128) :
    shapeCast S8x4x64x128 (Host.dynamicSlice S1x8x4x64x128 X (fun k => ((![(constantI S_ 32 (BitVec.ofNat 32 j) : S_.Idx → BitVec 32), constantI S_ 32 0#32, constantI S_ 32 0#32, constantI S_ 32 0#32, constantI S_ 32 0#32] : Fin 5 → (S_.Idx → BitVec 32)) k (Shape.Idx.first h_S_)).toInt) sliceFits_S32x8x4x64x128_S1x8x4x64x128)
      shapeCasts_S1x8x4x64x128_S8x4x64x128 (ix4 b h c x) = X (ix5 ⟨j, hj⟩ b h c x) := by
  rw [WordCmp.dynamicSlice_eq_extract (s := S32x8x4x64x128) S1x8x4x64x128 _ _ _ ![j, 0, 0, 0, 0] ⟨rfl, by intro a; fin_cases a <;> simp <;> omega⟩ (start5 hj)]
  pointwise

/-- Slice `j` of an array of chunks, 256 lanes. -/
theorem slice256 (hj : j < 32) (X : S32x8x4x64x256.Idx → EReal) (b : Fin 8) (h : Fin 4) (c : Fin 64) (x : Fin 256) :
    shapeCast S8x4x64x256 (Host.dynamicSlice S1x8x4x64x256 X (fun k => ((![(constantI S_ 32 (BitVec.ofNat 32 j) : S_.Idx → BitVec 32), constantI S_ 32 0#32, constantI S_ 32 0#32, constantI S_ 32 0#32, constantI S_ 32 0#32] : Fin 5 → (S_.Idx → BitVec 32)) k (Shape.Idx.first h_S_)).toInt) sliceFits_S32x8x4x64x256_S1x8x4x64x256)
      shapeCasts_S1x8x4x64x256_S8x4x64x256 (ix4 b h c x) = X (ix5 ⟨j, hj⟩ b h c x) := by
  rw [WordCmp.dynamicSlice_eq_extract (s := S32x8x4x64x256) S1x8x4x64x256 _ _ _ ![j, 0, 0, 0, 0] ⟨rfl, by intro a; fin_cases a <;> simp <;> omega⟩ (start5 hj)]
  pointwise

theorem b5_at (H : Rows A s) (hj : j < 32) (b : Fin 8) (h : Fin 4) (c : Fin 64) (x : Fin 128) :
    b5 j s (ix4 b h c x) = (A.ck b j).q c (hk h x) * Ideal.ofBits .f32 0x3DB504F3#32 :=
  (slice128 hj _ b h c x).trans (H.q ⟨j, hj⟩ b h c x)

theorem b11_at (H : Rows A s) (hj : j < 32) (b : Fin 8) (h : Fin 4) (c : Fin 64) (x : Fin 128) :
    b11 j s (ix4 b h c x) = (A.ck b j).k c (hk h x) :=
  (slice128 hj _ b h c x).trans (H.k ⟨j, hj⟩ b h c x)

theorem b17_at (H : Rows A s) (hj : j < 32) (b : Fin 8) (h : Fin 4) (c : Fin 64) (y : Fin 256) :
    b17 j s (ix4 b h c y) = (A.ck b j).v c (hv h y) :=
  (slice256 hj _ b h c y).trans (H.v ⟨j, hj⟩ b h c y)

theorem b23_at (H : Rows A s) (hj : j < 32) (b : Fin 8) (h : Fin 4) (c : Fin 64) (x : Fin 128) :
    b23 j s (ix4 b h c x) = gate ((A.ck b j).l c (hk h x)) :=
  (slice128 hj _ b h c x).trans (H.g ⟨j, hj⟩ b h c x)

/-- A left fold of additions is the sum. -/
theorem foldl_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- The window's positions are its third coordinate. -/
theorem window_pos : ∀ n : Fin (⟨4, ![1, 1, 64, 1]⟩ : Shape).numel, ((⟨4, ![1, 1, 64, 1]⟩ : Shape).rowMajor.symm n 0).val = 0
    ∧ ((⟨4, ![1, 1, 64, 1]⟩ : Shape).rowMajor.symm n 1).val = 0 ∧ ((⟨4, ![1, 1, 64, 1]⟩ : Shape).rowMajor.symm n 2).val = n.val
    ∧ ((⟨4, ![1, 1, 64, 1]⟩ : Shape).rowMajor.symm n 3).val = 0 := by decide +kernel

/-- The window of 64 rows that ends at row `c`, the rows before the first being zero, sums the rows up to `c`. -/
theorem window_sum (X : S8x4x64x128.Idx → EReal) (v : S_.Idx → EReal) (hv0 : v (Shape.Idx.first h_S_) = 0) (b : Fin 8) (h : Fin 4) (c : Fin 64) (x : Fin 128) :
    Host.reduceWindowAdd (F := Ideal) (φ := .f32) ![1, 1, 64, 1] ![1, 1, 1, 1] ![0, 0, 63, 0] ![0, 0, 0, 0] X v
      reduceWindows_S8x4x64x128_S8x4x64x128_w1s1p0_0_w1s1p0_0_w64s1p63_0_w1s1p0_0 h_S_ (ix4 b h c x)
      = ∑ e : Fin 64 with e.val ≤ c.val, X (ix4 b h e x) := by
  show Host.reduceWindow (· + ·) ![1, 1, 64, 1] ![1, 1, 1, 1] ![0, 0, 63, 0] ![0, 0, 0, 0] X (fun _ : (⟨0, ![]⟩ : Shape).Idx => v (Shape.Idx.first h_S_))
    reduceWindows_S8x4x64x128_S8x4x64x128_w1s1p0_0_w1s1p0_0_w64s1p63_0_w1s1p0_0 h_S_ (ix4 b h c x) = _
  unfold Host.reduceWindow
  dsimp only
  refine Eq.trans (b := (List.finRange (⟨4, ![1, 1, 64, 1]⟩ : Shape).numel).foldl (fun r n => r + if hn : 63 ≤ c.val + n.val then
    X (ix4 b h ⟨c.val + n.val - 63, by have : n.val < 64 := n.isLt; omega⟩ x) else 0) 0) ?_ ?_
  · rw [hv0]
    congr 1
    funext r n
    congr 1
    obtain ⟨p0, p1, p2, p3⟩ := window_pos n
    have hn : n.val < 64 := n.isLt
    split
    · next hh =>
      rw [dif_pos]
      · refine congrArg X (funext fun a => Fin.ext (Eq.symm ?_))
        fin_cases a
        · show b.val = b.val * 1 + ((⟨4, ![1, 1, 64, 1]⟩ : Shape).rowMajor.symm n 0).val - 0
          omega
        · show h.val = h.val * 1 + ((⟨4, ![1, 1, 64, 1]⟩ : Shape).rowMajor.symm n 1).val - 0
          omega
        · show c.val + n.val - 63 = c.val * 1 + ((⟨4, ![1, 1, 64, 1]⟩ : Shape).rowMajor.symm n 2).val - 63
          omega
        · show x.val = x.val * 1 + ((⟨4, ![1, 1, 64, 1]⟩ : Shape).rowMajor.symm n 3).val - 0
          omega
      · have h2 := hh 2
        change 63 ≤ c.val * 1 + ((⟨4, ![1, 1, 64, 1]⟩ : Shape).rowMajor.symm n 2).val ∧ _ at h2
        omega
    · next hh =>
      rw [dif_neg fun hin => hh ?_]
      intro a
      fin_cases a
      · show 0 ≤ b.val * 1 + ((⟨4, ![1, 1, 64, 1]⟩ : Shape).rowMajor.symm n 0).val ∧ b.val * 1 + ((⟨4, ![1, 1, 64, 1]⟩ : Shape).rowMajor.symm n 0).val - 0 < 8
        omega
      · show 0 ≤ h.val * 1 + ((⟨4, ![1, 1, 64, 1]⟩ : Shape).rowMajor.symm n 1).val ∧ h.val * 1 + ((⟨4, ![1, 1, 64, 1]⟩ : Shape).rowMajor.symm n 1).val - 0 < 4
        omega
      · show 63 ≤ c.val * 1 + ((⟨4, ![1, 1, 64, 1]⟩ : Shape).rowMajor.symm n 2).val ∧ c.val * 1 + ((⟨4, ![1, 1, 64, 1]⟩ : Shape).rowMajor.symm n 2).val - 63 < 64
        omega
      · show 0 ≤ x.val * 1 + ((⟨4, ![1, 1, 64, 1]⟩ : Shape).rowMajor.symm n 3).val ∧ x.val * 1 + ((⟨4, ![1, 1, 64, 1]⟩ : Shape).rowMajor.symm n 3).val - 0 < 128
        omega
  · rw [foldl_sum, zero_add, ← Fin.sum_univ_def]
    show (∑ n : Fin 64, if hn : 63 ≤ c.val + n.val then X (ix4 b h ⟨c.val + n.val - 63, by omega⟩ x) else 0) = _
    rw [Finset.sum_filter]
    refine Finset.sum_nbij' (fun n => ⟨(c.val + n.val + 1) % 64, Nat.mod_lt _ (by decide)⟩) (fun e => ⟨(e.val + 127 - c.val) % 64, Nat.mod_lt _ (by decide)⟩)
      (fun _ _ => Finset.mem_univ _) (fun _ _ => Finset.mem_univ _) (fun n _ => Fin.ext (by show ((c.val + n.val + 1) % 64 + 127 - c.val) % 64 = n.val; omega))
      (fun e _ => Fin.ext (by show (c.val + (e.val + 127 - c.val) % 64 + 1) % 64 = e.val; omega)) fun n _ => ?_
    by_cases hn : 63 ≤ c.val + n.val
    · rw [dif_pos hn, if_pos (by show (c.val + n.val + 1) % 64 ≤ c.val; omega)]
      exact congrArg (fun e => X (ix4 b h e x)) (Fin.ext (by show c.val + n.val - 63 = (c.val + n.val + 1) % 64; omega))
    · rw [dif_neg hn, if_neg (by show ¬(c.val + n.val + 1) % 64 ≤ c.val; omega)]

/-- The running sum. -/
theorem b26_at (H : Rows A s) (hj : j < 32) (b : Fin 8) (h : Fin 4) (c : Fin 64) (x : Fin 128) :
    b26 j s (ix4 b h c x) = (A.ck b j).b c (hk h x) := by
  unfold b26
  rw [window_sum _ _ (by unfold b25 b24; pointwise)]
  exact Finset.sum_congr rfl fun e _ => b23_at H hj b h e x

theorem b27_at (H : Rows A s) (hj : j < 32) (b : Fin 8) (h : Fin 4) (x : Fin 128) :
    b27 j s (ix4 b h 0 x) = (A.ck b j).b 63 (hk h x) := by
  unfold b27
  pointwise
  exact b26_at H hj b h 63 x

theorem b29_at (H : Rows A s) (hj : j < 32) (b : Fin 8) (h : Fin 4) (c : Fin 64) (x : Fin 128) :
    b29 j s (ix4 b h c x) = (A.ck b j).qt c (hk h x) := by
  unfold b29 b28
  pointwise
  rw [b5_at H hj, b26_at H hj]
  rfl

theorem b32_at (H : Rows A s) (hj : j < 32) (b : Fin 8) (h : Fin 4) (c : Fin 64) (x : Fin 128) :
    b32 j s (ix4 b h c x) = (A.ck b j).kt c (hk h x) := by
  unfold b32 b31 b30
  pointwise
  rw [b11_at H hj, b26_at H hj]
  unfold Ck.kt
  rw [zero_sub]

theorem b36_at (H : Rows A s) (hj : j < 32) (b : Fin 8) (h : Fin 4) (c : Fin 64) (x : Fin 128) :
    b36 j s (ix4 b h c x) = (A.ck b j).ke c (hk h x) := by
  unfold b36 b35 b34 b33
  pointwise
  rw [b11_at H hj, b26_at H hj, b27_at H hj]
  rfl

/-- The causal mask. -/
theorem b40_at (b : Fin 8) (h : Fin 4) (c e : Fin 64) : b40 j s (ix4 b h c e) = if e.val ≤ c.val then 1#1 else 0#1 := by
  unfold b40 K_main_v33 K_main_call0_v5 K_main_call0_c_0 K_main_v32 K_main_c K_main_call0_v4 K_main_call0_v3 K_main_call0_v2 K_main_call0_v1 K_main_call0_c K_main_call0_v0
  pointwise
  have hc : BitVec.ofNat 32 c.val + 0#32 = BitVec.ofNat 32 c.val := by simp
  have hcmp : IntOp.cmpi .sge (BitVec.ofNat 32 c.val) (BitVec.ofNat 32 e.val) = BitVec.ofBool (decide (e.val ≤ c.val)) :=
    WordCmp.cmpi_sge_ofNat (by omega) (by omega)
  show Scalar.select (IntOp.cmpi .sge (BitVec.ofNat 32 c.val + 0#32) _) _ _ = _
  rw [hc, hcmp]
  by_cases hh : e.val ≤ c.val
  · rw [if_pos hh, decide_eq_true hh]
    rfl
  · rw [if_neg hh, decide_eq_false hh]
    rfl

/-- The masked products inside the chunk, summed over the value rows. -/
theorem b45_at (H : Rows A s) (hj : j < 32) (b : Fin 8) (h : Fin 4) (c : Fin 64) (y : Fin 256) :
    b45 j s (ix4 b h c y) = (A.ck b j).mix h (fun x y => s.main_v43_6 (ix4 b h x y)) c y := by
  unfold b45 b44 b43 b42 b41 b39 b38 b37
  pointwise
  simp only [b40_at, b29_at H hj, b32_at H hj, b17_at H hj]
  unfold Ck.mix
  congr 1
  refine Finset.sum_congr rfl fun e _ => ?_
  by_cases hh : e.val ≤ c.val
  · rw [if_pos hh, if_pos hh]
    rfl
  · rw [if_neg hh, if_neg hh]
    rfl

theorem b52_at (H : Rows A s) (hj : j < 32) (b : Fin 8) (h : Fin 4) (x : Fin 128) (y : Fin 256) :
    b52 j s (ix4 b h x y) = (A.ck b j).next h (fun x y => s.main_v43_6 (ix4 b h x y)) x y := by
  unfold b52 b51 b50 b49 b48 b47 b46
  pointwise
  simp only [b27_at H hj, b36_at H hj, b17_at H hj]
  unfold Ck.next
  rw [mul_comm (Ideal.exp _)]
  congr 1
  exact Finset.sum_congr rfl fun e _ => mul_comm _ _

end Cert.Gla.Ref
-- ==== Proof.Gla.RefRun.lean ====
/- The reference's run: its results are the two fields of the state after thirty-two trips of the loop. -/
module

public import proofs.«01_k».proof.Proof.Gen.ReferenceIdeal.Run
public import proofs.«01_k».proof.Proof.Gen.ReferenceIdeal.Step

@[expose] public section
noncomputable section
namespace Cert.Gla.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)
variable {F : FTy → Type} [FloatOps F]

/-- A valuation's view before trip `j`: the loop's state `s`, the number `j`, the causal mask. -/
structure At (V : Valuation τ sig (Elt F)) (s : State F) (j : ℕ) : Prop where
  q : V (Proc.devRef .tc main_v43_0) = s.main_v43_0
  k : V (Proc.devRef .tc main_v43_1) = s.main_v43_1
  v : V (Proc.devRef .tc main_v43_2) = s.main_v43_2
  g : V (Proc.devRef .tc main_v43_3) = s.main_v43_3
  st : V (Proc.devRef .tc main_v43_6) = s.main_v43_6
  o : V (Proc.devRef .tc main_v43_7) = s.main_v43_7
  n : V (Proc.devRef .tc main_v43_5) = constantI S_ 32 (BitVec.ofNat 32 j)
  msk : V (Proc.devRef .tc main_v43_4) = Step.K_main_v33 (F := F)

variable {V : Valuation τ sig (Elt F)} {s : State F} {j : ℕ}

set_option maxRecDepth 16384 in
/-- A trip's new recurrent state. -/
theorem At.new_state (h : At V s j) : step_main_v43_6 V = (step j s).main_v43_6 := by
  obtain ⟨sq, sk, sv, sg, ss, so⟩ := s
  obtain ⟨hq, hk, hv, hg, hs, ho, hn, hm⟩ := h
  simp only at hq hk hv hg hs ho
  subst hq hk hv hg hs ho
  simp only [step_main_v43_6, res_main_while0b_v66, res_main_while0b_v67, res_main_while0b_v69, res_main_while0b_v70, hn]
  rfl

set_option maxRecDepth 16384 in
/-- A trip's output rows. -/
theorem At.new_rows (h : At V s j) : step_main_v43_7 V = (step j s).main_v43_7 := by
  obtain ⟨sq, sk, sv, sg, ss, so⟩ := s
  obtain ⟨hq, hk, hv, hg, hs, ho, hn, hm⟩ := h
  simp only at hq hk hv hg hs ho
  subst hq hk hv hg hs ho
  simp only [step_main_v43_7, res_main_while0b_v66, res_main_while0b_v67, res_main_while0b_v69, res_main_while0b_v70, res_main_while0b_v72, hn, hm]
  rfl

/-- One trip leads from trip `j`'s view to the next. -/
theorem At.next (h : At V s j) : At (STEP V) (step j s) (j + 1) where
  q := (STEP_main_v43_0 V).trans h.q
  k := (STEP_main_v43_1 V).trans h.k
  v := (STEP_main_v43_2 V).trans h.v
  g := (STEP_main_v43_3 V).trans h.g
  st := (STEP_main_v43_6 V).trans h.new_state
  o := (STEP_main_v43_7 V).trans h.new_rows
  n := by
    refine (STEP_main_v43_5 V).trans ?_
    unfold step_main_v43_5
    rw [h.n]
    funext i
    show BitVec.ofNat 32 j + 1#32 = BitVec.ofNat 32 (j + 1)
    rw [BitVec.ofNat_add]
  msk := (STEP_main_v43_4 V).trans h.msk

variable (m : (ℓ : Loc nD τ sig) → Buf (Elt F) ℓ) (c : Dev nD)

/-- The state the loop starts from. -/
def start : State F :=
  init (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6))

/-- The state before trip `n`. -/
def state : ℕ → State F
  | 0 => start m c
  | n + 1 => step n (state n)

set_option maxRecDepth 65536 in
set_option maxHeartbeats 400000 in
/-- The view at the loop's entry. -/
theorem at_start : At (entryContents preI m c) (start m c) 0 := by
  constructor <;> (simp only [entryContents, afterL_cons, afterL_nil]; after_reads_simp) <;> rfl

/-- The view before every trip. -/
theorem at_trip (n : ℕ) : At (STEP^[n] (entryContents preI m c)) (state m c n) n := by
  induction n with
  | zero => exact at_start m c
  | succ n ih =>
    rw [Function.iterate_succ_apply']
    exact ih.next

set_option maxRecDepth 16384 in
/-- The reference's results are read off the state after its thirty-two trips. -/
theorem run (ρ : Dev nD → PrngReg) : θ_run (defs (F := F)) (onTc (τ := τ) (main (F := F))) ⟨m, fun _ => 0, ρ⟩ fun r => ∀ c : Dev nD,
      r.2.mem ((c.tc : Thread nD τ).loc main_v63) = Step.R_main_v63 (state m c 32) (m ((c.tc : Thread nD τ).loc main_arg3)) (m ((c.tc : Thread nD τ).loc main_arg7))
      ∧ r.2.mem ((c.tc : Thread nD τ).loc main_v64) = Step.R_main_v64 (state m c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.ReferenceIdeal.Value.run m ρ)
  obtain ⟨r1, r2, rest⟩ := h c
  have H := at_trip m c 32
  refine ⟨r1.trans ?_, r2.trans ?_, rest⟩
  · unfold out_main_v63
    rw [H.o, iter_main_arg3 m c 32, iter_main_arg7 m c 32]
    rfl
  · unfold out_main_v64
    rw [H.st]
    rfl

end Cert.Gla.Ref
-- ==== Proof.Gla.RefEnd.lean ====
/- The reference's results, over extended reals, in the terms of the chunk mathematics. -/
module

public import proofs.«01_k».proof.Proof.Gla.RefStep
public import proofs.«01_k».proof.Proof.Gla.RefRun
public import Idealize.ShloMosaic.Lib.IdealHost

@[expose] public section
noncomputable section
namespace Cert.Gla.Ref

open Idealize.ShloMosaic Idealize.ShloMosaic.TcCoe Idealize.SL.Sem Cert.ReferenceIdeal Cert.ReferenceIdeal.Gen Cert.ReferenceIdeal.Step

theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

/-- A sixteenth as a product is a division by sixteen. -/
theorem div_sixteen (x : EReal) : Ideal.div x (Ideal.ofBits .f32 0x41800000#32) = x * Ideal.ofBits .f32 0x3D800000#32 := by
  rw [sixteen, sixteenth, Ideal.div_coe (by norm_num)]

variable (A : Arr)

/-- The gates the reference computes before its loop. -/
theorem gates_at (b : Fin 8) (t : Fin 2048) (x : Fin 512) : A_main_v20 (F := Ideal) A.q A.k A.v A.gl A.w A.bg (ix3 b t x)
    = gate (∑ e : Fin 16, A.gl (ix3 b t e) * A.w (ix2 e x) + A.bg (ix1 x)) := by
  unfold A_main_v20 A_main_v18 A_main_v17 A_main_v16 A_main_v15 A_main_v14 A_main_v13 A_main_v12 A_main_v11 A_main_v9 A_main_v8 A_main_v6 A_main_v4 A_main_v3 A_main_v2 A_main_v1 A_main_v0 K_main_v19 K_main_cst_0 K_main_v10 K_main_v7 K_main_v5 K_main_cst
  pointwise
  rw [if_neg (fun h => h rfl), div_sixteen]
  unfold gate Ideal.log1p
  simp only [zero_sub]

/-- The state's arrays at the loop's entry. -/
theorem rows_init : Rows A (init (F := Ideal) A.q A.k A.v A.gl A.w A.bg) := by
  constructor
  · intro n b h c x
    show A_main_v35 (F := Ideal) A.q A.k A.v A.gl A.w A.bg _ = _
    unfold A_main_v35 A_main_v34 A_main_v25 A_main_v23 A_main_v22 K_main_v24 K_main_cst_2
    pointwise
    refine congrArg (· * Ideal.ofBits .f32 0x3DB504F3#32) (congrArg (A.q) (congrArg₂ (ix3 b) (Fin.ext ?_) (Fin.ext ?_)))
    · show n.val * 64 + c.val = (64 * n.val + c.val) % 2048
      omega
    · show h.val * 128 + x.val = 128 * h.val + x.val
      omega
  · intro n b h c x
    show A_main_v37 (F := Ideal) A.q A.k A.v A.gl A.w A.bg _ = _
    unfold A_main_v37 A_main_v36 A_main_v27 A_main_v26
    pointwise
    refine congrArg (A.k) (congrArg₂ (ix3 b) (Fin.ext ?_) (Fin.ext ?_))
    · show n.val * 64 + c.val = (64 * n.val + c.val) % 2048
      omega
    · show h.val * 128 + x.val = 128 * h.val + x.val
      omega
  · intro n b h c x
    show A_main_v39 (F := Ideal) A.q A.k A.v A.gl A.w A.bg _ = _
    unfold A_main_v39 A_main_v38 A_main_v29 A_main_v28
    pointwise
    refine congrArg (A.v) (congrArg₂ (ix3 b) (Fin.ext ?_) (Fin.ext ?_))
    · show n.val * 64 + c.val = (64 * n.val + c.val) % 2048
      omega
    · show h.val * 256 + x.val = 256 * h.val + x.val
      omega
  · intro n b h c x
    show A_main_v41 (F := Ideal) A.q A.k A.v A.gl A.w A.bg _ = _
    unfold A_main_v41 A_main_v40 A_main_v31 A_main_v30
    pointwise
    rw [gates_at]
    have e1 : (⟨n.val * 64 + c.val, by omega⟩ : Fin 2048) = row n.val c := Fin.ext (by show n.val * 64 + c.val = (64 * n.val + c.val) % 2048; omega)
    have e2 : (⟨h.val * 128 + x.val, by omega⟩ : Fin 512) = hk h x := Fin.ext (by show h.val * 128 + x.val = 128 * h.val + x.val; omega)
    rw [e1, e2]
    rfl

/-- One trip writes its chunk's rows and leaves the others. -/
theorem b58_at {s : State Ideal} {j : ℕ} (hj : j < 32) (n : Fin 32) (b : Fin 8) (h : Fin 4) (c : Fin 64) (y : Fin 256) :
    b58 j s (ix5 n b h c y) = if n.val = j then b45 j s (ix4 b h c y) else s.main_v43_7 (ix5 n b h c y) := by
  unfold b58
  refine (congrFun (WordCmp.dynamicUpdateSlice_eq_update (s := S32x8x4x64x256) (u := S1x8x4x64x256) _ _ _ _ ![j, 0, 0, 0, 0] ⟨rfl, by intro a; fin_cases a <;> simp <;> omega⟩ (start5 hj)) _).trans ?_
  unfold b53
  pointwise
  by_cases hh : n.val = j
  · rw [if_pos hh, dif_pos (by omega)]
  · rw [if_neg hh, dif_neg (by omega)]

/-- The loop's progress: after `n` trips the state is the recurrence's, and the rows of the chunks before are its mixed values. -/
theorem progress (s : ℕ → State Ideal) (h0 : Rows A (s 0)) (hz : ∀ i, (s 0).main_v43_6 i = 0) (hs : ∀ n, s (n + 1) = step n (s n)) (n : ℕ) (hn : n ≤ 32) :
    Rows A (s n) ∧ (∀ (b : Fin 8) (h : Fin 4) (x : Fin 128) (y : Fin 256), (s n).main_v43_6 (ix4 b h x y) = S (A.ck b) h n x y)
      ∧ ∀ (k : Fin 32) (b : Fin 8) (h : Fin 4) (c : Fin 64) (y : Fin 256), k.val < n →
        (s n).main_v43_7 (ix5 k b h c y) = (A.ck b k).mix h (S (A.ck b) h k) c y := by
  induction n with
  | zero => exact ⟨h0, fun b h x y => hz _, fun k _ _ _ _ h => absurd h (Nat.not_lt_zero _)⟩
  | succ n ih =>
    obtain ⟨hr, hst, ho⟩ := ih (Nat.le_of_succ_le hn)
    have hj : n < 32 := hn
    have e : ∀ (b : Fin 8) (h : Fin 4), (fun x y => (s n).main_v43_6 (ix4 b h x y)) = S (A.ck b) h n := fun b h => by
      funext x y
      exact hst b h x y
    rw [hs]
    refine ⟨⟨hr.q, hr.k, hr.v, hr.g⟩, fun b h x y => ?_, fun k b h c y hk => ?_⟩
    · show b52 n (s n) (ix4 b h x y) = _
      rw [b52_at hr hj, e]
      rfl
    · show b58 n (s n) (ix5 k b h c y) = _
      rw [b58_at hj]
      by_cases hh : k.val = n
      · rw [if_pos hh, b45_at hr hj, e, hh]
      · rw [if_neg hh]
        exact ho k b h c y (by omega)

/-- A result row, from a state whose rows are the mixed values. -/
theorem res_at (s : State Ideal) (ho : ∀ (k : Fin 32) (b : Fin 8) (h : Fin 4) (c : Fin 64) (y : Fin 256), s.main_v43_7 (ix5 k b h c y) = (A.ck b k).mix h (S (A.ck b) h k) c y)
    (b : Fin 8) (t : Fin 2048) (z : Fin 1024) : R_main_v63 (F := Ideal) s A.r A.ng (ix3 b t z)
      = A.o b t ⟨z.val / 256, by omega⟩ ⟨z.val % 256, Nat.mod_lt _ (by decide)⟩ := by
  unfold R_main_v63
  pointwise
  have e1 : hv ⟨z.val / 256, by omega⟩ ⟨z.val % 256, Nat.mod_lt _ (by decide)⟩ = z := Fin.ext (by show 256 * (z.val / 256) + z.val % 256 = z.val; omega)
  have e3 : row (t.val / 64) ⟨t.val % 64, Nat.mod_lt _ (by decide)⟩ = t := Fin.ext (by show (64 * (t.val / 64) + t.val % 64) % 2048 = t.val; omega)
  simp only [ho]
  unfold Arr.o Ck.out
  simp only [zero_sub, e1]
  show _ = _ * (A.r (ix3 b (row (t.val / 64) ⟨t.val % 64, _⟩) z) * Ideal.div 1 (1 + Ideal.exp (-A.r (ix3 b (row (t.val / 64) ⟨t.val % 64, _⟩) z))))
  simp only [e3]

/-- The state result, from a state. -/
theorem resS_at (s : State Ideal) (b : Fin 8) (h : Fin 4) (y : Fin 256) (x : Fin 128) : R_main_v64 (F := Ideal) s (ix4 b h y x) = s.main_v43_6 (ix4 b h x y) := by
  unfold R_main_v64
  pointwise

end Cert.Gla.Ref
-- ==== Proof.Gla.Claim.lean ====
/- The two programs' results are one function of the arguments. -/
module

public import proofs.«01_k».proof.Proof.Gla.Kernel
public import proofs.«01_k».proof.Proof.Gla.RefEnd
public import proofs.«01_k».proof.Defs
public import proofs.«01_k».proof.Proof.Gen.Kernel.Frame

@[expose] public section

noncomputable section

namespace Cert.Gla

open Idealize.ShloMosaic Idealize.ShloMosaic.TcCoe Idealize.SL.Sem

/-- The arguments the reference starts with. -/
def Ref.arr (m : (ℓ : Loc Cert.ReferenceIdeal.nD Cert.ReferenceIdeal.τ Cert.ReferenceIdeal.sig) → Buf (Elt Ideal) ℓ) (c : Dev Cert.ReferenceIdeal.nD) : Arr :=
  open Cert.ReferenceIdeal in
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7)⟩

section Reference

open Cert.ReferenceIdeal Cert.ReferenceIdeal.Step

variable (m : (ℓ : Loc nD τ sig) → Buf (Elt Ideal) ℓ) (c : Dev nD)

/-- What the reference's loop holds after its last trip. -/
theorem Ref.last : Ref.Rows (Ref.arr m c) (Ref.state m c 32)
    ∧ (∀ (b : Fin 8) (h : Fin 4) (x : Fin 128) (y : Fin 256), (Ref.state m c 32).main_v43_6 (ix4 b h x y) = S ((Ref.arr m c).ck b) h 32 x y)
      ∧ ∀ (k : Fin 32) (b : Fin 8) (h : Fin 4) (z : Fin 64) (y : Fin 256), k.val < 32 →
        (Ref.state m c 32).main_v43_7 (ix5 k b h z y) = ((Ref.arr m c).ck b k).mix h (S ((Ref.arr m c).ck b) h k) z y :=
  Ref.progress (A := Ref.arr m c) (Ref.state (F := Ideal) m c) (Ref.rows_init (A := Ref.arr m c)) (fun i => by
    show K_main_v21 (F := Ideal) i = 0
    unfold K_main_v21 K_main_cst_1
    show Ideal.ofBits .f32 0x00000000#32 = 0
    simp [Ideal.ofBits, Ideal.ieee]) (fun _ => rfl) 32 (le_refl _)

/-- The reference's first result. -/
theorem Ref.res : R_main_v63 (F := Ideal) (Ref.state m c 32) (m ((c.tc : Thread nD τ).loc main_arg3)) (m ((c.tc : Thread nD τ).loc main_arg7))
    = fun i : S8x2048x1024.Idx => (Ref.arr m c).o (i 0) (i 1) ⟨(i 2).val / 256, by have := (i 2).isLt; change (i 2).val < 1024 at this; omega⟩ ⟨(i 2).val % 256, Nat.mod_lt _ (by decide)⟩ := by
  funext i
  obtain ⟨b, t, z, rfl⟩ : ∃ (b : Fin 8) (t : Fin 2048) (z : Fin 1024), i = ix3 b t z := ⟨i 0, i 1, i 2, by funext a; fin_cases a <;> rfl⟩
  exact Ref.res_at (A := Ref.arr m c) (Ref.state m c 32) (fun k b h c' y => (Ref.last m c).2.2 k b h c' y k.isLt) b t z

/-- The reference's second result. -/
theorem Ref.resS : R_main_v64 (F := Ideal) (Ref.state m c 32) = fun i : S8x4x256x128.Idx => (Ref.arr m c).s (i 0) (i 1) (i 2) (i 3) := by
  funext i
  obtain ⟨b, h, y, x, rfl⟩ : ∃ (b : Fin 8) (h : Fin 4) (y : Fin 256) (x : Fin 128), i = ix4 b h y x := ⟨i 0, i 1, i 2, i 3, by funext a; fin_cases a <;> rfl⟩
  exact (Ref.resS_at _ b h y x).trans ((Ref.last m c).2.1 b h x y)

end Reference

/-- The reference's run ends quiet, its arguments unchanged. -/
theorem frame_ref : Cert.quiescent_ReferenceIdeal := fun m ρ _ =>
  (θ_run Cert.ReferenceIdeal.defs _ _).mono (fun r h => ⟨fun c => (h c).2.2, Idealize.ShloMosaic.sem_eq_zero_of_no_sems (by decide) r.2⟩) (Ref.run (F := Ideal) m ρ)

/-- The kernel's results are the reference's. -/
theorem algebraic : Cert.algebraic_KernelIdeal_ReferenceIdeal := by
  intro m ρ m' ρ' _ hagree
  have e : ∀ c, Ref.arr m' c = arr m c := fun c => by
    obtain ⟨e0, e1, e2, e3, e4, e5, e6, e7⟩ := hagree c
    unfold Ref.arr arr
    simp only [e0, e1, e2, e3, e4, e5, e6, e7]
  refine ⟨_, _, Cert.KernelIdeal.Value.run_blocks (F := Ideal) m ρ, ?_⟩
  refine (θ_run Cert.ReferenceIdeal.defs _ _).mono (fun r h c => ?_) (Ref.run (F := Ideal) m' ρ')
  obtain ⟨r1, r2, rest⟩ := h c
  refine ⟨r1.trans ((Ref.res m' c).trans ?_), r2.trans ((Ref.resS m' c).trans ?_), rest⟩
  · rw [e c]
    exact (arr9 m c).symm
  · rw [e c]
    exact (arr10 m c).symm

end Cert.Gla
-- ==== Proof.Ffn.Math.lean ====
/- The block after a mixer as formulas over extended reals: projection and residual, normalization, the convolved gated
   feed-forward and its residual, and the last normalization. -/
module

public import Idealize.ShloMosaic.Lib.Pointwise

@[expose] public section
noncomputable section
namespace Cert.Ffn

open Idealize.ShloMosaic

/-- A row under its root mean square and the gain. -/
def rms (f g : Fin 1024 → EReal) (z : Fin 1024) : EReal :=
  f z * Ideal.rsqrt (Ideal.div (∑ x, f x * f x) (Ideal.ofBits .f32 0x44800000#32) + Ideal.ofBits .f32 0x358637BD#32) * g z

/-- The arrays: activations, mixer output, its projection, gain, input weight, convolution weight and bias, output weight, last gain. -/
structure Arr where
  x : Fin 8 → Fin 2048 → Fin 1024 → EReal
  o : Fin 8 → Fin 2048 → Fin 1024 → EReal
  wo : Fin 1024 → Fin 1024 → EReal
  g : Fin 1024 → EReal
  win : Fin 1024 → Fin 5632 → EReal
  cw : Fin 3 → Fin 5632 → EReal
  cb : Fin 5632 → EReal
  wout : Fin 2816 → Fin 1024 → EReal
  gf : Fin 1024 → EReal

/-- A gate's column. -/
def lo (j : Fin 2816) : Fin 5632 := ⟨j.val, by omega⟩

/-- A value's column. -/
def hi (j : Fin 2816) : Fin 5632 := ⟨2816 + j.val, by omega⟩

namespace Arr

variable (A : Arr) (b : Fin 8)

/-- The activations with the projected mixer output. -/
def xo (t : Fin 2048) (z : Fin 1024) : EReal := A.x b t z + ∑ k, A.o b t k * A.wo k z

/-- The feed-forward's input before the convolution. -/
def u (t : Fin 2048) (z : Fin 5632) : EReal := ∑ k, rms (A.xo b t) A.g k * A.win k z

/-- The row `n` above, zero before the first. -/
def up (n : ℕ) (t : Fin 2048) (z : Fin 5632) : EReal := if n ≤ t.val then A.u b ⟨t.val - n, by omega⟩ z else 0

/-- The causal convolution of three rows. -/
def conv (t : Fin 2048) (z : Fin 5632) : EReal :=
  A.up b 2 t z * A.cw 0 z + A.up b 1 t z * A.cw 1 z + A.u b t z * A.cw 2 z + A.cb z

/-- The gated activation. -/
def act (t : Fin 2048) (j : Fin 2816) : EReal :=
  A.conv b t (lo j) * Ideal.div 1 (1 + Ideal.exp (0 - A.conv b t (lo j))) * A.conv b t (hi j)

/-- The block's result. -/
def acc (t : Fin 2048) (z : Fin 1024) : EReal := A.xo b t z + ∑ j, A.act b t j * A.wout j z

/-- The block's result under the last normalization. -/
def y (t : Fin 2048) (z : Fin 1024) : EReal := rms (A.acc b t) A.gf z

end Arr

end Cert.Ffn
-- ==== Proof.Ffn.Tile.lean ====
/- One tile of 512 rows in functions of its own, read at an index over extended reals. -/
module

public import proofs.«01_k».proof.Proof.Gen.Kernel2Ideal.Frame
public import proofs.«01_k».proof.Proof.Ffn.Math
public import Idealize.ShloMosaic.Lib.WordCmp
public import Idealize.ShloMosaic.Lib.Pipeline.Value
public import Idealize.ShloMosaic.Lib.Pipeline.ValueKit

@[expose] public section
set_option maxRecDepth 16384
noncomputable section
namespace Cert.Ffn

open Idealize.ShloMosaic Idealize.ShloMosaic.TcCoe Idealize.ShloMosaic.Tactic
open Cert.Kernel2Ideal Cert.Kernel2Ideal.Gen

section Values
variable {F : FTy → Type} [FloatOps F]

/-- What a tile reads: rows, weights, and the convolution's rows and bias in their two halves. -/
structure Rd (F : FTy → Type) where
  x : Vec F S512x1024 .f32
  o : Vec F S512x1024 .bf16
  wo : Vec F S1024x1024 .bf16
  g : Vec F S1x1024 .f32
  w0 : Vec F S1024x2816 .bf16
  w1 : Vec F S1024x2816 .bf16
  c00 : Vec F S1x2816 .f32
  c01 : Vec F S1x2816 .f32
  c02 : Vec F S1x2816 .f32
  cb0 : Vec F S1x2816 .f32
  c10 : Vec F S1x2816 .f32
  c11 : Vec F S1x2816 .f32
  c12 : Vec F S1x2816 .f32
  cb1 : Vec F S1x2816 .f32
  wout : Vec F S2816x1024 .bf16
  gf : Vec F S1x1024 .f32

/-- The rows of `u` moved down by `n`, the first `n` from the last rows of `tail`. -/
def shift (n : BitVec 32) (u : FVec F S512x2816 .f32) (tail : FVec F S8x2816 .f32) : FVec F S512x2816 .f32 :=
  concatenate S512x2816 0
    [⟨S8x2816, select (cmpi .slt (iota .tc S8x2816 32 [0] iota_S8x2816_d0_w32) (broadcast S8x2816 n))
        (dynamicRotate 0 n none tail rotates_S8x2816_d0)
        (extractStridedSlice S8x2816 ![0, 0] (dynamicRotate 0 n none u rotates_S512x2816_d0) slices_S512x2816_o0_0_S8x2816)⟩,
      ⟨S504x2816, extractStridedSlice S504x2816 ![8, 0] (dynamicRotate 0 n none u rotates_S512x2816_d0) slices_S512x2816_o8_0_S504x2816⟩]
    concatenates_S8x2816_S504x2816_S512x2816_d0

/-- The convolution of one half of the columns. -/
def cnv (u : FVec F S512x2816 .f32) (tail : FVec F S8x2816 .f32) (w0 w1 w2 b : FVec F S1x2816 .f32) : FVec F S512x2816 .f32 :=
  addf (addf (addf (mulf (shift 2#32 u tail) (broadcastTo S512x2816 w0 broadcasts_S1x2816_S512x2816))
        (mulf (shift 1#32 u tail) (broadcastTo S512x2816 w1 broadcasts_S1x2816_S512x2816)))
      (mulf u (broadcastTo S512x2816 w2 broadcasts_S1x2816_S512x2816)))
    (broadcastTo S512x2816 (shapeCast S1x2816 b shapeCasts_S1x2816_S1x2816) broadcasts_S1x2816_S512x2816)

/-- The residual and the output weight's product of the gated activation. -/
def fin (x : FVec F S512x1024 .f32) (a v : FVec F S512x2816 .f32) (w : FVec F S2816x1024 .bf16) : FVec F S512x1024 .f32 :=
  addf x (matmul dot_S512x2816_S2816x1024_S512x1024_1_0_0_1_n_n none
    (truncf .bf16 (mulf (mulf a (divf (broadcast S512x2816 (Scalar.ofBits .f32 0x3F800000#32)) (addf (broadcast S512x2816 (Scalar.ofBits .f32 0x3F800000#32))
      (exp (subf (broadcast S512x2816 (Scalar.ofBits .f32 0x00000000#32)) a))))) v) bitsLt_bf16_f32)
    (shapeCast S2816x1024 w shapeCasts_S2816x1024_S2816x1024) (constant S512x1024 .f32 0x00000000#32))

/-- A tile's rows under the root mean square and the gain. -/
def norm (a : FVec F S512x1024 .f32) (g : FVec F S1x1024 .f32) : FVec F S512x1024 .f32 :=
  mulf (mulf a (broadcastTo S512x1024 (rsqrt (addf (divf (shapeCast S512x1 (multiReduction .add [1] S512 (mulf a a) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

namespace Rd

variable (d : Rd F) (t0 t1 : Vec F S8x2816 .f32)

/-- The tile's activations with the projected mixer output. -/
def xo : FVec F S512x1024 .f32 := k0_pay2 d.x d.o d.wo

/-- The tile's normalized rows. -/
def h : FVec F S512x1024 .bf16 := truncf .bf16 (norm d.xo d.g) bitsLt_bf16_f32

/-- The feed-forward's input, the gate half. -/
def u0 : FVec F S512x2816 .f32 := k0_pay4 d.h d.w0

/-- The feed-forward's input, the value half. -/
def u1 : FVec F S512x2816 .f32 := k0_pay4 d.h d.w1

/-- The block's result of the tile, from the last eight rows of the tile before. -/
def acc : FVec F S512x1024 .f32 :=
  fin d.xo (cnv d.u0 t0 d.c00 d.c01 d.c02 d.cb0) (cnv d.u1 t1 d.c10 d.c11 d.c12 d.cb1) d.wout

/-- The tile's last eight rows of a half. -/
def last (u : FVec F S512x2816 .f32) : FVec F S8x2816 .f32 :=
  shapeCast S8x2816 (extractStridedSlice S8x2816 ![504, 0] u slices_S512x2816_o504_0_S8x2816) shapeCasts_S8x2816_S8x2816

/-- The same rows as a block of the tail result. -/
def lastB (u : FVec F S512x2816 .f32) : FVec F S1x8x2816 .f32 :=
  shapeCast S1x8x2816 (extractStridedSlice S8x2816 ![504, 0] u slices_S512x2816_o504_0_S8x2816) shapeCasts_S8x2816_S1x8x2816

end Rd

end Values

/-- A moved row at an index. -/
theorem shift_apply (n : ℕ) (hn : n ≤ 8) (u : FVec Ideal S512x2816 .f32) (tail : FVec Ideal S8x2816 .f32) (r : Fin 512) (j : Fin 2816) :
    shift (BitVec.ofNat 32 n) u tail (ix2 r j)
      = if h : n ≤ r.val then u (ix2 ⟨r.val - n, by omega⟩ j) else tail (ix2 ⟨(8 + r.val - n) % 8, Nat.mod_lt _ (by decide)⟩ j) := by
  unfold shift
  pointwise
  by_cases h8 : r.val < 8
  · rw [dif_pos h8, WordCmp.cmpi_slt_ofNat (by omega) (by omega)]
    by_cases hc : r.val < n
    · rw [dif_neg (by omega), decide_eq_true hc]
      refine congrArg tail (congrArg (fun a => ix2 a j) (Fin.ext ?_))
      show (r.val + 8 - (BitVec.ofNat 32 n).toNat % 8) % 8 = (8 + r.val - n) % 8
      rw [BitVec.toNat_ofNat]
      omega
    · rw [dif_pos (by omega), decide_eq_false hc]
      refine congrArg u (congrArg (fun a => ix2 a j) (Fin.ext ?_))
      show (r.val + 512 - (BitVec.ofNat 32 n).toNat % 512) % 512 = r.val - n
      rw [BitVec.toNat_ofNat]
      omega
  · rw [dif_neg h8, dif_pos (by omega)]
    refine congrArg u (congrArg (fun a => ix2 a j) (Fin.ext ?_))
    show (8 + (r.val - 8) + 512 - (BitVec.ofNat 32 n).toNat % 512) % 512 = r.val - n
    rw [BitVec.toNat_ofNat]
    omega

/-- A normalized tile at an index. -/
theorem norm_apply (a : FVec Ideal S512x1024 .f32) (g : FVec Ideal S1x1024 .f32) (r : Fin 512) (z : Fin 1024) :
    norm a g (ix2 r z) = rms (fun k => a (ix2 r k)) (fun k => g (ix2 0 k)) z := by
  unfold norm rms
  pointwise

/-- The projection and residual at an index. -/
theorem xo_apply (d : Rd Ideal) (r : Fin 512) (z : Fin 1024) :
    d.xo (ix2 r z) = d.x (ix2 r z) + ∑ k, d.o (ix2 r k) * d.wo (ix2 k z) := by
  unfold Rd.xo k0_pay2
  pointwise

/-- The normalized rows at an index. -/
theorem h_apply (d : Rd Ideal) (r : Fin 512) (z : Fin 1024) : d.h (ix2 r z) = rms (fun k => d.xo (ix2 r k)) (fun k => d.g (ix2 0 k)) z := by
  unfold Rd.h
  exact norm_apply _ _ r z

/-- A half of the input at an index. -/
theorem u_apply (h : FVec Ideal S512x1024 .bf16) (w : Vec Ideal S1024x2816 .bf16) (r : Fin 512) (j : Fin 2816) :
    k0_pay4 h w (ix2 r j) = ∑ k, h (ix2 r k) * w (ix2 k j) := by
  unfold k0_pay4
  pointwise

/-- The convolution at an index. -/
theorem cnv_apply (u : FVec Ideal S512x2816 .f32) (tail : FVec Ideal S8x2816 .f32) (w0 w1 w2 b : FVec Ideal S1x2816 .f32) (r : Fin 512) (j : Fin 2816) :
    cnv u tail w0 w1 w2 b (ix2 r j) = shift 2#32 u tail (ix2 r j) * w0 (ix2 0 j) + shift 1#32 u tail (ix2 r j) * w1 (ix2 0 j)
      + u (ix2 r j) * w2 (ix2 0 j) + b (ix2 0 j) := by
  unfold cnv
  generalize shift 2#32 u tail = s2
  generalize shift 1#32 u tail = s1
  pointwise

/-- The output product and residual at an index. -/
theorem fin_apply (x : FVec Ideal S512x1024 .f32) (a v : FVec Ideal S512x2816 .f32) (w : FVec Ideal S2816x1024 .bf16) (r : Fin 512) (z : Fin 1024) :
    fin x a v w (ix2 r z) = x (ix2 r z) + ∑ j, a (ix2 r j) * Ideal.div 1 (1 + Ideal.exp (0 - a (ix2 r j))) * v (ix2 r j) * w (ix2 j z) := by
  unfold fin
  pointwise

/-- The last eight rows at an index. -/
theorem last_apply (u : FVec Ideal S512x2816 .f32) (q : Fin 8) (j : Fin 2816) : Rd.last u (ix2 q j) = u (ix2 ⟨504 + q.val, by omega⟩ j) := by
  unfold Rd.last
  pointwise

/-- The last eight rows as a block at an index. -/
theorem lastB_apply (u : FVec Ideal S512x2816 .f32) (q : Fin 8) (j : Fin 2816) : Rd.lastB u (ix3 0 q j) = u (ix2 ⟨504 + q.val, by omega⟩ j) := by
  unfold Rd.lastB
  pointwise

/-- The tile holds rows `512 * p` and on of batch `b`, and the weights. -/
structure Rd.Holds (d : Rd Ideal) (A : Arr) (b : Fin 8) (p : ℕ) (hp : p < 4) : Prop where
  x : ∀ r z, d.x (ix2 r z) = A.x b ⟨512 * p + r.val, by omega⟩ z
  o : ∀ r z, d.o (ix2 r z) = A.o b ⟨512 * p + r.val, by omega⟩ z
  wo : ∀ k z, d.wo (ix2 k z) = A.wo k z
  g : ∀ z, d.g (ix2 0 z) = A.g z
  w0 : ∀ k j, d.w0 (ix2 k j) = A.win k (lo j)
  w1 : ∀ k j, d.w1 (ix2 k j) = A.win k (hi j)
  c00 : ∀ j, d.c00 (ix2 0 j) = A.cw 0 (lo j)
  c01 : ∀ j, d.c01 (ix2 0 j) = A.cw 1 (lo j)
  c02 : ∀ j, d.c02 (ix2 0 j) = A.cw 2 (lo j)
  cb0 : ∀ j, d.cb0 (ix2 0 j) = A.cb (lo j)
  c10 : ∀ j, d.c10 (ix2 0 j) = A.cw 0 (hi j)
  c11 : ∀ j, d.c11 (ix2 0 j) = A.cw 1 (hi j)
  c12 : ∀ j, d.c12 (ix2 0 j) = A.cw 2 (hi j)
  cb1 : ∀ j, d.cb1 (ix2 0 j) = A.cb (hi j)
  wout : ∀ j z, d.wout (ix2 j z) = A.wout j z
  gf : ∀ z, d.gf (ix2 0 z) = A.gf z

/-- The eight rows above tile `p`, zero above the first tile. -/
def Above (A : Arr) (b : Fin 8) (p : ℕ) (hp : p < 4) (col : Fin 2816 → Fin 5632) (tail : Vec Ideal S8x2816 .f32) : Prop :=
  ∀ (q : Fin 8) (j : Fin 2816), tail (ix2 q j) = if h : p = 0 then 0 else A.u b ⟨512 * p - 8 + q.val, by omega⟩ (col j)

/-- Moved rows are the rows above, across the tile's edge. -/
theorem shift_up (A : Arr) (b : Fin 8) (p : ℕ) (hp : p < 4) (col : Fin 2816 → Fin 5632) (u : FVec Ideal S512x2816 .f32) (tail : Vec Ideal S8x2816 .f32)
    (hu : ∀ r j, u (ix2 r j) = A.u b ⟨512 * p + r.val, by omega⟩ (col j)) (ht : Above A b p hp col tail)
    (n : ℕ) (hn : n ≤ 8) (r : Fin 512) (j : Fin 2816) :
    shift (BitVec.ofNat 32 n) u tail (ix2 r j) = A.up b n ⟨512 * p + r.val, by omega⟩ (col j) := by
  rw [shift_apply n hn]
  unfold Arr.up
  by_cases h : n ≤ r.val
  · rw [dif_pos h, if_pos (show n ≤ 512 * p + r.val by omega), hu]
    congr 1
    exact Fin.ext (by show 512 * p + (r.val - n) = 512 * p + r.val - n; omega)
  · rw [dif_neg h, ht]
    by_cases h0 : p = 0
    · rw [dif_pos h0, if_neg (show ¬n ≤ 512 * p + r.val by omega)]
    · rw [dif_neg h0, if_pos (show n ≤ 512 * p + r.val by omega)]
      congr 1
      exact Fin.ext (by show 512 * p - 8 + (8 + r.val - n) % 8 = 512 * p + r.val - n; omega)

section Rows

variable {d : Rd Ideal} {A : Arr} {b : Fin 8} {p : ℕ} {hp : p < 4} (H : d.Holds A b p hp)
include H

/-- The tile's residual rows. -/
theorem xo_row (r : Fin 512) (z : Fin 1024) : d.xo (ix2 r z) = A.xo b ⟨512 * p + r.val, by omega⟩ z := by
  rw [xo_apply]
  unfold Arr.xo
  rw [H.x]
  congr 1
  exact Finset.sum_congr rfl fun k _ => by rw [H.o, H.wo]

/-- The tile's normalized rows. -/
theorem h_row (r : Fin 512) (z : Fin 1024) : d.h (ix2 r z) = rms (A.xo b ⟨512 * p + r.val, by omega⟩) A.g z := by
  rw [h_apply]
  congr 1
  · funext k; exact xo_row H r k
  · funext k; exact H.g k

/-- The tile's rows of the gate half. -/
theorem u0_row (r : Fin 512) (j : Fin 2816) : d.u0 (ix2 r j) = A.u b ⟨512 * p + r.val, by omega⟩ (lo j) := by
  unfold Rd.u0 Arr.u
  rw [u_apply]
  exact Finset.sum_congr rfl fun k _ => by rw [h_row H, H.w0]

/-- The tile's rows of the value half. -/
theorem u1_row (r : Fin 512) (j : Fin 2816) : d.u1 (ix2 r j) = A.u b ⟨512 * p + r.val, by omega⟩ (hi j) := by
  unfold Rd.u1 Arr.u
  rw [u_apply]
  exact Finset.sum_congr rfl fun k _ => by rw [h_row H, H.w1]

/-- The tile's rows of the block's result. -/
theorem acc_row {t0 t1 : Vec Ideal S8x2816 .f32} (h0 : Above A b p hp lo t0) (h1 : Above A b p hp hi t1) (r : Fin 512) (z : Fin 1024) :
    d.acc t0 t1 (ix2 r z) = A.acc b ⟨512 * p + r.val, by omega⟩ z := by
  have c0 : ∀ j, cnv d.u0 t0 d.c00 d.c01 d.c02 d.cb0 (ix2 r j) = A.conv b ⟨512 * p + r.val, by omega⟩ (lo j) := fun j => by
    rw [cnv_apply, H.c00, H.c01, H.c02, H.cb0, u0_row H]
    unfold Arr.conv
    congr 1; congr 1; congr 1
    · congr 1; exact shift_up A b p hp lo d.u0 t0 (u0_row H) h0 2 (by omega) r j
    · congr 1; exact shift_up A b p hp lo d.u0 t0 (u0_row H) h0 1 (by omega) r j
  have c1 : ∀ j, cnv d.u1 t1 d.c10 d.c11 d.c12 d.cb1 (ix2 r j) = A.conv b ⟨512 * p + r.val, by omega⟩ (hi j) := fun j => by
    rw [cnv_apply, H.c10, H.c11, H.c12, H.cb1, u1_row H]
    unfold Arr.conv
    congr 1; congr 1; congr 1
    · congr 1; exact shift_up A b p hp hi d.u1 t1 (u1_row H) h1 2 (by omega) r j
    · congr 1; exact shift_up A b p hp hi d.u1 t1 (u1_row H) h1 1 (by omega) r j
  unfold Rd.acc Arr.acc
  rw [fin_apply, xo_row H]
  refine congrArg (A.xo b ⟨512 * p + r.val, by omega⟩ z + ·) (Finset.sum_congr rfl fun j _ => ?_)
  unfold Arr.act
  rw [c0, c1, H.wout]

/-- The tile's rows of the normalized result. -/
theorem y_row {t0 t1 : Vec Ideal S8x2816 .f32} (h0 : Above A b p hp lo t0) (h1 : Above A b p hp hi t1) (r : Fin 512) (z : Fin 1024) :
    norm (d.acc t0 t1) d.gf (ix2 r z) = A.y b ⟨512 * p + r.val, by omega⟩ z := by
  rw [norm_apply]
  unfold Arr.y
  congr 1
  · funext k; exact acc_row H h0 h1 r k
  · funext k; exact H.gf k

end Rows

/-- A column of both halves is a gate's or a value's. -/
theorem col_cases (P : Fin 5632 → Prop) (h0 : ∀ j, P (lo j)) (h1 : ∀ j, P (hi j)) (z : Fin 5632) : P z := by
  by_cases h : z.val < 2816
  · exact h0 ⟨z.val, h⟩
  · have e : hi ⟨z.val - 2816, by omega⟩ = z := Fin.ext (by show 2816 + (z.val - 2816) = z.val; omega)
    exact e ▸ h1 _

/-- Eight rows stored in two halves, read in the first. -/
theorem canon_lo (i0 : ∀ a, (![0, 0] : Fin 2 → ℕ) a + S8x2816.size a ≤ S8x5632.size a) (i1 : ∀ a, (![0, 2816] : Fin 2 → ℕ) a + S8x2816.size a ≤ S8x5632.size a)
    (u v : S8x2816.Idx → EReal) (L : List (View.Piece (Elt Ideal) S8x5632 .f32)) (q : Fin 8) (j : Fin 2816) :
    View.canon ((⟨Rect.unit (s := S8x5632) ![0, 2816] S8x2816.size i1, v⟩ : View.Piece (Elt Ideal) S8x5632 .f32)
      :: (⟨Rect.unit (s := S8x5632) ![0, 0] S8x2816.size i0, u⟩ : View.Piece (Elt Ideal) S8x5632 .f32) :: L) (ix2 q (lo j)) = u (ix2 q j) := by
  rw [View.canon_cons_of_not_mem _ _ (by
    rw [Rect.mem_set_unit]
    intro h
    have h1 := (h 1).1
    change 2816 ≤ j.val at h1
    omega)]
  have e : (ix2 q (lo j) : S8x5632.Idx) = (Rect.unit (s := S8x5632) ![0, 0] S8x2816.size i0).emb (ix2 q j) := by
    funext a
    apply Fin.ext
    match a with
    | ⟨0, _⟩ => show q.val = 0 + 1 * q.val; omega
    | ⟨1, _⟩ => show j.val = 0 + 1 * j.val; omega
  rw [e]
  exact View.canon_cons_emb (Val := Elt Ideal) (e := .f32) (Rect.unit (s := S8x5632) ![0, 0] S8x2816.size i0) u L (ix2 q j)

/-- Eight rows stored in two halves, read in the second. -/
theorem canon_hi (i1 : ∀ a, (![0, 2816] : Fin 2 → ℕ) a + S8x2816.size a ≤ S8x5632.size a)
    (v : S8x2816.Idx → EReal) (L : List (View.Piece (Elt Ideal) S8x5632 .f32)) (q : Fin 8) (j : Fin 2816) :
    View.canon ((⟨Rect.unit (s := S8x5632) ![0, 2816] S8x2816.size i1, v⟩ : View.Piece (Elt Ideal) S8x5632 .f32) :: L) (ix2 q (hi j)) = v (ix2 q j) := by
  have e : (ix2 q (hi j) : S8x5632.Idx) = (Rect.unit (s := S8x5632) ![0, 2816] S8x2816.size i1).emb (ix2 q j) := by
    funext a
    apply Fin.ext
    match a with
    | ⟨0, _⟩ => show q.val = 0 + 1 * q.val; omega
    | ⟨1, _⟩ => show 2816 + j.val = 2816 + 1 * j.val; omega
  rw [e]
  exact View.canon_cons_emb (Val := Elt Ideal) (e := .f32) (Rect.unit (s := S8x5632) ![0, 2816] S8x2816.size i1) v L (ix2 q j)

/-- The tail block stored in two halves, read in the first. -/
theorem canonB_lo (i0 : ∀ a, (![0, 0, 0] : Fin 3 → ℕ) a + S1x8x2816.size a ≤ S1x8x5632.size a) (i1 : ∀ a, (![0, 0, 2816] : Fin 3 → ℕ) a + S1x8x2816.size a ≤ S1x8x5632.size a)
    (u v : S1x8x2816.Idx → EReal) (L : List (View.Piece (Elt Ideal) S1x8x5632 .f32)) (q : Fin 8) (j : Fin 2816) :
    View.canon ((⟨Rect.unit (s := S1x8x5632) ![0, 0, 2816] S1x8x2816.size i1, v⟩ : View.Piece (Elt Ideal) S1x8x5632 .f32)
      :: (⟨Rect.unit (s := S1x8x5632) ![0, 0, 0] S1x8x2816.size i0, u⟩ : View.Piece (Elt Ideal) S1x8x5632 .f32) :: L) (ix3 0 q (lo j)) = u (ix3 0 q j) := by
  rw [View.canon_cons_of_not_mem _ _ (by
    rw [Rect.mem_set_unit]
    intro h
    have h1 := (h 2).1
    change 2816 ≤ j.val at h1
    omega)]
  have e : (ix3 0 q (lo j) : S1x8x5632.Idx) = (Rect.unit (s := S1x8x5632) ![0, 0, 0] S1x8x2816.size i0).emb (ix3 0 q j) := by
    funext a
    apply Fin.ext
    match a with
    | ⟨0, _⟩ => rfl
    | ⟨1, _⟩ => show q.val = 0 + 1 * q.val; omega
    | ⟨2, _⟩ => show j.val = 0 + 1 * j.val; omega
  rw [e]
  exact View.canon_cons_emb (Val := Elt Ideal) (e := .f32) (Rect.unit (s := S1x8x5632) ![0, 0, 0] S1x8x2816.size i0) u L (ix3 0 q j)

/-- The tail block stored in two halves, read in the second. -/
theorem canonB_hi (i1 : ∀ a, (![0, 0, 2816] : Fin 3 → ℕ) a + S1x8x2816.size a ≤ S1x8x5632.size a)
    (v : S1x8x2816.Idx → EReal) (L : List (View.Piece (Elt Ideal) S1x8x5632 .f32)) (q : Fin 8) (j : Fin 2816) :
    View.canon ((⟨Rect.unit (s := S1x8x5632) ![0, 0, 2816] S1x8x2816.size i1, v⟩ : View.Piece (Elt Ideal) S1x8x5632 .f32) :: L) (ix3 0 q (hi j)) = v (ix3 0 q j) := by
  have e : (ix3 0 q (hi j) : S1x8x5632.Idx) = (Rect.unit (s := S1x8x5632) ![0, 0, 2816] S1x8x2816.size i1).emb (ix3 0 q j) := by
    funext a
    apply Fin.ext
    match a with
    | ⟨0, _⟩ => rfl
    | ⟨1, _⟩ => show q.val = 0 + 1 * q.val; omega
    | ⟨2, _⟩ => show 2816 + j.val = 2816 + 1 * j.val; omega
  rw [e]
  exact View.canon_cons_emb (Val := Elt Ideal) (e := .f32) (Rect.unit (s := S1x8x5632) ![0, 0, 2816] S1x8x2816.size i1) v L (ix3 0 q j)

/-- The zeros stored in the scratch at a batch's first tile, read through a half of the columns. -/
theorem canon_zero (i0 : ∀ a, (![0, 0] : Fin 2 → ℕ) a + S8x5632.size a ≤ S8x5632.size a) (i : S8x5632.Idx) :
    View.canon [(⟨Rect.unit (s := S8x5632) ![0, 0] S8x5632.size i0, k0_pay1 (F := Ideal)⟩ : View.Piece (Elt Ideal) S8x5632 .f32)] i = 0 := by
  rw [View.canon_unit_zero (by decide)]
  obtain ⟨q, z, rfl⟩ : ∃ (q : Fin 8) (z : Fin 5632), i = ix2 q z := ⟨i 0, i 1, by funext a; fin_cases a <;> rfl⟩
  unfold k0_pay1
  pointwise

/-- The value half of those zeros, read after the gate half was stored. -/
theorem canon_zero_hi (i0 : ∀ a, (![0, 0] : Fin 2 → ℕ) a + S8x2816.size a ≤ S8x5632.size a) (iz : ∀ a, (![0, 0] : Fin 2 → ℕ) a + S8x5632.size a ≤ S8x5632.size a)
    (u : S8x2816.Idx → EReal) (q : Fin 8) (j : Fin 2816) :
    View.canon [(⟨Rect.unit (s := S8x5632) ![0, 0] S8x2816.size i0, u⟩ : View.Piece (Elt Ideal) S8x5632 .f32),
      (⟨Rect.unit (s := S8x5632) ![0, 0] S8x5632.size iz, k0_pay1 (F := Ideal)⟩ : View.Piece (Elt Ideal) S8x5632 .f32)] (ix2 q (hi j)) = 0 := by
  rw [View.canon_cons_of_not_mem _ _ (by
    rw [Rect.mem_set_unit]
    intro h
    have h1 := (h 1).2
    change 2816 + j.val < 0 + 2816 at h1
    omega)]
  exact canon_zero iz _

end Cert.Ffn
-- ==== Proof.Ffn.Body.lean ====
/- The body of a tile: what a grid point reads, the pieces that it stores, and over extended reals what they hold. -/
module

public import proofs.«01_k».proof.Proof.Ffn.Tile

@[expose] public section
set_option maxRecDepth 16384
noncomputable section
namespace Cert.Ffn

open Idealize.ShloMosaic Idealize.ShloMosaic.TcCoe Idealize.ShloMosaic.Tactic
open Cert.Kernel2Ideal (S512x1024 S1024x1024 S1x1024 S1024x5632 S3x5632 S1x5632 S2816x1024 S8x5632 S1x8x5632 S8x2816 S1x8x2816 S1024x2816 S1x2816)
open Cert.Kernel2Ideal.Gen

variable {sig : RefSig}

section Pieces
variable {F : FTy → Type} [FloatOps F]

/-- What the body reads at a point. -/
def rd (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) : Rd F :=
  ⟨View.readAt (Elt F) arg1.view (Rect.unit (s := S512x1024) ![0, 0] S512x1024.size inb_S512x1024_S512x1024_0_0).toLoadRect (harg1.unread x0),
    View.readAt (Elt F) arg2.view (Rect.unit (s := S512x1024) ![0, 0] S512x1024.size inb_S512x1024_S512x1024_0_0).toLoadRect (harg2.unread x1),
    View.readAt (Elt F) arg3.view (Rect.unit (s := S1024x1024) ![0, 0] S1024x1024.size inb_S1024x1024_S1024x1024_0_0).toLoadRect (harg3.unread x2),
    View.readAt (Elt F) arg4.view (Rect.unit (s := S1x1024) ![0, 0] S1x1024.size inb_S1x1024_S1x1024_0_0).toLoadRect (harg4.unread x3),
    View.readAt (Elt F) arg5.view (Rect.unit (s := S1024x5632) ![0, 0] S1024x2816.size inb_S1024x5632_S1024x2816_0_0).toLoadRect (harg5.unread x4),
    View.readAt (Elt F) arg5.view (Rect.unit (s := S1024x5632) ![0, 2816] S1024x2816.size inb_S1024x5632_S1024x2816_0_2816).toLoadRect (harg5.unread x4),
    View.readAt (Elt F) arg6.view (Rect.unit (s := S3x5632) ![0, 0] S1x2816.size inb_S3x5632_S1x2816_0_0).toLoadRect (harg6.unread x5),
    View.readAt (Elt F) arg6.view (Rect.unit (s := S3x5632) ![1, 0] S1x2816.size inb_S3x5632_S1x2816_1_0).toLoadRect (harg6.unread x5),
    View.readAt (Elt F) arg6.view (Rect.unit (s := S3x5632) ![2, 0] S1x2816.size inb_S3x5632_S1x2816_2_0).toLoadRect (harg6.unread x5),
    View.readAt (Elt F) arg7.view (Rect.unit (s := S1x5632) ![0, 0] S1x2816.size inb_S1x5632_S1x2816_0_0).toLoadRect (harg7.unread x6),
    View.readAt (Elt F) arg6.view (Rect.unit (s := S3x5632) ![0, 2816] S1x2816.size inb_S3x5632_S1x2816_0_2816).toLoadRect (harg6.unread x5),
    View.readAt (Elt F) arg6.view (Rect.unit (s := S3x5632) ![1, 2816] S1x2816.size inb_S3x5632_S1x2816_1_2816).toLoadRect (harg6.unread x5),
    View.readAt (Elt F) arg6.view (Rect.unit (s := S3x5632) ![2, 2816] S1x2816.size inb_S3x5632_S1x2816_2_2816).toLoadRect (harg6.unread x5),
    View.readAt (Elt F) arg7.view (Rect.unit (s := S1x5632) ![0, 2816] S1x2816.size inb_S1x5632_S1x2816_0_2816).toLoadRect (harg7.unread x6),
    View.readAt (Elt F) arg8.view (Rect.unit (s := S2816x1024) ![0, 0] S2816x1024.size inb_S2816x1024_S2816x1024_0_0).toLoadRect (harg8.unread x7),
    View.readAt (Elt F) arg9.view (Rect.unit (s := S1x1024) ![0, 0] S1x1024.size inb_S1x1024_S1x1024_0_0).toLoadRect (harg9.unread x8)⟩

/-- The last rows the body reads of the tile before: a half of the scratch as its stores have left it, or as the point found it. -/
def tl (arg12 : Memref sig .tc .vmem S8x5632 .f32) (L : List (View.Piece (Elt F) S8x5632 .f32)) : Vec F S8x2816 .f32 :=
  arg12.view.readCov L (Rect.unit (s := S8x5632) ![0, 0] S8x2816.size inb_S8x5632_S8x2816_0_0).toLoadRect
@[inherit_doc tl] def tr (arg12 : Memref sig .tc .vmem S8x5632 .f32) (L : List (View.Piece (Elt F) S8x5632 .f32)) : Vec F S8x2816 .f32 :=
  arg12.view.readCov L (Rect.unit (s := S8x5632) ![0, 2816] S8x2816.size inb_S8x5632_S8x2816_0_2816).toLoadRect
@[inherit_doc tl] def ul (arg12 : Memref sig .tc .vmem S8x5632 .f32) (harg12 : arg12.IsWhole) (xs0 : Vec F S8x5632 .f32) : Vec F S8x2816 .f32 :=
  View.readAt (Elt F) arg12.view (Rect.unit (s := S8x5632) ![0, 0] S8x2816.size inb_S8x5632_S8x2816_0_0).toLoadRect (harg12.unread xs0)
@[inherit_doc tl] def ur (arg12 : Memref sig .tc .vmem S8x5632 .f32) (harg12 : arg12.IsWhole) (xs0 : Vec F S8x5632 .f32) : Vec F S8x2816 .f32 :=
  View.readAt (Elt F) arg12.view (Rect.unit (s := S8x5632) ![0, 2816] S8x2816.size inb_S8x5632_S8x2816_0_2816).toLoadRect (harg12.unread xs0)

/-- The piece the body stores of its result. -/
def pcsY (y : FVec F S512x1024 .f32) : List (View.Piece (Elt F) S512x1024 .f32) :=
  [⟨Rect.unit (s := S512x1024) ![0, 0] S512x1024.size inb_S512x1024_S512x1024_0_0, y⟩]

/-- The pieces the body stores of the tail result. -/
def pcsB (d : Rd F) : List (View.Piece (Elt F) S1x8x5632 .f32) :=
  [⟨Rect.unit (s := S1x8x5632) ![0, 0, 2816] S1x8x2816.size inb_S1x8x5632_S1x8x2816_0_0_2816, Rd.lastB d.u1⟩,
    ⟨Rect.unit (s := S1x8x5632) ![0, 0, 0] S1x8x2816.size inb_S1x8x5632_S1x8x2816_0_0_0, Rd.lastB d.u0⟩]

/-- The zeros a batch's first point stores in the scratch. -/
def pcsZ : List (View.Piece (Elt F) S8x5632 .f32) :=
  [⟨Rect.unit (s := S8x5632) ![0, 0] S8x5632.size inb_S8x5632_S8x5632_0_0, Cert.Kernel2Ideal.Gen.k0_pay1⟩]

/-- The scratch after the gate half's last rows. -/
def pcsL (d : Rd F) (L : List (View.Piece (Elt F) S8x5632 .f32)) : List (View.Piece (Elt F) S8x5632 .f32) :=
  ⟨Rect.unit (s := S8x5632) ![0, 0] S8x2816.size inb_S8x5632_S8x2816_0_0, Rd.last d.u0⟩ :: L

/-- The scratch after both halves' last rows. -/
def pcsS (d : Rd F) (L : List (View.Piece (Elt F) S8x5632 .f32)) : List (View.Piece (Elt F) S8x5632 .f32) :=
  ⟨Rect.unit (s := S8x5632) ![0, 2816] S8x2816.size inb_S8x5632_S8x2816_0_2816, Rd.last d.u1⟩ :: pcsL d L

end Pieces

/-- A read through a whole memref holding `x` is `x` where the read's rectangle places the index. -/
theorem read_whole {s : Shape} {e : EltTy} (M : Memref sig .tc .vmem s e) (hM : M.IsWhole) (r : Rect s) (x : s.Idx → Elt Ideal e)
    (j : r.shape.Idx) (i : s.Idx) (hi : r.emb j = i) : View.readAt (Elt Ideal) M.view r.toLoadRect (hM.unread x) j = x i := by
  rw [View.readAt_eq_ld, hM.read_unread]
  subst hi
  rfl

/-- A point's reads hold its tile, when its blocks are the batch's rows and the weights. -/
theorem rd_holds (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32)
    (A : Arr) (b : Fin 8) (p : ℕ) (hp : p < 4)
    (h0 : ∀ r z, x0 (ix2 r z) = A.x b ⟨512 * p + r.val, by omega⟩ z) (h1 : ∀ r z, x1 (ix2 r z) = A.o b ⟨512 * p + r.val, by omega⟩ z)
    (h2 : ∀ k z, x2 (ix2 k z) = A.wo k z) (h3 : ∀ z, x3 (ix2 0 z) = A.g z) (h4 : ∀ k z, x4 (ix2 k z) = A.win k z)
    (h5 : ∀ k z, x5 (ix2 k z) = A.cw k z) (h6 : ∀ z, x6 (ix2 0 z) = A.cb z) (h7 : ∀ k z, x7 (ix2 k z) = A.wout k z) (h8 : ∀ z, x8 (ix2 0 z) = A.gf z) :
    (rd (F := Ideal) arg1 harg1 arg2 harg2 arg3 harg3 arg4 harg4 arg5 harg5 arg6 harg6 arg7 harg7 arg8 harg8 arg9 harg9 x0 x1 x2 x3 x4 x5 x6 x7 x8).Holds A b p hp := by
  constructor
  · intro r z
    refine (read_whole arg1 harg1 _ x0 _ (ix2 r z) ?_).trans (h0 r z)
    funext a
    apply Fin.ext
    match a with
    | ⟨0, _⟩ => show 0 + 1 * r.val = r.val; omega
    | ⟨1, _⟩ => show 0 + 1 * z.val = z.val; omega
  · intro r z
    refine (read_whole arg2 harg2 _ x1 _ (ix2 r z) ?_).trans (h1 r z)
    funext a
    apply Fin.ext
    match a with
    | ⟨0, _⟩ => show 0 + 1 * r.val = r.val; omega
    | ⟨1, _⟩ => show 0 + 1 * z.val = z.val; omega
  · intro r z
    refine (read_whole arg3 harg3 _ x2 _ (ix2 r z) ?_).trans (h2 r z)
    funext a
    apply Fin.ext
    match a with
    | ⟨0, _⟩ => show 0 + 1 * r.val = r.val; omega
    | ⟨1, _⟩ => show 0 + 1 * z.val = z.val; omega
  · intro z
    refine (read_whole arg4 harg4 _ x3 _ (ix2 0 z) ?_).trans (h3 z)
    funext a
    apply Fin.ext
    match a with
    | ⟨0, _⟩ => show 0 + 1 * 0 = 0; rfl
    | ⟨1, _⟩ => show 0 + 1 * z.val = z.val; omega
  · intro k j
    refine (read_whole arg5 harg5 _ x4 _ (ix2 k (lo j)) ?_).trans (h4 k (lo j))
    funext a
    apply Fin.ext
    match a with
    | ⟨0, _⟩ => show 0 + 1 * k.val = k.val; omega
    | ⟨1, _⟩ => show 0 + 1 * j.val = j.val; omega
  · intro k j
    refine (read_whole arg5 harg5 _ x4 _ (ix2 k (hi j)) ?_).trans (h4 k (hi j))
    funext a
    apply Fin.ext
    match a with
    | ⟨0, _⟩ => show 0 + 1 * k.val = k.val; omega
    | ⟨1, _⟩ => show 2816 + 1 * j.val = 2816 + j.val; omega
  · intro j
    refine (read_whole arg6 harg6 _ x5 _ (ix2 0 (lo j)) ?_).trans (h5 0 (lo j))
    funext a
    apply Fin.ext
    match a with
    | ⟨0, _⟩ => show 0 + 1 * 0 = 0; rfl
    | ⟨1, _⟩ => show 0 + 1 * j.val = j.val; omega
  · intro j
    refine (read_whole arg6 harg6 _ x5 _ (ix2 1 (lo j)) ?_).trans (h5 1 (lo j))
    funext a
    apply Fin.ext
    match a with
    | ⟨0, _⟩ => show 1 + 1 * 0 = 1; rfl
    | ⟨1, _⟩ => show 0 + 1 * j.val = j.val; omega
  · intro j
    refine (read_whole arg6 harg6 _ x5 _ (ix2 2 (lo j)) ?_).trans (h5 2 (lo j))
    funext a
    apply Fin.ext
    match a with
    | ⟨0, _⟩ => show 2 + 1 * 0 = 2; rfl
    | ⟨1, _⟩ => show 0 + 1 * j.val = j.val; omega
  · intro j
    refine (read_whole arg7 harg7 _ x6 _ (ix2 0 (lo j)) ?_).trans (h6 (lo j))
    funext a
    apply Fin.ext
    match a with
    | ⟨0, _⟩ => show 0 + 1 * 0 = 0; rfl
    | ⟨1, _⟩ => show 0 + 1 * j.val = j.val; omega
  · intro j
    refine (read_whole arg6 harg6 _ x5 _ (ix2 0 (hi j)) ?_).trans (h5 0 (hi j))
    funext a
    apply Fin.ext
    match a with
    | ⟨0, _⟩ => show 0 + 1 * 0 = 0; rfl
    | ⟨1, _⟩ => show 2816 + 1 * j.val = 2816 + j.val; omega
  · intro j
    refine (read_whole arg6 harg6 _ x5 _ (ix2 1 (hi j)) ?_).trans (h5 1 (hi j))
    funext a
    apply Fin.ext
    match a with
    | ⟨0, _⟩ => show 1 + 1 * 0 = 1; rfl
    | ⟨1, _⟩ => show 2816 + 1 * j.val = 2816 + j.val; omega
  · intro j
    refine (read_whole arg6 harg6 _ x5 _ (ix2 2 (hi j)) ?_).trans (h5 2 (hi j))
    funext a
    apply Fin.ext
    match a with
    | ⟨0, _⟩ => show 2 + 1 * 0 = 2; rfl
    | ⟨1, _⟩ => show 2816 + 1 * j.val = 2816 + j.val; omega
  · intro j
    refine (read_whole arg7 harg7 _ x6 _ (ix2 0 (hi j)) ?_).trans (h6 (hi j))
    funext a
    apply Fin.ext
    match a with
    | ⟨0, _⟩ => show 0 + 1 * 0 = 0; rfl
    | ⟨1, _⟩ => show 2816 + 1 * j.val = 2816 + j.val; omega
  · intro k j
    refine (read_whole arg8 harg8 _ x7 _ (ix2 k j) ?_).trans (h7 k j)
    funext a
    apply Fin.ext
    match a with
    | ⟨0, _⟩ => show 0 + 1 * k.val = k.val; omega
    | ⟨1, _⟩ => show 0 + 1 * j.val = j.val; omega
  · intro z
    refine (read_whole arg9 harg9 _ x8 _ (ix2 0 z) ?_).trans (h8 z)
    funext a
    apply Fin.ext
    match a with
    | ⟨0, _⟩ => show 0 + 1 * 0 = 0; rfl
    | ⟨1, _⟩ => show 0 + 1 * z.val = z.val; omega

/-- The scratch after a point holds the tile's last rows. -/
theorem scr_row {d : Rd Ideal} {A : Arr} {b : Fin 8} {p : ℕ} {hp : p < 4} (H : d.Holds A b p hp) (L : List (View.Piece (Elt Ideal) S8x5632 .f32))
    (q : Fin 8) (z : Fin 5632) : View.canon (pcsS d L) (ix2 q z) = A.u b ⟨512 * p + (504 + q.val), by omega⟩ z := by
  revert z
  refine col_cases _ (fun j => ?_) (fun j => ?_)
  · exact (canon_lo _ _ _ _ L q j).trans ((last_apply _ q j).trans (u0_row H _ j))
  · exact (canon_hi _ _ _ q j).trans ((last_apply _ q j).trans (u1_row H _ j))

/-- The tail block after a point holds the tile's last rows. -/
theorem blk_row {d : Rd Ideal} {A : Arr} {b : Fin 8} {p : ℕ} {hp : p < 4} (H : d.Holds A b p hp)
    (q : Fin 8) (z : Fin 5632) : View.canon (pcsB d) (ix3 0 q z) = A.u b ⟨512 * p + (504 + q.val), by omega⟩ z := by
  revert z
  refine col_cases _ (fun j => ?_) (fun j => ?_)
  · exact (canonB_lo _ _ _ _ [] q j).trans ((lastB_apply _ q j).trans (u0_row H _ j))
  · exact (canonB_hi _ _ _ q j).trans ((lastB_apply _ q j).trans (u1_row H _ j))

/-- Above a batch's first tile the scratch's gate half is zero. -/
theorem above_tl (arg12 : Memref sig .tc .vmem S8x5632 .f32) (A : Arr) (b : Fin 8) (p : ℕ) (hp : p < 4) (h : p = 0) :
    Above A b p hp lo (tl (F := Ideal) arg12 pcsZ) := by
  intro q j
  rw [dif_pos h]
  unfold tl
  rw [View.readCov_eq_canon']
  exact canon_zero _ _

/-- Above a batch's first tile the scratch's value half is zero. -/
theorem above_tr (arg12 : Memref sig .tc .vmem S8x5632 .f32) (d : Rd Ideal) (A : Arr) (b : Fin 8) (p : ℕ) (hp : p < 4) (h : p = 0) :
    Above A b p hp hi (tr (F := Ideal) arg12 (pcsL d pcsZ)) := by
  intro q j
  rw [dif_pos h]
  unfold tr
  rw [View.readCov_eq_canon']
  refine Eq.trans (congrArg _ ?_) (canon_zero_hi inb_S8x5632_S8x2816_0_0 inb_S8x5632_S8x5632_0_0 (Rd.last d.u0) q j)
  funext a
  apply Fin.ext
  match a with
  | ⟨0, _⟩ => show 0 + 1 * q.val = q.val; omega
  | ⟨1, _⟩ => show 2816 + 1 * j.val = 2816 + j.val; omega

/-- Above a later tile the scratch's gate half is the tile before's. -/
theorem above_ul (arg12 : Memref sig .tc .vmem S8x5632 .f32) (harg12 : arg12.IsWhole) (xs0 : Vec Ideal S8x5632 .f32) (A : Arr) (b : Fin 8) (p : ℕ) (hp : p < 4) (h : ¬p = 0)
    (hx : ∀ q z, xs0 (ix2 q z) = A.u b ⟨512 * p - 8 + q.val, by omega⟩ z) : Above A b p hp lo (ul (F := Ideal) arg12 harg12 xs0) := by
  intro q j
  rw [dif_neg h]
  refine (read_whole arg12 harg12 _ xs0 _ (ix2 q (lo j)) ?_).trans (hx q (lo j))
  funext a
  apply Fin.ext
  match a with
  | ⟨0, _⟩ => show 0 + 1 * q.val = q.val; omega
  | ⟨1, _⟩ => show 0 + 1 * j.val = j.val; omega

/-- Above a later tile the scratch's value half is the tile before's. -/
theorem above_ur (arg12 : Memref sig .tc .vmem S8x5632 .f32) (harg12 : arg12.IsWhole) (xs0 : Vec Ideal S8x5632 .f32) (A : Arr) (b : Fin 8) (p : ℕ) (hp : p < 4) (h : ¬p = 0)
    (hx : ∀ q z, xs0 (ix2 q z) = A.u b ⟨512 * p - 8 + q.val, by omega⟩ z) : Above A b p hp hi (ur (F := Ideal) arg12 harg12 xs0) := by
  intro q j
  rw [dif_neg h]
  refine (read_whole arg12 harg12 _ xs0 _ (ix2 q (hi j)) ?_).trans (hx q (hi j))
  funext a
  apply Fin.ext
  match a with
  | ⟨0, _⟩ => show 0 + 1 * q.val = q.val; omega
  | ⟨1, _⟩ => show 2816 + 1 * j.val = 2816 + j.val; omega

end Cert.Ffn
-- ==== Proof.Ffn.Last.Points.lean ====
/- The last layer's body: the pieces that a grid point stores, and over extended reals its rows of the result and its last rows. -/
module

public import proofs.«01_k».proof.Proof.Gen.Kernel2Ideal.Frame
public import proofs.«01_k».proof.Proof.Ffn.Body

@[expose] public section
set_option maxRecDepth 16384
noncomputable section
namespace Cert.Ffn.Last

open Idealize.ShloMosaic Idealize.ShloMosaic.TcCoe Idealize.ShloMosaic.Tactic
open Cert.Kernel2Ideal Cert.Kernel2Ideal.Gen

section Pieces
variable {F : FTy → Type} [FloatOps F]

/-- The tile's result, from the rows above its two halves. -/
def res (d : Rd F) (t0 t1 : Vec F S8x2816 .f32) : FVec F S512x1024 .f32 := norm (d.acc t0 t1) d.gf

/-- What the body stores of its result at a batch's first point. -/
theorem pcs_A_9 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 = pcsY (res (rd arg1 harg1 arg2 harg2 arg3 harg3 arg4 harg4 arg5 harg5 arg6 harg6 arg7 harg7 arg8 harg8 arg9 harg9 x0 x1 x2 x3 x4 x5 x6 x7 x8) (tl arg12 pcsZ) (tr arg12 (pcsL (rd arg1 harg1 arg2 harg2 arg3 harg3 arg4 harg4 arg5 harg5 arg6 harg6 arg7 harg7 arg8 harg8 arg9 harg9 x0 x1 x2 x3 x4 x5 x6 x7 x8) pcsZ))) := by
  sl_kernel_rfl

/-- What the body stores of the tail result at a batch's first point. -/
theorem pcs_A_10 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 = pcsB (rd arg1 harg1 arg2 harg2 arg3 harg3 arg4 harg4 arg5 harg5 arg6 harg6 arg7 harg7 arg8 harg8 arg9 harg9 x0 x1 x2 x3 x4 x5 x6 x7 x8) := by
  sl_kernel_rfl

/-- What the body stores of the scratch at a batch's first point. -/
theorem pcs_A_s (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1 = pcsS (rd arg1 harg1 arg2 harg2 arg3 harg3 arg4 harg4 arg5 harg5 arg6 harg6 arg7 harg7 arg8 harg8 arg9 harg9 x0 x1 x2 x3 x4 x5 x6 x7 x8) pcsZ := by
  sl_kernel_rfl

/-- What the body stores of its result at a later point. -/
theorem pcs_B_9 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) (xs0 : Vec F S8x5632 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).1 = pcsY (res (rd arg1 harg1 arg2 harg2 arg3 harg3 arg4 harg4 arg5 harg5 arg6 harg6 arg7 harg7 arg8 harg8 arg9 harg9 x0 x1 x2 x3 x4 x5 x6 x7 x8) (ul arg12 harg12 xs0) (ur arg12 harg12 xs0)) := by
  sl_kernel_rfl

/-- What the body stores of the tail result at a later point. -/
theorem pcs_B_10 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) (xs0 : Vec F S8x5632 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1 = pcsB (rd arg1 harg1 arg2 harg2 arg3 harg3 arg4 harg4 arg5 harg5 arg6 harg6 arg7 harg7 arg8 harg8 arg9 harg9 x0 x1 x2 x3 x4 x5 x6 x7 x8) := by
  sl_kernel_rfl

/-- What the body stores of the scratch at a later point. -/
theorem pcs_B_s (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) (xs0 : Vec F S8x5632 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.2.1 = pcsS (rd arg1 harg1 arg2 harg2 arg3 harg3 arg4 harg4 arg5 harg5 arg6 harg6 arg7 harg7 arg8 harg8 arg9 harg9 x0 x1 x2 x3 x4 x5 x6 x7 x8) [] := by
  sl_kernel_rfl

end Pieces

/-- The tile's result at a row. -/
theorem res_row {d : Rd Ideal} {A : Arr} {b : Fin 8} {p : ℕ} {hp : p < 4} (H : d.Holds A b p hp) {t0 t1 : Vec Ideal S8x2816 .f32}
    (h0 : Above A b p hp lo t0) (h1 : Above A b p hp hi t1) (r : Fin 512) (z : Fin 1024) :
    res d t0 t1 (ix2 r z) = A.y b ⟨512 * p + r.val, by omega⟩ z := y_row H h0 h1 r z

/-- The result of a batch's first point. -/
theorem at_A_9 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32)
    (A : Arr) (b : Fin 8) (p : ℕ) (hp : p < 4) (h : p = 0)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (r : Fin 512) (z : Fin 1024) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 (ix2 r z) = A.y b ⟨512 * p + r.val, by omega⟩ z := by
  unfold out0_A_9
  rw [View.read_writes_junk_eq_canon, pcs_A_9, pcsY, View.canon_unit_zero (by decide)]
  exact res_row H (above_tl _ A b p hp h) (above_tr _ _ A b p hp h) r z

/-- The tail block of a batch's first point. -/
theorem at_A_10 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32)
    (A : Arr) (b : Fin 8) (p : ℕ) (hp : p < 4)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (q : Fin 8) (z : Fin 5632) :
    out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 (ix3 0 q z) = A.u b ⟨512 * p + (504 + q.val), by omega⟩ z := by
  unfold out0_A_10
  rw [View.read_writes_junk_eq_canon, pcs_A_10]
  exact blk_row H q z

/-- The scratch of a batch's first point. -/
theorem at_A_s (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32)
    (A : Arr) (b : Fin 8) (p : ℕ) (hp : p < 4)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (q : Fin 8) (z : Fin 5632) :
    sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 (ix2 q z) = A.u b ⟨512 * p + (504 + q.val), by omega⟩ z := by
  unfold sout0_A_0
  rw [View.read_writes_junk_eq_canon, pcs_A_s]
  exact scr_row H _ q z

/-- The result of a later point. -/
theorem at_B_9 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S8x5632 .f32)
    (A : Arr) (b : Fin 8) (p : ℕ) (hp : p < 4) (h : ¬p = 0) (hx : ∀ q z, xs0 (ix2 q z) = A.u b ⟨512 * p - 8 + q.val, by omega⟩ z)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (r : Fin 512) (z : Fin 1024) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix2 r z) = A.y b ⟨512 * p + r.val, by omega⟩ z := by
  unfold out0_B_9
  rw [View.read_writes_junk_eq_canon, pcs_B_9, pcsY, View.canon_unit_zero (by decide)]
  exact res_row H (above_ul _ _ xs0 A b p hp h hx) (above_ur _ _ xs0 A b p hp h hx) r z

/-- The tail block of a later point. -/
theorem at_B_10 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S8x5632 .f32)
    (A : Arr) (b : Fin 8) (p : ℕ) (hp : p < 4)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (q : Fin 8) (z : Fin 5632) :
    out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix3 0 q z) = A.u b ⟨512 * p + (504 + q.val), by omega⟩ z := by
  unfold out0_B_10
  rw [View.read_writes_junk_eq_canon, pcs_B_10]
  exact blk_row H q z

/-- The scratch of a later point. -/
theorem at_B_s (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S8x5632 .f32)
    (A : Arr) (b : Fin 8) (p : ℕ) (hp : p < 4)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (q : Fin 8) (z : Fin 5632) :
    sout0_B_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix2 q z) = A.u b ⟨512 * p + (504 + q.val), by omega⟩ z := by
  unfold sout0_B_0
  rw [View.read_writes_junk_eq_canon, pcs_B_s]
  exact scr_row H _ q z

end Cert.Ffn.Last
-- ==== Proof.Ffn.Last.Kernel.lean ====
/- The last layer's run over extended reals: its two arrays hold the normalized rows and each batch's last rows. -/
module

public import proofs.«01_k».proof.Proof.Ffn.Last.Points
public import proofs.«01_k».proof.Proof.Gen.Kernel2Ideal.Frame
public import Idealize.ShloMosaic.Lib.StableHlo.ReadAt
public import Idealize.ShloMosaic.Lib.Claim

@[expose] public section
set_option maxRecDepth 16384
noncomputable section
namespace Cert.Ffn.Last

open Idealize.ShloMosaic Idealize.ShloMosaic.TcCoe Idealize.ShloMosaic.Tactic Idealize.SL.Sem
open Cert.Kernel2Ideal Cert.Kernel2Ideal.Gen
variable (m : (ℓ : Loc nD τ sig) → Buf (Elt Ideal) ℓ)

/-- The arguments as device `c` holds them. -/
def arr (c : Dev nD) : Arr where
  x b t z := (m ((c : Thread nD τ).loc main_arg0) : S8x2048x1024.Idx → EReal) (ix3 b t z)
  o b t z := (m ((c : Thread nD τ).loc main_arg1) : S8x2048x1024.Idx → EReal) (ix3 b t z)
  wo k z := (m ((c : Thread nD τ).loc main_arg2) : S1024x1024.Idx → EReal) (ix2 k z)
  g z := (m ((c : Thread nD τ).loc main_arg3) : S1024.Idx → EReal) (ix1 z)
  win k z := (m ((c : Thread nD τ).loc main_arg4) : S1024x5632.Idx → EReal) (ix2 k z)
  cw k z := (m ((c : Thread nD τ).loc main_arg5) : S3x5632.Idx → EReal) (ix2 k z)
  cb z := (m ((c : Thread nD τ).loc main_arg6) : S5632.Idx → EReal) (ix1 z)
  wout k z := (m ((c : Thread nD τ).loc main_arg7) : S2816x1024.Idx → EReal) (ix2 k z)
  gf z := (m ((c : Thread nD τ).loc main_arg8) : S1024.Idx → EReal) (ix1 z)

/-- The windows' block indices, by the point. -/
theorem idx_tok : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val / 4, 0, 0] := by decide +kernel

/-- The grid's points number 32. -/
theorem lt32 (t : Fin cfg0.N) : t.val < 32 := lt_of_lt_of_eq t.isLt N_0

/-- The blocks a point reads. -/
abbrev in0 (c : Dev nD) (t : Fin cfg0.N) : S512x1024.Idx → EReal := iblk m c 0 t
@[inherit_doc in0] abbrev in1 (c : Dev nD) (t : Fin cfg0.N) : S512x1024.Idx → EReal := iblk m c 1 t
@[inherit_doc in0] abbrev in2 (c : Dev nD) (t : Fin cfg0.N) : S1024x1024.Idx → EReal := iblk m c 2 t
@[inherit_doc in0] abbrev in3 (c : Dev nD) (t : Fin cfg0.N) : S1x1024.Idx → EReal := iblk m c 3 t
@[inherit_doc in0] abbrev in4 (c : Dev nD) (t : Fin cfg0.N) : S1024x5632.Idx → EReal := iblk m c 4 t
@[inherit_doc in0] abbrev in5 (c : Dev nD) (t : Fin cfg0.N) : S3x5632.Idx → EReal := iblk m c 5 t
@[inherit_doc in0] abbrev in6 (c : Dev nD) (t : Fin cfg0.N) : S1x5632.Idx → EReal := iblk m c 6 t
@[inherit_doc in0] abbrev in7 (c : Dev nD) (t : Fin cfg0.N) : S2816x1024.Idx → EReal := iblk m c 7 t
@[inherit_doc in0] abbrev in8 (c : Dev nD) (t : Fin cfg0.N) : S1x1024.Idx → EReal := iblk m c 8 t

/-- The activations' rows, all batches in one. -/
theorem V_x (c : Dev nD) (b : Fin 8) (t : Fin 2048) (z : Fin 1024) : (V m c main_v0 : S16384x1024.Idx → EReal) (ix2 ⟨2048 * b.val + t.val, by omega⟩ z) = (arr m c).x b t z := by
  unfold V arr
  after_reads_at

/-- The mixer output's rows, all batches in one. -/
theorem V_o (c : Dev nD) (b : Fin 8) (t : Fin 2048) (z : Fin 1024) : (V m c main_v1 : S16384x1024.Idx → EReal) (ix2 ⟨2048 * b.val + t.val, by omega⟩ z) = (arr m c).o b t z := by
  unfold V arr
  after_reads_at

/-- The rounded projection. -/
theorem V_wo (c : Dev nD) (k : Fin 1024) (z : Fin 1024) : (V m c main_v2 : S1024x1024.Idx → EReal) (ix2 k z) = (arr m c).wo k z := by
  unfold V arr
  after_reads_at

/-- The rounded input weight. -/
theorem V_win (c : Dev nD) (k : Fin 1024) (z : Fin 5632) : (V m c main_v3 : S1024x5632.Idx → EReal) (ix2 k z) = (arr m c).win k z := by
  unfold V arr
  after_reads_at

/-- The rounded output weight. -/
theorem V_wout (c : Dev nD) (k : Fin 2816) (z : Fin 1024) : (V m c main_v4 : S2816x1024.Idx → EReal) (ix2 k z) = (arr m c).wout k z := by
  unfold V arr
  after_reads_at

/-- The gain as a row. -/
theorem V_g (c : Dev nD) (z : Fin 1024) : (V m c main_v5 : S1x1024.Idx → EReal) (ix2 0 z) = (arr m c).g z := by
  unfold V arr
  after_reads_at

/-- The bias as a row. -/
theorem V_cb (c : Dev nD) (z : Fin 5632) : (V m c main_v6 : S1x5632.Idx → EReal) (ix2 0 z) = (arr m c).cb z := by
  unfold V arr
  after_reads_at

/-- The last gain as a row. -/
theorem V_gf (c : Dev nD) (z : Fin 1024) : (V m c main_v7 : S1x1024.Idx → EReal) (ix2 0 z) = (arr m c).gf z := by
  unfold V arr
  after_reads_at

/-- A point's activations. -/
theorem blk_x (c : Dev nD) (t : Fin cfg0.N) (r : Fin 512) (z : Fin 1024) :
    in0 m c t (ix2 r z) = (arr m c).x ⟨t.val / 4, by have := lt32 t; omega⟩ ⟨512 * (t.val % 4) + r.val, by omega⟩ z := by
  have := lt32 t
  refine Eq.trans ?_ (V_x m c _ _ z)
  blk_ext [iblk, (idx_tok t).1]

/-- A point's mixer output. -/
theorem blk_o (c : Dev nD) (t : Fin cfg0.N) (r : Fin 512) (z : Fin 1024) :
    in1 m c t (ix2 r z) = (arr m c).o ⟨t.val / 4, by have := lt32 t; omega⟩ ⟨512 * (t.val % 4) + r.val, by omega⟩ z := by
  have := lt32 t
  refine Eq.trans ?_ (V_o m c _ _ z)
  blk_ext [iblk, (idx_tok t).2.1]

/-- A point's projection. -/
theorem blk_wo (c : Dev nD) (t : Fin cfg0.N) (k : Fin 1024) (z : Fin 1024) : in2 m c t (ix2 k z) = (arr m c).wo k z := by
  refine Eq.trans ?_ (V_wo m c k z)
  blk_ext [iblk, (idx_tok t).2.2.1]

/-- A point's gain. -/
theorem blk_g (c : Dev nD) (t : Fin cfg0.N) (z : Fin 1024) : in3 m c t (ix2 0 z) = (arr m c).g z := by
  refine Eq.trans ?_ (V_g m c z)
  blk_ext [iblk, (idx_tok t).2.2.2.1]

/-- A point's input weight. -/
theorem blk_win (c : Dev nD) (t : Fin cfg0.N) (k : Fin 1024) (z : Fin 5632) : in4 m c t (ix2 k z) = (arr m c).win k z := by
  refine Eq.trans ?_ (V_win m c k z)
  blk_ext [iblk, (idx_tok t).2.2.2.2.1]

/-- A point's convolution weight. -/
theorem blk_cw (c : Dev nD) (t : Fin cfg0.N) (k : Fin 3) (z : Fin 5632) : in5 m c t (ix2 k z) = (arr m c).cw k z := by
  unfold arr
  blk_ext [iblk, V_main_arg5, (idx_tok t).2.2.2.2.2.1]

/-- A point's convolution bias. -/
theorem blk_cb (c : Dev nD) (t : Fin cfg0.N) (z : Fin 5632) : in6 m c t (ix2 0 z) = (arr m c).cb z := by
  refine Eq.trans ?_ (V_cb m c z)
  blk_ext [iblk, (idx_tok t).2.2.2.2.2.2.1]

/-- A point's output weight. -/
theorem blk_wout (c : Dev nD) (t : Fin cfg0.N) (k : Fin 2816) (z : Fin 1024) : in7 m c t (ix2 k z) = (arr m c).wout k z := by
  refine Eq.trans ?_ (V_wout m c k z)
  blk_ext [iblk, (idx_tok t).2.2.2.2.2.2.2.1]

/-- A point's last gain. -/
theorem blk_gf (c : Dev nD) (t : Fin cfg0.N) (z : Fin 1024) : in8 m c t (ix2 0 z) = (arr m c).gf z := by
  refine Eq.trans ?_ (V_gf m c z)
  blk_ext [iblk, (idx_tok t).2.2.2.2.2.2.2.2.1]

/-- What a point reads holds its tile. -/
theorem holds_at (c : Dev nD) (t : Fin cfg0.N) :
    (rd (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (in0 m c t) (in1 m c t) (in2 m c t) (in3 m c t) (in4 m c t) (in5 m c t) (in6 m c t) (in7 m c t) (in8 m c t)).Holds
      (arr m c) ⟨t.val / 4, by have := lt32 t; omega⟩ (t.val % 4) (Nat.mod_lt _ (by decide)) :=
  rd_holds _ _ _ _ _ _ _ _ _ _ _ _ _ _ _ _ _ _ _ _ _ _ _ _ _ _ _ _ _ _ _ (blk_x m c t) (blk_o m c t) (blk_wo m c t) (blk_g m c t) (blk_win m c t)
    (blk_cw m c t) (blk_cb m c t) (blk_wout m c t) (blk_gf m c t)

/-- What is to hold after a point: its rows of the result, and its last rows in the tail block and the scratch. -/
def Good (c : Dev nD) (t : Fin cfg0.N) (y : S512x1024.Idx → EReal) (l : S1x8x5632.Idx → EReal) (s : S8x5632.Idx → EReal) : Prop :=
  (∀ (r : Fin 512) (z : Fin 1024), y (ix2 r z) = (arr m c).y ⟨t.val / 4, by have := lt32 t; omega⟩ ⟨512 * (t.val % 4) + r.val, by omega⟩ z)
    ∧ (∀ (q : Fin 8) (z : Fin 5632), l (ix3 0 q z) = (arr m c).u ⟨t.val / 4, by have := lt32 t; omega⟩ ⟨512 * (t.val % 4) + (504 + q.val), by omega⟩ z)
    ∧ ∀ (q : Fin 8) (z : Fin 5632), s (ix2 q z) = (arr m c).u ⟨t.val / 4, by have := lt32 t; omega⟩ ⟨512 * (t.val % 4) + (504 + q.val), by omega⟩ z

/-- A batch's first point. -/
theorem good_A (c : Dev nD) (t : Fin cfg0.N) (h0 : t.val % 4 = 0) :
    Good m c t (outsAt0 m c t.val t.isLt).1 (outsAt0 m c t.val t.isLt).2.1 (outsAt0 m c t.val t.isLt).2.2 := by
  have H := holds_at m c t
  rw [outsAt0_A m c t h0]
  unfold Good
  dsimp only
  exact ⟨fun r z => at_A_9 _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) h0 H r z,
    fun q z => at_A_10 _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) H q z,
    fun q z => at_A_s _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) H q z⟩

/-- A later point. -/
theorem good_B (c : Dev nD) (t : Fin cfg0.N) (h0 : ¬t.val % 4 = 0)
    (hs : ∀ (q : Fin 8) (z : Fin 5632), (outsAt0 m c (t.val - 1) (by have := t.isLt; omega)).2.2 (ix2 q z)
      = (arr m c).u ⟨t.val / 4, by have := lt32 t; omega⟩ ⟨512 * (t.val % 4) - 8 + q.val, by omega⟩ z) :
    Good m c t (outsAt0 m c t.val t.isLt).1 (outsAt0 m c t.val t.isLt).2.1 (outsAt0 m c t.val t.isLt).2.2 := by
  have H := holds_at m c t
  rw [outsAt0_B m c t h0]
  unfold Good
  dsimp only
  exact ⟨fun r z => at_B_9 _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) h0 hs H r z,
    fun q z => at_B_10 _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) H q z,
    fun q z => at_B_s _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) H q z⟩

/-- Every point, by what the point before it carried. -/
theorem good_at (c : Dev nD) : ∀ (n : ℕ) (hn : n < cfg0.N), Good m c ⟨n, hn⟩ (outsAt0 m c n hn).1 (outsAt0 m c n hn).2.1 (outsAt0 m c n hn).2.2 := by
  intro n
  induction n with
  | zero => exact fun hn => good_A m c ⟨0, hn⟩ (Nat.zero_mod 4)
  | succ n ih =>
    intro hn
    by_cases h0 : (n + 1) % 4 = 0
    · exact good_A m c ⟨n + 1, hn⟩ h0
    · refine good_B m c ⟨n + 1, hn⟩ h0 fun q z => ((ih (Nat.lt_of_succ_lt hn)).2.2 q z).trans ?_
      have e1 : (⟨n / 4, by have := lt32 ⟨n + 1, hn⟩; simp only at this; omega⟩ : Fin 8) = ⟨(n + 1) / 4, by have := lt32 ⟨n + 1, hn⟩; simp only at this; omega⟩ := Fin.ext (by show n / 4 = (n + 1) / 4; omega)
      have e2 : (⟨512 * (n % 4) + (504 + q.val), by omega⟩ : Fin 2048) = ⟨512 * ((n + 1) % 4) - 8 + q.val, by omega⟩ :=
        Fin.ext (by show 512 * (n % 4) + (504 + q.val) = 512 * ((n + 1) % 4) - 8 + q.val; omega)
      exact (congrArg (fun b => (arr m c).u b _ z) e1).trans (congrArg (fun t => (arr m c).u _ t z) e2)

/-- The result's array after the run. -/
theorem arr9 (c : Dev nD) : (dats m 0 c).arrAt 9 (cfgs 0).N = fun i : S16384x1024.Idx =>
    (arr m c).y ⟨(i 0).val / 2048, by have h := (i 0).isLt; change _ < 16384 at h; omega⟩ ⟨(i 0).val % 2048, Nat.mod_lt _ (by decide)⟩ (i 1) := by
  refine (dats m 0 c).arrAt_eq_of_covers 9 _ (by decide +kernel) fun t hf y => ?_
  blk_simp
  rw [after0_9]
  have := lt32 t
  have y0 : (y 0).val < 512 := (y 0).isLt
  have hy : y = (ix2 (y 0) (y 1) : S512x1024.Idx) := by
    funext a
    fin_cases a <;> rfl
  have e0 : win0_9.index t 0 * 512 + (y 0).val = 512 * t.val + (y 0).val := by rw [(idx_tok t).2.2.2.2.2.2.2.2.2.1]; simp; omega
  have e1 : ((win0_9.blk t).view.emb y 1).val = (y 1).val := by blk_simp [(idx_tok t).2.2.2.2.2.2.2.2.2.1] <;> omega
  refine (congrArg _ hy).trans (((good_at m c t.val t.isLt).1 _ _).trans ?_)
  congr 1
  · exact Fin.ext (by show t.val / 4 = (win0_9.index t 0 * 512 + (y 0).val) / 2048; rw [e0]; omega)
  · exact Fin.ext (by show 512 * (t.val % 4) + (y 0).val = (win0_9.index t 0 * 512 + (y 0).val) % 2048; rw [e0]; omega)
  · exact Fin.ext e1.symm

/-- The tail's array after the run. -/
theorem arr10 (c : Dev nD) : (dats m 0 c).arrAt 10 (cfgs 0).N = fun i : S8x8x5632.Idx =>
    (arr m c).u (i 0) ⟨2040 + (i 1).val, by have h := (i 1).isLt; change _ < 8 at h; omega⟩ (i 2) := by
  refine (dats m 0 c).arrAt_eq_of_covers 10 _ (by decide +kernel) fun t hf y => ?_
  have h3 : t.val % 4 = 3 := (by decide +kernel : ∀ t : Fin cfg0.N, (cfg0.win 10).flush t = true → t.val % 4 = 3) t hf
  blk_simp
  rw [after0_10]
  have := lt32 t
  have y0 : (y 0).val < 1 := (y 0).isLt
  have hy : y = (ix3 0 (y 1) (y 2) : S1x8x5632.Idx) := by
    funext a
    fin_cases a
    · exact Fin.ext (Nat.lt_one_iff.mp y0)
    · rfl
    · rfl
  have e0 : ((win0_10.blk t).view.emb y 0).val = t.val / 4 := by blk_simp [(idx_tok t).2.2.2.2.2.2.2.2.2.2] <;> omega
  have e1 : win0_10.index t 1 * 8 + (y 1).val = (y 1).val := by rw [(idx_tok t).2.2.2.2.2.2.2.2.2.2]; simp
  have e2 : ((win0_10.blk t).view.emb y 2).val = (y 2).val := by blk_simp [(idx_tok t).2.2.2.2.2.2.2.2.2.2] <;> omega
  refine (congrArg _ hy).trans (((good_at m c t.val t.isLt).2.1 _ _).trans ?_)
  congr 1
  · exact Fin.ext e0.symm
  · exact Fin.ext (by show 512 * (t.val % 4) + (504 + (y 1).val) = 2040 + (win0_10.index t 1 * 8 + (y 1).val); rw [e1]; omega)
  · exact Fin.ext e2.symm

/-- No two windows share an array. -/
theorem arrRef_inj : Function.Injective (Pipeline.arrRef (cfgs 0).spec) := by decide +kernel

/-- The result after the lines that follow the region. -/
theorem end_y (c : Dev nD) : (Pipeline.afterTail₀ cfgs (dats m) 0 (V0 m) [hostOps1] c main_v10 : S8x2048x1024.Idx → EReal)
    = fun i => (arr m c).y (i 0) (i 1) (i 2) := by
  funext i
  unfold Pipeline.afterTail₀
  after_reads_at
  have i1 : (i 1).val < 2048 := (i 1).isLt
  refine (congrFun ((Pipeline.withArrays_arr (cfgs 0).spec arrRef_inj c (V0 m c) (fun w => (dats m 0 c).arrAt w (cfgs 0).N) 9).trans (arr9 m c)) _).trans ?_
  show (arr m c).y ⟨((i 0).val * 2048 + (i 1).val) / 2048, _⟩ ⟨((i 0).val * 2048 + (i 1).val) % 2048, _⟩ (i 2) = _
  congr 1
  · exact Fin.ext (by show ((i 0).val * 2048 + (i 1).val) / 2048 = (i 0).val; omega)
  · exact Fin.ext (by show ((i 0).val * 2048 + (i 1).val) % 2048 = (i 1).val; omega)

/-- The tail after the lines that follow the region. -/
theorem end_u (c : Dev nD) : (Pipeline.afterTail₀ cfgs (dats m) 0 (V0 m) [hostOps1] c main_v9 : S8x2x5632.Idx → EReal)
    = fun i => (arr m c).u (i 0) ⟨2046 + (i 1).val, by have h := (i 1).isLt; change _ < 2 at h; omega⟩ (i 2) := by
  funext i
  unfold Pipeline.afterTail₀
  after_reads_at
  have i1 : (i 1).val < 2 := (i 1).isLt
  refine (congrFun ((Pipeline.withArrays_arr (cfgs 0).spec arrRef_inj c (V0 m c) (fun w => (dats m 0 c).arrAt w (cfgs 0).N) 10).trans (arr10 m c)) _).trans ?_
  show (arr m c).u (i 0) ⟨2040 + (6 + (i 1).val), _⟩ (i 2) = _
  congr 1
  exact Fin.ext (by show 2040 + (6 + (i 1).val) = 2046 + (i 1).val; omega)

/-- The run ends with both results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v10) = (fun i : S8x2048x1024.Idx => (arr m c).y (i 0) (i 1) (i 2))
      ∧ r.2.mem ((c.tc : Thread nD τ).loc main_v9) = (fun i : S8x2x5632.Idx => (arr m c).u (i 0) ⟨2046 + (i 1).val, by have h := (i 1).isLt; change _ < 2 at h; omega⟩ (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).2 main_v10 (Pipeline.mem_restRefs_of main_v10 (by decide) (by decide))).trans (end_y m c),
    ((h.1 c).2 main_v9 (Pipeline.mem_restRefs_of main_v9 (by decide) (by decide))).trans (end_u m c), h.2 c⟩)
    (θ_run_and (run_main m ρ) (unchanged m ρ))

end Cert.Ffn.Last
-- ==== Proof.Ffn.Ref.lean ====
/- The reference's arrays in functions of its own, read at an index over extended reals. -/
module

public import proofs.«01_k».proof.Proof.Gen.Reference2Ideal.Run
public import proofs.«01_k».proof.Proof.Ffn.Math

@[expose] public section
set_option maxRecDepth 16384
noncomputable section
namespace Cert.Ffn.Ref

open Idealize.ShloMosaic Idealize.ShloMosaic.TcCoe Idealize.ShloMosaic.Tactic
open Cert.Reference2Ideal Cert.Reference2Ideal.Gen

section Values
variable {F : FTy → Type} [FloatOps F]

/-- The activations with the projected mixer output. -/
def xo (x : FVec F S8x2048x1024 .f32) (o : FVec F S8x2048x1024 .bf16) (w : FVec F S1024x1024 .f32) : FVec F S8x2048x1024 .f32 :=
  addf x (Host.dotGeneral dot_S8x2048x1024_S1024x1024_S8x2048x1024_2_0_01_1_n_n none (extf .f32 o bitsLt_bf16_f32) w)

/-- The rows under the root mean square and the gain. -/
def norm (a : FVec F S8x2048x1024 .f32) (g : FVec F S1024 .f32) : FVec F S8x2048x1024 .f32 :=
  mulf (mulf a (broadcastInDim S8x2048x1024 ![0, 1, 2] bcast_S8x2048x1_S8x2048x1024_0_1_2 (Host.rsqrt (addf
      (Host.divf (broadcastInDim S8x2048x1 ![0, 1] bcast_S8x2048_S8x2048x1_0_1 (Host.reduceAdd (mulf a a) (constant S_ .f32 0x00000000#32) reducesTo_S8x2048x1024_S8x2048_d2 h_S_))
        (broadcastInDim S8x2048x1 ![] bcast_S_S8x2048x1 (constant S_ .f32 0x44800000#32)))
      (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The feed-forward's input. -/
def inp (h : FVec F S8x2048x1024 .f32) (w : FVec F S1024x5632 .f32) : FVec F S8x2048x5632 .f32 :=
  Host.dotGeneral dot_S8x2048x1024_S1024x5632_S8x2048x5632_2_0_01_1_n_n none h w

/-- The input under two rows of zeros. -/
def pad (u : FVec F S8x2048x5632 .f32) : FVec F S8x2050x5632 .f32 :=
  concatenate S8x2050x5632 1 [⟨S8x2x5632, broadcastInDim S8x2x5632 ![] bcast_S_S8x2x5632 (constant S_ .f32 0x00000000#32)⟩, ⟨S8x2048x5632, u⟩]
    concatenates_S8x2x5632_S8x2048x5632_S8x2050x5632_d1

/-- The convolution's row of weights over all positions. -/
def row (w : FVec F S1x5632 .f32) : FVec F S8x2048x5632 .f32 :=
  broadcastInDim S8x2048x5632 ![0, 1, 2] bcast_S1x1x5632_S8x2048x5632_0_1_2 (broadcastInDim S1x1x5632 ![2] bcast_S5632_S1x1x5632_2
    (shapeCast S5632 w shapeCasts_S1x5632_S5632))

/-- The convolution. -/
def conv (p : FVec F S8x2050x5632 .f32) (cw : FVec F S3x5632 .f32) (cb : FVec F S5632 .f32) : FVec F S8x2048x5632 .f32 :=
  addf (addf (addf (addf (broadcastInDim S8x2048x5632 ![] bcast_S_S8x2048x5632 (constant S_ .f32 0x00000000#32))
        (mulf (extractStridedSlice S8x2048x5632 ![0, 0, 0] p slices_S8x2050x5632_S8x2048x5632_0_0_0) (row (extractStridedSlice S1x5632 ![0, 0] cw slices_S3x5632_S1x5632_0_0))))
      (mulf (extractStridedSlice S8x2048x5632 ![0, 1, 0] p slices_S8x2050x5632_S8x2048x5632_0_1_0) (row (extractStridedSlice S1x5632 ![1, 0] cw slices_S3x5632_S1x5632_1_0))))
    (mulf (extractStridedSlice S8x2048x5632 ![0, 2, 0] p slices_S8x2050x5632_S8x2048x5632_0_2_0) (row (extractStridedSlice S1x5632 ![2, 0] cw slices_S3x5632_S1x5632_2_0))))
    (broadcastInDim S8x2048x5632 ![0, 1, 2] bcast_S1x1x5632_S8x2048x5632_0_1_2 (broadcastInDim S1x1x5632 ![2] bcast_S5632_S1x1x5632_2 cb))

/-- The convolution's gate half under its logistic, times its value half. -/
def act (v : FVec F S8x2048x5632 .f32) : FVec F S8x2048x2816 .f32 :=
  mulf (mulf (extractStridedSlice S8x2048x2816 ![0, 0, 0] v slices_S8x2048x5632_S8x2048x2816_0_0_0)
      (Host.divf (broadcastInDim S8x2048x2816 ![] bcast_S_S8x2048x2816 (constant S_ .f32 0x3F800000#32))
        (addf (broadcastInDim S8x2048x2816 ![] bcast_S_S8x2048x2816 (constant S_ .f32 0x3F800000#32))
          (Host.exp (Host.negf (extractStridedSlice S8x2048x2816 ![0, 0, 0] v slices_S8x2048x5632_S8x2048x2816_0_0_0))))))
    (extractStridedSlice S8x2048x2816 ![0, 0, 2816] v slices_S8x2048x5632_S8x2048x2816_0_0_2816)

/-- The residual and the output weight's product. -/
def acc (x : FVec F S8x2048x1024 .f32) (a : FVec F S8x2048x2816 .f32) (w : FVec F S2816x1024 .f32) : FVec F S8x2048x1024 .f32 :=
  addf x (Host.dotGeneral dot_S8x2048x2816_S2816x1024_S8x2048x1024_2_0_01_1_n_n none a w)

/-- The last two rows of the padded input. -/
def prev (p : FVec F S8x2050x5632 .f32) : FVec F S8x2x5632 .f32 :=
  extractStridedSlice S8x2x5632 ![0, 2048, 0] p slices_S8x2050x5632_S8x2x5632_0_2048_0

/-- The layer's result before a last normalization, of the arguments. -/
def block (x : FVec F S8x2048x1024 .f32) (o : FVec F S8x2048x1024 .bf16) (wo : FVec F S1024x1024 .f32) (g : FVec F S1024 .f32)
    (win : FVec F S1024x5632 .f32) (cw : FVec F S3x5632 .f32) (cb : FVec F S5632 .f32) (wout : FVec F S2816x1024 .f32) : FVec F S8x2048x1024 .f32 :=
  acc (xo x o wo) (act (conv (pad (inp (norm (xo x o wo) g) win)) cw cb)) wout

/-- The layer's normalized result, of the arguments. -/
def out (x : FVec F S8x2048x1024 .f32) (o : FVec F S8x2048x1024 .bf16) (wo : FVec F S1024x1024 .f32) (g : FVec F S1024 .f32)
    (win : FVec F S1024x5632 .f32) (cw : FVec F S3x5632 .f32) (cb : FVec F S5632 .f32) (wout : FVec F S2816x1024 .f32) (gf : FVec F S1024 .f32) : FVec F S8x2048x1024 .f32 :=
  norm (acc (xo x o wo) (act (conv (pad (inp (norm (xo x o wo) g) win)) cw cb)) wout) gf

/-- The layer's last two feed-forward inputs, of the arguments. -/
def tail (x : FVec F S8x2048x1024 .f32) (o : FVec F S8x2048x1024 .bf16) (wo : FVec F S1024x1024 .f32) (g : FVec F S1024 .f32)
    (win : FVec F S1024x5632 .f32) : FVec F S8x2x5632 .f32 :=
  prev (pad (inp (norm (xo x o wo) g) win))

end Values

/-- The residual at an index. -/
theorem xo_apply (x o : FVec Ideal S8x2048x1024 .f32) (w : FVec Ideal S1024x1024 .f32) (b : Fin 8) (t : Fin 2048) (z : Fin 1024) :
    xo (F := Ideal) x o w (ix3 b t z) = x (ix3 b t z) + ∑ k, o (ix3 b t k) * w (ix2 k z) := by
  unfold xo
  pointwise

/-- A normalized row at an index. -/
theorem norm_apply (a : FVec Ideal S8x2048x1024 .f32) (g : FVec Ideal S1024 .f32) (b : Fin 8) (t : Fin 2048) (z : Fin 1024) :
    norm a g (ix3 b t z) = rms (fun k => a (ix3 b t k)) (fun k => g (ix1 k)) z := by
  unfold norm rms
  pointwise

/-- The feed-forward's input at an index. -/
theorem inp_apply (h : FVec Ideal S8x2048x1024 .f32) (w : FVec Ideal S1024x5632 .f32) (b : Fin 8) (t : Fin 2048) (z : Fin 5632) :
    inp h w (ix3 b t z) = ∑ k, h (ix3 b t k) * w (ix2 k z) := by
  unfold inp
  pointwise

/-- The padded input at an index. -/
theorem pad_apply (u : FVec Ideal S8x2048x5632 .f32) (b : Fin 8) (t : Fin 2050) (z : Fin 5632) :
    pad u (ix3 b t z) = if h : t.val < 2 then 0 else u (ix3 b ⟨t.val - 2, by omega⟩ z) := by
  unfold pad
  pointwise

/-- A row of weights at an index. -/
theorem row_apply (w : FVec Ideal S1x5632 .f32) (b : Fin 8) (t : Fin 2048) (z : Fin 5632) : row w (ix3 b t z) = w (ix2 0 z) := by
  unfold row
  pointwise

/-- The convolution at an index. -/
theorem conv_apply (p : FVec Ideal S8x2050x5632 .f32) (cw : FVec Ideal S3x5632 .f32) (cb : FVec Ideal S5632 .f32) (b : Fin 8) (t : Fin 2048) (z : Fin 5632) :
    conv p cw cb (ix3 b t z) = p (ix3 b ⟨t.val, by omega⟩ z) * cw (ix2 0 z) + p (ix3 b ⟨1 + t.val, by omega⟩ z) * cw (ix2 1 z)
      + p (ix3 b ⟨2 + t.val, by omega⟩ z) * cw (ix2 2 z) + cb (ix1 z) := by
  unfold conv row
  pointwise

/-- The gated activation at an index. -/
theorem act_apply (v : FVec Ideal S8x2048x5632 .f32) (b : Fin 8) (t : Fin 2048) (j : Fin 2816) :
    act v (ix3 b t j) = v (ix3 b t (lo j)) * Ideal.div 1 (1 + Ideal.exp (0 - v (ix3 b t (lo j)))) * v (ix3 b t (hi j)) := by
  unfold act
  pointwise
  rw [zero_sub]
  rfl

/-- The block's result at an index. -/
theorem acc_apply (x : FVec Ideal S8x2048x1024 .f32) (a : FVec Ideal S8x2048x2816 .f32) (w : FVec Ideal S2816x1024 .f32) (b : Fin 8) (t : Fin 2048) (z : Fin 1024) :
    acc x a w (ix3 b t z) = x (ix3 b t z) + ∑ j, a (ix3 b t j) * w (ix2 j z) := by
  unfold acc
  pointwise

/-- The last two rows at an index. -/
theorem prev_apply (p : FVec Ideal S8x2050x5632 .f32) (b : Fin 8) (q : Fin 2) (z : Fin 5632) : prev p (ix3 b q z) = p (ix3 b ⟨2048 + q.val, by omega⟩ z) := by
  unfold prev
  pointwise

section Rows

variable (x : FVec Ideal S8x2048x1024 .f32) (o : FVec Ideal S8x2048x1024 .bf16) (wo : FVec Ideal S1024x1024 .f32) (g : FVec Ideal S1024 .f32)
  (win : FVec Ideal S1024x5632 .f32) (cw : FVec Ideal S3x5632 .f32) (cb : FVec Ideal S5632 .f32) (wout : FVec Ideal S2816x1024 .f32) (gf : FVec Ideal S1024 .f32)

/-- The arrays, by their indices. -/
def arr : Arr where
  x b t z := x (ix3 b t z)
  o b t z := o (ix3 b t z)
  wo k z := wo (ix2 k z)
  g z := g (ix1 z)
  win k z := win (ix2 k z)
  cw k z := cw (ix2 k z)
  cb z := cb (ix1 z)
  wout k z := wout (ix2 k z)
  gf z := gf (ix1 z)

/-- The reference's feed-forward input is the formula's. -/
theorem u_row (b : Fin 8) (t : Fin 2048) (z : Fin 5632) :
    inp (norm (xo x o wo) g) win (ix3 b t z) = (arr x o wo g win cw cb wout gf).u b t z := by
  rw [inp_apply]
  unfold Arr.u
  refine Finset.sum_congr rfl fun k _ => ?_
  rw [norm_apply]
  refine congrArg (· * win (ix2 k z)) (congrArg (fun f => rms f (fun k => g (ix1 k)) k) ?_)
  funext k'
  exact xo_apply x o wo b t k'

/-- The padded input's row is the row above, zero before the first. -/
theorem pad_row (n : ℕ) (hn : n ≤ 2) (b : Fin 8) (t : Fin 2048) (z : Fin 5632) :
    pad (inp (norm (xo x o wo) g) win) (ix3 b ⟨2 - n + t.val, by omega⟩ z) = (arr x o wo g win cw cb wout gf).up b n t z := by
  rw [pad_apply]
  unfold Arr.up
  by_cases h : n ≤ t.val
  · rw [if_pos h, dif_neg (show ¬2 - n + t.val < 2 by omega), u_row x o wo g win cw cb wout gf]
    congr 1
    exact Fin.ext (by show 2 - n + t.val - 2 = t.val - n; omega)
  · rw [if_neg h, dif_pos (show 2 - n + t.val < 2 by omega)]

/-- The reference's convolution is the formula's. -/
theorem conv_row (b : Fin 8) (t : Fin 2048) (z : Fin 5632) :
    conv (pad (inp (norm (xo x o wo) g) win)) cw cb (ix3 b t z) = (arr x o wo g win cw cb wout gf).conv b t z := by
  have e2 := pad_row x o wo g win cw cb wout gf 2 (le_refl _) b t z
  have e1 := pad_row x o wo g win cw cb wout gf 1 (by omega) b t z
  have e0 := pad_row x o wo g win cw cb wout gf 0 (by omega) b t z
  simp only [Nat.sub_self, Nat.zero_add, Nat.sub_zero, show 2 - 1 = 1 from rfl] at e2 e1 e0
  have e3 : (arr x o wo g win cw cb wout gf).up b 0 t z = (arr x o wo g win cw cb wout gf).u b t z := by
    unfold Arr.up
    rw [if_pos (Nat.zero_le _)]
    rfl
  rw [conv_apply, e2, e1, e0, e3]
  rfl

/-- The reference's block result is the formula's. -/
theorem acc_row (b : Fin 8) (t : Fin 2048) (z : Fin 1024) :
    acc (xo x o wo) (act (conv (pad (inp (norm (xo x o wo) g) win)) cw cb)) wout (ix3 b t z) = (arr x o wo g win cw cb wout gf).acc b t z := by
  rw [acc_apply, xo_apply]
  unfold Arr.acc
  refine congrArg ((arr x o wo g win cw cb wout gf).xo b t z + ·) (Finset.sum_congr rfl fun j _ => ?_)
  rw [act_apply, conv_row x o wo g win cw cb wout gf, conv_row x o wo g win cw cb wout gf]
  rfl

/-- The reference's normalized result is the formula's. -/
theorem y_row (b : Fin 8) (t : Fin 2048) (z : Fin 1024) :
    norm (acc (xo x o wo) (act (conv (pad (inp (norm (xo x o wo) g) win)) cw cb)) wout) gf (ix3 b t z) = (arr x o wo g win cw cb wout gf).y b t z := by
  rw [norm_apply]
  refine congrArg (fun f => rms f (fun k => gf (ix1 k)) z) ?_
  funext k
  exact acc_row x o wo g win cw cb wout gf b t k

/-- The reference's last two rows are the formula's. -/
theorem prev_row (b : Fin 8) (q : Fin 2) (z : Fin 5632) :
    prev (pad (inp (norm (xo x o wo) g) win)) (ix3 b q z) = (arr x o wo g win cw cb wout gf).u b ⟨2046 + q.val, by omega⟩ z := by
  rw [prev_apply, pad_apply, dif_neg (show ¬2048 + q.val < 2 by omega), u_row x o wo g win cw cb wout gf]
  congr 1
  exact Fin.ext (by show 2048 + q.val - 2 = 2046 + q.val; omega)

end Rows

end Cert.Ffn.Ref
-- ==== Proof.Ffn.Last.Claim.lean ====
/- The last layer's two programs: their results are one function of the arguments. -/
module

public import proofs.«01_k».proof.Proof.Ffn.Last.Kernel
public import proofs.«01_k».proof.Proof.Ffn.Ref
public import proofs.«01_k».proof.Defs
public import proofs.«01_k».proof.Proof.Gen.Kernel2.Frame

@[expose] public section
set_option maxRecDepth 16384
noncomputable section
namespace Cert.Ffn.Last

open Idealize.ShloMosaic Idealize.ShloMosaic.TcCoe Idealize.SL.Sem

section Reference

open Cert.Reference2Ideal Cert.Reference2Ideal.Value

variable (m : (ℓ : Loc nD τ sig) → Buf (Elt Ideal) ℓ) (c : Dev nD)

/-- The arguments the reference starts with. -/
def refArr : Arr := Ref.arr (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8))

/-- The reference's first result. -/
theorem ref_y : res_out0 (F := Ideal) m c = (fun i => (refArr m c).y (i 0) (i 1) (i 2) : S8x2048x1024.Idx → EReal) := by
  have h : res_out0 (F := Ideal) m c = Ref.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl
  rw [h]
  funext i
  obtain ⟨b, t, z, rfl⟩ : ∃ (b : Fin 8) (t : Fin 2048) (z : Fin 1024), i = ix3 b t z := ⟨i 0, i 1, i 2, by funext a; fin_cases a <;> rfl⟩
  exact Ref.y_row _ _ _ _ _ _ _ _ _ b t z

/-- The reference's second result. -/
theorem ref_u : (Ref.tail (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) : S8x2x5632.Idx → EReal)
    = fun i : S8x2x5632.Idx => (refArr m c).u (i 0) ⟨2046 + (i 1).val, by have h := (i 1).isLt; change _ < 2 at h; omega⟩ (i 2) := by
  funext i
  obtain ⟨b, q, z, rfl⟩ : ∃ (b : Fin 8) (q : Fin 2) (z : Fin 5632), i = ix3 b q z := ⟨i 0, i 1, i 2, by funext a; fin_cases a <;> rfl⟩
  exact Ref.prev_row _ _ _ _ _ (m ((c.tc : Thread nD τ).loc main_arg5)) (m ((c.tc : Thread nD τ).loc main_arg6)) (m ((c.tc : Thread nD τ).loc main_arg7)) (m ((c.tc : Thread nD τ).loc main_arg8)) b q z

end Reference

/-- The reference's run ends quiet, its arguments unchanged. -/
theorem frame_ref : Cert.quiescent_Reference2Ideal := fun m ρ _ =>
  (θ_run Cert.Reference2Ideal.defs _ _).mono (fun r h => ⟨fun c => (h c).2.2, Idealize.ShloMosaic.sem_eq_zero_of_no_sems (by decide) r.2⟩) (Cert.Reference2Ideal.Value.run (F := Ideal) m ρ)

/-- The kernel's results are the reference's. -/
theorem algebraic : Cert.algebraic_Kernel2Ideal_Reference2Ideal := by
  intro m ρ m' ρ' _ hagree
  have e : ∀ c, refArr m' c = arr m c := fun c => by
    obtain ⟨e0, e1, e2, e3, e4, e5, e6, e7, e8⟩ := hagree c
    unfold refArr
    rw [e0, e1, e2, e3, e4, e5, e6, e7, e8]
    rfl
  refine ⟨_, _, run m ρ, ?_⟩
  refine (θ_run Cert.Reference2Ideal.defs _ _).mono (fun r h c => ?_) (Cert.Reference2Ideal.Value.run (F := Ideal) m' ρ')
  obtain ⟨r1, r2, rest⟩ := h c
  refine ⟨r1.trans ((ref_y m' c).trans ?_), r2.trans ((ref_u m' c).trans ?_), rest⟩
  · rw [e c]
  · rw [e c]

end Cert.Ffn.Last
-- ==== Proof.Ffn.Mid.Points.lean ====
/- The inner layers' body: the pieces that a grid point stores, and over extended reals its rows of the result and its last rows. -/
module

public import proofs.«01_k».proof.Proof.Gen.Kernel3Ideal.Frame
public import proofs.«01_k».proof.Proof.Ffn.Body

@[expose] public section
set_option maxRecDepth 16384
noncomputable section
namespace Cert.Ffn.Mid

open Idealize.ShloMosaic Idealize.ShloMosaic.TcCoe Idealize.ShloMosaic.Tactic
open Cert.Kernel3Ideal Cert.Kernel3Ideal.Gen

section Pieces
variable {F : FTy → Type} [FloatOps F]

/-- The tile's result, from the rows above its two halves. -/
def res (d : Rd F) (t0 t1 : Vec F S8x2816 .f32) : FVec F S512x1024 .f32 := d.acc t0 t1

/-- What the body stores of its result at a batch's first point. -/
theorem pcs_A_9 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 = pcsY (res (rd arg1 harg1 arg2 harg2 arg3 harg3 arg4 harg4 arg5 harg5 arg6 harg6 arg7 harg7 arg8 harg8 arg9 harg9 x0 x1 x2 x3 x4 x5 x6 x7 x8) (tl arg12 pcsZ) (tr arg12 (pcsL (rd arg1 harg1 arg2 harg2 arg3 harg3 arg4 harg4 arg5 harg5 arg6 harg6 arg7 harg7 arg8 harg8 arg9 harg9 x0 x1 x2 x3 x4 x5 x6 x7 x8) pcsZ))) := by
  sl_kernel_rfl

/-- What the body stores of the tail result at a batch's first point. -/
theorem pcs_A_10 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 = pcsB (rd arg1 harg1 arg2 harg2 arg3 harg3 arg4 harg4 arg5 harg5 arg6 harg6 arg7 harg7 arg8 harg8 arg9 harg9 x0 x1 x2 x3 x4 x5 x6 x7 x8) := by
  sl_kernel_rfl

/-- What the body stores of the scratch at a batch's first point. -/
theorem pcs_A_s (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1 = pcsS (rd arg1 harg1 arg2 harg2 arg3 harg3 arg4 harg4 arg5 harg5 arg6 harg6 arg7 harg7 arg8 harg8 arg9 harg9 x0 x1 x2 x3 x4 x5 x6 x7 x8) pcsZ := by
  sl_kernel_rfl

/-- What the body stores of its result at a later point. -/
theorem pcs_B_9 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) (xs0 : Vec F S8x5632 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).1 = pcsY (res (rd arg1 harg1 arg2 harg2 arg3 harg3 arg4 harg4 arg5 harg5 arg6 harg6 arg7 harg7 arg8 harg8 arg9 harg9 x0 x1 x2 x3 x4 x5 x6 x7 x8) (ul arg12 harg12 xs0) (ur arg12 harg12 xs0)) := by
  sl_kernel_rfl

/-- What the body stores of the tail result at a later point. -/
theorem pcs_B_10 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) (xs0 : Vec F S8x5632 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.1 = pcsB (rd arg1 harg1 arg2 harg2 arg3 harg3 arg4 harg4 arg5 harg5 arg6 harg6 arg7 harg7 arg8 harg8 arg9 harg9 x0 x1 x2 x3 x4 x5 x6 x7 x8) := by
  sl_kernel_rfl

/-- What the body stores of the scratch at a later point. -/
theorem pcs_B_s (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec F S512x1024 .f32) (x1 : Vec F S512x1024 .bf16) (x2 : Vec F S1024x1024 .bf16) (x3 : Vec F S1x1024 .f32) (x4 : Vec F S1024x5632 .bf16) (x5 : Vec F S3x5632 .f32) (x6 : Vec F S1x5632 .f32) (x7 : Vec F S2816x1024 .bf16) (x8 : Vec F S1x1024 .f32) (xs0 : Vec F S8x5632 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).2.2.1 = pcsS (rd arg1 harg1 arg2 harg2 arg3 harg3 arg4 harg4 arg5 harg5 arg6 harg6 arg7 harg7 arg8 harg8 arg9 harg9 x0 x1 x2 x3 x4 x5 x6 x7 x8) [] := by
  sl_kernel_rfl

end Pieces

/-- The tile's result at a row. -/
theorem res_row {d : Rd Ideal} {A : Arr} {b : Fin 8} {p : ℕ} {hp : p < 4} (H : d.Holds A b p hp) {t0 t1 : Vec Ideal S8x2816 .f32}
    (h0 : Above A b p hp lo t0) (h1 : Above A b p hp hi t1) (r : Fin 512) (z : Fin 1024) :
    res d t0 t1 (ix2 r z) = A.acc b ⟨512 * p + r.val, by omega⟩ z := acc_row H h0 h1 r z

/-- The result of a batch's first point. -/
theorem at_A_9 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32)
    (A : Arr) (b : Fin 8) (p : ℕ) (hp : p < 4) (h : p = 0)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (r : Fin 512) (z : Fin 1024) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 (ix2 r z) = A.acc b ⟨512 * p + r.val, by omega⟩ z := by
  unfold out0_A_9
  rw [View.read_writes_junk_eq_canon, pcs_A_9, pcsY, View.canon_unit_zero (by decide)]
  exact res_row H (above_tl _ A b p hp h) (above_tr _ _ A b p hp h) r z

/-- The tail block of a batch's first point. -/
theorem at_A_10 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32)
    (A : Arr) (b : Fin 8) (p : ℕ) (hp : p < 4)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (q : Fin 8) (z : Fin 5632) :
    out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 (ix3 0 q z) = A.u b ⟨512 * p + (504 + q.val), by omega⟩ z := by
  unfold out0_A_10
  rw [View.read_writes_junk_eq_canon, pcs_A_10]
  exact blk_row H q z

/-- The scratch of a batch's first point. -/
theorem at_A_s (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32)
    (A : Arr) (b : Fin 8) (p : ℕ) (hp : p < 4)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (q : Fin 8) (z : Fin 5632) :
    sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 (ix2 q z) = A.u b ⟨512 * p + (504 + q.val), by omega⟩ z := by
  unfold sout0_A_0
  rw [View.read_writes_junk_eq_canon, pcs_A_s]
  exact scr_row H _ q z

/-- The result of a later point. -/
theorem at_B_9 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S8x5632 .f32)
    (A : Arr) (b : Fin 8) (p : ℕ) (hp : p < 4) (h : ¬p = 0) (hx : ∀ q z, xs0 (ix2 q z) = A.u b ⟨512 * p - 8 + q.val, by omega⟩ z)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (r : Fin 512) (z : Fin 1024) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix2 r z) = A.acc b ⟨512 * p + r.val, by omega⟩ z := by
  unfold out0_B_9
  rw [View.read_writes_junk_eq_canon, pcs_B_9, pcsY, View.canon_unit_zero (by decide)]
  exact res_row H (above_ul _ _ xs0 A b p hp h hx) (above_ur _ _ xs0 A b p hp h hx) r z

/-- The tail block of a later point. -/
theorem at_B_10 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S8x5632 .f32)
    (A : Arr) (b : Fin 8) (p : ℕ) (hp : p < 4)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (q : Fin 8) (z : Fin 5632) :
    out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix3 0 q z) = A.u b ⟨512 * p + (504 + q.val), by omega⟩ z := by
  unfold out0_B_10
  rw [View.read_writes_junk_eq_canon, pcs_B_10]
  exact blk_row H q z

/-- The scratch of a later point. -/
theorem at_B_s (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x8x5632 .f32) (harg11 : arg11.IsWhole) (arg12 : Memref sig .tc .vmem S8x5632 .f32) (harg12 : arg12.IsWhole) (hc0 : ¬cond0_0 i)
    (x0 : Vec Ideal S512x1024 .f32) (x1 : Vec Ideal S512x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (xs0 : Vec Ideal S8x5632 .f32)
    (A : Arr) (b : Fin 8) (p : ℕ) (hp : p < 4)
    (H : (rd (F := Ideal) arg1 harg1 arg2 harg2 arg3 harg3 arg4 harg4 arg5 harg5 arg6 harg6 arg7 harg7 arg8 harg8 arg9 harg9 x0 x1 x2 x3 x4 x5 x6 x7 x8).Holds A b p hp) (q : Fin 8) (z : Fin 5632) :
    sout0_B_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix2 q z) = A.u b ⟨512 * p + (504 + q.val), by omega⟩ z := by
  unfold sout0_B_0
  rw [View.read_writes_junk_eq_canon, pcs_B_s]
  exact scr_row H _ q z

end Cert.Ffn.Mid
-- ==== Proof.Ffn.Mid.Kernel.lean ====
/- The inner layers' run over extended reals: its two arrays hold the block's rows and each batch's last rows. -/
module

public import proofs.«01_k».proof.Proof.Ffn.Mid.Points
public import proofs.«01_k».proof.Proof.Gen.Kernel3Ideal.Frame
public import Idealize.ShloMosaic.Lib.StableHlo.ReadAt
public import Idealize.ShloMosaic.Lib.Claim

@[expose] public section
set_option maxRecDepth 16384
noncomputable section
namespace Cert.Ffn.Mid

open Idealize.ShloMosaic Idealize.ShloMosaic.TcCoe Idealize.ShloMosaic.Tactic Idealize.SL.Sem
open Cert.Kernel3Ideal Cert.Kernel3Ideal.Gen
variable (m : (ℓ : Loc nD τ sig) → Buf (Elt Ideal) ℓ)

/-- The arguments as device `c` holds them; the gain of the last normalization isn't read, and the first gain stands for it. -/
def arr (c : Dev nD) : Arr where
  x b t z := (m ((c : Thread nD τ).loc main_arg0) : S8x2048x1024.Idx → EReal) (ix3 b t z)
  o b t z := (m ((c : Thread nD τ).loc main_arg1) : S8x2048x1024.Idx → EReal) (ix3 b t z)
  wo k z := (m ((c : Thread nD τ).loc main_arg2) : S1024x1024.Idx → EReal) (ix2 k z)
  g z := (m ((c : Thread nD τ).loc main_arg3) : S1024.Idx → EReal) (ix1 z)
  win k z := (m ((c : Thread nD τ).loc main_arg4) : S1024x5632.Idx → EReal) (ix2 k z)
  cw k z := (m ((c : Thread nD τ).loc main_arg5) : S3x5632.Idx → EReal) (ix2 k z)
  cb z := (m ((c : Thread nD τ).loc main_arg6) : S5632.Idx → EReal) (ix1 z)
  wout k z := (m ((c : Thread nD τ).loc main_arg7) : S2816x1024.Idx → EReal) (ix2 k z)
  gf z := (m ((c : Thread nD τ).loc main_arg3) : S1024.Idx → EReal) (ix1 z)

/-- The windows' block indices, by the point. -/
theorem idx_tok : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val / 4, 0, 0] := by decide +kernel

/-- The grid's points number 32. -/
theorem lt32 (t : Fin cfg0.N) : t.val < 32 := lt_of_lt_of_eq t.isLt N_0

/-- The blocks a point reads. -/
abbrev in0 (c : Dev nD) (t : Fin cfg0.N) : S512x1024.Idx → EReal := iblk m c 0 t
@[inherit_doc in0] abbrev in1 (c : Dev nD) (t : Fin cfg0.N) : S512x1024.Idx → EReal := iblk m c 1 t
@[inherit_doc in0] abbrev in2 (c : Dev nD) (t : Fin cfg0.N) : S1024x1024.Idx → EReal := iblk m c 2 t
@[inherit_doc in0] abbrev in3 (c : Dev nD) (t : Fin cfg0.N) : S1x1024.Idx → EReal := iblk m c 3 t
@[inherit_doc in0] abbrev in4 (c : Dev nD) (t : Fin cfg0.N) : S1024x5632.Idx → EReal := iblk m c 4 t
@[inherit_doc in0] abbrev in5 (c : Dev nD) (t : Fin cfg0.N) : S3x5632.Idx → EReal := iblk m c 5 t
@[inherit_doc in0] abbrev in6 (c : Dev nD) (t : Fin cfg0.N) : S1x5632.Idx → EReal := iblk m c 6 t
@[inherit_doc in0] abbrev in7 (c : Dev nD) (t : Fin cfg0.N) : S2816x1024.Idx → EReal := iblk m c 7 t
@[inherit_doc in0] abbrev in8 (c : Dev nD) (t : Fin cfg0.N) : S1x1024.Idx → EReal := iblk m c 8 t

/-- The activations' rows, all batches in one. -/
theorem V_x (c : Dev nD) (b : Fin 8) (t : Fin 2048) (z : Fin 1024) : (V m c main_v0 : S16384x1024.Idx → EReal) (ix2 ⟨2048 * b.val + t.val, by omega⟩ z) = (arr m c).x b t z := by
  unfold V arr
  after_reads_at

/-- The mixer output's rows, all batches in one. -/
theorem V_o (c : Dev nD) (b : Fin 8) (t : Fin 2048) (z : Fin 1024) : (V m c main_v1 : S16384x1024.Idx → EReal) (ix2 ⟨2048 * b.val + t.val, by omega⟩ z) = (arr m c).o b t z := by
  unfold V arr
  after_reads_at

/-- The rounded projection. -/
theorem V_wo (c : Dev nD) (k : Fin 1024) (z : Fin 1024) : (V m c main_v2 : S1024x1024.Idx → EReal) (ix2 k z) = (arr m c).wo k z := by
  unfold V arr
  after_reads_at

/-- The rounded input weight. -/
theorem V_win (c : Dev nD) (k : Fin 1024) (z : Fin 5632) : (V m c main_v3 : S1024x5632.Idx → EReal) (ix2 k z) = (arr m c).win k z := by
  unfold V arr
  after_reads_at

/-- The rounded output weight. -/
theorem V_wout (c : Dev nD) (k : Fin 2816) (z : Fin 1024) : (V m c main_v4 : S2816x1024.Idx → EReal) (ix2 k z) = (arr m c).wout k z := by
  unfold V arr
  after_reads_at

/-- The gain as a row. -/
theorem V_g (c : Dev nD) (z : Fin 1024) : (V m c main_v5 : S1x1024.Idx → EReal) (ix2 0 z) = (arr m c).g z := by
  unfold V arr
  after_reads_at

/-- The bias as a row. -/
theorem V_cb (c : Dev nD) (z : Fin 5632) : (V m c main_v6 : S1x5632.Idx → EReal) (ix2 0 z) = (arr m c).cb z := by
  unfold V arr
  after_reads_at

/-- The last gain as a row. -/
theorem V_gf (c : Dev nD) (z : Fin 1024) : (V m c main_v7 : S1x1024.Idx → EReal) (ix2 0 z) = (arr m c).gf z := by
  unfold V arr
  after_reads_at

/-- A point's activations. -/
theorem blk_x (c : Dev nD) (t : Fin cfg0.N) (r : Fin 512) (z : Fin 1024) :
    in0 m c t (ix2 r z) = (arr m c).x ⟨t.val / 4, by have := lt32 t; omega⟩ ⟨512 * (t.val % 4) + r.val, by omega⟩ z := by
  have := lt32 t
  refine Eq.trans ?_ (V_x m c _ _ z)
  blk_ext [iblk, (idx_tok t).1]

/-- A point's mixer output. -/
theorem blk_o (c : Dev nD) (t : Fin cfg0.N) (r : Fin 512) (z : Fin 1024) :
    in1 m c t (ix2 r z) = (arr m c).o ⟨t.val / 4, by have := lt32 t; omega⟩ ⟨512 * (t.val % 4) + r.val, by omega⟩ z := by
  have := lt32 t
  refine Eq.trans ?_ (V_o m c _ _ z)
  blk_ext [iblk, (idx_tok t).2.1]

/-- A point's projection. -/
theorem blk_wo (c : Dev nD) (t : Fin cfg0.N) (k : Fin 1024) (z : Fin 1024) : in2 m c t (ix2 k z) = (arr m c).wo k z := by
  refine Eq.trans ?_ (V_wo m c k z)
  blk_ext [iblk, (idx_tok t).2.2.1]

/-- A point's gain. -/
theorem blk_g (c : Dev nD) (t : Fin cfg0.N) (z : Fin 1024) : in3 m c t (ix2 0 z) = (arr m c).g z := by
  refine Eq.trans ?_ (V_g m c z)
  blk_ext [iblk, (idx_tok t).2.2.2.1]

/-- A point's input weight. -/
theorem blk_win (c : Dev nD) (t : Fin cfg0.N) (k : Fin 1024) (z : Fin 5632) : in4 m c t (ix2 k z) = (arr m c).win k z := by
  refine Eq.trans ?_ (V_win m c k z)
  blk_ext [iblk, (idx_tok t).2.2.2.2.1]

/-- A point's convolution weight. -/
theorem blk_cw (c : Dev nD) (t : Fin cfg0.N) (k : Fin 3) (z : Fin 5632) : in5 m c t (ix2 k z) = (arr m c).cw k z := by
  unfold arr
  blk_ext [iblk, V_main_arg5, (idx_tok t).2.2.2.2.2.1]

/-- A point's convolution bias. -/
theorem blk_cb (c : Dev nD) (t : Fin cfg0.N) (z : Fin 5632) : in6 m c t (ix2 0 z) = (arr m c).cb z := by
  refine Eq.trans ?_ (V_cb m c z)
  blk_ext [iblk, (idx_tok t).2.2.2.2.2.2.1]

/-- A point's output weight. -/
theorem blk_wout (c : Dev nD) (t : Fin cfg0.N) (k : Fin 2816) (z : Fin 1024) : in7 m c t (ix2 k z) = (arr m c).wout k z := by
  refine Eq.trans ?_ (V_wout m c k z)
  blk_ext [iblk, (idx_tok t).2.2.2.2.2.2.2.1]

/-- A point's last gain. -/
theorem blk_gf (c : Dev nD) (t : Fin cfg0.N) (z : Fin 1024) : in8 m c t (ix2 0 z) = (arr m c).gf z := by
  refine Eq.trans ?_ (V_gf m c z)
  blk_ext [iblk, (idx_tok t).2.2.2.2.2.2.2.2.1]

/-- What a point reads holds its tile. -/
theorem holds_at (c : Dev nD) (t : Fin cfg0.N) :
    (rd (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (in0 m c t) (in1 m c t) (in2 m c t) (in3 m c t) (in4 m c t) (in5 m c t) (in6 m c t) (in7 m c t) (in8 m c t)).Holds
      (arr m c) ⟨t.val / 4, by have := lt32 t; omega⟩ (t.val % 4) (Nat.mod_lt _ (by decide)) :=
  rd_holds _ _ _ _ _ _ _ _ _ _ _ _ _ _ _ _ _ _ _ _ _ _ _ _ _ _ _ _ _ _ _ (blk_x m c t) (blk_o m c t) (blk_wo m c t) (blk_g m c t) (blk_win m c t)
    (blk_cw m c t) (blk_cb m c t) (blk_wout m c t) (blk_gf m c t)

/-- What is to hold after a point: its rows of the result, and its last rows in the tail block and the scratch. -/
def Good (c : Dev nD) (t : Fin cfg0.N) (y : S512x1024.Idx → EReal) (l : S1x8x5632.Idx → EReal) (s : S8x5632.Idx → EReal) : Prop :=
  (∀ (r : Fin 512) (z : Fin 1024), y (ix2 r z) = (arr m c).acc ⟨t.val / 4, by have := lt32 t; omega⟩ ⟨512 * (t.val % 4) + r.val, by omega⟩ z)
    ∧ (∀ (q : Fin 8) (z : Fin 5632), l (ix3 0 q z) = (arr m c).u ⟨t.val / 4, by have := lt32 t; omega⟩ ⟨512 * (t.val % 4) + (504 + q.val), by omega⟩ z)
    ∧ ∀ (q : Fin 8) (z : Fin 5632), s (ix2 q z) = (arr m c).u ⟨t.val / 4, by have := lt32 t; omega⟩ ⟨512 * (t.val % 4) + (504 + q.val), by omega⟩ z

/-- A batch's first point. -/
theorem good_A (c : Dev nD) (t : Fin cfg0.N) (h0 : t.val % 4 = 0) :
    Good m c t (outsAt0 m c t.val t.isLt).1 (outsAt0 m c t.val t.isLt).2.1 (outsAt0 m c t.val t.isLt).2.2 := by
  have H := holds_at m c t
  rw [outsAt0_A m c t h0]
  unfold Good
  dsimp only
  exact ⟨fun r z => at_A_9 _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) h0 H r z,
    fun q z => at_A_10 _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) H q z,
    fun q z => at_A_s _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) H q z⟩

/-- A later point. -/
theorem good_B (c : Dev nD) (t : Fin cfg0.N) (h0 : ¬t.val % 4 = 0)
    (hs : ∀ (q : Fin 8) (z : Fin 5632), (outsAt0 m c (t.val - 1) (by have := t.isLt; omega)).2.2 (ix2 q z)
      = (arr m c).u ⟨t.val / 4, by have := lt32 t; omega⟩ ⟨512 * (t.val % 4) - 8 + q.val, by omega⟩ z) :
    Good m c t (outsAt0 m c t.val t.isLt).1 (outsAt0 m c t.val t.isLt).2.1 (outsAt0 m c t.val t.isLt).2.2 := by
  have H := holds_at m c t
  rw [outsAt0_B m c t h0]
  unfold Good
  dsimp only
  exact ⟨fun r z => at_B_9 _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) h0 hs H r z,
    fun q z => at_B_10 _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) H q z,
    fun q z => at_B_s _ _ _ _ _ _ _ _ _ _ _ _ _ _ _ _ _ _ _ _ _ _ _ _ _ _ _ _ _ _ _ _ _ _ _ _ _ (arr m c) ⟨t.val / 4, by have := lt32 t; omega⟩ (t.val % 4) (Nat.mod_lt _ (by decide)) H q z⟩

/-- Every point, by what the point before it carried. -/
theorem good_at (c : Dev nD) : ∀ (n : ℕ) (hn : n < cfg0.N), Good m c ⟨n, hn⟩ (outsAt0 m c n hn).1 (outsAt0 m c n hn).2.1 (outsAt0 m c n hn).2.2 := by
  intro n
  induction n with
  | zero => exact fun hn => good_A m c ⟨0, hn⟩ (Nat.zero_mod 4)
  | succ n ih =>
    intro hn
    by_cases h0 : (n + 1) % 4 = 0
    · exact good_A m c ⟨n + 1, hn⟩ h0
    · refine good_B m c ⟨n + 1, hn⟩ h0 fun q z => ((ih (Nat.lt_of_succ_lt hn)).2.2 q z).trans ?_
      have e1 : (⟨n / 4, by have := lt32 ⟨n + 1, hn⟩; simp only at this; omega⟩ : Fin 8) = ⟨(n + 1) / 4, by have := lt32 ⟨n + 1, hn⟩; simp only at this; omega⟩ := Fin.ext (by show n / 4 = (n + 1) / 4; omega)
      have e2 : (⟨512 * (n % 4) + (504 + q.val), by omega⟩ : Fin 2048) = ⟨512 * ((n + 1) % 4) - 8 + q.val, by omega⟩ :=
        Fin.ext (by show 512 * (n % 4) + (504 + q.val) = 512 * ((n + 1) % 4) - 8 + q.val; omega)
      exact (congrArg (fun b => (arr m c).u b _ z) e1).trans (congrArg (fun t => (arr m c).u _ t z) e2)

/-- The result's array after the run. -/
theorem arr9 (c : Dev nD) : (dats m 0 c).arrAt 9 (cfgs 0).N = fun i : S16384x1024.Idx =>
    (arr m c).acc ⟨(i 0).val / 2048, by have h := (i 0).isLt; change _ < 16384 at h; omega⟩ ⟨(i 0).val % 2048, Nat.mod_lt _ (by decide)⟩ (i 1) := by
  refine (dats m 0 c).arrAt_eq_of_covers 9 _ (by decide +kernel) fun t hf y => ?_
  blk_simp
  rw [after0_9]
  have := lt32 t
  have y0 : (y 0).val < 512 := (y 0).isLt
  have hy : y = (ix2 (y 0) (y 1) : S512x1024.Idx) := by
    funext a
    fin_cases a <;> rfl
  have e0 : win0_9.index t 0 * 512 + (y 0).val = 512 * t.val + (y 0).val := by rw [(idx_tok t).2.2.2.2.2.2.2.2.2.1]; simp; omega
  have e1 : ((win0_9.blk t).view.emb y 1).val = (y 1).val := by blk_simp [(idx_tok t).2.2.2.2.2.2.2.2.2.1] <;> omega
  refine (congrArg _ hy).trans (((good_at m c t.val t.isLt).1 _ _).trans ?_)
  congr 1
  · exact Fin.ext (by show t.val / 4 = (win0_9.index t 0 * 512 + (y 0).val) / 2048; rw [e0]; omega)
  · exact Fin.ext (by show 512 * (t.val % 4) + (y 0).val = (win0_9.index t 0 * 512 + (y 0).val) % 2048; rw [e0]; omega)
  · exact Fin.ext e1.symm

/-- The tail's array after the run. -/
theorem arr10 (c : Dev nD) : (dats m 0 c).arrAt 10 (cfgs 0).N = fun i : S8x8x5632.Idx =>
    (arr m c).u (i 0) ⟨2040 + (i 1).val, by have h := (i 1).isLt; change _ < 8 at h; omega⟩ (i 2) := by
  refine (dats m 0 c).arrAt_eq_of_covers 10 _ (by decide +kernel) fun t hf y => ?_
  have h3 : t.val % 4 = 3 := (by decide +kernel : ∀ t : Fin cfg0.N, (cfg0.win 10).flush t = true → t.val % 4 = 3) t hf
  blk_simp
  rw [after0_10]
  have := lt32 t
  have y0 : (y 0).val < 1 := (y 0).isLt
  have hy : y = (ix3 0 (y 1) (y 2) : S1x8x5632.Idx) := by
    funext a
    fin_cases a
    · exact Fin.ext (Nat.lt_one_iff.mp y0)
    · rfl
    · rfl
  have e0 : ((win0_10.blk t).view.emb y 0).val = t.val / 4 := by blk_simp [(idx_tok t).2.2.2.2.2.2.2.2.2.2] <;> omega
  have e1 : win0_10.index t 1 * 8 + (y 1).val = (y 1).val := by rw [(idx_tok t).2.2.2.2.2.2.2.2.2.2]; simp
  have e2 : ((win0_10.blk t).view.emb y 2).val = (y 2).val := by blk_simp [(idx_tok t).2.2.2.2.2.2.2.2.2.2] <;> omega
  refine (congrArg _ hy).trans (((good_at m c t.val t.isLt).2.1 _ _).trans ?_)
  congr 1
  · exact Fin.ext e0.symm
  · exact Fin.ext (by show 512 * (t.val % 4) + (504 + (y 1).val) = 2040 + (win0_10.index t 1 * 8 + (y 1).val); rw [e1]; omega)
  · exact Fin.ext e2.symm

/-- No two windows share an array. -/
theorem arrRef_inj : Function.Injective (Pipeline.arrRef (cfgs 0).spec) := by decide +kernel

/-- The result after the lines that follow the region. -/
theorem end_y (c : Dev nD) : (Pipeline.afterTail₀ cfgs (dats m) 0 (V0 m) [hostOps1] c main_v10 : S8x2048x1024.Idx → EReal)
    = fun i => (arr m c).acc (i 0) (i 1) (i 2) := by
  funext i
  unfold Pipeline.afterTail₀
  after_reads_at
  have i1 : (i 1).val < 2048 := (i 1).isLt
  refine (congrFun ((Pipeline.withArrays_arr (cfgs 0).spec arrRef_inj c (V0 m c) (fun w => (dats m 0 c).arrAt w (cfgs 0).N) 9).trans (arr9 m c)) _).trans ?_
  show (arr m c).acc ⟨((i 0).val * 2048 + (i 1).val) / 2048, _⟩ ⟨((i 0).val * 2048 + (i 1).val) % 2048, _⟩ (i 2) = _
  congr 1
  · exact Fin.ext (by show ((i 0).val * 2048 + (i 1).val) / 2048 = (i 0).val; omega)
  · exact Fin.ext (by show ((i 0).val * 2048 + (i 1).val) % 2048 = (i 1).val; omega)

/-- The tail after the lines that follow the region. -/
theorem end_u (c : Dev nD) : (Pipeline.afterTail₀ cfgs (dats m) 0 (V0 m) [hostOps1] c main_v9 : S8x2x5632.Idx → EReal)
    = fun i => (arr m c).u (i 0) ⟨2046 + (i 1).val, by have h := (i 1).isLt; change _ < 2 at h; omega⟩ (i 2) := by
  funext i
  unfold Pipeline.afterTail₀
  after_reads_at
  have i1 : (i 1).val < 2 := (i 1).isLt
  refine (congrFun ((Pipeline.withArrays_arr (cfgs 0).spec arrRef_inj c (V0 m c) (fun w => (dats m 0 c).arrAt w (cfgs 0).N) 10).trans (arr10 m c)) _).trans ?_
  show (arr m c).u (i 0) ⟨2040 + (6 + (i 1).val), _⟩ (i 2) = _
  congr 1
  exact Fin.ext (by show 2040 + (6 + (i 1).val) = 2046 + (i 1).val; omega)

/-- The run ends with both results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v10) = (fun i : S8x2048x1024.Idx => (arr m c).acc (i 0) (i 1) (i 2))
      ∧ r.2.mem ((c.tc : Thread nD τ).loc main_v9) = (fun i : S8x2x5632.Idx => (arr m c).u (i 0) ⟨2046 + (i 1).val, by have h := (i 1).isLt; change _ < 2 at h; omega⟩ (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).2 main_v10 (Pipeline.mem_restRefs_of main_v10 (by decide) (by decide))).trans (end_y m c),
    ((h.1 c).2 main_v9 (Pipeline.mem_restRefs_of main_v9 (by decide) (by decide))).trans (end_u m c), h.2 c⟩)
    (θ_run_and (run_main m ρ) (unchanged m ρ))

end Cert.Ffn.Mid
-- ==== Proof.Ffn.Mid.Claim.lean ====
/- The inner layers' two programs: their results are one function of the arguments. -/
module

public import proofs.«01_k».proof.Proof.Ffn.Mid.Kernel
public import proofs.«01_k».proof.Proof.Ffn.Ref
public import proofs.«01_k».proof.Proof.Gen.Reference3Ideal.Run
public import proofs.«01_k».proof.Defs
public import proofs.«01_k».proof.Proof.Gen.Kernel3.Frame

@[expose] public section
set_option maxRecDepth 16384
noncomputable section
namespace Cert.Ffn.Mid

open Idealize.ShloMosaic Idealize.ShloMosaic.TcCoe Idealize.SL.Sem

section Reference

open Cert.Reference3Ideal Cert.Reference3Ideal.Value

variable (m : (ℓ : Loc nD τ sig) → Buf (Elt Ideal) ℓ) (c : Dev nD)

/-- The arguments the reference starts with. -/
def refArr : Arr := Ref.arr (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg3))

/-- The reference's first result. -/
theorem ref_acc : res_main_v50 (F := Ideal) m c = (fun i => (refArr m c).acc (i 0) (i 1) (i 2) : S8x2048x1024.Idx → EReal) := by
  have h : res_main_v50 (F := Ideal) m c = Ref.block (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl
  rw [h]
  funext i
  obtain ⟨b, t, z, rfl⟩ : ∃ (b : Fin 8) (t : Fin 2048) (z : Fin 1024), i = ix3 b t z := ⟨i 0, i 1, i 2, by funext a; fin_cases a <;> rfl⟩
  exact Ref.acc_row _ _ _ _ _ _ _ _ _ b t z

/-- The reference's second result. -/
theorem ref_u : (Ref.tail (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) : S8x2x5632.Idx → EReal)
    = fun i : S8x2x5632.Idx => (refArr m c).u (i 0) ⟨2046 + (i 1).val, by have h := (i 1).isLt; change _ < 2 at h; omega⟩ (i 2) := by
  funext i
  obtain ⟨b, q, z, rfl⟩ : ∃ (b : Fin 8) (q : Fin 2) (z : Fin 5632), i = ix3 b q z := ⟨i 0, i 1, i 2, by funext a; fin_cases a <;> rfl⟩
  exact Ref.prev_row _ _ _ _ _ (m ((c.tc : Thread nD τ).loc main_arg5)) (m ((c.tc : Thread nD τ).loc main_arg6)) (m ((c.tc : Thread nD τ).loc main_arg7)) (m ((c.tc : Thread nD τ).loc main_arg3)) b q z

end Reference

/-- The reference's run ends quiet, its arguments unchanged. -/
theorem frame_ref : Cert.quiescent_Reference3Ideal := fun m ρ _ =>
  (θ_run Cert.Reference3Ideal.defs _ _).mono (fun r h => ⟨fun c => (h c).2.2, Idealize.ShloMosaic.sem_eq_zero_of_no_sems (by decide) r.2⟩) (Cert.Reference3Ideal.Value.run (F := Ideal) m ρ)

/-- The kernel's results are the reference's. -/
theorem algebraic : Cert.algebraic_Kernel3Ideal_Reference3Ideal := by
  intro m ρ m' ρ' _ hagree
  have e : ∀ c, refArr m' c = arr m c := fun c => by
    obtain ⟨e0, e1, e2, e3, e4, e5, e6, e7⟩ := hagree c
    unfold refArr
    rw [e0, e1, e2, e3, e4, e5, e6, e7]
    rfl
  refine ⟨_, _, run m ρ, ?_⟩
  refine (θ_run Cert.Reference3Ideal.defs _ _).mono (fun r h c => ?_) (Cert.Reference3Ideal.Value.run (F := Ideal) m' ρ')
  obtain ⟨r1, r2, rest⟩ := h c
  refine ⟨r1.trans ((ref_acc m' c).trans ?_), r2.trans ((ref_u m' c).trans ?_), rest⟩
  · rw [e c]
  · rw [e c]

end Cert.Ffn.Mid
-- ==== Proof.Proj.Math.lean ====
/- A mixer's input projection as a formula over extended reals: the normalized row times the weight. -/
module

public import proofs.«01_k».proof.Proof.Ffn.Math
public import Idealize.ShloMosaic.Lib.Pipeline.Value
public import Idealize.ShloMosaic.Lib.ValueIdx

@[expose] public section
noncomputable section
namespace Cert.Proj

open Cert.Ffn Idealize.ShloMosaic

/-- The arrays: a layer's activations of `B` sequences of `T` rows, its gain and the projection's weight of `n` columns. -/
structure Arr (n : ℕ) (B : ℕ := 8) (T : ℕ := 2048) where
  x : Fin B → Fin T → Fin 1024 → EReal
  g : Fin 1024 → EReal
  w : Fin 1024 → Fin n → EReal

/-- The projected row: the row under its root mean square and the gain, times the weight. -/
def Arr.p {n B T : ℕ} (A : Arr n B T) (b : Fin B) (t : Fin T) (z : Fin n) : EReal := ∑ k, rms (A.x b t) A.g k * A.w k z

/-- A load of the columns from `o` on, at an index. -/
theorem ld_col {N n o : ℕ} {e : EltTy} (X : (⟨2, ![1024, N]⟩ : Shape).Idx → Elt Ideal e)
    (inb : ∀ a, (![0, o] : Fin 2 → ℕ) a + (![1024, n] : Fin 2 → ℕ) a ≤ (![1024, N] : Fin 2 → ℕ) a) (h : o + n ≤ N) (k : Fin 1024) (z : Fin n) :
    View.ld (Val := Elt Ideal) (e' := e) X (Rect.unit (s := ⟨2, ![1024, N]⟩) ![0, o] ![1024, n] inb) (ix2 k z) = X (ix2 k ⟨o + z.val, by omega⟩) := by
  refine congrArg X ?_
  funext a
  apply Fin.ext
  match a with
  | ⟨0, _⟩ => show 0 + 1 * k.val = k.val; omega
  | ⟨1, _⟩ => show o + 1 * z.val = o + z.val; omega

/-- An index by its three entries. -/
theorem idx_ix3 {A B C : ℕ} (i : (⟨3, ![A, B, C]⟩ : Shape).Idx) : ∃ (a : Fin A) (b : Fin B) (c : Fin C), i = ix3 a b c :=
  ⟨i 0, i 1, i 2, by funext a; fin_cases a <;> rfl⟩

end Cert.Proj
-- ==== Proof.Proj.Qkv.Points.lean ====
/- The attention layers' projection: what a grid point of each of its two calls reads and stores. -/
module

public import proofs.«01_k».proof.Proof.Gen.Kernel4Ideal.Frame

@[expose] public section
set_option maxRecDepth 16384
noncomputable section
namespace Cert.Proj.Qkv

open Idealize.ShloMosaic Idealize.ShloMosaic.TcCoe Idealize.ShloMosaic.Tactic
open Cert.Kernel4Ideal Cert.Kernel4Ideal.Gen

variable {F : FTy → Type} [FloatOps F] (V : (c : Dev nD) → (b : Ref sig .tc) → Buf (Elt F) ((c : Thread nD τ).loc b)) (c : Dev nD)

section First
variable (t : Fin cfg0.N)

/-! The first call's body. -/

/-- The body's run at a point. -/
abbrev run0 := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t)

/-- What it reads: the rows, the gain and 1024 columns of the weight. -/
def rx0 : Vec F S512x1024 .f32 := View.readAt (Elt F) (ms0_0 t).view (Rect.unit (s := S512x1024) ![0, 0] S512x1024.size inb_S512x1024_S512x1024_0_0).toLoadRect ((hs0_0 t).unread (iblk0 V c 0 t))
@[inherit_doc rx0] def rg0 : Vec F S1x1024 .f32 := View.readAt (Elt F) (ms0_1 t).view (Rect.unit (s := S1x1024) ![0, 0] S1x1024.size inb_S1x1024_S1x1024_0_0).toLoadRect ((hs0_1 t).unread (iblk0 V c 1 t))
@[inherit_doc rx0] def rw0 (o : ℕ) (ho : ∀ a, (![0, o] : Fin 2 → ℕ) a + S1024x1024.size a ≤ S1024x3072.size a) : Vec F S1024x1024 .bf16 :=
  View.readAt (Elt F) (ms0_2 t).view (Rect.unit (s := S1024x3072) ![0, o] S1024x1024.size ho).toLoadRect ((hs0_2 t).unread (iblk0 V c 2 t))

/-- The pieces it stores of the queries. -/
theorem pcs0_3 : (run0 V c t).1 = [⟨Rect.unit (s := S512x1024) ![0, 0] S512x1024.size inb_S512x1024_S512x1024_0_0, k0_pay6 (rx0 V c t) (rg0 V c t) (rw0 V c t 0 inb_S1024x3072_S1024x1024_0_0)⟩] := by
  sl_kernel_rfl

/-- The pieces it stores of the keys. -/
theorem pcs0_4 : (run0 V c t).2.1 = [⟨Rect.unit (s := S512x1024) ![0, 0] S512x1024.size inb_S512x1024_S512x1024_0_0, k0_pay7 (rx0 V c t) (rg0 V c t) (rw0 V c t 1024 inb_S1024x3072_S1024x1024_0_1024)⟩] := by
  sl_kernel_rfl

/-- The pieces it stores of the keys' transpose. -/
theorem pcs0_5 : (run0 V c t).2.2.1 = [⟨Rect.unit (s := S2x1x1024x512) ![1, 0, 0, 0] S1x1x1024x512.size inb_S2x1x1024x512_S1x1x1024x512_1_0_0_0, k0_pay3⟩,
      ⟨Rect.unit (s := S2x1x1024x512) ![0, 0, 0, 0] S1x1x1024x512.size inb_S2x1x1024x512_S1x1x1024x512_0_0_0_0, k0_pay1 ((ms0_4 t).view.readCov [⟨Rect.unit (s := S512x1024) ![0, 0] S512x1024.size inb_S512x1024_S512x1024_0_0, k0_pay7 (rx0 V c t) (rg0 V c t) (rw0 V c t 1024 inb_S1024x3072_S1024x1024_0_1024)⟩] (Rect.unit (s := S512x1024) ![0, 0] S512x1024.size inb_S512x1024_S512x1024_0_0).toLoadRect)⟩] := by
  sl_kernel_rfl

/-- The pieces it stores of the values' transpose. -/
theorem pcs0_6 : (run0 V c t).2.2.2.1 = [⟨Rect.unit (s := S2x1x1024x512) ![1, 0, 0, 0] S1x1x1024x512.size inb_S2x1x1024x512_S1x1x1024x512_1_0_0_0, k0_pay4⟩,
      ⟨Rect.unit (s := S2x1x1024x512) ![0, 0, 0, 0] S1x1x1024x512.size inb_S2x1x1024x512_S1x1x1024x512_0_0_0_0, k0_pay2 (scM0_0.view.readCov [⟨Rect.unit (s := S512x1024) ![0, 0] S512x1024.size inb_S512x1024_S512x1024_0_0, k0_pay8 (rx0 V c t) (rg0 V c t) (rw0 V c t 2048 inb_S1024x3072_S1024x1024_0_2048)⟩] (Rect.unit (s := S512x1024) ![0, 0] S512x1024.size inb_S512x1024_S512x1024_0_0).toLoadRect)⟩] := by
  sl_kernel_rfl

end First

section Second
variable (t : Fin cfg1.N)

/-! The second call's body. -/

/-- The body's run at a point. -/
abbrev run1 := kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t)

/-- What it reads: the rows, the gain and 1024 columns of the weight. -/
def rx1 : Vec F S512x1024 .f32 := View.readAt (Elt F) (ms1_0 t).view (Rect.unit (s := S512x1024) ![0, 0] S512x1024.size inb_S512x1024_S512x1024_0_0).toLoadRect ((hs1_0 t).unread (iblk1 V c 0 t))
@[inherit_doc rx1] def rg1 : Vec F S1x1024 .f32 := View.readAt (Elt F) (ms1_1 t).view (Rect.unit (s := S1x1024) ![0, 0] S1x1024.size inb_S1x1024_S1x1024_0_0).toLoadRect ((hs1_1 t).unread (iblk1 V c 1 t))
@[inherit_doc rx1] def rw1 (o : ℕ) (ho : ∀ a, (![0, o] : Fin 2 → ℕ) a + S1024x1024.size a ≤ S1024x3072.size a) : Vec F S1024x1024 .bf16 :=
  View.readAt (Elt F) (ms1_2 t).view (Rect.unit (s := S1024x3072) ![0, o] S1024x1024.size ho).toLoadRect ((hs1_2 t).unread (iblk1 V c 2 t))

/-- The pieces it stores of the queries. -/
theorem pcs1_3 : (run1 V c t).1 = [⟨Rect.unit (s := S512x1024) ![0, 0] S512x1024.size inb_S512x1024_S512x1024_0_0, k1_pay4 (rx1 V c t) (rg1 V c t) (rw1 V c t 0 inb_S1024x3072_S1024x1024_0_0)⟩] := by
  sl_kernel_rfl

/-- The pieces it stores of the keys. -/
theorem pcs1_4 : (run1 V c t).2.1 = [⟨Rect.unit (s := S512x1024) ![0, 0] S512x1024.size inb_S512x1024_S512x1024_0_0, k1_pay5 (rx1 V c t) (rg1 V c t) (rw1 V c t 1024 inb_S1024x3072_S1024x1024_0_1024)⟩] := by
  sl_kernel_rfl

/-- The pieces it stores of the keys' transpose. -/
theorem pcs1_5 : (run1 V c t).2.2.1 = [⟨Rect.unit (s := S1x1x1024x512) ![0, 0, 0, 0] S1x1x1024x512.size inb_S1x1x1024x512_S1x1x1024x512_0_0_0_0, k1_pay1 ((ms1_4 t).view.readCov [⟨Rect.unit (s := S512x1024) ![0, 0] S512x1024.size inb_S512x1024_S512x1024_0_0, k1_pay5 (rx1 V c t) (rg1 V c t) (rw1 V c t 1024 inb_S1024x3072_S1024x1024_0_1024)⟩] (Rect.unit (s := S512x1024) ![0, 0] S512x1024.size inb_S512x1024_S512x1024_0_0).toLoadRect)⟩] := by
  sl_kernel_rfl

/-- The pieces it stores of the values' transpose. -/
theorem pcs1_6 : (run1 V c t).2.2.2.1 = [⟨Rect.unit (s := S1x1x1024x512) ![0, 0, 0, 0] S1x1x1024x512.size inb_S1x1x1024x512_S1x1x1024x512_0_0_0_0, k1_pay2 (scM1_0.view.readCov [⟨Rect.unit (s := S512x1024) ![0, 0] S512x1024.size inb_S512x1024_S512x1024_0_0, k1_pay6 (rx1 V c t) (rg1 V c t) (rw1 V c t 2048 inb_S1024x3072_S1024x1024_0_2048)⟩] (Rect.unit (s := S512x1024) ![0, 0] S512x1024.size inb_S512x1024_S512x1024_0_0).toLoadRect)⟩] := by
  sl_kernel_rfl

end Second

end Cert.Proj.Qkv
-- ==== Proof.Proj.Qkv.Tile.lean ====
/- The attention layers' projection over extended reals: what a tile of 512 rows computes, in either of the two calls. -/
module

public import proofs.«01_k».proof.Proof.Proj.Math
public import proofs.«01_k».proof.Proof.Proj.Qkv.Points
public import Idealize.ShloMosaic.Lib.Pointwise
public import Idealize.ShloMosaic.Lib.VecWindow
public import Idealize.ShloMosaic.Lib.Pipeline.ValueKit

@[expose] public section
set_option maxRecDepth 16384
noncomputable section
namespace Cert.Proj.Qkv

open Idealize.ShloMosaic Idealize.ShloMosaic.TcCoe Idealize.ShloMosaic.Tactic
open Cert.Kernel4Ideal Cert.Kernel4Ideal.Gen Cert.Ffn

section Payloads

variable (x : FVec Ideal S512x1024 .f32) (g : FVec Ideal S1x1024 .f32) (w : FVec Ideal S1024x1024 .bf16)

/-- The tile's normalized rows. -/
theorem norm_apply (r : Fin 512) (z : Fin 1024) :
    k0_pay5 (F := Ideal) x g (ix2 r z) = rms (fun k => x (ix2 r k)) (fun k => g (ix2 0 k)) z := by
  unfold k0_pay5 rms
  pointwise

/-- The rows times 1024 columns of the weight. -/
def mm (r : Fin 512) (z : Fin 1024) : EReal := ∑ k, rms (fun k => x (ix2 r k)) (fun k => g (ix2 0 k)) k * w (ix2 k z)

/-- The queries' product. -/
theorem q_apply (r : Fin 512) (z : Fin 1024) : k0_pay6 (F := Ideal) x g w (ix2 r z) = mm x g w r z := by
  have e : k0_pay6 (F := Ideal) x g w (ix2 r z) = ∑ k, k0_pay5 (F := Ideal) x g (ix2 r k) * w (ix2 k z) := by
    unfold k0_pay6
    generalize k0_pay5 (F := Ideal) x g = h
    pointwise
  rw [e]
  simp only [norm_apply]
  rfl

/-- The keys' is the same operation. -/
theorem k_apply (r : Fin 512) (z : Fin 1024) : k0_pay7 (F := Ideal) x g w (ix2 r z) = mm x g w r z := q_apply x g w r z

/-- So is the values', stored through a scratch. -/
theorem v_apply (r : Fin 512) (z : Fin 1024) : k0_pay8 (F := Ideal) x g w (ix2 r z) = mm x g w r z := by
  refine Eq.trans ?_ (q_apply x g w r z)
  unfold k0_pay8 k0_pay6
  generalize k0_pay5 (F := Ideal) x g = h
  pointwise

/-- The transposed keys of a tile. -/
theorem kt_apply (u : FVec Ideal S512x1024 .f32) (z : Fin 1024) (r : Fin 512) : k0_pay1 (F := Ideal) u (ix4 0 0 z r) = u (ix2 r z) := by
  unfold k0_pay1
  pointwise

/-- The transposed values of a tile. -/
theorem vt_apply (u : FVec Ideal S512x1024 .f32) (z : Fin 1024) (r : Fin 512) : k0_pay2 (F := Ideal) u (ix4 0 0 z r) = u (ix2 r z) := by
  unfold k0_pay2
  pointwise

end Payloads

/-- Two pieces along the layers' axis, read in the first layer. -/
theorem canon_fst (i1 : ∀ a, (![1, 0, 0, 0] : Fin 4 → ℕ) a + S1x1x1024x512.size a ≤ S2x1x1024x512.size a)
    (i0 : ∀ a, (![0, 0, 0, 0] : Fin 4 → ℕ) a + S1x1x1024x512.size a ≤ S2x1x1024x512.size a)
    (u v : S1x1x1024x512.Idx → EReal) (z : Fin 1024) (r : Fin 512) :
    View.canon [(⟨Rect.unit (s := S2x1x1024x512) ![1, 0, 0, 0] S1x1x1024x512.size i1, v⟩ : View.Piece (Elt Ideal) S2x1x1024x512 .f32),
      (⟨Rect.unit (s := S2x1x1024x512) ![0, 0, 0, 0] S1x1x1024x512.size i0, u⟩ : View.Piece (Elt Ideal) S2x1x1024x512 .f32)] (ix4 0 0 z r) = u (ix4 0 0 z r) := by
  rw [View.canon_cons_of_not_mem _ _ (by
    rw [Rect.mem_set_unit]
    intro h
    have h1 := (h 0).1
    change 1 ≤ 0 at h1
    omega)]
  have e : (ix4 0 0 z r : S2x1x1024x512.Idx) = (Rect.unit (s := S2x1x1024x512) ![0, 0, 0, 0] S1x1x1024x512.size i0).emb (ix4 0 0 z r) := by
    funext a
    apply Fin.ext
    match a with
    | ⟨0, _⟩ => rfl
    | ⟨1, _⟩ => rfl
    | ⟨2, _⟩ => show z.val = 0 + 1 * z.val; omega
    | ⟨3, _⟩ => show r.val = 0 + 1 * r.val; omega
  rw [e]
  exact View.canon_cons_emb (Val := Elt Ideal) (e := .f32) (Rect.unit (s := S2x1x1024x512) ![0, 0, 0, 0] S1x1x1024x512.size i0) u [] (ix4 0 0 z r)

/-- Two pieces along the layers' axis, read in the second layer. -/
theorem canon_snd (i1 : ∀ a, (![1, 0, 0, 0] : Fin 4 → ℕ) a + S1x1x1024x512.size a ≤ S2x1x1024x512.size a)
    (v : S1x1x1024x512.Idx → EReal) (L : List (View.Piece (Elt Ideal) S2x1x1024x512 .f32)) (z : Fin 1024) (r : Fin 512) :
    View.canon ((⟨Rect.unit (s := S2x1x1024x512) ![1, 0, 0, 0] S1x1x1024x512.size i1, v⟩ : View.Piece (Elt Ideal) S2x1x1024x512 .f32) :: L) (ix4 1 0 z r) = v (ix4 0 0 z r) := by
  have e : (ix4 1 0 z r : S2x1x1024x512.Idx) = (Rect.unit (s := S2x1x1024x512) ![1, 0, 0, 0] S1x1x1024x512.size i1).emb (ix4 0 0 z r) := by
    funext a
    apply Fin.ext
    match a with
    | ⟨0, _⟩ => rfl
    | ⟨1, _⟩ => rfl
    | ⟨2, _⟩ => show z.val = 0 + 1 * z.val; omega
    | ⟨3, _⟩ => show r.val = 0 + 1 * r.val; omega
  rw [e]
  exact View.canon_cons_emb (Val := Elt Ideal) (e := .f32) (Rect.unit (s := S2x1x1024x512) ![1, 0, 0, 0] S1x1x1024x512.size i1) v L (ix4 0 0 z r)

/-- A read of a whole buffer. -/
theorem read_full {s : Shape} {e : EltTy} (M : Memref sig .tc .vmem s e) (hM : M.IsWhole) {off : Fin s.rank → ℕ} (h : ∀ a, off a + s.size a ≤ s.size a) (x : s.Idx → Elt Ideal e) :
    View.readAt (Elt Ideal) M.view (Rect.unit off s.size h).toLoadRect (hM.unread x) = x := by
  have h0 : off = fun _ => 0 := funext fun a => by have := h a; omega
  rw [View.readAt_eq_ld, hM.read_unread]
  exact View.ld_unit_zero (e := e) h0 h x

variable (V : (c : Dev nD) → (b : Ref sig .tc) → Buf (Elt Ideal) ((c : Thread nD τ).loc b)) (c : Dev nD)

section First
variable (t : Fin cfg0.N)

/-- The blocks a point of the first call reads. -/
abbrev x0 : S512x1024.Idx → EReal := iblk0 V c 0 t
@[inherit_doc x0] abbrev g0 : S1x1024.Idx → EReal := iblk0 V c 1 t
@[inherit_doc x0] abbrev w0 : S1024x3072.Idx → EReal := iblk0 V c 2 t

/-- The product a point computes, at a column of the weight. -/
def p0 (r : Fin 512) (z : Fin 3072) : EReal := ∑ k, rms (fun k => x0 V c t (ix2 r k)) (fun k => g0 V c t (ix2 0 k)) k * w0 V c t (ix2 k z)

theorem mm0 (o : ℕ) (ho : ∀ a, (![0, o] : Fin 2 → ℕ) a + S1024x1024.size a ≤ S1024x3072.size a) (h : o + 1024 ≤ 3072) (r : Fin 512) (z : Fin 1024) :
    mm (rx0 V c t) (rg0 V c t) (rw0 V c t o ho) r z = p0 V c t r ⟨o + z.val, by omega⟩ := by
  unfold mm p0 rx0 rg0 rw0
  rw [read_full, read_full, View.readAt_eq_ld, (hs0_2 t).read_unread]
  refine Finset.sum_congr rfl fun k _ => congrArg _ ?_
  exact ld_col (N := 3072) (n := 1024) (o := o) (e := .bf16) (w0 V c t) ho h k z

/-- The queries a point leaves. -/
theorem o0_3 (r : Fin 512) (z : Fin 1024) : (outsAt0 V c t).1 (ix2 r z) = p0 V c t r ⟨0 + z.val, by omega⟩ := by
  unfold outsAt0 out0_A_3
  dsimp only
  rw [View.read_writes_junk_eq_canon, pcs0_3, View.canon_unit_zero (by decide), q_apply]
  exact mm0 V c t 0 _ (by decide) r z

/-- The keys a point leaves. -/
theorem o0_4 (r : Fin 512) (z : Fin 1024) : (outsAt0 V c t).2.1 (ix2 r z) = p0 V c t r ⟨1024 + z.val, by omega⟩ := by
  unfold outsAt0 out0_A_4
  dsimp only
  rw [View.read_writes_junk_eq_canon, pcs0_4, View.canon_unit_zero (by decide), k_apply]
  exact mm0 V c t 1024 _ (by decide) r z

/-- The transposed keys a point leaves in the first layer's half. -/
theorem o0_5 (z : Fin 1024) (r : Fin 512) : (outsAt0 V c t).2.2.1 (ix4 0 0 z r) = p0 V c t r ⟨1024 + z.val, by omega⟩ := by
  unfold outsAt0 out0_A_5
  dsimp only
  rw [View.read_writes_junk_eq_canon, pcs0_5, canon_fst, kt_apply]
  exact (congrFun (View.readCov_full _ _ _ _ _) _).trans ((k_apply _ _ _ r z).trans (mm0 V c t 1024 _ (by decide) r z))

/-- The transposed values a point leaves in the first layer's half. -/
theorem o0_6 (z : Fin 1024) (r : Fin 512) : (outsAt0 V c t).2.2.2 (ix4 0 0 z r) = p0 V c t r ⟨2048 + z.val, by omega⟩ := by
  unfold outsAt0 out0_A_6
  dsimp only
  rw [View.read_writes_junk_eq_canon, pcs0_6, canon_fst, vt_apply]
  exact (congrFun (View.readCov_full _ _ _ _ _) _).trans ((v_apply _ _ _ r z).trans (mm0 V c t 2048 _ (by decide) r z))

end First

section Second
variable (t : Fin cfg1.N)

/-- The blocks a point of the second call reads. -/
abbrev x1 : S512x1024.Idx → EReal := iblk1 V c 0 t
@[inherit_doc x1] abbrev g1 : S1x1024.Idx → EReal := iblk1 V c 1 t
@[inherit_doc x1] abbrev w1 : S1024x3072.Idx → EReal := iblk1 V c 2 t

/-- The product a point computes, at a column of the weight. -/
def p1 (r : Fin 512) (z : Fin 3072) : EReal := ∑ k, rms (fun k => x1 V c t (ix2 r k)) (fun k => g1 V c t (ix2 0 k)) k * w1 V c t (ix2 k z)

theorem mm1 (o : ℕ) (ho : ∀ a, (![0, o] : Fin 2 → ℕ) a + S1024x1024.size a ≤ S1024x3072.size a) (h : o + 1024 ≤ 3072) (r : Fin 512) (z : Fin 1024) :
    mm (rx1 V c t) (rg1 V c t) (rw1 V c t o ho) r z = p1 V c t r ⟨o + z.val, by omega⟩ := by
  unfold mm p1 rx1 rg1 rw1
  rw [read_full, read_full, View.readAt_eq_ld, (hs1_2 t).read_unread]
  refine Finset.sum_congr rfl fun k _ => congrArg _ ?_
  exact ld_col (N := 3072) (n := 1024) (o := o) (e := .bf16) (w1 V c t) ho h k z

/-- The queries a point leaves. -/
theorem o1_3 (r : Fin 512) (z : Fin 1024) : (outsAt1 V c t).1 (ix2 r z) = p1 V c t r ⟨0 + z.val, by omega⟩ := by
  unfold outsAt1 out1_A_3
  dsimp only
  rw [View.read_writes_junk_eq_canon, pcs1_3, View.canon_unit_zero (by decide)]
  exact (q_apply _ _ _ r z).trans (mm1 V c t 0 _ (by decide) r z)

/-- The keys a point leaves. -/
theorem o1_4 (r : Fin 512) (z : Fin 1024) : (outsAt1 V c t).2.1 (ix2 r z) = p1 V c t r ⟨1024 + z.val, by omega⟩ := by
  unfold outsAt1 out1_A_4
  dsimp only
  rw [View.read_writes_junk_eq_canon, pcs1_4, View.canon_unit_zero (by decide)]
  exact (k_apply _ _ _ r z).trans (mm1 V c t 1024 _ (by decide) r z)

/-- The transposed keys a point leaves. -/
theorem o1_5 (z : Fin 1024) (r : Fin 512) : (outsAt1 V c t).2.2.1 (ix4 0 0 z r) = p1 V c t r ⟨1024 + z.val, by omega⟩ := by
  unfold outsAt1 out1_A_5
  dsimp only
  rw [View.read_writes_junk_eq_canon, pcs1_5, View.canon_unit_zero (by decide)]
  refine (kt_apply _ z r).trans ?_
  exact (congrFun (View.readCov_full _ _ _ _ _) _).trans ((k_apply _ _ _ r z).trans (mm1 V c t 1024 _ (by decide) r z))

/-- The transposed values a point leaves. -/
theorem o1_6 (z : Fin 1024) (r : Fin 512) : (outsAt1 V c t).2.2.2 (ix4 0 0 z r) = p1 V c t r ⟨2048 + z.val, by omega⟩ := by
  unfold outsAt1 out1_A_6
  dsimp only
  rw [View.read_writes_junk_eq_canon, pcs1_6, View.canon_unit_zero (by decide)]
  refine (vt_apply _ z r).trans ?_
  exact (congrFun (View.readCov_full _ _ _ _ _) _).trans ((v_apply _ _ _ r z).trans (mm1 V c t 2048 _ (by decide) r z))

end Second

end Cert.Proj.Qkv
-- ==== Proof.Proj.Qkv.Kernel.lean ====
/- The attention layers' projection: what the run of its two calls leaves in the results. -/
module

public import proofs.«01_k».proof.Proof.Proj.Qkv.Tile
public import Idealize.ShloMosaic.Lib.StableHlo.ReadAt
public import Idealize.ShloMosaic.Lib.Claim
public import Idealize.ShloMosaic.Lib.Pipeline.ValueKit.Partial

@[expose] public section
set_option maxRecDepth 16384
noncomputable section
namespace Cert.Proj.Qkv

open Idealize.ShloMosaic Idealize.ShloMosaic.TcCoe Idealize.ShloMosaic.Tactic Idealize.SL.Sem
open Cert.Kernel4Ideal Cert.Kernel4Ideal.Gen Cert.Ffn

section Forms

variable (A : Arr 3072) (o : ℕ) (ho : o + 1024 ≤ 3072)

/-- 1024 of the product's columns, the batches' rows in one. -/
def rows (i : S16384x1024.Idx) : EReal :=
  A.p ⟨(i 0).val / 2048, by have h := (i 0).isLt; change _ < 16384 at h; omega⟩ ⟨(i 0).val % 2048, Nat.mod_lt _ (by decide)⟩
    ⟨o + (i 1).val, by have h := (i 1).isLt; change _ < 1024 at h; omega⟩

/-- The same transposed, in one of the two layers' places. -/
def cols (i : S2x8x1024x2048.Idx) : EReal :=
  A.p (i 1) (i 3) ⟨o + (i 2).val, by have h := (i 2).isLt; change _ < 1024 at h; omega⟩

/-- A tile's entry is the array's. -/
theorem rows_at (t : ℕ) (ht : t < 32) (r : Fin 512) (z : Fin 1024) (i : S16384x1024.Idx) (h0 : (i 0).val = 512 * t + r.val) (h1 : (i 1).val = z.val) :
    A.p ⟨t / 4, by omega⟩ ⟨512 * (t % 4) + r.val, by omega⟩ ⟨o + z.val, by omega⟩ = rows A o ho i := by
  unfold rows
  congr 1
  · exact Fin.ext (by show t / 4 = (i 0).val / 2048; omega)
  · exact Fin.ext (by show 512 * (t % 4) + r.val = (i 0).val % 2048; omega)
  · exact Fin.ext (by show o + z.val = o + (i 1).val; omega)

/-- A transposed tile's entry is the array's. -/
theorem cols_at (t : ℕ) (ht : t < 32) (z : Fin 1024) (r : Fin 512) (i : S2x8x1024x2048.Idx) (h1 : (i 1).val = t / 4) (h2 : (i 2).val = z.val) (h3 : (i 3).val = 512 * (t % 4) + r.val) :
    A.p ⟨t / 4, by omega⟩ ⟨512 * (t % 4) + r.val, by omega⟩ ⟨o + z.val, by omega⟩ = cols A o ho i := by
  unfold cols
  congr 1
  · exact Fin.ext h1.symm
  · exact Fin.ext h3.symm
  · exact Fin.ext (by show o + z.val = o + (i 2).val; omega)

end Forms

variable (m : (ℓ : Loc nD τ sig) → Buf (Elt Ideal) ℓ) (ρ : Dev nD → PrngReg) (c : Dev nD)

/-- The first layer's arguments as device `c` holds them. -/
def arr0 : Arr 3072 where
  x b t z := (m ((c : Thread nD τ).loc main_arg0) : S8x2048x1024.Idx → EReal) (ix3 b t z)
  g z := (m ((c : Thread nD τ).loc main_arg1) : S1024.Idx → EReal) (ix1 z)
  w k z := (m ((c : Thread nD τ).loc main_arg2) : S1024x3072.Idx → EReal) (ix2 k z)

/-- The second layer's. -/
def arr1 : Arr 3072 where
  x b t z := (m ((c : Thread nD τ).loc main_arg3) : S8x2048x1024.Idx → EReal) (ix3 b t z)
  g z := (m ((c : Thread nD τ).loc main_arg4) : S1024.Idx → EReal) (ix1 z)
  w k z := (m ((c : Thread nD τ).loc main_arg5) : S1024x3072.Idx → EReal) (ix2 k z)

/-- The first layer's activations' rows, all batches in one. -/
theorem V1_x (b : Fin 8) (t : Fin 2048) (z : Fin 1024) : (V1 m ρ c main_v0 : S16384x1024.Idx → EReal) (ix2 ⟨2048 * b.val + t.val, by omega⟩ z) = (arr0 m c).x b t z := by
  unfold arr0
  after_reads_at

/-- Its gain as a row. -/
theorem V1_g (z : Fin 1024) : (V1 m ρ c main_v2 : S1x1024.Idx → EReal) (ix2 0 z) = (arr0 m c).g z := by
  unfold arr0
  after_reads_at

/-- Its weight. -/
theorem V1_w (k : Fin 1024) (z : Fin 3072) : (V1 m ρ c main_v1 : S1024x3072.Idx → EReal) (ix2 k z) = (arr0 m c).w k z := by
  unfold arr0
  after_reads_at

/-- The second layer's activations' rows, all batches in one. -/
theorem V3_x (b : Fin 8) (t : Fin 2048) (z : Fin 1024) : (V3 m ρ c main_v4 : S16384x1024.Idx → EReal) (ix2 ⟨2048 * b.val + t.val, by omega⟩ z) = (arr1 m c).x b t z := by
  refine Eq.trans ?_ (congrFun (W2_args m ρ c main_arg3 (by decide)) (ix3 b t z))
  after_reads_at

/-- Its gain as a row. -/
theorem V3_g (z : Fin 1024) : (V3 m ρ c main_v6 : S1x1024.Idx → EReal) (ix2 0 z) = (arr1 m c).g z := by
  refine Eq.trans ?_ (congrFun (W2_args m ρ c main_arg4 (by decide)) (ix1 z))
  after_reads_at

/-- Its weight. -/
theorem V3_w (k : Fin 1024) (z : Fin 3072) : (V3 m ρ c main_v5 : S1024x3072.Idx → EReal) (ix2 k z) = (arr1 m c).w k z := by
  refine Eq.trans ?_ (congrFun (W2_args m ρ c main_arg5 (by decide)) (ix2 k z))
  after_reads_at

/-- The first call's block indices, by the point. -/
theorem idx0 : ∀ t : Fin cfg0.N, (win0_0.index t = ![t.val, 0] ∧ win0_1.index t = ![0, 0] ∧ win0_2.index t = ![0, 0])
    ∧ win0_3.index t = ![t.val, 0] ∧ win0_4.index t = ![t.val, 0] ∧ win0_5.index t = ![0, t.val / 4, 0, t.val % 4] ∧ win0_6.index t = ![0, t.val / 4, 0, t.val % 4] := by decide +kernel

/-- The second call's. -/
theorem idx1 : ∀ t : Fin cfg1.N, (win1_0.index t = ![t.val, 0] ∧ win1_1.index t = ![0, 0] ∧ win1_2.index t = ![0, 0])
    ∧ win1_3.index t = ![t.val, 0] ∧ win1_4.index t = ![t.val, 0] ∧ win1_5.index t = ![1, t.val / 4, 0, t.val % 4] ∧ win1_6.index t = ![1, t.val / 4, 0, t.val % 4] := by decide +kernel

/-- Each grid's points number 32. -/
theorem lt0 (t : Fin cfg0.N) : t.val < 32 := lt_of_lt_of_eq t.isLt N_0
@[inherit_doc lt0] theorem lt1 (t : Fin cfg1.N) : t.val < 32 := lt_of_lt_of_eq t.isLt N_1

/-- A point's product is the first layer's. -/
theorem p0_eq (t : Fin cfg0.N) (r : Fin 512) (z : Fin 3072) :
    p0 (V1 m ρ) c t r z = (arr0 m c).p ⟨t.val / 4, by have := lt0 t; omega⟩ ⟨512 * (t.val % 4) + r.val, by omega⟩ z := by
  have := lt0 t
  have hx (k : Fin 1024) : x0 (V1 m ρ) c t (ix2 r k) = (arr0 m c).x ⟨t.val / 4, by omega⟩ ⟨512 * (t.val % 4) + r.val, by omega⟩ k := by
    refine Eq.trans ?_ (V1_x m ρ c _ _ k)
    blk_ext [iblk0, (idx0 t).1.1]
  have hg (k : Fin 1024) : g0 (V1 m ρ) c t (ix2 0 k) = (arr0 m c).g k := by
    refine Eq.trans ?_ (V1_g m ρ c k)
    blk_ext [iblk0, (idx0 t).1.2.1]
  have hw (k : Fin 1024) : w0 (V1 m ρ) c t (ix2 k z) = (arr0 m c).w k z := by
    refine Eq.trans ?_ (V1_w m ρ c k z)
    blk_ext [iblk0, (idx0 t).1.2.2]
  unfold p0 Arr.p
  simp only [hx, hg, hw]

/-- A point's product is the second layer's. -/
theorem p1_eq (t : Fin cfg1.N) (r : Fin 512) (z : Fin 3072) :
    p1 (V3 m ρ) c t r z = (arr1 m c).p ⟨t.val / 4, by have := lt1 t; omega⟩ ⟨512 * (t.val % 4) + r.val, by omega⟩ z := by
  have := lt1 t
  have hx (k : Fin 1024) : x1 (V3 m ρ) c t (ix2 r k) = (arr1 m c).x ⟨t.val / 4, by omega⟩ ⟨512 * (t.val % 4) + r.val, by omega⟩ k := by
    refine Eq.trans ?_ (V3_x m ρ c _ _ k)
    blk_ext [iblk1, (idx1 t).1.1]
  have hg (k : Fin 1024) : g1 (V3 m ρ) c t (ix2 0 k) = (arr1 m c).g k := by
    refine Eq.trans ?_ (V3_g m ρ c k)
    blk_ext [iblk1, (idx1 t).1.2.1]
  have hw (k : Fin 1024) : w1 (V3 m ρ) c t (ix2 k z) = (arr1 m c).w k z := by
    refine Eq.trans ?_ (V3_w m ρ c k z)
    blk_ext [iblk1, (idx1 t).1.2.2]
  unfold p1 Arr.p
  simp only [hx, hg, hw]

/-- The first layer's queries, after the run. -/
theorem end0_3 : (dat0 (V1 m ρ) c).arrAt 3 cfg0.N = rows (arr0 m c) 0 (by decide) := by
  refine (dat0 (V1 m ρ) c).arrAt_eq_of_covers 3 _ (by decide +kernel) fun t hf y => ?_
  blk_simp
  rw [after0_3]
  have hy : y = (ix2 (y 0) (y 1) : S512x1024.Idx) := by
    funext a
    fin_cases a <;> rfl
  refine (congrArg _ hy).trans ((o0_3 (V1 m ρ) c t (y 0) (y 1)).trans ((p0_eq m ρ c t _ _).trans (rows_at _ _ _ t.val (lt0 t) (y 0) (y 1) _ ?_ ?_)))
  · blk_simp
    rw [(idx0 t).2.1]; simp; omega
  · blk_simp
    rw [(idx0 t).2.1]; simp

/-- The first layer's keys, after the run. -/
theorem end0_4 : (dat0 (V1 m ρ) c).arrAt 4 cfg0.N = rows (arr0 m c) 1024 (by decide) := by
  refine (dat0 (V1 m ρ) c).arrAt_eq_of_covers 4 _ (by decide +kernel) fun t hf y => ?_
  blk_simp
  rw [after0_4]
  have hy : y = (ix2 (y 0) (y 1) : S512x1024.Idx) := by
    funext a
    fin_cases a <;> rfl
  refine (congrArg _ hy).trans ((o0_4 (V1 m ρ) c t (y 0) (y 1)).trans ((p0_eq m ρ c t _ _).trans (rows_at _ _ _ t.val (lt0 t) (y 0) (y 1) _ ?_ ?_)))
  · blk_simp
    rw [(idx0 t).2.2.1]; simp; omega
  · blk_simp
    rw [(idx0 t).2.2.1]; simp

/-- The second layer's queries, after the run. -/
theorem end1_3 : (dat1 (V3 m ρ) c).arrAt 3 cfg1.N = rows (arr1 m c) 0 (by decide) := by
  refine (dat1 (V3 m ρ) c).arrAt_eq_of_covers 3 _ (by decide +kernel) fun t hf y => ?_
  blk_simp
  rw [after1_3]
  have hy : y = (ix2 (y 0) (y 1) : S512x1024.Idx) := by
    funext a
    fin_cases a <;> rfl
  refine (congrArg _ hy).trans ((o1_3 (V3 m ρ) c t (y 0) (y 1)).trans ((p1_eq m ρ c t _ _).trans (rows_at _ _ _ t.val (lt1 t) (y 0) (y 1) _ ?_ ?_)))
  · blk_simp
    rw [(idx1 t).2.1]; simp; omega
  · blk_simp
    rw [(idx1 t).2.1]; simp

/-- The second layer's keys, after the run. -/
theorem end1_4 : (dat1 (V3 m ρ) c).arrAt 4 cfg1.N = rows (arr1 m c) 1024 (by decide) := by
  refine (dat1 (V3 m ρ) c).arrAt_eq_of_covers 4 _ (by decide +kernel) fun t hf y => ?_
  blk_simp
  rw [after1_4]
  have hy : y = (ix2 (y 0) (y 1) : S512x1024.Idx) := by
    funext a
    fin_cases a <;> rfl
  refine (congrArg _ hy).trans ((o1_4 (V3 m ρ) c t (y 0) (y 1)).trans ((p1_eq m ρ c t _ _).trans (rows_at _ _ _ t.val (lt1 t) (y 0) (y 1) _ ?_ ?_)))
  · blk_simp
    rw [(idx1 t).2.2.1]; simp; omega
  · blk_simp
    rw [(idx1 t).2.2.1]; simp

/-- The keys' transpose in the first layer's place, after the first call. -/
theorem end0_5 (i : S2x8x1024x2048.Idx) (hi : (i 0).val = 0) : (dat0 (V1 m ρ) c).arrAt 5 cfg0.N i = cols (arr0 m c) 1024 (by decide) i := by
  revert hi
  refine (dat0 (V1 m ρ) c).arrAt_forall_of_covers 5 (fun (i : S2x8x1024x2048.Idx) v => (i 0).val = 0 → v = cols (arr0 m c) 1024 (by decide) i) (by decide +kernel) (fun t hf y => ?_) i
  blk_simp
  rw [after0_5]
  intro h0
  rw [(idx0 t).2.2.2.1] at h0
  have h0 : (y 0).val = 0 := by simpa using h0
  have hy : y = (ix4 0 0 (y 2) (y 3) : S2x1x1024x512.Idx) := by
    funext a
    match a with
    | ⟨0, _⟩ => exact Fin.ext (by show (y 0).val = 0; omega)
    | ⟨1, _⟩ => exact Fin.ext (by show (y 1).val = 0; have h := (y 1).isLt; change _ < 1 at h; omega)
    | ⟨2, _⟩ => rfl
    | ⟨3, _⟩ => rfl
  have h1 : (y 1).val < 1 := (y 1).isLt
  refine (congrArg _ hy).trans ((o0_5 (V1 m ρ) c t (y 2) (y 3)).trans ((p0_eq m ρ c t _ _).trans (cols_at _ _ _ t.val (lt0 t) (y 2) (y 3) _ ?_ ?_ ?_)))
  · blk_simp
    rw [(idx0 t).2.2.2.1]; simp
  · blk_simp
    rw [(idx0 t).2.2.2.1]; simp
  · blk_simp
    rw [(idx0 t).2.2.2.1]; simp; omega

/-- The values' transpose in the first layer's place, after the first call. -/
theorem end0_6 (i : S2x8x1024x2048.Idx) (hi : (i 0).val = 0) : (dat0 (V1 m ρ) c).arrAt 6 cfg0.N i = cols (arr0 m c) 2048 (by decide) i := by
  revert hi
  refine (dat0 (V1 m ρ) c).arrAt_forall_of_covers 6 (fun (i : S2x8x1024x2048.Idx) v => (i 0).val = 0 → v = cols (arr0 m c) 2048 (by decide) i) (by decide +kernel) (fun t hf y => ?_) i
  blk_simp
  rw [after0_6]
  intro h0
  rw [(idx0 t).2.2.2.2] at h0
  have h0 : (y 0).val = 0 := by simpa using h0
  have hy : y = (ix4 0 0 (y 2) (y 3) : S2x1x1024x512.Idx) := by
    funext a
    match a with
    | ⟨0, _⟩ => exact Fin.ext (by show (y 0).val = 0; omega)
    | ⟨1, _⟩ => exact Fin.ext (by show (y 1).val = 0; have h := (y 1).isLt; change _ < 1 at h; omega)
    | ⟨2, _⟩ => rfl
    | ⟨3, _⟩ => rfl
  have h1 : (y 1).val < 1 := (y 1).isLt
  refine (congrArg _ hy).trans ((o0_6 (V1 m ρ) c t (y 2) (y 3)).trans ((p0_eq m ρ c t _ _).trans (cols_at _ _ _ t.val (lt0 t) (y 2) (y 3) _ ?_ ?_ ?_)))
  · blk_simp
    rw [(idx0 t).2.2.2.2]; simp
  · blk_simp
    rw [(idx0 t).2.2.2.2]; simp
  · blk_simp
    rw [(idx0 t).2.2.2.2]; simp; omega

/-- The keys' transpose after the second call: its own in the second layer's place, what was there before in the first's. -/
theorem end1_5 : (dat1 (V3 m ρ) c).arrAt 5 cfg1.N
    = fun i : S2x8x1024x2048.Idx => if (i 0).val / 1 = 1 then cols (arr1 m c) 1024 (by decide) i else (dat1 (V3 m ρ) c).A 5 i := by
  refine (dat1 (V3 m ρ) c).arrAt_eq_of_coversWhere 5 _ (fun β => β (0 : Fin 4) = 1) (by decide +kernel) (fun t hf y => ?_) (fun j => Iff.rfl)
  blk_simp
  rw [after1_5]
  have h0 : (y 0).val < 1 := (y 0).isLt
  have h1 : (y 1).val < 1 := (y 1).isLt
  have hy : y = (ix4 0 0 (y 2) (y 3) : S1x1x1024x512.Idx) := by
    funext a
    match a with
    | ⟨0, _⟩ => exact Fin.ext (by show (y 0).val = 0; omega)
    | ⟨1, _⟩ => exact Fin.ext (by show (y 1).val = 0; omega)
    | ⟨2, _⟩ => rfl
    | ⟨3, _⟩ => rfl
  refine (congrArg _ hy).trans ((o1_5 (V3 m ρ) c t (y 2) (y 3)).trans ((p1_eq m ρ c t _ _).trans (cols_at _ _ _ t.val (lt1 t) (y 2) (y 3) _ ?_ ?_ ?_)))
  · blk_simp
    rw [(idx1 t).2.2.2.1]; simp
  · blk_simp
    rw [(idx1 t).2.2.2.1]; simp
  · blk_simp
    rw [(idx1 t).2.2.2.1]; simp; omega

/-- The values' transpose after the second call, likewise. -/
theorem end1_6 : (dat1 (V3 m ρ) c).arrAt 6 cfg1.N
    = fun i : S2x8x1024x2048.Idx => if (i 0).val / 1 = 1 then cols (arr1 m c) 2048 (by decide) i else (dat1 (V3 m ρ) c).A 6 i := by
  refine (dat1 (V3 m ρ) c).arrAt_eq_of_coversWhere 6 _ (fun β => β (0 : Fin 4) = 1) (by decide +kernel) (fun t hf y => ?_) (fun j => Iff.rfl)
  blk_simp
  rw [after1_6]
  have h0 : (y 0).val < 1 := (y 0).isLt
  have h1 : (y 1).val < 1 := (y 1).isLt
  have hy : y = (ix4 0 0 (y 2) (y 3) : S1x1x1024x512.Idx) := by
    funext a
    match a with
    | ⟨0, _⟩ => exact Fin.ext (by show (y 0).val = 0; omega)
    | ⟨1, _⟩ => exact Fin.ext (by show (y 1).val = 0; omega)
    | ⟨2, _⟩ => rfl
    | ⟨3, _⟩ => rfl
  refine (congrArg _ hy).trans ((o1_6 (V3 m ρ) c t (y 2) (y 3)).trans ((p1_eq m ρ c t _ _).trans (cols_at _ _ _ t.val (lt1 t) (y 2) (y 3) _ ?_ ?_ ?_)))
  · blk_simp
    rw [(idx1 t).2.2.2.2]; simp
  · blk_simp
    rw [(idx1 t).2.2.2.2]; simp
  · blk_simp
    rw [(idx1 t).2.2.2.2]; simp; omega

end Cert.Proj.Qkv
-- ==== Proof.Proj.Qkv.Run.lean ====
/- The attention layers' projection: the run of both calls, with every result and the arguments unchanged. -/
module

public import proofs.«01_k».proof.Proof.Proj.Qkv.Kernel

@[expose] public section
set_option maxRecDepth 16384
noncomputable section
namespace Cert.Proj.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen Cert.Ffn

/-- 1024 of a product's columns, batch by batch. -/
def outRows (A : Arr 3072) (o : ℕ) (ho : o + 1024 ≤ 3072) (i : S8x2048x1024.Idx) : EReal :=
  A.p (i 0) (i 1) ⟨o + (i 2).val, by have h := (i 2).isLt; change _ < 1024 at h; omega⟩

/-- Both layers' product, head by head. -/
def outHeads (A B : Arr 3072) (o : ℕ) (ho : o + 1024 ≤ 3072) (i : S2x8x2048x16x64.Idx) : EReal :=
  (if (i 0).val = 1 then B else A).p (i 1) (i 2)
    ⟨o + ((i 3).val * 64 + (i 4).val), by have h := (i 3).isLt; have h' := (i 4).isLt; change _ < 16 at h; change _ < 64 at h'; omega⟩

variable (m : (ℓ : Loc nD τ sig) → Buf (Elt Ideal) ℓ) (ρ : Dev nD → PrngReg) (c : Dev nD)

/-- Rows numbered through all batches are the batches' rows. -/
theorem rows_out (A : Arr 3072) (o : ℕ) (ho : o + 1024 ≤ 3072) (i : S8x2048x1024.Idx) (j : S16384x1024.Idx)
    (h0 : (j 0).val = (i 0).val * 2048 + (i 1).val) (h1 : (j 1).val = (i 2).val) : rows A o ho j = outRows A o ho i := by
  have i1 : (i 1).val < 2048 := (i 1).isLt
  unfold rows outRows
  congr 1
  · exact Fin.ext (by show (j 0).val / 2048 = (i 0).val; omega)
  · exact Fin.ext (by show (j 0).val % 2048 = (i 1).val; omega)
  · exact Fin.ext (by show o + (j 1).val = o + (i 2).val; omega)

/-- The first layer's queries at the end. -/
theorem W5_q0 : (W5 m ρ c (Proc.devRef .tc main_v12) : S8x2048x1024.Idx → EReal) = outRows (arr0 m c) 0 (by decide) := by
  funext i
  have e : W4 m ρ c (Proc.devRef .tc main_v3_0) = rows (arr0 m c) 0 (by decide) :=
    (W4_of_ne m ρ c main_v3_0 (by decide)).trans ((W3_of m ρ c main_v3_0 (by decide)).trans ((W2_arr m ρ c 3).trans (end0_3 m ρ c)))
  after_reads_at
  exact (congrFun e _).trans (rows_out _ _ _ i _ rfl rfl)

/-- The first layer's keys at the end. -/
theorem W5_k0 : (W5 m ρ c (Proc.devRef .tc main_v13) : S8x2048x1024.Idx → EReal) = outRows (arr0 m c) 1024 (by decide) := by
  funext i
  have e : W4 m ρ c (Proc.devRef .tc main_v3_1) = rows (arr0 m c) 1024 (by decide) :=
    (W4_of_ne m ρ c main_v3_1 (by decide)).trans ((W3_of m ρ c main_v3_1 (by decide)).trans ((W2_arr m ρ c 4).trans (end0_4 m ρ c)))
  after_reads_at
  exact (congrFun e _).trans (rows_out _ _ _ i _ rfl rfl)

/-- The second layer's queries at the end. -/
theorem W5_q1 : (W5 m ρ c (Proc.devRef .tc main_v14) : S8x2048x1024.Idx → EReal) = outRows (arr1 m c) 0 (by decide) := by
  funext i
  have e : W4 m ρ c (Proc.devRef .tc main_v7_0) = rows (arr1 m c) 0 (by decide) := (W4_arr m ρ c 3).trans (end1_3 m ρ c)
  after_reads_at
  exact (congrFun e _).trans (rows_out _ _ _ i _ rfl rfl)

/-- The second layer's keys at the end. -/
theorem W5_k1 : (W5 m ρ c (Proc.devRef .tc main_v15) : S8x2048x1024.Idx → EReal) = outRows (arr1 m c) 1024 (by decide) := by
  funext i
  have e : W4 m ρ c (Proc.devRef .tc main_v7_1) = rows (arr1 m c) 1024 (by decide) := (W4_arr m ρ c 4).trans (end1_4 m ρ c)
  after_reads_at
  exact (congrFun e _).trans (rows_out _ _ _ i _ rfl rfl)

/-- What the second call finds where the keys' transpose goes: what the first left. -/
theorem A5 : (dat1 (V3 m ρ) c).A 5 = (dat0 (V1 m ρ) c).arrAt 5 cfg0.N := by
  refine (A_eq1 (V3 m ρ) c 5).trans (Eq.trans ?_ (W2_arr m ρ c 5))
  after_results_simp <;> rfl

/-- The same of the values. -/
theorem A6 : (dat1 (V3 m ρ) c).A 6 = (dat0 (V1 m ρ) c).arrAt 6 cfg0.N := by
  refine (A_eq1 (V3 m ρ) c 6).trans (Eq.trans ?_ (W2_arr m ρ c 6))
  after_results_simp <;> rfl

/-- The places of a head's columns. -/
theorem cols_out (A B : Arr 3072) (o : ℕ) (ho : o + 1024 ≤ 3072) (i : S2x8x2048x16x64.Idx) (j : S2x8x1024x2048.Idx)
    (h0 : (j 0).val = (i 0).val) (h1 : (j 1).val = (i 1).val) (h2 : (j 2).val = (i 3).val * 64 + (i 4).val) (h3 : (j 3).val = (i 2).val)
    (v : S2x8x1024x2048.Idx → EReal) (hv : ∀ j, (j 0).val = 0 → v j = cols A o ho j) :
    (if (j 0).val / 1 = 1 then cols B o ho j else v j) = outHeads A B o ho i := by
  have i0 : (i 0).val < 2 := (i 0).isLt
  have e (C : Arr 3072) : cols C o ho j = C.p (i 1) (i 2)
      ⟨o + ((i 3).val * 64 + (i 4).val), by have h := (i 3).isLt; have h' := (i 4).isLt; change _ < 16 at h; change _ < 64 at h'; omega⟩ := by
    unfold cols
    congr 1
    · exact Fin.ext h1
    · exact Fin.ext h3
    · exact Fin.ext (by show o + (j 2).val = o + ((i 3).val * 64 + (i 4).val); omega)
  unfold outHeads
  by_cases h : (i 0).val = 1
  · rw [if_pos (by omega), if_pos h, e]
  · rw [if_neg (by omega), if_neg h, hv j (by omega), e]

/-- Both layers' keys at the end, head by head. -/
theorem W5_k : (W5 m ρ c (Proc.devRef .tc main_v9) : S2x8x2048x16x64.Idx → EReal) = outHeads (arr0 m c) (arr1 m c) 1024 (by decide) := by
  funext i
  have e := (W4_arr m ρ c 5).trans (end1_5 m ρ c)
  after_reads_at
  refine (congrFun e _).trans (cols_out _ _ _ _ i _ ?_ ?_ ?_ ?_ _ fun j hj => (congrFun (A5 m ρ c) j).trans (end0_5 m ρ c j hj))
  all_goals rfl

/-- Both layers' values at the end, head by head. -/
theorem W5_v : (W5 m ρ c (Proc.devRef .tc main_v11) : S2x8x2048x16x64.Idx → EReal) = outHeads (arr0 m c) (arr1 m c) 2048 (by decide) := by
  funext i
  have e := (W4_arr m ρ c 6).trans (end1_6 m ρ c)
  after_reads_at
  refine (congrFun e _).trans (cols_out _ _ _ _ i _ ?_ ?_ ?_ ?_ _ fun j hj => (congrFun (A6 m ρ c) j).trans (end0_6 m ρ c j hj))
  all_goals rfl

set_option backward.isDefEq.respectTransparency.types false in
/-- What the run leaves in every buffer of a device: the contents after the last host line. -/
theorem run_all : θ_run defs (onTc (τ := τ) (main (F := Ideal))) ⟨m, fun _ => 0, ρ⟩ (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The run ends with the results, its arguments unchanged. -/
theorem run : θ_run defs (onTc (τ := τ) (main (F := Ideal))) ⟨m, fun _ => 0, ρ⟩ (fun r => ∀ c : Dev nD,
      r.2.mem ((c.tc : Thread nD τ).loc main_v12) = outRows (arr0 m c) 0 (by decide)
      ∧ r.2.mem ((c.tc : Thread nD τ).loc main_v13) = outRows (arr0 m c) 1024 (by decide)
      ∧ r.2.mem ((c.tc : Thread nD τ).loc main_v14) = outRows (arr1 m c) 0 (by decide)
      ∧ r.2.mem ((c.tc : Thread nD τ).loc main_v15) = outRows (arr1 m c) 1024 (by decide)
      ∧ r.2.mem ((c.tc : Thread nD τ).loc main_v9) = outHeads (arr0 m c) (arr1 m c) 1024 (by decide)
      ∧ r.2.mem ((c.tc : Thread nD τ).loc main_v11) = outHeads (arr0 m c) (arr1 m c) 2048 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v12 (by decide))).trans (W5_q0 m ρ c),
    (h c _ (mem_uc main_v13 (by decide))).trans (W5_k0 m ρ c),
    (h c _ (mem_uc main_v14 (by decide))).trans (W5_q1 m ρ c),
    (h c _ (mem_uc main_v15 (by decide))).trans (W5_k1 m ρ c),
    (h c _ (mem_uc main_v9 (by decide))).trans (W5_k m ρ c),
    (h c _ (mem_uc main_v11 (by decide))).trans (W5_v m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c)⟩)
    (run_all m ρ)

end Cert.Proj.Qkv
-- ==== Proof.Proj.Ref.lean ====
/- The reference's projections: the columns it cuts from the projected rows. -/
module

public import proofs.«01_k».proof.Proof.Proj.Math
public import proofs.«01_k».proof.Proof.Ffn.Ref

@[expose] public section
noncomputable section
namespace Cert.Proj

open Cert.Ffn Idealize.ShloMosaic

/-- The arrays, by their indices. -/
def Arr.of {N B T : ℕ} (x : (⟨3, ![B, T, 1024]⟩ : Shape).Idx → EReal) (g : (⟨1, ![1024]⟩ : Shape).Idx → EReal) (w : (⟨2, ![1024, N]⟩ : Shape).Idx → EReal) : Arr N B T where
  x b t z := x (ix3 b t z)
  g z := g (ix1 z)
  w k z := w (ix2 k z)

/-- The reference's normalized row times the weight is the projected row. -/
theorem norm_row {N : ℕ} (x : FVec Ideal Cert.Reference2Ideal.S8x2048x1024 .f32) (g : FVec Ideal Cert.Reference2Ideal.S1024 .f32) (w : (⟨2, ![1024, N]⟩ : Shape).Idx → EReal)
    (y : (⟨3, ![8, 2048, N]⟩ : Shape).Idx → EReal) (b : Fin 8) (t : Fin 2048) (z : Fin N)
    (h : y (ix3 b t z) = ∑ k, Ref.norm (F := Ideal) x g (ix3 b t k) * w (ix2 k z)) : y (ix3 b t z) = (Arr.of x g w).p b t z := by
  rw [h]
  unfold Arr.p
  refine Finset.sum_congr rfl fun k _ => ?_
  rw [Ref.norm_apply]
  rfl

/-- The columns from `o` on of an array whose rows are the projected ones. -/
theorem cols {N B T n o : ℕ} (A : Arr N B T) (y : (⟨3, ![B, T, N]⟩ : Shape).Idx → EReal) (hy : ∀ b t z, y (ix3 b t z) = A.p b t z)
    (h : (⟨3, ![B, T, N]⟩ : Shape).Slices ![0, 0, o] ⟨3, ![B, T, n]⟩) (ho : o + n ≤ N) (b : Fin B) (t : Fin T) (z : Fin n) :
    extractStridedSlice ⟨3, ![B, T, n]⟩ ![0, 0, o] y h (ix3 b t z) = A.p b t ⟨o + z.val, by omega⟩ := by
  refine Eq.trans (congrArg y ?_) (hy b t ⟨o + z.val, by omega⟩)
  funext a
  apply Fin.ext
  match a with
  | ⟨0, _⟩ => show 0 + b.val = b.val; omega
  | ⟨1, _⟩ => show 0 + t.val = t.val; omega
  | ⟨2, _⟩ => rfl

/-- The same as an array. -/
theorem cols_fun {N B T n o : ℕ} (A : Arr N B T) (y : (⟨3, ![B, T, N]⟩ : Shape).Idx → EReal) (hy : ∀ b t z, y (ix3 b t z) = A.p b t z)
    (h : (⟨3, ![B, T, N]⟩ : Shape).Slices ![0, 0, o] ⟨3, ![B, T, n]⟩) (ho : o + n ≤ N) :
    extractStridedSlice ⟨3, ![B, T, n]⟩ ![0, 0, o] y h
      = fun i : (⟨3, ![B, T, n]⟩ : Shape).Idx => A.p (i 0) (i 1) ⟨o + (i 2).val, by have h := (i 2).isLt; change _ < n at h; omega⟩ := by
  funext i
  obtain ⟨b, t, z, rfl⟩ := idx_ix3 i
  exact cols A y hy h ho b t z

end Cert.Proj
-- ==== Proof.Proj.Qkv.Claim.lean ====
/- The attention layers' projection: the two programs' results are one function of the arguments. -/
module

public import proofs.«01_k».proof.Proof.Proj.Qkv.Run
public import proofs.«01_k».proof.Proof.Proj.Ref
public import proofs.«01_k».proof.Proof.Gen.Reference4Ideal.Run
public import proofs.«01_k».proof.Defs
public import proofs.«01_k».proof.Proof.Gen.Kernel4.Frame

@[expose] public section
set_option maxRecDepth 16384
noncomputable section
namespace Cert.Proj.Qkv

open Idealize.ShloMosaic Idealize.ShloMosaic.TcCoe Idealize.ShloMosaic.Tactic Idealize.SL.Sem

section Reference

open Cert.Reference4Ideal Cert.Reference4Ideal.Gen Cert.Reference4Ideal.Value

/-- The reference's projected rows. -/
def prod {F : FTy → Type} [FloatOps F] (x : FVec F S8x2048x1024 .f32) (g : FVec F S1024 .f32) (w : FVec F S1024x3072 .f32) : FVec F S8x2048x3072 .f32 :=
  Host.dotGeneral dot_S8x2048x1024_S1024x3072_S8x2048x3072_2_0_01_1_n_n none (Cert.Ffn.Ref.norm x g) w

/-- Its rows are the formula's. -/
theorem prod_row (x : FVec Ideal S8x2048x1024 .f32) (g : FVec Ideal S1024 .f32) (w : FVec Ideal S1024x3072 .f32) (b : Fin 8) (t : Fin 2048) (z : Fin 3072) :
    prod (F := Ideal) x g w (ix3 b t z) = (Arr.of x g w).p b t z := by
  refine norm_row _ _ _ _ b t z ?_
  unfold prod
  generalize Cert.Ffn.Ref.norm (F := Ideal) x g = h
  pointwise

/-- One layer's heads as the reference makes them: to heads first, and back. -/
def heads {F : FTy → Type} [FloatOps F] (y : FVec F S8x2048x1024 .f32) : FVec F S1x8x2048x16x64 .f32 :=
  broadcastInDim S1x8x2048x16x64 ![1, 2, 3, 4] bcast_S8x2048x16x64_S1x8x2048x16x64_1_2_3_4 (transpose S8x2048x16x64 [0, 2, 1, 3] (transpose S8x16x2048x64 [0, 2, 1, 3]
    (shapeCast _ y shapeCasts_S8x2048x1024_S8x2048x16x64) transposes_S8x2048x16x64_S8x16x2048x64_0_2_1_3) transposes_S8x16x2048x64_S8x2048x16x64_0_2_1_3)

/-- They're the columns, head by head. -/
theorem heads_apply (y : FVec Ideal S8x2048x1024 .f32) (l : Fin 1) (b : Fin 8) (t : Fin 2048) (h : Fin 16) (d : Fin 64) :
    heads (F := Ideal) y (ix5 l b t h d) = y (ix3 b t ⟨h.val * 64 + d.val, by omega⟩) := by
  unfold heads
  pointwise

/-- Both layers' heads, one after the other. -/
def stack {F : FTy → Type} [FloatOps F] (y z : FVec F S8x2048x1024 .f32) : FVec F S2x8x2048x16x64 .f32 :=
  concatenate S2x8x2048x16x64 0 [⟨S1x8x2048x16x64, heads y⟩, ⟨S1x8x2048x16x64, heads z⟩] concatenates_S1x8x2048x16x64_S1x8x2048x16x64_S2x8x2048x16x64_d0

/-- Each layer's heads in the stack. -/
theorem stack_apply (y z : FVec Ideal S8x2048x1024 .f32) (l : Fin 2) (b : Fin 8) (t : Fin 2048) (h : Fin 16) (d : Fin 64) :
    stack (F := Ideal) y z (ix5 l b t h d) = (if l.val = 1 then z else y) (ix3 b t ⟨h.val * 64 + d.val, by omega⟩) := by
  unfold stack
  rcases l with ⟨_ | _ | l, hl⟩
  · pointwise
    exact heads_apply y _ b t h d
  · pointwise
    exact heads_apply z _ b t h d
  · omega

/-- An index by its five entries. -/
theorem idx_ix5 (i : S2x8x2048x16x64.Idx) : ∃ (l : Fin 2) (b : Fin 8) (t : Fin 2048) (h : Fin 16) (d : Fin 64), i = ix5 l b t h d :=
  ⟨i 0, i 1, i 2, i 3, i 4, by funext a; fin_cases a <;> rfl⟩

/-- The columns from `o` on as the results have them. -/
theorem ref_rows (x : FVec Ideal S8x2048x1024 .f32) (g : FVec Ideal S1024 .f32) (w : FVec Ideal S1024x3072 .f32) (o : ℕ)
    (h : S8x2048x3072.Slices ![0, 0, o] S8x2048x1024) (ho : o + 1024 ≤ 3072) :
    extractStridedSlice S8x2048x1024 ![0, 0, o] (prod (F := Ideal) x g w) h = outRows (Arr.of x g w) o ho :=
  cols_fun (n := 1024) (o := o) (Arr.of x g w) (prod (F := Ideal) x g w) (prod_row x g w) h ho

/-- The stacks are the formula's columns, head by head. -/
theorem ref_heads (A B : Arr 3072) (o : ℕ) (ho : o + 1024 ≤ 3072) : stack (F := Ideal) (outRows A o ho) (outRows B o ho) = outHeads A B o ho := by
  funext i
  obtain ⟨l, b, t, h, d, rfl⟩ := idx_ix5 i
  refine (stack_apply _ _ l b t h d).trans ?_
  unfold outHeads
  show _ = (if l.val = 1 then B else A).p b t ⟨o + (h.val * 64 + d.val), _⟩
  split <;> rfl

variable (m : (ℓ : Loc nD τ sig) → Buf (Elt Ideal) ℓ) (c : Dev nD)

/-- The first layer's arguments the reference starts with. -/
def ref0 : Arr 3072 := Arr.of (m ((c.tc : Thread nD τ).loc main_arg0)) (m ((c.tc : Thread nD τ).loc main_arg1)) (m ((c.tc : Thread nD τ).loc main_arg2))

/-- The second layer's. -/
def ref1 : Arr 3072 := Arr.of (m ((c.tc : Thread nD τ).loc main_arg3)) (m ((c.tc : Thread nD τ).loc main_arg4)) (m ((c.tc : Thread nD τ).loc main_arg5))

/-- The first layer's products. -/
def prod0 : S8x2048x3072.Idx → EReal := prod (F := Ideal) (m ((c.tc : Thread nD τ).loc main_arg0)) (m ((c.tc : Thread nD τ).loc main_arg1)) (m ((c.tc : Thread nD τ).loc main_arg2))

/-- The second layer's. -/
def prod1 : S8x2048x3072.Idx → EReal := prod (F := Ideal) (m ((c.tc : Thread nD τ).loc main_arg3)) (m ((c.tc : Thread nD τ).loc main_arg4)) (m ((c.tc : Thread nD τ).loc main_arg5))

theorem rows0 (o : ℕ) (h : S8x2048x3072.Slices ![0, 0, o] S8x2048x1024) (ho : o + 1024 ≤ 3072) :
    extractStridedSlice S8x2048x1024 ![0, 0, o] (prod0 m c) h = outRows (ref0 m c) o ho := ref_rows _ _ _ o h ho

theorem rows1 (o : ℕ) (h : S8x2048x3072.Slices ![0, 0, o] S8x2048x1024) (ho : o + 1024 ≤ 3072) :
    extractStridedSlice S8x2048x1024 ![0, 0, o] (prod1 m c) h = outRows (ref1 m c) o ho := ref_rows _ _ _ o h ho

/-- The stack of both layers' columns from `o` on. -/
theorem stacked (o : ℕ) (h : S8x2048x3072.Slices ![0, 0, o] S8x2048x1024) (ho : o + 1024 ≤ 3072) :
    stack (F := Ideal) (extractStridedSlice S8x2048x1024 ![0, 0, o] (prod0 m c) h) (extractStridedSlice S8x2048x1024 ![0, 0, o] (prod1 m c) h)
      = outHeads (ref0 m c) (ref1 m c) o ho := by
  rw [rows0 m c o h ho, rows1 m c o h ho]
  exact ref_heads _ _ o ho

end Reference

/-- The reference's run ends quiet, its arguments unchanged. -/
theorem frame_ref : Cert.quiescent_Reference4Ideal := fun m ρ _ =>
  (θ_run Cert.Reference4Ideal.defs _ _).mono (fun r h => ⟨fun c => (h c).2.2.2.2.2.2, Idealize.ShloMosaic.sem_eq_zero_of_no_sems (by decide) r.2⟩) (Cert.Reference4Ideal.Value.run (F := Ideal) m ρ)

/-- The kernel's results are the reference's. -/
theorem algebraic : Cert.algebraic_Kernel4Ideal_Reference4Ideal := by
  intro m ρ m' ρ' _ hagree
  have e : ∀ c, ref0 m' c = arr0 m c ∧ ref1 m' c = arr1 m c := fun c => by
    obtain ⟨e0, e1, e2, e3, e4, e5⟩ := hagree c
    unfold ref0 ref1
    rw [e0, e1, e2, e3, e4, e5]
    exact ⟨rfl, rfl⟩
  refine ⟨_, _, _, _, _, _, run m ρ, ?_⟩
  refine (θ_run Cert.Reference4Ideal.defs _ _).mono (fun r h c => ?_) (Cert.Reference4Ideal.Value.run (F := Ideal) m' ρ')
  obtain ⟨r0, r1, r2, r3, r4, r5, rest⟩ := h c
  obtain ⟨e0, e1⟩ := e c
  refine ⟨r0.trans (Eq.trans (rows0 m' c 0 _ (by decide)) ?_), r1.trans (Eq.trans (rows0 m' c 1024 _ (by decide)) ?_),
    r2.trans (Eq.trans (rows1 m' c 0 _ (by decide)) ?_), r3.trans (Eq.trans (rows1 m' c 1024 _ (by decide)) ?_),
    r4.trans (Eq.trans (stacked m' c 1024 _ (by decide)) ?_), r5.trans (Eq.trans (stacked m' c 2048 _ (by decide)) ?_), rest⟩
  · rw [e0]
  · rw [e0]
  · rw [e1]
  · rw [e1]
  · rw [e0, e1]
  · rw [e0, e1]

end Cert.Proj.Qkv
-- ==== Proof.Proj.Gdn.lean ====
/- The gated delta rule's input projection over extended reals: what a tile of 512 rows computes and what the run leaves. -/
module

public import proofs.«01_k».proof.Proof.Proj.Math
public import proofs.«01_k».proof.Proof.Gen.Kernel5Ideal.Frame
public import Idealize.ShloMosaic.Lib.StableHlo.ReadAt
public import Idealize.ShloMosaic.Lib.Claim
public import Idealize.ShloMosaic.Lib.Pointwise
public import Idealize.ShloMosaic.Lib.Pipeline.ValueKit

@[expose] public section
set_option maxRecDepth 16384
noncomputable section
namespace Cert.Proj.Gdn

open Idealize.ShloMosaic Idealize.ShloMosaic.TcCoe Idealize.ShloMosaic.Tactic Idealize.SL.Sem
open Cert.Kernel5Ideal Cert.Kernel5Ideal.Gen Cert.Ffn

section Tile

variable (x0 : FVec Ideal S512x1024 .f32) (x1 : FVec Ideal S1x1024 .f32) (x2 : FVec Ideal S1024x4224 .bf16)

/-- The tile's normalized rows. -/
theorem norm_apply (r : Fin 512) (z : Fin 1024) :
    k0_pay1 (F := Ideal) x0 x1 (ix2 r z) = rms (fun k => x0 (ix2 r k)) (fun k => x1 (ix2 0 k)) z := by
  unfold k0_pay1 rms
  pointwise

/-- The 3072 columns from 0 on, of a tile's rows. -/
theorem out3_apply (r : Fin 512) (z : Fin 3072) :
    out0_3 (F := Ideal) x0 x1 x2 (ix2 r z) = ∑ k, rms (fun k => x0 (ix2 r k)) (fun k => x1 (ix2 0 k)) k * x2 (ix2 k ⟨0 + z.val, by omega⟩) := by
  have e (w : FVec Ideal S1024x3072 .bf16) : k0_pay2 (F := Ideal) x0 x1 w (ix2 r z) = ∑ k, k0_pay1 (F := Ideal) x0 x1 (ix2 r k) * w (ix2 k z) := by
    unfold k0_pay2
    generalize k0_pay1 (F := Ideal) x0 x1 = h
    pointwise
  unfold out0_3
  rw [View.canon_unit_zero (by decide), View.ld_unit_zero (by decide), View.ld_unit_zero (by decide), e]
  refine Finset.sum_congr rfl fun k _ => ?_
  rw [norm_apply]
  exact congrArg _ (ld_col (N := 4224) (n := 3072) (o := 0) (e := .bf16) x2 inb_S1024x4224_S1024x3072_0_0 (by decide) k z)

/-- The 1024 columns from 3072 on, of a tile's rows. -/
theorem out4_apply (r : Fin 512) (z : Fin 1024) :
    out0_4 (F := Ideal) x0 x1 x2 (ix2 r z) = ∑ k, rms (fun k => x0 (ix2 r k)) (fun k => x1 (ix2 0 k)) k * x2 (ix2 k ⟨3072 + z.val, by omega⟩) := by
  have e (w : FVec Ideal S1024x1024 .bf16) : k0_pay3 (F := Ideal) x0 x1 w (ix2 r z) = ∑ k, k0_pay1 (F := Ideal) x0 x1 (ix2 r k) * w (ix2 k z) := by
    unfold k0_pay3
    generalize k0_pay1 (F := Ideal) x0 x1 = h
    pointwise
  unfold out0_4
  rw [View.canon_unit_zero (by decide), View.ld_unit_zero (by decide), View.ld_unit_zero (by decide), e]
  refine Finset.sum_congr rfl fun k _ => ?_
  rw [norm_apply]
  exact congrArg _ (ld_col (N := 4224) (n := 1024) (o := 3072) (e := .bf16) x2 inb_S1024x4224_S1024x1024_0_3072 (by decide) k z)

/-- The 128 columns from 4096 on, of a tile's rows. -/
theorem out5_apply (r : Fin 512) (z : Fin 128) :
    out0_5 (F := Ideal) x0 x1 x2 (ix2 r z) = ∑ k, rms (fun k => x0 (ix2 r k)) (fun k => x1 (ix2 0 k)) k * x2 (ix2 k ⟨4096 + z.val, by omega⟩) := by
  have e (w : FVec Ideal S1024x128 .bf16) : k0_pay4 (F := Ideal) x0 x1 w (ix2 r z) = ∑ k, k0_pay1 (F := Ideal) x0 x1 (ix2 r k) * w (ix2 k z) := by
    unfold k0_pay4
    generalize k0_pay1 (F := Ideal) x0 x1 = h
    pointwise
  unfold out0_5
  rw [View.canon_unit_zero (by decide), View.ld_unit_zero (by decide), View.ld_unit_zero (by decide), e]
  refine Finset.sum_congr rfl fun k _ => ?_
  rw [norm_apply]
  exact congrArg _ (ld_col (N := 4224) (n := 128) (o := 4096) (e := .bf16) x2 inb_S1024x4224_S1024x128_0_4096 (by decide) k z)

end Tile

variable (m : (ℓ : Loc nD τ sig) → Buf (Elt Ideal) ℓ) (c : Dev nD)

/-- The arguments as device `c` holds them. -/
def arr : Arr 4112 where
  x b t z := (m ((c : Thread nD τ).loc main_arg0) : S8x2048x1024.Idx → EReal) (ix3 b t z)
  g z := (m ((c : Thread nD τ).loc main_arg1) : S1024.Idx → EReal) (ix1 z)
  w k z := (m ((c : Thread nD τ).loc main_arg2) : S1024x4112.Idx → EReal) (ix2 k z)

/-- The same with the padded weight. -/
def pad : Arr 4224 where
  x := (arr m c).x
  g := (arr m c).g
  w k z := (V m c main_v2 : S1024x4224.Idx → EReal) (ix2 k z)

/-- The padding changes no column of the weight. -/
theorem V_w (k : Fin 1024) (z : Fin 4112) : (pad m c).w k ⟨z.val, by omega⟩ = (arr m c).w k z := by
  unfold pad arr V
  after_reads_at

/-- Nor of the product. -/
theorem pad_p (b : Fin 8) (t : Fin 2048) (z : Fin 4112) : (pad m c).p b t ⟨z.val, by omega⟩ = (arr m c).p b t z := by
  unfold Arr.p
  simp only [V_w]
  rfl

/-- The activations' rows, all batches in one. -/
theorem V_x (b : Fin 8) (t : Fin 2048) (z : Fin 1024) : (V m c main_v0 : S16384x1024.Idx → EReal) (ix2 ⟨2048 * b.val + t.val, by omega⟩ z) = (arr m c).x b t z := by
  unfold V arr
  after_reads_at

/-- The gain as a row. -/
theorem V_g (z : Fin 1024) : (V m c main_v3 : S1x1024.Idx → EReal) (ix2 0 z) = (arr m c).g z := by
  unfold V arr
  after_reads_at

/-- The windows' block indices, by the point. -/
theorem idx_tok : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] := by decide +kernel

/-- The grid's points number 32. -/
theorem lt32 (t : Fin cfg0.N) : t.val < 32 := lt_of_lt_of_eq t.isLt N_0

/-- The blocks a point reads. -/
abbrev in0 (t : Fin cfg0.N) : S512x1024.Idx → EReal := iblk m c 0 t
@[inherit_doc in0] abbrev in1 (t : Fin cfg0.N) : S1x1024.Idx → EReal := iblk m c 1 t
@[inherit_doc in0] abbrev in2 (t : Fin cfg0.N) : S1024x4224.Idx → EReal := iblk m c 2 t

/-- A point's activations. -/
theorem blk_x (t : Fin cfg0.N) (r : Fin 512) (z : Fin 1024) :
    in0 m c t (ix2 r z) = (arr m c).x ⟨t.val / 4, by have := lt32 t; omega⟩ ⟨512 * (t.val % 4) + r.val, by omega⟩ z := by
  have := lt32 t
  refine Eq.trans ?_ (V_x m c _ _ z)
  blk_ext [iblk, (idx_tok t).1]

/-- A point's gain. -/
theorem blk_g (t : Fin cfg0.N) (z : Fin 1024) : in1 m c t (ix2 0 z) = (arr m c).g z := by
  refine Eq.trans ?_ (V_g m c z)
  blk_ext [iblk, (idx_tok t).2.1]

/-- A point's weight. -/
theorem blk_w (t : Fin cfg0.N) (k : Fin 1024) (z : Fin 4224) : in2 m c t (ix2 k z) = (pad m c).w k z := by
  unfold pad
  blk_ext [iblk, (idx_tok t).2.2.1]

/-- A tile's product is the formula's. -/
theorem tile_row (t : Fin cfg0.N) (r : Fin 512) (z : Fin 4224) :
    (∑ k, rms (fun k => in0 m c t (ix2 r k)) (fun k => in1 m c t (ix2 0 k)) k * in2 m c t (ix2 k z))
      = (pad m c).p ⟨t.val / 4, by have := lt32 t; omega⟩ ⟨512 * (t.val % 4) + r.val, by omega⟩ z := by
  simp only [blk_x, blk_g, blk_w]
  rfl

/-- The array of the 3072 columns from 0 on, after the run. -/
theorem arr3 : (dats m 0 c).arrAt 3 (cfgs 0).N = fun i : S16384x3072.Idx =>
    (pad m c).p ⟨(i 0).val / 2048, by have h := (i 0).isLt; change _ < 16384 at h; omega⟩ ⟨(i 0).val % 2048, Nat.mod_lt _ (by decide)⟩
      ⟨0 + (i 1).val, by have h := (i 1).isLt; change _ < 3072 at h; omega⟩ := by
  refine (dats m 0 c).arrAt_eq_of_covers 3 _ (by decide +kernel) fun t hf y => ?_
  blk_simp
  rw [after0_3]
  have := lt32 t
  have y0 : (y 0).val < 512 := (y 0).isLt
  have hy : y = (ix2 (y 0) (y 1) : S512x3072.Idx) := by
    funext a
    fin_cases a <;> rfl
  have e0 : win0_3.index t 0 * 512 + (y 0).val = 512 * t.val + (y 0).val := by rw [(idx_tok t).2.2.2.1]; simp; omega
  refine (congrArg _ hy).trans ((out3_apply (in0 m c t) (in1 m c t) (in2 m c t) (y 0) (y 1)).trans ((tile_row m c t _ _).trans ?_))
  congr 1
  · exact Fin.ext (by show t.val / 4 = (win0_3.index t 0 * 512 + (y 0).val) / 2048; rw [e0]; omega)
  · exact Fin.ext (by show 512 * (t.val % 4) + (y 0).val = (win0_3.index t 0 * 512 + (y 0).val) % 2048; rw [e0]; omega)

/-- The array of the 1024 columns from 3072 on, after the run. -/
theorem arr4 : (dats m 0 c).arrAt 4 (cfgs 0).N = fun i : S16384x1024.Idx =>
    (pad m c).p ⟨(i 0).val / 2048, by have h := (i 0).isLt; change _ < 16384 at h; omega⟩ ⟨(i 0).val % 2048, Nat.mod_lt _ (by decide)⟩
      ⟨3072 + (i 1).val, by have h := (i 1).isLt; change _ < 1024 at h; omega⟩ := by
  refine (dats m 0 c).arrAt_eq_of_covers 4 _ (by decide +kernel) fun t hf y => ?_
  blk_simp
  rw [after0_4]
  have := lt32 t
  have y0 : (y 0).val < 512 := (y 0).isLt
  have hy : y = (ix2 (y 0) (y 1) : S512x1024.Idx) := by
    funext a
    fin_cases a <;> rfl
  have e0 : win0_4.index t 0 * 512 + (y 0).val = 512 * t.val + (y 0).val := by rw [(idx_tok t).2.2.2.2.1]; simp; omega
  have e1 : win0_4.index t 1 * 1024 + (y 1).val = (y 1).val := by rw [(idx_tok t).2.2.2.2.1]; simp
  refine (congrArg _ hy).trans ((out4_apply (in0 m c t) (in1 m c t) (in2 m c t) (y 0) (y 1)).trans ((tile_row m c t _ _).trans ?_))
  congr 1
  · exact Fin.ext (by show t.val / 4 = (win0_4.index t 0 * 512 + (y 0).val) / 2048; rw [e0]; omega)
  · exact Fin.ext (by show 512 * (t.val % 4) + (y 0).val = (win0_4.index t 0 * 512 + (y 0).val) % 2048; rw [e0]; omega)
  · exact Fin.ext (by show 3072 + (y 1).val = 3072 + (win0_4.index t 1 * 1024 + (y 1).val); rw [e1])

/-- The array of the 128 columns from 4096 on, after the run. -/
theorem arr5 : (dats m 0 c).arrAt 5 (cfgs 0).N = fun i : S16384x128.Idx =>
    (pad m c).p ⟨(i 0).val / 2048, by have h := (i 0).isLt; change _ < 16384 at h; omega⟩ ⟨(i 0).val % 2048, Nat.mod_lt _ (by decide)⟩
      ⟨4096 + (i 1).val, by have h := (i 1).isLt; change _ < 128 at h; omega⟩ := by
  refine (dats m 0 c).arrAt_eq_of_covers 5 _ (by decide +kernel) fun t hf y => ?_
  blk_simp
  rw [after0_5]
  have := lt32 t
  have y0 : (y 0).val < 512 := (y 0).isLt
  have hy : y = (ix2 (y 0) (y 1) : S512x128.Idx) := by
    funext a
    fin_cases a <;> rfl
  have e0 : win0_5.index t 0 * 512 + (y 0).val = 512 * t.val + (y 0).val := by rw [(idx_tok t).2.2.2.2.2]; simp; omega
  have e1 : win0_5.index t 1 * 128 + (y 1).val = (y 1).val := by rw [(idx_tok t).2.2.2.2.2]; simp
  refine (congrArg _ hy).trans ((out5_apply (in0 m c t) (in1 m c t) (in2 m c t) (y 0) (y 1)).trans ((tile_row m c t _ _).trans ?_))
  congr 1
  · exact Fin.ext (by show t.val / 4 = (win0_5.index t 0 * 512 + (y 0).val) / 2048; rw [e0]; omega)
  · exact Fin.ext (by show 512 * (t.val % 4) + (y 0).val = (win0_5.index t 0 * 512 + (y 0).val) % 2048; rw [e0]; omega)
  · exact Fin.ext (by show 4096 + (y 1).val = 4096 + (win0_5.index t 1 * 128 + (y 1).val); rw [e1])

/-- No two windows share an array. -/
theorem arrRef_inj : Function.Injective (Pipeline.arrRef (cfgs 0).spec) := by decide +kernel

/-- The convolution's input, after the lines that follow the region. -/
theorem end_main_v5 : (Pipeline.afterTail₀ cfgs (dats m) 0 (V0 m) [hostOps1] c main_v5 : S8x2048x3072.Idx → EReal)
    = fun i => (arr m c).p (i 0) (i 1) ⟨0 + (i 2).val, by have h := (i 2).isLt; change _ < 3072 at h; omega⟩ := by
  funext i
  unfold Pipeline.afterTail₀
  after_reads_at
  have i1 : (i 1).val < 2048 := (i 1).isLt
  have i2 : (i 2).val < 3072 := (i 2).isLt
  refine (congrFun ((Pipeline.withArrays_arr (cfgs 0).spec arrRef_inj c (V0 m c) (fun w => (dats m 0 c).arrAt w (cfgs 0).N) 3).trans (arr3 m c)) _).trans ?_
  refine Eq.trans ?_ (pad_p m c _ _ _)
  congr 1
  · exact Fin.ext (by show ((i 0).val * 2048 + ((i 1).val)) / 2048 = (i 0).val; omega)
  · exact Fin.ext (by show ((i 0).val * 2048 + ((i 1).val)) % 2048 = (i 1).val; omega)
  · exact Fin.ext (Nat.zero_add _)

/-- The output gate's columns, after the lines that follow the region. -/
theorem end_main_v6 : (Pipeline.afterTail₀ cfgs (dats m) 0 (V0 m) [hostOps1] c main_v6 : S8x2048x1024.Idx → EReal)
    = fun i => (arr m c).p (i 0) (i 1) ⟨3072 + (i 2).val, by have h := (i 2).isLt; change _ < 1024 at h; omega⟩ := by
  funext i
  unfold Pipeline.afterTail₀
  after_reads_at
  have i1 : (i 1).val < 2048 := (i 1).isLt
  have i2 : (i 2).val < 1024 := (i 2).isLt
  refine (congrFun ((Pipeline.withArrays_arr (cfgs 0).spec arrRef_inj c (V0 m c) (fun w => (dats m 0 c).arrAt w (cfgs 0).N) 4).trans (arr4 m c)) _).trans ?_
  refine Eq.trans ?_ (pad_p m c _ _ _)
  congr 1
  · exact Fin.ext (by show ((i 0).val * 2048 + ((i 1).val)) / 2048 = (i 0).val; omega)
  · exact Fin.ext (by show ((i 0).val * 2048 + ((i 1).val)) % 2048 = (i 1).val; omega)

/-- The columns of β and the decay, after the lines that follow the region. -/
theorem end_main_v9 : (Pipeline.afterTail₀ cfgs (dats m) 0 (V0 m) [hostOps1] c main_v9 : S8x2048x16.Idx → EReal)
    = fun i => (arr m c).p (i 0) (i 1) ⟨4096 + (i 2).val, by have h := (i 2).isLt; change _ < 16 at h; omega⟩ := by
  funext i
  unfold Pipeline.afterTail₀
  after_reads_at
  have i1 : (i 1).val < 2048 := (i 1).isLt
  have i2 : (i 2).val < 16 := (i 2).isLt
  refine (congrFun ((Pipeline.withArrays_arr (cfgs 0).spec arrRef_inj c (V0 m c) (fun w => (dats m 0 c).arrAt w (cfgs 0).N) 5).trans (arr5 m c)) _).trans ?_
  refine Eq.trans ?_ (pad_p m c _ _ _)
  congr 1
  · exact Fin.ext (by show ((i 0).val * 2048 + ((i 1).val)) / 2048 = (i 0).val; omega)
  · exact Fin.ext (by show ((i 0).val * 2048 + ((i 1).val)) % 2048 = (i 1).val; omega)

/-- The last three rows of the convolution's input, after the lines that follow the region. -/
theorem end_main_v8 : (Pipeline.afterTail₀ cfgs (dats m) 0 (V0 m) [hostOps1] c main_v8 : S8x3x3072.Idx → EReal)
    = fun i => (arr m c).p (i 0) ⟨2045 + (i 1).val, by have h := (i 1).isLt; change _ < 3 at h; omega⟩ ⟨0 + (i 2).val, by have h := (i 2).isLt; change _ < 3072 at h; omega⟩ := by
  funext i
  unfold Pipeline.afterTail₀
  after_reads_at
  have i1 : (i 1).val < 3 := (i 1).isLt
  have i2 : (i 2).val < 3072 := (i 2).isLt
  refine (congrFun ((Pipeline.withArrays_arr (cfgs 0).spec arrRef_inj c (V0 m c) (fun w => (dats m 0 c).arrAt w (cfgs 0).N) 3).trans (arr3 m c)) _).trans ?_
  refine Eq.trans ?_ (pad_p m c _ _ _)
  congr 1
  · exact Fin.ext (by show ((i 0).val * 2048 + (2045 + (i 1).val)) / 2048 = (i 0).val; omega)
  · exact Fin.ext (by show ((i 0).val * 2048 + (2045 + (i 1).val)) % 2048 = 2045 + (i 1).val; omega)
  · exact Fin.ext (Nat.zero_add _)

/-- The run ends with the results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v5) = (fun i : S8x2048x3072.Idx => (arr m c).p (i 0) (i 1) ⟨0 + (i 2).val, by have h := (i 2).isLt; change _ < 3072 at h; omega⟩)
      ∧ r.2.mem ((c.tc : Thread nD τ).loc main_v6) = (fun i : S8x2048x1024.Idx => (arr m c).p (i 0) (i 1) ⟨3072 + (i 2).val, by have h := (i 2).isLt; change _ < 1024 at h; omega⟩)
      ∧ r.2.mem ((c.tc : Thread nD τ).loc main_v9) = (fun i : S8x2048x16.Idx => (arr m c).p (i 0) (i 1) ⟨4096 + (i 2).val, by have h := (i 2).isLt; change _ < 16 at h; omega⟩)
      ∧ r.2.mem ((c.tc : Thread nD τ).loc main_v8) = (fun i : S8x3x3072.Idx => (arr m c).p (i 0) ⟨2045 + (i 1).val, by have h := (i 1).isLt; change _ < 3 at h; omega⟩ ⟨0 + (i 2).val, by have h := (i 2).isLt; change _ < 3072 at h; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v5 (Pipeline.mem_restRefs_of main_v5 (by decide) (by decide))).trans (end_main_v5 m c),
    ((h.1 c).2 main_v6 (Pipeline.mem_restRefs_of main_v6 (by decide) (by decide))).trans (end_main_v6 m c),
    ((h.1 c).2 main_v9 (Pipeline.mem_restRefs_of main_v9 (by decide) (by decide))).trans (end_main_v9 m c),
    ((h.1 c).2 main_v8 (Pipeline.mem_restRefs_of main_v8 (by decide) (by decide))).trans (end_main_v8 m c), h.2 c⟩)
    (θ_run_and (run_main m ρ) (unchanged m ρ))

end Cert.Proj.Gdn
-- ==== Proof.Proj.GdnClaim.lean ====
/- The gated delta rule's input projection: the two programs' results are one function of the arguments. -/
module

public import proofs.«01_k».proof.Proof.Proj.Gdn
public import proofs.«01_k».proof.Proof.Proj.Ref
public import proofs.«01_k».proof.Proof.Gen.Reference5Ideal.Run
public import proofs.«01_k».proof.Defs
public import proofs.«01_k».proof.Proof.Gen.Kernel5.Frame

@[expose] public section
set_option maxRecDepth 16384
noncomputable section
namespace Cert.Proj.Gdn

open Idealize.ShloMosaic Idealize.ShloMosaic.TcCoe Idealize.ShloMosaic.Tactic Idealize.SL.Sem

section Reference

open Cert.Reference5Ideal Cert.Reference5Ideal.Gen Cert.Reference5Ideal.Value

/-- The reference's projected rows. -/
def prod {F : FTy → Type} [FloatOps F] (x : FVec F S8x2048x1024 .f32) (g : FVec F S1024 .f32) (w : FVec F S1024x4112 .f32) : FVec F S8x2048x4112 .f32 :=
  Host.dotGeneral dot_S8x2048x1024_S1024x4112_S8x2048x4112_2_0_01_1_n_n none (Cert.Ffn.Ref.norm x g) w

variable (m : (ℓ : Loc nD τ sig) → Buf (Elt Ideal) ℓ) (c : Dev nD)

/-- The arguments the reference starts with. -/
def refArr : Arr 4112 := Arr.of (m ((c.tc : Thread nD τ).loc main_arg0)) (m ((c.tc : Thread nD τ).loc main_arg1)) (m ((c.tc : Thread nD τ).loc main_arg2))

/-- The projected rows of the reference's arguments. -/
def refProd : S8x2048x4112.Idx → EReal := prod (F := Ideal) (m ((c.tc : Thread nD τ).loc main_arg0)) (m ((c.tc : Thread nD τ).loc main_arg1)) (m ((c.tc : Thread nD τ).loc main_arg2))

/-- Its rows are the formula's. -/
theorem prod_row (b : Fin 8) (t : Fin 2048) (z : Fin 4112) : refProd m c (ix3 b t z) = (refArr m c).p b t z := by
  refine norm_row _ _ _ _ b t z ?_
  unfold refProd prod
  generalize Cert.Ffn.Ref.norm (F := Ideal) (m ((c.tc : Thread nD τ).loc main_arg0)) (m ((c.tc : Thread nD τ).loc main_arg1)) = h
  pointwise

/-- The convolution's next state as the reference makes it. -/
def convNew {F : FTy → Type} [FloatOps F] (y : FVec F S8x2048x4112 .f32) : FVec F S8x3x3072 .f32 :=
  extractStridedSlice S8x3x3072 ![0, 2048, 0] (concatenate S8x2051x3072 1 [⟨S8x3x3072, broadcastInDim S8x3x3072 ![] bcast_S_S8x3x3072 (constant S_ .f32 0x00000000#32)⟩,
    ⟨S8x2048x3072, extractStridedSlice S8x2048x3072 ![0, 0, 0] y slices_S8x2048x4112_S8x2048x3072_0_0_0⟩] concatenates_S8x3x3072_S8x2048x3072_S8x2051x3072_d1)
    slices_S8x2051x3072_S8x3x3072_0_2048_0

/-- It's the last three rows. -/
theorem convNew_apply (y : FVec Ideal S8x2048x4112 .f32) (b : Fin 8) (q : Fin 3) (z : Fin 3072) :
    convNew (F := Ideal) y (ix3 b q z) = y (ix3 b ⟨2045 + q.val, by omega⟩ ⟨0 + z.val, by omega⟩) := by
  unfold convNew
  pointwise
  rw [dif_neg (by omega)]
  exact congrArg (fun s => y (ix3 b s ⟨z.val, by omega⟩)) (Fin.ext (by show 2048 + q.val - 3 = 2045 + q.val; omega))

/-- The convolution's next state is the formula's last three rows. -/
theorem ref_conv : convNew (F := Ideal) (refProd m c) = fun i : S8x3x3072.Idx => (refArr m c).p (i 0) ⟨2045 + (i 1).val, by have h := (i 1).isLt; change _ < 3 at h; omega⟩ ⟨0 + (i 2).val, by have h := (i 2).isLt; change _ < 3072 at h; omega⟩ := by
  funext i
  obtain ⟨b, q, z, rfl⟩ := idx_ix3 i
  exact (convNew_apply _ b q z).trans (prod_row m c b _ _)

end Reference

/-- The reference's run ends quiet, its arguments unchanged. -/
theorem frame_ref : Cert.quiescent_Reference5Ideal := fun m ρ _ =>
  (θ_run Cert.Reference5Ideal.defs _ _).mono (fun r h => ⟨fun c => (h c).2.2.2.2, Idealize.ShloMosaic.sem_eq_zero_of_no_sems (by decide) r.2⟩) (Cert.Reference5Ideal.Value.run (F := Ideal) m ρ)

/-- The kernel's results are the reference's. -/
theorem algebraic : Cert.algebraic_Kernel5Ideal_Reference5Ideal := by
  intro m ρ m' ρ' _ hagree
  have e : ∀ c, refArr m' c = arr m c := fun c => by
    obtain ⟨e0, e1, e2⟩ := hagree c
    unfold refArr
    rw [e0, e1, e2]
    rfl
  refine ⟨_, _, _, _, run m ρ, ?_⟩
  refine (θ_run Cert.Reference5Ideal.defs _ _).mono (fun r h c => ?_) (Cert.Reference5Ideal.Value.run (F := Ideal) m' ρ')
  obtain ⟨r1, r2, r3, r4, rest⟩ := h c
  refine ⟨r1.trans (Eq.trans (cols_fun (n := 3072) (o := 0) (refArr m' c) (refProd m' c) (prod_row m' c) _ (by decide)) ?_), r2.trans (Eq.trans (cols_fun (n := 1024) (o := 3072) (refArr m' c) (refProd m' c) (prod_row m' c) _ (by decide)) ?_), r3.trans (Eq.trans (cols_fun (n := 16) (o := 4096) (refArr m' c) (refProd m' c) (prod_row m' c) _ (by decide)) ?_), r4.trans (Eq.trans (ref_conv m' c) ?_), rest⟩ <;> rw [e c]

end Cert.Proj.Gdn
-- ==== Proof.Proj.Gla.lean ====
/- The gated linear attention's input projection over extended reals: what a tile of 512 rows computes and what the run leaves. -/
module

public import proofs.«01_k».proof.Proof.Proj.Math
public import proofs.«01_k».proof.Proof.Gen.Kernel6Ideal.Frame
public import Idealize.ShloMosaic.Lib.StableHlo.ReadAt
public import Idealize.ShloMosaic.Lib.Claim
public import Idealize.ShloMosaic.Lib.Pointwise
public import Idealize.ShloMosaic.Lib.Pipeline.ValueKit

@[expose] public section
set_option maxRecDepth 16384
noncomputable section
namespace Cert.Proj.Gla

open Idealize.ShloMosaic Idealize.ShloMosaic.TcCoe Idealize.ShloMosaic.Tactic Idealize.SL.Sem
open Cert.Kernel6Ideal Cert.Kernel6Ideal.Gen Cert.Ffn

section Tile

variable (x0 : FVec Ideal S512x1024 .f32) (x1 : FVec Ideal S1x1024 .f32) (x2 : FVec Ideal S1024x3200 .bf16)

/-- The tile's normalized rows. -/
theorem norm_apply (r : Fin 512) (z : Fin 1024) :
    k0_pay3 (F := Ideal) x0 x1 (ix2 r z) = rms (fun k => x0 (ix2 r k)) (fun k => x1 (ix2 0 k)) z := by
  unfold k0_pay3 rms
  pointwise

/-- The 512 columns from 0 on, of a tile's rows. -/
theorem out3_apply (r : Fin 512) (z : Fin 512) :
    out0_3 (F := Ideal) x0 x1 x2 (ix2 r z) = ∑ k, rms (fun k => x0 (ix2 r k)) (fun k => x1 (ix2 0 k)) k * x2 (ix2 k ⟨0 + z.val, by omega⟩) := by
  have e (w : FVec Ideal S1024x512 .bf16) : k0_pay4 (F := Ideal) x0 x1 w (ix2 r z) = ∑ k, k0_pay3 (F := Ideal) x0 x1 (ix2 r k) * w (ix2 k z) := by
    unfold k0_pay4
    generalize k0_pay3 (F := Ideal) x0 x1 = h
    pointwise
  unfold out0_3
  rw [View.canon_unit_zero (by decide), View.ld_unit_zero (by decide), View.ld_unit_zero (by decide), e]
  refine Finset.sum_congr rfl fun k _ => ?_
  rw [norm_apply]
  exact congrArg _ (ld_col (N := 3200) (n := 512) (o := 0) (e := .bf16) x2 inb_S1024x3200_S1024x512_0_0 (by decide) k z)

/-- The 512 columns from 512 on, of a tile's rows. -/
theorem out4_apply (r : Fin 512) (z : Fin 512) :
    out0_4 (F := Ideal) x0 x1 x2 (ix2 r z) = ∑ k, rms (fun k => x0 (ix2 r k)) (fun k => x1 (ix2 0 k)) k * x2 (ix2 k ⟨512 + z.val, by omega⟩) := by
  have e (w : FVec Ideal S1024x512 .bf16) : k0_pay5 (F := Ideal) x0 x1 w (ix2 r z) = ∑ k, k0_pay3 (F := Ideal) x0 x1 (ix2 r k) * w (ix2 k z) := by
    unfold k0_pay5
    generalize k0_pay3 (F := Ideal) x0 x1 = h
    pointwise
  unfold out0_4
  rw [View.canon_unit_zero (by decide), View.ld_unit_zero (by decide), View.ld_unit_zero (by decide), e]
  refine Finset.sum_congr rfl fun k _ => ?_
  rw [norm_apply]
  exact congrArg _ (ld_col (N := 3200) (n := 512) (o := 512) (e := .bf16) x2 inb_S1024x3200_S1024x512_0_512 (by decide) k z)

/-- The 1024 columns from 1024 on, of a tile's rows. -/
theorem out5_apply (r : Fin 512) (z : Fin 1024) :
    out0_5 (F := Ideal) x0 x1 x2 (ix2 r z) = ∑ k, rms (fun k => x0 (ix2 r k)) (fun k => x1 (ix2 0 k)) k * x2 (ix2 k ⟨1024 + z.val, by omega⟩) := by
  have e (w : FVec Ideal S1024x1024 .bf16) : k0_pay6 (F := Ideal) x0 x1 w (ix2 r z) = ∑ k, k0_pay3 (F := Ideal) x0 x1 (ix2 r k) * w (ix2 k z) := by
    unfold k0_pay6
    generalize k0_pay3 (F := Ideal) x0 x1 = h
    pointwise
  unfold out0_5
  rw [View.canon_unit_zero (by decide), View.ld_unit_zero (by decide), View.ld_unit_zero (by decide), e]
  refine Finset.sum_congr rfl fun k _ => ?_
  rw [norm_apply]
  exact congrArg _ (ld_col (N := 3200) (n := 1024) (o := 1024) (e := .bf16) x2 inb_S1024x3200_S1024x1024_0_1024 (by decide) k z)

/-- The 1024 columns from 2048 on, of a tile's rows. -/
theorem out6_apply (r : Fin 512) (z : Fin 1024) :
    out0_6 (F := Ideal) x0 x1 x2 (ix2 r z) = ∑ k, rms (fun k => x0 (ix2 r k)) (fun k => x1 (ix2 0 k)) k * x2 (ix2 k ⟨2048 + z.val, by omega⟩) := by
  have e (w : FVec Ideal S1024x1024 .bf16) : k0_pay1 (F := Ideal) (k0_pay3 (F := Ideal) x0 x1) (k0_pay7 w) (constant S512x1024 .f32 0x00000000#32) (ix2 r z) = ∑ k, k0_pay3 (F := Ideal) x0 x1 (ix2 r k) * w (ix2 k z) := by
    unfold k0_pay1 k0_pay7
    generalize k0_pay3 (F := Ideal) x0 x1 = h
    pointwise
  unfold out0_6 k0_pay8
  rw [View.canon_unit_zero (by decide), View.ld_unit_zero (by decide), View.ld_unit_zero (by decide), e]
  refine Finset.sum_congr rfl fun k _ => ?_
  rw [norm_apply]
  exact congrArg _ (ld_col (N := 3200) (n := 1024) (o := 2048) (e := .bf16) x2 inb_S1024x3200_S1024x1024_0_2048 (by decide) k z)

/-- The 128 columns from 3072 on, of a tile's rows. -/
theorem out7_apply (r : Fin 512) (z : Fin 128) :
    out0_7 (F := Ideal) x0 x1 x2 (ix2 r z) = ∑ k, rms (fun k => x0 (ix2 r k)) (fun k => x1 (ix2 0 k)) k * x2 (ix2 k ⟨3072 + z.val, by omega⟩) := by
  have e (w : FVec Ideal S1024x128 .bf16) : k0_pay2 (F := Ideal) (k0_pay3 (F := Ideal) x0 x1) w (ix2 r z) = ∑ k, k0_pay3 (F := Ideal) x0 x1 (ix2 r k) * w (ix2 k z) := by
    unfold k0_pay2
    generalize k0_pay3 (F := Ideal) x0 x1 = h
    pointwise
  unfold out0_7 k0_pay8
  rw [View.canon_unit_zero (by decide), View.ld_unit_zero (by decide), View.ld_unit_zero (by decide), e]
  refine Finset.sum_congr rfl fun k _ => ?_
  rw [norm_apply]
  exact congrArg _ (ld_col (N := 3200) (n := 128) (o := 3072) (e := .bf16) x2 inb_S1024x3200_S1024x128_0_3072 (by decide) k z)

end Tile

variable (m : (ℓ : Loc nD τ sig) → Buf (Elt Ideal) ℓ) (c : Dev nD)

/-- The arguments as device `c` holds them. -/
def arr : Arr 3088 where
  x b t z := (m ((c : Thread nD τ).loc main_arg0) : S8x2048x1024.Idx → EReal) (ix3 b t z)
  g z := (m ((c : Thread nD τ).loc main_arg1) : S1024.Idx → EReal) (ix1 z)
  w k z := (m ((c : Thread nD τ).loc main_arg2) : S1024x3088.Idx → EReal) (ix2 k z)

/-- The same with the padded weight. -/
def pad : Arr 3200 where
  x := (arr m c).x
  g := (arr m c).g
  w k z := (V m c main_v2 : S1024x3200.Idx → EReal) (ix2 k z)

/-- The padding changes no column of the weight. -/
theorem V_w (k : Fin 1024) (z : Fin 3088) : (pad m c).w k ⟨z.val, by omega⟩ = (arr m c).w k z := by
  unfold pad arr V
  after_reads_at

/-- Nor of the product. -/
theorem pad_p (b : Fin 8) (t : Fin 2048) (z : Fin 3088) : (pad m c).p b t ⟨z.val, by omega⟩ = (arr m c).p b t z := by
  unfold Arr.p
  simp only [V_w]
  rfl

/-- The activations' rows, all batches in one. -/
theorem V_x (b : Fin 8) (t : Fin 2048) (z : Fin 1024) : (V m c main_v0 : S16384x1024.Idx → EReal) (ix2 ⟨2048 * b.val + t.val, by omega⟩ z) = (arr m c).x b t z := by
  unfold V arr
  after_reads_at

/-- The gain as a row. -/
theorem V_g (z : Fin 1024) : (V m c main_v3 : S1x1024.Idx → EReal) (ix2 0 z) = (arr m c).g z := by
  unfold V arr
  after_reads_at

/-- The windows' block indices, by the point. -/
theorem idx_tok : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] := by decide +kernel

/-- The grid's points number 32. -/
theorem lt32 (t : Fin cfg0.N) : t.val < 32 := lt_of_lt_of_eq t.isLt N_0

/-- The blocks a point reads. -/
abbrev in0 (t : Fin cfg0.N) : S512x1024.Idx → EReal := iblk m c 0 t
@[inherit_doc in0] abbrev in1 (t : Fin cfg0.N) : S1x1024.Idx → EReal := iblk m c 1 t
@[inherit_doc in0] abbrev in2 (t : Fin cfg0.N) : S1024x3200.Idx → EReal := iblk m c 2 t

/-- A point's activations. -/
theorem blk_x (t : Fin cfg0.N) (r : Fin 512) (z : Fin 1024) :
    in0 m c t (ix2 r z) = (arr m c).x ⟨t.val / 4, by have := lt32 t; omega⟩ ⟨512 * (t.val % 4) + r.val, by omega⟩ z := by
  have := lt32 t
  refine Eq.trans ?_ (V_x m c _ _ z)
  blk_ext [iblk, (idx_tok t).1]

/-- A point's gain. -/
theorem blk_g (t : Fin cfg0.N) (z : Fin 1024) : in1 m c t (ix2 0 z) = (arr m c).g z := by
  refine Eq.trans ?_ (V_g m c z)
  blk_ext [iblk, (idx_tok t).2.1]

/-- A point's weight. -/
theorem blk_w (t : Fin cfg0.N) (k : Fin 1024) (z : Fin 3200) : in2 m c t (ix2 k z) = (pad m c).w k z := by
  unfold pad
  blk_ext [iblk, (idx_tok t).2.2.1]

/-- A tile's product is the formula's. -/
theorem tile_row (t : Fin cfg0.N) (r : Fin 512) (z : Fin 3200) :
    (∑ k, rms (fun k => in0 m c t (ix2 r k)) (fun k => in1 m c t (ix2 0 k)) k * in2 m c t (ix2 k z))
      = (pad m c).p ⟨t.val / 4, by have := lt32 t; omega⟩ ⟨512 * (t.val % 4) + r.val, by omega⟩ z := by
  simp only [blk_x, blk_g, blk_w]
  rfl

/-- The array of the 512 columns from 0 on, after the run. -/
theorem arr3 : (dats m 0 c).arrAt 3 (cfgs 0).N = fun i : S16384x512.Idx =>
    (pad m c).p ⟨(i 0).val / 2048, by have h := (i 0).isLt; change _ < 16384 at h; omega⟩ ⟨(i 0).val % 2048, Nat.mod_lt _ (by decide)⟩
      ⟨0 + (i 1).val, by have h := (i 1).isLt; change _ < 512 at h; omega⟩ := by
  refine (dats m 0 c).arrAt_eq_of_covers 3 _ (by decide +kernel) fun t hf y => ?_
  blk_simp
  rw [after0_3]
  have := lt32 t
  have y0 : (y 0).val < 512 := (y 0).isLt
  have hy : y = (ix2 (y 0) (y 1) : S512x512.Idx) := by
    funext a
    fin_cases a <;> rfl
  have e0 : win0_3.index t 0 * 512 + (y 0).val = 512 * t.val + (y 0).val := by rw [(idx_tok t).2.2.2.1]; simp; omega
  refine (congrArg _ hy).trans ((out3_apply (in0 m c t) (in1 m c t) (in2 m c t) (y 0) (y 1)).trans ((tile_row m c t _ _).trans ?_))
  congr 1
  · exact Fin.ext (by show t.val / 4 = (win0_3.index t 0 * 512 + (y 0).val) / 2048; rw [e0]; omega)
  · exact Fin.ext (by show 512 * (t.val % 4) + (y 0).val = (win0_3.index t 0 * 512 + (y 0).val) % 2048; rw [e0]; omega)

/-- The array of the 512 columns from 512 on, after the run. -/
theorem arr4 : (dats m 0 c).arrAt 4 (cfgs 0).N = fun i : S16384x512.Idx =>
    (pad m c).p ⟨(i 0).val / 2048, by have h := (i 0).isLt; change _ < 16384 at h; omega⟩ ⟨(i 0).val % 2048, Nat.mod_lt _ (by decide)⟩
      ⟨512 + (i 1).val, by have h := (i 1).isLt; change _ < 512 at h; omega⟩ := by
  refine (dats m 0 c).arrAt_eq_of_covers 4 _ (by decide +kernel) fun t hf y => ?_
  blk_simp
  rw [after0_4]
  have := lt32 t
  have y0 : (y 0).val < 512 := (y 0).isLt
  have hy : y = (ix2 (y 0) (y 1) : S512x512.Idx) := by
    funext a
    fin_cases a <;> rfl
  have e0 : win0_4.index t 0 * 512 + (y 0).val = 512 * t.val + (y 0).val := by rw [(idx_tok t).2.2.2.2.1]; simp; omega
  have e1 : win0_4.index t 1 * 512 + (y 1).val = (y 1).val := by rw [(idx_tok t).2.2.2.2.1]; simp
  refine (congrArg _ hy).trans ((out4_apply (in0 m c t) (in1 m c t) (in2 m c t) (y 0) (y 1)).trans ((tile_row m c t _ _).trans ?_))
  congr 1
  · exact Fin.ext (by show t.val / 4 = (win0_4.index t 0 * 512 + (y 0).val) / 2048; rw [e0]; omega)
  · exact Fin.ext (by show 512 * (t.val % 4) + (y 0).val = (win0_4.index t 0 * 512 + (y 0).val) % 2048; rw [e0]; omega)
  · exact Fin.ext (by show 512 + (y 1).val = 512 + (win0_4.index t 1 * 512 + (y 1).val); rw [e1])

/-- The array of the 1024 columns from 1024 on, after the run. -/
theorem arr5 : (dats m 0 c).arrAt 5 (cfgs 0).N = fun i : S16384x1024.Idx =>
    (pad m c).p ⟨(i 0).val / 2048, by have h := (i 0).isLt; change _ < 16384 at h; omega⟩ ⟨(i 0).val % 2048, Nat.mod_lt _ (by decide)⟩
      ⟨1024 + (i 1).val, by have h := (i 1).isLt; change _ < 1024 at h; omega⟩ := by
  refine (dats m 0 c).arrAt_eq_of_covers 5 _ (by decide +kernel) fun t hf y => ?_
  blk_simp
  rw [after0_5]
  have := lt32 t
  have y0 : (y 0).val < 512 := (y 0).isLt
  have hy : y = (ix2 (y 0) (y 1) : S512x1024.Idx) := by
    funext a
    fin_cases a <;> rfl
  have e0 : win0_5.index t 0 * 512 + (y 0).val = 512 * t.val + (y 0).val := by rw [(idx_tok t).2.2.2.2.2.1]; simp; omega
  have e1 : win0_5.index t 1 * 1024 + (y 1).val = (y 1).val := by rw [(idx_tok t).2.2.2.2.2.1]; simp
  refine (congrArg _ hy).trans ((out5_apply (in0 m c t) (in1 m c t) (in2 m c t) (y 0) (y 1)).trans ((tile_row m c t _ _).trans ?_))
  congr 1
  · exact Fin.ext (by show t.val / 4 = (win0_5.index t 0 * 512 + (y 0).val) / 2048; rw [e0]; omega)
  · exact Fin.ext (by show 512 * (t.val % 4) + (y 0).val = (win0_5.index t 0 * 512 + (y 0).val) % 2048; rw [e0]; omega)
  · exact Fin.ext (by show 1024 + (y 1).val = 1024 + (win0_5.index t 1 * 1024 + (y 1).val); rw [e1])

/-- The array of the 1024 columns from 2048 on, after the run. -/
theorem arr6 : (dats m 0 c).arrAt 6 (cfgs 0).N = fun i : S16384x1024.Idx =>
    (pad m c).p ⟨(i 0).val / 2048, by have h := (i 0).isLt; change _ < 16384 at h; omega⟩ ⟨(i 0).val % 2048, Nat.mod_lt _ (by decide)⟩
      ⟨2048 + (i 1).val, by have h := (i 1).isLt; change _ < 1024 at h; omega⟩ := by
  refine (dats m 0 c).arrAt_eq_of_covers 6 _ (by decide +kernel) fun t hf y => ?_
  blk_simp
  rw [after0_6]
  have := lt32 t
  have y0 : (y 0).val < 512 := (y 0).isLt
  have hy : y = (ix2 (y 0) (y 1) : S512x1024.Idx) := by
    funext a
    fin_cases a <;> rfl
  have e0 : win0_6.index t 0 * 512 + (y 0).val = 512 * t.val + (y 0).val := by rw [(idx_tok t).2.2.2.2.2.2.1]; simp; omega
  have e1 : win0_6.index t 1 * 1024 + (y 1).val = (y 1).val := by rw [(idx_tok t).2.2.2.2.2.2.1]; simp
  refine (congrArg _ hy).trans ((out6_apply (in0 m c t) (in1 m c t) (in2 m c t) (y 0) (y 1)).trans ((tile_row m c t _ _).trans ?_))
  congr 1
  · exact Fin.ext (by show t.val / 4 = (win0_6.index t 0 * 512 + (y 0).val) / 2048; rw [e0]; omega)
  · exact Fin.ext (by show 512 * (t.val % 4) + (y 0).val = (win0_6.index t 0 * 512 + (y 0).val) % 2048; rw [e0]; omega)
  · exact Fin.ext (by show 2048 + (y 1).val = 2048 + (win0_6.index t 1 * 1024 + (y 1).val); rw [e1])

/-- The array of the 128 columns from 3072 on, after the run. -/
theorem arr7 : (dats m 0 c).arrAt 7 (cfgs 0).N = fun i : S16384x128.Idx =>
    (pad m c).p ⟨(i 0).val / 2048, by have h := (i 0).isLt; change _ < 16384 at h; omega⟩ ⟨(i 0).val % 2048, Nat.mod_lt _ (by decide)⟩
      ⟨3072 + (i 1).val, by have h := (i 1).isLt; change _ < 128 at h; omega⟩ := by
  refine (dats m 0 c).arrAt_eq_of_covers 7 _ (by decide +kernel) fun t hf y => ?_
  blk_simp
  rw [after0_7]
  have := lt32 t
  have y0 : (y 0).val < 512 := (y 0).isLt
  have hy : y = (ix2 (y 0) (y 1) : S512x128.Idx) := by
    funext a
    fin_cases a <;> rfl
  have e0 : win0_7.index t 0 * 512 + (y 0).val = 512 * t.val + (y 0).val := by rw [(idx_tok t).2.2.2.2.2.2.2]; simp; omega
  have e1 : win0_7.index t 1 * 128 + (y 1).val = (y 1).val := by rw [(idx_tok t).2.2.2.2.2.2.2]; simp
  refine (congrArg _ hy).trans ((out7_apply (in0 m c t) (in1 m c t) (in2 m c t) (y 0) (y 1)).trans ((tile_row m c t _ _).trans ?_))
  congr 1
  · exact Fin.ext (by show t.val / 4 = (win0_7.index t 0 * 512 + (y 0).val) / 2048; rw [e0]; omega)
  · exact Fin.ext (by show 512 * (t.val % 4) + (y 0).val = (win0_7.index t 0 * 512 + (y 0).val) % 2048; rw [e0]; omega)
  · exact Fin.ext (by show 3072 + (y 1).val = 3072 + (win0_7.index t 1 * 128 + (y 1).val); rw [e1])

/-- No two windows share an array. -/
theorem arrRef_inj : Function.Injective (Pipeline.arrRef (cfgs 0).spec) := by decide +kernel

/-- The queries, after the lines that follow the region. -/
theorem end_main_v5 : (Pipeline.afterTail₀ cfgs (dats m) 0 (V0 m) [hostOps1] c main_v5 : S8x2048x512.Idx → EReal)
    = fun i => (arr m c).p (i 0) (i 1) ⟨0 + (i 2).val, by have h := (i 2).isLt; change _ < 512 at h; omega⟩ := by
  funext i
  unfold Pipeline.afterTail₀
  after_reads_at
  have i1 : (i 1).val < 2048 := (i 1).isLt
  have i2 : (i 2).val < 512 := (i 2).isLt
  refine (congrFun ((Pipeline.withArrays_arr (cfgs 0).spec arrRef_inj c (V0 m c) (fun w => (dats m 0 c).arrAt w (cfgs 0).N) 3).trans (arr3 m c)) _).trans ?_
  refine Eq.trans ?_ (pad_p m c _ _ _)
  congr 1
  · exact Fin.ext (by show ((i 0).val * 2048 + ((i 1).val)) / 2048 = (i 0).val; omega)
  · exact Fin.ext (by show ((i 0).val * 2048 + ((i 1).val)) % 2048 = (i 1).val; omega)
  · exact Fin.ext (Nat.zero_add _)

/-- The keys, after the lines that follow the region. -/
theorem end_main_v6 : (Pipeline.afterTail₀ cfgs (dats m) 0 (V0 m) [hostOps1] c main_v6 : S8x2048x512.Idx → EReal)
    = fun i => (arr m c).p (i 0) (i 1) ⟨512 + (i 2).val, by have h := (i 2).isLt; change _ < 512 at h; omega⟩ := by
  funext i
  unfold Pipeline.afterTail₀
  after_reads_at
  have i1 : (i 1).val < 2048 := (i 1).isLt
  have i2 : (i 2).val < 512 := (i 2).isLt
  refine (congrFun ((Pipeline.withArrays_arr (cfgs 0).spec arrRef_inj c (V0 m c) (fun w => (dats m 0 c).arrAt w (cfgs 0).N) 4).trans (arr4 m c)) _).trans ?_
  refine Eq.trans ?_ (pad_p m c _ _ _)
  congr 1
  · exact Fin.ext (by show ((i 0).val * 2048 + ((i 1).val)) / 2048 = (i 0).val; omega)
  · exact Fin.ext (by show ((i 0).val * 2048 + ((i 1).val)) % 2048 = (i 1).val; omega)

/-- The values, after the lines that follow the region. -/
theorem end_main_v7 : (Pipeline.afterTail₀ cfgs (dats m) 0 (V0 m) [hostOps1] c main_v7 : S8x2048x1024.Idx → EReal)
    = fun i => (arr m c).p (i 0) (i 1) ⟨1024 + (i 2).val, by have h := (i 2).isLt; change _ < 1024 at h; omega⟩ := by
  funext i
  unfold Pipeline.afterTail₀
  after_reads_at
  have i1 : (i 1).val < 2048 := (i 1).isLt
  have i2 : (i 2).val < 1024 := (i 2).isLt
  refine (congrFun ((Pipeline.withArrays_arr (cfgs 0).spec arrRef_inj c (V0 m c) (fun w => (dats m 0 c).arrAt w (cfgs 0).N) 5).trans (arr5 m c)) _).trans ?_
  refine Eq.trans ?_ (pad_p m c _ _ _)
  congr 1
  · exact Fin.ext (by show ((i 0).val * 2048 + ((i 1).val)) / 2048 = (i 0).val; omega)
  · exact Fin.ext (by show ((i 0).val * 2048 + ((i 1).val)) % 2048 = (i 1).val; omega)

/-- The output gate's columns, after the lines that follow the region. -/
theorem end_main_v8 : (Pipeline.afterTail₀ cfgs (dats m) 0 (V0 m) [hostOps1] c main_v8 : S8x2048x1024.Idx → EReal)
    = fun i => (arr m c).p (i 0) (i 1) ⟨2048 + (i 2).val, by have h := (i 2).isLt; change _ < 1024 at h; omega⟩ := by
  funext i
  unfold Pipeline.afterTail₀
  after_reads_at
  have i1 : (i 1).val < 2048 := (i 1).isLt
  have i2 : (i 2).val < 1024 := (i 2).isLt
  refine (congrFun ((Pipeline.withArrays_arr (cfgs 0).spec arrRef_inj c (V0 m c) (fun w => (dats m 0 c).arrAt w (cfgs 0).N) 6).trans (arr6 m c)) _).trans ?_
  refine Eq.trans ?_ (pad_p m c _ _ _)
  congr 1
  · exact Fin.ext (by show ((i 0).val * 2048 + ((i 1).val)) / 2048 = (i 0).val; omega)
  · exact Fin.ext (by show ((i 0).val * 2048 + ((i 1).val)) % 2048 = (i 1).val; omega)

/-- The gate's low-rank columns, after the lines that follow the region. -/
theorem end_main_v10 : (Pipeline.afterTail₀ cfgs (dats m) 0 (V0 m) [hostOps1] c main_v10 : S8x2048x16.Idx → EReal)
    = fun i => (arr m c).p (i 0) (i 1) ⟨3072 + (i 2).val, by have h := (i 2).isLt; change _ < 16 at h; omega⟩ := by
  funext i
  unfold Pipeline.afterTail₀
  after_reads_at
  have i1 : (i 1).val < 2048 := (i 1).isLt
  have i2 : (i 2).val < 16 := (i 2).isLt
  refine (congrFun ((Pipeline.withArrays_arr (cfgs 0).spec arrRef_inj c (V0 m c) (fun w => (dats m 0 c).arrAt w (cfgs 0).N) 7).trans (arr7 m c)) _).trans ?_
  refine Eq.trans ?_ (pad_p m c _ _ _)
  congr 1
  · exact Fin.ext (by show ((i 0).val * 2048 + ((i 1).val)) / 2048 = (i 0).val; omega)
  · exact Fin.ext (by show ((i 0).val * 2048 + ((i 1).val)) % 2048 = (i 1).val; omega)

/-- The run ends with the results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v5) = (fun i : S8x2048x512.Idx => (arr m c).p (i 0) (i 1) ⟨0 + (i 2).val, by have h := (i 2).isLt; change _ < 512 at h; omega⟩)
      ∧ r.2.mem ((c.tc : Thread nD τ).loc main_v6) = (fun i : S8x2048x512.Idx => (arr m c).p (i 0) (i 1) ⟨512 + (i 2).val, by have h := (i 2).isLt; change _ < 512 at h; omega⟩)
      ∧ r.2.mem ((c.tc : Thread nD τ).loc main_v7) = (fun i : S8x2048x1024.Idx => (arr m c).p (i 0) (i 1) ⟨1024 + (i 2).val, by have h := (i 2).isLt; change _ < 1024 at h; omega⟩)
      ∧ r.2.mem ((c.tc : Thread nD τ).loc main_v8) = (fun i : S8x2048x1024.Idx => (arr m c).p (i 0) (i 1) ⟨2048 + (i 2).val, by have h := (i 2).isLt; change _ < 1024 at h; omega⟩)
      ∧ r.2.mem ((c.tc : Thread nD τ).loc main_v10) = (fun i : S8x2048x16.Idx => (arr m c).p (i 0) (i 1) ⟨3072 + (i 2).val, by have h := (i 2).isLt; change _ < 16 at h; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v5 (Pipeline.mem_restRefs_of main_v5 (by decide) (by decide))).trans (end_main_v5 m c),
    ((h.1 c).2 main_v6 (Pipeline.mem_restRefs_of main_v6 (by decide) (by decide))).trans (end_main_v6 m c),
    ((h.1 c).2 main_v7 (Pipeline.mem_restRefs_of main_v7 (by decide) (by decide))).trans (end_main_v7 m c),
    ((h.1 c).2 main_v8 (Pipeline.mem_restRefs_of main_v8 (by decide) (by decide))).trans (end_main_v8 m c),
    ((h.1 c).2 main_v10 (Pipeline.mem_restRefs_of main_v10 (by decide) (by decide))).trans (end_main_v10 m c), h.2 c⟩)
    (θ_run_and (run_main m ρ) (unchanged m ρ))

end Cert.Proj.Gla
-- ==== Proof.Proj.GlaClaim.lean ====
/- The gated linear attention's input projection: the two programs' results are one function of the arguments. -/
module

public import proofs.«01_k».proof.Proof.Proj.Gla
public import proofs.«01_k».proof.Proof.Proj.Ref
public import proofs.«01_k».proof.Proof.Gen.Reference6Ideal.Run
public import proofs.«01_k».proof.Defs
public import proofs.«01_k».proof.Proof.Gen.Kernel6.Frame

@[expose] public section
set_option maxRecDepth 16384
noncomputable section
namespace Cert.Proj.Gla

open Idealize.ShloMosaic Idealize.ShloMosaic.TcCoe Idealize.ShloMosaic.Tactic Idealize.SL.Sem

section Reference

open Cert.Reference6Ideal Cert.Reference6Ideal.Gen Cert.Reference6Ideal.Value

/-- The reference's projected rows. -/
def prod {F : FTy → Type} [FloatOps F] (x : FVec F S8x2048x1024 .f32) (g : FVec F S1024 .f32) (w : FVec F S1024x3088 .f32) : FVec F S8x2048x3088 .f32 :=
  Host.dotGeneral dot_S8x2048x1024_S1024x3088_S8x2048x3088_2_0_01_1_n_n none (Cert.Ffn.Ref.norm x g) w

variable (m : (ℓ : Loc nD τ sig) → Buf (Elt Ideal) ℓ) (c : Dev nD)

/-- The arguments the reference starts with. -/
def refArr : Arr 3088 := Arr.of (m ((c.tc : Thread nD τ).loc main_arg0)) (m ((c.tc : Thread nD τ).loc main_arg1)) (m ((c.tc : Thread nD τ).loc main_arg2))

/-- The projected rows of the reference's arguments. -/
def refProd : S8x2048x3088.Idx → EReal := prod (F := Ideal) (m ((c.tc : Thread nD τ).loc main_arg0)) (m ((c.tc : Thread nD τ).loc main_arg1)) (m ((c.tc : Thread nD τ).loc main_arg2))

/-- Its rows are the formula's. -/
theorem prod_row (b : Fin 8) (t : Fin 2048) (z : Fin 3088) : refProd m c (ix3 b t z) = (refArr m c).p b t z := by
  refine norm_row _ _ _ _ b t z ?_
  unfold refProd prod
  generalize Cert.Ffn.Ref.norm (F := Ideal) (m ((c.tc : Thread nD τ).loc main_arg0)) (m ((c.tc : Thread nD τ).loc main_arg1)) = h
  pointwise

end Reference

/-- The reference's run ends quiet, its arguments unchanged. -/
theorem frame_ref : Cert.quiescent_Reference6Ideal := fun m ρ _ =>
  (θ_run Cert.Reference6Ideal.defs _ _).mono (fun r h => ⟨fun c => (h c).2.2.2.2.2, Idealize.ShloMosaic.sem_eq_zero_of_no_sems (by decide) r.2⟩) (Cert.Reference6Ideal.Value.run (F := Ideal) m ρ)

/-- The kernel's results are the reference's. -/
theorem algebraic : Cert.algebraic_Kernel6Ideal_Reference6Ideal := by
  intro m ρ m' ρ' _ hagree
  have e : ∀ c, refArr m' c = arr m c := fun c => by
    obtain ⟨e0, e1, e2⟩ := hagree c
    unfold refArr
    rw [e0, e1, e2]
    rfl
  refine ⟨_, _, _, _, _, run m ρ, ?_⟩
  refine (θ_run Cert.Reference6Ideal.defs _ _).mono (fun r h c => ?_) (Cert.Reference6Ideal.Value.run (F := Ideal) m' ρ')
  obtain ⟨r1, r2, r3, r4, r5, rest⟩ := h c
  refine ⟨r1.trans (Eq.trans (cols_fun (n := 512) (o := 0) (refArr m' c) (refProd m' c) (prod_row m' c) _ (by decide)) ?_), r2.trans (Eq.trans (cols_fun (n := 512) (o := 512) (refArr m' c) (refProd m' c) (prod_row m' c) _ (by decide)) ?_), r3.trans (Eq.trans (cols_fun (n := 1024) (o := 1024) (refArr m' c) (refProd m' c) (prod_row m' c) _ (by decide)) ?_), r4.trans (Eq.trans (cols_fun (n := 1024) (o := 2048) (refArr m' c) (refProd m' c) (prod_row m' c) _ (by decide)) ?_), r5.trans (Eq.trans (cols_fun (n := 16) (o := 3072) (refArr m' c) (refProd m' c) (prod_row m' c) _ (by decide)) ?_), rest⟩ <;> rw [e c]

end Cert.Proj.Gla
-- ==== Proof.Proj.Step.Gdn.lean ====
/- The gated delta rule's input projection of the sample group over extended reals: what the tile of 256 rows computes and what the run leaves. -/
module

public import proofs.«01_k».proof.Proof.Proj.Math
public import proofs.«01_k».proof.Proof.Gen.Kernel7Ideal.Frame
public import Idealize.ShloMosaic.Lib.StableHlo.ReadAt
public import Idealize.ShloMosaic.Lib.Claim
public import Idealize.ShloMosaic.Lib.Pointwise
public import Idealize.ShloMosaic.Lib.Pipeline.ValueKit

@[expose] public section
set_option maxRecDepth 16384
noncomputable section
namespace Cert.Proj.Step.Gdn

open Idealize.ShloMosaic Idealize.ShloMosaic.TcCoe Idealize.ShloMosaic.Tactic Idealize.SL.Sem
open Cert.Kernel7Ideal Cert.Kernel7Ideal.Gen Cert.Ffn

/-- The convolution's input: its history `h`, then the projected rows. -/
def up (h : Fin 32 → Fin 3 → Fin 3072 → EReal) (A : Arr 4112 32 8) (i : (⟨3, ![32, 11, 3072]⟩ : Shape).Idx) : EReal :=
  if q : (i 1).val < 3 then h (i 0) ⟨(i 1).val, q⟩ (i 2)
  else A.p (i 0) ⟨(i 1).val - 3, by have h := (i 1).isLt; change _ < 11 at h; omega⟩ ⟨0 + (i 2).val, by have h := (i 2).isLt; change _ < 3072 at h; omega⟩

section Tile

variable (x0 : FVec Ideal S256x1024 .f32) (x1 : FVec Ideal S1x1024 .f32) (x2 : FVec Ideal S1024x4224 .bf16)

/-- The tile's normalized rows. -/
theorem norm_apply (r : Fin 256) (z : Fin 1024) :
    k0_pay1 (F := Ideal) x0 x1 (ix2 r z) = rms (fun k => x0 (ix2 r k)) (fun k => x1 (ix2 0 k)) z := by
  unfold k0_pay1 rms
  pointwise

/-- The 3072 columns from 0 on, of the tile's rows. -/
theorem out3_apply (r : Fin 256) (z : Fin 3072) :
    out0_3 (F := Ideal) x0 x1 x2 (ix2 r z) = ∑ k, rms (fun k => x0 (ix2 r k)) (fun k => x1 (ix2 0 k)) k * x2 (ix2 k ⟨0 + z.val, by omega⟩) := by
  have e (w : FVec Ideal S1024x3072 .bf16) : k0_pay2 (F := Ideal) x0 x1 w (ix2 r z) = ∑ k, k0_pay1 (F := Ideal) x0 x1 (ix2 r k) * w (ix2 k z) := by
    unfold k0_pay2
    generalize k0_pay1 (F := Ideal) x0 x1 = h
    pointwise
  unfold out0_3
  rw [View.canon_unit_zero (by decide), View.ld_unit_zero (by decide), View.ld_unit_zero (by decide), e]
  refine Finset.sum_congr rfl fun k _ => ?_
  rw [norm_apply]
  exact congrArg _ (ld_col (N := 4224) (n := 3072) (o := 0) (e := .bf16) x2 inb_S1024x4224_S1024x3072_0_0 (by decide) k z)

/-- The 1024 columns from 3072 on, of the tile's rows. -/
theorem out4_apply (r : Fin 256) (z : Fin 1024) :
    out0_4 (F := Ideal) x0 x1 x2 (ix2 r z) = ∑ k, rms (fun k => x0 (ix2 r k)) (fun k => x1 (ix2 0 k)) k * x2 (ix2 k ⟨3072 + z.val, by omega⟩) := by
  have e (w : FVec Ideal S1024x1024 .bf16) : k0_pay3 (F := Ideal) x0 x1 w (ix2 r z) = ∑ k, k0_pay1 (F := Ideal) x0 x1 (ix2 r k) * w (ix2 k z) := by
    unfold k0_pay3
    generalize k0_pay1 (F := Ideal) x0 x1 = h
    pointwise
  unfold out0_4
  rw [View.canon_unit_zero (by decide), View.ld_unit_zero (by decide), View.ld_unit_zero (by decide), e]
  refine Finset.sum_congr rfl fun k _ => ?_
  rw [norm_apply]
  exact congrArg _ (ld_col (N := 4224) (n := 1024) (o := 3072) (e := .bf16) x2 inb_S1024x4224_S1024x1024_0_3072 (by decide) k z)

/-- The 128 columns from 4096 on, of the tile's rows. -/
theorem out5_apply (r : Fin 256) (z : Fin 128) :
    out0_5 (F := Ideal) x0 x1 x2 (ix2 r z) = ∑ k, rms (fun k => x0 (ix2 r k)) (fun k => x1 (ix2 0 k)) k * x2 (ix2 k ⟨4096 + z.val, by omega⟩) := by
  have e (w : FVec Ideal S1024x128 .bf16) : k0_pay4 (F := Ideal) x0 x1 w (ix2 r z) = ∑ k, k0_pay1 (F := Ideal) x0 x1 (ix2 r k) * w (ix2 k z) := by
    unfold k0_pay4
    generalize k0_pay1 (F := Ideal) x0 x1 = h
    pointwise
  unfold out0_5
  rw [View.canon_unit_zero (by decide), View.ld_unit_zero (by decide), View.ld_unit_zero (by decide), e]
  refine Finset.sum_congr rfl fun k _ => ?_
  rw [norm_apply]
  exact congrArg _ (ld_col (N := 4224) (n := 128) (o := 4096) (e := .bf16) x2 inb_S1024x4224_S1024x128_0_4096 (by decide) k z)

end Tile

variable (m : (ℓ : Loc nD τ sig) → Buf (Elt Ideal) ℓ) (c : Dev nD)

/-- The arguments as device `c` holds them. -/
def arr : Arr 4112 32 8 where
  x b t z := (m ((c : Thread nD τ).loc main_arg0) : S32x8x1024.Idx → EReal) (ix3 b t z)
  g z := (m ((c : Thread nD τ).loc main_arg1) : S1024.Idx → EReal) (ix1 z)
  w k z := (m ((c : Thread nD τ).loc main_arg2) : S1024x4112.Idx → EReal) (ix2 k z)

/-- The same with the padded weight. -/
def pad : Arr 4224 32 8 where
  x := (arr m c).x
  g := (arr m c).g
  w k z := (V m c main_v2 : S1024x4224.Idx → EReal) (ix2 k z)

/-- The padding changes no column of the weight. -/
theorem V_w (k : Fin 1024) (z : Fin 4112) : (pad m c).w k ⟨z.val, by omega⟩ = (arr m c).w k z := by
  unfold pad arr V
  after_reads_at

/-- Nor of the product. -/
theorem pad_p (b : Fin 32) (t : Fin 8) (z : Fin 4112) : (pad m c).p b t ⟨z.val, by omega⟩ = (arr m c).p b t z := by
  unfold Arr.p
  simp only [V_w]
  rfl

/-- The activations' rows, all batches in one. -/
theorem V_x (b : Fin 32) (t : Fin 8) (z : Fin 1024) : (V m c main_v0 : S256x1024.Idx → EReal) (ix2 ⟨8 * b.val + t.val, by omega⟩ z) = (arr m c).x b t z := by
  unfold V arr
  after_reads_at

/-- The gain as a row. -/
theorem V_g (z : Fin 1024) : (V m c main_v3 : S1x1024.Idx → EReal) (ix2 0 z) = (arr m c).g z := by
  unfold V arr
  after_reads_at

/-- The windows' block indices, by the point. -/
theorem idx_tok : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

/-- The blocks a point reads. -/
abbrev in0 (t : Fin cfg0.N) : S256x1024.Idx → EReal := iblk m c 0 t
@[inherit_doc in0] abbrev in1 (t : Fin cfg0.N) : S1x1024.Idx → EReal := iblk m c 1 t
@[inherit_doc in0] abbrev in2 (t : Fin cfg0.N) : S1024x4224.Idx → EReal := iblk m c 2 t

/-- A point's activations. -/
theorem blk_x (t : Fin cfg0.N) (r : Fin 256) (z : Fin 1024) :
    in0 m c t (ix2 r z) = (arr m c).x ⟨r.val / 8, by omega⟩ ⟨r.val % 8, Nat.mod_lt _ (by decide)⟩ z := by
  refine Eq.trans ?_ (V_x m c _ _ z)
  blk_ext [iblk, (idx_tok t).1]

/-- A point's gain. -/
theorem blk_g (t : Fin cfg0.N) (z : Fin 1024) : in1 m c t (ix2 0 z) = (arr m c).g z := by
  refine Eq.trans ?_ (V_g m c z)
  blk_ext [iblk, (idx_tok t).2.1]

/-- A point's weight. -/
theorem blk_w (t : Fin cfg0.N) (k : Fin 1024) (z : Fin 4224) : in2 m c t (ix2 k z) = (pad m c).w k z := by
  unfold pad
  blk_ext [iblk, (idx_tok t).2.2.1]

/-- The tile's product is the formula's. -/
theorem tile_row (t : Fin cfg0.N) (r : Fin 256) (z : Fin 4224) :
    (∑ k, rms (fun k => in0 m c t (ix2 r k)) (fun k => in1 m c t (ix2 0 k)) k * in2 m c t (ix2 k z))
      = (pad m c).p ⟨r.val / 8, by omega⟩ ⟨r.val % 8, Nat.mod_lt _ (by decide)⟩ z := by
  simp only [blk_x, blk_g, blk_w]
  rfl

/-- The array of the 3072 columns from 0 on, after the run. -/
theorem arr3 : (dats m 0 c).arrAt 3 (cfgs 0).N = fun i : S256x3072.Idx =>
    (pad m c).p ⟨(i 0).val / 8, by have h := (i 0).isLt; change _ < 256 at h; omega⟩ ⟨(i 0).val % 8, Nat.mod_lt _ (by decide)⟩
      ⟨0 + (i 1).val, by have h := (i 1).isLt; change _ < 3072 at h; omega⟩ := by
  refine (dats m 0 c).arrAt_eq_of_covers 3 _ (by decide +kernel) fun t hf y => ?_
  blk_simp
  rw [after0_3]
  have y0 : (y 0).val < 256 := (y 0).isLt
  have hy : y = (ix2 (y 0) (y 1) : S256x3072.Idx) := by
    funext a
    fin_cases a <;> rfl
  have e0 : win0_3.index t 0 * 256 + (y 0).val = (y 0).val := by rw [(idx_tok t).2.2.2.1]; simp
  refine (congrArg _ hy).trans ((out3_apply (in0 m c t) (in1 m c t) (in2 m c t) (y 0) (y 1)).trans ((tile_row m c t _ _).trans ?_))
  congr 1
  · exact Fin.ext (by show (y 0).val / 8 = (win0_3.index t 0 * 256 + (y 0).val) / 8; rw [e0])
  · exact Fin.ext (by show (y 0).val % 8 = (win0_3.index t 0 * 256 + (y 0).val) % 8; rw [e0])

/-- The array of the 1024 columns from 3072 on, after the run. -/
theorem arr4 : (dats m 0 c).arrAt 4 (cfgs 0).N = fun i : S256x1024.Idx =>
    (pad m c).p ⟨(i 0).val / 8, by have h := (i 0).isLt; change _ < 256 at h; omega⟩ ⟨(i 0).val % 8, Nat.mod_lt _ (by decide)⟩
      ⟨3072 + (i 1).val, by have h := (i 1).isLt; change _ < 1024 at h; omega⟩ := by
  refine (dats m 0 c).arrAt_eq_of_covers 4 _ (by decide +kernel) fun t hf y => ?_
  blk_simp
  rw [after0_4]
  have y0 : (y 0).val < 256 := (y 0).isLt
  have hy : y = (ix2 (y 0) (y 1) : S256x1024.Idx) := by
    funext a
    fin_cases a <;> rfl
  have e0 : win0_4.index t 0 * 256 + (y 0).val = (y 0).val := by rw [(idx_tok t).2.2.2.2.1]; simp
  have e1 : win0_4.index t 1 * 1024 + (y 1).val = (y 1).val := by rw [(idx_tok t).2.2.2.2.1]; simp
  refine (congrArg _ hy).trans ((out4_apply (in0 m c t) (in1 m c t) (in2 m c t) (y 0) (y 1)).trans ((tile_row m c t _ _).trans ?_))
  congr 1
  · exact Fin.ext (by show (y 0).val / 8 = (win0_4.index t 0 * 256 + (y 0).val) / 8; rw [e0])
  · exact Fin.ext (by show (y 0).val % 8 = (win0_4.index t 0 * 256 + (y 0).val) % 8; rw [e0])
  · exact Fin.ext (by show 3072 + (y 1).val = 3072 + (win0_4.index t 1 * 1024 + (y 1).val); rw [e1])

/-- The array of the 128 columns from 4096 on, after the run. -/
theorem arr5 : (dats m 0 c).arrAt 5 (cfgs 0).N = fun i : S256x128.Idx =>
    (pad m c).p ⟨(i 0).val / 8, by have h := (i 0).isLt; change _ < 256 at h; omega⟩ ⟨(i 0).val % 8, Nat.mod_lt _ (by decide)⟩
      ⟨4096 + (i 1).val, by have h := (i 1).isLt; change _ < 128 at h; omega⟩ := by
  refine (dats m 0 c).arrAt_eq_of_covers 5 _ (by decide +kernel) fun t hf y => ?_
  blk_simp
  rw [after0_5]
  have y0 : (y 0).val < 256 := (y 0).isLt
  have hy : y = (ix2 (y 0) (y 1) : S256x128.Idx) := by
    funext a
    fin_cases a <;> rfl
  have e0 : win0_5.index t 0 * 256 + (y 0).val = (y 0).val := by rw [(idx_tok t).2.2.2.2.2]; simp
  have e1 : win0_5.index t 1 * 128 + (y 1).val = (y 1).val := by rw [(idx_tok t).2.2.2.2.2]; simp
  refine (congrArg _ hy).trans ((out5_apply (in0 m c t) (in1 m c t) (in2 m c t) (y 0) (y 1)).trans ((tile_row m c t _ _).trans ?_))
  congr 1
  · exact Fin.ext (by show (y 0).val / 8 = (win0_5.index t 0 * 256 + (y 0).val) / 8; rw [e0])
  · exact Fin.ext (by show (y 0).val % 8 = (win0_5.index t 0 * 256 + (y 0).val) % 8; rw [e0])
  · exact Fin.ext (by show 4096 + (y 1).val = 4096 + (win0_5.index t 1 * 128 + (y 1).val); rw [e1])

/-- No two windows share an array. -/
theorem arrRef_inj : Function.Injective (Pipeline.arrRef (cfgs 0).spec) := by decide +kernel

/-- The convolution's input, after the lines that follow the region. -/
theorem end_main_v5 : (Pipeline.afterTail₀ cfgs (dats m) 0 (V0 m) [hostOps1] c main_v5 : S32x8x3072.Idx → EReal)
    = fun i => (arr m c).p (i 0) (i 1) ⟨0 + (i 2).val, by have h := (i 2).isLt; change _ < 3072 at h; omega⟩ := by
  funext i
  unfold Pipeline.afterTail₀
  after_reads_at
  have i1 : (i 1).val < 8 := (i 1).isLt
  have i2 : (i 2).val < 3072 := (i 2).isLt
  refine (congrFun ((Pipeline.withArrays_arr (cfgs 0).spec arrRef_inj c (V0 m c) (fun w => (dats m 0 c).arrAt w (cfgs 0).N) 3).trans (arr3 m c)) _).trans ?_
  refine Eq.trans ?_ (pad_p m c _ _ _)
  congr 1
  · exact Fin.ext (by show ((i 0).val * 8 + ((i 1).val)) / 8 = (i 0).val; omega)
  · exact Fin.ext (by show ((i 0).val * 8 + ((i 1).val)) % 8 = (i 1).val; omega)
  · exact Fin.ext (Nat.zero_add _)

/-- The output gate's columns, after the lines that follow the region. -/
theorem end_main_v6 : (Pipeline.afterTail₀ cfgs (dats m) 0 (V0 m) [hostOps1] c main_v6 : S32x8x1024.Idx → EReal)
    = fun i => (arr m c).p (i 0) (i 1) ⟨3072 + (i 2).val, by have h := (i 2).isLt; change _ < 1024 at h; omega⟩ := by
  funext i
  unfold Pipeline.afterTail₀
  after_reads_at
  have i1 : (i 1).val < 8 := (i 1).isLt
  have i2 : (i 2).val < 1024 := (i 2).isLt
  refine (congrFun ((Pipeline.withArrays_arr (cfgs 0).spec arrRef_inj c (V0 m c) (fun w => (dats m 0 c).arrAt w (cfgs 0).N) 4).trans (arr4 m c)) _).trans ?_
  refine Eq.trans ?_ (pad_p m c _ _ _)
  congr 1
  · exact Fin.ext (by show ((i 0).val * 8 + ((i 1).val)) / 8 = (i 0).val; omega)
  · exact Fin.ext (by show ((i 0).val * 8 + ((i 1).val)) % 8 = (i 1).val; omega)

/-- The columns of β and the decay, after the lines that follow the region. -/
theorem end_main_v10 : (Pipeline.afterTail₀ cfgs (dats m) 0 (V0 m) [hostOps1] c main_v10 : S32x8x16.Idx → EReal)
    = fun i => (arr m c).p (i 0) (i 1) ⟨4096 + (i 2).val, by have h := (i 2).isLt; change _ < 16 at h; omega⟩ := by
  funext i
  unfold Pipeline.afterTail₀
  after_reads_at
  have i1 : (i 1).val < 8 := (i 1).isLt
  have i2 : (i 2).val < 16 := (i 2).isLt
  refine (congrFun ((Pipeline.withArrays_arr (cfgs 0).spec arrRef_inj c (V0 m c) (fun w => (dats m 0 c).arrAt w (cfgs 0).N) 5).trans (arr5 m c)) _).trans ?_
  refine Eq.trans ?_ (pad_p m c _ _ _)
  congr 1
  · exact Fin.ext (by show ((i 0).val * 8 + ((i 1).val)) / 8 = (i 0).val; omega)
  · exact Fin.ext (by show ((i 0).val * 8 + ((i 1).val)) % 8 = (i 1).val; omega)

/-- The last three rows of the convolution's input, after the lines that follow the region. -/
theorem end_main_v8 : (Pipeline.afterTail₀ cfgs (dats m) 0 (V0 m) [hostOps1] c main_v8 : S32x3x3072.Idx → EReal)
    = fun i => (arr m c).p (i 0) ⟨5 + (i 1).val, by have h := (i 1).isLt; change _ < 3 at h; omega⟩ ⟨0 + (i 2).val, by have h := (i 2).isLt; change _ < 3072 at h; omega⟩ := by
  funext i
  unfold Pipeline.afterTail₀
  after_reads_at
  have i1 : (i 1).val < 3 := (i 1).isLt
  have i2 : (i 2).val < 3072 := (i 2).isLt
  refine (congrFun ((Pipeline.withArrays_arr (cfgs 0).spec arrRef_inj c (V0 m c) (fun w => (dats m 0 c).arrAt w (cfgs 0).N) 3).trans (arr3 m c)) _).trans ?_
  refine Eq.trans ?_ (pad_p m c _ _ _)
  congr 1
  · exact Fin.ext (by show ((i 0).val * 8 + (5 + (i 1).val)) / 8 = (i 0).val; omega)
  · exact Fin.ext (by show ((i 0).val * 8 + (5 + (i 1).val)) % 8 = 5 + (i 1).val; omega)
  · exact Fin.ext (Nat.zero_add _)

/-- The convolution's history. -/
def hist (b : Fin 32) (q : Fin 3) (z : Fin 3072) : EReal := (m ((c : Thread nD τ).loc main_arg3) : S32x3x3072.Idx → EReal) (ix3 b q z)

/-- The convolution's input under its history, after the lines that follow the region. -/
theorem end_main_v9 : (Pipeline.afterTail₀ cfgs (dats m) 0 (V0 m) [hostOps1] c main_v9 : S32x11x3072.Idx → EReal)
    = up (hist m c) (arr m c) := by
  funext i
  obtain ⟨b, q, z, rfl⟩ := idx_ix3 i
  unfold Pipeline.afterTail₀ up hist
  after_reads_at
  refine dite_congr rfl (fun h => ?_) fun h => ?_
  · exact congrFun ((Pipeline.withArrays_of_ne _ c (V0 m c) (fun w => (dats m 0 c).arrAt w (cfgs 0).N) main_arg3 (by exact (by decide : ∀ w, Pipeline.arrRef spec0 w ≠ main_arg3))).trans (V_main_arg3 m c)) _
  · refine (congrFun ((Pipeline.withArrays_arr (cfgs 0).spec arrRef_inj c (V0 m c) (fun w => (dats m 0 c).arrAt w (cfgs 0).N) 3).trans (arr3 m c)) _).trans ?_
    refine Eq.trans ?_ (pad_p m c _ _ _)
    congr 1
    · exact Fin.ext (by show (b.val * 8 + (q.val - 3)) / 8 = b.val; omega)
    · exact Fin.ext (by show (b.val * 8 + (q.val - 3)) % 8 = q.val - 3; omega)
    · exact Fin.ext (Nat.zero_add _)

/-- The run ends with the results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v9) = up (hist m c) (arr m c)
      ∧ r.2.mem ((c.tc : Thread nD τ).loc main_v6) = (fun i : S32x8x1024.Idx => (arr m c).p (i 0) (i 1) ⟨3072 + (i 2).val, by have h := (i 2).isLt; change _ < 1024 at h; omega⟩)
      ∧ r.2.mem ((c.tc : Thread nD τ).loc main_v10) = (fun i : S32x8x16.Idx => (arr m c).p (i 0) (i 1) ⟨4096 + (i 2).val, by have h := (i 2).isLt; change _ < 16 at h; omega⟩)
      ∧ r.2.mem ((c.tc : Thread nD τ).loc main_v8) = (fun i : S32x3x3072.Idx => (arr m c).p (i 0) ⟨5 + (i 1).val, by have h := (i 1).isLt; change _ < 3 at h; omega⟩ ⟨0 + (i 2).val, by have h := (i 2).isLt; change _ < 3072 at h; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v9 (Pipeline.mem_restRefs_of main_v9 (by decide) (by decide))).trans (end_main_v9 m c),
    ((h.1 c).2 main_v6 (Pipeline.mem_restRefs_of main_v6 (by decide) (by decide))).trans (end_main_v6 m c),
    ((h.1 c).2 main_v10 (Pipeline.mem_restRefs_of main_v10 (by decide) (by decide))).trans (end_main_v10 m c),
    ((h.1 c).2 main_v8 (Pipeline.mem_restRefs_of main_v8 (by decide) (by decide))).trans (end_main_v8 m c), h.2 c⟩)
    (θ_run_and (run_main m ρ) (unchanged m ρ))

end Cert.Proj.Step.Gdn
-- ==== Proof.Proj.Step.Ref.lean ====
/- The reference's normalized rows on the sample group's shapes, times a projection's weight. -/
module

public import proofs.«01_k».proof.Proof.Gen.Reference7Ideal.Run
public import proofs.«01_k».proof.Proof.Proj.Ref

@[expose] public section
set_option maxRecDepth 16384
noncomputable section
namespace Cert.Proj.Step

open Idealize.ShloMosaic Idealize.ShloMosaic.TcCoe Idealize.ShloMosaic.Tactic
open Cert.Reference7Ideal Cert.Reference7Ideal.Gen Cert.Ffn

/-- The rows under the root mean square and the gain. -/
def norm {F : FTy → Type} [FloatOps F] (a : FVec F S32x8x1024 .f32) (g : FVec F S1024 .f32) : FVec F S32x8x1024 .f32 :=
  mulf (mulf a (broadcastInDim S32x8x1024 ![0, 1, 2] bcast_S32x8x1_S32x8x1024_0_1_2 (Host.rsqrt (addf
      (Host.divf (broadcastInDim S32x8x1 ![0, 1] bcast_S32x8_S32x8x1_0_1 (Host.reduceAdd (mulf a a) (constant S_ .f32 0x00000000#32) reducesTo_S32x8x1024_S32x8_d2 h_S_))
        (broadcastInDim S32x8x1 ![] bcast_S_S32x8x1 (constant S_ .f32 0x44800000#32)))
      (broadcastInDim S32x8x1 ![] bcast_S_S32x8x1 (constant S_ .f32 0x358637BD#32))))))
    (broadcastInDim S32x8x1024 ![0, 1, 2] bcast_S1x1x1024_S32x8x1024_0_1_2 (broadcastInDim S1x1x1024 ![2] bcast_S1024_S1x1x1024_2 g))

/-- A normalized row at an index. -/
theorem norm_apply (a : FVec Ideal S32x8x1024 .f32) (g : FVec Ideal S1024 .f32) (b : Fin 32) (t : Fin 8) (z : Fin 1024) :
    norm a g (ix3 b t z) = rms (fun k => a (ix3 b t k)) (fun k => g (ix1 k)) z := by
  unfold norm rms
  pointwise

/-- The normalized row times the weight is the projected row. -/
theorem norm_row {N : ℕ} (x : FVec Ideal S32x8x1024 .f32) (g : FVec Ideal S1024 .f32) (w : (⟨2, ![1024, N]⟩ : Shape).Idx → EReal)
    (y : (⟨3, ![32, 8, N]⟩ : Shape).Idx → EReal) (b : Fin 32) (t : Fin 8) (z : Fin N)
    (h : y (ix3 b t z) = ∑ k, norm (F := Ideal) x g (ix3 b t k) * w (ix2 k z)) : y (ix3 b t z) = (Arr.of x g w).p b t z := by
  rw [h]
  unfold Arr.p
  refine Finset.sum_congr rfl fun k _ => ?_
  rw [norm_apply]
  rfl

end Cert.Proj.Step
-- ==== Proof.Proj.Step.GdnClaim.lean ====
/- The gated delta rule's input projection of the sample group: the two programs' results are one function of the arguments. -/
module

public import proofs.«01_k».proof.Proof.Proj.Step.Gdn
public import proofs.«01_k».proof.Proof.Proj.Step.Ref
public import proofs.«01_k».proof.Proof.Gen.Reference7Ideal.Run
public import proofs.«01_k».proof.Defs
public import proofs.«01_k».proof.Proof.Gen.Kernel7.Frame

@[expose] public section
set_option maxRecDepth 16384
noncomputable section
namespace Cert.Proj.Step.Gdn

open Idealize.ShloMosaic Idealize.ShloMosaic.TcCoe Idealize.ShloMosaic.Tactic Idealize.SL.Sem

section Reference

open Cert.Reference7Ideal Cert.Reference7Ideal.Gen Cert.Reference7Ideal.Value

/-- The reference's projected rows. -/
def prod {F : FTy → Type} [FloatOps F] (x : FVec F S32x8x1024 .f32) (g : FVec F S1024 .f32) (w : FVec F S1024x4112 .f32) : FVec F S32x8x4112 .f32 :=
  Host.dotGeneral dot_S32x8x1024_S1024x4112_S32x8x4112_2_0_01_1_n_n none (Cert.Proj.Step.norm x g) w

variable (m : (ℓ : Loc nD τ sig) → Buf (Elt Ideal) ℓ) (c : Dev nD)

/-- The arguments the reference starts with. -/
def refArr : Arr 4112 32 8 := Arr.of (m ((c.tc : Thread nD τ).loc main_arg0)) (m ((c.tc : Thread nD τ).loc main_arg1)) (m ((c.tc : Thread nD τ).loc main_arg2))

/-- The projected rows of the reference's arguments. -/
def refProd : S32x8x4112.Idx → EReal := prod (F := Ideal) (m ((c.tc : Thread nD τ).loc main_arg0)) (m ((c.tc : Thread nD τ).loc main_arg1)) (m ((c.tc : Thread nD τ).loc main_arg2))

/-- Its rows are the formula's. -/
theorem prod_row (b : Fin 32) (t : Fin 8) (z : Fin 4112) : refProd m c (ix3 b t z) = (refArr m c).p b t z := by
  refine norm_row _ _ _ _ b t z ?_
  unfold refProd prod
  generalize Cert.Proj.Step.norm (F := Ideal) (m ((c.tc : Thread nD τ).loc main_arg0)) (m ((c.tc : Thread nD τ).loc main_arg1)) = h
  pointwise

/-- The history the reference starts with. -/
def refHist (b : Fin 32) (q : Fin 3) (z : Fin 3072) : EReal := (m ((c.tc : Thread nD τ).loc main_arg3) : S32x3x3072.Idx → EReal) (ix3 b q z)

/-- The convolution's input as the reference makes it. -/
def convIn {F : FTy → Type} [FloatOps F] (h : FVec F S32x3x3072 .f32) (y : FVec F S32x8x4112 .f32) : FVec F S32x11x3072 .f32 :=
  concatenate S32x11x3072 1 [⟨S32x3x3072, h⟩, ⟨S32x8x3072, extractStridedSlice S32x8x3072 ![0, 0, 0] y slices_S32x8x4112_S32x8x3072_0_0_0⟩] concatenates_S32x3x3072_S32x8x3072_S32x11x3072_d1

/-- The same at an index. -/
theorem convIn_apply (h : FVec Ideal S32x3x3072 .f32) (y : FVec Ideal S32x8x4112 .f32) (b : Fin 32) (q : Fin 11) (z : Fin 3072) :
    convIn (F := Ideal) h y (ix3 b q z) = if e : q.val < 3 then h (ix3 b ⟨q.val, e⟩ z) else y (ix3 b ⟨q.val - 3, by omega⟩ ⟨0 + z.val, by omega⟩) := by
  unfold convIn
  pointwise

/-- The reference's convolution input is the formula's. -/
theorem ref_in : convIn (F := Ideal) (m ((c.tc : Thread nD τ).loc main_arg3)) (refProd m c) = up (refHist m c) (refArr m c) := by
  funext i
  obtain ⟨b, q, z, rfl⟩ := idx_ix3 i
  rw [convIn_apply]
  unfold up refHist
  exact dite_congr rfl (fun _ => rfl) fun _ => prod_row m c b _ _

/-- The convolution's next state is the formula's last three rows. -/
theorem ref_conv : extractStridedSlice S32x3x3072 ![0, 8, 0] (convIn (F := Ideal) (m ((c.tc : Thread nD τ).loc main_arg3)) (refProd m c)) slices_S32x11x3072_S32x3x3072_0_8_0
    = fun i : S32x3x3072.Idx => (refArr m c).p (i 0) ⟨5 + (i 1).val, by have h := (i 1).isLt; change _ < 3 at h; omega⟩ ⟨0 + (i 2).val, by have h := (i 2).isLt; change _ < 3072 at h; omega⟩ := by
  funext i
  obtain ⟨b, q, z, rfl⟩ := idx_ix3 i
  have e (u : FVec Ideal S32x11x3072 .f32) : extractStridedSlice S32x3x3072 ![0, 8, 0] u slices_S32x11x3072_S32x3x3072_0_8_0 (ix3 b q z) = u (ix3 b ⟨8 + q.val, by omega⟩ z) := by
    pointwise
  rw [e, convIn_apply, dif_neg (by simp only; omega)]
  refine (prod_row m c b _ _).trans ?_
  exact congrArg (fun s => (refArr m c).p b s _) (Fin.ext (by show 8 + q.val - 3 = 5 + q.val; omega))

end Reference

/-- The reference's run ends quiet, its arguments unchanged. -/
theorem frame_ref : Cert.quiescent_Reference7Ideal := fun m ρ _ =>
  (θ_run Cert.Reference7Ideal.defs _ _).mono (fun r h => ⟨fun c => (h c).2.2.2.2, Idealize.ShloMosaic.sem_eq_zero_of_no_sems (by decide) r.2⟩) (Cert.Reference7Ideal.Value.run (F := Ideal) m ρ)

/-- The kernel's results are the reference's. -/
theorem algebraic : Cert.algebraic_Kernel7Ideal_Reference7Ideal := by
  intro m ρ m' ρ' _ hagree
  have e : ∀ c, refArr m' c = arr m c := fun c => by
    obtain ⟨e0, e1, e2, _⟩ := hagree c
    unfold refArr
    rw [e0, e1, e2]
    rfl
  have eh : ∀ c, refHist m' c = hist m c := fun c => by
    obtain ⟨_, _, _, e3⟩ := hagree c
    unfold refHist
    rw [e3]
    rfl
  refine ⟨_, _, _, _, run m ρ, ?_⟩
  refine (θ_run Cert.Reference7Ideal.defs _ _).mono (fun r h c => ?_) (Cert.Reference7Ideal.Value.run (F := Ideal) m' ρ')
  obtain ⟨r1, r2, r3, r4, rest⟩ := h c
  refine ⟨r1.trans (Eq.trans (ref_in m' c) ?_), r2.trans (Eq.trans (cols_fun (n := 1024) (o := 3072) (refArr m' c) (refProd m' c) (prod_row m' c) _ (by decide)) ?_), r3.trans (Eq.trans (cols_fun (n := 16) (o := 4096) (refArr m' c) (refProd m' c) (prod_row m' c) _ (by decide)) ?_), r4.trans (Eq.trans (ref_conv m' c) ?_), rest⟩
  · rw [e c, eh c]
  all_goals rw [e c]

end Cert.Proj.Step.Gdn
-- ==== Proof.Proj.Step.Qkv.Tile.lean ====
/- The attention layers' projection of the sample group over extended reals: what the tile of 256 rows computes, in either of the two calls. -/
module

public import proofs.«01_k».proof.Proof.Proj.Math
public import proofs.«01_k».proof.Proof.Gen.Kernel8Ideal.Frame
public import Idealize.ShloMosaic.Lib.Pointwise
public import Idealize.ShloMosaic.Lib.VecWindow
public import Idealize.ShloMosaic.Lib.Pipeline.ValueKit

@[expose] public section
set_option maxRecDepth 16384
noncomputable section
namespace Cert.Proj.Step.Qkv

open Idealize.ShloMosaic Idealize.ShloMosaic.TcCoe Idealize.ShloMosaic.Tactic
open Cert.Kernel8Ideal Cert.Kernel8Ideal.Gen Cert.Ffn

section Payloads

variable (x : FVec Ideal S256x1024 .f32) (g : FVec Ideal S1x1024 .f32) (w : FVec Ideal S1024x1024 .bf16)

/-- The tile's normalized rows. -/
theorem norm_apply (r : Fin 256) (z : Fin 1024) :
    k0_pay1 (F := Ideal) x g (ix2 r z) = rms (fun k => x (ix2 r k)) (fun k => g (ix2 0 k)) z := by
  unfold k0_pay1 rms
  pointwise

/-- The rows times 1024 columns of the weight. -/
def mm (r : Fin 256) (z : Fin 1024) : EReal := ∑ k, rms (fun k => x (ix2 r k)) (fun k => g (ix2 0 k)) k * w (ix2 k z)

/-- The queries' product. -/
theorem q_apply (r : Fin 256) (z : Fin 1024) : k0_pay2 (F := Ideal) x g w (ix2 r z) = mm x g w r z := by
  have e : k0_pay2 (F := Ideal) x g w (ix2 r z) = ∑ k, k0_pay1 (F := Ideal) x g (ix2 r k) * w (ix2 k z) := by
    unfold k0_pay2
    generalize k0_pay1 (F := Ideal) x g = h
    pointwise
  rw [e]
  simp only [norm_apply]
  rfl

/-- The keys' is the same operation, as a block of the stack. -/
theorem k_apply (r : Fin 256) (z : Fin 1024) : k0_pay3 (F := Ideal) x g w (ix3 0 r z) = mm x g w r z := by
  have e : k0_pay3 (F := Ideal) x g w (ix3 0 r z) = ∑ k, k0_pay1 (F := Ideal) x g (ix2 r k) * w (ix2 k z) := by
    unfold k0_pay3
    generalize k0_pay1 (F := Ideal) x g = h
    pointwise
  rw [e]
  simp only [norm_apply]
  rfl

/-- So is the values'. -/
theorem v_apply (r : Fin 256) (z : Fin 1024) : k0_pay4 (F := Ideal) x g w (ix3 0 r z) = mm x g w r z := k_apply x g w r z

end Payloads

/-- A read of a whole buffer. -/
theorem read_full {s : Shape} {e : EltTy} (M : Memref sig .tc .vmem s e) (hM : M.IsWhole) {off : Fin s.rank → ℕ} (h : ∀ a, off a + s.size a ≤ s.size a) (x : s.Idx → Elt Ideal e) :
    View.readAt (Elt Ideal) M.view (Rect.unit off s.size h).toLoadRect (hM.unread x) = x := by
  have h0 : off = fun _ => 0 := funext fun a => by have := h a; omega
  rw [View.readAt_eq_ld, hM.read_unread]
  exact View.ld_unit_zero (e := e) h0 h x

variable (V : (c : Dev nD) → (b : Ref sig .tc) → Buf (Elt Ideal) ((c : Thread nD τ).loc b)) (c : Dev nD)

section First
variable (t : Fin cfg0.N)

/-- The body's run at a point of the first call. -/
abbrev run0 := kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t)

/-- What it reads: the rows, the gain and 1024 columns of the weight. -/
def rx0 : Vec Ideal S256x1024 .f32 := View.readAt (Elt Ideal) (ms0_0 t).view (Rect.unit (s := S256x1024) ![0, 0] S256x1024.size inb_S256x1024_S256x1024_0_0).toLoadRect ((hs0_0 t).unread (iblk0 V c 0 t))
@[inherit_doc rx0] def rg0 : Vec Ideal S1x1024 .f32 := View.readAt (Elt Ideal) (ms0_1 t).view (Rect.unit (s := S1x1024) ![0, 0] S1x1024.size inb_S1x1024_S1x1024_0_0).toLoadRect ((hs0_1 t).unread (iblk0 V c 1 t))
@[inherit_doc rx0] def rw0 (o : ℕ) (ho : ∀ a, (![0, o] : Fin 2 → ℕ) a + S1024x1024.size a ≤ S1024x3072.size a) : Vec Ideal S1024x1024 .bf16 :=
  View.readAt (Elt Ideal) (ms0_2 t).view (Rect.unit (s := S1024x3072) ![0, o] S1024x1024.size ho).toLoadRect ((hs0_2 t).unread (iblk0 V c 2 t))

/-- The piece it stores of the queries. -/
theorem pcs0_3 : (run0 V c t).1 = [⟨Rect.unit (s := S256x1024) ![0, 0] S256x1024.size inb_S256x1024_S256x1024_0_0, k0_pay2 (rx0 V c t) (rg0 V c t) (rw0 V c t 0 inb_S1024x3072_S1024x1024_0_0)⟩] := by
  sl_kernel_rfl

/-- The piece it stores of the keys. -/
theorem pcs0_4 : (run0 V c t).2.1 = [⟨Rect.unit (s := S1x256x1024) ![0, 0, 0] S1x256x1024.size inb_S1x256x1024_S1x256x1024_0_0_0, k0_pay3 (rx0 V c t) (rg0 V c t) (rw0 V c t 1024 inb_S1024x3072_S1024x1024_0_1024)⟩] := by
  sl_kernel_rfl

/-- The piece it stores of the values. -/
theorem pcs0_5 : (run0 V c t).2.2.1 = [⟨Rect.unit (s := S1x256x1024) ![0, 0, 0] S1x256x1024.size inb_S1x256x1024_S1x256x1024_0_0_0, k0_pay4 (rx0 V c t) (rg0 V c t) (rw0 V c t 2048 inb_S1024x3072_S1024x1024_0_2048)⟩] := by
  sl_kernel_rfl

/-- The blocks a point of the first call reads. -/
abbrev x0 : S256x1024.Idx → EReal := iblk0 V c 0 t
@[inherit_doc x0] abbrev g0 : S1x1024.Idx → EReal := iblk0 V c 1 t
@[inherit_doc x0] abbrev w0 : S1024x3072.Idx → EReal := iblk0 V c 2 t

/-- The product a point computes, at a column of the weight. -/
def p0 (r : Fin 256) (z : Fin 3072) : EReal := ∑ k, rms (fun k => x0 V c t (ix2 r k)) (fun k => g0 V c t (ix2 0 k)) k * w0 V c t (ix2 k z)

theorem mm0 (o : ℕ) (ho : ∀ a, (![0, o] : Fin 2 → ℕ) a + S1024x1024.size a ≤ S1024x3072.size a) (h : o + 1024 ≤ 3072) (r : Fin 256) (z : Fin 1024) :
    mm (rx0 V c t) (rg0 V c t) (rw0 V c t o ho) r z = p0 V c t r ⟨o + z.val, by omega⟩ := by
  unfold mm p0 rx0 rg0 rw0
  rw [read_full, read_full, View.readAt_eq_ld, (hs0_2 t).read_unread]
  refine Finset.sum_congr rfl fun k _ => congrArg _ ?_
  exact ld_col (N := 3072) (n := 1024) (o := o) (e := .bf16) (w0 V c t) ho h k z

/-- The queries a point leaves. -/
theorem o0_3 (r : Fin 256) (z : Fin 1024) : (outsAt0 V c t).1 (ix2 r z) = p0 V c t r ⟨0 + z.val, by omega⟩ := by
  unfold outsAt0 out0_A_3
  dsimp only
  rw [View.read_writes_junk_eq_canon, pcs0_3, View.canon_unit_zero (by decide)]
  exact (q_apply _ _ _ r z).trans (mm0 V c t 0 _ (by decide) r z)

/-- The keys a point leaves. -/
theorem o0_4 (r : Fin 256) (z : Fin 1024) : (outsAt0 V c t).2.1 (ix3 0 r z) = p0 V c t r ⟨1024 + z.val, by omega⟩ := by
  unfold outsAt0 out0_A_4
  dsimp only
  rw [View.read_writes_junk_eq_canon, pcs0_4, View.canon_unit_zero (by decide)]
  exact (k_apply _ _ _ r z).trans (mm0 V c t 1024 _ (by decide) r z)

/-- The values a point leaves. -/
theorem o0_5 (r : Fin 256) (z : Fin 1024) : (outsAt0 V c t).2.2 (ix3 0 r z) = p0 V c t r ⟨2048 + z.val, by omega⟩ := by
  unfold outsAt0 out0_A_5
  dsimp only
  rw [View.read_writes_junk_eq_canon, pcs0_5, View.canon_unit_zero (by decide)]
  exact (v_apply _ _ _ r z).trans (mm0 V c t 2048 _ (by decide) r z)

end First

section Second
variable (t : Fin cfg1.N)

/-- The body's run at a point of the second call. -/
abbrev run1 := kernelRun1_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t)

/-- What it reads: the rows, the gain and 1024 columns of the weight. -/
def rx1 : Vec Ideal S256x1024 .f32 := View.readAt (Elt Ideal) (ms1_0 t).view (Rect.unit (s := S256x1024) ![0, 0] S256x1024.size inb_S256x1024_S256x1024_0_0).toLoadRect ((hs1_0 t).unread (iblk1 V c 0 t))
@[inherit_doc rx1] def rg1 : Vec Ideal S1x1024 .f32 := View.readAt (Elt Ideal) (ms1_1 t).view (Rect.unit (s := S1x1024) ![0, 0] S1x1024.size inb_S1x1024_S1x1024_0_0).toLoadRect ((hs1_1 t).unread (iblk1 V c 1 t))
@[inherit_doc rx1] def rw1 (o : ℕ) (ho : ∀ a, (![0, o] : Fin 2 → ℕ) a + S1024x1024.size a ≤ S1024x3072.size a) : Vec Ideal S1024x1024 .bf16 :=
  View.readAt (Elt Ideal) (ms1_2 t).view (Rect.unit (s := S1024x3072) ![0, o] S1024x1024.size ho).toLoadRect ((hs1_2 t).unread (iblk1 V c 2 t))

/-- The piece it stores of the queries. -/
theorem pcs1_3 : (run1 V c t).1 = [⟨Rect.unit (s := S256x1024) ![0, 0] S256x1024.size inb_S256x1024_S256x1024_0_0, k1_pay2 (rx1 V c t) (rg1 V c t) (rw1 V c t 0 inb_S1024x3072_S1024x1024_0_0)⟩] := by
  sl_kernel_rfl

/-- The piece it stores of the keys. -/
theorem pcs1_4 : (run1 V c t).2.1 = [⟨Rect.unit (s := S1x256x1024) ![0, 0, 0] S1x256x1024.size inb_S1x256x1024_S1x256x1024_0_0_0, k1_pay3 (rx1 V c t) (rg1 V c t) (rw1 V c t 1024 inb_S1024x3072_S1024x1024_0_1024)⟩] := by
  sl_kernel_rfl

/-- The piece it stores of the values. -/
theorem pcs1_5 : (run1 V c t).2.2.1 = [⟨Rect.unit (s := S1x256x1024) ![0, 0, 0] S1x256x1024.size inb_S1x256x1024_S1x256x1024_0_0_0, k1_pay4 (rx1 V c t) (rg1 V c t) (rw1 V c t 2048 inb_S1024x3072_S1024x1024_0_2048)⟩] := by
  sl_kernel_rfl

/-- The blocks a point of the second call reads. -/
abbrev x1 : S256x1024.Idx → EReal := iblk1 V c 0 t
@[inherit_doc x1] abbrev g1 : S1x1024.Idx → EReal := iblk1 V c 1 t
@[inherit_doc x1] abbrev w1 : S1024x3072.Idx → EReal := iblk1 V c 2 t

/-- The product a point computes, at a column of the weight. -/
def p1 (r : Fin 256) (z : Fin 3072) : EReal := ∑ k, rms (fun k => x1 V c t (ix2 r k)) (fun k => g1 V c t (ix2 0 k)) k * w1 V c t (ix2 k z)

theorem mm1 (o : ℕ) (ho : ∀ a, (![0, o] : Fin 2 → ℕ) a + S1024x1024.size a ≤ S1024x3072.size a) (h : o + 1024 ≤ 3072) (r : Fin 256) (z : Fin 1024) :
    mm (rx1 V c t) (rg1 V c t) (rw1 V c t o ho) r z = p1 V c t r ⟨o + z.val, by omega⟩ := by
  unfold mm p1 rx1 rg1 rw1
  rw [read_full, read_full, View.readAt_eq_ld, (hs1_2 t).read_unread]
  refine Finset.sum_congr rfl fun k _ => congrArg _ ?_
  exact ld_col (N := 3072) (n := 1024) (o := o) (e := .bf16) (w1 V c t) ho h k z

/-- The queries a point leaves. -/
theorem o1_3 (r : Fin 256) (z : Fin 1024) : (outsAt1 V c t).1 (ix2 r z) = p1 V c t r ⟨0 + z.val, by omega⟩ := by
  unfold outsAt1 out1_A_3
  dsimp only
  rw [View.read_writes_junk_eq_canon, pcs1_3, View.canon_unit_zero (by decide)]
  exact (q_apply _ _ _ r z).trans (mm1 V c t 0 _ (by decide) r z)

/-- The keys a point leaves. -/
theorem o1_4 (r : Fin 256) (z : Fin 1024) : (outsAt1 V c t).2.1 (ix3 0 r z) = p1 V c t r ⟨1024 + z.val, by omega⟩ := by
  unfold outsAt1 out1_A_4
  dsimp only
  rw [View.read_writes_junk_eq_canon, pcs1_4, View.canon_unit_zero (by decide)]
  exact (k_apply _ _ _ r z).trans (mm1 V c t 1024 _ (by decide) r z)

/-- The values a point leaves. -/
theorem o1_5 (r : Fin 256) (z : Fin 1024) : (outsAt1 V c t).2.2 (ix3 0 r z) = p1 V c t r ⟨2048 + z.val, by omega⟩ := by
  unfold outsAt1 out1_A_5
  dsimp only
  rw [View.read_writes_junk_eq_canon, pcs1_5, View.canon_unit_zero (by decide)]
  exact (v_apply _ _ _ r z).trans (mm1 V c t 2048 _ (by decide) r z)

end Second

end Cert.Proj.Step.Qkv
-- ==== Proof.Proj.Step.Qkv.Kernel.lean ====
/- The attention layers' projection of the sample group: what the run of its two calls leaves in the results. -/
module

public import proofs.«01_k».proof.Proof.Proj.Step.Qkv.Tile
public import Idealize.ShloMosaic.Lib.StableHlo.ReadAt
public import Idealize.ShloMosaic.Lib.Claim
public import Idealize.ShloMosaic.Lib.Pipeline.ValueKit.Partial

@[expose] public section
set_option maxRecDepth 16384
noncomputable section
namespace Cert.Proj.Step.Qkv

open Idealize.ShloMosaic Idealize.ShloMosaic.TcCoe Idealize.ShloMosaic.Tactic Idealize.SL.Sem
open Cert.Kernel8Ideal Cert.Kernel8Ideal.Gen Cert.Ffn

section Forms

variable (A : Arr 3072 32 8) (o : ℕ) (ho : o + 1024 ≤ 3072)

/-- 1024 of the product's columns, the sequences' rows in one. -/
def rows (i : S256x1024.Idx) : EReal :=
  A.p ⟨(i 0).val / 8, by have h := (i 0).isLt; change _ < 256 at h; omega⟩ ⟨(i 0).val % 8, Nat.mod_lt _ (by decide)⟩
    ⟨o + (i 1).val, by have h := (i 1).isLt; change _ < 1024 at h; omega⟩

/-- The same in one of the two layers' places. -/
def cols (i : S2x256x1024.Idx) : EReal := rows A o ho (ix2 (i 1) (i 2))

/-- The tile's entry is the array's. -/
theorem rows_at (r : Fin 256) (z : Fin 1024) (i : S256x1024.Idx) (h0 : (i 0).val = r.val) (h1 : (i 1).val = z.val) :
    A.p ⟨r.val / 8, by omega⟩ ⟨r.val % 8, Nat.mod_lt _ (by decide)⟩ ⟨o + z.val, by omega⟩ = rows A o ho i := by
  unfold rows
  congr 1
  · exact Fin.ext (by show r.val / 8 = (i 0).val / 8; omega)
  · exact Fin.ext (by show r.val % 8 = (i 0).val % 8; omega)
  · exact Fin.ext (by show o + z.val = o + (i 1).val; omega)

/-- The tile's entry is the stack's. -/
theorem cols_at (r : Fin 256) (z : Fin 1024) (i : S2x256x1024.Idx) (h1 : (i 1).val = r.val) (h2 : (i 2).val = z.val) :
    A.p ⟨r.val / 8, by omega⟩ ⟨r.val % 8, Nat.mod_lt _ (by decide)⟩ ⟨o + z.val, by omega⟩ = cols A o ho i :=
  rows_at A o ho r z _ h1 h2

end Forms

variable (m : (ℓ : Loc nD τ sig) → Buf (Elt Ideal) ℓ) (ρ : Dev nD → PrngReg) (c : Dev nD)

/-- The first layer's arguments as device `c` holds them. -/
def arr0 : Arr 3072 32 8 where
  x b t z := (m ((c : Thread nD τ).loc main_arg0) : S32x8x1024.Idx → EReal) (ix3 b t z)
  g z := (m ((c : Thread nD τ).loc main_arg1) : S1024.Idx → EReal) (ix1 z)
  w k z := (m ((c : Thread nD τ).loc main_arg2) : S1024x3072.Idx → EReal) (ix2 k z)

/-- The second layer's. -/
def arr1 : Arr 3072 32 8 where
  x b t z := (m ((c : Thread nD τ).loc main_arg3) : S32x8x1024.Idx → EReal) (ix3 b t z)
  g z := (m ((c : Thread nD τ).loc main_arg4) : S1024.Idx → EReal) (ix1 z)
  w k z := (m ((c : Thread nD τ).loc main_arg5) : S1024x3072.Idx → EReal) (ix2 k z)

/-- The first layer's activations' rows, all sequences in one. -/
theorem V1_x (b : Fin 32) (t : Fin 8) (z : Fin 1024) : (V1 m ρ c main_v2 : S256x1024.Idx → EReal) (ix2 ⟨8 * b.val + t.val, by omega⟩ z) = (arr0 m c).x b t z := by
  unfold arr0
  after_reads_at

/-- Its gain as a row. -/
theorem V1_g (z : Fin 1024) : (V1 m ρ c main_v4 : S1x1024.Idx → EReal) (ix2 0 z) = (arr0 m c).g z := by
  unfold arr0
  after_reads_at

/-- Its weight. -/
theorem V1_w (k : Fin 1024) (z : Fin 3072) : (V1 m ρ c main_v3 : S1024x3072.Idx → EReal) (ix2 k z) = (arr0 m c).w k z := by
  unfold arr0
  after_reads_at

/-- The second layer's activations' rows, all sequences in one. -/
theorem V3_x (b : Fin 32) (t : Fin 8) (z : Fin 1024) : (V3 m ρ c main_v6 : S256x1024.Idx → EReal) (ix2 ⟨8 * b.val + t.val, by omega⟩ z) = (arr1 m c).x b t z := by
  refine Eq.trans ?_ (congrFun (W2_args m ρ c main_arg3 (by decide)) (ix3 b t z))
  after_reads_at

/-- Its gain as a row. -/
theorem V3_g (z : Fin 1024) : (V3 m ρ c main_v8 : S1x1024.Idx → EReal) (ix2 0 z) = (arr1 m c).g z := by
  refine Eq.trans ?_ (congrFun (W2_args m ρ c main_arg4 (by decide)) (ix1 z))
  after_reads_at

/-- Its weight. -/
theorem V3_w (k : Fin 1024) (z : Fin 3072) : (V3 m ρ c main_v7 : S1024x3072.Idx → EReal) (ix2 k z) = (arr1 m c).w k z := by
  refine Eq.trans ?_ (congrFun (W2_args m ρ c main_arg5 (by decide)) (ix2 k z))
  after_reads_at

/-- The first call's block indices. -/
theorem idx0 : ∀ t : Fin cfg0.N, (win0_0.index t = ![0, 0] ∧ win0_1.index t = ![0, 0] ∧ win0_2.index t = ![0, 0])
    ∧ win0_3.index t = ![0, 0] ∧ win0_4.index t = ![0, 0, 0] ∧ win0_5.index t = ![0, 0, 0] := by decide +kernel

/-- The second call's. -/
theorem idx1 : ∀ t : Fin cfg1.N, (win1_0.index t = ![0, 0] ∧ win1_1.index t = ![0, 0] ∧ win1_2.index t = ![0, 0])
    ∧ win1_3.index t = ![0, 0] ∧ win1_4.index t = ![1, 0, 0] ∧ win1_5.index t = ![1, 0, 0] := by decide +kernel

/-- A point's product is the first layer's. -/
theorem p0_eq (t : Fin cfg0.N) (r : Fin 256) (z : Fin 3072) :
    p0 (V1 m ρ) c t r z = (arr0 m c).p ⟨r.val / 8, by omega⟩ ⟨r.val % 8, Nat.mod_lt _ (by decide)⟩ z := by
  have hx (k : Fin 1024) : x0 (V1 m ρ) c t (ix2 r k) = (arr0 m c).x ⟨r.val / 8, by omega⟩ ⟨r.val % 8, Nat.mod_lt _ (by decide)⟩ k := by
    refine Eq.trans ?_ (V1_x m ρ c _ _ k)
    blk_ext [iblk0, (idx0 t).1.1]
  have hg (k : Fin 1024) : g0 (V1 m ρ) c t (ix2 0 k) = (arr0 m c).g k := by
    refine Eq.trans ?_ (V1_g m ρ c k)
    blk_ext [iblk0, (idx0 t).1.2.1]
  have hw (k : Fin 1024) : w0 (V1 m ρ) c t (ix2 k z) = (arr0 m c).w k z := by
    refine Eq.trans ?_ (V1_w m ρ c k z)
    blk_ext [iblk0, (idx0 t).1.2.2]
  unfold p0 Arr.p
  simp only [hx, hg, hw]

/-- The first layer's queries, after the run. -/
theorem end0_3 : (dat0 (V1 m ρ) c).arrAt 3 cfg0.N = rows (arr0 m c) 0 (by decide) := by
  refine (dat0 (V1 m ρ) c).arrAt_eq_of_covers 3 _ (by decide +kernel) fun t hf y => ?_
  blk_simp
  rw [after0_3]
  have hy : y = (ix2 (y 0) (y 1) : S256x1024.Idx) := by
    funext a
    fin_cases a <;> rfl
  refine (congrArg _ hy).trans ((o0_3 (V1 m ρ) c t (y 0) (y 1)).trans ((p0_eq m ρ c t _ _).trans (rows_at _ _ _ (y 0) (y 1) _ ?_ ?_)))
  · blk_simp
    rw [(idx0 t).2.1]; simp
  · blk_simp
    rw [(idx0 t).2.1]; simp

/-- A point's product is the second layer's. -/
theorem p1_eq (t : Fin cfg1.N) (r : Fin 256) (z : Fin 3072) :
    p1 (V3 m ρ) c t r z = (arr1 m c).p ⟨r.val / 8, by omega⟩ ⟨r.val % 8, Nat.mod_lt _ (by decide)⟩ z := by
  have hx (k : Fin 1024) : x1 (V3 m ρ) c t (ix2 r k) = (arr1 m c).x ⟨r.val / 8, by omega⟩ ⟨r.val % 8, Nat.mod_lt _ (by decide)⟩ k := by
    refine Eq.trans ?_ (V3_x m ρ c _ _ k)
    blk_ext [iblk1, (idx1 t).1.1]
  have hg (k : Fin 1024) : g1 (V3 m ρ) c t (ix2 0 k) = (arr1 m c).g k := by
    refine Eq.trans ?_ (V3_g m ρ c k)
    blk_ext [iblk1, (idx1 t).1.2.1]
  have hw (k : Fin 1024) : w1 (V3 m ρ) c t (ix2 k z) = (arr1 m c).w k z := by
    refine Eq.trans ?_ (V3_w m ρ c k z)
    blk_ext [iblk1, (idx1 t).1.2.2]
  unfold p1 Arr.p
  simp only [hx, hg, hw]

/-- The second layer's queries, after the run. -/
theorem end1_3 : (dat1 (V3 m ρ) c).arrAt 3 cfg1.N = rows (arr1 m c) 0 (by decide) := by
  refine (dat1 (V3 m ρ) c).arrAt_eq_of_covers 3 _ (by decide +kernel) fun t hf y => ?_
  blk_simp
  rw [after1_3]
  have hy : y = (ix2 (y 0) (y 1) : S256x1024.Idx) := by
    funext a
    fin_cases a <;> rfl
  refine (congrArg _ hy).trans ((o1_3 (V3 m ρ) c t (y 0) (y 1)).trans ((p1_eq m ρ c t _ _).trans (rows_at _ _ _ (y 0) (y 1) _ ?_ ?_)))
  · blk_simp
    rw [(idx1 t).2.1]; simp
  · blk_simp
    rw [(idx1 t).2.1]; simp

/-- The keys in the first layer's place, after the first call. -/
theorem end0_4 (i : S2x256x1024.Idx) (hi : (i 0).val = 0) : (dat0 (V1 m ρ) c).arrAt 4 cfg0.N i = cols (arr0 m c) 1024 (by decide) i := by
  have h : (dat0 (V1 m ρ) c).arrAt 4 cfg0.N = fun i : S2x256x1024.Idx => if (i 0).val / 1 = 0 then cols (arr0 m c) 1024 (by decide) i else (dat0 (V1 m ρ) c).A 4 i :=
    (dat0 (V1 m ρ) c).arrAt_eq_of_coversWhere 4 (cols (arr0 m c) 1024 (by decide)) (fun β => β (0 : Fin 3) = 0) (by decide +kernel) (fun t hf y => by
    blk_simp
    rw [after0_4]
    have h0 : (y 0).val < 1 := (y 0).isLt
    have hy : y = (ix3 0 (y 1) (y 2) : S1x256x1024.Idx) := by
      funext a
      match a with
      | ⟨0, _⟩ => exact Fin.ext (by show (y 0).val = 0; omega)
      | ⟨1, _⟩ => rfl
      | ⟨2, _⟩ => rfl
    refine (congrArg _ hy).trans ((o0_4 (V1 m ρ) c t (y 1) (y 2)).trans ((p0_eq m ρ c t _ _).trans (cols_at _ _ _ (y 1) (y 2) _ ?_ ?_)))
    · blk_simp
      rw [(idx0 t).2.2.1]; simp
    · blk_simp
      rw [(idx0 t).2.2.1]; simp) (fun j => Iff.rfl)
  refine (congrFun h i).trans (if_pos ?_)
  show (i 0).val / 1 = 0
  omega

/-- The keys after the second call: its own in the second layer's place, what was there before in the first's. -/
theorem end1_4 : (dat1 (V3 m ρ) c).arrAt 4 cfg1.N
    = fun i : S2x256x1024.Idx => if (i 0).val / 1 = 1 then cols (arr1 m c) 1024 (by decide) i else (dat1 (V3 m ρ) c).A 4 i := by
  refine (dat1 (V3 m ρ) c).arrAt_eq_of_coversWhere 4 _ (fun β => β (0 : Fin 3) = 1) (by decide +kernel) (fun t hf y => ?_) (fun j => Iff.rfl)
  blk_simp
  rw [after1_4]
  have h0 : (y 0).val < 1 := (y 0).isLt
  have hy : y = (ix3 0 (y 1) (y 2) : S1x256x1024.Idx) := by
    funext a
    match a with
    | ⟨0, _⟩ => exact Fin.ext (by show (y 0).val = 0; omega)
    | ⟨1, _⟩ => rfl
    | ⟨2, _⟩ => rfl
  refine (congrArg _ hy).trans ((o1_4 (V3 m ρ) c t (y 1) (y 2)).trans ((p1_eq m ρ c t _ _).trans (cols_at _ _ _ (y 1) (y 2) _ ?_ ?_)))
  · blk_simp
    rw [(idx1 t).2.2.1]; simp
  · blk_simp
    rw [(idx1 t).2.2.1]; simp

/-- The values in the first layer's place, after the first call. -/
theorem end0_5 (i : S2x256x1024.Idx) (hi : (i 0).val = 0) : (dat0 (V1 m ρ) c).arrAt 5 cfg0.N i = cols (arr0 m c) 2048 (by decide) i := by
  have h : (dat0 (V1 m ρ) c).arrAt 5 cfg0.N = fun i : S2x256x1024.Idx => if (i 0).val / 1 = 0 then cols (arr0 m c) 2048 (by decide) i else (dat0 (V1 m ρ) c).A 5 i :=
    (dat0 (V1 m ρ) c).arrAt_eq_of_coversWhere 5 (cols (arr0 m c) 2048 (by decide)) (fun β => β (0 : Fin 3) = 0) (by decide +kernel) (fun t hf y => by
    blk_simp
    rw [after0_5]
    have h0 : (y 0).val < 1 := (y 0).isLt
    have hy : y = (ix3 0 (y 1) (y 2) : S1x256x1024.Idx) := by
      funext a
      match a with
      | ⟨0, _⟩ => exact Fin.ext (by show (y 0).val = 0; omega)
      | ⟨1, _⟩ => rfl
      | ⟨2, _⟩ => rfl
    refine (congrArg _ hy).trans ((o0_5 (V1 m ρ) c t (y 1) (y 2)).trans ((p0_eq m ρ c t _ _).trans (cols_at _ _ _ (y 1) (y 2) _ ?_ ?_)))
    · blk_simp
      rw [(idx0 t).2.2.2]; simp
    · blk_simp
      rw [(idx0 t).2.2.2]; simp) (fun j => Iff.rfl)
  refine (congrFun h i).trans (if_pos ?_)
  show (i 0).val / 1 = 0
  omega

/-- The values after the second call: its own in the second layer's place, what was there before in the first's. -/
theorem end1_5 : (dat1 (V3 m ρ) c).arrAt 5 cfg1.N
    = fun i : S2x256x1024.Idx => if (i 0).val / 1 = 1 then cols (arr1 m c) 2048 (by decide) i else (dat1 (V3 m ρ) c).A 5 i := by
  refine (dat1 (V3 m ρ) c).arrAt_eq_of_coversWhere 5 _ (fun β => β (0 : Fin 3) = 1) (by decide +kernel) (fun t hf y => ?_) (fun j => Iff.rfl)
  blk_simp
  rw [after1_5]
  have h0 : (y 0).val < 1 := (y 0).isLt
  have hy : y = (ix3 0 (y 1) (y 2) : S1x256x1024.Idx) := by
    funext a
    match a with
    | ⟨0, _⟩ => exact Fin.ext (by show (y 0).val = 0; omega)
    | ⟨1, _⟩ => rfl
    | ⟨2, _⟩ => rfl
  refine (congrArg _ hy).trans ((o1_5 (V3 m ρ) c t (y 1) (y 2)).trans ((p1_eq m ρ c t _ _).trans (cols_at _ _ _ (y 1) (y 2) _ ?_ ?_)))
  · blk_simp
    rw [(idx1 t).2.2.2]; simp
  · blk_simp
    rw [(idx1 t).2.2.2]; simp

end Cert.Proj.Step.Qkv
-- ==== Proof.Proj.Step.Qkv.Run.lean ====
/- The attention layers' projection of the sample group: the run of both calls, with every result and the arguments unchanged. -/
module

public import proofs.«01_k».proof.Proof.Proj.Step.Qkv.Kernel

@[expose] public section
set_option maxRecDepth 16384
noncomputable section
namespace Cert.Proj.Step.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen Cert.Ffn

/-- 1024 of a product's columns, sequence by sequence. -/
def outRows (A : Arr 3072 32 8) (o : ℕ) (ho : o + 1024 ≤ 3072) (i : S32x8x1024.Idx) : EReal :=
  A.p (i 0) (i 1) ⟨o + (i 2).val, by have h := (i 2).isLt; change _ < 1024 at h; omega⟩

/-- Both layers' product, head by head. -/
def outHeads (A B : Arr 3072 32 8) (o : ℕ) (ho : o + 1024 ≤ 3072) (i : S2x32x8x16x64.Idx) : EReal :=
  (if (i 0).val = 1 then B else A).p (i 1) (i 2)
    ⟨o + ((i 3).val * 64 + (i 4).val), by have h := (i 3).isLt; have h' := (i 4).isLt; change _ < 16 at h; change _ < 64 at h'; omega⟩

variable (m : (ℓ : Loc nD τ sig) → Buf (Elt Ideal) ℓ) (ρ : Dev nD → PrngReg) (c : Dev nD)

/-- Rows numbered through all sequences are the sequences' rows. -/
theorem rows_out (A : Arr 3072 32 8) (o : ℕ) (ho : o + 1024 ≤ 3072) (i : S32x8x1024.Idx) (j : S256x1024.Idx)
    (h0 : (j 0).val = (i 0).val * 8 + (i 1).val) (h1 : (j 1).val = (i 2).val) : rows A o ho j = outRows A o ho i := by
  have i1 : (i 1).val < 8 := (i 1).isLt
  unfold rows outRows
  congr 1
  · exact Fin.ext (by show (j 0).val / 8 = (i 0).val; omega)
  · exact Fin.ext (by show (j 0).val % 8 = (i 1).val; omega)
  · exact Fin.ext (by show o + (j 1).val = o + (i 2).val; omega)

/-- The first layer's queries at the end. -/
theorem W5_q0 : (W5 m ρ c (Proc.devRef .tc main_v10) : S32x8x1024.Idx → EReal) = outRows (arr0 m c) 0 (by decide) := by
  funext i
  have e : W4 m ρ c (Proc.devRef .tc main_v5_0) = rows (arr0 m c) 0 (by decide) :=
    (W4_of_ne m ρ c main_v5_0 (by decide)).trans ((W3_of m ρ c main_v5_0 (by decide)).trans ((W2_arr m ρ c 3).trans (end0_3 m ρ c)))
  after_reads_at
  exact (congrFun e _).trans (rows_out _ _ _ i _ rfl rfl)

/-- The second layer's queries at the end. -/
theorem W5_q1 : (W5 m ρ c (Proc.devRef .tc main_v11) : S32x8x1024.Idx → EReal) = outRows (arr1 m c) 0 (by decide) := by
  funext i
  have e : W4 m ρ c (Proc.devRef .tc main_v9_0) = rows (arr1 m c) 0 (by decide) := (W4_arr m ρ c 3).trans (end1_3 m ρ c)
  after_reads_at
  exact (congrFun e _).trans (rows_out _ _ _ i _ rfl rfl)

/-- What the second call finds where the keys go: what the first left. -/
theorem A4 : (dat1 (V3 m ρ) c).A 4 = (dat0 (V1 m ρ) c).arrAt 4 cfg0.N := by
  refine (A_eq1 (V3 m ρ) c 4).trans (Eq.trans ?_ (W2_arr m ρ c 4))
  after_results_simp <;> rfl

/-- The same of the values. -/
theorem A5 : (dat1 (V3 m ρ) c).A 5 = (dat0 (V1 m ρ) c).arrAt 5 cfg0.N := by
  refine (A_eq1 (V3 m ρ) c 5).trans (Eq.trans ?_ (W2_arr m ρ c 5))
  after_results_simp <;> rfl

/-- The places of a head's columns. -/
theorem cols_out (A B : Arr 3072 32 8) (o : ℕ) (ho : o + 1024 ≤ 3072) (i : S2x32x8x16x64.Idx) (j : S2x256x1024.Idx)
    (h0 : (j 0).val = (i 0).val) (h1 : (j 1).val = (i 1).val * 8 + (i 2).val) (h2 : (j 2).val = (i 3).val * 64 + (i 4).val)
    (v : S2x256x1024.Idx → EReal) (hv : ∀ j, (j 0).val = 0 → v j = cols A o ho j) :
    (if (j 0).val / 1 = 1 then cols B o ho j else v j) = outHeads A B o ho i := by
  have i0 : (i 0).val < 2 := (i 0).isLt
  have i2 : (i 2).val < 8 := (i 2).isLt
  have e (C : Arr 3072 32 8) : cols C o ho j = C.p (i 1) (i 2)
      ⟨o + ((i 3).val * 64 + (i 4).val), by have h := (i 3).isLt; have h' := (i 4).isLt; change _ < 16 at h; change _ < 64 at h'; omega⟩ := by
    unfold cols rows
    congr 1
    · exact Fin.ext (by show (j 1).val / 8 = (i 1).val; omega)
    · exact Fin.ext (by show (j 1).val % 8 = (i 2).val; omega)
    · exact Fin.ext (by show o + (j 2).val = o + ((i 3).val * 64 + (i 4).val); omega)
  unfold outHeads
  by_cases h : (i 0).val = 1
  · rw [if_pos (by omega), if_pos h, e]
  · rw [if_neg (by omega), if_neg h, hv j (by omega), e]

/-- Both layers' keys at the end, head by head. -/
theorem W5_k : (W5 m ρ c (Proc.devRef .tc main_v12) : S2x32x8x16x64.Idx → EReal) = outHeads (arr0 m c) (arr1 m c) 1024 (by decide) := by
  funext i
  have e := (W4_arr m ρ c 4).trans (end1_4 m ρ c)
  after_reads_at
  refine (congrFun e _).trans (cols_out _ _ _ _ i _ ?_ ?_ ?_ _ fun j hj => (congrFun (A4 m ρ c) j).trans (end0_4 m ρ c j hj))
  all_goals rfl

/-- Both layers' values at the end, head by head. -/
theorem W5_v : (W5 m ρ c (Proc.devRef .tc main_v13) : S2x32x8x16x64.Idx → EReal) = outHeads (arr0 m c) (arr1 m c) 2048 (by decide) := by
  funext i
  have e := (W4_arr m ρ c 5).trans (end1_5 m ρ c)
  after_reads_at
  refine (congrFun e _).trans (cols_out _ _ _ _ i _ ?_ ?_ ?_ _ fun j hj => (congrFun (A5 m ρ c) j).trans (end0_5 m ρ c j hj))
  all_goals rfl

set_option backward.isDefEq.respectTransparency.types false in
/-- What the run leaves in every buffer of a device: the contents after the last host line. -/
theorem run_all : θ_run defs (onTc (τ := τ) (main (F := Ideal))) ⟨m, fun _ => 0, ρ⟩ (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The run ends with the results, its arguments unchanged. -/
theorem run : θ_run defs (onTc (τ := τ) (main (F := Ideal))) ⟨m, fun _ => 0, ρ⟩ (fun r => ∀ c : Dev nD,
      r.2.mem ((c.tc : Thread nD τ).loc main_v10) = outRows (arr0 m c) 0 (by decide)
      ∧ r.2.mem ((c.tc : Thread nD τ).loc main_v11) = outRows (arr1 m c) 0 (by decide)
      ∧ r.2.mem ((c.tc : Thread nD τ).loc main_v12) = outHeads (arr0 m c) (arr1 m c) 1024 (by decide)
      ∧ r.2.mem ((c.tc : Thread nD τ).loc main_v13) = outHeads (arr0 m c) (arr1 m c) 2048 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v10 (by decide))).trans (W5_q0 m ρ c),
    (h c _ (mem_uc main_v11 (by decide))).trans (W5_q1 m ρ c),
    (h c _ (mem_uc main_v12 (by decide))).trans (W5_k m ρ c),
    (h c _ (mem_uc main_v13 (by decide))).trans (W5_v m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c)⟩)
    (run_all m ρ)

end Cert.Proj.Step.Qkv
-- ==== Proof.Proj.Step.Qkv.Claim.lean ====
/- The attention layers' projection of the sample group: the two programs' results are one function of the arguments. -/
module

public import proofs.«01_k».proof.Proof.Proj.Step.Qkv.Run
public import proofs.«01_k».proof.Proof.Proj.Step.Ref
public import proofs.«01_k».proof.Proof.Gen.Reference8Ideal.Run
public import proofs.«01_k».proof.Defs
public import proofs.«01_k».proof.Proof.Gen.Kernel8.Frame

@[expose] public section
set_option maxRecDepth 16384
noncomputable section
namespace Cert.Proj.Step.Qkv

open Idealize.ShloMosaic Idealize.ShloMosaic.TcCoe Idealize.ShloMosaic.Tactic Idealize.SL.Sem

section Reference

open Cert.Reference8Ideal Cert.Reference8Ideal.Gen Cert.Reference8Ideal.Value

/-- The reference's projected rows. -/
def prod {F : FTy → Type} [FloatOps F] (x : FVec F S32x8x1024 .f32) (g : FVec F S1024 .f32) (w : FVec F S1024x3072 .f32) : FVec F S32x8x3072 .f32 :=
  Host.dotGeneral dot_S32x8x1024_S1024x3072_S32x8x3072_2_0_01_1_n_n none (Cert.Proj.Step.norm x g) w

/-- Its rows are the formula's. -/
theorem prod_row (x : FVec Ideal S32x8x1024 .f32) (g : FVec Ideal S1024 .f32) (w : FVec Ideal S1024x3072 .f32) (b : Fin 32) (t : Fin 8) (z : Fin 3072) :
    prod (F := Ideal) x g w (ix3 b t z) = (Arr.of x g w).p b t z := by
  refine norm_row _ _ _ _ b t z ?_
  unfold prod
  generalize Cert.Proj.Step.norm (F := Ideal) x g = h
  pointwise

/-- One layer's heads as the reference makes them: to heads first, and back. -/
def heads {F : FTy → Type} [FloatOps F] (y : FVec F S32x8x1024 .f32) : FVec F S1x32x8x16x64 .f32 :=
  broadcastInDim S1x32x8x16x64 ![1, 2, 3, 4] bcast_S32x8x16x64_S1x32x8x16x64_1_2_3_4 (transpose S32x8x16x64 [0, 2, 1, 3] (transpose S32x16x8x64 [0, 2, 1, 3]
    (shapeCast _ y shapeCasts_S32x8x1024_S32x8x16x64) transposes_S32x8x16x64_S32x16x8x64_0_2_1_3) transposes_S32x16x8x64_S32x8x16x64_0_2_1_3)

/-- They're the columns, head by head. -/
theorem heads_apply (y : FVec Ideal S32x8x1024 .f32) (l : Fin 1) (b : Fin 32) (t : Fin 8) (h : Fin 16) (d : Fin 64) :
    heads (F := Ideal) y (ix5 l b t h d) = y (ix3 b t ⟨h.val * 64 + d.val, by omega⟩) := by
  unfold heads
  pointwise

/-- Both layers' heads, one after the other. -/
def stack {F : FTy → Type} [FloatOps F] (y z : FVec F S32x8x1024 .f32) : FVec F S2x32x8x16x64 .f32 :=
  concatenate S2x32x8x16x64 0 [⟨S1x32x8x16x64, heads y⟩, ⟨S1x32x8x16x64, heads z⟩] concatenates_S1x32x8x16x64_S1x32x8x16x64_S2x32x8x16x64_d0

/-- Each layer's heads in the stack. -/
theorem stack_apply (y z : FVec Ideal S32x8x1024 .f32) (l : Fin 2) (b : Fin 32) (t : Fin 8) (h : Fin 16) (d : Fin 64) :
    stack (F := Ideal) y z (ix5 l b t h d) = (if l.val = 1 then z else y) (ix3 b t ⟨h.val * 64 + d.val, by omega⟩) := by
  unfold stack
  rcases l with ⟨_ | _ | l, hl⟩
  · pointwise
    exact heads_apply y _ b t h d
  · pointwise
    exact heads_apply z _ b t h d
  · omega

/-- An index by its five entries. -/
theorem idx_ix5 (i : S2x32x8x16x64.Idx) : ∃ (l : Fin 2) (b : Fin 32) (t : Fin 8) (h : Fin 16) (d : Fin 64), i = ix5 l b t h d :=
  ⟨i 0, i 1, i 2, i 3, i 4, by funext a; fin_cases a <;> rfl⟩

/-- The columns from `o` on as the results have them. -/
theorem ref_rows (x : FVec Ideal S32x8x1024 .f32) (g : FVec Ideal S1024 .f32) (w : FVec Ideal S1024x3072 .f32) (o : ℕ)
    (h : S32x8x3072.Slices ![0, 0, o] S32x8x1024) (ho : o + 1024 ≤ 3072) :
    extractStridedSlice S32x8x1024 ![0, 0, o] (prod (F := Ideal) x g w) h = outRows (Arr.of x g w) o ho :=
  cols_fun (n := 1024) (o := o) (Arr.of x g w) (prod (F := Ideal) x g w) (prod_row x g w) h ho

/-- The stacks are the formula's columns, head by head. -/
theorem ref_heads (A B : Arr 3072 32 8) (o : ℕ) (ho : o + 1024 ≤ 3072) : stack (F := Ideal) (outRows A o ho) (outRows B o ho) = outHeads A B o ho := by
  funext i
  obtain ⟨l, b, t, h, d, rfl⟩ := idx_ix5 i
  refine (stack_apply _ _ l b t h d).trans ?_
  unfold outHeads
  show _ = (if l.val = 1 then B else A).p b t ⟨o + (h.val * 64 + d.val), _⟩
  split <;> rfl

variable (m : (ℓ : Loc nD τ sig) → Buf (Elt Ideal) ℓ) (c : Dev nD)

/-- The first layer's arguments the reference starts with. -/
def ref0 : Arr 3072 32 8 := Arr.of (m ((c.tc : Thread nD τ).loc main_arg0)) (m ((c.tc : Thread nD τ).loc main_arg1)) (m ((c.tc : Thread nD τ).loc main_arg2))

/-- The second layer's. -/
def ref1 : Arr 3072 32 8 := Arr.of (m ((c.tc : Thread nD τ).loc main_arg3)) (m ((c.tc : Thread nD τ).loc main_arg4)) (m ((c.tc : Thread nD τ).loc main_arg5))

/-- The first layer's products. -/
def prod0 : S32x8x3072.Idx → EReal := prod (F := Ideal) (m ((c.tc : Thread nD τ).loc main_arg0)) (m ((c.tc : Thread nD τ).loc main_arg1)) (m ((c.tc : Thread nD τ).loc main_arg2))

/-- The second layer's. -/
def prod1 : S32x8x3072.Idx → EReal := prod (F := Ideal) (m ((c.tc : Thread nD τ).loc main_arg3)) (m ((c.tc : Thread nD τ).loc main_arg4)) (m ((c.tc : Thread nD τ).loc main_arg5))

theorem rows0 (o : ℕ) (h : S32x8x3072.Slices ![0, 0, o] S32x8x1024) (ho : o + 1024 ≤ 3072) :
    extractStridedSlice S32x8x1024 ![0, 0, o] (prod0 m c) h = outRows (ref0 m c) o ho := ref_rows _ _ _ o h ho

theorem rows1 (o : ℕ) (h : S32x8x3072.Slices ![0, 0, o] S32x8x1024) (ho : o + 1024 ≤ 3072) :
    extractStridedSlice S32x8x1024 ![0, 0, o] (prod1 m c) h = outRows (ref1 m c) o ho := ref_rows _ _ _ o h ho

/-- The stack of both layers' columns from `o` on. -/
theorem stacked (o : ℕ) (h : S32x8x3072.Slices ![0, 0, o] S32x8x1024) (ho : o + 1024 ≤ 3072) :
    stack (F := Ideal) (extractStridedSlice S32x8x1024 ![0, 0, o] (prod0 m c) h) (extractStridedSlice S32x8x1024 ![0, 0, o] (prod1 m c) h)
      = outHeads (ref0 m c) (ref1 m c) o ho := by
  rw [rows0 m c o h ho, rows1 m c o h ho]
  exact ref_heads _ _ o ho

end Reference

/-- The reference's run ends quiet, its arguments unchanged. -/
theorem frame_ref : Cert.quiescent_Reference8Ideal := fun m ρ _ =>
  (θ_run Cert.Reference8Ideal.defs _ _).mono (fun r h => ⟨fun c => (h c).2.2.2.2, Idealize.ShloMosaic.sem_eq_zero_of_no_sems (by decide) r.2⟩) (Cert.Reference8Ideal.Value.run (F := Ideal) m ρ)

/-- The kernel's results are the reference's. -/
theorem algebraic : Cert.algebraic_Kernel8Ideal_Reference8Ideal := by
  intro m ρ m' ρ' _ hagree
  have e : ∀ c, ref0 m' c = arr0 m c ∧ ref1 m' c = arr1 m c := fun c => by
    obtain ⟨e0, e1, e2, e3, e4, e5⟩ := hagree c
    unfold ref0 ref1
    rw [e0, e1, e2, e3, e4, e5]
    exact ⟨rfl, rfl⟩
  refine ⟨_, _, _, _, run m ρ, ?_⟩
  refine (θ_run Cert.Reference8Ideal.defs _ _).mono (fun r h c => ?_) (Cert.Reference8Ideal.Value.run (F := Ideal) m' ρ')
  obtain ⟨r0, r1, r2, r3, rest⟩ := h c
  obtain ⟨e0, e1⟩ := e c
  refine ⟨r0.trans (Eq.trans (rows0 m' c 0 _ (by decide)) ?_), r1.trans (Eq.trans (rows1 m' c 0 _ (by decide)) ?_),
    r2.trans (Eq.trans (stacked m' c 1024 _ (by decide)) ?_), r3.trans (Eq.trans (stacked m' c 2048 _ (by decide)) ?_), rest⟩
  · rw [e0]
  · rw [e1]
  · rw [e0, e1]
  · rw [e0, e1]

end Cert.Proj.Step.Qkv
-- ==== Proof.Ffn.Step.Math.lean ====
/- The block after a mixer for the sample group, as formulas over extended reals: eight rows a sequence, under the two rows that
   came before them. -/
module

public import proofs.«01_k».proof.Proof.Ffn.Math

@[expose] public section
noncomputable section
namespace Cert.Ffn.Step

open Idealize.ShloMosaic Cert.Ffn

/-- The arrays: activations, mixer output, its projection, gain, input weight, convolution weight and bias, output weight, last gain, and the two rows before. -/
structure Arr where
  x : Fin 32 → Fin 8 → Fin 1024 → EReal
  o : Fin 32 → Fin 8 → Fin 1024 → EReal
  wo : Fin 1024 → Fin 1024 → EReal
  g : Fin 1024 → EReal
  win : Fin 1024 → Fin 5632 → EReal
  cw : Fin 3 → Fin 5632 → EReal
  cb : Fin 5632 → EReal
  wout : Fin 2816 → Fin 1024 → EReal
  gf : Fin 1024 → EReal
  pv : Fin 32 → Fin 2 → Fin 5632 → EReal

namespace Arr

variable (A : Arr) (b : Fin 32)

/-- The activations with the projected mixer output. -/
def xo (t : Fin 8) (z : Fin 1024) : EReal := A.x b t z + ∑ k, A.o b t k * A.wo k z

/-- The feed-forward's input before the convolution. -/
def u (t : Fin 8) (z : Fin 5632) : EReal := ∑ k, rms (A.xo b t) A.g k * A.win k z

/-- The row `n` above, of the two before where there is none. -/
def up (n : ℕ) (t : Fin 8) (z : Fin 5632) : EReal := if n ≤ t.val then A.u b ⟨t.val - n, by omega⟩ z else A.pv b ⟨(2 - n + t.val) % 2, Nat.mod_lt _ (by decide)⟩ z

/-- The causal convolution of three rows. -/
def conv (t : Fin 8) (z : Fin 5632) : EReal :=
  A.up b 2 t z * A.cw 0 z + A.up b 1 t z * A.cw 1 z + A.u b t z * A.cw 2 z + A.cb z

/-- The gated activation. -/
def act (t : Fin 8) (j : Fin 2816) : EReal :=
  A.conv b t (lo j) * Ideal.div 1 (1 + Ideal.exp (0 - A.conv b t (lo j))) * A.conv b t (hi j)

/-- The block's result. -/
def acc (t : Fin 8) (z : Fin 1024) : EReal := A.xo b t z + ∑ j, A.act b t j * A.wout j z

/-- The block's result under the last normalization. -/
def y (t : Fin 8) (z : Fin 1024) : EReal := rms (A.acc b t) A.gf z

end Arr

end Cert.Ffn.Step
-- ==== Proof.Ffn.Step.Tile.lean ====
/- The sample group's one tile of 256 rows in functions of its own, read at an index over extended reals. -/
module

public import proofs.«01_k».proof.Proof.Gen.Kernel9Ideal.Frame
public import proofs.«01_k».proof.Proof.Ffn.Step.Math
public import Idealize.ShloMosaic.Lib.WordCmp
public import Idealize.ShloMosaic.Lib.Pipeline.Value
public import Idealize.ShloMosaic.Lib.Pipeline.ValueKit

@[expose] public section
set_option maxRecDepth 16384
noncomputable section
namespace Cert.Ffn.Step

open Idealize.ShloMosaic Idealize.ShloMosaic.TcCoe Idealize.ShloMosaic.Tactic
open Cert.Kernel9Ideal Cert.Kernel9Ideal.Gen Cert.Ffn

section Values
variable {F : FTy → Type} [FloatOps F]

/-- What the tile reads: rows, weights, the convolution's rows and bias in their two halves, and the rows before in theirs. -/
structure Rd (F : FTy → Type) where
  x : Vec F S256x1024 .f32
  o : Vec F S256x1024 .bf16
  wo : Vec F S1024x1024 .bf16
  g : Vec F S1x1024 .f32
  w0 : Vec F S1024x2816 .bf16
  w1 : Vec F S1024x2816 .bf16
  c00 : Vec F S1x2816 .f32
  c01 : Vec F S1x2816 .f32
  c02 : Vec F S1x2816 .f32
  cb0 : Vec F S1x2816 .f32
  c10 : Vec F S1x2816 .f32
  c11 : Vec F S1x2816 .f32
  c12 : Vec F S1x2816 .f32
  cb1 : Vec F S1x2816 .f32
  wout : Vec F S2816x1024 .bf16
  gf : Vec F S1x1024 .f32
  p10 : Vec F S256x2816 .f32
  p11 : Vec F S256x2816 .f32
  p20 : Vec F S256x2816 .f32
  p21 : Vec F S256x2816 .f32

/-- The activations with the projected mixer output. -/
def xo (x : FVec F S256x1024 .f32) (o : FVec F S256x1024 .bf16) (w : FVec F S1024x1024 .bf16) : FVec F S256x1024 .f32 :=
  addf (shapeCast S256x1024 x shapeCasts_S256x1024_S256x1024)
    (matmul dot_S256x1024_S1024x1024_S256x1024_1_0_0_1_n_n none o (shapeCast S1024x1024 w shapeCasts_S1024x1024_S1024x1024) (constant S256x1024 .f32 0x00000000#32))

/-- The tile's rows under the root mean square and the gain. -/
def norm (a : FVec F S256x1024 .f32) (g : FVec F S1x1024 .f32) : FVec F S256x1024 .f32 :=
  mulf (mulf a (broadcastTo S256x1024 (rsqrt (addf (divf (shapeCast S256x1 (multiReduction .add [1] S256 (mulf a a) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

/-- The rows of `u` moved down by `n` within their sequences, the first `n` of each from `p`. -/
def shift (n : BitVec 32) (u p : FVec F S256x2816 .f32) : FVec F S256x2816 .f32 :=
  select (broadcastTo S256x2816 (shapeCast S256x1 (cmpi .slt k0_pay4 (broadcast S256x1 n)) shapeCasts_S256x1_S256x1) broadcasts_S256x1_S256x2816)
    (shapeCast S256x2816 p shapeCasts_S256x2816_S256x2816) (dynamicRotate 0 n none u rotates_S256x2816_d0)

/-- The convolution of one half of the columns. -/
def cnv (u p1 p2 : FVec F S256x2816 .f32) (w0 w1 w2 b : FVec F S1x2816 .f32) : FVec F S256x2816 .f32 :=
  addf (addf (addf (mulf (shift 2#32 u p2) (broadcastTo S256x2816 w0 broadcasts_S1x2816_S256x2816))
        (mulf (shift 1#32 u p1) (broadcastTo S256x2816 w1 broadcasts_S1x2816_S256x2816)))
      (mulf u (broadcastTo S256x2816 w2 broadcasts_S1x2816_S256x2816)))
    (broadcastTo S256x2816 (shapeCast S1x2816 b shapeCasts_S1x2816_S1x2816) broadcasts_S1x2816_S256x2816)

/-- The residual and the output weight's product of the gated activation. -/
def fin (x : FVec F S256x1024 .f32) (a v : FVec F S256x2816 .f32) (w : FVec F S2816x1024 .bf16) : FVec F S256x1024 .f32 :=
  addf x (matmul dot_S256x2816_S2816x1024_S256x1024_1_0_0_1_n_n none
    (truncf .bf16 (mulf (mulf a (divf (broadcast S256x2816 (Scalar.ofBits .f32 0x3F800000#32)) (addf (broadcast S256x2816 (Scalar.ofBits .f32 0x3F800000#32))
      (exp (subf (broadcast S256x2816 (Scalar.ofBits .f32 0x00000000#32)) a))))) v) bitsLt_bf16_f32)
    (shapeCast S2816x1024 w shapeCasts_S2816x1024_S2816x1024) (constant S256x1024 .f32 0x00000000#32))

namespace Rd

variable (d : Rd F)

/-- The tile's activations with the projected mixer output. -/
def xo : FVec F S256x1024 .f32 := Step.xo d.x d.o d.wo

/-- The tile's normalized rows. -/
def h : FVec F S256x1024 .bf16 := truncf .bf16 (norm d.xo d.g) bitsLt_bf16_f32

/-- The feed-forward's input, the gate half. -/
def u0 : FVec F S256x2816 .f32 := k0_pay5 d.h d.w0

/-- The feed-forward's input, the value half. -/
def u1 : FVec F S256x2816 .f32 := k0_pay5 d.h d.w1

/-- The block's result of the tile. -/
def acc : FVec F S256x1024 .f32 :=
  fin d.xo (cnv d.u0 d.p10 d.p20 d.c00 d.c01 d.c02 d.cb0) (cnv d.u1 d.p11 d.p21 d.c10 d.c11 d.c12 d.cb1) d.wout

end Rd

end Values

/-- A row's number in its sequence. -/
theorem num_apply : ∀ r : Fin 256, k0_pay4 (ix2 r 0) = BitVec.ofNat 32 (r.val % 8) := by decide +kernel

/-- A moved row at an index. -/
theorem shift_apply (n : ℕ) (hn : n ≤ 8) (u p : FVec Ideal S256x2816 .f32) (r : Fin 256) (j : Fin 2816) :
    shift (BitVec.ofNat 32 n) u p (ix2 r j) = if r.val % 8 < n then p (ix2 r j) else u (ix2 ⟨(r.val + 256 - n) % 256, Nat.mod_lt _ (by decide)⟩ j) := by
  unfold shift
  generalize hk : k0_pay4 = k
  have hn' : k (ix2 r 0) = BitVec.ofNat 32 (r.val % 8) := hk ▸ num_apply r
  pointwise
  rw [hn', WordCmp.cmpi_slt_ofNat (by omega) (by omega)]
  by_cases hc : r.val % 8 < n
  · rw [if_pos hc, decide_eq_true hc]
    rfl
  · rw [if_neg hc, decide_eq_false hc]
    refine congrArg u (congrArg (fun a => ix2 a j) (Fin.ext ?_))
    show (r.val + 256 - (BitVec.ofNat 32 n).toNat % 256) % 256 = (r.val + 256 - n) % 256
    rw [BitVec.toNat_ofNat]
    omega

/-- A normalized tile at an index. -/
theorem norm_apply (a : FVec Ideal S256x1024 .f32) (g : FVec Ideal S1x1024 .f32) (r : Fin 256) (z : Fin 1024) :
    norm a g (ix2 r z) = rms (fun k => a (ix2 r k)) (fun k => g (ix2 0 k)) z := by
  unfold norm rms
  pointwise

/-- The projection and residual at an index. -/
theorem xo_apply (d : Rd Ideal) (r : Fin 256) (z : Fin 1024) :
    d.xo (ix2 r z) = d.x (ix2 r z) + ∑ k, d.o (ix2 r k) * d.wo (ix2 k z) := by
  unfold Rd.xo xo
  pointwise

/-- The normalized rows at an index. -/
theorem h_apply (d : Rd Ideal) (r : Fin 256) (z : Fin 1024) : d.h (ix2 r z) = rms (fun k => d.xo (ix2 r k)) (fun k => d.g (ix2 0 k)) z := by
  unfold Rd.h
  exact norm_apply _ _ r z

/-- A half of the input at an index. -/
theorem u_apply (h : FVec Ideal S256x1024 .bf16) (w : Vec Ideal S1024x2816 .bf16) (r : Fin 256) (j : Fin 2816) :
    k0_pay5 h w (ix2 r j) = ∑ k, h (ix2 r k) * w (ix2 k j) := by
  unfold k0_pay5
  pointwise

/-- The convolution at an index. -/
theorem cnv_apply (u p1 p2 : FVec Ideal S256x2816 .f32) (w0 w1 w2 b : FVec Ideal S1x2816 .f32) (r : Fin 256) (j : Fin 2816) :
    cnv u p1 p2 w0 w1 w2 b (ix2 r j) = shift 2#32 u p2 (ix2 r j) * w0 (ix2 0 j) + shift 1#32 u p1 (ix2 r j) * w1 (ix2 0 j)
      + u (ix2 r j) * w2 (ix2 0 j) + b (ix2 0 j) := by
  unfold cnv
  generalize shift 2#32 u p2 = s2
  generalize shift 1#32 u p1 = s1
  pointwise

/-- The output product and residual at an index. -/
theorem fin_apply (x : FVec Ideal S256x1024 .f32) (a v : FVec Ideal S256x2816 .f32) (w : FVec Ideal S2816x1024 .bf16) (r : Fin 256) (z : Fin 1024) :
    fin x a v w (ix2 r z) = x (ix2 r z) + ∑ j, a (ix2 r j) * Ideal.div 1 (1 + Ideal.exp (0 - a (ix2 r j))) * v (ix2 r j) * w (ix2 j z) := by
  unfold fin
  pointwise

/-- A row's sequence. -/
def sq (r : Fin 256) : Fin 32 := ⟨r.val / 8, by omega⟩

/-- A row's place in its sequence. -/
def at8 (r : Fin 256) : Fin 8 := ⟨r.val % 8, Nat.mod_lt _ (by decide)⟩

/-- The tile holds the sequences' rows, the weights and the rows before. -/
structure Rd.Holds (d : Rd Ideal) (A : Arr) : Prop where
  x : ∀ r z, d.x (ix2 r z) = A.x (sq r) (at8 r) z
  o : ∀ r z, d.o (ix2 r z) = A.o (sq r) (at8 r) z
  wo : ∀ k z, d.wo (ix2 k z) = A.wo k z
  g : ∀ z, d.g (ix2 0 z) = A.g z
  w0 : ∀ k j, d.w0 (ix2 k j) = A.win k (lo j)
  w1 : ∀ k j, d.w1 (ix2 k j) = A.win k (hi j)
  c00 : ∀ j, d.c00 (ix2 0 j) = A.cw 0 (lo j)
  c01 : ∀ j, d.c01 (ix2 0 j) = A.cw 1 (lo j)
  c02 : ∀ j, d.c02 (ix2 0 j) = A.cw 2 (lo j)
  cb0 : ∀ j, d.cb0 (ix2 0 j) = A.cb (lo j)
  c10 : ∀ j, d.c10 (ix2 0 j) = A.cw 0 (hi j)
  c11 : ∀ j, d.c11 (ix2 0 j) = A.cw 1 (hi j)
  c12 : ∀ j, d.c12 (ix2 0 j) = A.cw 2 (hi j)
  cb1 : ∀ j, d.cb1 (ix2 0 j) = A.cb (hi j)
  wout : ∀ j z, d.wout (ix2 j z) = A.wout j z
  gf : ∀ z, d.gf (ix2 0 z) = A.gf z
  p10 : ∀ r j, r.val % 8 < 1 → d.p10 (ix2 r j) = A.pv (sq r) ⟨(2 - 1 + r.val % 8) % 2, Nat.mod_lt _ (by decide)⟩ (lo j)
  p11 : ∀ r j, r.val % 8 < 1 → d.p11 (ix2 r j) = A.pv (sq r) ⟨(2 - 1 + r.val % 8) % 2, Nat.mod_lt _ (by decide)⟩ (hi j)
  p20 : ∀ r j, r.val % 8 < 2 → d.p20 (ix2 r j) = A.pv (sq r) ⟨(2 - 2 + r.val % 8) % 2, Nat.mod_lt _ (by decide)⟩ (lo j)
  p21 : ∀ r j, r.val % 8 < 2 → d.p21 (ix2 r j) = A.pv (sq r) ⟨(2 - 2 + r.val % 8) % 2, Nat.mod_lt _ (by decide)⟩ (hi j)

/-- Moved rows are the rows above, across the sequence's start. -/
theorem shift_up (A : Arr) (col : Fin 2816 → Fin 5632) (n : ℕ) (hn : n ≤ 2) (u p : FVec Ideal S256x2816 .f32)
    (hu : ∀ r j, u (ix2 r j) = A.u (sq r) (at8 r) (col j))
    (hp : ∀ (r : Fin 256) j, r.val % 8 < n → p (ix2 r j) = A.pv (sq r) ⟨(2 - n + r.val % 8) % 2, Nat.mod_lt _ (by decide)⟩ (col j))
    (r : Fin 256) (j : Fin 2816) : shift (BitVec.ofNat 32 n) u p (ix2 r j) = A.up (sq r) n (at8 r) (col j) := by
  rw [shift_apply n (by omega)]
  unfold Arr.up
  by_cases h : r.val % 8 < n
  · rw [if_pos h, if_neg (show ¬n ≤ (at8 r).val by show ¬n ≤ r.val % 8; omega), hp r j h]
    rfl
  · rw [if_neg h, if_pos (show n ≤ (at8 r).val by show n ≤ r.val % 8; omega), hu]
    congr 1
    · exact Fin.ext (by show (r.val + 256 - n) % 256 / 8 = r.val / 8; omega)
    · exact Fin.ext (by show (r.val + 256 - n) % 256 % 8 = r.val % 8 - n; omega)

section Rows

variable {d : Rd Ideal} {A : Arr} (H : d.Holds A)
include H

/-- The tile's residual rows. -/
theorem xo_row (r : Fin 256) (z : Fin 1024) : d.xo (ix2 r z) = A.xo (sq r) (at8 r) z := by
  rw [xo_apply]
  unfold Arr.xo
  rw [H.x]
  congr 1
  exact Finset.sum_congr rfl fun k _ => by rw [H.o, H.wo]

/-- The tile's normalized rows. -/
theorem h_row (r : Fin 256) (z : Fin 1024) : d.h (ix2 r z) = rms (A.xo (sq r) (at8 r)) A.g z := by
  rw [h_apply]
  congr 1
  · funext k; exact xo_row H r k
  · funext k; exact H.g k

/-- The tile's rows of the gate half. -/
theorem u0_row (r : Fin 256) (j : Fin 2816) : d.u0 (ix2 r j) = A.u (sq r) (at8 r) (lo j) := by
  unfold Rd.u0 Arr.u
  rw [u_apply]
  exact Finset.sum_congr rfl fun k _ => by rw [h_row H, H.w0]

/-- The tile's rows of the value half. -/
theorem u1_row (r : Fin 256) (j : Fin 2816) : d.u1 (ix2 r j) = A.u (sq r) (at8 r) (hi j) := by
  unfold Rd.u1 Arr.u
  rw [u_apply]
  exact Finset.sum_congr rfl fun k _ => by rw [h_row H, H.w1]

/-- The tile's rows of the block's result. -/
theorem acc_row (r : Fin 256) (z : Fin 1024) : d.acc (ix2 r z) = A.acc (sq r) (at8 r) z := by
  have c0 : ∀ j, cnv d.u0 d.p10 d.p20 d.c00 d.c01 d.c02 d.cb0 (ix2 r j) = A.conv (sq r) (at8 r) (lo j) := fun j => by
    rw [cnv_apply, H.c00, H.c01, H.c02, H.cb0, u0_row H]
    unfold Arr.conv
    congr 1; congr 1; congr 1
    · congr 1; exact shift_up A lo 2 (by omega) d.u0 d.p20 (u0_row H) H.p20 r j
    · congr 1; exact shift_up A lo 1 (by omega) d.u0 d.p10 (u0_row H) H.p10 r j
  have c1 : ∀ j, cnv d.u1 d.p11 d.p21 d.c10 d.c11 d.c12 d.cb1 (ix2 r j) = A.conv (sq r) (at8 r) (hi j) := fun j => by
    rw [cnv_apply, H.c10, H.c11, H.c12, H.cb1, u1_row H]
    unfold Arr.conv
    congr 1; congr 1; congr 1
    · congr 1; exact shift_up A hi 2 (by omega) d.u1 d.p21 (u1_row H) H.p21 r j
    · congr 1; exact shift_up A hi 1 (by omega) d.u1 d.p11 (u1_row H) H.p11 r j
  unfold Rd.acc Arr.acc
  rw [fin_apply, xo_row H]
  refine congrArg (A.xo (sq r) (at8 r) z + ·) (Finset.sum_congr rfl fun j _ => ?_)
  unfold Arr.act
  rw [c0, c1, H.wout]

/-- The tile's rows of the normalized result. -/
theorem y_row (r : Fin 256) (z : Fin 1024) : norm d.acc d.gf (ix2 r z) = A.y (sq r) (at8 r) z := by
  rw [norm_apply]
  unfold Arr.y
  congr 1
  · funext k; exact acc_row H r k
  · funext k; exact H.gf k

end Rows

/-- A column of both halves is a gate's or a value's. -/
theorem col_cases (P : Fin 5632 → Prop) (h0 : ∀ j, P (lo j)) (h1 : ∀ j, P (hi j)) (z : Fin 5632) : P z := by
  by_cases h : z.val < 2816
  · exact h0 ⟨z.val, h⟩
  · have e : hi ⟨z.val - 2816, by omega⟩ = z := Fin.ext (by show 2816 + (z.val - 2816) = z.val; omega)
    exact e ▸ h1 _

/-- The rows stored in two halves, read in the first. -/
theorem canon_lo (i0 : ∀ a, (![0, 0] : Fin 2 → ℕ) a + S256x2816.size a ≤ S256x5632.size a) (i1 : ∀ a, (![0, 2816] : Fin 2 → ℕ) a + S256x2816.size a ≤ S256x5632.size a)
    (u v : S256x2816.Idx → EReal) (L : List (View.Piece (Elt Ideal) S256x5632 .f32)) (q : Fin 256) (j : Fin 2816) :
    View.canon ((⟨Rect.unit (s := S256x5632) ![0, 2816] S256x2816.size i1, v⟩ : View.Piece (Elt Ideal) S256x5632 .f32)
      :: (⟨Rect.unit (s := S256x5632) ![0, 0] S256x2816.size i0, u⟩ : View.Piece (Elt Ideal) S256x5632 .f32) :: L) (ix2 q (lo j)) = u (ix2 q j) := by
  rw [View.canon_cons_of_not_mem _ _ (by
    rw [Rect.mem_set_unit]
    intro h
    have h1 := (h 1).1
    change 2816 ≤ j.val at h1
    omega)]
  have e : (ix2 q (lo j) : S256x5632.Idx) = (Rect.unit (s := S256x5632) ![0, 0] S256x2816.size i0).emb (ix2 q j) := by
    funext a
    apply Fin.ext
    match a with
    | ⟨0, _⟩ => show q.val = 0 + 1 * q.val; omega
    | ⟨1, _⟩ => show j.val = 0 + 1 * j.val; omega
  rw [e]
  exact View.canon_cons_emb (Val := Elt Ideal) (e := .f32) (Rect.unit (s := S256x5632) ![0, 0] S256x2816.size i0) u L (ix2 q j)

/-- The rows stored in two halves, read in the second. -/
theorem canon_hi (i1 : ∀ a, (![0, 2816] : Fin 2 → ℕ) a + S256x2816.size a ≤ S256x5632.size a)
    (v : S256x2816.Idx → EReal) (L : List (View.Piece (Elt Ideal) S256x5632 .f32)) (q : Fin 256) (j : Fin 2816) :
    View.canon ((⟨Rect.unit (s := S256x5632) ![0, 2816] S256x2816.size i1, v⟩ : View.Piece (Elt Ideal) S256x5632 .f32) :: L) (ix2 q (hi j)) = v (ix2 q j) := by
  have e : (ix2 q (hi j) : S256x5632.Idx) = (Rect.unit (s := S256x5632) ![0, 2816] S256x2816.size i1).emb (ix2 q j) := by
    funext a
    apply Fin.ext
    match a with
    | ⟨0, _⟩ => show q.val = 0 + 1 * q.val; omega
    | ⟨1, _⟩ => show 2816 + j.val = 2816 + 1 * j.val; omega
  rw [e]
  exact View.canon_cons_emb (Val := Elt Ideal) (e := .f32) (Rect.unit (s := S256x5632) ![0, 2816] S256x2816.size i1) v L (ix2 q j)

/-- A load of part of a matrix, at an index. -/
theorem ld_at {M N m n a o : ℕ} {e : EltTy} (X : (⟨2, ![M, N]⟩ : Shape).Idx → Elt Ideal e)
    (inb : ∀ k, (![a, o] : Fin 2 → ℕ) k + (![m, n] : Fin 2 → ℕ) k ≤ (![M, N] : Fin 2 → ℕ) k) (r : Fin m) (z : Fin n) (r' : Fin M) (z' : Fin N)
    (hr : a + r.val = r'.val) (hz : o + z.val = z'.val) :
    View.ld (Val := Elt Ideal) (e' := e) X (Rect.unit (s := ⟨2, ![M, N]⟩) ![a, o] ![m, n] inb) (ix2 r z) = X (ix2 r' z') := by
  refine congrArg X ?_
  funext k
  apply Fin.ext
  match k with
  | ⟨0, _⟩ => show a + 1 * r.val = r'.val; omega
  | ⟨1, _⟩ => show o + 1 * z.val = z'.val; omega

end Cert.Ffn.Step
-- ==== Proof.Ffn.Step.Last.lean ====
/- The last layer of the sample group over extended reals: what its one tile computes and what the run leaves. -/
module

public import proofs.«01_k».proof.Proof.Ffn.Step.Tile
public import proofs.«01_k».proof.Proof.Gen.Kernel9Ideal.Frame
public import Idealize.ShloMosaic.Lib.StableHlo.ReadAt
public import Idealize.ShloMosaic.Lib.Claim

@[expose] public section
set_option maxRecDepth 16384
noncomputable section
namespace Cert.Ffn.Step.Last

open Idealize.ShloMosaic Idealize.ShloMosaic.TcCoe Idealize.ShloMosaic.Tactic Idealize.SL.Sem
open Cert.Kernel9Ideal Cert.Kernel9Ideal.Gen Cert.Ffn

section Tile

variable (x0 : Vec Ideal S256x1024 .f32) (x1 : Vec Ideal S256x1024 .f32) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (x9 : Vec Ideal S256x5632 .f32) (x10 : Vec Ideal S256x5632 .f32)

/-- What the tile reads of its blocks. -/
def rd : Rd Ideal where
  x := View.ld x0 r0_0
  o := truncf (F := Ideal) (φ := .f32) .bf16 (shapeCast S256x1024 (View.ld x1 r0_0 : Vec Ideal S256x1024 .f32) shapeCasts_S256x1024_S256x1024) bitsLt_bf16_f32
  wo := View.ld x2 r0_1
  g := View.ld x3 r0_2
  w0 := View.ld x4 r0_3
  w1 := View.ld x4 r0_9
  c00 := View.ld x5 r0_5
  c01 := View.ld x5 r0_6
  c02 := View.ld x5 r0_7
  cb0 := View.ld x6 r0_8
  c10 := View.ld x5 r0_11
  c11 := View.ld x5 r0_12
  c12 := View.ld x5 r0_13
  cb1 := View.ld x6 r0_14
  wout := View.ld x7 r0_15
  gf := View.ld x8 r0_2
  p10 := View.ld x9 r0_4
  p11 := View.ld x9 r0_10
  p20 := View.ld x10 r0_4
  p21 := View.ld x10 r0_10

/-- The rows it stores. -/
theorem out11_eq : out0_11 x0 x1 x2 x3 x4 x5 x6 x7 x8 x9 x10 = View.canon [(⟨r0_0, norm (rd x0 x1 x2 x3 x4 x5 x6 x7 x8 x9 x10).acc (rd x0 x1 x2 x3 x4 x5 x6 x7 x8 x9 x10).gf⟩ : View.Piece (Elt Ideal) S256x1024 .f32)] := by
  unfold out0_11 k0_pay13 k0_pay12 k0_pay11
  rfl

/-- The feed-forward's inputs it stores. -/
theorem out12_eq : out0_12 x0 x1 x2 x3 x4 x5 x6 x7 x8 x9 x10 = View.canon [(⟨r0_10, (rd x0 x1 x2 x3 x4 x5 x6 x7 x8 x9 x10).u1⟩ : View.Piece (Elt Ideal) S256x5632 .f32), (⟨r0_4, (rd x0 x1 x2 x3 x4 x5 x6 x7 x8 x9 x10).u0⟩ : View.Piece (Elt Ideal) S256x5632 .f32)] := by
  unfold out0_12 k0_pay11
  rfl

/-- The blocks' rows are the arrays', so what the tile reads is theirs. -/
theorem rd_holds (A : Arr) (hx : ∀ r z, x0 (ix2 r z) = A.x (sq r) (at8 r) z) (ho : ∀ r z, x1 (ix2 r z) = A.o (sq r) (at8 r) z)
    (hwo : ∀ k z, x2 (ix2 k z) = A.wo k z) (hg : ∀ z, x3 (ix2 0 z) = A.g z) (hw : ∀ k z, x4 (ix2 k z) = A.win k z)
    (hc : ∀ k z, x5 (ix2 k z) = A.cw k z) (hb : ∀ z, x6 (ix2 0 z) = A.cb z) (hv : ∀ k z, x7 (ix2 k z) = A.wout k z) (hf : ∀ z, x8 (ix2 0 z) = A.gf z)
    (h1 : ∀ r z, r.val % 8 < 1 → x9 (ix2 r z) = A.pv (sq r) ⟨(2 - 1 + r.val % 8) % 2, Nat.mod_lt _ (by decide)⟩ z)
    (h2 : ∀ r z, r.val % 8 < 2 → x10 (ix2 r z) = A.pv (sq r) ⟨(2 - 2 + r.val % 8) % 2, Nat.mod_lt _ (by decide)⟩ z) :
    (rd x0 x1 x2 x3 x4 x5 x6 x7 x8 x9 x10).Holds A where
  x r z := (ld_at (e := .f32) x0 inb_S256x1024_S256x1024_0_0 r z r z (Nat.zero_add _) (Nat.zero_add _)).trans (hx r z)
  o r z := by
    refine Eq.trans ?_ ((ld_at (e := .f32) x1 inb_S256x1024_S256x1024_0_0 r z r z (Nat.zero_add _) (Nat.zero_add _)).trans (ho r z))
    unfold rd
    dsimp only
    generalize View.ld x1 r0_0 = y
    pointwise
  wo k z := (ld_at (e := .bf16) x2 inb_S1024x1024_S1024x1024_0_0 k z k z (Nat.zero_add _) (Nat.zero_add _)).trans (hwo k z)
  g z := (ld_at (e := .f32) x3 inb_S1x1024_S1x1024_0_0 0 z 0 z (Nat.zero_add _) (Nat.zero_add _)).trans (hg z)
  w0 k j := (ld_at (e := .bf16) x4 inb_S1024x5632_S1024x2816_0_0 k j k (lo j) (Nat.zero_add _) (Nat.zero_add _)).trans (hw k (lo j))
  w1 k j := (ld_at (e := .bf16) x4 inb_S1024x5632_S1024x2816_0_2816 k j k (hi j) (Nat.zero_add _) rfl).trans (hw k (hi j))
  c00 j := (ld_at (e := .f32) x5 inb_S3x5632_S1x2816_0_0 0 j 0 (lo j) rfl (Nat.zero_add _)).trans (hc 0 (lo j))
  c01 j := (ld_at (e := .f32) x5 inb_S3x5632_S1x2816_1_0 0 j 1 (lo j) rfl (Nat.zero_add _)).trans (hc 1 (lo j))
  c02 j := (ld_at (e := .f32) x5 inb_S3x5632_S1x2816_2_0 0 j 2 (lo j) rfl (Nat.zero_add _)).trans (hc 2 (lo j))
  cb0 j := (ld_at (e := .f32) x6 inb_S1x5632_S1x2816_0_0 0 j 0 (lo j) rfl (Nat.zero_add _)).trans (hb (lo j))
  c10 j := (ld_at (e := .f32) x5 inb_S3x5632_S1x2816_0_2816 0 j 0 (hi j) rfl rfl).trans (hc 0 (hi j))
  c11 j := (ld_at (e := .f32) x5 inb_S3x5632_S1x2816_1_2816 0 j 1 (hi j) rfl rfl).trans (hc 1 (hi j))
  c12 j := (ld_at (e := .f32) x5 inb_S3x5632_S1x2816_2_2816 0 j 2 (hi j) rfl rfl).trans (hc 2 (hi j))
  cb1 j := (ld_at (e := .f32) x6 inb_S1x5632_S1x2816_0_2816 0 j 0 (hi j) rfl rfl).trans (hb (hi j))
  wout k z := (ld_at (e := .bf16) x7 inb_S2816x1024_S2816x1024_0_0 k z k z (Nat.zero_add _) (Nat.zero_add _)).trans (hv k z)
  gf z := (ld_at (e := .f32) x8 inb_S1x1024_S1x1024_0_0 0 z 0 z (Nat.zero_add _) (Nat.zero_add _)).trans (hf z)
  p10 r j hr := (ld_at (e := .f32) x9 inb_S256x5632_S256x2816_0_0 r j r (lo j) (Nat.zero_add _) (Nat.zero_add _)).trans (h1 r (lo j) hr)
  p11 r j hr := (ld_at (e := .f32) x9 inb_S256x5632_S256x2816_0_2816 r j r (hi j) (Nat.zero_add _) rfl).trans (h1 r (hi j) hr)
  p20 r j hr := (ld_at (e := .f32) x10 inb_S256x5632_S256x2816_0_0 r j r (lo j) (Nat.zero_add _) (Nat.zero_add _)).trans (h2 r (lo j) hr)
  p21 r j hr := (ld_at (e := .f32) x10 inb_S256x5632_S256x2816_0_2816 r j r (hi j) (Nat.zero_add _) rfl).trans (h2 r (hi j) hr)

variable {A : Arr} (H : (rd x0 x1 x2 x3 x4 x5 x6 x7 x8 x9 x10).Holds A)
include H

/-- The rows it stores are the formula's. -/
theorem out11_row (r : Fin 256) (z : Fin 1024) : out0_11 x0 x1 x2 x3 x4 x5 x6 x7 x8 x9 x10 (ix2 r z) = A.y (sq r) (at8 r) z := by
  rw [out11_eq, View.canon_unit_zero (by decide)]
  exact y_row H r z

/-- So are the feed-forward's inputs. -/
theorem out12_row (r : Fin 256) (z : Fin 5632) : out0_12 x0 x1 x2 x3 x4 x5 x6 x7 x8 x9 x10 (ix2 r z) = A.u (sq r) (at8 r) z := by
  rw [out12_eq]
  revert z
  refine col_cases _ (fun j => ?_) fun j => ?_
  · exact (canon_lo _ _ _ _ [] r j).trans (u0_row H r j)
  · exact (canon_hi _ _ _ r j).trans (u1_row H r j)

end Tile

variable (m : (ℓ : Loc nD τ sig) → Buf (Elt Ideal) ℓ) (c : Dev nD)

/-- The arguments as device `c` holds them. -/
def arr : Arr where
  x b t z := (m ((c : Thread nD τ).loc main_arg0) : S32x8x1024.Idx → EReal) (ix3 b t z)
  o b t z := (m ((c : Thread nD τ).loc main_arg1) : S32x8x1024.Idx → EReal) (ix3 b t z)
  wo k z := (m ((c : Thread nD τ).loc main_arg2) : S1024x1024.Idx → EReal) (ix2 k z)
  g z := (m ((c : Thread nD τ).loc main_arg3) : S1024.Idx → EReal) (ix1 z)
  win k z := (m ((c : Thread nD τ).loc main_arg4) : S1024x5632.Idx → EReal) (ix2 k z)
  cw k z := (m ((c : Thread nD τ).loc main_arg5) : S3x5632.Idx → EReal) (ix2 k z)
  cb z := (m ((c : Thread nD τ).loc main_arg6) : S5632.Idx → EReal) (ix1 z)
  wout k z := (m ((c : Thread nD τ).loc main_arg7) : S2816x1024.Idx → EReal) (ix2 k z)
  gf z := (m ((c : Thread nD τ).loc main_arg8) : S1024.Idx → EReal) (ix1 z)
  pv b q z := (m ((c : Thread nD τ).loc main_arg9) : S32x2x5632.Idx → EReal) (ix3 b q z)

/-- The windows' block indices, at the only point. -/
theorem idx_tok : ∀ t : Fin cfg0.N, (win0_0.index t = ![0, 0] ∧ win0_1.index t = ![0, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0]) ∧ (win0_9.index t = ![0, 0] ∧ win0_10.index t = ![0, 0])
    ∧ win0_11.index t = ![0, 0] ∧ win0_12.index t = ![0, 0] := by decide +kernel

/-- The blocks the point reads. -/ abbrev in0 (t : Fin cfg0.N) : S256x1024.Idx → EReal := iblk m c 0 t
@[inherit_doc in0] abbrev in1 (t : Fin cfg0.N) : S256x1024.Idx → EReal := iblk m c 1 t
@[inherit_doc in0] abbrev in2 (t : Fin cfg0.N) : S1024x1024.Idx → EReal := iblk m c 2 t
@[inherit_doc in0] abbrev in3 (t : Fin cfg0.N) : S1x1024.Idx → EReal := iblk m c 3 t
@[inherit_doc in0] abbrev in4 (t : Fin cfg0.N) : S1024x5632.Idx → EReal := iblk m c 4 t
@[inherit_doc in0] abbrev in5 (t : Fin cfg0.N) : S3x5632.Idx → EReal := iblk m c 5 t
@[inherit_doc in0] abbrev in6 (t : Fin cfg0.N) : S1x5632.Idx → EReal := iblk m c 6 t
@[inherit_doc in0] abbrev in7 (t : Fin cfg0.N) : S2816x1024.Idx → EReal := iblk m c 7 t
@[inherit_doc in0] abbrev in8 (t : Fin cfg0.N) : S1x1024.Idx → EReal := iblk m c 8 t
@[inherit_doc in0] abbrev in9 (t : Fin cfg0.N) : S256x5632.Idx → EReal := iblk m c 9 t
@[inherit_doc in0] abbrev in10 (t : Fin cfg0.N) : S256x5632.Idx → EReal := iblk m c 10 t

/-- The activations' rows, all sequences in one. -/
theorem V_x (b : Fin 32) (t : Fin 8) (z : Fin 1024) : (V m c main_v0 : S256x1024.Idx → EReal) (ix2 ⟨8 * b.val + t.val, by omega⟩ z) = (arr m c).x b t z := by
  unfold V arr
  after_reads_at

/-- The mixer output's rows, all sequences in one. -/
theorem V_o (b : Fin 32) (t : Fin 8) (z : Fin 1024) : (V m c main_v1 : S256x1024.Idx → EReal) (ix2 ⟨8 * b.val + t.val, by omega⟩ z) = (arr m c).o b t z := by
  unfold V arr
  after_reads_at

/-- The projection. -/
theorem V_wo (k : Fin 1024) (z : Fin 1024) : (V m c main_v2 : S1024x1024.Idx → EReal) (ix2 k z) = (arr m c).wo k z := by
  unfold V arr
  after_reads_at

/-- The input weight. -/
theorem V_win (k : Fin 1024) (z : Fin 5632) : (V m c main_v3 : S1024x5632.Idx → EReal) (ix2 k z) = (arr m c).win k z := by
  unfold V arr
  after_reads_at

/-- The output weight. -/
theorem V_wout (k : Fin 2816) (z : Fin 1024) : (V m c main_v4 : S2816x1024.Idx → EReal) (ix2 k z) = (arr m c).wout k z := by
  unfold V arr
  after_reads_at

/-- The gain as a row. -/
theorem V_g (z : Fin 1024) : (V m c main_v5 : S1x1024.Idx → EReal) (ix2 0 z) = (arr m c).g z := by
  unfold V arr
  after_reads_at

/-- The convolution's bias as a row. -/
theorem V_cb (z : Fin 5632) : (V m c main_v6 : S1x5632.Idx → EReal) (ix2 0 z) = (arr m c).cb z := by
  unfold V arr
  after_reads_at

/-- The last gain as a row. -/
theorem V_gf (z : Fin 1024) : (V m c main_v7 : S1x1024.Idx → EReal) (ix2 0 z) = (arr m c).gf z := by
  unfold V arr
  after_reads_at

/-- The row before each sequence, at its first row. -/
theorem V_p1 (b : Fin 32) (z : Fin 5632) : (V m c main_v10 : S256x5632.Idx → EReal) (ix2 ⟨8 * b.val, by omega⟩ z) = (arr m c).pv b 1 z := by
  unfold V arr
  after_reads_at
  rw [dif_pos (show 8 * b.val % 8 < 1 by omega)]
  refine congrArg (fun q => (m ((c : Thread nD τ).loc main_arg9) : S32x2x5632.Idx → EReal) (ix3 b q z)) (Fin.ext ?_)
  show 1 + 8 * b.val % 8 = 1
  omega

/-- The two rows before each sequence, at its first two. -/
theorem V_p2 (b : Fin 32) (q : Fin 2) (z : Fin 5632) : (V m c main_v12 : S256x5632.Idx → EReal) (ix2 ⟨8 * b.val + q.val, by omega⟩ z) = (arr m c).pv b q z := by
  unfold V arr
  after_reads_at
  rw [dif_pos (show (8 * b.val + q.val) % 8 < 2 by omega)]
  refine congrArg (fun q => (m ((c : Thread nD τ).loc main_arg9) : S32x2x5632.Idx → EReal) (ix3 b q z)) (Fin.ext ?_)
  show (8 * b.val + q.val) % 8 = q.val
  omega

/-- The block of the row before each sequence. -/
theorem blk_p1 (t : Fin cfg0.N) (r : Fin 256) (z : Fin 5632) : in9 m c t (ix2 r z) = (V m c main_v10 : S256x5632.Idx → EReal) (ix2 r z) := by
  blk_ext [iblk, (idx_tok t).2.1.1]

/-- The block of the two rows before each sequence. -/
theorem blk_p2 (t : Fin cfg0.N) (r : Fin 256) (z : Fin 5632) : in10 m c t (ix2 r z) = (V m c main_v12 : S256x5632.Idx → EReal) (ix2 r z) := by
  blk_ext [iblk, (idx_tok t).2.1.2]

/-- The tile at the point holds the arguments. -/
theorem holds (t : Fin cfg0.N) : (rd (in0 m c t) (in1 m c t) (in2 m c t) (in3 m c t) (in4 m c t) (in5 m c t) (in6 m c t) (in7 m c t) (in8 m c t) (in9 m c t) (in10 m c t)).Holds (arr m c) := by
  refine rd_holds _ _ _ _ _ _ _ _ _ _ _ _ (fun r z => ?_) (fun r z => ?_) (fun k z => ?_) (fun z => ?_) (fun k z => ?_) (fun k z => ?_) (fun z => ?_) (fun k z => ?_) (fun z => ?_)
    (fun r z hr => ?_) fun r z hr => ?_
  · refine Eq.trans ?_ (V_x m c (sq r) (at8 r) z)
    unfold sq at8
    blk_ext [iblk, (idx_tok t).1.1]
  · refine Eq.trans ?_ (V_o m c (sq r) (at8 r) z)
    unfold sq at8
    blk_ext [iblk, (idx_tok t).1.2.1]
  · refine Eq.trans ?_ (V_wo m c k z)
    blk_ext [iblk, (idx_tok t).1.2.2.1]
  · refine Eq.trans ?_ (V_g m c z)
    blk_ext [iblk, (idx_tok t).1.2.2.2.1]
  · refine Eq.trans ?_ (V_win m c k z)
    blk_ext [iblk, (idx_tok t).1.2.2.2.2.1]
  · refine Eq.trans ?_ (congrFun (V_main_arg5 m c) (ix2 k z))
    blk_ext [iblk, (idx_tok t).1.2.2.2.2.2.1]
  · refine Eq.trans ?_ (V_cb m c z)
    blk_ext [iblk, (idx_tok t).1.2.2.2.2.2.2.1]
  · refine Eq.trans ?_ (V_wout m c k z)
    blk_ext [iblk, (idx_tok t).1.2.2.2.2.2.2.2.1]
  · refine Eq.trans ?_ (V_gf m c z)
    blk_ext [iblk, (idx_tok t).1.2.2.2.2.2.2.2.2]
  · refine (blk_p1 m c t r z).trans (Eq.trans (congrArg (fun a : Fin 256 => (V m c main_v10 : S256x5632.Idx → EReal) (ix2 a z)) (Fin.ext ?_)) ((V_p1 m c (sq r) z).trans (congrArg (fun q => (arr m c).pv (sq r) q z) (Fin.ext ?_))))
    · show r.val = 8 * (r.val / 8)
      omega
    · show 1 = (2 - 1 + r.val % 8) % 2
      omega
  · refine (blk_p2 m c t r z).trans (Eq.trans (congrArg (fun a : Fin 256 => (V m c main_v12 : S256x5632.Idx → EReal) (ix2 a z)) (Fin.ext ?_)) ((V_p2 m c (sq r) ⟨r.val % 8, hr⟩ z).trans (congrArg (fun q => (arr m c).pv (sq r) q z) (Fin.ext ?_))))
    · show r.val = 8 * (r.val / 8) + r.val % 8
      omega
    · show r.val % 8 = (2 - 2 + r.val % 8) % 2
      omega

/-- The rows' array after the run. -/
theorem arr11 : (dats m 0 c).arrAt 11 (cfgs 0).N = fun i : S256x1024.Idx => (arr m c).y (sq (i 0)) (at8 (i 0)) (i 1) := by
  refine (dats m 0 c).arrAt_eq_of_covers 11 _ (by decide +kernel) fun t hf y => ?_
  blk_simp
  rw [after0_11]
  have hy : y = (ix2 (y 0) (y 1) : S256x1024.Idx) := by
    funext a
    fin_cases a <;> rfl
  refine (congrArg _ hy).trans ((out11_row _ _ _ _ _ _ _ _ _ _ _ (holds m c t) (y 0) (y 1)).trans ?_)
  refine congrArg₂ (fun (a : Fin 256) b => (arr m c).y (sq a) (at8 a) b) (Fin.ext ?_) (Fin.ext ?_)
  · show (y 0).val = win0_11.index t 0 * 256 + 1 * (y 0).val
    rw [(idx_tok t).2.2.1]; simp
  · show (y 1).val = win0_11.index t 1 * 1024 + 1 * (y 1).val
    rw [(idx_tok t).2.2.1]; simp

/-- The feed-forward inputs' array after the run. -/
theorem arr12 : (dats m 0 c).arrAt 12 (cfgs 0).N = fun i : S256x5632.Idx => (arr m c).u (sq (i 0)) (at8 (i 0)) (i 1) := by
  refine (dats m 0 c).arrAt_eq_of_covers 12 _ (by decide +kernel) fun t hf y => ?_
  blk_simp
  rw [after0_12]
  have hy : y = (ix2 (y 0) (y 1) : S256x5632.Idx) := by
    funext a
    fin_cases a <;> rfl
  refine (congrArg _ hy).trans ((out12_row _ _ _ _ _ _ _ _ _ _ _ (holds m c t) (y 0) (y 1)).trans ?_)
  refine congrArg₂ (fun (a : Fin 256) b => (arr m c).u (sq a) (at8 a) b) (Fin.ext ?_) (Fin.ext ?_)
  · show (y 0).val = win0_12.index t 0 * 256 + 1 * (y 0).val
    rw [(idx_tok t).2.2.2]; simp
  · show (y 1).val = win0_12.index t 1 * 5632 + 1 * (y 1).val
    rw [(idx_tok t).2.2.2]; simp

/-- No two windows share an array. -/
theorem arrRef_inj : Function.Injective (Pipeline.arrRef (cfgs 0).spec) := by decide +kernel

/-- The rows, after the lines that follow the region. -/
theorem end_y : (Pipeline.afterTail₀ cfgs (dats m) 0 (V0 m) [hostOps1] c main_v16 : S32x8x1024.Idx → EReal) = fun i => (arr m c).y (i 0) (i 1) (i 2) := by
  funext i
  unfold Pipeline.afterTail₀
  after_reads_at
  have i1 : (i 1).val < 8 := (i 1).isLt
  refine (congrFun ((Pipeline.withArrays_arr (cfgs 0).spec arrRef_inj c (V0 m c) (fun w => (dats m 0 c).arrAt w (cfgs 0).N) 11).trans (arr11 m c)) _).trans ?_
  congr 1
  · exact Fin.ext (by show ((i 0).val * 8 + (i 1).val) / 8 = (i 0).val; omega)
  · exact Fin.ext (by show ((i 0).val * 8 + (i 1).val) % 8 = (i 1).val; omega)

/-- Each sequence's last two inputs, after the lines that follow the region. -/
theorem end_u : (Pipeline.afterTail₀ cfgs (dats m) 0 (V0 m) [hostOps1] c main_v15 : S32x2x5632.Idx → EReal)
    = fun i => (arr m c).u (i 0) ⟨6 + (i 1).val, by have h := (i 1).isLt; change _ < 2 at h; omega⟩ (i 2) := by
  funext i
  unfold Pipeline.afterTail₀
  after_reads_at
  have i1 : (i 1).val < 2 := (i 1).isLt
  refine (congrFun ((Pipeline.withArrays_arr (cfgs 0).spec arrRef_inj c (V0 m c) (fun w => (dats m 0 c).arrAt w (cfgs 0).N) 12).trans (arr12 m c)) _).trans ?_
  congr 1
  · exact Fin.ext (by show ((i 0).val * 8 + (6 + (i 1).val)) / 8 = (i 0).val; omega)
  · exact Fin.ext (by show ((i 0).val * 8 + (6 + (i 1).val)) % 8 = 6 + (i 1).val; omega)

/-- The run ends with both results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v16) = (fun i : S32x8x1024.Idx => (arr m c).y (i 0) (i 1) (i 2))
      ∧ r.2.mem ((c.tc : Thread nD τ).loc main_v15) = (fun i : S32x2x5632.Idx => (arr m c).u (i 0) ⟨6 + (i 1).val, by have h := (i 1).isLt; change _ < 2 at h; omega⟩ (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).2 main_v16 (Pipeline.mem_restRefs_of main_v16 (by decide) (by decide))).trans (end_y m c),
    ((h.1 c).2 main_v15 (Pipeline.mem_restRefs_of main_v15 (by decide) (by decide))).trans (end_u m c), h.2 c⟩)
    (θ_run_and (run_main m ρ) (unchanged m ρ))

end Cert.Ffn.Step.Last
-- ==== Proof.Ffn.Step.Ref.lean ====
/- The reference's arrays of the sample group in functions of its own, read at an index over extended reals. -/
module

public import proofs.«01_k».proof.Proof.Gen.Reference9Ideal.Run
public import proofs.«01_k».proof.Proof.Ffn.Step.Math
public import proofs.«01_k».proof.Proof.Proj.Step.Ref

@[expose] public section
set_option maxRecDepth 16384
noncomputable section
namespace Cert.Ffn.Step.Ref

open Idealize.ShloMosaic Idealize.ShloMosaic.TcCoe Idealize.ShloMosaic.Tactic
open Cert.Reference9Ideal Cert.Reference9Ideal.Gen Cert.Ffn Cert.Proj.Step

section Values
variable {F : FTy → Type} [FloatOps F]

/-- The activations with the projected mixer output. -/
def xo (x : FVec F S32x8x1024 .f32) (o : FVec F S32x8x1024 .f32) (w : FVec F S1024x1024 .f32) : FVec F S32x8x1024 .f32 :=
  addf x (Host.dotGeneral dot_S32x8x1024_S1024x1024_S32x8x1024_2_0_01_1_n_n none o w)

/-- The feed-forward's input. -/
def inp (h : FVec F S32x8x1024 .f32) (w : FVec F S1024x5632 .f32) : FVec F S32x8x5632 .f32 :=
  Host.dotGeneral dot_S32x8x1024_S1024x5632_S32x8x5632_2_0_01_1_n_n none h w

/-- The input under the two rows before. -/
def pad (pv : FVec F S32x2x5632 .f32) (u : FVec F S32x8x5632 .f32) : FVec F S32x10x5632 .f32 :=
  concatenate S32x10x5632 1 [⟨S32x2x5632, pv⟩, ⟨S32x8x5632, u⟩]
    concatenates_S32x2x5632_S32x8x5632_S32x10x5632_d1

/-- The convolution's row of weights over all positions. -/
def row (w : FVec F S1x5632 .f32) : FVec F S32x8x5632 .f32 :=
  broadcastInDim S32x8x5632 ![0, 1, 2] bcast_S1x1x5632_S32x8x5632_0_1_2 (broadcastInDim S1x1x5632 ![2] bcast_S5632_S1x1x5632_2
    (shapeCast S5632 w shapeCasts_S1x5632_S5632))

/-- The convolution. -/
def conv (p : FVec F S32x10x5632 .f32) (cw : FVec F S3x5632 .f32) (cb : FVec F S5632 .f32) : FVec F S32x8x5632 .f32 :=
  addf (addf (addf (addf (broadcastInDim S32x8x5632 ![] bcast_S_S32x8x5632 (constant S_ .f32 0x00000000#32))
        (mulf (extractStridedSlice S32x8x5632 ![0, 0, 0] p slices_S32x10x5632_S32x8x5632_0_0_0) (row (extractStridedSlice S1x5632 ![0, 0] cw slices_S3x5632_S1x5632_0_0))))
      (mulf (extractStridedSlice S32x8x5632 ![0, 1, 0] p slices_S32x10x5632_S32x8x5632_0_1_0) (row (extractStridedSlice S1x5632 ![1, 0] cw slices_S3x5632_S1x5632_1_0))))
    (mulf (extractStridedSlice S32x8x5632 ![0, 2, 0] p slices_S32x10x5632_S32x8x5632_0_2_0) (row (extractStridedSlice S1x5632 ![2, 0] cw slices_S3x5632_S1x5632_2_0))))
    (broadcastInDim S32x8x5632 ![0, 1, 2] bcast_S1x1x5632_S32x8x5632_0_1_2 (broadcastInDim S1x1x5632 ![2] bcast_S5632_S1x1x5632_2 cb))

/-- The convolution's gate half under its logistic, times its value half. -/
def act (v : FVec F S32x8x5632 .f32) : FVec F S32x8x2816 .f32 :=
  mulf (mulf (extractStridedSlice S32x8x2816 ![0, 0, 0] v slices_S32x8x5632_S32x8x2816_0_0_0)
      (Host.divf (broadcastInDim S32x8x2816 ![] bcast_S_S32x8x2816 (constant S_ .f32 0x3F800000#32))
        (addf (broadcastInDim S32x8x2816 ![] bcast_S_S32x8x2816 (constant S_ .f32 0x3F800000#32))
          (Host.exp (Host.negf (extractStridedSlice S32x8x2816 ![0, 0, 0] v slices_S32x8x5632_S32x8x2816_0_0_0))))))
    (extractStridedSlice S32x8x2816 ![0, 0, 2816] v slices_S32x8x5632_S32x8x2816_0_0_2816)

/-- The residual and the output weight's product. -/
def acc (x : FVec F S32x8x1024 .f32) (a : FVec F S32x8x2816 .f32) (w : FVec F S2816x1024 .f32) : FVec F S32x8x1024 .f32 :=
  addf x (Host.dotGeneral dot_S32x8x2816_S2816x1024_S32x8x1024_2_0_01_1_n_n none a w)

/-- The last two rows of the padded input. -/
def prev (p : FVec F S32x10x5632 .f32) : FVec F S32x2x5632 .f32 :=
  extractStridedSlice S32x2x5632 ![0, 8, 0] p slices_S32x10x5632_S32x2x5632_0_8_0

/-- The layer's result before a last normalization, of the arguments. -/
def block (x : FVec F S32x8x1024 .f32) (o : FVec F S32x8x1024 .f32) (wo : FVec F S1024x1024 .f32) (g : FVec F S1024 .f32)
    (win : FVec F S1024x5632 .f32) (cw : FVec F S3x5632 .f32) (cb : FVec F S5632 .f32) (wout : FVec F S2816x1024 .f32) (pv : FVec F S32x2x5632 .f32) : FVec F S32x8x1024 .f32 :=
  acc (xo x o wo) (act (conv (pad pv (inp (norm (xo x o wo) g) win)) cw cb)) wout

/-- The layer's normalized result, of the arguments. -/
def out (x : FVec F S32x8x1024 .f32) (o : FVec F S32x8x1024 .f32) (wo : FVec F S1024x1024 .f32) (g : FVec F S1024 .f32)
    (win : FVec F S1024x5632 .f32) (cw : FVec F S3x5632 .f32) (cb : FVec F S5632 .f32) (wout : FVec F S2816x1024 .f32) (gf : FVec F S1024 .f32) (pv : FVec F S32x2x5632 .f32) : FVec F S32x8x1024 .f32 :=
  norm (acc (xo x o wo) (act (conv (pad pv (inp (norm (xo x o wo) g) win)) cw cb)) wout) gf

/-- The layer's last two feed-forward inputs, of the arguments. -/
def tail (x : FVec F S32x8x1024 .f32) (o : FVec F S32x8x1024 .f32) (wo : FVec F S1024x1024 .f32) (g : FVec F S1024 .f32)
    (win : FVec F S1024x5632 .f32) (pv : FVec F S32x2x5632 .f32) : FVec F S32x2x5632 .f32 :=
  prev (pad pv (inp (norm (xo x o wo) g) win))

end Values

/-- The residual at an index. -/
theorem xo_apply (x o : FVec Ideal S32x8x1024 .f32) (w : FVec Ideal S1024x1024 .f32) (b : Fin 32) (t : Fin 8) (z : Fin 1024) :
    xo (F := Ideal) x o w (ix3 b t z) = x (ix3 b t z) + ∑ k, o (ix3 b t k) * w (ix2 k z) := by
  unfold xo
  pointwise

/-- The feed-forward's input at an index. -/
theorem inp_apply (h : FVec Ideal S32x8x1024 .f32) (w : FVec Ideal S1024x5632 .f32) (b : Fin 32) (t : Fin 8) (z : Fin 5632) :
    inp h w (ix3 b t z) = ∑ k, h (ix3 b t k) * w (ix2 k z) := by
  unfold inp
  pointwise

/-- The padded input at an index. -/
theorem pad_apply (pv : FVec Ideal S32x2x5632 .f32) (u : FVec Ideal S32x8x5632 .f32) (b : Fin 32) (t : Fin 10) (z : Fin 5632) :
    pad pv u (ix3 b t z) = if h : t.val < 2 then pv (ix3 b ⟨t.val, h⟩ z) else u (ix3 b ⟨t.val - 2, by omega⟩ z) := by
  unfold pad
  pointwise

/-- A row of weights at an index. -/
theorem row_apply (w : FVec Ideal S1x5632 .f32) (b : Fin 32) (t : Fin 8) (z : Fin 5632) : row w (ix3 b t z) = w (ix2 0 z) := by
  unfold row
  pointwise

/-- The convolution at an index. -/
theorem conv_apply (p : FVec Ideal S32x10x5632 .f32) (cw : FVec Ideal S3x5632 .f32) (cb : FVec Ideal S5632 .f32) (b : Fin 32) (t : Fin 8) (z : Fin 5632) :
    conv p cw cb (ix3 b t z) = p (ix3 b ⟨t.val, by omega⟩ z) * cw (ix2 0 z) + p (ix3 b ⟨1 + t.val, by omega⟩ z) * cw (ix2 1 z)
      + p (ix3 b ⟨2 + t.val, by omega⟩ z) * cw (ix2 2 z) + cb (ix1 z) := by
  unfold conv row
  pointwise

/-- The gated activation at an index. -/
theorem act_apply (v : FVec Ideal S32x8x5632 .f32) (b : Fin 32) (t : Fin 8) (j : Fin 2816) :
    act v (ix3 b t j) = v (ix3 b t (lo j)) * Ideal.div 1 (1 + Ideal.exp (0 - v (ix3 b t (lo j)))) * v (ix3 b t (hi j)) := by
  unfold act
  pointwise
  rw [zero_sub]
  rfl

/-- The block's result at an index. -/
theorem acc_apply (x : FVec Ideal S32x8x1024 .f32) (a : FVec Ideal S32x8x2816 .f32) (w : FVec Ideal S2816x1024 .f32) (b : Fin 32) (t : Fin 8) (z : Fin 1024) :
    acc x a w (ix3 b t z) = x (ix3 b t z) + ∑ j, a (ix3 b t j) * w (ix2 j z) := by
  unfold acc
  pointwise

/-- The last two rows at an index. -/
theorem prev_apply (p : FVec Ideal S32x10x5632 .f32) (b : Fin 32) (q : Fin 2) (z : Fin 5632) : prev p (ix3 b q z) = p (ix3 b ⟨8 + q.val, by omega⟩ z) := by
  unfold prev
  pointwise

section Rows

variable (x : FVec Ideal S32x8x1024 .f32) (o : FVec Ideal S32x8x1024 .f32) (wo : FVec Ideal S1024x1024 .f32) (g : FVec Ideal S1024 .f32)
  (win : FVec Ideal S1024x5632 .f32) (cw : FVec Ideal S3x5632 .f32) (cb : FVec Ideal S5632 .f32) (wout : FVec Ideal S2816x1024 .f32) (gf : FVec Ideal S1024 .f32) (pv : FVec Ideal S32x2x5632 .f32)

/-- The arrays, by their indices. -/
def arr : Arr where
  x b t z := x (ix3 b t z)
  o b t z := o (ix3 b t z)
  wo k z := wo (ix2 k z)
  g z := g (ix1 z)
  win k z := win (ix2 k z)
  cw k z := cw (ix2 k z)
  cb z := cb (ix1 z)
  wout k z := wout (ix2 k z)
  gf z := gf (ix1 z)
  pv b q z := pv (ix3 b q z)

/-- The reference's feed-forward input is the formula's. -/
theorem u_row (b : Fin 32) (t : Fin 8) (z : Fin 5632) :
    inp (norm (xo x o wo) g) win (ix3 b t z) = (arr x o wo g win cw cb wout gf pv).u b t z := by
  rw [inp_apply]
  unfold Arr.u
  refine Finset.sum_congr rfl fun k _ => ?_
  rw [norm_apply]
  refine congrArg (· * win (ix2 k z)) (congrArg (fun f => rms f (fun k => g (ix1 k)) k) ?_)
  funext k'
  exact xo_apply x o wo b t k'

/-- The padded input's row is the row above, of the two before where there is none. -/
theorem pad_row (n : ℕ) (hn : n ≤ 2) (b : Fin 32) (t : Fin 8) (z : Fin 5632) :
    pad pv (inp (norm (xo x o wo) g) win) (ix3 b ⟨2 - n + t.val, by omega⟩ z) = (arr x o wo g win cw cb wout gf pv).up b n t z := by
  rw [pad_apply]
  unfold Arr.up
  by_cases h : n ≤ t.val
  · rw [if_pos h, dif_neg (show ¬2 - n + t.val < 2 by omega), u_row x o wo g win cw cb wout gf pv]
    congr 1
    exact Fin.ext (by show 2 - n + t.val - 2 = t.val - n; omega)
  · rw [if_neg h, dif_pos (show 2 - n + t.val < 2 by omega)]
    refine congrArg (fun q => pv (ix3 b q z)) (Fin.ext ?_)
    show 2 - n + t.val = (2 - n + t.val) % 2
    omega

/-- The reference's convolution is the formula's. -/
theorem conv_row (b : Fin 32) (t : Fin 8) (z : Fin 5632) :
    conv (pad pv (inp (norm (xo x o wo) g) win)) cw cb (ix3 b t z) = (arr x o wo g win cw cb wout gf pv).conv b t z := by
  have e2 := pad_row x o wo g win cw cb wout gf pv 2 (le_refl _) b t z
  have e1 := pad_row x o wo g win cw cb wout gf pv 1 (by omega) b t z
  have e0 := pad_row x o wo g win cw cb wout gf pv 0 (by omega) b t z
  simp only [Nat.sub_self, Nat.zero_add, Nat.sub_zero, show 2 - 1 = 1 from rfl] at e2 e1 e0
  have e3 : (arr x o wo g win cw cb wout gf pv).up b 0 t z = (arr x o wo g win cw cb wout gf pv).u b t z := by
    unfold Arr.up
    rw [if_pos (Nat.zero_le _)]
    rfl
  rw [conv_apply, e2, e1, e0, e3]
  rfl

/-- The reference's block result is the formula's. -/
theorem acc_row (b : Fin 32) (t : Fin 8) (z : Fin 1024) :
    acc (xo x o wo) (act (conv (pad pv (inp (norm (xo x o wo) g) win)) cw cb)) wout (ix3 b t z) = (arr x o wo g win cw cb wout gf pv).acc b t z := by
  rw [acc_apply, xo_apply]
  unfold Arr.acc
  refine congrArg ((arr x o wo g win cw cb wout gf pv).xo b t z + ·) (Finset.sum_congr rfl fun j _ => ?_)
  rw [act_apply, conv_row x o wo g win cw cb wout gf pv, conv_row x o wo g win cw cb wout gf pv]
  rfl

/-- The reference's normalized result is the formula's. -/
theorem y_row (b : Fin 32) (t : Fin 8) (z : Fin 1024) :
    norm (acc (xo x o wo) (act (conv (pad pv (inp (norm (xo x o wo) g) win)) cw cb)) wout) gf (ix3 b t z) = (arr x o wo g win cw cb wout gf pv).y b t z := by
  rw [norm_apply]
  refine congrArg (fun f => rms f (fun k => gf (ix1 k)) z) ?_
  funext k
  exact acc_row x o wo g win cw cb wout gf pv b t k

/-- The reference's last two rows are the formula's. -/
theorem prev_row (b : Fin 32) (q : Fin 2) (z : Fin 5632) :
    prev (pad pv (inp (norm (xo x o wo) g) win)) (ix3 b q z) = (arr x o wo g win cw cb wout gf pv).u b ⟨6 + q.val, by omega⟩ z := by
  rw [prev_apply, pad_apply, dif_neg (show ¬8 + q.val < 2 by omega), u_row x o wo g win cw cb wout gf pv]
  congr 1
  exact Fin.ext (by show 8 + q.val - 2 = 6 + q.val; omega)

end Rows

end Cert.Ffn.Step.Ref
-- ==== Proof.Ffn.Step.LastClaim.lean ====
/- The last layer's two programs of the sample group: their results are one function of the arguments. -/
module

public import proofs.«01_k».proof.Proof.Ffn.Step.Last
public import proofs.«01_k».proof.Proof.Ffn.Step.Ref
public import proofs.«01_k».proof.Proof.Gen.Reference9Ideal.Run
public import proofs.«01_k».proof.Defs
public import proofs.«01_k».proof.Proof.Gen.Kernel9.Frame

@[expose] public section
set_option maxRecDepth 16384
noncomputable section
namespace Cert.Ffn.Step.Last

open Idealize.ShloMosaic Idealize.ShloMosaic.TcCoe Idealize.SL.Sem

section Reference

open Cert.Reference9Ideal Cert.Reference9Ideal.Gen Cert.Reference9Ideal.Value

variable (m : (ℓ : Loc nD τ sig) → Buf (Elt Ideal) ℓ) (c : Dev nD)

/-- The arguments the reference starts with. -/
def refArr : Arr := Ref.arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The reference's first result. -/
theorem ref_y : res_main_v61 (F := Ideal) m c = (fun i => (refArr m c).y (i 0) (i 1) (i 2) : S32x8x1024.Idx → EReal) := by
  have h : res_main_v61 (F := Ideal) m c = Ref.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl
  rw [h]
  funext i
  obtain ⟨b, t, z, rfl⟩ : ∃ (b : Fin 32) (t : Fin 8) (z : Fin 1024), i = ix3 b t z := ⟨i 0, i 1, i 2, by funext a; fin_cases a <;> rfl⟩
  exact Ref.y_row _ _ _ _ _ _ _ _ _ _ b t z

/-- The reference's second result. -/
theorem ref_u : (Ref.tail (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) : S32x2x5632.Idx → EReal)
    = fun i : S32x2x5632.Idx => (refArr m c).u (i 0) ⟨6 + (i 1).val, by have h := (i 1).isLt; change _ < 2 at h; omega⟩ (i 2) := by
  funext i
  obtain ⟨b, q, z, rfl⟩ : ∃ (b : Fin 32) (q : Fin 2) (z : Fin 5632), i = ix3 b q z := ⟨i 0, i 1, i 2, by funext a; fin_cases a <;> rfl⟩
  exact Ref.prev_row _ _ _ _ _ (m ((c.tc : Thread nD τ).loc main_arg5)) (m ((c.tc : Thread nD τ).loc main_arg6)) (m ((c.tc : Thread nD τ).loc main_arg7)) (m ((c.tc : Thread nD τ).loc main_arg8)) _ b q z

end Reference

/-- The reference's run ends quiet, its arguments unchanged. -/
theorem frame_ref : Cert.quiescent_Reference9Ideal := fun m ρ _ =>
  (θ_run Cert.Reference9Ideal.defs _ _).mono (fun r h => ⟨fun c => (h c).2.2, Idealize.ShloMosaic.sem_eq_zero_of_no_sems (by decide) r.2⟩) (Cert.Reference9Ideal.Value.run (F := Ideal) m ρ)

/-- The kernel's results are the reference's. -/
theorem algebraic : Cert.algebraic_Kernel9Ideal_Reference9Ideal := by
  intro m ρ m' ρ' _ hagree
  have e : ∀ c, refArr m' c = arr m c := fun c => by
    obtain ⟨e0, e1, e2, e3, e4, e5, e6, e7, e8, e9⟩ := hagree c
    unfold refArr
    rw [e0, e1, e2, e3, e4, e5, e6, e7, e8, e9]
    rfl
  refine ⟨_, _, run m ρ, ?_⟩
  refine (θ_run Cert.Reference9Ideal.defs _ _).mono (fun r h c => ?_) (Cert.Reference9Ideal.Value.run (F := Ideal) m' ρ')
  obtain ⟨r1, r2, rest⟩ := h c
  refine ⟨r1.trans ((ref_y m' c).trans ?_), r2.trans ((ref_u m' c).trans ?_), rest⟩
  · rw [e c]
  · rw [e c]

end Cert.Ffn.Step.Last
-- ==== Proof.Ffn.Step.Mid.lean ====
/- An inner layer of the sample group over extended reals: what its one tile computes and what the run leaves. -/
module

public import proofs.«01_k».proof.Proof.Ffn.Step.Tile
public import proofs.«01_k».proof.Proof.Gen.Kernel10Ideal.Frame
public import Idealize.ShloMosaic.Lib.StableHlo.ReadAt
public import Idealize.ShloMosaic.Lib.Claim

@[expose] public section
set_option maxRecDepth 16384
noncomputable section
namespace Cert.Ffn.Step.Mid

open Idealize.ShloMosaic Idealize.ShloMosaic.TcCoe Idealize.ShloMosaic.Tactic Idealize.SL.Sem
open Cert.Kernel10Ideal Cert.Kernel10Ideal.Gen Cert.Ffn

section Tile

variable (x0 : Vec Ideal S256x1024 .f32) (x1 : Vec Ideal S256x1024 .bf16) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (x9 : Vec Ideal S256x5632 .f32) (x10 : Vec Ideal S256x5632 .f32)

/-- What the tile reads of its blocks. -/
def rd : Rd Ideal where
  x := View.ld x0 r0_0
  o := shapeCast S256x1024 (View.ld x1 r0_0) shapeCasts_S256x1024_S256x1024
  wo := View.ld x2 r0_1
  g := View.ld x3 r0_2
  w0 := View.ld x4 r0_3
  w1 := View.ld x4 r0_9
  c00 := View.ld x5 r0_5
  c01 := View.ld x5 r0_6
  c02 := View.ld x5 r0_7
  cb0 := View.ld x6 r0_8
  c10 := View.ld x5 r0_11
  c11 := View.ld x5 r0_12
  c12 := View.ld x5 r0_13
  cb1 := View.ld x6 r0_14
  wout := View.ld x7 r0_15
  gf := View.ld x8 r0_2
  p10 := View.ld x9 r0_4
  p11 := View.ld x9 r0_10
  p20 := View.ld x10 r0_4
  p21 := View.ld x10 r0_10

/-- The rows it stores. -/
theorem out11_eq : out0_11 x0 x1 x2 x3 x4 x5 x6 x7 x8 x9 x10 = View.canon [(⟨r0_0, (rd x0 x1 x2 x3 x4 x5 x6 x7 x8 x9 x10).acc⟩ : View.Piece (Elt Ideal) S256x1024 .f32)] := by
  unfold out0_11 k0_pay14 k0_pay13 k0_pay12 k0_pay11
  rfl

/-- The feed-forward's inputs it stores. -/
theorem out12_eq : out0_12 x0 x1 x2 x3 x4 x5 x6 x7 x8 x9 x10 = View.canon [(⟨r0_10, (rd x0 x1 x2 x3 x4 x5 x6 x7 x8 x9 x10).u1⟩ : View.Piece (Elt Ideal) S256x5632 .f32), (⟨r0_4, (rd x0 x1 x2 x3 x4 x5 x6 x7 x8 x9 x10).u0⟩ : View.Piece (Elt Ideal) S256x5632 .f32)] := by
  unfold out0_12 k0_pay14 k0_pay11
  rfl

/-- The blocks' rows are the arrays', so what the tile reads is theirs. -/
theorem rd_holds (A : Arr) (hx : ∀ r z, x0 (ix2 r z) = A.x (sq r) (at8 r) z) (ho : ∀ r z, x1 (ix2 r z) = A.o (sq r) (at8 r) z)
    (hwo : ∀ k z, x2 (ix2 k z) = A.wo k z) (hg : ∀ z, x3 (ix2 0 z) = A.g z) (hw : ∀ k z, x4 (ix2 k z) = A.win k z)
    (hc : ∀ k z, x5 (ix2 k z) = A.cw k z) (hb : ∀ z, x6 (ix2 0 z) = A.cb z) (hv : ∀ k z, x7 (ix2 k z) = A.wout k z) (hf : ∀ z, x8 (ix2 0 z) = A.gf z)
    (h1 : ∀ r z, r.val % 8 < 1 → x9 (ix2 r z) = A.pv (sq r) ⟨(2 - 1 + r.val % 8) % 2, Nat.mod_lt _ (by decide)⟩ z)
    (h2 : ∀ r z, r.val % 8 < 2 → x10 (ix2 r z) = A.pv (sq r) ⟨(2 - 2 + r.val % 8) % 2, Nat.mod_lt _ (by decide)⟩ z) :
    (rd x0 x1 x2 x3 x4 x5 x6 x7 x8 x9 x10).Holds A where
  x r z := (ld_at (e := .f32) x0 inb_S256x1024_S256x1024_0_0 r z r z (Nat.zero_add _) (Nat.zero_add _)).trans (hx r z)
  o r z := by
    refine Eq.trans ?_ ((ld_at (e := .bf16) x1 inb_S256x1024_S256x1024_0_0 r z r z (Nat.zero_add _) (Nat.zero_add _)).trans (ho r z))
    unfold rd
    dsimp only
    generalize View.ld x1 r0_0 = y
    pointwise
  wo k z := (ld_at (e := .bf16) x2 inb_S1024x1024_S1024x1024_0_0 k z k z (Nat.zero_add _) (Nat.zero_add _)).trans (hwo k z)
  g z := (ld_at (e := .f32) x3 inb_S1x1024_S1x1024_0_0 0 z 0 z (Nat.zero_add _) (Nat.zero_add _)).trans (hg z)
  w0 k j := (ld_at (e := .bf16) x4 inb_S1024x5632_S1024x2816_0_0 k j k (lo j) (Nat.zero_add _) (Nat.zero_add _)).trans (hw k (lo j))
  w1 k j := (ld_at (e := .bf16) x4 inb_S1024x5632_S1024x2816_0_2816 k j k (hi j) (Nat.zero_add _) rfl).trans (hw k (hi j))
  c00 j := (ld_at (e := .f32) x5 inb_S3x5632_S1x2816_0_0 0 j 0 (lo j) rfl (Nat.zero_add _)).trans (hc 0 (lo j))
  c01 j := (ld_at (e := .f32) x5 inb_S3x5632_S1x2816_1_0 0 j 1 (lo j) rfl (Nat.zero_add _)).trans (hc 1 (lo j))
  c02 j := (ld_at (e := .f32) x5 inb_S3x5632_S1x2816_2_0 0 j 2 (lo j) rfl (Nat.zero_add _)).trans (hc 2 (lo j))
  cb0 j := (ld_at (e := .f32) x6 inb_S1x5632_S1x2816_0_0 0 j 0 (lo j) rfl (Nat.zero_add _)).trans (hb (lo j))
  c10 j := (ld_at (e := .f32) x5 inb_S3x5632_S1x2816_0_2816 0 j 0 (hi j) rfl rfl).trans (hc 0 (hi j))
  c11 j := (ld_at (e := .f32) x5 inb_S3x5632_S1x2816_1_2816 0 j 1 (hi j) rfl rfl).trans (hc 1 (hi j))
  c12 j := (ld_at (e := .f32) x5 inb_S3x5632_S1x2816_2_2816 0 j 2 (hi j) rfl rfl).trans (hc 2 (hi j))
  cb1 j := (ld_at (e := .f32) x6 inb_S1x5632_S1x2816_0_2816 0 j 0 (hi j) rfl rfl).trans (hb (hi j))
  wout k z := (ld_at (e := .bf16) x7 inb_S2816x1024_S2816x1024_0_0 k z k z (Nat.zero_add _) (Nat.zero_add _)).trans (hv k z)
  gf z := (ld_at (e := .f32) x8 inb_S1x1024_S1x1024_0_0 0 z 0 z (Nat.zero_add _) (Nat.zero_add _)).trans (hf z)
  p10 r j hr := (ld_at (e := .f32) x9 inb_S256x5632_S256x2816_0_0 r j r (lo j) (Nat.zero_add _) (Nat.zero_add _)).trans (h1 r (lo j) hr)
  p11 r j hr := (ld_at (e := .f32) x9 inb_S256x5632_S256x2816_0_2816 r j r (hi j) (Nat.zero_add _) rfl).trans (h1 r (hi j) hr)
  p20 r j hr := (ld_at (e := .f32) x10 inb_S256x5632_S256x2816_0_0 r j r (lo j) (Nat.zero_add _) (Nat.zero_add _)).trans (h2 r (lo j) hr)
  p21 r j hr := (ld_at (e := .f32) x10 inb_S256x5632_S256x2816_0_2816 r j r (hi j) (Nat.zero_add _) rfl).trans (h2 r (hi j) hr)

variable {A : Arr} (H : (rd x0 x1 x2 x3 x4 x5 x6 x7 x8 x9 x10).Holds A)
include H

/-- The rows it stores are the formula's. -/
theorem out11_row (r : Fin 256) (z : Fin 1024) : out0_11 x0 x1 x2 x3 x4 x5 x6 x7 x8 x9 x10 (ix2 r z) = A.acc (sq r) (at8 r) z := by
  rw [out11_eq, View.canon_unit_zero (by decide)]
  exact acc_row H r z

/-- So are the feed-forward's inputs. -/
theorem out12_row (r : Fin 256) (z : Fin 5632) : out0_12 x0 x1 x2 x3 x4 x5 x6 x7 x8 x9 x10 (ix2 r z) = A.u (sq r) (at8 r) z := by
  rw [out12_eq]
  revert z
  refine col_cases _ (fun j => ?_) fun j => ?_
  · exact (canon_lo _ _ _ _ [] r j).trans (u0_row H r j)
  · exact (canon_hi _ _ _ r j).trans (u1_row H r j)

end Tile

variable (m : (ℓ : Loc nD τ sig) → Buf (Elt Ideal) ℓ) (c : Dev nD)

/-- The arguments as device `c` holds them. -/
def arr : Arr where
  x b t z := (m ((c : Thread nD τ).loc main_arg0) : S32x8x1024.Idx → EReal) (ix3 b t z)
  o b t z := (m ((c : Thread nD τ).loc main_arg1) : S32x8x1024.Idx → EReal) (ix3 b t z)
  wo k z := (m ((c : Thread nD τ).loc main_arg2) : S1024x1024.Idx → EReal) (ix2 k z)
  g z := (m ((c : Thread nD τ).loc main_arg3) : S1024.Idx → EReal) (ix1 z)
  win k z := (m ((c : Thread nD τ).loc main_arg4) : S1024x5632.Idx → EReal) (ix2 k z)
  cw k z := (m ((c : Thread nD τ).loc main_arg5) : S3x5632.Idx → EReal) (ix2 k z)
  cb z := (m ((c : Thread nD τ).loc main_arg6) : S5632.Idx → EReal) (ix1 z)
  wout k z := (m ((c : Thread nD τ).loc main_arg7) : S2816x1024.Idx → EReal) (ix2 k z)
  gf z := (m ((c : Thread nD τ).loc main_arg3) : S1024.Idx → EReal) (ix1 z)
  pv b q z := (m ((c : Thread nD τ).loc main_arg8) : S32x2x5632.Idx → EReal) (ix3 b q z)

/-- The windows' block indices, at the only point. -/
theorem idx_tok : ∀ t : Fin cfg0.N, (win0_0.index t = ![0, 0] ∧ win0_1.index t = ![0, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0]) ∧ (win0_9.index t = ![0, 0] ∧ win0_10.index t = ![0, 0])
    ∧ win0_11.index t = ![0, 0] ∧ win0_12.index t = ![0, 0] := by decide +kernel

/-- The blocks the point reads. -/ abbrev in0 (t : Fin cfg0.N) : S256x1024.Idx → EReal := iblk m c 0 t
@[inherit_doc in0] abbrev in1 (t : Fin cfg0.N) : S256x1024.Idx → EReal := iblk m c 1 t
@[inherit_doc in0] abbrev in2 (t : Fin cfg0.N) : S1024x1024.Idx → EReal := iblk m c 2 t
@[inherit_doc in0] abbrev in3 (t : Fin cfg0.N) : S1x1024.Idx → EReal := iblk m c 3 t
@[inherit_doc in0] abbrev in4 (t : Fin cfg0.N) : S1024x5632.Idx → EReal := iblk m c 4 t
@[inherit_doc in0] abbrev in5 (t : Fin cfg0.N) : S3x5632.Idx → EReal := iblk m c 5 t
@[inherit_doc in0] abbrev in6 (t : Fin cfg0.N) : S1x5632.Idx → EReal := iblk m c 6 t
@[inherit_doc in0] abbrev in7 (t : Fin cfg0.N) : S2816x1024.Idx → EReal := iblk m c 7 t
@[inherit_doc in0] abbrev in8 (t : Fin cfg0.N) : S1x1024.Idx → EReal := iblk m c 8 t
@[inherit_doc in0] abbrev in9 (t : Fin cfg0.N) : S256x5632.Idx → EReal := iblk m c 9 t
@[inherit_doc in0] abbrev in10 (t : Fin cfg0.N) : S256x5632.Idx → EReal := iblk m c 10 t

/-- The activations' rows, all sequences in one. -/
theorem V_x (b : Fin 32) (t : Fin 8) (z : Fin 1024) : (V m c main_v0 : S256x1024.Idx → EReal) (ix2 ⟨8 * b.val + t.val, by omega⟩ z) = (arr m c).x b t z := by
  unfold V arr
  after_reads_at

/-- The mixer output's rows, all sequences in one. -/
theorem V_o (b : Fin 32) (t : Fin 8) (z : Fin 1024) : (V m c main_v1 : S256x1024.Idx → EReal) (ix2 ⟨8 * b.val + t.val, by omega⟩ z) = (arr m c).o b t z := by
  unfold V arr
  after_reads_at

/-- The projection. -/
theorem V_wo (k : Fin 1024) (z : Fin 1024) : (V m c main_v2 : S1024x1024.Idx → EReal) (ix2 k z) = (arr m c).wo k z := by
  unfold V arr
  after_reads_at

/-- The input weight. -/
theorem V_win (k : Fin 1024) (z : Fin 5632) : (V m c main_v3 : S1024x5632.Idx → EReal) (ix2 k z) = (arr m c).win k z := by
  unfold V arr
  after_reads_at

/-- The output weight. -/
theorem V_wout (k : Fin 2816) (z : Fin 1024) : (V m c main_v4 : S2816x1024.Idx → EReal) (ix2 k z) = (arr m c).wout k z := by
  unfold V arr
  after_reads_at

/-- The gain as a row. -/
theorem V_g (z : Fin 1024) : (V m c main_v5 : S1x1024.Idx → EReal) (ix2 0 z) = (arr m c).g z := by
  unfold V arr
  after_reads_at

/-- The convolution's bias as a row. -/
theorem V_cb (z : Fin 5632) : (V m c main_v6 : S1x5632.Idx → EReal) (ix2 0 z) = (arr m c).cb z := by
  unfold V arr
  after_reads_at

/-- The last gain as a row. -/
theorem V_gf (z : Fin 1024) : (V m c main_v7 : S1x1024.Idx → EReal) (ix2 0 z) = (arr m c).gf z := by
  unfold V arr
  after_reads_at

/-- The row before each sequence, at its first row. -/
theorem V_p1 (b : Fin 32) (z : Fin 5632) : (V m c main_v10 : S256x5632.Idx → EReal) (ix2 ⟨8 * b.val, by omega⟩ z) = (arr m c).pv b 1 z := by
  unfold V arr
  after_reads_at
  rw [dif_pos (show 8 * b.val % 8 < 1 by omega)]
  refine congrArg (fun q => (m ((c : Thread nD τ).loc main_arg8) : S32x2x5632.Idx → EReal) (ix3 b q z)) (Fin.ext ?_)
  show 1 + 8 * b.val % 8 = 1
  omega

/-- The two rows before each sequence, at its first two. -/
theorem V_p2 (b : Fin 32) (q : Fin 2) (z : Fin 5632) : (V m c main_v12 : S256x5632.Idx → EReal) (ix2 ⟨8 * b.val + q.val, by omega⟩ z) = (arr m c).pv b q z := by
  unfold V arr
  after_reads_at
  rw [dif_pos (show (8 * b.val + q.val) % 8 < 2 by omega)]
  refine congrArg (fun q => (m ((c : Thread nD τ).loc main_arg8) : S32x2x5632.Idx → EReal) (ix3 b q z)) (Fin.ext ?_)
  show (8 * b.val + q.val) % 8 = q.val
  omega

/-- The block of the row before each sequence. -/
theorem blk_p1 (t : Fin cfg0.N) (r : Fin 256) (z : Fin 5632) : in9 m c t (ix2 r z) = (V m c main_v10 : S256x5632.Idx → EReal) (ix2 r z) := by
  blk_ext [iblk, (idx_tok t).2.1.1]

/-- The block of the two rows before each sequence. -/
theorem blk_p2 (t : Fin cfg0.N) (r : Fin 256) (z : Fin 5632) : in10 m c t (ix2 r z) = (V m c main_v12 : S256x5632.Idx → EReal) (ix2 r z) := by
  blk_ext [iblk, (idx_tok t).2.1.2]

/-- The tile at the point holds the arguments. -/
theorem holds (t : Fin cfg0.N) : (rd (in0 m c t) (in1 m c t) (in2 m c t) (in3 m c t) (in4 m c t) (in5 m c t) (in6 m c t) (in7 m c t) (in8 m c t) (in9 m c t) (in10 m c t)).Holds (arr m c) := by
  refine rd_holds _ _ _ _ _ _ _ _ _ _ _ _ (fun r z => ?_) (fun r z => ?_) (fun k z => ?_) (fun z => ?_) (fun k z => ?_) (fun k z => ?_) (fun z => ?_) (fun k z => ?_) (fun z => ?_)
    (fun r z hr => ?_) fun r z hr => ?_
  · refine Eq.trans ?_ (V_x m c (sq r) (at8 r) z)
    unfold sq at8
    blk_ext [iblk, (idx_tok t).1.1]
  · refine Eq.trans ?_ (V_o m c (sq r) (at8 r) z)
    unfold sq at8
    blk_ext [iblk, (idx_tok t).1.2.1]
  · refine Eq.trans ?_ (V_wo m c k z)
    blk_ext [iblk, (idx_tok t).1.2.2.1]
  · refine Eq.trans ?_ (V_g m c z)
    blk_ext [iblk, (idx_tok t).1.2.2.2.1]
  · refine Eq.trans ?_ (V_win m c k z)
    blk_ext [iblk, (idx_tok t).1.2.2.2.2.1]
  · refine Eq.trans ?_ (congrFun (V_main_arg5 m c) (ix2 k z))
    blk_ext [iblk, (idx_tok t).1.2.2.2.2.2.1]
  · refine Eq.trans ?_ (V_cb m c z)
    blk_ext [iblk, (idx_tok t).1.2.2.2.2.2.2.1]
  · refine Eq.trans ?_ (V_wout m c k z)
    blk_ext [iblk, (idx_tok t).1.2.2.2.2.2.2.2.1]
  · refine Eq.trans ?_ (V_gf m c z)
    blk_ext [iblk, (idx_tok t).1.2.2.2.2.2.2.2.2]
  · refine (blk_p1 m c t r z).trans (Eq.trans (congrArg (fun a : Fin 256 => (V m c main_v10 : S256x5632.Idx → EReal) (ix2 a z)) (Fin.ext ?_)) ((V_p1 m c (sq r) z).trans (congrArg (fun q => (arr m c).pv (sq r) q z) (Fin.ext ?_))))
    · show r.val = 8 * (r.val / 8)
      omega
    · show 1 = (2 - 1 + r.val % 8) % 2
      omega
  · refine (blk_p2 m c t r z).trans (Eq.trans (congrArg (fun a : Fin 256 => (V m c main_v12 : S256x5632.Idx → EReal) (ix2 a z)) (Fin.ext ?_)) ((V_p2 m c (sq r) ⟨r.val % 8, hr⟩ z).trans (congrArg (fun q => (arr m c).pv (sq r) q z) (Fin.ext ?_))))
    · show r.val = 8 * (r.val / 8) + r.val % 8
      omega
    · show r.val % 8 = (2 - 2 + r.val % 8) % 2
      omega

/-- The rows' array after the run. -/
theorem arr11 : (dats m 0 c).arrAt 11 (cfgs 0).N = fun i : S256x1024.Idx => (arr m c).acc (sq (i 0)) (at8 (i 0)) (i 1) := by
  refine (dats m 0 c).arrAt_eq_of_covers 11 _ (by decide +kernel) fun t hf y => ?_
  blk_simp
  rw [after0_11]
  have hy : y = (ix2 (y 0) (y 1) : S256x1024.Idx) := by
    funext a
    fin_cases a <;> rfl
  refine (congrArg _ hy).trans ((out11_row _ _ _ _ _ _ _ _ _ _ _ (holds m c t) (y 0) (y 1)).trans ?_)
  refine congrArg₂ (fun (a : Fin 256) b => (arr m c).acc (sq a) (at8 a) b) (Fin.ext ?_) (Fin.ext ?_)
  · show (y 0).val = win0_11.index t 0 * 256 + 1 * (y 0).val
    rw [(idx_tok t).2.2.1]; simp
  · show (y 1).val = win0_11.index t 1 * 1024 + 1 * (y 1).val
    rw [(idx_tok t).2.2.1]; simp

/-- The feed-forward inputs' array after the run. -/
theorem arr12 : (dats m 0 c).arrAt 12 (cfgs 0).N = fun i : S256x5632.Idx => (arr m c).u (sq (i 0)) (at8 (i 0)) (i 1) := by
  refine (dats m 0 c).arrAt_eq_of_covers 12 _ (by decide +kernel) fun t hf y => ?_
  blk_simp
  rw [after0_12]
  have hy : y = (ix2 (y 0) (y 1) : S256x5632.Idx) := by
    funext a
    fin_cases a <;> rfl
  refine (congrArg _ hy).trans ((out12_row _ _ _ _ _ _ _ _ _ _ _ (holds m c t) (y 0) (y 1)).trans ?_)
  refine congrArg₂ (fun (a : Fin 256) b => (arr m c).u (sq a) (at8 a) b) (Fin.ext ?_) (Fin.ext ?_)
  · show (y 0).val = win0_12.index t 0 * 256 + 1 * (y 0).val
    rw [(idx_tok t).2.2.2]; simp
  · show (y 1).val = win0_12.index t 1 * 5632 + 1 * (y 1).val
    rw [(idx_tok t).2.2.2]; simp

/-- No two windows share an array. -/
theorem arrRef_inj : Function.Injective (Pipeline.arrRef (cfgs 0).spec) := by decide +kernel

/-- The rows, after the lines that follow the region. -/
theorem end_y : (Pipeline.afterTail₀ cfgs (dats m) 0 (V0 m) [hostOps1] c main_v16 : S32x8x1024.Idx → EReal) = fun i => (arr m c).acc (i 0) (i 1) (i 2) := by
  funext i
  unfold Pipeline.afterTail₀
  after_reads_at
  have i1 : (i 1).val < 8 := (i 1).isLt
  refine (congrFun ((Pipeline.withArrays_arr (cfgs 0).spec arrRef_inj c (V0 m c) (fun w => (dats m 0 c).arrAt w (cfgs 0).N) 11).trans (arr11 m c)) _).trans ?_
  congr 1
  · exact Fin.ext (by show ((i 0).val * 8 + (i 1).val) / 8 = (i 0).val; omega)
  · exact Fin.ext (by show ((i 0).val * 8 + (i 1).val) % 8 = (i 1).val; omega)

/-- Each sequence's last two inputs, after the lines that follow the region. -/
theorem end_u : (Pipeline.afterTail₀ cfgs (dats m) 0 (V0 m) [hostOps1] c main_v15 : S32x2x5632.Idx → EReal)
    = fun i => (arr m c).u (i 0) ⟨6 + (i 1).val, by have h := (i 1).isLt; change _ < 2 at h; omega⟩ (i 2) := by
  funext i
  unfold Pipeline.afterTail₀
  after_reads_at
  have i1 : (i 1).val < 2 := (i 1).isLt
  refine (congrFun ((Pipeline.withArrays_arr (cfgs 0).spec arrRef_inj c (V0 m c) (fun w => (dats m 0 c).arrAt w (cfgs 0).N) 12).trans (arr12 m c)) _).trans ?_
  congr 1
  · exact Fin.ext (by show ((i 0).val * 8 + (6 + (i 1).val)) / 8 = (i 0).val; omega)
  · exact Fin.ext (by show ((i 0).val * 8 + (6 + (i 1).val)) % 8 = 6 + (i 1).val; omega)

/-- The run ends with both results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v16) = (fun i : S32x8x1024.Idx => (arr m c).acc (i 0) (i 1) (i 2))
      ∧ r.2.mem ((c.tc : Thread nD τ).loc main_v15) = (fun i : S32x2x5632.Idx => (arr m c).u (i 0) ⟨6 + (i 1).val, by have h := (i 1).isLt; change _ < 2 at h; omega⟩ (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).2 main_v16 (Pipeline.mem_restRefs_of main_v16 (by decide) (by decide))).trans (end_y m c),
    ((h.1 c).2 main_v15 (Pipeline.mem_restRefs_of main_v15 (by decide) (by decide))).trans (end_u m c), h.2 c⟩)
    (θ_run_and (run_main m ρ) (unchanged m ρ))

end Cert.Ffn.Step.Mid
-- ==== Proof.Ffn.Step.MidClaim.lean ====
/- An inner layer's two programs of the sample group: their results are one function of the arguments. -/
module

public import proofs.«01_k».proof.Proof.Ffn.Step.Mid
public import proofs.«01_k».proof.Proof.Ffn.Step.Ref
public import proofs.«01_k».proof.Proof.Gen.Reference10Ideal.Run
public import proofs.«01_k».proof.Defs
public import proofs.«01_k».proof.Proof.Gen.Kernel10.Frame

@[expose] public section
set_option maxRecDepth 16384
noncomputable section
namespace Cert.Ffn.Step.Mid

open Idealize.ShloMosaic Idealize.ShloMosaic.TcCoe Idealize.SL.Sem

section Reference

open Cert.Reference10Ideal Cert.Reference10Ideal.Gen Cert.Reference10Ideal.Value

variable (m : (ℓ : Loc nD τ sig) → Buf (Elt Ideal) ℓ) (c : Dev nD)

/-- The arguments the reference starts with. -/
def refArr : Arr := Ref.arr (m ((c.tc : Thread nD τ).loc main_arg0)) (extf .f32 (m ((c.tc : Thread nD τ).loc main_arg1)) bitsLt_bf16_f32) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg3)) (m ((c.tc : Thread nD τ).loc main_arg8))

/-- The reference's first result. -/
theorem ref_y : res_main_v49 (F := Ideal) m c = (fun i => (refArr m c).acc (i 0) (i 1) (i 2) : S32x8x1024.Idx → EReal) := by
  have h : res_main_v49 (F := Ideal) m c = Ref.block (F := Ideal) (m ((c.tc : Thread nD τ).loc main_arg0)) (extf .f32 (m ((c.tc : Thread nD τ).loc main_arg1)) bitsLt_bf16_f32) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl
  rw [h]
  funext i
  obtain ⟨b, t, z, rfl⟩ : ∃ (b : Fin 32) (t : Fin 8) (z : Fin 1024), i = ix3 b t z := ⟨i 0, i 1, i 2, by funext a; fin_cases a <;> rfl⟩
  exact Ref.acc_row _ _ _ _ _ _ _ _ (m ((c.tc : Thread nD τ).loc main_arg3)) _ b t z

/-- The reference's second result. -/
theorem ref_u : (Ref.tail (F := Ideal) (m ((c.tc : Thread nD τ).loc main_arg0)) (extf .f32 (m ((c.tc : Thread nD τ).loc main_arg1)) bitsLt_bf16_f32) (m ((c.tc : Thread nD τ).loc main_arg2)) (m ((c.tc : Thread nD τ).loc main_arg3)) (m ((c.tc : Thread nD τ).loc main_arg4)) (m ((c.tc : Thread nD τ).loc main_arg8)) : S32x2x5632.Idx → EReal)
    = fun i : S32x2x5632.Idx => (refArr m c).u (i 0) ⟨6 + (i 1).val, by have h := (i 1).isLt; change _ < 2 at h; omega⟩ (i 2) := by
  funext i
  obtain ⟨b, q, z, rfl⟩ : ∃ (b : Fin 32) (q : Fin 2) (z : Fin 5632), i = ix3 b q z := ⟨i 0, i 1, i 2, by funext a; fin_cases a <;> rfl⟩
  exact Ref.prev_row _ _ _ _ _ (m ((c.tc : Thread nD τ).loc main_arg5)) (m ((c.tc : Thread nD τ).loc main_arg6)) (m ((c.tc : Thread nD τ).loc main_arg7)) (m ((c.tc : Thread nD τ).loc main_arg3)) _ b q z

end Reference

/-- The reference's run ends quiet, its arguments unchanged. -/
theorem frame_ref : Cert.quiescent_Reference10Ideal := fun m ρ _ =>
  (θ_run Cert.Reference10Ideal.defs _ _).mono (fun r h => ⟨fun c => (h c).2.2, Idealize.ShloMosaic.sem_eq_zero_of_no_sems (by decide) r.2⟩) (Cert.Reference10Ideal.Value.run (F := Ideal) m ρ)

/-- The kernel's results are the reference's. -/
theorem algebraic : Cert.algebraic_Kernel10Ideal_Reference10Ideal := by
  intro m ρ m' ρ' _ hagree
  have e : ∀ c, refArr m' c = arr m c := fun c => by
    obtain ⟨e0, e1, e2, e3, e4, e5, e6, e7, e8⟩ := hagree c
    unfold refArr
    rw [e0, e1, e2, e3, e4, e5, e6, e7, e8]
    rfl
  refine ⟨_, _, run m ρ, ?_⟩
  refine (θ_run Cert.Reference10Ideal.defs _ _).mono (fun r h c => ?_) (Cert.Reference10Ideal.Value.run (F := Ideal) m' ρ')
  obtain ⟨r1, r2, rest⟩ := h c
  refine ⟨r1.trans ((ref_y m' c).trans ?_), r2.trans ((ref_u m' c).trans ?_), rest⟩
  · rw [e c]
  · rw [e c]

end Cert.Ffn.Step.Mid
-- ==== Proof.Gla.Step.Math.lean ====
/- The sample group's gated linear attention as formulas over extended reals: one chunk of eight rows, which the kernel
   pads to sixty-four. -/
module

public import proofs.«01_k».proof.Proof.Gla.Math

@[expose] public section
noncomputable section
namespace Cert.Gla.Step

open Idealize.ShloMosaic Cert.Gla

/-- A chunk's rows, by number: gates, queries, keys, values and output-gate inputs. -/
structure Rows where
  g : ℕ → Fin 512 → EReal
  q : ℕ → Fin 512 → EReal
  k : ℕ → Fin 512 → EReal
  v : ℕ → Fin 1024 → EReal
  r : ℕ → Fin 1024 → EReal

namespace Rows
variable (a : Rows) (n : ℕ)

/-- The running log-decay in a chunk of `n` rows. -/
def b (c : ℕ) (d : Fin 512) : EReal := ∑ e : Fin n, if e.val ≤ c then a.g e.val d else 0

/-- The scaled query under the running decay. -/
def qt (c : ℕ) (d : Fin 512) : EReal := a.q c d * Ideal.ofBits .f32 0x3DB504F3#32 * Ideal.exp (a.b n c d)

/-- The key over the running decay. -/
def kt (c : ℕ) (d : Fin 512) : EReal := a.k c d * Ideal.exp (0 - a.b n c d)

/-- The key decayed to the chunk's end. -/
def ke (c : ℕ) (d : Fin 512) : EReal := a.k c d * Ideal.exp (a.b n (n - 1) d - a.b n c d)

/-- Head `h`'s state after the chunk, from the state `S` before it. -/
def next (h : Fin 4) (S : Fin 128 → Fin 256 → EReal) (x : Fin 128) (y : Fin 256) : EReal :=
  S x y * Ideal.exp (a.b n (n - 1) (hk h x)) + ∑ c : Fin n, a.v c.val (hv h y) * a.ke n c.val (hk h x)

/-- Head `h`'s mixed value of row `c`. -/
def mix (h : Fin 4) (S : Fin 128 → Fin 256 → EReal) (c : ℕ) (y : Fin 256) : EReal :=
  ∑ e : Fin n, (if e.val ≤ c then (∑ x, a.qt n c (hk h x) * a.kt n e.val (hk h x)) * a.v e.val (hv h y) else 0)
    + ∑ x, a.qt n c (hk h x) * S x y

/-- Head `h`'s result of row `c`. -/
def out (nm : Fin 256 → EReal) (h : Fin 4) (S : Fin 128 → Fin 256 → EReal) (c : ℕ) (y : Fin 256) : EReal :=
  a.mix n h S c y * Ideal.rsqrt (Ideal.div (∑ x, a.mix n h S c x * a.mix n h S c x) (Ideal.ofBits .f32 0x43800000#32)
      + Ideal.ofBits .f32 0x358637BD#32) * nm y
    * (a.r c (hv h y) * Ideal.div 1 (1 + Ideal.exp (0 - a.r c (hv h y))))

/-- A sum over sixty-four rows of which those past the eighth are zero. -/
theorem sum_pad (f : ℕ → EReal) (hf : ∀ e, 8 ≤ e → f e = 0) : ∑ e : Fin 64, f e.val = ∑ e : Fin 8, f e.val := by
  rw [Fin.sum_univ_two_halves 8 56 rfl]
  rw [Finset.sum_congr (g := fun _ : Fin 56 => (0 : EReal)) rfl fun k _ => hf (8 + k.val) (by omega), Finset.sum_const_zero, add_zero]

variable {a} (hg : ∀ e, 8 ≤ e → ∀ d, a.g e d = 0) (hv0 : ∀ e, 8 ≤ e → ∀ d, a.v e d = 0)
include hg

/-- The padded rows' gates add nothing. -/
theorem b_pad (c : ℕ) (d : Fin 512) : a.b 64 c d = a.b 8 c d :=
  sum_pad (fun e => if e ≤ c then a.g e d else 0) fun e he => by rw [hg e he]; exact ite_self _

/-- The decay at the padded chunk's end is that of the eighth row. -/
theorem b_end (d : Fin 512) : a.b 8 63 d = a.b 8 7 d := by
  refine Finset.sum_congr rfl fun e _ => ?_
  rw [if_pos (by omega), if_pos (by omega)]

include hv0

/-- The state after the padded chunk is that after the eight rows. -/
theorem next_pad (h : Fin 4) (S : Fin 128 → Fin 256 → EReal) (x : Fin 128) (y : Fin 256) : a.next 64 h S x y = a.next 8 h S x y := by
  have e1 : ∀ c, a.ke 64 c (hk h x) = a.k c (hk h x) * Ideal.exp (a.b 8 7 (hk h x) - a.b 8 c (hk h x)) := fun c => by
    rw [← b_end hg, ← b_pad hg, ← b_pad hg]; rfl
  have e2 : a.b 64 (64 - 1) (hk h x) = a.b 8 (8 - 1) (hk h x) := (b_pad hg _ _).trans (b_end hg _)
  unfold next
  rw [e2]
  refine congrArg₂ (· + ·) rfl ?_
  simp only [e1]
  exact sum_pad (fun c => a.v c (hv h y) * (a.k c (hk h x) * Ideal.exp (a.b 8 7 (hk h x) - a.b 8 c (hk h x)))) fun e he => by
    rw [hv0 e he, zero_mul]

/-- The padded rows mix nothing into a row. -/
theorem mix_pad (h : Fin 4) (S : Fin 128 → Fin 256 → EReal) (c : ℕ) (y : Fin 256) : a.mix 64 h S c y = a.mix 8 h S c y := by
  unfold mix qt kt
  simp only [b_pad hg]
  refine congrArg₂ (· + ·) ?_ rfl
  refine sum_pad (fun e => if e ≤ c then (∑ x, a.q c (hk h x) * Ideal.ofBits .f32 0x3DB504F3#32 * Ideal.exp (a.b 8 c (hk h x))
    * (a.k e (hk h x) * Ideal.exp (0 - a.b 8 e (hk h x)))) * a.v e (hv h y) else 0) fun e he => ?_
  rw [hv0 e he, mul_zero]
  exact ite_self _

theorem out_pad (nm : Fin 256 → EReal) (h : Fin 4) (S : Fin 128 → Fin 256 → EReal) (c : ℕ) (y : Fin 256) : a.out 64 nm h S c y = a.out 8 nm h S c y := by
  unfold out
  simp only [mix_pad hg hv0]

end Rows

/-- The arguments. -/
structure Arr where
  q : (⟨3, ![32, 8, 512]⟩ : Shape).Idx → EReal
  k : (⟨3, ![32, 8, 512]⟩ : Shape).Idx → EReal
  v : (⟨3, ![32, 8, 1024]⟩ : Shape).Idx → EReal
  r : (⟨3, ![32, 8, 1024]⟩ : Shape).Idx → EReal
  gl : (⟨3, ![32, 8, 16]⟩ : Shape).Idx → EReal
  w : (⟨2, ![16, 512]⟩ : Shape).Idx → EReal
  bg : (⟨1, ![512]⟩ : Shape).Idx → EReal
  ng : (⟨1, ![256]⟩ : Shape).Idx → EReal
  s0 : (⟨4, ![32, 4, 128, 256]⟩ : Shape).Idx → EReal

namespace Arr
variable (A : Arr)

/-- A sequence's eight rows, zero past them. -/
def rows (b : Fin 32) : Rows where
  g c x := if h : c < 8 then gate (∑ e : Fin 16, A.gl (ix3 b ⟨c, h⟩ e) * A.w (ix2 e x) + A.bg (ix1 x)) else 0
  q c x := if h : c < 8 then A.q (ix3 b ⟨c, h⟩ x) else 0
  k c x := if h : c < 8 then A.k (ix3 b ⟨c, h⟩ x) else 0
  v c x := if h : c < 8 then A.v (ix3 b ⟨c, h⟩ x) else 0
  r c x := if h : c < 8 then A.r (ix3 b ⟨c, h⟩ x) else 0

/-- The state a sequence starts from. -/
def S0 (b : Fin 32) (h : Fin 4) (x : Fin 128) (y : Fin 256) : EReal := A.s0 (ix4 b h x y)

/-- The layer's rows. -/
def o (b : Fin 32) (t : Fin 8) (h : Fin 4) (y : Fin 256) : EReal := (A.rows b).out 8 (fun x => A.ng (ix1 x)) h (A.S0 b h) t.val y

/-- The state after the rows. -/
def s (b : Fin 32) (h : Fin 4) (x : Fin 128) (y : Fin 256) : EReal := (A.rows b).next 8 h (A.S0 b h) x y

theorem g_pad (b : Fin 32) (e : ℕ) (he : 8 ≤ e) (d : Fin 512) : (A.rows b).g e d = 0 := dif_neg (by omega)

theorem v_pad (b : Fin 32) (e : ℕ) (he : 8 ≤ e) (d : Fin 1024) : (A.rows b).v e d = 0 := dif_neg (by omega)

end Arr

end Cert.Gla.Step
-- ==== Proof.Gla.Step.Body.lean ====
/- What the scan's body leaves for one sequence of the sample group: the chunk functions of the prompt's scan, with the
   gates past the eighth row masked to zero. -/
module

public import proofs.«01_k».proof.Proof.Gla.Body
public import proofs.«01_k».proof.Proof.Gla.Step.Math
public import proofs.«01_k».proof.Proof.Gla.Points
public import proofs.«01_k».proof.Proof.Gen.Kernel11Ideal.Frame

@[expose] public section
set_option maxRecDepth 16384
noncomputable section
namespace Cert.Gla.Step

open Idealize.ShloMosaic Idealize.ShloMosaic.TcCoe Idealize.ShloMosaic.Tactic
open Cert.Kernel11Ideal Cert.Kernel11Ideal.Gen
variable {F : FTy → Type} [FloatOps F]

/-- The gates of the rows before the eighth, zero past them. -/
def keep8 (x : FVec F S64x512 .f32) : FVec F S64x512 .f32 :=
  select (cmpi .slt (iota .tc S64x512 32 [0] iota_S64x512_d0_w32) (broadcast S64x512 8#32)) x (broadcast S64x512 (Scalar.ofBits .f32 0x00000000#32))

/-- What a point reads. -/
structure Rd (F : FTy → Type) where
  g : Vec F S1x64x128 .f32
  w : Vec F S128x512 .bf16
  b : Vec F S1x512 .f32
  k : Vec F S1x64x512 .f32
  q : Vec F S1x64x512 .f32
  v : Fin 4 → Vec F S1x64x256 .f32
  r : Fin 4 → Vec F S1x64x256 .f32
  n : Vec F S1x256 .f32

/-- The running log-decay. -/
def Rd.c (d : Rd F) : FVec F S64x512 .f32 := cum (keep8 (decay (logit d.g d.w d.b)))

/-- Head `h`'s state after the chunk. -/
def Rd.st (d : Rd F) (s0 : FVec F S256x128 .f32) (h : Fin 4) : FVec F S256x128 .f32 := sH h d.c (kE d.c d.k) (vH (d.v h)) s0

/-- Head `h`'s result. -/
def Rd.out (d : Rd F) (s0 : FVec F S256x128 .f32) (h : Fin 4) : FVec F S1x64x256 .bf16 :=
  nH (oH h (qT d.c d.q) (kT d.c d.k) (vH (d.v h)) s0) d.n (d.r h)

theorem keep8_apply (x : FVec Ideal S64x512 .f32) (c : Fin 64) (d : Fin 512) : keep8 x (ix2 c d) = if c.val < 8 then x (ix2 c d) else 0 := by
  unfold keep8
  pointwise
  rw [WordCmp.cmpi_slt_ofNat (by omega) (by omega)]
  by_cases h : c.val < 8
  · rw [if_pos h, decide_eq_true h]; rfl
  · rw [if_neg h, decide_eq_false h]; rfl

/-- What a point reads holds a sequence's rows and the gain `nm`. -/
structure Rd.Holds (d : Rd Ideal) (a : Rows) (nm : Fin 256 → EReal) : Prop where
  g : ∀ (c : Fin 64) x, (if c.val < 8 then gate (∑ e : Fin 128, d.g (ix3 0 c e) * d.w (ix2 e x) + d.b (ix2 0 x)) else 0) = a.g c.val x
  q : ∀ (c : Fin 64) x, d.q (ix3 0 c x) = a.q c.val x
  k : ∀ (c : Fin 64) x, d.k (ix3 0 c x) = a.k c.val x
  v : ∀ h (c : Fin 64) x, d.v h (ix3 0 c x) = a.v c.val (hv h x)
  r : ∀ h (c : Fin 64) x, d.r h (ix3 0 c x) = a.r c.val (hv h x)
  n : ∀ x, d.n (ix2 0 x) = nm x

variable {d : Rd Ideal} {a : Rows} {nm : Fin 256 → EReal} (H : d.Holds a nm)
include H

theorem Rd.c_apply (c : Fin 64) (x : Fin 512) : d.c (ix2 c x) = a.b 64 c.val x := by
  unfold Rd.c
  rw [cum_apply, Finset.sum_filter]
  refine Finset.sum_congr rfl fun e _ => ?_
  rw [keep8_apply, decay_apply, logit_apply, H.g]

theorem Rd.qT_apply (c : Fin 64) (x : Fin 512) : qT d.c d.q (ix2 c x) = a.qt 64 c.val x := by
  unfold qT Rows.qt
  pointwise
  rw [Rd.c_apply H, H.q]

theorem Rd.kT_apply (c : Fin 64) (x : Fin 512) : kT d.c d.k (ix2 c x) = a.kt 64 c.val x := by
  unfold kT Rows.kt
  pointwise
  rw [Rd.c_apply H, H.k]

theorem Rd.kE_apply (c : Fin 64) (x : Fin 512) : kE d.c d.k (ix2 c x) = a.ke 64 c.val x := by
  unfold kE lastRow Rows.ke
  pointwise
  rw [Rd.c_apply H, Rd.c_apply H, H.k]
  rfl

theorem Rd.vH_apply (h : Fin 4) (c : Fin 64) (x : Fin 256) : vH (d.v h) (ix2 c x) = a.v c.val (hv h x) := by
  unfold vH
  pointwise
  rw [H.v]

/-- A head's state after the chunk, transposed. -/
theorem Rd.st_apply (h : Fin 4) (st : FVec Ideal S256x128 .f32) (S0 : Fin 128 → Fin 256 → EReal)
    (hs : ∀ y x, st (ix2 y x) = S0 x y) (y : Fin 256) (x : Fin 128) : d.st st h (ix2 y x) = a.next 64 h S0 x y := by
  have e : d.st st h (ix2 y x)
      = st (ix2 y x) * Ideal.exp (d.c (ix2 63 (hk h x))) + ∑ c, vH (d.v h) (ix2 c y) * kE d.c d.k (ix2 c (hk h x)) := by
    unfold Rd.st
    generalize kE d.c d.k = A
    generalize vH (d.v h) = B
    generalize d.c = C
    unfold sH lastRow hk
    pointwise
  rw [e, hs, Rd.c_apply H]
  simp only [Rd.vH_apply H, Rd.kE_apply H]
  rfl

/-- A head's mixed values. -/
theorem Rd.oH_apply (h : Fin 4) (st : FVec Ideal S256x128 .f32) (S0 : Fin 128 → Fin 256 → EReal)
    (hs : ∀ y x, st (ix2 y x) = S0 x y) (c : Fin 64) (y : Fin 256) :
    oH h (qT d.c d.q) (kT d.c d.k) (vH (d.v h)) st (ix2 c y) = a.mix 64 h S0 c.val y := by
  have e : ∀ (q k : FVec Ideal S64x512 .bf16) (v : FVec Ideal S64x256 .bf16), oH h q k v st (ix2 c y)
      = ∑ e : Fin 64, (if e.val ≤ c.val then (∑ x, q (ix2 c (hk h x)) * k (ix2 e (hk h x))) * v (ix2 e y) else 0)
        + ∑ x, q (ix2 c (hk h x)) * st (ix2 y x) := by
    intro q k v
    unfold oH mask hk
    pointwise
    congr 1
    refine Finset.sum_congr rfl fun e _ => ?_
    rw [WordCmp.cmpi_sle_ofNat (by omega) (by omega)]
    by_cases he : e.val ≤ c.val
    · rw [if_pos he, decide_eq_true he]; rfl
    · rw [if_neg he, decide_eq_false he]; rfl
  rw [e]
  simp only [Rd.vH_apply H, Rd.kT_apply H, Rd.qT_apply H, hs]
  rfl

/-- A head's result. -/
theorem Rd.out_apply (h : Fin 4) (st : FVec Ideal S256x128 .f32) (S0 : Fin 128 → Fin 256 → EReal) (hs : ∀ y x, st (ix2 y x) = S0 x y)
    (c : Fin 64) (y : Fin 256) : d.out st h (ix3 0 c y) = a.out 64 nm h S0 c.val y := by
  have e : ∀ (o : FVec Ideal S64x256 .f32) (m : Vec Ideal S1x256 .f32) (r : Vec Ideal S1x64x256 .f32), nH o m r (ix3 0 c y)
      = o (ix2 c y) * Ideal.rsqrt (Ideal.div (∑ x, o (ix2 c x) * o (ix2 c x)) (Ideal.ofBits .f32 0x43800000#32)
      + Ideal.ofBits .f32 0x358637BD#32) * m (ix2 0 y) * (r (ix3 0 c y) * Ideal.div 1 (1 + Ideal.exp (0 - r (ix3 0 c y)))) := by
    intro o m r
    unfold nH
    pointwise
  unfold Rd.out
  rw [e]
  simp only [Rd.oH_apply H h _ _ hs, H.n, H.r]
  rfl

end Cert.Gla.Step
-- ==== Proof.Gla.Step.Points.lean ====
/- What the body stores for one sequence of the sample group, as a list over the four heads, and what that leaves. -/
module

public import proofs.«01_k».proof.Proof.Gla.Step.Body

@[expose] public section
set_option maxRecDepth 16384
noncomputable section
namespace Cert.Gla.Step

open Idealize.ShloMosaic Idealize.ShloMosaic.TcCoe Idealize.ShloMosaic.Tactic
open Cert.Kernel11Ideal Cert.Kernel11Ideal.Gen

section Pieces
variable {F : FTy → Type} [FloatOps F]

theorem inbO (h : Fin 4) : ∀ a, (![0, 0, 256 * h.val] : Fin 3 → ℕ) a + S1x64x256.size a ≤ S1x64x1024.size a := by
  revert h; decide

theorem inbS (h : Fin 4) : ∀ a, (![h.val, 0, 0] : Fin 3 → ℕ) a + S1x256x128.size a ≤ S4x256x128.size a := by
  revert h; decide

/-- The reads of a point, through the staged arrays. -/
def rd (arg2 : Memref sig .tc .vmem S1x64x512 .f32) (harg2 : arg2.IsWhole) (arg3 : Memref sig .tc .vmem S1x64x512 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x64x1024 .bf16) (harg11 : arg11.IsWhole) (arg12 : Memref sig .tc .vmem S1x4x256x128 .f32) (harg12 : arg12.IsWhole) (arg13 : Memref sig .tc .vmem S4x256x128 .f32) (harg13 : arg13.IsWhole) (x0 : Vec F S1x64x512 .f32) (x1 : Vec F S1x64x512 .f32) (x2 : Vec F S1x64x1024 .f32) (x3 : Vec F S1x64x1024 .f32) (x4 : Vec F S1x64x128 .f32) (x5 : Vec F S128x512 .bf16) (x6 : Vec F S1x512 .f32) (x7 : Vec F S1x256 .f32) : Rd F :=
  ⟨View.readAt (Elt F) arg6.view (Rect.unit (s := S1x64x128) ![0, 0, 0] S1x64x128.size (by decide)).toLoadRect (harg6.unread x4),
    View.readAt (Elt F) arg7.view (Rect.unit (s := S128x512) ![0, 0] S128x512.size inb_S128x512_S128x512_0_0).toLoadRect (harg7.unread x5),
    View.readAt (Elt F) arg8.view (Rect.unit (s := S1x512) ![0, 0] S1x512.size inb_S1x512_S1x512_0_0).toLoadRect (harg8.unread x6),
    View.readAt (Elt F) arg3.view (Rect.unit (s := S1x64x512) ![0, 0, 0] S1x64x512.size (by decide)).toLoadRect (harg3.unread x1),
    View.readAt (Elt F) arg2.view (Rect.unit (s := S1x64x512) ![0, 0, 0] S1x64x512.size (by decide)).toLoadRect (harg2.unread x0),
    fun h => View.readAt (Elt F) arg4.view (Rect.unit (s := S1x64x1024) ![0, 0, 256 * h.val] S1x64x256.size (inbO h)).toLoadRect (harg4.unread x2),
    fun h => View.readAt (Elt F) arg5.view (Rect.unit (s := S1x64x1024) ![0, 0, 256 * h.val] S1x64x256.size (inbO h)).toLoadRect (harg5.unread x3),
    View.readAt (Elt F) arg9.view (Rect.unit (s := S1x256) ![0, 0] S1x256.size inb_S1x256_S1x256_0_0).toLoadRect (harg9.unread x7)⟩

/-- The pieces the body stores of its output: one a head, the last first. -/
def pcsO (d : Rd F) (s0 : Fin 4 → FVec F S256x128 .f32) : List (View.Piece (Elt F) S1x64x1024 .bf16) :=
  (List.finRange 4).reverse.map fun h =>
    ⟨Rect.unit (s := S1x64x1024) ![0, 0, 256 * h.val] S1x64x256.size (inbO h), d.out (s0 h) h⟩

/-- The pieces the body stores of the carried state: one a head, the last first. -/
def pcsS (d : Rd F) (s0 : Fin 4 → FVec F S256x128 .f32) : List (View.Piece (Elt F) S4x256x128 .f32) :=
  (List.finRange 4).reverse.map fun h =>
    ⟨Rect.unit (s := S4x256x128) ![h.val, 0, 0] S1x256x128.size (inbS h),
      shapeCast S1x256x128 (d.st (s0 h) h) shapeCasts_S256x128_S1x256x128⟩

/-- What the body stores of its output. -/
theorem pcs_9 (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x64x1024 .bf16) (harg11 : arg11.IsWhole) (arg12 : Memref sig .tc .vmem S1x4x256x128 .f32) (harg12 : arg12.IsWhole) (arg13 : Memref sig .tc .vmem S4x256x128 .f32) (harg13 : arg13.IsWhole) (hc0 : cond0_0 i) (hc1 : cond0_1 i)
    (x0 : Vec F S1x64x512 .f32) (x1 : Vec F S1x64x512 .f32) (x2 : Vec F S1x64x1024 .f32) (x3 : Vec F S1x64x1024 .f32) (x4 : Vec F S1x64x128 .f32) (x5 : Vec F S128x512 .bf16) (x6 : Vec F S1x512 .f32) (x7 : Vec F S1x256 .f32) (x8 : Vec F S1x4x256x128 .f32) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 = pcsO (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (arg13.view.readCov [(⟨Rect.unit (s := S4x256x128) ![0, 0, 0] S4x256x128.size inb_S4x256x128_S4x256x128_0_0_0, k0_pay2 (View.readAt (Elt F) arg10.view (Rect.unit (s := S1x4x256x128) ![0, 0, 0, 0] S1x4x256x128.size inb_S1x4x256x128_S1x4x256x128_0_0_0_0).toLoadRect (harg10.unread x8))⟩ : View.Piece (Elt F) S4x256x128 .f32)] (Rect.unit (s := S4x256x128) ![h.val, 0, 0] S1x256x128.size (inbS h)).toLoadRect) shapeCasts_S1x256x128_S256x128) := by
  sl_kernel_rfl

/-- What the body stores of the state result: the carried state whole. -/
theorem pcs_10 (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x64x1024 .bf16) (harg11 : arg11.IsWhole) (arg12 : Memref sig .tc .vmem S1x4x256x128 .f32) (harg12 : arg12.IsWhole) (arg13 : Memref sig .tc .vmem S4x256x128 .f32) (harg13 : arg13.IsWhole) (hc0 : cond0_0 i) (hc1 : cond0_1 i)
    (x0 : Vec F S1x64x512 .f32) (x1 : Vec F S1x64x512 .f32) (x2 : Vec F S1x64x1024 .f32) (x3 : Vec F S1x64x1024 .f32) (x4 : Vec F S1x64x128 .f32) (x5 : Vec F S128x512 .bf16) (x6 : Vec F S1x512 .f32) (x7 : Vec F S1x256 .f32) (x8 : Vec F S1x4x256x128 .f32) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 = [(⟨Rect.unit (s := S1x4x256x128) ![0, 0, 0, 0] S1x4x256x128.size inb_S1x4x256x128_S1x4x256x128_0_0_0_0,
      k0_pay1 (arg13.view.readCov (pcsS (rd arg2 harg2 arg3 harg3 arg4 harg4 arg5 harg5 arg6 harg6 arg7 harg7 arg8 harg8 arg9 harg9 arg10 harg10 arg11 harg11 arg12 harg12 arg13 harg13 x0 x1 x2 x3 x4 x5 x6 x7) (fun h => shapeCast S256x128 (arg13.view.readCov [(⟨Rect.unit (s := S4x256x128) ![0, 0, 0] S4x256x128.size inb_S4x256x128_S4x256x128_0_0_0, k0_pay2 (View.readAt (Elt F) arg10.view (Rect.unit (s := S1x4x256x128) ![0, 0, 0, 0] S1x4x256x128.size inb_S1x4x256x128_S1x4x256x128_0_0_0_0).toLoadRect (harg10.unread x8))⟩ : View.Piece (Elt F) S4x256x128 .f32)] (Rect.unit (s := S4x256x128) ![h.val, 0, 0] S1x256x128.size (inbS h)).toLoadRect) shapeCasts_S1x256x128_S256x128) ++ [(⟨Rect.unit (s := S4x256x128) ![0, 0, 0] S4x256x128.size inb_S4x256x128_S4x256x128_0_0_0, k0_pay2 (View.readAt (Elt F) arg10.view (Rect.unit (s := S1x4x256x128) ![0, 0, 0, 0] S1x4x256x128.size inb_S1x4x256x128_S1x4x256x128_0_0_0_0).toLoadRect (harg10.unread x8))⟩ : View.Piece (Elt F) S4x256x128 .f32)]) (Rect.unit (s := S4x256x128) ![0, 0, 0] S4x256x128.size inb_S4x256x128_S4x256x128_0_0_0).toLoadRect)⟩ : View.Piece (Elt F) S1x4x256x128 .f32)] := by
  sl_kernel_rfl

end Pieces

/-- The stored output pieces read as one block. -/
theorem canon_pcsO (d : Rd Ideal) (s0 : Fin 4 → FVec Ideal S256x128 .f32) (r : Fin 64) (h : Fin 4) (y : Fin 256) :
    View.canon (pcsO d s0) (ix3 0 r (hv h y)) = d.out (s0 h) h (ix3 0 r y) := by
  have e := canon_append (Val := Elt Ideal) (fun i : S1x64x1024.Idx => d.out (s0 ⟨(i 2).val / 256, by have := (i 2).isLt; change _ < 1024 at this; omega⟩)
      ⟨(i 2).val / 256, by have := (i 2).isLt; change _ < 1024 at this; omega⟩ (ix3 0 (i 1) ⟨(i 2).val % 256, by omega⟩)) [] (pcsO d s0) ?_ (ix3 0 r (hv h y)) ?_
  · rw [List.append_nil] at e
    refine e.trans ?_
    have e2 : (⟨(hv h y).val / 256, by omega⟩ : Fin 4) = h := Fin.ext (by show (256 * h.val + y.val) / 256 = h.val; omega)
    have e3 : (⟨(hv h y).val % 256, by omega⟩ : Fin 256) = y := Fin.ext (by show (256 * h.val + y.val) % 256 = y.val; omega)
    show d.out (s0 ⟨(hv h y).val / 256, _⟩) ⟨(hv h y).val / 256, _⟩ (ix3 0 r ⟨(hv h y).val % 256, _⟩) = _
    rw [e2, e3]
  · intro p hp x
    obtain ⟨q, _, rfl⟩ := List.mem_map.mp hp
    have x0 : (x 0).val < 1 := (x 0).isLt
    have x1 : (x 1).val < 64 := (x 1).isLt
    have x2 : (x 2).val < 256 := (x 2).isLt
    have key : ∀ (g g' : Fin 4) (z z' : S1x64x256.Idx), g = g' → z = z' → d.out (s0 g) g z = d.out (s0 g') g' z' := by
      rintro _ _ _ _ rfl rfl; rfl
    refine key _ _ _ _ (Fin.ext ?_) ?_
    · show q.val = (256 * q.val + 1 * (x 2).val) / 256
      omega
    · funext a
      apply Fin.ext
      match a with
      | ⟨0, _⟩ => show (x 0).val = 0; omega
      | ⟨1, _⟩ => show (x 1).val = 0 + 1 * (x 1).val; omega
      | ⟨2, _⟩ => show (x 2).val = (256 * q.val + 1 * (x 2).val) % 256; omega
  · refine ⟨_, List.mem_map.mpr ⟨h, List.mem_reverse.mpr (List.mem_finRange _), rfl⟩, ?_⟩
    rw [Rect.mem_set_unit]
    intro a
    match a with
    | ⟨0, _⟩ => show 0 ≤ 0 ∧ 0 < 0 + 1; omega
    | ⟨1, _⟩ => show 0 ≤ r.val ∧ r.val < 0 + 64; omega
    | ⟨2, _⟩ => show 256 * h.val ≤ 256 * h.val + y.val ∧ 256 * h.val + y.val < 256 * h.val + 256; omega

/-- The stored state pieces read as one array, whatever was stored before them. -/
theorem canon_pcsS (d : Rd Ideal) (s0 : Fin 4 → FVec Ideal S256x128 .f32) (L : List (View.Piece (Elt Ideal) S4x256x128 .f32)) (h : Fin 4) (y : Fin 256) (x : Fin 128) :
    View.canon (pcsS d s0 ++ L) (ix3 h y x) = d.st (s0 h) h (ix2 y x) := by
  refine canon_append (Val := Elt Ideal) (fun i : S4x256x128.Idx => d.st (s0 (i 0)) (i 0) (ix2 (i 1) (i 2))) L (pcsS d s0) ?_ (ix3 h y x) ?_
  · intro p hp z
    obtain ⟨g, _, rfl⟩ := List.mem_map.mp hp
    have z0 : (z 0).val < 1 := (z 0).isLt
    have key : ∀ (g g' : Fin 4) (w w' : S256x128.Idx), g = g' → w = w' → d.st (s0 g) g w = d.st (s0 g') g' w' := by
      rintro _ _ _ _ rfl rfl; rfl
    refine Eq.trans (b := d.st (s0 g) g (ix2 (z 1) (z 2))) ?_ (key _ _ _ _ (Fin.ext ?_) ?_)
    · show shapeCast S1x256x128 (d.st (s0 g) g) shapeCasts_S256x128_S1x256x128 z = _
      generalize d.st (s0 g) g = f
      pointwise
    · show g.val = g.val + 1 * (z 0).val
      omega
    · funext a
      apply Fin.ext
      match a with
      | ⟨0, _⟩ => show (z 1).val = 0 + 1 * (z 1).val; omega
      | ⟨1, _⟩ => show (z 2).val = 0 + 1 * (z 2).val; omega
  · refine ⟨_, List.mem_map.mpr ⟨h, List.mem_reverse.mpr (List.mem_finRange _), rfl⟩, ?_⟩
    rw [Rect.mem_set_unit]
    intro a
    match a with
    | ⟨0, _⟩ => show h.val ≤ h.val ∧ h.val < h.val + 1; omega
    | ⟨1, _⟩ => show 0 ≤ y.val ∧ y.val < 0 + 256; omega
    | ⟨2, _⟩ => show 0 ≤ x.val ∧ x.val < 0 + 128; omega

/-- A read through a whole memref holding `x` is `x` where the read's rectangle places the index. -/
theorem read_whole {s : Shape} {e : EltTy} (M : Memref sig .tc .vmem s e) (hM : M.IsWhole) (r : Rect s) (x : s.Idx → Elt Ideal e)
    (j : r.shape.Idx) (i : s.Idx) (hi : r.emb j = i) : View.readAt (Elt Ideal) M.view r.toLoadRect (hM.unread x) j = x i := by
  rw [View.readAt_eq_ld, hM.read_unread]
  subst hi
  rfl

/-- A point's reads hold a sequence's rows, when its blocks do. -/
theorem rd_holds (arg2 : Memref sig .tc .vmem S1x64x512 .f32) (harg2 : arg2.IsWhole) (arg3 : Memref sig .tc .vmem S1x64x512 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x64x1024 .bf16) (harg11 : arg11.IsWhole) (arg12 : Memref sig .tc .vmem S1x4x256x128 .f32) (harg12 : arg12.IsWhole) (arg13 : Memref sig .tc .vmem S4x256x128 .f32) (harg13 : arg13.IsWhole)
    (x0 : Vec Ideal S1x64x512 .f32) (x1 : Vec Ideal S1x64x512 .f32) (x2 : Vec Ideal S1x64x1024 .f32) (x3 : Vec Ideal S1x64x1024 .f32) (x4 : Vec Ideal S1x64x128 .f32) (x5 : Vec Ideal S128x512 .bf16) (x6 : Vec Ideal S1x512 .f32) (x7 : Vec Ideal S1x256 .f32)
    (a : Rows) (nm : Fin 256 → EReal)
    (h0 : ∀ (c : Fin 64) x, x0 (ix3 0 c x) = a.q c.val x) (h1 : ∀ (c : Fin 64) x, x1 (ix3 0 c x) = a.k c.val x)
    (h2 : ∀ (c : Fin 64) x, x2 (ix3 0 c x) = a.v c.val x) (h3 : ∀ (c : Fin 64) x, x3 (ix3 0 c x) = a.r c.val x)
    (h4 : ∀ (c : Fin 64) x, (if c.val < 8 then gate (∑ e : Fin 128, x4 (ix3 0 c e) * x5 (ix2 e x) + x6 (ix2 0 x)) else 0) = a.g c.val x)
    (h7 : ∀ x, x7 (ix2 0 x) = nm x) :
    (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds a nm := by
  have rg : ∀ (c : Fin 64) x, (rd arg2 harg2 arg3 harg3 arg4 harg4 arg5 harg5 arg6 harg6 arg7 harg7 arg8 harg8 arg9 harg9 arg10 harg10 arg11 harg11 arg12 harg12 arg13 harg13 x0 x1 x2 x3 x4 x5 x6 x7).g (ix3 0 c x) = x4 (ix3 0 c x) := fun c x => by
    refine read_whole arg6 harg6 _ x4 _ _ (funext fun a => Fin.ext ?_)
    match a with
    | ⟨0, _⟩ => rfl
    | ⟨1, _⟩ => show 0 + 1 * c.val = c.val; omega
    | ⟨2, _⟩ => show 0 + 1 * x.val = x.val; omega
  have rw' : ∀ (c : Fin 128) x, (rd arg2 harg2 arg3 harg3 arg4 harg4 arg5 harg5 arg6 harg6 arg7 harg7 arg8 harg8 arg9 harg9 arg10 harg10 arg11 harg11 arg12 harg12 arg13 harg13 x0 x1 x2 x3 x4 x5 x6 x7).w (ix2 c x) = x5 (ix2 c x) := fun c x => by
    refine read_whole arg7 harg7 _ x5 _ _ (funext fun a => Fin.ext ?_)
    match a with
    | ⟨0, _⟩ => show 0 + 1 * c.val = c.val; omega
    | ⟨1, _⟩ => show 0 + 1 * x.val = x.val; omega
  have rb : ∀ x, (rd arg2 harg2 arg3 harg3 arg4 harg4 arg5 harg5 arg6 harg6 arg7 harg7 arg8 harg8 arg9 harg9 arg10 harg10 arg11 harg11 arg12 harg12 arg13 harg13 x0 x1 x2 x3 x4 x5 x6 x7).b (ix2 0 x) = x6 (ix2 0 x) := fun x => by
    refine read_whole arg8 harg8 _ x6 _ _ (funext fun a => Fin.ext ?_)
    match a with
    | ⟨0, _⟩ => rfl
    | ⟨1, _⟩ => show 0 + 1 * x.val = x.val; omega
  refine ⟨fun c x => ?_, fun c x => (?_ : _ = x0 (ix3 0 c x)).trans (h0 c x), fun c x => (?_ : _ = x1 (ix3 0 c x)).trans (h1 c x),
    fun h c x => (?_ : _ = x2 (ix3 0 c (hv h x))).trans (h2 c _), fun h c x => (?_ : _ = x3 (ix3 0 c (hv h x))).trans (h3 c _), fun x => (?_ : _ = x7 (ix2 0 x)).trans (h7 x)⟩
  · simp only [rg, rw', rb]
    exact h4 c x
  · refine read_whole arg2 harg2 _ x0 _ _ (funext fun a => Fin.ext ?_)
    match a with
    | ⟨0, _⟩ => rfl
    | ⟨1, _⟩ => show 0 + 1 * c.val = c.val; omega
    | ⟨2, _⟩ => show 0 + 1 * x.val = x.val; omega
  · refine read_whole arg3 harg3 _ x1 _ _ (funext fun a => Fin.ext ?_)
    match a with
    | ⟨0, _⟩ => rfl
    | ⟨1, _⟩ => show 0 + 1 * c.val = c.val; omega
    | ⟨2, _⟩ => show 0 + 1 * x.val = x.val; omega
  · refine read_whole arg4 harg4 _ x2 _ _ (funext fun a => Fin.ext ?_)
    match a with
    | ⟨0, _⟩ => rfl
    | ⟨1, _⟩ => show 0 + 1 * c.val = c.val; omega
    | ⟨2, _⟩ => show 256 * h.val + 1 * x.val = 256 * h.val + x.val; omega
  · refine read_whole arg5 harg5 _ x3 _ _ (funext fun a => Fin.ext ?_)
    match a with
    | ⟨0, _⟩ => rfl
    | ⟨1, _⟩ => show 0 + 1 * c.val = c.val; omega
    | ⟨2, _⟩ => show 256 * h.val + 1 * x.val = 256 * h.val + x.val; omega
  · refine read_whole arg9 harg9 _ x7 _ _ (funext fun a => Fin.ext ?_)
    match a with
    | ⟨0, _⟩ => rfl
    | ⟨1, _⟩ => show 0 + 1 * x.val = x.val; omega

/-- A head of a state array read through its own slice. -/
theorem head_read (f : Vec Ideal S4x256x128 .f32) (h : Fin 4) (y : Fin 256) (x : Fin 128) :
    shapeCast S256x128 (View.ld f (Rect.unit (s := S4x256x128) ![h.val, 0, 0] S1x256x128.size (inbS h))) shapeCasts_S1x256x128_S256x128 (ix2 y x) = f (ix3 h y x) := by
  have e : ∀ g : Vec Ideal S1x256x128 .f32, shapeCast S256x128 g shapeCasts_S1x256x128_S256x128 (ix2 y x) = g (ix3 0 y x) := by
    intro g; pointwise
  refine (e _).trans (congrArg f (funext fun a => Fin.ext ?_))
  match a with
  | ⟨0, _⟩ => show h.val + 1 * 0 = h.val; omega
  | ⟨1, _⟩ => show 0 + 1 * y.val = y.val; omega
  | ⟨2, _⟩ => show 0 + 1 * x.val = x.val; omega

/-- The rows a point leaves. -/
theorem out_9 (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x64x1024 .bf16) (harg11 : arg11.IsWhole) (arg12 : Memref sig .tc .vmem S1x4x256x128 .f32) (harg12 : arg12.IsWhole) (arg13 : Memref sig .tc .vmem S4x256x128 .f32) (harg13 : arg13.IsWhole) (hc0 : cond0_0 i) (hc1 : cond0_1 i)
    (x0 : Vec Ideal S1x64x512 .f32) (x1 : Vec Ideal S1x64x512 .f32) (x2 : Vec Ideal S1x64x1024 .f32) (x3 : Vec Ideal S1x64x1024 .f32) (x4 : Vec Ideal S1x64x128 .f32) (x5 : Vec Ideal S128x512 .bf16) (x6 : Vec Ideal S1x512 .f32) (x7 : Vec Ideal S1x256 .f32) (x8 : Vec Ideal S1x4x256x128 .f32)
    (a : Rows) (nm : Fin 256 → EReal) (S0 : Fin 4 → Fin 128 → Fin 256 → EReal) (h8 : ∀ h y x, x8 (ix4 0 h y x) = S0 h x y)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds a nm) (r : Fin 64) (h : Fin 4) (y : Fin 256) :
    out0_A_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix3 0 r (hv h y)) = a.out 64 nm h (S0 h) r.val y := by
  unfold out0_A_9
  rw [View.read_writes_junk_eq_canon, pcs_9, canon_pcsO]
  refine Rd.out_apply H h _ _ ?_ r y
  exact fun y x => by
    rw [View.readCov_eq_canon']
    refine (head_read _ h y x).trans ?_
    rw [View.canon_unit_zero (by decide)]
    show k0_pay2 _ (ix3 h y x) = _
    unfold k0_pay2
    pointwise
    refine Eq.trans ?_ (h8 h y x)
    show View.ld ((arg10.view).read (Elt Ideal) (harg10.unread x8)) _ _ = _
    rw [harg10.read_unread]
    refine congrArg x8 (funext fun a => Fin.ext ?_)
    match a with
    | ⟨0, _⟩ => rfl
    | ⟨1, _⟩ => show 0 + 1 * h.val = h.val; omega
    | ⟨2, _⟩ => show 0 + 1 * y.val = y.val; omega
    | ⟨3, _⟩ => show 0 + 1 * x.val = x.val; omega

/-- The states a point leaves. -/
theorem out_10 (c : Dev nD) (i : grid0.Coords) (arg2 : Memref sig .tc .vmem S1x64x512 .f32) (harg2 : arg2.IsWhole) (arg3 : Memref sig .tc .vmem S1x64x512 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S1x4x256x128 .f32) (harg10 : arg10.IsWhole) (arg11 : Memref sig .tc .vmem S1x64x1024 .bf16) (harg11 : arg11.IsWhole) (arg12 : Memref sig .tc .vmem S1x4x256x128 .f32) (harg12 : arg12.IsWhole) (arg13 : Memref sig .tc .vmem S4x256x128 .f32) (harg13 : arg13.IsWhole) (hc0 : cond0_0 i) (hc1 : cond0_1 i)
    (x0 : Vec Ideal S1x64x512 .f32) (x1 : Vec Ideal S1x64x512 .f32) (x2 : Vec Ideal S1x64x1024 .f32) (x3 : Vec Ideal S1x64x1024 .f32) (x4 : Vec Ideal S1x64x128 .f32) (x5 : Vec Ideal S128x512 .bf16) (x6 : Vec Ideal S1x512 .f32) (x7 : Vec Ideal S1x256 .f32) (x8 : Vec Ideal S1x4x256x128 .f32)
    (a : Rows) (nm : Fin 256 → EReal) (S0 : Fin 4 → Fin 128 → Fin 256 → EReal) (h8 : ∀ h y x, x8 (ix4 0 h y x) = S0 h x y)
    (H : (rd (F := Ideal) arg2 harg2 arg3 harg3 arg4 harg4 arg5 harg5 arg6 harg6 arg7 harg7 arg8 harg8 arg9 harg9 arg10 harg10 arg11 harg11 arg12 harg12 arg13 harg13 x0 x1 x2 x3 x4 x5 x6 x7).Holds a nm) (h : Fin 4) (y : Fin 256) (x : Fin 128) :
    out0_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix4 0 h y x) = a.next 64 h (S0 h) x y := by
  unfold out0_A_10
  rw [View.read_writes_junk_eq_canon, pcs_10, View.canon_unit_zero (by decide), View.readCov_eq_canon']
  unfold k0_pay1
  pointwise
  refine (canon_pcsS _ _ _ h y x).trans (Rd.st_apply H h _ _ ?_ y x)
  exact fun y x => by
    rw [View.readCov_eq_canon']
    refine (head_read _ h y x).trans ?_
    rw [View.canon_unit_zero (by decide)]
    show k0_pay2 _ (ix3 h y x) = _
    unfold k0_pay2
    pointwise
    refine Eq.trans ?_ (h8 h y x)
    show View.ld ((arg10.view).read (Elt Ideal) (harg10.unread x8)) _ _ = _
    rw [harg10.read_unread]
    refine congrArg x8 (funext fun a => Fin.ext ?_)
    match a with
    | ⟨0, _⟩ => rfl
    | ⟨1, _⟩ => show 0 + 1 * h.val = h.val; omega
    | ⟨2, _⟩ => show 0 + 1 * y.val = y.val; omega
    | ⟨3, _⟩ => show 0 + 1 * x.val = x.val; omega

end Cert.Gla.Step
-- ==== Proof.Gla.Step.Kernel.lean ====
/- The sample group's gated linear attention over extended reals: what the kernel's run leaves. -/
module

public import proofs.«01_k».proof.Proof.Gla.Step.Points
public import proofs.«01_k».proof.Proof.Gen.Kernel11Ideal.Frame
public import Idealize.ShloMosaic.Lib.StableHlo.ReadAt
public import Idealize.ShloMosaic.Lib.Claim

@[expose] public section
set_option maxRecDepth 16384
noncomputable section
namespace Cert.Gla.Step

open Idealize.ShloMosaic Idealize.ShloMosaic.TcCoe Idealize.ShloMosaic.Tactic Idealize.SL.Sem
open Cert.Kernel11Ideal Cert.Kernel11Ideal.Gen
variable (m : (ℓ : Loc nD τ sig) → Buf (Elt Ideal) ℓ) (c : Dev nD)

/-- The arguments as device `c` holds them. -/
def arr : Arr :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8)⟩

/-- The windows' block indices, by the point. -/
theorem idx_tok : ∀ t : Fin cfg0.N, (win0_0.index t = ![t.val, 0, 0] ∧ win0_1.index t = ![t.val, 0, 0]
    ∧ win0_2.index t = ![t.val, 0, 0] ∧ win0_3.index t = ![t.val, 0, 0] ∧ win0_4.index t = ![t.val, 0, 0])
    ∧ (win0_5.index t = ![0, 0] ∧ win0_6.index t = ![0, 0] ∧ win0_7.index t = ![0, 0] ∧ win0_8.index t = ![t.val, 0, 0, 0])
    ∧ win0_9.index t = ![t.val, 0, 0] ∧ win0_10.index t = ![t.val, 0, 0, 0] := by decide +kernel

/-- The grid's points number 32. -/
theorem lt32 (t : Fin cfg0.N) : t.val < 32 := lt_of_lt_of_eq t.isLt N_0

/-- The sequence a point works on. -/
abbrev seq (t : Fin cfg0.N) : Fin 32 := ⟨t.val, lt32 t⟩

/-- The blocks a point reads. -/
abbrev in0 (t : Fin cfg0.N) : S1x64x512.Idx → EReal := iblk m c 0 t
@[inherit_doc in0] abbrev in1 (t : Fin cfg0.N) : S1x64x512.Idx → EReal := iblk m c 1 t
@[inherit_doc in0] abbrev in2 (t : Fin cfg0.N) : S1x64x1024.Idx → EReal := iblk m c 2 t
@[inherit_doc in0] abbrev in3 (t : Fin cfg0.N) : S1x64x1024.Idx → EReal := iblk m c 3 t
@[inherit_doc in0] abbrev in4 (t : Fin cfg0.N) : S1x64x128.Idx → EReal := iblk m c 4 t
@[inherit_doc in0] abbrev in5 (t : Fin cfg0.N) : S128x512.Idx → EReal := iblk m c 5 t
@[inherit_doc in0] abbrev in6 (t : Fin cfg0.N) : S1x512.Idx → EReal := iblk m c 6 t
@[inherit_doc in0] abbrev in7 (t : Fin cfg0.N) : S1x256.Idx → EReal := iblk m c 7 t
@[inherit_doc in0] abbrev in8 (t : Fin cfg0.N) : S1x4x256x128.Idx → EReal := iblk m c 8 t

theorem pad_zero : FloatOps.sitofp (F := Ideal) .f32 0#32 = (0 : EReal) := by
  show (((0#32 : BitVec 32).toInt : ℝ) : EReal) = 0
  simp

/-- The q rows, padded to sixty-four. -/
theorem V_q (i : S32x64x512.Idx) : (V m c main_v1 : S32x64x512.Idx → EReal) i
    = if h : (i 1).val < 8 then (arr m c).q (ix3 (i 0) ⟨(i 1).val, h⟩ (i 2)) else FloatOps.sitofp (F := Ideal) .f32 0#32 := by
  unfold V arr
  after_reads_at

/-- The k rows, padded to sixty-four. -/
theorem V_k (i : S32x64x512.Idx) : (V m c main_v2 : S32x64x512.Idx → EReal) i
    = if h : (i 1).val < 8 then (arr m c).k (ix3 (i 0) ⟨(i 1).val, h⟩ (i 2)) else FloatOps.sitofp (F := Ideal) .f32 0#32 := by
  unfold V arr
  after_reads_at

/-- The v rows, padded to sixty-four. -/
theorem V_v (i : S32x64x1024.Idx) : (V m c main_v3 : S32x64x1024.Idx → EReal) i
    = if h : (i 1).val < 8 then (arr m c).v (ix3 (i 0) ⟨(i 1).val, h⟩ (i 2)) else FloatOps.sitofp (F := Ideal) .f32 0#32 := by
  unfold V arr
  after_reads_at

/-- The r rows, padded to sixty-four. -/
theorem V_r (i : S32x64x1024.Idx) : (V m c main_v4 : S32x64x1024.Idx → EReal) i
    = if h : (i 1).val < 8 then (arr m c).r (ix3 (i 0) ⟨(i 1).val, h⟩ (i 2)) else FloatOps.sitofp (F := Ideal) .f32 0#32 := by
  unfold V arr
  after_reads_at

/-- The low-rank rows, padded in both directions. -/
theorem V_g (i : S32x64x128.Idx) : (V m c main_v5 : S32x64x128.Idx → EReal) i
    = if h : (i 1).val < 8 then (if h' : (i 2).val < 16 then (arr m c).gl (ix3 (i 0) ⟨(i 1).val, h⟩ ⟨(i 2).val, h'⟩) else FloatOps.sitofp (F := Ideal) .f32 0#32)
      else FloatOps.sitofp (F := Ideal) .f32 0#32 := by
  unfold V arr
  after_reads_at
  by_cases h : (i 1).val < 8
  · rw [dif_pos h, dif_pos h]
    by_cases h' : (i 2).val < 16
    · rw [dif_pos ⟨h, h'⟩, dif_pos h']
    · rw [dif_neg fun p => h' p.2, dif_neg h']
  · rw [dif_neg h, dif_neg h]

/-- The padded gate weight. -/
theorem V_w (i : S128x512.Idx) : (V m c main_v7 : S128x512.Idx → EReal) i
    = if h : (i 0).val < 16 then (arr m c).w (ix2 ⟨(i 0).val, h⟩ (i 1)) else FloatOps.sitofp (F := Ideal) .f32 0#32 := by
  unfold V arr
  after_reads_at

theorem V_b (i : S1x512.Idx) : (V m c main_v9 : S1x512.Idx → EReal) i = (arr m c).bg (ix1 (i 1)) := by
  unfold V arr
  after_reads_at

theorem V_n (i : S1x256.Idx) : (V m c main_v10 : S1x256.Idx → EReal) i = (arr m c).ng (ix1 (i 1)) := by
  unfold V arr
  after_reads_at

theorem V_s (b : Fin 32) (h : Fin 4) (y : Fin 256) (x : Fin 128) : (V m c main_v8 : S32x4x256x128.Idx → EReal) (ix4 b h y x) = (arr m c).s0 (ix4 b h x y) := by
  unfold V arr
  after_reads_at

theorem blk_q (t : Fin cfg0.N) (r : Fin 64) (x : Fin 512) : in0 m c t (ix3 0 r x) = (V m c main_v1 : S32x64x512.Idx → EReal) (ix3 (seq t) r x) := by
  blk_ext [iblk, (idx_tok t).1.1]

theorem blk_k (t : Fin cfg0.N) (r : Fin 64) (x : Fin 512) : in1 m c t (ix3 0 r x) = (V m c main_v2 : S32x64x512.Idx → EReal) (ix3 (seq t) r x) := by
  blk_ext [iblk, (idx_tok t).1.2.1]

theorem blk_v (t : Fin cfg0.N) (r : Fin 64) (x : Fin 1024) : in2 m c t (ix3 0 r x) = (V m c main_v3 : S32x64x1024.Idx → EReal) (ix3 (seq t) r x) := by
  blk_ext [iblk, (idx_tok t).1.2.2.1]

theorem blk_r (t : Fin cfg0.N) (r : Fin 64) (x : Fin 1024) : in3 m c t (ix3 0 r x) = (V m c main_v4 : S32x64x1024.Idx → EReal) (ix3 (seq t) r x) := by
  blk_ext [iblk, (idx_tok t).1.2.2.2.1]

theorem blk_g (t : Fin cfg0.N) (r : Fin 64) (x : Fin 128) : in4 m c t (ix3 0 r x) = (V m c main_v5 : S32x64x128.Idx → EReal) (ix3 (seq t) r x) := by
  blk_ext [iblk, (idx_tok t).1.2.2.2.2]

theorem blk_w (t : Fin cfg0.N) (e : Fin 128) (x : Fin 512) : in5 m c t (ix2 e x) = (V m c main_v7 : S128x512.Idx → EReal) (ix2 e x) := by
  blk_ext [iblk, (idx_tok t).2.1.1]

theorem blk_b (t : Fin cfg0.N) (x : Fin 512) : in6 m c t (ix2 0 x) = (V m c main_v9 : S1x512.Idx → EReal) (ix2 0 x) := by
  blk_ext [iblk, (idx_tok t).2.1.2.1]

theorem blk_n (t : Fin cfg0.N) (x : Fin 256) : in7 m c t (ix2 0 x) = (V m c main_v10 : S1x256.Idx → EReal) (ix2 0 x) := by
  blk_ext [iblk, (idx_tok t).2.1.2.2.1]

theorem blk_s (t : Fin cfg0.N) (h : Fin 4) (y : Fin 256) (x : Fin 128) : in8 m c t (ix4 0 h y x) = (V m c main_v8 : S32x4x256x128.Idx → EReal) (ix4 (seq t) h y x) := by
  blk_ext [iblk, (idx_tok t).2.1.2.2.2]

/-- A padded row is the sequence's, zero past the eighth. -/
theorem row_q (t : Fin cfg0.N) (r : Fin 64) (x : Fin 512) : in0 m c t (ix3 0 r x) = ((arr m c).rows (seq t)).q r.val x := by
  rw [blk_q, V_q, pad_zero]
  rfl

@[inherit_doc row_q]
theorem row_k (t : Fin cfg0.N) (r : Fin 64) (x : Fin 512) : in1 m c t (ix3 0 r x) = ((arr m c).rows (seq t)).k r.val x := by
  rw [blk_k, V_k, pad_zero]
  rfl

@[inherit_doc row_q]
theorem row_v (t : Fin cfg0.N) (r : Fin 64) (x : Fin 1024) : in2 m c t (ix3 0 r x) = ((arr m c).rows (seq t)).v r.val x := by
  rw [blk_v, V_v, pad_zero]
  rfl

@[inherit_doc row_q]
theorem row_r (t : Fin cfg0.N) (r : Fin 64) (x : Fin 1024) : in3 m c t (ix3 0 r x) = ((arr m c).rows (seq t)).r r.val x := by
  rw [blk_r, V_r, pad_zero]
  rfl

/-- The padded lanes add nothing to a logit. -/
theorem logit (t : Fin cfg0.N) (r : Fin 64) (hr : r.val < 8) (x : Fin 512) :
    ∑ e : Fin 128, in4 m c t (ix3 0 r e) * in5 m c t (ix2 e x) + in6 m c t (ix2 0 x)
      = ∑ e : Fin 16, (arr m c).gl (ix3 (seq t) ⟨r.val, hr⟩ e) * (arr m c).w (ix2 e x) + (arr m c).bg (ix1 x) := by
  rw [blk_b, V_b, Fin.sum_univ_two_halves 16 112 rfl]
  have e1 : ∀ k : Fin 16, in4 m c t (ix3 0 r (⟨k.val, by omega⟩ : Fin 128)) * in5 m c t (ix2 (⟨k.val, by omega⟩ : Fin 128) x)
      = (arr m c).gl (ix3 (seq t) ⟨r.val, hr⟩ k) * (arr m c).w (ix2 k x) := by
    intro k
    rw [blk_g, blk_w, V_g, V_w]
    show (if h : r.val < 8 then (if h' : k.val < 16 then _ else _) else _) * (if h : k.val < 16 then _ else _) = _
    rw [dif_pos hr, dif_pos k.isLt, dif_pos k.isLt]
    rfl
  have e2 : ∀ k : Fin 112, in4 m c t (ix3 0 r (⟨16 + k.val, by omega⟩ : Fin 128)) * in5 m c t (ix2 (⟨16 + k.val, by omega⟩ : Fin 128) x) = 0 := by
    intro k
    rw [blk_g, V_g]
    show (if h : r.val < 8 then (if h' : 16 + k.val < 16 then _ else _) else _) * _ = _
    rw [dif_pos hr, dif_neg (by omega), pad_zero, zero_mul]
  rw [Finset.sum_congr rfl fun k _ => e1 k, Finset.sum_congr rfl fun k _ => e2 k, Finset.sum_const_zero, add_zero]
  rfl

/-- A padded row's gates are the sequence's, zero past the eighth. -/
theorem row_g (t : Fin cfg0.N) (r : Fin 64) (x : Fin 512) :
    (if r.val < 8 then gate (∑ e : Fin 128, in4 m c t (ix3 0 r e) * in5 m c t (ix2 e x) + in6 m c t (ix2 0 x)) else 0)
      = ((arr m c).rows (seq t)).g r.val x := by
  by_cases hr : r.val < 8
  · rw [if_pos hr, logit m c t r hr]
    exact (dif_pos hr : ((arr m c).rows (seq t)).g r.val x = _).symm
  · rw [if_neg hr]
    exact (dif_neg hr : ((arr m c).rows (seq t)).g r.val x = _).symm

/-- What a point reads holds its sequence's rows. -/
theorem holds_at (t : Fin cfg0.N) :
    (rd (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t)).Holds
      ((arr m c).rows (seq t)) (fun x => (arr m c).ng (ix1 x)) :=
  rd_holds _ _ _ _ _ _ _ _ _ _ _ _ _ _ _ _ _ _ _ _ _ _ _ _ _ _ _ _ _ _ _ _ _ _
    (fun r x => row_q m c t r x) (fun r x => row_k m c t r x) (fun r x => row_v m c t r x) (fun r x => row_r m c t r x)
    (fun r x => row_g m c t r x) (fun x => (blk_n m c t x).trans (V_n m c _))

theorem state_at (t : Fin cfg0.N) (h : Fin 4) (y : Fin 256) (x : Fin 128) : in8 m c t (ix4 0 h y x) = (arr m c).S0 (seq t) h x y :=
  (blk_s m c t h y x).trans (V_s m c (seq t) h y x)

/-- A row of the padded output. -/
def outRow (b : Fin 32) (r : Fin 64) (z : Fin 1024) : EReal :=
  ((arr m c).rows b).out 8 (fun x => (arr m c).ng (ix1 x)) ⟨z.val / 256, by omega⟩ ((arr m c).S0 b ⟨z.val / 256, by omega⟩) r.val ⟨z.val % 256, Nat.mod_lt _ (by decide)⟩

/-- The rows a point stores, by head. -/
theorem head_at (t : Fin cfg0.N) (r : Fin 64) (h : Fin 4) (y : Fin 256) : (outsAt0 m c t).1 (ix3 0 r (hv h y))
    = ((arr m c).rows (seq t)).out 8 (fun x => (arr m c).ng (ix1 x)) h ((arr m c).S0 (seq t) h) r.val y := by
  have H := holds_at m c t
  unfold outsAt0
  rw [← Rows.out_pad ((arr m c).g_pad (seq t)) ((arr m c).v_pad (seq t))]
  dsimp only
  exact out_9 _ _ _ _ _ _ _ _ _ _ _ _ _ _ _ _ _ _ _ _ _ _ _ _ _ _ _ _ _ _ _ _ _ _ _ _ _ ((arr m c).rows (seq t)) (fun x => (arr m c).ng (ix1 x)) ((arr m c).S0 (seq t)) (state_at m c t) H r h y

/-- The rows a point stores. -/
theorem rows_at (t : Fin cfg0.N) (r : Fin 64) (z : Fin 1024) : (outsAt0 m c t).1 (ix3 0 r z) = outRow m c (seq t) r z := by
  have hz : z = hv ⟨z.val / 256, by omega⟩ ⟨z.val % 256, Nat.mod_lt _ (by decide)⟩ := Fin.ext (by show z.val = 256 * (z.val / 256) + z.val % 256; omega)
  exact (congrArg (fun z => (outsAt0 m c t).1 (ix3 0 r z)) hz).trans (head_at m c t r _ _)

/-- The state a point stores. -/
theorem last_at (t : Fin cfg0.N) (h : Fin 4) (y : Fin 256) (x : Fin 128) : (outsAt0 m c t).2 (ix4 0 h y x) = (arr m c).s (seq t) h x y := by
  have H := holds_at m c t
  unfold Arr.s outsAt0
  rw [← Rows.next_pad ((arr m c).g_pad (seq t)) ((arr m c).v_pad (seq t))]
  dsimp only
  exact out_10 _ _ _ _ _ _ _ _ _ _ _ _ _ _ _ _ _ _ _ _ _ _ _ _ _ _ _ _ _ _ _ _ _ _ _ _ _ ((arr m c).rows (seq t)) (fun x => (arr m c).ng (ix1 x)) ((arr m c).S0 (seq t)) (state_at m c t) H h y x

/-- The padded output array after the run. -/
theorem arr9 : (dats m 0 c).arrAt 9 (cfgs 0).N = fun i : S32x64x1024.Idx => outRow m c (i 0) (i 1) (i 2) := by
  refine (dats m 0 c).arrAt_eq_of_covers 9 _ (by decide +kernel) fun t hf y => ?_
  blk_simp
  rw [after0_9]
  have y0 : (y 0).val < 1 := (y 0).isLt
  have hy : y = (ix3 0 (y 1) (y 2) : S1x64x1024.Idx) := by
    funext a
    fin_cases a
    · exact Fin.ext (Nat.lt_one_iff.mp y0)
    · rfl
    · rfl
  refine (congrArg _ hy).trans ((rows_at m c t _ _).trans ?_)
  congr 1
  · exact Fin.ext (by show t.val = win0_9.index t 0 * 1 + 1 * (y 0).val; rw [(idx_tok t).2.2.1]; simp)
  · exact Fin.ext (by show (y 1).val = win0_9.index t 1 * 64 + 1 * (y 1).val; rw [(idx_tok t).2.2.1]; simp)
  · exact Fin.ext (by show (y 2).val = win0_9.index t 2 * 1024 + 1 * (y 2).val; rw [(idx_tok t).2.2.1]; simp)

/-- The state array after the run. -/
theorem arr10 : (dats m 0 c).arrAt 10 (cfgs 0).N = fun i : S32x4x256x128.Idx => (arr m c).s (i 0) (i 1) (i 3) (i 2) := by
  refine (dats m 0 c).arrAt_eq_of_covers 10 _ (by decide +kernel) fun t hf y => ?_
  blk_simp
  rw [after0_10]
  have y0 : (y 0).val < 1 := (y 0).isLt
  have hy : y = (ix4 0 (y 1) (y 2) (y 3) : S1x4x256x128.Idx) := by
    funext a
    fin_cases a
    · exact Fin.ext (Nat.lt_one_iff.mp y0)
    · rfl
    · rfl
    · rfl
  refine (congrArg _ hy).trans ((last_at m c t _ _ _).trans ?_)
  congr 1
  · exact Fin.ext (by show t.val = win0_10.index t 0 * 1 + 1 * (y 0).val; rw [(idx_tok t).2.2.2]; simp)
  · exact Fin.ext (by show (y 1).val = win0_10.index t 1 * 4 + 1 * (y 1).val; rw [(idx_tok t).2.2.2]; simp)
  · exact Fin.ext (by show (y 3).val = win0_10.index t 3 * 128 + 1 * (y 3).val; rw [(idx_tok t).2.2.2]; simp)
  · exact Fin.ext (by show (y 2).val = win0_10.index t 2 * 256 + 1 * (y 2).val; rw [(idx_tok t).2.2.2]; simp)

/-- No two windows share an array. -/
theorem arrRef_inj : Function.Injective (Pipeline.arrRef (cfgs 0).spec) := by decide +kernel

/-- The rows, after the lines that follow the region. -/
theorem end_o : (Pipeline.afterTail₀ cfgs (dats m) 0 (V0 m) [hostOps1] c main_v12 : S32x8x1024.Idx → EReal)
    = fun i => (arr m c).o (i 0) (i 1) ⟨(i 2).val / 256, by have h := (i 2).isLt; change _ < 1024 at h; omega⟩ ⟨(i 2).val % 256, Nat.mod_lt _ (by decide)⟩ := by
  funext i
  unfold Pipeline.afterTail₀
  after_reads_at
  exact congrFun ((Pipeline.withArrays_arr (cfgs 0).spec arrRef_inj c (V0 m c) (fun w => (dats m 0 c).arrAt w (cfgs 0).N) 9).trans (arr9 m c)) _

/-- The states, after the lines that follow the region. -/
theorem end_s : (Pipeline.afterTail₀ cfgs (dats m) 0 (V0 m) [hostOps1] c main_v13 : S32x4x128x256.Idx → EReal) = fun i => (arr m c).s (i 0) (i 1) (i 2) (i 3) := by
  funext i
  unfold Pipeline.afterTail₀
  after_reads_at
  exact congrFun ((Pipeline.withArrays_arr (cfgs 0).spec arrRef_inj c (V0 m c) (fun w => (dats m 0 c).arrAt w (cfgs 0).N) 10).trans (arr10 m c)) _

/-- The run ends with both results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v12) = (fun i : S32x8x1024.Idx => (arr m c).o (i 0) (i 1) ⟨(i 2).val / 256, by have h := (i 2).isLt; change _ < 1024 at h; omega⟩ ⟨(i 2).val % 256, Nat.mod_lt _ (by decide)⟩)
      ∧ r.2.mem ((c.tc : Thread nD τ).loc main_v13) = (fun i : S32x4x128x256.Idx => (arr m c).s (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).2 main_v12 (Pipeline.mem_restRefs_of main_v12 (by decide) (by decide))).trans (end_o m c),
    ((h.1 c).2 main_v13 (Pipeline.mem_restRefs_of main_v13 (by decide) (by decide))).trans (end_s m c), h.2 c⟩)
    (θ_run_and (run_main m ρ) (unchanged m ρ))

end Cert.Gla.Step
-- ==== Proof.Gla.Step.RefStep.lean ====
/- One trip of the reference's loop, over extended reals: chunk `j` of the arrays, in the terms of the chunk mathematics. -/
module

public import proofs.«01_k».proof.Proof.Gla.Step.Math
public import proofs.«01_k».proof.Proof.Gen.Reference11Ideal.Step
public import Idealize.ShloMosaic.Lib.Pointwise
public import Idealize.ShloMosaic.Lib.WordCmp
public import Idealize.ShloMosaic.Lib.FinSumWindow

@[expose] public section
noncomputable section
namespace Cert.Gla.Step.Ref

open Idealize.ShloMosaic Cert.Reference11Ideal Cert.Reference11Ideal.Gen Cert.Reference11Ideal.Step

/-- The arrays a state carries are the arguments' chunks. -/
structure Holds (A : Arr) (s : State Ideal) : Prop where
  q : ∀ (n : Fin 1) (b : Fin 32) (h : Fin 4) (c : Fin 8) (x : Fin 128),
    s.main_v42_0 (ix5 n b h c x) = (A.rows b).q c.val (hk h x) * Ideal.ofBits .f32 0x3DB504F3#32
  k : ∀ (n : Fin 1) (b : Fin 32) (h : Fin 4) (c : Fin 8) (x : Fin 128), s.main_v42_1 (ix5 n b h c x) = (A.rows b).k c.val (hk h x)
  v : ∀ (n : Fin 1) (b : Fin 32) (h : Fin 4) (c : Fin 8) (y : Fin 256), s.main_v42_2 (ix5 n b h c y) = (A.rows b).v c.val (hv h y)
  g : ∀ (n : Fin 1) (b : Fin 32) (h : Fin 4) (c : Fin 8) (x : Fin 128), s.main_v42_3 (ix5 n b h c x) = (A.rows b).g c.val (hk h x)

variable {A : Arr} {s : State Ideal} {j : ℕ}

/-- The starts of the loop's slices. -/
theorem start5 (hj : j < 1) (a : Fin 5) :
    ((![(constantI S_ 32 (BitVec.ofNat 32 j) : S_.Idx → BitVec 32), constantI S_ 32 0#32, constantI S_ 32 0#32, constantI S_ 32 0#32, constantI S_ 32 0#32] : Fin 5 → (S_.Idx → BitVec 32)) a (Shape.Idx.first h_S_)).toInt
      = ((![j, 0, 0, 0, 0] : Fin 5 → ℕ) a : ℤ) := by
  fin_cases a
  · show (BitVec.ofNat 32 j).toInt = (j : ℤ)
    rw [BitVec.toInt_eq_toNat_of_lt (by rw [BitVec.toNat_ofNat]; omega), BitVec.toNat_ofNat]
    omega
  all_goals rfl

/-- Slice `j` of an array of chunks, 128 lanes. -/
theorem slice128 (hj : j < 1) (X : S1x32x4x8x128.Idx → EReal) (b : Fin 32) (h : Fin 4) (c : Fin 8) (x : Fin 128) :
    shapeCast S32x4x8x128 (Host.dynamicSlice S1x32x4x8x128 X (fun k => ((![(constantI S_ 32 (BitVec.ofNat 32 j) : S_.Idx → BitVec 32), constantI S_ 32 0#32, constantI S_ 32 0#32, constantI S_ 32 0#32, constantI S_ 32 0#32] : Fin 5 → (S_.Idx → BitVec 32)) k (Shape.Idx.first h_S_)).toInt) sliceFits_S1x32x4x8x128_S1x32x4x8x128)
      shapeCasts_S1x32x4x8x128_S32x4x8x128 (ix4 b h c x) = X (ix5 ⟨j, hj⟩ b h c x) := by
  rw [WordCmp.dynamicSlice_eq_extract (s := S1x32x4x8x128) S1x32x4x8x128 _ _ _ ![j, 0, 0, 0, 0] ⟨rfl, by intro a; fin_cases a <;> simp <;> omega⟩ (start5 hj)]
  pointwise

/-- Slice `j` of an array of chunks, 256 lanes. -/
theorem slice256 (hj : j < 1) (X : S1x32x4x8x256.Idx → EReal) (b : Fin 32) (h : Fin 4) (c : Fin 8) (x : Fin 256) :
    shapeCast S32x4x8x256 (Host.dynamicSlice S1x32x4x8x256 X (fun k => ((![(constantI S_ 32 (BitVec.ofNat 32 j) : S_.Idx → BitVec 32), constantI S_ 32 0#32, constantI S_ 32 0#32, constantI S_ 32 0#32, constantI S_ 32 0#32] : Fin 5 → (S_.Idx → BitVec 32)) k (Shape.Idx.first h_S_)).toInt) sliceFits_S1x32x4x8x256_S1x32x4x8x256)
      shapeCasts_S1x32x4x8x256_S32x4x8x256 (ix4 b h c x) = X (ix5 ⟨j, hj⟩ b h c x) := by
  rw [WordCmp.dynamicSlice_eq_extract (s := S1x32x4x8x256) S1x32x4x8x256 _ _ _ ![j, 0, 0, 0, 0] ⟨rfl, by intro a; fin_cases a <;> simp <;> omega⟩ (start5 hj)]
  pointwise

theorem b5_at (H : Holds A s) (hj : j < 1) (b : Fin 32) (h : Fin 4) (c : Fin 8) (x : Fin 128) :
    b5 j s (ix4 b h c x) = (A.rows b).q c.val (hk h x) * Ideal.ofBits .f32 0x3DB504F3#32 :=
  (slice128 hj _ b h c x).trans (H.q ⟨j, hj⟩ b h c x)

theorem b11_at (H : Holds A s) (hj : j < 1) (b : Fin 32) (h : Fin 4) (c : Fin 8) (x : Fin 128) :
    b11 j s (ix4 b h c x) = (A.rows b).k c.val (hk h x) :=
  (slice128 hj _ b h c x).trans (H.k ⟨j, hj⟩ b h c x)

theorem b17_at (H : Holds A s) (hj : j < 1) (b : Fin 32) (h : Fin 4) (c : Fin 8) (y : Fin 256) :
    b17 j s (ix4 b h c y) = (A.rows b).v c.val (hv h y) :=
  (slice256 hj _ b h c y).trans (H.v ⟨j, hj⟩ b h c y)

theorem b23_at (H : Holds A s) (hj : j < 1) (b : Fin 32) (h : Fin 4) (c : Fin 8) (x : Fin 128) :
    b23 j s (ix4 b h c x) = (A.rows b).g c.val (hk h x) :=
  (slice128 hj _ b h c x).trans (H.g ⟨j, hj⟩ b h c x)

/-- A left fold of additions is the sum. -/
theorem foldl_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- The window's positions are its third coordinate. -/
theorem window_pos : ∀ n : Fin (⟨4, ![1, 1, 8, 1]⟩ : Shape).numel, ((⟨4, ![1, 1, 8, 1]⟩ : Shape).rowMajor.symm n 0).val = 0
    ∧ ((⟨4, ![1, 1, 8, 1]⟩ : Shape).rowMajor.symm n 1).val = 0 ∧ ((⟨4, ![1, 1, 8, 1]⟩ : Shape).rowMajor.symm n 2).val = n.val
    ∧ ((⟨4, ![1, 1, 8, 1]⟩ : Shape).rowMajor.symm n 3).val = 0 := by decide +kernel

/-- The window of eight rows that ends at row `c`, the rows before the first being zero, sums the rows up to `c`. -/
theorem window_sum (X : S32x4x8x128.Idx → EReal) (v : S_.Idx → EReal) (hv0 : v (Shape.Idx.first h_S_) = 0) (b : Fin 32) (h : Fin 4) (c : Fin 8) (x : Fin 128) :
    Host.reduceWindowAdd (F := Ideal) (φ := .f32) ![1, 1, 8, 1] ![1, 1, 1, 1] ![0, 0, 7, 0] ![0, 0, 0, 0] X v
      reduceWindows_S32x4x8x128_S32x4x8x128_w1s1p0_0_w1s1p0_0_w8s1p7_0_w1s1p0_0 h_S_ (ix4 b h c x)
      = ∑ e : Fin 8 with e.val ≤ c.val, X (ix4 b h e x) := by
  show Host.reduceWindow (· + ·) ![1, 1, 8, 1] ![1, 1, 1, 1] ![0, 0, 7, 0] ![0, 0, 0, 0] X (fun _ : (⟨0, ![]⟩ : Shape).Idx => v (Shape.Idx.first h_S_))
    reduceWindows_S32x4x8x128_S32x4x8x128_w1s1p0_0_w1s1p0_0_w8s1p7_0_w1s1p0_0 h_S_ (ix4 b h c x) = _
  unfold Host.reduceWindow
  dsimp only
  refine Eq.trans (b := (List.finRange (⟨4, ![1, 1, 8, 1]⟩ : Shape).numel).foldl (fun r n => r + if hn : 7 ≤ c.val + n.val then
    X (ix4 b h ⟨c.val + n.val - 7, by have : n.val < 8 := n.isLt; omega⟩ x) else 0) 0) ?_ ?_
  · rw [hv0]
    congr 1
    funext r n
    congr 1
    obtain ⟨p0, p1, p2, p3⟩ := window_pos n
    have hn : n.val < 8 := n.isLt
    split
    · next hh =>
      rw [dif_pos]
      · refine congrArg X (funext fun a => Fin.ext (Eq.symm ?_))
        fin_cases a
        · show b.val = b.val * 1 + ((⟨4, ![1, 1, 8, 1]⟩ : Shape).rowMajor.symm n 0).val - 0
          omega
        · show h.val = h.val * 1 + ((⟨4, ![1, 1, 8, 1]⟩ : Shape).rowMajor.symm n 1).val - 0
          omega
        · show c.val + n.val - 7 = c.val * 1 + ((⟨4, ![1, 1, 8, 1]⟩ : Shape).rowMajor.symm n 2).val - 7
          omega
        · show x.val = x.val * 1 + ((⟨4, ![1, 1, 8, 1]⟩ : Shape).rowMajor.symm n 3).val - 0
          omega
      · have h2 := hh 2
        change 7 ≤ c.val * 1 + ((⟨4, ![1, 1, 8, 1]⟩ : Shape).rowMajor.symm n 2).val ∧ _ at h2
        omega
    · next hh =>
      rw [dif_neg fun hin => hh ?_]
      intro a
      fin_cases a
      · show 0 ≤ b.val * 1 + ((⟨4, ![1, 1, 8, 1]⟩ : Shape).rowMajor.symm n 0).val ∧ b.val * 1 + ((⟨4, ![1, 1, 8, 1]⟩ : Shape).rowMajor.symm n 0).val - 0 < 32
        omega
      · show 0 ≤ h.val * 1 + ((⟨4, ![1, 1, 8, 1]⟩ : Shape).rowMajor.symm n 1).val ∧ h.val * 1 + ((⟨4, ![1, 1, 8, 1]⟩ : Shape).rowMajor.symm n 1).val - 0 < 4
        omega
      · show 7 ≤ c.val * 1 + ((⟨4, ![1, 1, 8, 1]⟩ : Shape).rowMajor.symm n 2).val ∧ c.val * 1 + ((⟨4, ![1, 1, 8, 1]⟩ : Shape).rowMajor.symm n 2).val - 7 < 8
        omega
      · show 0 ≤ x.val * 1 + ((⟨4, ![1, 1, 8, 1]⟩ : Shape).rowMajor.symm n 3).val ∧ x.val * 1 + ((⟨4, ![1, 1, 8, 1]⟩ : Shape).rowMajor.symm n 3).val - 0 < 128
        omega
  · rw [foldl_sum, zero_add, ← Fin.sum_univ_def]
    show (∑ n : Fin 8, if hn : 7 ≤ c.val + n.val then X (ix4 b h ⟨c.val + n.val - 7, by omega⟩ x) else 0) = _
    rw [Finset.sum_filter]
    refine Finset.sum_nbij' (fun n => ⟨(c.val + n.val + 1) % 8, Nat.mod_lt _ (by decide)⟩) (fun e => ⟨(e.val + 15 - c.val) % 8, Nat.mod_lt _ (by decide)⟩)
      (fun _ _ => Finset.mem_univ _) (fun _ _ => Finset.mem_univ _) (fun n _ => Fin.ext (by show ((c.val + n.val + 1) % 8 + 15 - c.val) % 8 = n.val; omega))
      (fun e _ => Fin.ext (by show (c.val + (e.val + 15 - c.val) % 8 + 1) % 8 = e.val; omega)) fun n _ => ?_
    by_cases hn : 7 ≤ c.val + n.val
    · rw [dif_pos hn, if_pos (by show (c.val + n.val + 1) % 8 ≤ c.val; omega)]
      exact congrArg (fun e => X (ix4 b h e x)) (Fin.ext (by show c.val + n.val - 7 = (c.val + n.val + 1) % 8; omega))
    · rw [dif_neg hn, if_neg (by show ¬(c.val + n.val + 1) % 8 ≤ c.val; omega)]

/-- The running sum. -/
theorem b26_at (H : Holds A s) (hj : j < 1) (b : Fin 32) (h : Fin 4) (c : Fin 8) (x : Fin 128) :
    b26 j s (ix4 b h c x) = (A.rows b).b 8 c.val (hk h x) := by
  unfold b26
  rw [window_sum _ _ (by unfold b25 b24; pointwise), Finset.sum_filter]
  unfold Rows.b
  exact Finset.sum_congr rfl fun e _ => by rw [b23_at H hj]

theorem b27_at (H : Holds A s) (hj : j < 1) (b : Fin 32) (h : Fin 4) (x : Fin 128) :
    b27 j s (ix4 b h 0 x) = (A.rows b).b 8 7 (hk h x) := by
  unfold b27
  pointwise
  exact b26_at H hj b h 7 x

theorem b29_at (H : Holds A s) (hj : j < 1) (b : Fin 32) (h : Fin 4) (c : Fin 8) (x : Fin 128) :
    b29 j s (ix4 b h c x) = (A.rows b).qt 8 c.val (hk h x) := by
  unfold b29 b28
  pointwise
  rw [b5_at H hj, b26_at H hj]
  rfl

theorem b32_at (H : Holds A s) (hj : j < 1) (b : Fin 32) (h : Fin 4) (c : Fin 8) (x : Fin 128) :
    b32 j s (ix4 b h c x) = (A.rows b).kt 8 c.val (hk h x) := by
  unfold b32 b31 b30
  pointwise
  rw [b11_at H hj, b26_at H hj]
  unfold Rows.kt
  rw [zero_sub]

theorem b36_at (H : Holds A s) (hj : j < 1) (b : Fin 32) (h : Fin 4) (c : Fin 8) (x : Fin 128) :
    b36 j s (ix4 b h c x) = (A.rows b).ke 8 c.val (hk h x) := by
  unfold b36 b35 b34 b33
  pointwise
  rw [b11_at H hj, b26_at H hj, b27_at H hj]
  rfl

/-- The causal mask. -/
theorem b40_at (b : Fin 32) (h : Fin 4) (c e : Fin 8) : b40 j s (ix4 b h c e) = if e.val ≤ c.val then 1#1 else 0#1 := by
  unfold b40 K_main_v32 K_main_call0_v5 K_main_call0_c_0 K_main_v31 K_main_c K_main_call0_v4 K_main_call0_v3 K_main_call0_v2 K_main_call0_v1 K_main_call0_c K_main_call0_v0
  pointwise
  have hc : BitVec.ofNat 32 c.val + 0#32 = BitVec.ofNat 32 c.val := by simp
  have hcmp : IntOp.cmpi .sge (BitVec.ofNat 32 c.val) (BitVec.ofNat 32 e.val) = BitVec.ofBool (decide (e.val ≤ c.val)) :=
    WordCmp.cmpi_sge_ofNat (by omega) (by omega)
  show Scalar.select (IntOp.cmpi .sge (BitVec.ofNat 32 c.val + 0#32) _) _ _ = _
  rw [hc, hcmp]
  by_cases hh : e.val ≤ c.val
  · rw [if_pos hh, decide_eq_true hh]
    rfl
  · rw [if_neg hh, decide_eq_false hh]
    rfl

/-- The masked products inside the chunk, summed over the value rows. -/
theorem b45_at (H : Holds A s) (hj : j < 1) (b : Fin 32) (h : Fin 4) (c : Fin 8) (y : Fin 256) :
    b45 j s (ix4 b h c y) = (A.rows b).mix 8 h (fun x y => s.main_v42_6 (ix4 b h x y)) c.val y := by
  unfold b45 b44 b43 b42 b41 b39 b38 b37
  pointwise
  simp only [b40_at, b29_at H hj, b32_at H hj, b17_at H hj]
  unfold Rows.mix
  congr 1
  refine Finset.sum_congr rfl fun e _ => ?_
  by_cases hh : e.val ≤ c.val
  · rw [if_pos hh, if_pos hh]
    rfl
  · rw [if_neg hh, if_neg hh]
    rfl

theorem b52_at (H : Holds A s) (hj : j < 1) (b : Fin 32) (h : Fin 4) (x : Fin 128) (y : Fin 256) :
    b52 j s (ix4 b h x y) = (A.rows b).next 8 h (fun x y => s.main_v42_6 (ix4 b h x y)) x y := by
  unfold b52 b51 b50 b49 b48 b47 b46
  pointwise
  simp only [b27_at H hj, b36_at H hj, b17_at H hj]
  unfold Rows.next
  rw [mul_comm (Ideal.exp _)]
  congr 1
  exact Finset.sum_congr rfl fun e _ => mul_comm _ _

end Cert.Gla.Step.Ref
-- ==== Proof.Gla.Step.RefRun.lean ====
/- The reference's run: its results are the two fields of the state after one trip of the loop. -/
module

public import proofs.«01_k».proof.Proof.Gen.Reference11Ideal.Run
public import proofs.«01_k».proof.Proof.Gen.Reference11Ideal.Step

@[expose] public section
noncomputable section
namespace Cert.Gla.Step.Ref

open Idealize.ShloMosaic Idealize.ShloMosaic.TcCoe Idealize.SL.Sem Idealize.ShloMosaic.StableHlo
open Cert.Reference11Ideal Cert.Reference11Ideal.Gen Cert.Reference11Ideal.Value
open Cert.Reference11Ideal.Step (State step init)
variable {F : FTy → Type} [FloatOps F]

/-- A valuation's view before trip `j`: the loop's state `s`, the number `j`, the causal mask. -/
structure At (V : Valuation τ sig (Elt F)) (s : State F) (j : ℕ) : Prop where
  q : V (Proc.devRef .tc main_v42_0) = s.main_v42_0
  k : V (Proc.devRef .tc main_v42_1) = s.main_v42_1
  v : V (Proc.devRef .tc main_v42_2) = s.main_v42_2
  g : V (Proc.devRef .tc main_v42_3) = s.main_v42_3
  st : V (Proc.devRef .tc main_v42_6) = s.main_v42_6
  o : V (Proc.devRef .tc main_v42_7) = s.main_v42_7
  n : V (Proc.devRef .tc main_v42_5) = constantI S_ 32 (BitVec.ofNat 32 j)
  msk : V (Proc.devRef .tc main_v42_4) = Step.K_main_v32 (F := F)

variable {V : Valuation τ sig (Elt F)} {s : State F} {j : ℕ}

set_option maxRecDepth 16384 in
/-- A trip's new recurrent state. -/
theorem At.new_state (h : At V s j) : step_main_v42_6 V = (step j s).main_v42_6 := by
  obtain ⟨sq, sk, sv, sg, ss, so⟩ := s
  obtain ⟨hq, hk, hv, hg, hs, ho, hn, hm⟩ := h
  simp only at hq hk hv hg hs ho
  subst hq hk hv hg hs ho
  simp only [step_main_v42_6, res_main_while0b_v64, res_main_while0b_v65, res_main_while0b_v67, res_main_while0b_v68, hn]
  rfl

set_option maxRecDepth 16384 in
/-- A trip's output rows. -/
theorem At.new_rows (h : At V s j) : step_main_v42_7 V = (step j s).main_v42_7 := by
  obtain ⟨sq, sk, sv, sg, ss, so⟩ := s
  obtain ⟨hq, hk, hv, hg, hs, ho, hn, hm⟩ := h
  simp only at hq hk hv hg hs ho
  subst hq hk hv hg hs ho
  simp only [step_main_v42_7, res_main_while0b_v64, res_main_while0b_v65, res_main_while0b_v67, res_main_while0b_v68, res_main_while0b_v70, hn, hm]
  rfl

/-- One trip leads from trip `j`'s view to the next. -/
theorem At.next (h : At V s j) : At (STEP V) (step j s) (j + 1) where
  q := (STEP_main_v42_0 V).trans h.q
  k := (STEP_main_v42_1 V).trans h.k
  v := (STEP_main_v42_2 V).trans h.v
  g := (STEP_main_v42_3 V).trans h.g
  st := (STEP_main_v42_6 V).trans h.new_state
  o := (STEP_main_v42_7 V).trans h.new_rows
  n := by
    refine (STEP_main_v42_5 V).trans ?_
    unfold step_main_v42_5
    rw [h.n]
    funext i
    show BitVec.ofNat 32 j + 1#32 = BitVec.ofNat 32 (j + 1)
    rw [BitVec.ofNat_add]
  msk := (STEP_main_v42_4 V).trans h.msk

variable (m : (ℓ : Loc nD τ sig) → Buf (Elt F) ℓ) (c : Dev nD)

/-- The state the loop starts from. -/
def start : State F :=
  init (m ((c.tc : Thread nD τ).loc main_arg8)) (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6))

/-- The state before trip `n`. -/
def state : ℕ → State F
  | 0 => start m c
  | n + 1 => step n (state n)

set_option maxRecDepth 65536 in
set_option maxHeartbeats 400000 in
/-- The view at the loop's entry. -/
theorem at_start : At (entryContents preI m c) (start m c) 0 := by
  constructor <;> (simp only [entryContents, afterL_cons, afterL_nil]; after_reads_simp) <;> rfl

/-- The view before every trip. -/
theorem at_trip (n : ℕ) : At (STEP^[n] (entryContents preI m c)) (state m c n) n := by
  induction n with
  | zero => exact at_start m c
  | succ n ih =>
    rw [Function.iterate_succ_apply']
    exact ih.next

set_option maxRecDepth 16384 in
/-- The reference's results are read off the state after its one trip. -/
theorem run (ρ : Dev nD → PrngReg) : θ_run (defs (F := F)) (onTc (τ := τ) (main (F := F))) ⟨m, fun _ => 0, ρ⟩ fun r => ∀ c : Dev nD,
      r.2.mem ((c.tc : Thread nD τ).loc main_v62) = Step.R_main_v62 (state m c 1) (m ((c.tc : Thread nD τ).loc main_arg3)) (m ((c.tc : Thread nD τ).loc main_arg7))
      ∧ r.2.mem ((c.tc : Thread nD τ).loc main_v42_6) = (state m c 1).main_v42_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.Reference11Ideal.Value.run m ρ)
  obtain ⟨r1, r2, rest⟩ := h c
  have H := at_trip m c 1
  refine ⟨r1.trans ?_, r2.trans ?_, rest⟩
  · unfold out_main_v62
    rw [H.o, iter_main_arg3 m c 1, iter_main_arg7 m c 1]
    rfl
  · exact H.st

end Cert.Gla.Step.Ref
-- ==== Proof.Gla.Step.RefEnd.lean ====
/- The reference's results, over extended reals, in the terms of the chunk mathematics. -/
module

public import proofs.«01_k».proof.Proof.Gla.Step.RefStep
public import proofs.«01_k».proof.Proof.Gla.Step.RefRun
public import proofs.«01_k».proof.Proof.Gla.RefEnd

@[expose] public section
noncomputable section
namespace Cert.Gla.Step.Ref

open Idealize.ShloMosaic Idealize.ShloMosaic.TcCoe Idealize.SL.Sem Cert.Reference11Ideal Cert.Reference11Ideal.Gen Cert.Reference11Ideal.Step

variable (A : Arr)

/-- The gates the reference computes before its loop. -/
theorem gates_at (b : Fin 32) (t : Fin 8) (x : Fin 512) : A_main_v20 (F := Ideal) A.q A.k A.v A.gl A.w A.bg (ix3 b t x)
    = gate (∑ e : Fin 16, A.gl (ix3 b t e) * A.w (ix2 e x) + A.bg (ix1 x)) := by
  unfold A_main_v20 A_main_v18 A_main_v17 A_main_v16 A_main_v15 A_main_v14 A_main_v13 A_main_v12 A_main_v11 A_main_v9 A_main_v8 A_main_v6 A_main_v4 A_main_v3 A_main_v2 A_main_v1 A_main_v0 K_main_v19 K_main_cst_0 K_main_v10 K_main_v7 K_main_v5 K_main_cst
  pointwise
  rw [if_neg (fun h => h rfl), Cert.Gla.Ref.div_sixteen]
  unfold gate Ideal.log1p
  simp only [zero_sub]

/-- A sequence's rows, in the order the loop reads them. -/
theorem hk_eq (h : Fin 4) (x : Fin 128) (p : h.val * 128 + x.val < 512) : (⟨h.val * 128 + x.val, p⟩ : Fin 512) = hk h x :=
  Fin.ext (by show h.val * 128 + x.val = 128 * h.val + x.val; omega)

@[inherit_doc hk_eq]
theorem hv_eq (h : Fin 4) (x : Fin 256) (p : h.val * 256 + x.val < 1024) : (⟨h.val * 256 + x.val, p⟩ : Fin 1024) = hv h x :=
  Fin.ext (by show h.val * 256 + x.val = 256 * h.val + x.val; omega)

/-- The state's arrays at the loop's entry. -/
theorem rows_init : Holds A (init (F := Ideal) A.s0 A.q A.k A.v A.gl A.w A.bg) := by
  constructor
  · intro n b h c x
    obtain rfl : n = 0 := Subsingleton.elim _ _
    show A_main_v34 (F := Ideal) A.q A.k A.v A.gl A.w A.bg _ = _
    unfold A_main_v34 A_main_v33 A_main_v24 A_main_v22 A_main_v21 K_main_v23 K_main_cst_1
    pointwise
    simp only [hk_eq]
    exact congrArg (· * Ideal.ofBits .f32 0x3DB504F3#32) (dif_pos c.isLt : (A.rows b).q c.val (hk h x) = _).symm
  · intro n b h c x
    obtain rfl : n = 0 := Subsingleton.elim _ _
    show A_main_v36 (F := Ideal) A.q A.k A.v A.gl A.w A.bg _ = _
    unfold A_main_v36 A_main_v35 A_main_v26 A_main_v25
    pointwise
    simp only [hk_eq]
    exact (dif_pos c.isLt : (A.rows b).k c.val (hk h x) = _).symm
  · intro n b h c x
    obtain rfl : n = 0 := Subsingleton.elim _ _
    show A_main_v38 (F := Ideal) A.q A.k A.v A.gl A.w A.bg _ = _
    unfold A_main_v38 A_main_v37 A_main_v28 A_main_v27
    pointwise
    simp only [hv_eq]
    exact (dif_pos c.isLt : (A.rows b).v c.val (hv h x) = _).symm
  · intro n b h c x
    obtain rfl : n = 0 := Subsingleton.elim _ _
    show A_main_v40 (F := Ideal) A.q A.k A.v A.gl A.w A.bg _ = _
    unfold A_main_v40 A_main_v39 A_main_v30 A_main_v29
    pointwise
    simp only [hk_eq]
    rw [gates_at]
    exact (dif_pos c.isLt : (A.rows b).g c.val (hk h x) = _).symm

/-- The one trip writes every row. -/
theorem b58_at {s : State Ideal} (b : Fin 32) (h : Fin 4) (c : Fin 8) (y : Fin 256) :
    b58 0 s (ix5 0 b h c y) = b45 0 s (ix4 b h c y) := by
  unfold b58
  refine (congrFun (WordCmp.dynamicUpdateSlice_eq_update (s := S1x32x4x8x256) (u := S1x32x4x8x256) _ _ _ _ ![0, 0, 0, 0, 0] ⟨rfl, by intro a; fin_cases a <;> simp⟩ (start5 (by decide))) _).trans ?_
  unfold b53
  pointwise

/-- The state after the trip: the recurrence's, and the rows' mixed values. -/
theorem after_state {s : State Ideal} (H : Holds A s) (hs : s.main_v42_6 = A.s0) (b : Fin 32) (h : Fin 4) (x : Fin 128) (y : Fin 256) :
    (step 0 s).main_v42_6 (ix4 b h x y) = A.s b h x y := by
  show b52 0 s (ix4 b h x y) = _
  rw [b52_at H (by decide), hs]
  rfl

@[inherit_doc after_state]
theorem after_rows {s : State Ideal} (H : Holds A s) (hs : s.main_v42_6 = A.s0) (b : Fin 32) (h : Fin 4) (c : Fin 8) (y : Fin 256) :
    (step 0 s).main_v42_7 (ix5 0 b h c y) = (A.rows b).mix 8 h (A.S0 b h) c.val y := by
  show b58 0 s (ix5 0 b h c y) = _
  rw [b58_at, b45_at H (by decide), hs]
  rfl

/-- A result row, from a state whose rows are the mixed values. -/
theorem res_at (s : State Ideal) (ho : ∀ (b : Fin 32) (h : Fin 4) (c : Fin 8) (y : Fin 256), s.main_v42_7 (ix5 0 b h c y) = (A.rows b).mix 8 h (A.S0 b h) c.val y)
    (b : Fin 32) (t : Fin 8) (z : Fin 1024) : R_main_v62 (F := Ideal) s A.r A.ng (ix3 b t z)
      = A.o b t ⟨z.val / 256, by omega⟩ ⟨z.val % 256, Nat.mod_lt _ (by decide)⟩ := by
  unfold R_main_v62
  pointwise
  have e1 : hv ⟨z.val / 256, by omega⟩ ⟨z.val % 256, Nat.mod_lt _ (by decide)⟩ = z := Fin.ext (by show 256 * (z.val / 256) + z.val % 256 = z.val; omega)
  have e2 : (A.rows b).r t.val z = A.r (ix3 b t z) := dif_pos t.isLt
  simp only [ho]
  unfold Arr.o Rows.out
  simp only [zero_sub, e1, e2]

end Cert.Gla.Step.Ref
-- ==== Proof.Gla.Step.Claim.lean ====
/- The sample group's two programs of gated linear attention: their results are one function of the arguments. -/
module

public import proofs.«01_k».proof.Proof.Gla.Step.Kernel
public import proofs.«01_k».proof.Proof.Gla.Step.RefEnd
public import proofs.«01_k».proof.Defs
public import proofs.«01_k».proof.Proof.Gen.Kernel11.Frame

@[expose] public section

noncomputable section

namespace Cert.Gla.Step

open Idealize.ShloMosaic Idealize.ShloMosaic.TcCoe Idealize.SL.Sem

/-- The arguments the reference starts with. -/
def Ref.arr (m : (ℓ : Loc Cert.Reference11Ideal.nD Cert.Reference11Ideal.τ Cert.Reference11Ideal.sig) → Buf (Elt Ideal) ℓ) (c : Dev Cert.Reference11Ideal.nD) : Arr :=
  open Cert.Reference11Ideal in
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7),
    m ((c.tc : Thread nD τ).loc main_arg8)⟩

section Reference

open Cert.Reference11Ideal Cert.Reference11Ideal.Step

variable (m : (ℓ : Loc nD τ sig) → Buf (Elt Ideal) ℓ) (c : Dev nD)

/-- The reference's first result. -/
theorem Ref.res : R_main_v62 (F := Ideal) (Ref.state m c 1) (m ((c.tc : Thread nD τ).loc main_arg3)) (m ((c.tc : Thread nD τ).loc main_arg7))
    = fun i : S32x8x1024.Idx => (Ref.arr m c).o (i 0) (i 1) ⟨(i 2).val / 256, by have := (i 2).isLt; change (i 2).val < 1024 at this; omega⟩ ⟨(i 2).val % 256, Nat.mod_lt _ (by decide)⟩ := by
  funext i
  obtain ⟨b, t, z, rfl⟩ : ∃ (b : Fin 32) (t : Fin 8) (z : Fin 1024), i = ix3 b t z := ⟨i 0, i 1, i 2, by funext a; fin_cases a <;> rfl⟩
  exact Ref.res_at (A := Ref.arr m c) (Ref.state m c 1) (fun b h c' y => Ref.after_rows (A := Ref.arr m c) (Ref.rows_init (A := Ref.arr m c)) rfl b h c' y) b t z

/-- The reference's second result. -/
theorem Ref.resS : (Ref.state (F := Ideal) m c 1).main_v42_6 = fun i : S32x4x128x256.Idx => (Ref.arr m c).s (i 0) (i 1) (i 2) (i 3) := by
  funext i
  obtain ⟨b, h, x, y, rfl⟩ : ∃ (b : Fin 32) (h : Fin 4) (x : Fin 128) (y : Fin 256), i = ix4 b h x y := ⟨i 0, i 1, i 2, i 3, by funext a; fin_cases a <;> rfl⟩
  exact Ref.after_state (A := Ref.arr m c) (Ref.rows_init (A := Ref.arr m c)) rfl b h x y

end Reference

/-- The reference's run ends quiet, its arguments unchanged. -/
theorem frame_ref : Cert.quiescent_Reference11Ideal := fun m ρ _ =>
  (θ_run Cert.Reference11Ideal.defs _ _).mono (fun r h => ⟨fun c => (h c).2.2, Idealize.ShloMosaic.sem_eq_zero_of_no_sems (by decide) r.2⟩) (Ref.run (F := Ideal) m ρ)

/-- The kernel's results are the reference's. -/
theorem algebraic : Cert.algebraic_Kernel11Ideal_Reference11Ideal := by
  intro m ρ m' ρ' _ hagree
  have e : ∀ c, Ref.arr m' c = arr m c := fun c => by
    obtain ⟨e0, e1, e2, e3, e4, e5, e6, e7, e8⟩ := hagree c
    unfold Ref.arr arr
    simp only [e0, e1, e2, e3, e4, e5, e6, e7, e8]
  refine ⟨_, _, run m ρ, ?_⟩
  refine (θ_run Cert.Reference11Ideal.defs _ _).mono (fun r h c => ?_) (Ref.run (F := Ideal) m' ρ')
  obtain ⟨r1, r2, rest⟩ := h c
  refine ⟨r1.trans ((Ref.res m' c).trans ?_), r2.trans ((Ref.resS m' c).trans ?_), rest⟩
  · rw [e c]
  · rw [e c]

end Cert.Gla.Step
-- ==== Proof.Ffn.Step.First.lean ====
/- The first layer of the sample group over extended reals: what its one tile computes and what the run leaves. -/
module

public import proofs.«01_k».proof.Proof.Ffn.Step.Tile
public import proofs.«01_k».proof.Proof.Gen.Kernel12Ideal.Frame
public import Idealize.ShloMosaic.Lib.StableHlo.ReadAt
public import Idealize.ShloMosaic.Lib.Claim

@[expose] public section
set_option maxRecDepth 16384
noncomputable section
namespace Cert.Ffn.Step.First

open Idealize.ShloMosaic Idealize.ShloMosaic.TcCoe Idealize.ShloMosaic.Tactic Idealize.SL.Sem
open Cert.Kernel12Ideal Cert.Kernel12Ideal.Gen Cert.Ffn

section Tile

variable (x0 : Vec Ideal S256x1024 .f32) (x1 : Vec Ideal S256x1024 .f32) (x2 : Vec Ideal S1024x1024 .bf16) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (x9 : Vec Ideal S256x5632 .f32) (x10 : Vec Ideal S256x5632 .f32)

/-- What the tile reads of its blocks. -/
def rd : Rd Ideal where
  x := View.ld x0 r0_0
  o := truncf (F := Ideal) (φ := .f32) .bf16 (shapeCast S256x1024 (View.ld x1 r0_0 : Vec Ideal S256x1024 .f32) shapeCasts_S256x1024_S256x1024) bitsLt_bf16_f32
  wo := View.ld x2 r0_1
  g := View.ld x3 r0_2
  w0 := View.ld x4 r0_3
  w1 := View.ld x4 r0_9
  c00 := View.ld x5 r0_5
  c01 := View.ld x5 r0_6
  c02 := View.ld x5 r0_7
  cb0 := View.ld x6 r0_8
  c10 := View.ld x5 r0_11
  c11 := View.ld x5 r0_12
  c12 := View.ld x5 r0_13
  cb1 := View.ld x6 r0_14
  wout := View.ld x7 r0_15
  gf := View.ld x8 r0_2
  p10 := View.ld x9 r0_4
  p11 := View.ld x9 r0_10
  p20 := View.ld x10 r0_4
  p21 := View.ld x10 r0_10

/-- The rows it stores. -/
theorem out11_eq : out0_11 x0 x1 x2 x3 x4 x5 x6 x7 x8 x9 x10 = View.canon [(⟨r0_0, (rd x0 x1 x2 x3 x4 x5 x6 x7 x8 x9 x10).acc⟩ : View.Piece (Elt Ideal) S256x1024 .f32)] := by
  unfold out0_11 k0_pay13 k0_pay12 k0_pay11
  rfl

/-- The feed-forward's inputs it stores. -/
theorem out12_eq : out0_12 x0 x1 x2 x3 x4 x5 x6 x7 x8 x9 x10 = View.canon [(⟨r0_10, (rd x0 x1 x2 x3 x4 x5 x6 x7 x8 x9 x10).u1⟩ : View.Piece (Elt Ideal) S256x5632 .f32), (⟨r0_4, (rd x0 x1 x2 x3 x4 x5 x6 x7 x8 x9 x10).u0⟩ : View.Piece (Elt Ideal) S256x5632 .f32)] := by
  unfold out0_12 k0_pay11
  rfl

/-- The blocks' rows are the arrays', so what the tile reads is theirs. -/
theorem rd_holds (A : Arr) (hx : ∀ r z, x0 (ix2 r z) = A.x (sq r) (at8 r) z) (ho : ∀ r z, x1 (ix2 r z) = A.o (sq r) (at8 r) z)
    (hwo : ∀ k z, x2 (ix2 k z) = A.wo k z) (hg : ∀ z, x3 (ix2 0 z) = A.g z) (hw : ∀ k z, x4 (ix2 k z) = A.win k z)
    (hc : ∀ k z, x5 (ix2 k z) = A.cw k z) (hb : ∀ z, x6 (ix2 0 z) = A.cb z) (hv : ∀ k z, x7 (ix2 k z) = A.wout k z) (hf : ∀ z, x8 (ix2 0 z) = A.gf z)
    (h1 : ∀ r z, r.val % 8 < 1 → x9 (ix2 r z) = A.pv (sq r) ⟨(2 - 1 + r.val % 8) % 2, Nat.mod_lt _ (by decide)⟩ z)
    (h2 : ∀ r z, r.val % 8 < 2 → x10 (ix2 r z) = A.pv (sq r) ⟨(2 - 2 + r.val % 8) % 2, Nat.mod_lt _ (by decide)⟩ z) :
    (rd x0 x1 x2 x3 x4 x5 x6 x7 x8 x9 x10).Holds A where
  x r z := (ld_at (e := .f32) x0 inb_S256x1024_S256x1024_0_0 r z r z (Nat.zero_add _) (Nat.zero_add _)).trans (hx r z)
  o r z := by
    refine Eq.trans ?_ ((ld_at (e := .f32) x1 inb_S256x1024_S256x1024_0_0 r z r z (Nat.zero_add _) (Nat.zero_add _)).trans (ho r z))
    unfold rd
    dsimp only
    generalize View.ld x1 r0_0 = y
    pointwise
  wo k z := (ld_at (e := .bf16) x2 inb_S1024x1024_S1024x1024_0_0 k z k z (Nat.zero_add _) (Nat.zero_add _)).trans (hwo k z)
  g z := (ld_at (e := .f32) x3 inb_S1x1024_S1x1024_0_0 0 z 0 z (Nat.zero_add _) (Nat.zero_add _)).trans (hg z)
  w0 k j := (ld_at (e := .bf16) x4 inb_S1024x5632_S1024x2816_0_0 k j k (lo j) (Nat.zero_add _) (Nat.zero_add _)).trans (hw k (lo j))
  w1 k j := (ld_at (e := .bf16) x4 inb_S1024x5632_S1024x2816_0_2816 k j k (hi j) (Nat.zero_add _) rfl).trans (hw k (hi j))
  c00 j := (ld_at (e := .f32) x5 inb_S3x5632_S1x2816_0_0 0 j 0 (lo j) rfl (Nat.zero_add _)).trans (hc 0 (lo j))
  c01 j := (ld_at (e := .f32) x5 inb_S3x5632_S1x2816_1_0 0 j 1 (lo j) rfl (Nat.zero_add _)).trans (hc 1 (lo j))
  c02 j := (ld_at (e := .f32) x5 inb_S3x5632_S1x2816_2_0 0 j 2 (lo j) rfl (Nat.zero_add _)).trans (hc 2 (lo j))
  cb0 j := (ld_at (e := .f32) x6 inb_S1x5632_S1x2816_0_0 0 j 0 (lo j) rfl (Nat.zero_add _)).trans (hb (lo j))
  c10 j := (ld_at (e := .f32) x5 inb_S3x5632_S1x2816_0_2816 0 j 0 (hi j) rfl rfl).trans (hc 0 (hi j))
  c11 j := (ld_at (e := .f32) x5 inb_S3x5632_S1x2816_1_2816 0 j 1 (hi j) rfl rfl).trans (hc 1 (hi j))
  c12 j := (ld_at (e := .f32) x5 inb_S3x5632_S1x2816_2_2816 0 j 2 (hi j) rfl rfl).trans (hc 2 (hi j))
  cb1 j := (ld_at (e := .f32) x6 inb_S1x5632_S1x2816_0_2816 0 j 0 (hi j) rfl rfl).trans (hb (hi j))
  wout k z := (ld_at (e := .bf16) x7 inb_S2816x1024_S2816x1024_0_0 k z k z (Nat.zero_add _) (Nat.zero_add _)).trans (hv k z)
  gf z := (ld_at (e := .f32) x8 inb_S1x1024_S1x1024_0_0 0 z 0 z (Nat.zero_add _) (Nat.zero_add _)).trans (hf z)
  p10 r j hr := (ld_at (e := .f32) x9 inb_S256x5632_S256x2816_0_0 r j r (lo j) (Nat.zero_add _) (Nat.zero_add _)).trans (h1 r (lo j) hr)
  p11 r j hr := (ld_at (e := .f32) x9 inb_S256x5632_S256x2816_0_2816 r j r (hi j) (Nat.zero_add _) rfl).trans (h1 r (hi j) hr)
  p20 r j hr := (ld_at (e := .f32) x10 inb_S256x5632_S256x2816_0_0 r j r (lo j) (Nat.zero_add _) (Nat.zero_add _)).trans (h2 r (lo j) hr)
  p21 r j hr := (ld_at (e := .f32) x10 inb_S256x5632_S256x2816_0_2816 r j r (hi j) (Nat.zero_add _) rfl).trans (h2 r (hi j) hr)

variable {A : Arr} (H : (rd x0 x1 x2 x3 x4 x5 x6 x7 x8 x9 x10).Holds A)
include H

/-- The rows it stores are the formula's. -/
theorem out11_row (r : Fin 256) (z : Fin 1024) : out0_11 x0 x1 x2 x3 x4 x5 x6 x7 x8 x9 x10 (ix2 r z) = A.acc (sq r) (at8 r) z := by
  rw [out11_eq, View.canon_unit_zero (by decide)]
  exact acc_row H r z

/-- So are the feed-forward's inputs. -/
theorem out12_row (r : Fin 256) (z : Fin 5632) : out0_12 x0 x1 x2 x3 x4 x5 x6 x7 x8 x9 x10 (ix2 r z) = A.u (sq r) (at8 r) z := by
  rw [out12_eq]
  revert z
  refine col_cases _ (fun j => ?_) fun j => ?_
  · exact (canon_lo _ _ _ _ [] r j).trans (u0_row H r j)
  · exact (canon_hi _ _ _ r j).trans (u1_row H r j)

end Tile

variable (m : (ℓ : Loc nD τ sig) → Buf (Elt Ideal) ℓ) (c : Dev nD)

/-- The arguments as device `c` holds them. -/
def arr : Arr where
  x b t z := (m ((c : Thread nD τ).loc main_arg0) : S32x8x1024.Idx → EReal) (ix3 b t z)
  o b t z := (m ((c : Thread nD τ).loc main_arg1) : S32x8x1024.Idx → EReal) (ix3 b t z)
  wo k z := (m ((c : Thread nD τ).loc main_arg2) : S1024x1024.Idx → EReal) (ix2 k z)
  g z := (m ((c : Thread nD τ).loc main_arg3) : S1024.Idx → EReal) (ix1 z)
  win k z := (m ((c : Thread nD τ).loc main_arg4) : S1024x5632.Idx → EReal) (ix2 k z)
  cw k z := (m ((c : Thread nD τ).loc main_arg5) : S3x5632.Idx → EReal) (ix2 k z)
  cb z := (m ((c : Thread nD τ).loc main_arg6) : S5632.Idx → EReal) (ix1 z)
  wout k z := (m ((c : Thread nD τ).loc main_arg7) : S2816x1024.Idx → EReal) (ix2 k z)
  gf z := (m ((c : Thread nD τ).loc main_arg3) : S1024.Idx → EReal) (ix1 z)
  pv b q z := (m ((c : Thread nD τ).loc main_arg8) : S32x2x5632.Idx → EReal) (ix3 b q z)

/-- The windows' block indices, at the only point. -/
theorem idx_tok : ∀ t : Fin cfg0.N, (win0_0.index t = ![0, 0] ∧ win0_1.index t = ![0, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0]) ∧ (win0_9.index t = ![0, 0] ∧ win0_10.index t = ![0, 0])
    ∧ win0_11.index t = ![0, 0] ∧ win0_12.index t = ![0, 0] := by decide +kernel

/-- The blocks the point reads. -/ abbrev in0 (t : Fin cfg0.N) : S256x1024.Idx → EReal := iblk m c 0 t
@[inherit_doc in0] abbrev in1 (t : Fin cfg0.N) : S256x1024.Idx → EReal := iblk m c 1 t
@[inherit_doc in0] abbrev in2 (t : Fin cfg0.N) : S1024x1024.Idx → EReal := iblk m c 2 t
@[inherit_doc in0] abbrev in3 (t : Fin cfg0.N) : S1x1024.Idx → EReal := iblk m c 3 t
@[inherit_doc in0] abbrev in4 (t : Fin cfg0.N) : S1024x5632.Idx → EReal := iblk m c 4 t
@[inherit_doc in0] abbrev in5 (t : Fin cfg0.N) : S3x5632.Idx → EReal := iblk m c 5 t
@[inherit_doc in0] abbrev in6 (t : Fin cfg0.N) : S1x5632.Idx → EReal := iblk m c 6 t
@[inherit_doc in0] abbrev in7 (t : Fin cfg0.N) : S2816x1024.Idx → EReal := iblk m c 7 t
@[inherit_doc in0] abbrev in8 (t : Fin cfg0.N) : S1x1024.Idx → EReal := iblk m c 8 t
@[inherit_doc in0] abbrev in9 (t : Fin cfg0.N) : S256x5632.Idx → EReal := iblk m c 9 t
@[inherit_doc in0] abbrev in10 (t : Fin cfg0.N) : S256x5632.Idx → EReal := iblk m c 10 t

/-- The activations' rows, all sequences in one. -/
theorem V_x (b : Fin 32) (t : Fin 8) (z : Fin 1024) : (V m c main_v0 : S256x1024.Idx → EReal) (ix2 ⟨8 * b.val + t.val, by omega⟩ z) = (arr m c).x b t z := by
  unfold V arr
  after_reads_at

/-- The mixer output's rows, all sequences in one. -/
theorem V_o (b : Fin 32) (t : Fin 8) (z : Fin 1024) : (V m c main_v1 : S256x1024.Idx → EReal) (ix2 ⟨8 * b.val + t.val, by omega⟩ z) = (arr m c).o b t z := by
  unfold V arr
  after_reads_at

/-- The projection. -/
theorem V_wo (k : Fin 1024) (z : Fin 1024) : (V m c main_v2 : S1024x1024.Idx → EReal) (ix2 k z) = (arr m c).wo k z := by
  unfold V arr
  after_reads_at

/-- The input weight. -/
theorem V_win (k : Fin 1024) (z : Fin 5632) : (V m c main_v3 : S1024x5632.Idx → EReal) (ix2 k z) = (arr m c).win k z := by
  unfold V arr
  after_reads_at

/-- The output weight. -/
theorem V_wout (k : Fin 2816) (z : Fin 1024) : (V m c main_v4 : S2816x1024.Idx → EReal) (ix2 k z) = (arr m c).wout k z := by
  unfold V arr
  after_reads_at

/-- The gain as a row. -/
theorem V_g (z : Fin 1024) : (V m c main_v5 : S1x1024.Idx → EReal) (ix2 0 z) = (arr m c).g z := by
  unfold V arr
  after_reads_at

/-- The convolution's bias as a row. -/
theorem V_cb (z : Fin 5632) : (V m c main_v6 : S1x5632.Idx → EReal) (ix2 0 z) = (arr m c).cb z := by
  unfold V arr
  after_reads_at

/-- The last gain as a row. -/
theorem V_gf (z : Fin 1024) : (V m c main_v7 : S1x1024.Idx → EReal) (ix2 0 z) = (arr m c).gf z := by
  unfold V arr
  after_reads_at

/-- The row before each sequence, at its first row. -/
theorem V_p1 (b : Fin 32) (z : Fin 5632) : (V m c main_v10 : S256x5632.Idx → EReal) (ix2 ⟨8 * b.val, by omega⟩ z) = (arr m c).pv b 1 z := by
  unfold V arr
  after_reads_at
  rw [dif_pos (show 8 * b.val % 8 < 1 by omega)]
  refine congrArg (fun q => (m ((c : Thread nD τ).loc main_arg8) : S32x2x5632.Idx → EReal) (ix3 b q z)) (Fin.ext ?_)
  show 1 + 8 * b.val % 8 = 1
  omega

/-- The two rows before each sequence, at its first two. -/
theorem V_p2 (b : Fin 32) (q : Fin 2) (z : Fin 5632) : (V m c main_v12 : S256x5632.Idx → EReal) (ix2 ⟨8 * b.val + q.val, by omega⟩ z) = (arr m c).pv b q z := by
  unfold V arr
  after_reads_at
  rw [dif_pos (show (8 * b.val + q.val) % 8 < 2 by omega)]
  refine congrArg (fun q => (m ((c : Thread nD τ).loc main_arg8) : S32x2x5632.Idx → EReal) (ix3 b q z)) (Fin.ext ?_)
  show (8 * b.val + q.val) % 8 = q.val
  omega

/-- The block of the row before each sequence. -/
theorem blk_p1 (t : Fin cfg0.N) (r : Fin 256) (z : Fin 5632) : in9 m c t (ix2 r z) = (V m c main_v10 : S256x5632.Idx → EReal) (ix2 r z) := by
  blk_ext [iblk, (idx_tok t).2.1.1]

/-- The block of the two rows before each sequence. -/
theorem blk_p2 (t : Fin cfg0.N) (r : Fin 256) (z : Fin 5632) : in10 m c t (ix2 r z) = (V m c main_v12 : S256x5632.Idx → EReal) (ix2 r z) := by
  blk_ext [iblk, (idx_tok t).2.1.2]

/-- The tile at the point holds the arguments. -/
theorem holds (t : Fin cfg0.N) : (rd (in0 m c t) (in1 m c t) (in2 m c t) (in3 m c t) (in4 m c t) (in5 m c t) (in6 m c t) (in7 m c t) (in8 m c t) (in9 m c t) (in10 m c t)).Holds (arr m c) := by
  refine rd_holds _ _ _ _ _ _ _ _ _ _ _ _ (fun r z => ?_) (fun r z => ?_) (fun k z => ?_) (fun z => ?_) (fun k z => ?_) (fun k z => ?_) (fun z => ?_) (fun k z => ?_) (fun z => ?_)
    (fun r z hr => ?_) fun r z hr => ?_
  · refine Eq.trans ?_ (V_x m c (sq r) (at8 r) z)
    unfold sq at8
    blk_ext [iblk, (idx_tok t).1.1]
  · refine Eq.trans ?_ (V_o m c (sq r) (at8 r) z)
    unfold sq at8
    blk_ext [iblk, (idx_tok t).1.2.1]
  · refine Eq.trans ?_ (V_wo m c k z)
    blk_ext [iblk, (idx_tok t).1.2.2.1]
  · refine Eq.trans ?_ (V_g m c z)
    blk_ext [iblk, (idx_tok t).1.2.2.2.1]
  · refine Eq.trans ?_ (V_win m c k z)
    blk_ext [iblk, (idx_tok t).1.2.2.2.2.1]
  · refine Eq.trans ?_ (congrFun (V_main_arg5 m c) (ix2 k z))
    blk_ext [iblk, (idx_tok t).1.2.2.2.2.2.1]
  · refine Eq.trans ?_ (V_cb m c z)
    blk_ext [iblk, (idx_tok t).1.2.2.2.2.2.2.1]
  · refine Eq.trans ?_ (V_wout m c k z)
    blk_ext [iblk, (idx_tok t).1.2.2.2.2.2.2.2.1]
  · refine Eq.trans ?_ (V_gf m c z)
    blk_ext [iblk, (idx_tok t).1.2.2.2.2.2.2.2.2]
  · refine (blk_p1 m c t r z).trans (Eq.trans (congrArg (fun a : Fin 256 => (V m c main_v10 : S256x5632.Idx → EReal) (ix2 a z)) (Fin.ext ?_)) ((V_p1 m c (sq r) z).trans (congrArg (fun q => (arr m c).pv (sq r) q z) (Fin.ext ?_))))
    · show r.val = 8 * (r.val / 8)
      omega
    · show 1 = (2 - 1 + r.val % 8) % 2
      omega
  · refine (blk_p2 m c t r z).trans (Eq.trans (congrArg (fun a : Fin 256 => (V m c main_v12 : S256x5632.Idx → EReal) (ix2 a z)) (Fin.ext ?_)) ((V_p2 m c (sq r) ⟨r.val % 8, hr⟩ z).trans (congrArg (fun q => (arr m c).pv (sq r) q z) (Fin.ext ?_))))
    · show r.val = 8 * (r.val / 8) + r.val % 8
      omega
    · show r.val % 8 = (2 - 2 + r.val % 8) % 2
      omega

/-- The rows' array after the run. -/
theorem arr11 : (dats m 0 c).arrAt 11 (cfgs 0).N = fun i : S256x1024.Idx => (arr m c).acc (sq (i 0)) (at8 (i 0)) (i 1) := by
  refine (dats m 0 c).arrAt_eq_of_covers 11 _ (by decide +kernel) fun t hf y => ?_
  blk_simp
  rw [after0_11]
  have hy : y = (ix2 (y 0) (y 1) : S256x1024.Idx) := by
    funext a
    fin_cases a <;> rfl
  refine (congrArg _ hy).trans ((out11_row _ _ _ _ _ _ _ _ _ _ _ (holds m c t) (y 0) (y 1)).trans ?_)
  refine congrArg₂ (fun (a : Fin 256) b => (arr m c).acc (sq a) (at8 a) b) (Fin.ext ?_) (Fin.ext ?_)
  · show (y 0).val = win0_11.index t 0 * 256 + 1 * (y 0).val
    rw [(idx_tok t).2.2.1]; simp
  · show (y 1).val = win0_11.index t 1 * 1024 + 1 * (y 1).val
    rw [(idx_tok t).2.2.1]; simp

/-- The feed-forward inputs' array after the run. -/
theorem arr12 : (dats m 0 c).arrAt 12 (cfgs 0).N = fun i : S256x5632.Idx => (arr m c).u (sq (i 0)) (at8 (i 0)) (i 1) := by
  refine (dats m 0 c).arrAt_eq_of_covers 12 _ (by decide +kernel) fun t hf y => ?_
  blk_simp
  rw [after0_12]
  have hy : y = (ix2 (y 0) (y 1) : S256x5632.Idx) := by
    funext a
    fin_cases a <;> rfl
  refine (congrArg _ hy).trans ((out12_row _ _ _ _ _ _ _ _ _ _ _ (holds m c t) (y 0) (y 1)).trans ?_)
  refine congrArg₂ (fun (a : Fin 256) b => (arr m c).u (sq a) (at8 a) b) (Fin.ext ?_) (Fin.ext ?_)
  · show (y 0).val = win0_12.index t 0 * 256 + 1 * (y 0).val
    rw [(idx_tok t).2.2.2]; simp
  · show (y 1).val = win0_12.index t 1 * 5632 + 1 * (y 1).val
    rw [(idx_tok t).2.2.2]; simp

/-- No two windows share an array. -/
theorem arrRef_inj : Function.Injective (Pipeline.arrRef (cfgs 0).spec) := by decide +kernel

/-- The rows, after the lines that follow the region. -/
theorem end_y : (Pipeline.afterTail₀ cfgs (dats m) 0 (V0 m) [hostOps1] c main_v16 : S32x8x1024.Idx → EReal) = fun i => (arr m c).acc (i 0) (i 1) (i 2) := by
  funext i
  unfold Pipeline.afterTail₀
  after_reads_at
  have i1 : (i 1).val < 8 := (i 1).isLt
  refine (congrFun ((Pipeline.withArrays_arr (cfgs 0).spec arrRef_inj c (V0 m c) (fun w => (dats m 0 c).arrAt w (cfgs 0).N) 11).trans (arr11 m c)) _).trans ?_
  congr 1
  · exact Fin.ext (by show ((i 0).val * 8 + (i 1).val) / 8 = (i 0).val; omega)
  · exact Fin.ext (by show ((i 0).val * 8 + (i 1).val) % 8 = (i 1).val; omega)

/-- Each sequence's last two inputs, after the lines that follow the region. -/
theorem end_u : (Pipeline.afterTail₀ cfgs (dats m) 0 (V0 m) [hostOps1] c main_v15 : S32x2x5632.Idx → EReal)
    = fun i => (arr m c).u (i 0) ⟨6 + (i 1).val, by have h := (i 1).isLt; change _ < 2 at h; omega⟩ (i 2) := by
  funext i
  unfold Pipeline.afterTail₀
  after_reads_at
  have i1 : (i 1).val < 2 := (i 1).isLt
  refine (congrFun ((Pipeline.withArrays_arr (cfgs 0).spec arrRef_inj c (V0 m c) (fun w => (dats m 0 c).arrAt w (cfgs 0).N) 12).trans (arr12 m c)) _).trans ?_
  congr 1
  · exact Fin.ext (by show ((i 0).val * 8 + (6 + (i 1).val)) / 8 = (i 0).val; omega)
  · exact Fin.ext (by show ((i 0).val * 8 + (6 + (i 1).val)) % 8 = 6 + (i 1).val; omega)

/-- The run ends with both results, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v16) = (fun i : S32x8x1024.Idx => (arr m c).acc (i 0) (i 1) (i 2))
      ∧ r.2.mem ((c.tc : Thread nD τ).loc main_v15) = (fun i : S32x2x5632.Idx => (arr m c).u (i 0) ⟨6 + (i 1).val, by have h := (i 1).isLt; change _ < 2 at h; omega⟩ (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).2 main_v16 (Pipeline.mem_restRefs_of main_v16 (by decide) (by decide))).trans (end_y m c),
    ((h.1 c).2 main_v15 (Pipeline.mem_restRefs_of main_v15 (by decide) (by decide))).trans (end_u m c), h.2 c⟩)
    (θ_run_and (run_main m ρ) (unchanged m ρ))

end Cert.Ffn.Step.First
-- ==== Proof.Ffn.Step.FirstClaim.lean ====
/- The first layer's two programs of the sample group: their results are one function of the arguments. -/
module

public import proofs.«01_k».proof.Proof.Ffn.Step.First
public import proofs.«01_k».proof.Proof.Ffn.Step.Ref
public import proofs.«01_k».proof.Proof.Gen.Reference12Ideal.Run
public import proofs.«01_k».proof.Defs
public import proofs.«01_k».proof.Proof.Gen.Kernel12.Frame

@[expose] public section
set_option maxRecDepth 16384
noncomputable section
namespace Cert.Ffn.Step.First

open Idealize.ShloMosaic Idealize.ShloMosaic.TcCoe Idealize.SL.Sem

section Reference

open Cert.Reference12Ideal Cert.Reference12Ideal.Gen Cert.Reference12Ideal.Value

variable (m : (ℓ : Loc nD τ sig) → Buf (Elt Ideal) ℓ) (c : Dev nD)

/-- The arguments the reference starts with. -/
def refArr : Arr := Ref.arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg3)) (m ((c.tc : Thread nD τ).loc main_arg8))

/-- The reference's first result. -/
theorem ref_y : res_main_v48 (F := Ideal) m c = (fun i => (refArr m c).acc (i 0) (i 1) (i 2) : S32x8x1024.Idx → EReal) := by
  have h : res_main_v48 (F := Ideal) m c = Ref.block (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl
  rw [h]
  funext i
  obtain ⟨b, t, z, rfl⟩ : ∃ (b : Fin 32) (t : Fin 8) (z : Fin 1024), i = ix3 b t z := ⟨i 0, i 1, i 2, by funext a; fin_cases a <;> rfl⟩
  exact Ref.acc_row _ _ _ _ _ _ _ _ (m ((c.tc : Thread nD τ).loc main_arg3)) _ b t z

/-- The reference's second result. -/
theorem ref_u : (Ref.tail (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) : S32x2x5632.Idx → EReal)
    = fun i : S32x2x5632.Idx => (refArr m c).u (i 0) ⟨6 + (i 1).val, by have h := (i 1).isLt; change _ < 2 at h; omega⟩ (i 2) := by
  funext i
  obtain ⟨b, q, z, rfl⟩ : ∃ (b : Fin 32) (q : Fin 2) (z : Fin 5632), i = ix3 b q z := ⟨i 0, i 1, i 2, by funext a; fin_cases a <;> rfl⟩
  exact Ref.prev_row _ _ _ _ _ (m ((c.tc : Thread nD τ).loc main_arg5)) (m ((c.tc : Thread nD τ).loc main_arg6)) (m ((c.tc : Thread nD τ).loc main_arg7)) (m ((c.tc : Thread nD τ).loc main_arg3)) _ b q z

end Reference

/-- The reference's run ends quiet, its arguments unchanged. -/
theorem frame_ref : Cert.quiescent_Reference12Ideal := fun m ρ _ =>
  (θ_run Cert.Reference12Ideal.defs _ _).mono (fun r h => ⟨fun c => (h c).2.2, Idealize.ShloMosaic.sem_eq_zero_of_no_sems (by decide) r.2⟩) (Cert.Reference12Ideal.Value.run (F := Ideal) m ρ)

/-- The kernel's results are the reference's. -/
theorem algebraic : Cert.algebraic_Kernel12Ideal_Reference12Ideal := by
  intro m ρ m' ρ' _ hagree
  have e : ∀ c, refArr m' c = arr m c := fun c => by
    obtain ⟨e0, e1, e2, e3, e4, e5, e6, e7, e8⟩ := hagree c
    unfold refArr
    rw [e0, e1, e2, e3, e4, e5, e6, e7, e8]
    rfl
  refine ⟨_, _, run m ρ, ?_⟩
  refine (θ_run Cert.Reference12Ideal.defs _ _).mono (fun r h c => ?_) (Cert.Reference12Ideal.Value.run (F := Ideal) m' ρ')
  obtain ⟨r1, r2, rest⟩ := h c
  refine ⟨r1.trans ((ref_y m' c).trans ?_), r2.trans ((ref_u m' c).trans ?_), rest⟩
  · rw [e c]
  · rw [e c]

end Cert.Ffn.Step.First
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Step
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gla.Claim
public import proofs.«01_k».proof.Proof.Ffn.Last.Claim
public import proofs.«01_k».proof.Proof.Ffn.Mid.Claim
public import proofs.«01_k».proof.Proof.Proj.Qkv.Claim
public import proofs.«01_k».proof.Proof.Proj.GdnClaim
public import proofs.«01_k».proof.Proof.Proj.GlaClaim
public import proofs.«01_k».proof.Proof.Proj.Step.GdnClaim
public import proofs.«01_k».proof.Proof.Proj.Step.Qkv.Claim
public import proofs.«01_k».proof.Proof.Ffn.Step.LastClaim
public import proofs.«01_k».proof.Proof.Ffn.Step.MidClaim
public import proofs.«01_k».proof.Proof.Gla.Step.Claim
public import proofs.«01_k».proof.Proof.Ffn.Step.FirstClaim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  fun m ρ _ => Cert.Kernel.Gen.frame m ρ, fun m ρ _ => Cert.KernelIdeal.Gen.frame m ρ, Cert.Gla.frame_ref,
  fun m ρ _ => Cert.Kernel2.Gen.frame m ρ, fun m ρ _ => Cert.Kernel2Ideal.Gen.frame m ρ, Cert.Ffn.Last.frame_ref,
  fun m ρ _ => Cert.Kernel3.Gen.frame m ρ, fun m ρ _ => Cert.Kernel3Ideal.Gen.frame m ρ, Cert.Ffn.Mid.frame_ref,
  fun m ρ _ => Cert.Kernel4.Gen.frame m ρ, fun m ρ _ => Cert.Kernel4Ideal.Gen.frame m ρ, Cert.Proj.Qkv.frame_ref,
  fun m ρ _ => Cert.Kernel5.Gen.frame m ρ, fun m ρ _ => Cert.Kernel5Ideal.Gen.frame m ρ, Cert.Proj.Gdn.frame_ref,
  fun m ρ _ => Cert.Kernel6.Gen.frame m ρ, fun m ρ _ => Cert.Kernel6Ideal.Gen.frame m ρ, Cert.Proj.Gla.frame_ref,
  fun m ρ _ => Cert.Kernel7.Gen.frame m ρ, fun m ρ _ => Cert.Kernel7Ideal.Gen.frame m ρ, Cert.Proj.Step.Gdn.frame_ref,
  fun m ρ _ => Cert.Kernel8.Gen.frame m ρ, fun m ρ _ => Cert.Kernel8Ideal.Gen.frame m ρ, Cert.Proj.Step.Qkv.frame_ref,
  fun m ρ _ => Cert.Kernel9.Gen.frame m ρ, fun m ρ _ => Cert.Kernel9Ideal.Gen.frame m ρ, Cert.Ffn.Step.Last.frame_ref,
  fun m ρ _ => Cert.Kernel10.Gen.frame m ρ, fun m ρ _ => Cert.Kernel10Ideal.Gen.frame m ρ, Cert.Ffn.Step.Mid.frame_ref,
  fun m ρ _ => Cert.Kernel11.Gen.frame m ρ, fun m ρ _ => Cert.Kernel11Ideal.Gen.frame m ρ, Cert.Gla.Step.frame_ref,
  fun m ρ _ => Cert.Kernel12.Gen.frame m ρ, fun m ρ _ => Cert.Kernel12Ideal.Gen.frame m ρ, Cert.Ffn.Step.First.frame_ref,
  trivial, Cert.Gla.algebraic, trivial, Cert.Ffn.Last.algebraic, trivial, Cert.Ffn.Mid.algebraic, trivial, Cert.Proj.Qkv.algebraic, trivial, Cert.Proj.Gdn.algebraic, trivial, Cert.Proj.Gla.algebraic,
  trivial, Cert.Proj.Step.Gdn.algebraic, trivial, Cert.Proj.Step.Qkv.algebraic, trivial, Cert.Ffn.Step.Last.algebraic, trivial, Cert.Ffn.Step.Mid.algebraic, trivial, Cert.Gla.Step.algebraic, trivial, Cert.Ffn.Step.First.algebraic⟩

end Cert.Proof

end
